-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDnc (m : (ℓ : Loc Cert.KernelDnc.nD Cert.KernelDnc.τ Cert.KernelDnc.sig) → Buf (Elt Bits) ℓ) : Prop :=
  True

def Pre_KernelDncIdeal (m : (ℓ : Loc Cert.KernelDncIdeal.nD Cert.KernelDncIdeal.τ Cert.KernelDncIdeal.sig) → Buf (Elt Ideal) ℓ) : Prop :=
  True

def Pre_KernelDncIdeal_dout_finite [hPre_dout_finite : Cert.Pre_dout_finite.Facts] (m : (ℓ : Loc Cert.KernelDncIdeal.nD Cert.KernelDncIdeal.τ Cert.KernelDncIdeal.sig) → Buf (Elt Ideal) ℓ) : Prop :=
  ∀ c : Dev Cert.KernelDncIdeal.nD,
    (Cert.Pre_dout_finite.fn (F := Ideal) (m ((c.tc : Thread Cert.KernelDncIdeal.nD Cert.KernelDncIdeal.τ).loc Cert.KernelDncIdeal.main_arg0)) (m ((c.tc : Thread Cert.KernelDncIdeal.nD Cert.KernelDncIdeal.τ).loc Cert.KernelDncIdeal.main_arg1)) (m ((c.tc : Thread Cert.KernelDncIdeal.nD Cert.KernelDncIdeal.τ).loc Cert.KernelDncIdeal.main_arg2))) = (fun _ => 1#1)

def Pre_ReferenceDncIdeal (m : (ℓ : Loc Cert.ReferenceDncIdeal.nD Cert.ReferenceDncIdeal.τ Cert.ReferenceDncIdeal.sig) → Buf (Elt Ideal) ℓ) : Prop :=
  True

def Pre_ReferenceDncIdeal_dout_finite [hPre_dout_finite : Cert.Pre_dout_finite.Facts] (m : (ℓ : Loc Cert.ReferenceDncIdeal.nD Cert.ReferenceDncIdeal.τ Cert.ReferenceDncIdeal.sig) → Buf (Elt Ideal) ℓ) : Prop :=
  ∀ c : Dev Cert.ReferenceDncIdeal.nD,
    (Cert.Pre_dout_finite.fn (F := Ideal) (m ((c.tc : Thread Cert.ReferenceDncIdeal.nD Cert.ReferenceDncIdeal.τ).loc Cert.ReferenceDncIdeal.main_arg0)) (m ((c.tc : Thread Cert.ReferenceDncIdeal.nD Cert.ReferenceDncIdeal.τ).loc Cert.ReferenceDncIdeal.main_arg1)) (m ((c.tc : Thread Cert.ReferenceDncIdeal.nD Cert.ReferenceDncIdeal.τ).loc Cert.ReferenceDncIdeal.main_arg2))) = (fun _ => 1#1)

def Pre_KernelPw (m : (ℓ : Loc Cert.KernelPw.nD Cert.KernelPw.τ Cert.KernelPw.sig) → Buf (Elt Bits) ℓ) : Prop :=
  True

def Pre_KernelPwIdeal (m : (ℓ : Loc Cert.KernelPwIdeal.nD Cert.KernelPwIdeal.τ Cert.KernelPwIdeal.sig) → Buf (Elt Ideal) ℓ) : Prop :=
  True

def Pre_ReferencePwIdeal (m : (ℓ : Loc Cert.ReferencePwIdeal.nD Cert.ReferencePwIdeal.τ Cert.ReferencePwIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))) = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_attn_finite [hPre_attn_finite : Cert.Pre_attn_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_attn_finite [hPre_attn_finite : Cert.Pre_attn_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))) = (fun _ => 1#1)

def Pre_KernelCv (m : (ℓ : Loc Cert.KernelCv.nD Cert.KernelCv.τ Cert.KernelCv.sig) → Buf (Elt Bits) ℓ) : Prop :=
  True

def Pre_KernelCvIdeal (m : (ℓ : Loc Cert.KernelCvIdeal.nD Cert.KernelCvIdeal.τ Cert.KernelCvIdeal.sig) → Buf (Elt Ideal) ℓ) : Prop :=
  True

def Pre_ReferenceCvIdeal (m : (ℓ : Loc Cert.ReferenceCvIdeal.nD Cert.ReferenceCvIdeal.τ Cert.ReferenceCvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelDnc [hKernelDnc : Cert.KernelDnc.Facts] : Prop :=
  ∀ (m : (ℓ : Loc Cert.KernelDnc.nD Cert.KernelDnc.τ Cert.KernelDnc.sig) → Buf (Elt Bits) ℓ) (g : Dev Cert.KernelDnc.nD → PrngReg), Pre_KernelDnc m →
    θ_run (Cert.KernelDnc.defs (F := Bits)) (onTc (τ := Cert.KernelDnc.τ) (Cert.KernelDnc.main (F := Bits))) ⟨m, fun _ => 0, g⟩ (fun r => (∀ c : Dev Cert.KernelDnc.nD,
      r.2.mem ((c.tc : Thread Cert.KernelDnc.nD Cert.KernelDnc.τ).loc Cert.KernelDnc.main_arg0) = m ((c.tc : Thread Cert.KernelDnc.nD Cert.KernelDnc.τ).loc Cert.KernelDnc.main_arg0)
      ∧ r.2.mem ((c.tc : Thread Cert.KernelDnc.nD Cert.KernelDnc.τ).loc Cert.KernelDnc.main_arg1) = m ((c.tc : Thread Cert.KernelDnc.nD Cert.KernelDnc.τ).loc Cert.KernelDnc.main_arg1)
      ∧ r.2.mem ((c.tc : Thread Cert.KernelDnc.nD Cert.KernelDnc.τ).loc Cert.KernelDnc.main_arg2) = m ((c.tc : Thread Cert.KernelDnc.nD Cert.KernelDnc.τ).loc Cert.KernelDnc.main_arg2))
      ∧ r.2.sem = fun _ => 0)

def quiescent_KernelDncIdeal [hKernelDncIdeal : Cert.KernelDncIdeal.Facts] : Prop :=
  ∀ (m : (ℓ : Loc Cert.KernelDncIdeal.nD Cert.KernelDncIdeal.τ Cert.KernelDncIdeal.sig) → Buf (Elt Ideal) ℓ) (g : Dev Cert.KernelDncIdeal.nD → PrngReg), Pre_KernelDncIdeal m →
    θ_run (Cert.KernelDncIdeal.defs (F := Ideal)) (onTc (τ := Cert.KernelDncIdeal.τ) (Cert.KernelDncIdeal.main (F := Ideal))) ⟨m, fun _ => 0, g⟩ (fun r => (∀ c : Dev Cert.KernelDncIdeal.nD,
      r.2.mem ((c.tc : Thread Cert.KernelDncIdeal.nD Cert.KernelDncIdeal.τ).loc Cert.KernelDncIdeal.main_arg0) = m ((c.tc : Thread Cert.KernelDncIdeal.nD Cert.KernelDncIdeal.τ).loc Cert.KernelDncIdeal.main_arg0)
      ∧ r.2.mem ((c.tc : Thread Cert.KernelDncIdeal.nD Cert.KernelDncIdeal.τ).loc Cert.KernelDncIdeal.main_arg1) = m ((c.tc : Thread Cert.KernelDncIdeal.nD Cert.KernelDncIdeal.τ).loc Cert.KernelDncIdeal.main_arg1)
      ∧ r.2.mem ((c.tc : Thread Cert.KernelDncIdeal.nD Cert.KernelDncIdeal.τ).loc Cert.KernelDncIdeal.main_arg2) = m ((c.tc : Thread Cert.KernelDncIdeal.nD Cert.KernelDncIdeal.τ).loc Cert.KernelDncIdeal.main_arg2))
      ∧ r.2.sem = fun _ => 0)

def quiescent_KernelDncIdeal_pre_dout_finite [hKernelDncIdeal : Cert.KernelDncIdeal.Facts] [hPre_dout_finite : Cert.Pre_dout_finite.Facts] : Prop :=
  ∀ (m : (ℓ : Loc Cert.KernelDncIdeal.nD Cert.KernelDncIdeal.τ Cert.KernelDncIdeal.sig) → Buf (Elt Ideal) ℓ) (g : Dev Cert.KernelDncIdeal.nD → PrngReg), Pre_KernelDncIdeal_dout_finite m →
    θ_run (Cert.KernelDncIdeal.defs (F := Ideal)) (onTc (τ := Cert.KernelDncIdeal.τ) (Cert.KernelDncIdeal.main (F := Ideal))) ⟨m, fun _ => 0, g⟩ (fun r => (∀ c : Dev Cert.KernelDncIdeal.nD,
      r.2.mem ((c.tc : Thread Cert.KernelDncIdeal.nD Cert.KernelDncIdeal.τ).loc Cert.KernelDncIdeal.main_arg0) = m ((c.tc : Thread Cert.KernelDncIdeal.nD Cert.KernelDncIdeal.τ).loc Cert.KernelDncIdeal.main_arg0)
      ∧ r.2.mem ((c.tc : Thread Cert.KernelDncIdeal.nD Cert.KernelDncIdeal.τ).loc Cert.KernelDncIdeal.main_arg1) = m ((c.tc : Thread Cert.KernelDncIdeal.nD Cert.KernelDncIdeal.τ).loc Cert.KernelDncIdeal.main_arg1)
      ∧ r.2.mem ((c.tc : Thread Cert.KernelDncIdeal.nD Cert.KernelDncIdeal.τ).loc Cert.KernelDncIdeal.main_arg2) = m ((c.tc : Thread Cert.KernelDncIdeal.nD Cert.KernelDncIdeal.τ).loc Cert.KernelDncIdeal.main_arg2))
      ∧ r.2.sem = fun _ => 0)

def quiescent_ReferenceDncIdeal [hReferenceDncIdeal : Cert.ReferenceDncIdeal.Facts] : Prop :=
  ∀ (m : (ℓ : Loc Cert.ReferenceDncIdeal.nD Cert.ReferenceDncIdeal.τ Cert.ReferenceDncIdeal.sig) → Buf (Elt Ideal) ℓ) (g : Dev Cert.ReferenceDncIdeal.nD → PrngReg), Pre_ReferenceDncIdeal m →
    θ_run (Cert.ReferenceDncIdeal.defs (F := Ideal)) (onTc (τ := Cert.ReferenceDncIdeal.τ) (Cert.ReferenceDncIdeal.main (F := Ideal))) ⟨m, fun _ => 0, g⟩ (fun r => (∀ c : Dev Cert.ReferenceDncIdeal.nD,
      r.2.mem ((c.tc : Thread Cert.ReferenceDncIdeal.nD Cert.ReferenceDncIdeal.τ).loc Cert.ReferenceDncIdeal.main_arg0) = m ((c.tc : Thread Cert.ReferenceDncIdeal.nD Cert.ReferenceDncIdeal.τ).loc Cert.ReferenceDncIdeal.main_arg0)
      ∧ r.2.mem ((c.tc : Thread Cert.ReferenceDncIdeal.nD Cert.ReferenceDncIdeal.τ).loc Cert.ReferenceDncIdeal.main_arg1) = m ((c.tc : Thread Cert.ReferenceDncIdeal.nD Cert.ReferenceDncIdeal.τ).loc Cert.ReferenceDncIdeal.main_arg1)
      ∧ r.2.mem ((c.tc : Thread Cert.ReferenceDncIdeal.nD Cert.ReferenceDncIdeal.τ).loc Cert.ReferenceDncIdeal.main_arg2) = m ((c.tc : Thread Cert.ReferenceDncIdeal.nD Cert.ReferenceDncIdeal.τ).loc Cert.ReferenceDncIdeal.main_arg2))
      ∧ r.2.sem = fun _ => 0)

def quiescent_ReferenceDncIdeal_pre_dout_finite [hReferenceDncIdeal : Cert.ReferenceDncIdeal.Facts] [hPre_dout_finite : Cert.Pre_dout_finite.Facts] : Prop :=
  ∀ (m : (ℓ : Loc Cert.ReferenceDncIdeal.nD Cert.ReferenceDncIdeal.τ Cert.ReferenceDncIdeal.sig) → Buf (Elt Ideal) ℓ) (g : Dev Cert.ReferenceDncIdeal.nD → PrngReg), Pre_ReferenceDncIdeal_dout_finite m →
    θ_run (Cert.ReferenceDncIdeal.defs (F := Ideal)) (onTc (τ := Cert.ReferenceDncIdeal.τ) (Cert.ReferenceDncIdeal.main (F := Ideal))) ⟨m, fun _ => 0, g⟩ (fun r => (∀ c : Dev Cert.ReferenceDncIdeal.nD,
      r.2.mem ((c.tc : Thread Cert.ReferenceDncIdeal.nD Cert.ReferenceDncIdeal.τ).loc Cert.ReferenceDncIdeal.main_arg0) = m ((c.tc : Thread Cert.ReferenceDncIdeal.nD Cert.ReferenceDncIdeal.τ).loc Cert.ReferenceDncIdeal.main_arg0)
      ∧ r.2.mem ((c.tc : Thread Cert.ReferenceDncIdeal.nD Cert.ReferenceDncIdeal.τ).loc Cert.ReferenceDncIdeal.main_arg1) = m ((c.tc : Thread Cert.ReferenceDncIdeal.nD Cert.ReferenceDncIdeal.τ).loc Cert.ReferenceDncIdeal.main_arg1)
      ∧ r.2.mem ((c.tc : Thread Cert.ReferenceDncIdeal.nD Cert.ReferenceDncIdeal.τ).loc Cert.ReferenceDncIdeal.main_arg2) = m ((c.tc : Thread Cert.ReferenceDncIdeal.nD Cert.ReferenceDncIdeal.τ).loc Cert.ReferenceDncIdeal.main_arg2))
      ∧ r.2.sem = fun _ => 0)

def quiescent_KernelPw [hKernelPw : Cert.KernelPw.Facts] : Prop :=
  ∀ (m : (ℓ : Loc Cert.KernelPw.nD Cert.KernelPw.τ Cert.KernelPw.sig) → Buf (Elt Bits) ℓ) (g : Dev Cert.KernelPw.nD → PrngReg), Pre_KernelPw m →
    θ_run (Cert.KernelPw.defs (F := Bits)) (onTc (τ := Cert.KernelPw.τ) (Cert.KernelPw.main (F := Bits))) ⟨m, fun _ => 0, g⟩ (fun r => (∀ c : Dev Cert.KernelPw.nD,
      r.2.mem ((c.tc : Thread Cert.KernelPw.nD Cert.KernelPw.τ).loc Cert.KernelPw.main_arg0) = m ((c.tc : Thread Cert.KernelPw.nD Cert.KernelPw.τ).loc Cert.KernelPw.main_arg0)
      ∧ r.2.mem ((c.tc : Thread Cert.KernelPw.nD Cert.KernelPw.τ).loc Cert.KernelPw.main_arg1) = m ((c.tc : Thread Cert.KernelPw.nD Cert.KernelPw.τ).loc Cert.KernelPw.main_arg1)
      ∧ r.2.mem ((c.tc : Thread Cert.KernelPw.nD Cert.KernelPw.τ).loc Cert.KernelPw.main_arg2) = m ((c.tc : Thread Cert.KernelPw.nD Cert.KernelPw.τ).loc Cert.KernelPw.main_arg2)
      ∧ r.2.mem ((c.tc : Thread Cert.KernelPw.nD Cert.KernelPw.τ).loc Cert.KernelPw.main_arg3) = m ((c.tc : Thread Cert.KernelPw.nD Cert.KernelPw.τ).loc Cert.KernelPw.main_arg3)
      ∧ r.2.mem ((c.tc : Thread Cert.KernelPw.nD Cert.KernelPw.τ).loc Cert.KernelPw.main_arg4) = m ((c.tc : Thread Cert.KernelPw.nD Cert.KernelPw.τ).loc Cert.KernelPw.main_arg4)
      ∧ r.2.mem ((c.tc : Thread Cert.KernelPw.nD Cert.KernelPw.τ).loc Cert.KernelPw.main_arg5) = m ((c.tc : Thread Cert.KernelPw.nD Cert.KernelPw.τ).loc Cert.KernelPw.main_arg5))
      ∧ r.2.sem = fun _ => 0)

def quiescent_KernelPwIdeal [hKernelPwIdeal : Cert.KernelPwIdeal.Facts] : Prop :=
  ∀ (m : (ℓ : Loc Cert.KernelPwIdeal.nD Cert.KernelPwIdeal.τ Cert.KernelPwIdeal.sig) → Buf (Elt Ideal) ℓ) (g : Dev Cert.KernelPwIdeal.nD → PrngReg), Pre_KernelPwIdeal m →
    θ_run (Cert.KernelPwIdeal.defs (F := Ideal)) (onTc (τ := Cert.KernelPwIdeal.τ) (Cert.KernelPwIdeal.main (F := Ideal))) ⟨m, fun _ => 0, g⟩ (fun r => (∀ c : Dev Cert.KernelPwIdeal.nD,
      r.2.mem ((c.tc : Thread Cert.KernelPwIdeal.nD Cert.KernelPwIdeal.τ).loc Cert.KernelPwIdeal.main_arg0) = m ((c.tc : Thread Cert.KernelPwIdeal.nD Cert.KernelPwIdeal.τ).loc Cert.KernelPwIdeal.main_arg0)
      ∧ r.2.mem ((c.tc : Thread Cert.KernelPwIdeal.nD Cert.KernelPwIdeal.τ).loc Cert.KernelPwIdeal.main_arg1) = m ((c.tc : Thread Cert.KernelPwIdeal.nD Cert.KernelPwIdeal.τ).loc Cert.KernelPwIdeal.main_arg1)
      ∧ r.2.mem ((c.tc : Thread Cert.KernelPwIdeal.nD Cert.KernelPwIdeal.τ).loc Cert.KernelPwIdeal.main_arg2) = m ((c.tc : Thread Cert.KernelPwIdeal.nD Cert.KernelPwIdeal.τ).loc Cert.KernelPwIdeal.main_arg2)
      ∧ r.2.mem ((c.tc : Thread Cert.KernelPwIdeal.nD Cert.KernelPwIdeal.τ).loc Cert.KernelPwIdeal.main_arg3) = m ((c.tc : Thread Cert.KernelPwIdeal.nD Cert.KernelPwIdeal.τ).loc Cert.KernelPwIdeal.main_arg3)
      ∧ r.2.mem ((c.tc : Thread Cert.KernelPwIdeal.nD Cert.KernelPwIdeal.τ).loc Cert.KernelPwIdeal.main_arg4) = m ((c.tc : Thread Cert.KernelPwIdeal.nD Cert.KernelPwIdeal.τ).loc Cert.KernelPwIdeal.main_arg4)
      ∧ r.2.mem ((c.tc : Thread Cert.KernelPwIdeal.nD Cert.KernelPwIdeal.τ).loc Cert.KernelPwIdeal.main_arg5) = m ((c.tc : Thread Cert.KernelPwIdeal.nD Cert.KernelPwIdeal.τ).loc Cert.KernelPwIdeal.main_arg5))
      ∧ r.2.sem = fun _ => 0)

def quiescent_ReferencePwIdeal [hReferencePwIdeal : Cert.ReferencePwIdeal.Facts] : Prop :=
  ∀ (m : (ℓ : Loc Cert.ReferencePwIdeal.nD Cert.ReferencePwIdeal.τ Cert.ReferencePwIdeal.sig) → Buf (Elt Ideal) ℓ) (g : Dev Cert.ReferencePwIdeal.nD → PrngReg), Pre_ReferencePwIdeal m →
    θ_run (Cert.ReferencePwIdeal.defs (F := Ideal)) (onTc (τ := Cert.ReferencePwIdeal.τ) (Cert.ReferencePwIdeal.main (F := Ideal))) ⟨m, fun _ => 0, g⟩ (fun r => (∀ c : Dev Cert.ReferencePwIdeal.nD,
      r.2.mem ((c.tc : Thread Cert.ReferencePwIdeal.nD Cert.ReferencePwIdeal.τ).loc Cert.ReferencePwIdeal.main_arg0) = m ((c.tc : Thread Cert.ReferencePwIdeal.nD Cert.ReferencePwIdeal.τ).loc Cert.ReferencePwIdeal.main_arg0)
      ∧ r.2.mem ((c.tc : Thread Cert.ReferencePwIdeal.nD Cert.ReferencePwIdeal.τ).loc Cert.ReferencePwIdeal.main_arg1) = m ((c.tc : Thread Cert.ReferencePwIdeal.nD Cert.ReferencePwIdeal.τ).loc Cert.ReferencePwIdeal.main_arg1)
      ∧ r.2.mem ((c.tc : Thread Cert.ReferencePwIdeal.nD Cert.ReferencePwIdeal.τ).loc Cert.ReferencePwIdeal.main_arg2) = m ((c.tc : Thread Cert.ReferencePwIdeal.nD Cert.ReferencePwIdeal.τ).loc Cert.ReferencePwIdeal.main_arg2)
      ∧ r.2.mem ((c.tc : Thread Cert.ReferencePwIdeal.nD Cert.ReferencePwIdeal.τ).loc Cert.ReferencePwIdeal.main_arg3) = m ((c.tc : Thread Cert.ReferencePwIdeal.nD Cert.ReferencePwIdeal.τ).loc Cert.ReferencePwIdeal.main_arg3)
      ∧ r.2.mem ((c.tc : Thread Cert.ReferencePwIdeal.nD Cert.ReferencePwIdeal.τ).loc Cert.ReferencePwIdeal.main_arg4) = m ((c.tc : Thread Cert.ReferencePwIdeal.nD Cert.ReferencePwIdeal.τ).loc Cert.ReferencePwIdeal.main_arg4)
      ∧ r.2.mem ((c.tc : Thread Cert.ReferencePwIdeal.nD Cert.ReferencePwIdeal.τ).loc Cert.ReferencePwIdeal.main_arg5) = m ((c.tc : Thread Cert.ReferencePwIdeal.nD Cert.ReferencePwIdeal.τ).loc Cert.ReferencePwIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelAttnIdeal_pre_attn_finite [hKernelAttnIdeal : Cert.KernelAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_attn_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_ReferenceAttnIdeal_pre_attn_finite [hReferenceAttnIdeal : Cert.ReferenceAttnIdeal.Facts] [hPre_attn_finite : Cert.Pre_attn_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_attn_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelCv [hKernelCv : Cert.KernelCv.Facts] : Prop :=
  ∀ (m : (ℓ : Loc Cert.KernelCv.nD Cert.KernelCv.τ Cert.KernelCv.sig) → Buf (Elt Bits) ℓ) (g : Dev Cert.KernelCv.nD → PrngReg), Pre_KernelCv m →
    θ_run (Cert.KernelCv.defs (F := Bits)) (onTc (τ := Cert.KernelCv.τ) (Cert.KernelCv.main (F := Bits))) ⟨m, fun _ => 0, g⟩ (fun r => (∀ c : Dev Cert.KernelCv.nD,
      r.2.mem ((c.tc : Thread Cert.KernelCv.nD Cert.KernelCv.τ).loc Cert.KernelCv.main_arg0) = m ((c.tc : Thread Cert.KernelCv.nD Cert.KernelCv.τ).loc Cert.KernelCv.main_arg0)
      ∧ r.2.mem ((c.tc : Thread Cert.KernelCv.nD Cert.KernelCv.τ).loc Cert.KernelCv.main_arg1) = m ((c.tc : Thread Cert.KernelCv.nD Cert.KernelCv.τ).loc Cert.KernelCv.main_arg1)
      ∧ r.2.mem ((c.tc : Thread Cert.KernelCv.nD Cert.KernelCv.τ).loc Cert.KernelCv.main_arg2) = m ((c.tc : Thread Cert.KernelCv.nD Cert.KernelCv.τ).loc Cert.KernelCv.main_arg2)
      ∧ r.2.mem ((c.tc : Thread Cert.KernelCv.nD Cert.KernelCv.τ).loc Cert.KernelCv.main_arg3) = m ((c.tc : Thread Cert.KernelCv.nD Cert.KernelCv.τ).loc Cert.KernelCv.main_arg3)
      ∧ r.2.mem ((c.tc : Thread Cert.KernelCv.nD Cert.KernelCv.τ).loc Cert.KernelCv.main_arg4) = m ((c.tc : Thread Cert.KernelCv.nD Cert.KernelCv.τ).loc Cert.KernelCv.main_arg4)
      ∧ r.2.mem ((c.tc : Thread Cert.KernelCv.nD Cert.KernelCv.τ).loc Cert.KernelCv.main_arg5) = m ((c.tc : Thread Cert.KernelCv.nD Cert.KernelCv.τ).loc Cert.KernelCv.main_arg5))
      ∧ r.2.sem = fun _ => 0)

def quiescent_KernelCvIdeal [hKernelCvIdeal : Cert.KernelCvIdeal.Facts] : Prop :=
  ∀ (m : (ℓ : Loc Cert.KernelCvIdeal.nD Cert.KernelCvIdeal.τ Cert.KernelCvIdeal.sig) → Buf (Elt Ideal) ℓ) (g : Dev Cert.KernelCvIdeal.nD → PrngReg), Pre_KernelCvIdeal m →
    θ_run (Cert.KernelCvIdeal.defs (F := Ideal)) (onTc (τ := Cert.KernelCvIdeal.τ) (Cert.KernelCvIdeal.main (F := Ideal))) ⟨m, fun _ => 0, g⟩ (fun r => (∀ c : Dev Cert.KernelCvIdeal.nD,
      r.2.mem ((c.tc : Thread Cert.KernelCvIdeal.nD Cert.KernelCvIdeal.τ).loc Cert.KernelCvIdeal.main_arg0) = m ((c.tc : Thread Cert.KernelCvIdeal.nD Cert.KernelCvIdeal.τ).loc Cert.KernelCvIdeal.main_arg0)
      ∧ r.2.mem ((c.tc : Thread Cert.KernelCvIdeal.nD Cert.KernelCvIdeal.τ).loc Cert.KernelCvIdeal.main_arg1) = m ((c.tc : Thread Cert.KernelCvIdeal.nD Cert.KernelCvIdeal.τ).loc Cert.KernelCvIdeal.main_arg1)
      ∧ r.2.mem ((c.tc : Thread Cert.KernelCvIdeal.nD Cert.KernelCvIdeal.τ).loc Cert.KernelCvIdeal.main_arg2) = m ((c.tc : Thread Cert.KernelCvIdeal.nD Cert.KernelCvIdeal.τ).loc Cert.KernelCvIdeal.main_arg2)
      ∧ r.2.mem ((c.tc : Thread Cert.KernelCvIdeal.nD Cert.KernelCvIdeal.τ).loc Cert.KernelCvIdeal.main_arg3) = m ((c.tc : Thread Cert.KernelCvIdeal.nD Cert.KernelCvIdeal.τ).loc Cert.KernelCvIdeal.main_arg3)
      ∧ r.2.mem ((c.tc : Thread Cert.KernelCvIdeal.nD Cert.KernelCvIdeal.τ).loc Cert.KernelCvIdeal.main_arg4) = m ((c.tc : Thread Cert.KernelCvIdeal.nD Cert.KernelCvIdeal.τ).loc Cert.KernelCvIdeal.main_arg4)
      ∧ r.2.mem ((c.tc : Thread Cert.KernelCvIdeal.nD Cert.KernelCvIdeal.τ).loc Cert.KernelCvIdeal.main_arg5) = m ((c.tc : Thread Cert.KernelCvIdeal.nD Cert.KernelCvIdeal.τ).loc Cert.KernelCvIdeal.main_arg5))
      ∧ r.2.sem = fun _ => 0)

def quiescent_ReferenceCvIdeal [hReferenceCvIdeal : Cert.ReferenceCvIdeal.Facts] : Prop :=
  ∀ (m : (ℓ : Loc Cert.ReferenceCvIdeal.nD Cert.ReferenceCvIdeal.τ Cert.ReferenceCvIdeal.sig) → Buf (Elt Ideal) ℓ) (g : Dev Cert.ReferenceCvIdeal.nD → PrngReg), Pre_ReferenceCvIdeal m →
    θ_run (Cert.ReferenceCvIdeal.defs (F := Ideal)) (onTc (τ := Cert.ReferenceCvIdeal.τ) (Cert.ReferenceCvIdeal.main (F := Ideal))) ⟨m, fun _ => 0, g⟩ (fun r => (∀ c : Dev Cert.ReferenceCvIdeal.nD,
      r.2.mem ((c.tc : Thread Cert.ReferenceCvIdeal.nD Cert.ReferenceCvIdeal.τ).loc Cert.ReferenceCvIdeal.main_arg0) = m ((c.tc : Thread Cert.ReferenceCvIdeal.nD Cert.ReferenceCvIdeal.τ).loc Cert.ReferenceCvIdeal.main_arg0)
      ∧ r.2.mem ((c.tc : Thread Cert.ReferenceCvIdeal.nD Cert.ReferenceCvIdeal.τ).loc Cert.ReferenceCvIdeal.main_arg1) = m ((c.tc : Thread Cert.ReferenceCvIdeal.nD Cert.ReferenceCvIdeal.τ).loc Cert.ReferenceCvIdeal.main_arg1)
      ∧ r.2.mem ((c.tc : Thread Cert.ReferenceCvIdeal.nD Cert.ReferenceCvIdeal.τ).loc Cert.ReferenceCvIdeal.main_arg2) = m ((c.tc : Thread Cert.ReferenceCvIdeal.nD Cert.ReferenceCvIdeal.τ).loc Cert.ReferenceCvIdeal.main_arg2)
      ∧ r.2.mem ((c.tc : Thread Cert.ReferenceCvIdeal.nD Cert.ReferenceCvIdeal.τ).loc Cert.ReferenceCvIdeal.main_arg3) = m ((c.tc : Thread Cert.ReferenceCvIdeal.nD Cert.ReferenceCvIdeal.τ).loc Cert.ReferenceCvIdeal.main_arg3)
      ∧ r.2.mem ((c.tc : Thread Cert.ReferenceCvIdeal.nD Cert.ReferenceCvIdeal.τ).loc Cert.ReferenceCvIdeal.main_arg4) = m ((c.tc : Thread Cert.ReferenceCvIdeal.nD Cert.ReferenceCvIdeal.τ).loc Cert.ReferenceCvIdeal.main_arg4)
      ∧ r.2.mem ((c.tc : Thread Cert.ReferenceCvIdeal.nD Cert.ReferenceCvIdeal.τ).loc Cert.ReferenceCvIdeal.main_arg5) = m ((c.tc : Thread Cert.ReferenceCvIdeal.nD Cert.ReferenceCvIdeal.τ).loc Cert.ReferenceCvIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelDnc_KernelDncIdeal : Prop :=
  True

def algebraic_KernelDncIdeal_ReferenceDncIdeal_pre_dout_finite [hKernelDncIdeal : Cert.KernelDncIdeal.Facts] [hReferenceDncIdeal : Cert.ReferenceDncIdeal.Facts] [hPre_dout_finite : Cert.Pre_dout_finite.Facts] : Prop :=
  ∀ (m : (ℓ : Loc Cert.KernelDncIdeal.nD Cert.KernelDncIdeal.τ Cert.KernelDncIdeal.sig) → Buf (Elt Ideal) ℓ) (g : Dev Cert.KernelDncIdeal.nD → PrngReg)
    (m' : (ℓ : Loc Cert.ReferenceDncIdeal.nD Cert.ReferenceDncIdeal.τ Cert.ReferenceDncIdeal.sig) → Buf (Elt Ideal) ℓ) (g' : Dev Cert.ReferenceDncIdeal.nD → PrngReg), Pre_KernelDncIdeal_dout_finite m →
    (∀ c : Dev Cert.KernelDncIdeal.nD,
      m' ((c.tc : Thread Cert.ReferenceDncIdeal.nD Cert.ReferenceDncIdeal.τ).loc Cert.ReferenceDncIdeal.main_arg0) = m ((c.tc : Thread Cert.KernelDncIdeal.nD Cert.KernelDncIdeal.τ).loc Cert.KernelDncIdeal.main_arg0)
      ∧ m' ((c.tc : Thread Cert.ReferenceDncIdeal.nD Cert.ReferenceDncIdeal.τ).loc Cert.ReferenceDncIdeal.main_arg1) = m ((c.tc : Thread Cert.KernelDncIdeal.nD Cert.KernelDncIdeal.τ).loc Cert.KernelDncIdeal.main_arg1)
      ∧ m' ((c.tc : Thread Cert.ReferenceDncIdeal.nD Cert.ReferenceDncIdeal.τ).loc Cert.ReferenceDncIdeal.main_arg2) = m ((c.tc : Thread Cert.KernelDncIdeal.nD Cert.KernelDncIdeal.τ).loc Cert.KernelDncIdeal.main_arg2)) →
    ∃ (v0 : (c : Dev Cert.KernelDncIdeal.nD) → Buf (Elt Ideal) ((c.tc : Thread Cert.KernelDncIdeal.nD Cert.KernelDncIdeal.τ).loc Cert.KernelDncIdeal.main_v1_0)) (v1 : (c : Dev Cert.KernelDncIdeal.nD) → Buf (Elt Ideal) ((c.tc : Thread Cert.KernelDncIdeal.nD Cert.KernelDncIdeal.τ).loc Cert.KernelDncIdeal.main_v1_1)),
      θ_run (Cert.KernelDncIdeal.defs (F := Ideal)) (onTc (τ := Cert.KernelDncIdeal.τ) (Cert.KernelDncIdeal.main (F := Ideal))) ⟨m, fun _ => 0, g⟩ (fun r => ∀ c : Dev Cert.KernelDncIdeal.nD,
          r.2.mem ((c.tc : Thread Cert.KernelDncIdeal.nD Cert.KernelDncIdeal.τ).loc Cert.KernelDncIdeal.main_v1_0) = v0 c
          ∧ r.2.mem ((c.tc : Thread Cert.KernelDncIdeal.nD Cert.KernelDncIdeal.τ).loc Cert.KernelDncIdeal.main_v1_1) = v1 c
          ∧ r.2.mem ((c.tc : Thread Cert.KernelDncIdeal.nD Cert.KernelDncIdeal.τ).loc Cert.KernelDncIdeal.main_arg0) = m ((c.tc : Thread Cert.KernelDncIdeal.nD Cert.KernelDncIdeal.τ).loc Cert.KernelDncIdeal.main_arg0)
          ∧ r.2.mem ((c.tc : Thread Cert.KernelDncIdeal.nD Cert.KernelDncIdeal.τ).loc Cert.KernelDncIdeal.main_arg1) = m ((c.tc : Thread Cert.KernelDncIdeal.nD Cert.KernelDncIdeal.τ).loc Cert.KernelDncIdeal.main_arg1)
          ∧ r.2.mem ((c.tc : Thread Cert.KernelDncIdeal.nD Cert.KernelDncIdeal.τ).loc Cert.KernelDncIdeal.main_arg2) = m ((c.tc : Thread Cert.KernelDncIdeal.nD Cert.KernelDncIdeal.τ).loc Cert.KernelDncIdeal.main_arg2))
      ∧ θ_run (Cert.ReferenceDncIdeal.defs (F := Ideal)) (onTc (τ := Cert.ReferenceDncIdeal.τ) (Cert.ReferenceDncIdeal.main (F := Ideal))) ⟨m', fun _ => 0, g'⟩ (fun r => ∀ c : Dev Cert.ReferenceDncIdeal.nD,
          r.2.mem ((c.tc : Thread Cert.ReferenceDncIdeal.nD Cert.ReferenceDncIdeal.τ).loc Cert.ReferenceDncIdeal.main_v78) = v0 c
          ∧ r.2.mem ((c.tc : Thread Cert.ReferenceDncIdeal.nD Cert.ReferenceDncIdeal.τ).loc Cert.ReferenceDncIdeal.main_v76) = v1 c
          ∧ r.2.mem ((c.tc : Thread Cert.ReferenceDncIdeal.nD Cert.ReferenceDncIdeal.τ).loc Cert.ReferenceDncIdeal.main_arg0) = m' ((c.tc : Thread Cert.ReferenceDncIdeal.nD Cert.ReferenceDncIdeal.τ).loc Cert.ReferenceDncIdeal.main_arg0)
          ∧ r.2.mem ((c.tc : Thread Cert.ReferenceDncIdeal.nD Cert.ReferenceDncIdeal.τ).loc Cert.ReferenceDncIdeal.main_arg1) = m' ((c.tc : Thread Cert.ReferenceDncIdeal.nD Cert.ReferenceDncIdeal.τ).loc Cert.ReferenceDncIdeal.main_arg1)
          ∧ r.2.mem ((c.tc : Thread Cert.ReferenceDncIdeal.nD Cert.ReferenceDncIdeal.τ).loc Cert.ReferenceDncIdeal.main_arg2) = m' ((c.tc : Thread Cert.ReferenceDncIdeal.nD Cert.ReferenceDncIdeal.τ).loc Cert.ReferenceDncIdeal.main_arg2))

def preserves_KernelPw_KernelPwIdeal : Prop :=
  True

def algebraic_KernelPwIdeal_ReferencePwIdeal [hKernelPwIdeal : Cert.KernelPwIdeal.Facts] [hReferencePwIdeal : Cert.ReferencePwIdeal.Facts] : Prop :=
  ∀ (m : (ℓ : Loc Cert.KernelPwIdeal.nD Cert.KernelPwIdeal.τ Cert.KernelPwIdeal.sig) → Buf (Elt Ideal) ℓ) (g : Dev Cert.KernelPwIdeal.nD → PrngReg)
    (m' : (ℓ : Loc Cert.ReferencePwIdeal.nD Cert.ReferencePwIdeal.τ Cert.ReferencePwIdeal.sig) → Buf (Elt Ideal) ℓ) (g' : Dev Cert.ReferencePwIdeal.nD → PrngReg), Pre_KernelPwIdeal m →
    (∀ c : Dev Cert.KernelPwIdeal.nD,
      m' ((c.tc : Thread Cert.ReferencePwIdeal.nD Cert.ReferencePwIdeal.τ).loc Cert.ReferencePwIdeal.main_arg0) = m ((c.tc : Thread Cert.KernelPwIdeal.nD Cert.KernelPwIdeal.τ).loc Cert.KernelPwIdeal.main_arg0)
      ∧ m' ((c.tc : Thread Cert.ReferencePwIdeal.nD Cert.ReferencePwIdeal.τ).loc Cert.ReferencePwIdeal.main_arg1) = m ((c.tc : Thread Cert.KernelPwIdeal.nD Cert.KernelPwIdeal.τ).loc Cert.KernelPwIdeal.main_arg1)
      ∧ m' ((c.tc : Thread Cert.ReferencePwIdeal.nD Cert.ReferencePwIdeal.τ).loc Cert.ReferencePwIdeal.main_arg2) = m ((c.tc : Thread Cert.KernelPwIdeal.nD Cert.KernelPwIdeal.τ).loc Cert.KernelPwIdeal.main_arg2)
      ∧ m' ((c.tc : Thread Cert.ReferencePwIdeal.nD Cert.ReferencePwIdeal.τ).loc Cert.ReferencePwIdeal.main_arg3) = m ((c.tc : Thread Cert.KernelPwIdeal.nD Cert.KernelPwIdeal.τ).loc Cert.KernelPwIdeal.main_arg3)
      ∧ m' ((c.tc : Thread Cert.ReferencePwIdeal.nD Cert.ReferencePwIdeal.τ).loc Cert.ReferencePwIdeal.main_arg4) = m ((c.tc : Thread Cert.KernelPwIdeal.nD Cert.KernelPwIdeal.τ).loc Cert.KernelPwIdeal.main_arg4)
      ∧ m' ((c.tc : Thread Cert.ReferencePwIdeal.nD Cert.ReferencePwIdeal.τ).loc Cert.ReferencePwIdeal.main_arg5) = m ((c.tc : Thread Cert.KernelPwIdeal.nD Cert.KernelPwIdeal.τ).loc Cert.KernelPwIdeal.main_arg5)) →
    ∃ (v0 : (c : Dev Cert.KernelPwIdeal.nD) → Buf (Elt Ideal) ((c.tc : Thread Cert.KernelPwIdeal.nD Cert.KernelPwIdeal.τ).loc Cert.KernelPwIdeal.main_v2_0)) (v1 : (c : Dev Cert.KernelPwIdeal.nD) → Buf (Elt Ideal) ((c.tc : Thread Cert.KernelPwIdeal.nD Cert.KernelPwIdeal.τ).loc Cert.KernelPwIdeal.main_v2_1)) (v2 : (c : Dev Cert.KernelPwIdeal.nD) → Buf (Elt Ideal) ((c.tc : Thread Cert.KernelPwIdeal.nD Cert.KernelPwIdeal.τ).loc Cert.KernelPwIdeal.main_v2_2)) (v3 : (c : Dev Cert.KernelPwIdeal.nD) → Buf (Elt Ideal) ((c.tc : Thread Cert.KernelPwIdeal.nD Cert.KernelPwIdeal.τ).loc Cert.KernelPwIdeal.main_v2_3)),
      θ_run (Cert.KernelPwIdeal.defs (F := Ideal)) (onTc (τ := Cert.KernelPwIdeal.τ) (Cert.KernelPwIdeal.main (F := Ideal))) ⟨m, fun _ => 0, g⟩ (fun r => ∀ c : Dev Cert.KernelPwIdeal.nD,
          r.2.mem ((c.tc : Thread Cert.KernelPwIdeal.nD Cert.KernelPwIdeal.τ).loc Cert.KernelPwIdeal.main_v2_0) = v0 c
          ∧ r.2.mem ((c.tc : Thread Cert.KernelPwIdeal.nD Cert.KernelPwIdeal.τ).loc Cert.KernelPwIdeal.main_v2_1) = v1 c
          ∧ r.2.mem ((c.tc : Thread Cert.KernelPwIdeal.nD Cert.KernelPwIdeal.τ).loc Cert.KernelPwIdeal.main_v2_2) = v2 c
          ∧ r.2.mem ((c.tc : Thread Cert.KernelPwIdeal.nD Cert.KernelPwIdeal.τ).loc Cert.KernelPwIdeal.main_v2_3) = v3 c
          ∧ r.2.mem ((c.tc : Thread Cert.KernelPwIdeal.nD Cert.KernelPwIdeal.τ).loc Cert.KernelPwIdeal.main_arg0) = m ((c.tc : Thread Cert.KernelPwIdeal.nD Cert.KernelPwIdeal.τ).loc Cert.KernelPwIdeal.main_arg0)
          ∧ r.2.mem ((c.tc : Thread Cert.KernelPwIdeal.nD Cert.KernelPwIdeal.τ).loc Cert.KernelPwIdeal.main_arg1) = m ((c.tc : Thread Cert.KernelPwIdeal.nD Cert.KernelPwIdeal.τ).loc Cert.KernelPwIdeal.main_arg1)
          ∧ r.2.mem ((c.tc : Thread Cert.KernelPwIdeal.nD Cert.KernelPwIdeal.τ).loc Cert.KernelPwIdeal.main_arg2) = m ((c.tc : Thread Cert.KernelPwIdeal.nD Cert.KernelPwIdeal.τ).loc Cert.KernelPwIdeal.main_arg2)
          ∧ r.2.mem ((c.tc : Thread Cert.KernelPwIdeal.nD Cert.KernelPwIdeal.τ).loc Cert.KernelPwIdeal.main_arg3) = m ((c.tc : Thread Cert.KernelPwIdeal.nD Cert.KernelPwIdeal.τ).loc Cert.KernelPwIdeal.main_arg3)
          ∧ r.2.mem ((c.tc : Thread Cert.KernelPwIdeal.nD Cert.KernelPwIdeal.τ).loc Cert.KernelPwIdeal.main_arg4) = m ((c.tc : Thread Cert.KernelPwIdeal.nD Cert.KernelPwIdeal.τ).loc Cert.KernelPwIdeal.main_arg4)
          ∧ r.2.mem ((c.tc : Thread Cert.KernelPwIdeal.nD Cert.KernelPwIdeal.τ).loc Cert.KernelPwIdeal.main_arg5) = m ((c.tc : Thread Cert.KernelPwIdeal.nD Cert.KernelPwIdeal.τ).loc Cert.KernelPwIdeal.main_arg5))
      ∧ θ_run (Cert.ReferencePwIdeal.defs (F := Ideal)) (onTc (τ := Cert.ReferencePwIdeal.τ) (Cert.ReferencePwIdeal.main (F := Ideal))) ⟨m', fun _ => 0, g'⟩ (fun r => ∀ c : Dev Cert.ReferencePwIdeal.nD,
          r.2.mem ((c.tc : Thread Cert.ReferencePwIdeal.nD Cert.ReferencePwIdeal.τ).loc Cert.ReferencePwIdeal.main_v47) = v0 c
          ∧ r.2.mem ((c.tc : Thread Cert.ReferencePwIdeal.nD Cert.ReferencePwIdeal.τ).loc Cert.ReferencePwIdeal.main_v48) = v1 c
          ∧ r.2.mem ((c.tc : Thread Cert.ReferencePwIdeal.nD Cert.ReferencePwIdeal.τ).loc Cert.ReferencePwIdeal.main_v49) = v2 c
          ∧ r.2.mem ((c.tc : Thread Cert.ReferencePwIdeal.nD Cert.ReferencePwIdeal.τ).loc Cert.ReferencePwIdeal.main_v50) = v3 c
          ∧ r.2.mem ((c.tc : Thread Cert.ReferencePwIdeal.nD Cert.ReferencePwIdeal.τ).loc Cert.ReferencePwIdeal.main_arg0) = m' ((c.tc : Thread Cert.ReferencePwIdeal.nD Cert.ReferencePwIdeal.τ).loc Cert.ReferencePwIdeal.main_arg0)
          ∧ r.2.mem ((c.tc : Thread Cert.ReferencePwIdeal.nD Cert.ReferencePwIdeal.τ).loc Cert.ReferencePwIdeal.main_arg1) = m' ((c.tc : Thread Cert.ReferencePwIdeal.nD Cert.ReferencePwIdeal.τ).loc Cert.ReferencePwIdeal.main_arg1)
          ∧ r.2.mem ((c.tc : Thread Cert.ReferencePwIdeal.nD Cert.ReferencePwIdeal.τ).loc Cert.ReferencePwIdeal.main_arg2) = m' ((c.tc : Thread Cert.ReferencePwIdeal.nD Cert.ReferencePwIdeal.τ).loc Cert.ReferencePwIdeal.main_arg2)
          ∧ r.2.mem ((c.tc : Thread Cert.ReferencePwIdeal.nD Cert.ReferencePwIdeal.τ).loc Cert.ReferencePwIdeal.main_arg3) = m' ((c.tc : Thread Cert.ReferencePwIdeal.nD Cert.ReferencePwIdeal.τ).loc Cert.ReferencePwIdeal.main_arg3)
          ∧ r.2.mem ((c.tc : Thread Cert.ReferencePwIdeal.nD Cert.ReferencePwIdeal.τ).loc Cert.ReferencePwIdeal.main_arg4) = m' ((c.tc : Thread Cert.ReferencePwIdeal.nD Cert.ReferencePwIdeal.τ).loc Cert.ReferencePwIdeal.main_arg4)
          ∧ r.2.mem ((c.tc : Thread Cert.ReferencePwIdeal.nD Cert.ReferencePwIdeal.τ).loc Cert.ReferencePwIdeal.main_arg5) = m' ((c.tc : Thread Cert.ReferencePwIdeal.nD Cert.ReferencePwIdeal.τ).loc Cert.ReferencePwIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)) (v3 : (c : Dev Cert.KernelInIdeal.nD) → Buf (Elt Ideal) ((c.tc : Thread Cert.KernelInIdeal.nD Cert.KernelInIdeal.τ).loc Cert.KernelInIdeal.main_v4_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_v4_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v48) = v0 c
          ∧ r.2.mem ((c.tc : Thread Cert.ReferenceInIdeal.nD Cert.ReferenceInIdeal.τ).loc Cert.ReferenceInIdeal.main_v50) = v1 c
          ∧ r.2.mem ((c.tc : Thread Cert.ReferenceInIdeal.nD Cert.ReferenceInIdeal.τ).loc Cert.ReferenceInIdeal.main_v52) = v2 c
          ∧ r.2.mem ((c.tc : Thread Cert.ReferenceInIdeal.nD Cert.ReferenceInIdeal.τ).loc Cert.ReferenceInIdeal.main_v53) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v9_0)) (v1 : (c : Dev Cert.KernelFfnIdeal.nD) → Buf (Elt Ideal) ((c.tc : Thread Cert.KernelFfnIdeal.nD Cert.KernelFfnIdeal.τ).loc Cert.KernelFfnIdeal.main_v9_1)) (v2 : (c : Dev Cert.KernelFfnIdeal.nD) → Buf (Elt Ideal) ((c.tc : Thread Cert.KernelFfnIdeal.nD Cert.KernelFfnIdeal.τ).loc Cert.KernelFfnIdeal.main_v9_2)) (v3 : (c : Dev Cert.KernelFfnIdeal.nD) → Buf (Elt Ideal) ((c.tc : Thread Cert.KernelFfnIdeal.nD Cert.KernelFfnIdeal.τ).loc Cert.KernelFfnIdeal.main_v9_3)) (v4 : (c : Dev Cert.KernelFfnIdeal.nD) → Buf (Elt Ideal) ((c.tc : Thread Cert.KernelFfnIdeal.nD Cert.KernelFfnIdeal.τ).loc Cert.KernelFfnIdeal.main_v9_4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v9_0) = v0 c
          ∧ r.2.mem ((c.tc : Thread Cert.KernelFfnIdeal.nD Cert.KernelFfnIdeal.τ).loc Cert.KernelFfnIdeal.main_v9_1) = v1 c
          ∧ r.2.mem ((c.tc : Thread Cert.KernelFfnIdeal.nD Cert.KernelFfnIdeal.τ).loc Cert.KernelFfnIdeal.main_v9_2) = v2 c
          ∧ r.2.mem ((c.tc : Thread Cert.KernelFfnIdeal.nD Cert.KernelFfnIdeal.τ).loc Cert.KernelFfnIdeal.main_v9_3) = v3 c
          ∧ r.2.mem ((c.tc : Thread Cert.KernelFfnIdeal.nD Cert.KernelFfnIdeal.τ).loc Cert.KernelFfnIdeal.main_v9_4) = v4 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v60) = v0 c
          ∧ r.2.mem ((c.tc : Thread Cert.ReferenceFfnIdeal.nD Cert.ReferenceFfnIdeal.τ).loc Cert.ReferenceFfnIdeal.main_v63) = v1 c
          ∧ r.2.mem ((c.tc : Thread Cert.ReferenceFfnIdeal.nD Cert.ReferenceFfnIdeal.τ).loc Cert.ReferenceFfnIdeal.main_v66) = v2 c
          ∧ r.2.mem ((c.tc : Thread Cert.ReferenceFfnIdeal.nD Cert.ReferenceFfnIdeal.τ).loc Cert.ReferenceFfnIdeal.main_v68) = v3 c
          ∧ r.2.mem ((c.tc : Thread Cert.ReferenceFfnIdeal.nD Cert.ReferenceFfnIdeal.τ).loc Cert.ReferenceFfnIdeal.main_v69) = v4 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelAttn_KernelAttnIdeal : Prop :=
  IdealRules.named_const.Statement Cert.KernelAttnIdeal.κ "mask" .f32 0xF149F2CA#32 ⊥

def algebraic_KernelAttnIdeal_ReferenceAttnIdeal_pre_attn_finite [hKernelAttnIdeal : Cert.KernelAttnIdeal.Facts] [hReferenceAttnIdeal : Cert.ReferenceAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_attn_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v16_0)) (v1 : (c : Dev Cert.KernelAttnIdeal.nD) → Buf (Elt Ideal) ((c.tc : Thread Cert.KernelAttnIdeal.nD Cert.KernelAttnIdeal.τ).loc Cert.KernelAttnIdeal.main_v16_1)) (v2 : (c : Dev Cert.KernelAttnIdeal.nD) → Buf (Elt Ideal) ((c.tc : Thread Cert.KernelAttnIdeal.nD Cert.KernelAttnIdeal.τ).loc Cert.KernelAttnIdeal.main_v18)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v16_0) = v0 c
          ∧ r.2.mem ((c.tc : Thread Cert.KernelAttnIdeal.nD Cert.KernelAttnIdeal.τ).loc Cert.KernelAttnIdeal.main_v16_1) = v1 c
          ∧ r.2.mem ((c.tc : Thread Cert.KernelAttnIdeal.nD Cert.KernelAttnIdeal.τ).loc Cert.KernelAttnIdeal.main_v18) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v191) = v0 c
          ∧ r.2.mem ((c.tc : Thread Cert.ReferenceAttnIdeal.nD Cert.ReferenceAttnIdeal.τ).loc Cert.ReferenceAttnIdeal.main_v192) = v1 c
          ∧ r.2.mem ((c.tc : Thread Cert.ReferenceAttnIdeal.nD Cert.ReferenceAttnIdeal.τ).loc Cert.ReferenceAttnIdeal.main_v165) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelCv_KernelCvIdeal : Prop :=
  True

def algebraic_KernelCvIdeal_ReferenceCvIdeal [hKernelCvIdeal : Cert.KernelCvIdeal.Facts] [hReferenceCvIdeal : Cert.ReferenceCvIdeal.Facts] : Prop :=
  ∀ (m : (ℓ : Loc Cert.KernelCvIdeal.nD Cert.KernelCvIdeal.τ Cert.KernelCvIdeal.sig) → Buf (Elt Ideal) ℓ) (g : Dev Cert.KernelCvIdeal.nD → PrngReg)
    (m' : (ℓ : Loc Cert.ReferenceCvIdeal.nD Cert.ReferenceCvIdeal.τ Cert.ReferenceCvIdeal.sig) → Buf (Elt Ideal) ℓ) (g' : Dev Cert.ReferenceCvIdeal.nD → PrngReg), Pre_KernelCvIdeal m →
    (∀ c : Dev Cert.KernelCvIdeal.nD,
      m' ((c.tc : Thread Cert.ReferenceCvIdeal.nD Cert.ReferenceCvIdeal.τ).loc Cert.ReferenceCvIdeal.main_arg0) = m ((c.tc : Thread Cert.KernelCvIdeal.nD Cert.KernelCvIdeal.τ).loc Cert.KernelCvIdeal.main_arg0)
      ∧ m' ((c.tc : Thread Cert.ReferenceCvIdeal.nD Cert.ReferenceCvIdeal.τ).loc Cert.ReferenceCvIdeal.main_arg1) = m ((c.tc : Thread Cert.KernelCvIdeal.nD Cert.KernelCvIdeal.τ).loc Cert.KernelCvIdeal.main_arg1)
      ∧ m' ((c.tc : Thread Cert.ReferenceCvIdeal.nD Cert.ReferenceCvIdeal.τ).loc Cert.ReferenceCvIdeal.main_arg2) = m ((c.tc : Thread Cert.KernelCvIdeal.nD Cert.KernelCvIdeal.τ).loc Cert.KernelCvIdeal.main_arg2)
      ∧ m' ((c.tc : Thread Cert.ReferenceCvIdeal.nD Cert.ReferenceCvIdeal.τ).loc Cert.ReferenceCvIdeal.main_arg3) = m ((c.tc : Thread Cert.KernelCvIdeal.nD Cert.KernelCvIdeal.τ).loc Cert.KernelCvIdeal.main_arg3)
      ∧ m' ((c.tc : Thread Cert.ReferenceCvIdeal.nD Cert.ReferenceCvIdeal.τ).loc Cert.ReferenceCvIdeal.main_arg4) = m ((c.tc : Thread Cert.KernelCvIdeal.nD Cert.KernelCvIdeal.τ).loc Cert.KernelCvIdeal.main_arg4)
      ∧ m' ((c.tc : Thread Cert.ReferenceCvIdeal.nD Cert.ReferenceCvIdeal.τ).loc Cert.ReferenceCvIdeal.main_arg5) = m ((c.tc : Thread Cert.KernelCvIdeal.nD Cert.KernelCvIdeal.τ).loc Cert.KernelCvIdeal.main_arg5)) →
    ∃ (v0 : (c : Dev Cert.KernelCvIdeal.nD) → Buf (Elt Ideal) ((c.tc : Thread Cert.KernelCvIdeal.nD Cert.KernelCvIdeal.τ).loc Cert.KernelCvIdeal.main_v86)) (v1 : (c : Dev Cert.KernelCvIdeal.nD) → Buf (Elt Ideal) ((c.tc : Thread Cert.KernelCvIdeal.nD Cert.KernelCvIdeal.τ).loc Cert.KernelCvIdeal.main_v85_2)) (v2 : (c : Dev Cert.KernelCvIdeal.nD) → Buf (Elt Ideal) ((c.tc : Thread Cert.KernelCvIdeal.nD Cert.KernelCvIdeal.τ).loc Cert.KernelCvIdeal.main_v85_3)) (v3 : (c : Dev Cert.KernelCvIdeal.nD) → Buf (Elt Ideal) ((c.tc : Thread Cert.KernelCvIdeal.nD Cert.KernelCvIdeal.τ).loc Cert.KernelCvIdeal.main_v85_4)) (v4 : (c : Dev Cert.KernelCvIdeal.nD) → Buf (Elt Ideal) ((c.tc : Thread Cert.KernelCvIdeal.nD Cert.KernelCvIdeal.τ).loc Cert.KernelCvIdeal.main_v85_5)),
      θ_run (Cert.KernelCvIdeal.defs (F := Ideal)) (onTc (τ := Cert.KernelCvIdeal.τ) (Cert.KernelCvIdeal.main (F := Ideal))) ⟨m, fun _ => 0, g⟩ (fun r => ∀ c : Dev Cert.KernelCvIdeal.nD,
          r.2.mem ((c.tc : Thread Cert.KernelCvIdeal.nD Cert.KernelCvIdeal.τ).loc Cert.KernelCvIdeal.main_v86) = v0 c
          ∧ r.2.mem ((c.tc : Thread Cert.KernelCvIdeal.nD Cert.KernelCvIdeal.τ).loc Cert.KernelCvIdeal.main_v85_2) = v1 c
          ∧ r.2.mem ((c.tc : Thread Cert.KernelCvIdeal.nD Cert.KernelCvIdeal.τ).loc Cert.KernelCvIdeal.main_v85_3) = v2 c
          ∧ r.2.mem ((c.tc : Thread Cert.KernelCvIdeal.nD Cert.KernelCvIdeal.τ).loc Cert.KernelCvIdeal.main_v85_4) = v3 c
          ∧ r.2.mem ((c.tc : Thread Cert.KernelCvIdeal.nD Cert.KernelCvIdeal.τ).loc Cert.KernelCvIdeal.main_v85_5) = v4 c
          ∧ r.2.mem ((c.tc : Thread Cert.KernelCvIdeal.nD Cert.KernelCvIdeal.τ).loc Cert.KernelCvIdeal.main_arg0) = m ((c.tc : Thread Cert.KernelCvIdeal.nD Cert.KernelCvIdeal.τ).loc Cert.KernelCvIdeal.main_arg0)
          ∧ r.2.mem ((c.tc : Thread Cert.KernelCvIdeal.nD Cert.KernelCvIdeal.τ).loc Cert.KernelCvIdeal.main_arg1) = m ((c.tc : Thread Cert.KernelCvIdeal.nD Cert.KernelCvIdeal.τ).loc Cert.KernelCvIdeal.main_arg1)
          ∧ r.2.mem ((c.tc : Thread Cert.KernelCvIdeal.nD Cert.KernelCvIdeal.τ).loc Cert.KernelCvIdeal.main_arg2) = m ((c.tc : Thread Cert.KernelCvIdeal.nD Cert.KernelCvIdeal.τ).loc Cert.KernelCvIdeal.main_arg2)
          ∧ r.2.mem ((c.tc : Thread Cert.KernelCvIdeal.nD Cert.KernelCvIdeal.τ).loc Cert.KernelCvIdeal.main_arg3) = m ((c.tc : Thread Cert.KernelCvIdeal.nD Cert.KernelCvIdeal.τ).loc Cert.KernelCvIdeal.main_arg3)
          ∧ r.2.mem ((c.tc : Thread Cert.KernelCvIdeal.nD Cert.KernelCvIdeal.τ).loc Cert.KernelCvIdeal.main_arg4) = m ((c.tc : Thread Cert.KernelCvIdeal.nD Cert.KernelCvIdeal.τ).loc Cert.KernelCvIdeal.main_arg4)
          ∧ r.2.mem ((c.tc : Thread Cert.KernelCvIdeal.nD Cert.KernelCvIdeal.τ).loc Cert.KernelCvIdeal.main_arg5) = m ((c.tc : Thread Cert.KernelCvIdeal.nD Cert.KernelCvIdeal.τ).loc Cert.KernelCvIdeal.main_arg5))
      ∧ θ_run (Cert.ReferenceCvIdeal.defs (F := Ideal)) (onTc (τ := Cert.ReferenceCvIdeal.τ) (Cert.ReferenceCvIdeal.main (F := Ideal))) ⟨m', fun _ => 0, g'⟩ (fun r => ∀ c : Dev Cert.ReferenceCvIdeal.nD,
          r.2.mem ((c.tc : Thread Cert.ReferenceCvIdeal.nD Cert.ReferenceCvIdeal.τ).loc Cert.ReferenceCvIdeal.main_v285) = v0 c
          ∧ r.2.mem ((c.tc : Thread Cert.ReferenceCvIdeal.nD Cert.ReferenceCvIdeal.τ).loc Cert.ReferenceCvIdeal.main_v277) = v1 c
          ∧ r.2.mem ((c.tc : Thread Cert.ReferenceCvIdeal.nD Cert.ReferenceCvIdeal.τ).loc Cert.ReferenceCvIdeal.main_v286) = v2 c
          ∧ r.2.mem ((c.tc : Thread Cert.ReferenceCvIdeal.nD Cert.ReferenceCvIdeal.τ).loc Cert.ReferenceCvIdeal.main_v287) = v3 c
          ∧ r.2.mem ((c.tc : Thread Cert.ReferenceCvIdeal.nD Cert.ReferenceCvIdeal.τ).loc Cert.ReferenceCvIdeal.main_v288) = v4 c
          ∧ r.2.mem ((c.tc : Thread Cert.ReferenceCvIdeal.nD Cert.ReferenceCvIdeal.τ).loc Cert.ReferenceCvIdeal.main_arg0) = m' ((c.tc : Thread Cert.ReferenceCvIdeal.nD Cert.ReferenceCvIdeal.τ).loc Cert.ReferenceCvIdeal.main_arg0)
          ∧ r.2.mem ((c.tc : Thread Cert.ReferenceCvIdeal.nD Cert.ReferenceCvIdeal.τ).loc Cert.ReferenceCvIdeal.main_arg1) = m' ((c.tc : Thread Cert.ReferenceCvIdeal.nD Cert.ReferenceCvIdeal.τ).loc Cert.ReferenceCvIdeal.main_arg1)
          ∧ r.2.mem ((c.tc : Thread Cert.ReferenceCvIdeal.nD Cert.ReferenceCvIdeal.τ).loc Cert.ReferenceCvIdeal.main_arg2) = m' ((c.tc : Thread Cert.ReferenceCvIdeal.nD Cert.ReferenceCvIdeal.τ).loc Cert.ReferenceCvIdeal.main_arg2)
          ∧ r.2.mem ((c.tc : Thread Cert.ReferenceCvIdeal.nD Cert.ReferenceCvIdeal.τ).loc Cert.ReferenceCvIdeal.main_arg3) = m' ((c.tc : Thread Cert.ReferenceCvIdeal.nD Cert.ReferenceCvIdeal.τ).loc Cert.ReferenceCvIdeal.main_arg3)
          ∧ r.2.mem ((c.tc : Thread Cert.ReferenceCvIdeal.nD Cert.ReferenceCvIdeal.τ).loc Cert.ReferenceCvIdeal.main_arg4) = m' ((c.tc : Thread Cert.ReferenceCvIdeal.nD Cert.ReferenceCvIdeal.τ).loc Cert.ReferenceCvIdeal.main_arg4)
          ∧ r.2.mem ((c.tc : Thread Cert.ReferenceCvIdeal.nD Cert.ReferenceCvIdeal.τ).loc Cert.ReferenceCvIdeal.main_arg5) = m' ((c.tc : Thread Cert.ReferenceCvIdeal.nD Cert.ReferenceCvIdeal.τ).loc Cert.ReferenceCvIdeal.main_arg5))

def Claim : Prop :=
  ∃ (hKernel : Cert.Kernel.Facts) (hKernelIdeal : Cert.KernelIdeal.Facts) (hReferenceIdeal : Cert.ReferenceIdeal.Facts) (hKernelDnc : Cert.KernelDnc.Facts) (hKernelDncIdeal : Cert.KernelDncIdeal.Facts) (hReferenceDncIdeal : Cert.ReferenceDncIdeal.Facts) (hKernelPw : Cert.KernelPw.Facts) (hKernelPwIdeal : Cert.KernelPwIdeal.Facts) (hReferencePwIdeal : Cert.ReferencePwIdeal.Facts) (hKernelIn : Cert.KernelIn.Facts) (hKernelInIdeal : Cert.KernelInIdeal.Facts) (hReferenceInIdeal : Cert.ReferenceInIdeal.Facts) (hKernelFfn : Cert.KernelFfn.Facts) (hKernelFfnIdeal : Cert.KernelFfnIdeal.Facts) (hReferenceFfnIdeal : Cert.ReferenceFfnIdeal.Facts) (hKernelAttn : Cert.KernelAttn.Facts) (hKernelAttnIdeal : Cert.KernelAttnIdeal.Facts) (hReferenceAttnIdeal : Cert.ReferenceAttnIdeal.Facts) (hKernelCv : Cert.KernelCv.Facts) (hKernelCvIdeal : Cert.KernelCvIdeal.Facts) (hReferenceCvIdeal : Cert.ReferenceCvIdeal.Facts) (hPre_dout_finite : Cert.Pre_dout_finite.Facts) (hPre_ffn_finite : Cert.Pre_ffn_finite.Facts) (hPre_attn_finite : Cert.Pre_attn_finite.Facts),
    quiescent_Kernel (hKernel := hKernel)
    ∧ quiescent_KernelIdeal (hKernelIdeal := hKernelIdeal)
    ∧ quiescent_ReferenceIdeal (hReferenceIdeal := hReferenceIdeal)
    ∧ quiescent_KernelDnc (hKernelDnc := hKernelDnc)
    ∧ quiescent_KernelDncIdeal (hKernelDncIdeal := hKernelDncIdeal)
    ∧ quiescent_KernelDncIdeal_pre_dout_finite (hKernelDncIdeal := hKernelDncIdeal) (hPre_dout_finite := hPre_dout_finite)
    ∧ quiescent_ReferenceDncIdeal (hReferenceDncIdeal := hReferenceDncIdeal)
    ∧ quiescent_ReferenceDncIdeal_pre_dout_finite (hReferenceDncIdeal := hReferenceDncIdeal) (hPre_dout_finite := hPre_dout_finite)
    ∧ quiescent_KernelPw (hKernelPw := hKernelPw)
    ∧ quiescent_KernelPwIdeal (hKernelPwIdeal := hKernelPwIdeal)
    ∧ quiescent_ReferencePwIdeal (hReferencePwIdeal := hReferencePwIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelAttn (hKernelAttn := hKernelAttn)
    ∧ quiescent_KernelAttnIdeal (hKernelAttnIdeal := hKernelAttnIdeal)
    ∧ quiescent_KernelAttnIdeal_pre_attn_finite (hKernelAttnIdeal := hKernelAttnIdeal) (hPre_attn_finite := hPre_attn_finite)
    ∧ quiescent_ReferenceAttnIdeal (hReferenceAttnIdeal := hReferenceAttnIdeal)
    ∧ quiescent_ReferenceAttnIdeal_pre_attn_finite (hReferenceAttnIdeal := hReferenceAttnIdeal) (hPre_attn_finite := hPre_attn_finite)
    ∧ quiescent_KernelCv (hKernelCv := hKernelCv)
    ∧ quiescent_KernelCvIdeal (hKernelCvIdeal := hKernelCvIdeal)
    ∧ quiescent_ReferenceCvIdeal (hReferenceCvIdeal := hReferenceCvIdeal)
    ∧ preserves_Kernel_KernelIdeal
    ∧ algebraic_KernelIdeal_ReferenceIdeal (hKernelIdeal := hKernelIdeal) (hReferenceIdeal := hReferenceIdeal)
    ∧ preserves_KernelDnc_KernelDncIdeal
    ∧ algebraic_KernelDncIdeal_ReferenceDncIdeal_pre_dout_finite (hKernelDncIdeal := hKernelDncIdeal) (hReferenceDncIdeal := hReferenceDncIdeal) (hPre_dout_finite := hPre_dout_finite)
    ∧ preserves_KernelPw_KernelPwIdeal
    ∧ algebraic_KernelPwIdeal_ReferencePwIdeal (hKernelPwIdeal := hKernelPwIdeal) (hReferencePwIdeal := hReferencePwIdeal)
    ∧ preserves_KernelIn_KernelInIdeal
    ∧ algebraic_KernelInIdeal_ReferenceInIdeal (hKernelInIdeal := hKernelInIdeal) (hReferenceInIdeal := hReferenceInIdeal)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelAttn_KernelAttnIdeal
    ∧ algebraic_KernelAttnIdeal_ReferenceAttnIdeal_pre_attn_finite (hKernelAttnIdeal := hKernelAttnIdeal) (hReferenceAttnIdeal := hReferenceAttnIdeal) (hPre_attn_finite := hPre_attn_finite)
    ∧ preserves_KernelCv_KernelCvIdeal
    ∧ algebraic_KernelCvIdeal_ReferenceCvIdeal (hKernelCvIdeal := hKernelCvIdeal) (hReferenceCvIdeal := hReferenceCvIdeal)
-- ==== Pre_attn_finite.lean ====
abbrev S2048x2832 : Shape := ⟨2, ![2048, 2832]⟩
abbrev S8 : Shape := ⟨1, ![8]⟩
abbrev S2048x1024 : Shape := ⟨2, ![2048, 1024]⟩
abbrev S2048x768 : Shape := ⟨2, ![2048, 768]⟩
abbrev S2048x512 : Shape := ⟨2, ![2048, 512]⟩
abbrev S_ : Shape := ⟨0, ![]⟩

class Facts : Prop where
  slices_S2048x2832_S2048x768_0_0 : S2048x2832.Slices ![0, 0] S2048x768
  slices_S2048x1024_S2048x512_0_0 : S2048x1024.Slices ![0, 0] S2048x512
  bcast_S_S2048x768 : S_.BroadcastsInDim S2048x768 (![] : Fin 0 → Fin S2048x768.rank)
  reducesTo_S2048x768_S_d0_1 : S2048x768.ReducesTo [0, 1] S_
  h_S_ : 0 < S_.numel
  bcast_S_S8 : S_.BroadcastsInDim S8 (![] : Fin 0 → Fin S8.rank)
  reducesTo_S8_S_d0 : S8.ReducesTo [0] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x2832 .f32) (main_arg1 : FVec F S8 .f32) (main_arg2 : FVec F S2048x1024 .f32) : IVec S_ 1 :=
  let main_v0 : FVec F S2048x768 .f32 := (extractStridedSlice S2048x768 ![0, 0] · slices_S2048x2832_S2048x768_0_0) main_arg0
  let main_v1 : FVec F S2048x512 .f32 := (extractStridedSlice S2048x512 ![0, 0] · slices_S2048x1024_S2048x512_0_0) main_arg2
  let main_v2 : FVec F S2048x768 .f32 := Host.absf main_v0
  let main_cst : FVec F S_ .f32 := constant S_ .f32 0x7F800000#32
  let main_v3 : FVec F S2048x768 .f32 := broadcastInDim S2048x768 ![] bcast_S_S2048x768 main_cst
  let main_v4 : IVec S2048x768 1 := cmpf .olt main_v2 main_v3
  let main_c : IVec S_ 1 := constantI S_ 1 1#1
  let main_v5 : IVec S_ 1 := (fun x v => Host.reduce IntOp.andi x v reducesTo_S2048x768_S_d0_1 h_S_) main_v4 main_c
  let main_v6 : FVec F S8 .f32 := Host.absf main_arg1
  let main_cst_0 : FVec F S_ .f32 := constant S_ .f32 0x7F800000#32
  let main_v7 : FVec F S8 .f32 := broadcastInDim S8 ![] bcast_S_S8 main_cst_0
  let main_v8 : IVec S8 1 := cmpf .olt main_v6 main_v7
  let main_c_1 : IVec S_ 1 := constantI S_ 1 1#1
  let main_v9 : IVec S_ 1 := (fun x v => Host.reduce IntOp.andi x v reducesTo_S8_S_d0 h_S_) main_v8 main_c_1
  let main_v10 : FVec F S2048x512 .f32 := Host.absf main_v1
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_c_3 : IVec S_ 1 := constantI S_ 1 1#1
  let main_v13 : IVec S_ 1 := (fun x v => Host.reduce IntOp.andi x v reducesTo_S2048x512_S_d0_1 h_S_) main_v12 main_c_3
  let main_v14 : IVec S_ 1 := andi main_v5 main_v9
  let main_v15 : IVec S_ 1 := andi main_v14 main_v13
  main_v15
-- ==== Pre_dout_finite.lean ====
abbrev S2048x2832 : Shape := ⟨2, ![2048, 2832]⟩
abbrev S4x1536 : Shape := ⟨2, ![4, 1536]⟩
abbrev S2048x1536 : Shape := ⟨2, ![2048, 1536]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel

variable [Facts]

def fn {F : FTy → Type} [FloatOps F] (main_arg0 : FVec F S2048x2832 .f32) (main_arg1 : FVec F S4x1536 .f32) (main_arg2 : FVec F S2048x1536 .f32) : IVec S_ 1 :=
  let main_v0 : FVec F S2048x1536 .f32 := Host.absf main_arg2
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  main_v3
-- ==== Pre_ffn_finite.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg5 : FVec F S2816x1024 .f32) (main_v3 : IVec S_ 1) (main_v7 : IVec S_ 1) (main_v11 : IVec S_ 1) (main_v15 : IVec S_ 1) : IVec S_ 1 :=
  let main_v16 : FVec F S2816x1024 .f32 := Host.absf main_arg5
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S2048x1024 .f32) (main_arg2 : FVec F S1024 .f32) (main_arg3 : FVec F S1024x2816 .f32) (main_arg4 : FVec F S1024x2816 .f32) (main_arg5 : FVec F S2816x1024 .f32) : IVec S_ 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg3
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg4
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg5 main_v3 main_v7 main_v11 main_v15
-- ==== Kernel.lean ====
abbrev S2048x1024 : Shape := ⟨2, ![2048, 1024]⟩
abbrev S1024 : Shape := ⟨1, ![1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x1, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1, .f32⟩
  | .hbm, ⟨72, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelDnc.lean ====
abbrev S2048x2832 : Shape := ⟨2, ![2048, 2832]⟩
abbrev S4x1536 : Shape := ⟨2, ![4, 1536]⟩
abbrev S2048x1536 : Shape := ⟨2, ![2048, 1536]⟩
abbrev S_ : Shape := ⟨0, ![]⟩
abbrev S2048x3072 : Shape := ⟨2, ![2048, 3072]⟩
abbrev S256x768 : Shape := ⟨2, ![256, 768]⟩
abbrev S8x768 : Shape := ⟨2, ![8, 768]⟩
abbrev S4x768 : Shape := ⟨2, ![4, 768]⟩
abbrev S264x768 : Shape := ⟨2, ![264, 768]⟩
abbrev S1x768 : Shape := ⟨2, ![1, 768]⟩
abbrev S768 : Shape := ⟨1, ![768]⟩

abbrev nBuf : Space → Nat
  | .hbm => 8
  | .vmem => 14
  | .smem => 0
  | _ => 0

abbrev bufTy : (tb : Table) → Fin (tcTables nBuf tb) → BufTy
  | .hbm, ⟨0, _⟩ => ⟨S2048x2832, .f32⟩
  | .hbm, ⟨1, _⟩ => ⟨S4x1536, .f32⟩
  | .hbm, ⟨2, _⟩ => ⟨S2048x1536, .f32⟩
  | .hbm, ⟨3, _⟩ => ⟨S_, .i32⟩
  | .hbm, ⟨4, _⟩ => ⟨S_, .f32⟩
  | .hbm, ⟨5, _⟩ => ⟨S2048x3072, .f32⟩
  | .hbm, ⟨6, _⟩ => ⟨S2048x1536, .f32⟩
  | .hbm, ⟨7, _⟩ => ⟨S4x1536, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x768, .f32⟩
  | .local _ .vmem, ⟨4, _⟩ => ⟨S4x768, .f32⟩
  | .local _ .vmem, ⟨5, _⟩ => ⟨S4x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S4x768, .f32⟩
  | .local _ .vmem, ⟨11, _⟩ => ⟨S4x768, .f32⟩
  | .local _ .vmem, ⟨12, _⟩ => ⟨S264x768, .f32⟩
  | .local _ .vmem, ⟨13, _⟩ => ⟨S264x768, .f32⟩
  | _, _ => ⟨S2048x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let v4 : BitVec 32 := Scalar.addi c1_i32_0 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceDncIdeal.lean ====
abbrev S2048x2832 : Shape := ⟨2, ![2048, 2832]⟩
abbrev S4x1536 : Shape := ⟨2, ![4, 1536]⟩
abbrev S2048x1536 : Shape := ⟨2, ![2048, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩

abbrev nBuf : Space → Nat
  | .hbm => 116
  | .vmem => 0
  | .smem => 0
  | _ => 0

abbrev bufTy : (tb : Table) → Fin (tcTables nBuf tb) → BufTy
  | .hbm, ⟨0, _⟩ => ⟨S2048x2832, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S1536, .f32⟩
  | .hbm, ⟨11, _⟩ => ⟨S2048x1536, .f32⟩
  | .hbm, ⟨12, _⟩ => ⟨S1x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S1x1536, .f32⟩
  | .hbm, ⟨19, _⟩ => ⟨S1536, .f32⟩
  | .hbm, ⟨20, _⟩ => ⟨S2048x1536, .f32⟩
  | .hbm, ⟨21, _⟩ => ⟨S1x1536, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S1x1536, .f32⟩
  | .hbm, ⟨26, _⟩ => ⟨S1536, .f32⟩
  | .hbm, ⟨27, _⟩ => ⟨S2048x1536, .f32⟩
  | .hbm, ⟨28, _⟩ => ⟨S1x1536, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S1x1536, .f32⟩
  | .hbm, ⟨33, _⟩ => ⟨S1536, .f32⟩
  | .hbm, ⟨34, _⟩ => ⟨S2048x1536, .f32⟩
  | .hbm, ⟨35, _⟩ => ⟨S1x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S_, .f32⟩
  | .hbm, ⟨45, _⟩ => ⟨S2048x1536, .f32⟩
  | .hbm, ⟨46, _⟩ => ⟨S2048x1536, .f32⟩
  | .hbm, ⟨47, _⟩ => ⟨S_, .f32⟩
  | .hbm, ⟨48, _⟩ => ⟨S2048x1536, .f32⟩
  | .hbm, ⟨49, _⟩ => ⟨S2048x1536, .f32⟩
  | .hbm, ⟨50, _⟩ => ⟨S2048x1536, .f32⟩
  | .hbm, ⟨51, _⟩ => ⟨S2048x1536, .f32⟩
  | .hbm, ⟨52, _⟩ => ⟨S2048x1536, .f32⟩
  | .hbm, ⟨53, _⟩ => ⟨S2048x1536, .f32⟩
  | .hbm, ⟨54, _⟩ => ⟨S2048x1536, .f32⟩
  | .hbm, ⟨55, _⟩ => ⟨S2048x1536, .f32⟩
  | .hbm, ⟨56, _⟩ => ⟨S2048x1536, .f32⟩
  | .hbm, ⟨57, _⟩ => ⟨S2048x1536, .f32⟩
  | .hbm, ⟨58, _⟩ => ⟨S2048x1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S_, .f32⟩
  | .hbm, ⟨63, _⟩ => ⟨S1536, .f32⟩
  | .hbm, ⟨64, _⟩ => ⟨S_, .f32⟩
  | .hbm, ⟨65, _⟩ => ⟨S2051x1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S2048x1536, .f32⟩
  | .hbm, ⟨70, _⟩ => ⟨S2048x1536, .f32⟩
  | .hbm, ⟨71, _⟩ => ⟨S2048x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S1536, .f32⟩
  | .hbm, ⟨77, _⟩ => ⟨S_, .f32⟩
  | .hbm, ⟨78, _⟩ => ⟨S2051x1536, .f32⟩
  | .hbm, ⟨79, _⟩ => ⟨S2051x1536, .f32⟩
  | .hbm, ⟨80, _⟩ => ⟨S1x1536, .f32⟩
  | .hbm, ⟨81, _⟩ => ⟨S_, .f32⟩
  | .hbm, ⟨82, _⟩ => ⟨S4x1536, .f32⟩
  | .hbm, ⟨83, _⟩ => ⟨S4x1536, .f32⟩
  | .hbm, ⟨84, _⟩ => ⟨S2048x1536, .f32⟩
  | .hbm, ⟨85, _⟩ => ⟨S2048x1536, .f32⟩
  | .hbm, ⟨86, _⟩ => ⟨S2048x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S_, .f32⟩
  | .hbm, ⟨91, _⟩ => ⟨S1536, .f32⟩
  | .hbm, ⟨92, _⟩ => ⟨S_, .f32⟩
  | .hbm, ⟨93, _⟩ => ⟨S2051x1536, .f32⟩
  | .hbm, ⟨94, _⟩ => ⟨S2051x1536, .f32⟩
  | .hbm, ⟨95, _⟩ => ⟨S1x1536, .f32⟩
  | .hbm, ⟨96, _⟩ => ⟨S_, .f32⟩
  | .hbm, ⟨97, _⟩ => ⟨S4x1536, .f32⟩
  | .hbm, ⟨98, _⟩ => ⟨S4x1536, .f32⟩
  | .hbm, ⟨99, _⟩ => ⟨S2048x1536, .f32⟩
  | .hbm, ⟨100, _⟩ => ⟨S2048x1536, .f32⟩
  | .hbm, ⟨101, _⟩ => ⟨S2048x1536, .f32⟩
  | .hbm, ⟨102, _⟩ => ⟨S_, .f32⟩
  | .hbm, ⟨103, _⟩ => ⟨S1536, .f32⟩
  | .hbm, ⟨104, _⟩ => ⟨S1x1536, .f32⟩
  | .hbm, ⟨105, _⟩ => ⟨S_, .f32⟩
  | .hbm, ⟨106, _⟩ => ⟨S1536, .f32⟩
  | .hbm, ⟨107, _⟩ => ⟨S_, .f32⟩
  | .hbm, ⟨108, _⟩ => ⟨S2051x1536, .f32⟩
  | .hbm, ⟨109, _⟩ => ⟨S2051x1536, .f32⟩
  | .hbm, ⟨110, _⟩ => ⟨S1x1536, .f32⟩
  | .hbm, ⟨111, _⟩ => ⟨S_, .f32⟩
  | .hbm, ⟨112, _⟩ => ⟨S4x1536, .f32⟩
  | .hbm, ⟨113, _⟩ => ⟨S4x1536, .f32⟩
  | .hbm, ⟨114, _⟩ => ⟨S3x1536, .f32⟩
  | .hbm, ⟨115, _⟩ => ⟨S2048x1536, .f32⟩
  | _, _ => ⟨S2048x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== KernelPw.lean ====
abbrev S2048x1024 : Shape := ⟨2, ![2048, 1024]⟩
abbrev S2048x2048 : Shape := ⟨2, ![2048, 2048]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1x1024, .f32⟩
  | .hbm, ⟨7, _⟩ => ⟨S1024x2048, .bf16⟩
  | .hbm, ⟨8, _⟩ => ⟨S2048x1024, .f32⟩
  | .hbm, ⟨9, _⟩ => ⟨S1024x2048, .bf16⟩
  | .hbm, ⟨10, _⟩ => ⟨S1x2048, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S2048x1024, .bf16⟩
  | .local _ .vmem, ⟨17, _⟩ => ⟨S2048x1024, .f32⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v61 : Index := Scalar.indexCast v1
  let c0_31 : Index := 0#32
  ![v61.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v16 : Index := Scalar.indexCast v1
  let c0_9 : Index := 0#32
  ![v16.toNat, 0]
def k0_cond5 (i : grid0.Coords) : BitVec 1 :=
  let arg0 : BitVec 32 := BitVec.ofNat 32 (i 0).val
  let c1_i32 : BitVec 32 := 1#32
  let v42 : BitVec 1 := Scalar.cmpi .eq arg0 c1_i32
  let v43 : BitVec 32 := Scalar.extui v42
  let c0_i32_23 : BitVec 32 := 0#32
  let v44 : BitVec 1 := Scalar.cmpi .ne v43 c0_i32_23
  v44

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v48 : Index := Scalar.indexCast v1
  let c0_28 : Index := 0#32
  ![v48.toNat, 0]
def k0_cond4 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_22 : BitVec 32 := 0#32
  let v41 : BitVec 1 := Scalar.cmpi .ne v40 c0_i32_22
  v41

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferencePwIdeal.lean ====
abbrev S2048x1024 : Shape := ⟨2, ![2048, 1024]⟩
abbrev S2048x2048 : Shape := ⟨2, ![2048, 2048]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S_, .f32⟩
  | .hbm, ⟨35, _⟩ => ⟨S2048, .f32⟩
  | .hbm, ⟨36, _⟩ => ⟨S2048x1024, .f32⟩
  | .hbm, ⟨37, _⟩ => ⟨S1024x2048, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1024x2048, .bf16⟩
  | .hbm, ⟨66, _⟩ => ⟨S1x2048, .f32⟩
  | .hbm, ⟨67, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== KernelIn.lean ====
abbrev S2048x1024 : Shape := ⟨2, ![2048, 1024]⟩
abbrev S2048x512 : Shape := ⟨2, ![2048, 512]⟩
abbrev S2048x256 : Shape := ⟨2, ![2048, 256]⟩
abbrev S2048x1536 : Shape := ⟨2, ![2048, 1536]⟩
abbrev S2048x528 : Shape := ⟨2, ![2048, 528]⟩
abbrev S1024 : Shape := ⟨1, ![1024]⟩
abbrev S1024x2832 : Shape := ⟨2, ![1024, 2832]⟩
abbrev S_ : Shape := ⟨0, ![]⟩
abbrev S1024x3072 : Shape := ⟨2, ![1024, 3072]⟩
abbrev S2048x768 : Shape := ⟨2, ![2048, 768]⟩
abbrev S1x1024 : Shape := ⟨2, ![1, 1024]⟩
abbrev S1x3072 : Shape := ⟨2, ![1, 3072]⟩
abbrev S512x1024 : Shape := ⟨2, ![512, 1024]⟩
abbrev S512x512 : Shape := ⟨2, ![512, 512]⟩
abbrev S512x256 : Shape := ⟨2, ![512, 256]⟩
abbrev S512x768 : Shape := ⟨2, ![512, 768]⟩
abbrev S1024x768 : Shape := ⟨2, ![1024, 768]⟩
abbrev S1x768 : Shape := ⟨2, ![1, 768]⟩
abbrev S512 : Shape := ⟨1, ![512]⟩
abbrev S512x1 : Shape := ⟨2, ![512, 1]⟩
abbrev S768 : Shape := ⟨1, ![768]⟩

abbrev nBuf : Space → Nat
  | .hbm => 20
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x256, .f32⟩
  | .hbm, ⟨4, _⟩ => ⟨S2048x1536, .f32⟩
  | .hbm, ⟨5, _⟩ => ⟨S2048x528, .f32⟩
  | .hbm, ⟨6, _⟩ => ⟨S1024, .f32⟩
  | .hbm, ⟨7, _⟩ => ⟨S1024x2832, .f32⟩
  | .hbm, ⟨8, _⟩ => ⟨S1024x2832, .bf16⟩
  | .hbm, ⟨9, _⟩ => ⟨S_, .i32⟩
  | .hbm, ⟨10, _⟩ => ⟨S_, .bf16⟩
  | .hbm, ⟨11, _⟩ => ⟨S1024x3072, .bf16⟩
  | .hbm, ⟨12, _⟩ => ⟨S_, .i32⟩
  | .hbm, ⟨13, _⟩ => ⟨S_, .f32⟩
  | .hbm, ⟨14, _⟩ => ⟨S2048x768, .f32⟩
  | .hbm, ⟨15, _⟩ => ⟨S1x1024, .f32⟩
  | .hbm, ⟨16, _⟩ => ⟨S2048x1024, .f32⟩
  | .hbm, ⟨17, _⟩ => ⟨S1024x3072, .bf16⟩
  | .hbm, ⟨18, _⟩ => ⟨S1x3072, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S1x1024, .f32⟩
  | .local _ .vmem, ⟨13, _⟩ => ⟨S1024x768, .bf16⟩
  | .local _ .vmem, ⟨14, _⟩ => ⟨S1024x768, .bf16⟩
  | .local _ .vmem, ⟨15, _⟩ => ⟨S512x1024, .f32⟩
  | .local _ .vmem, ⟨16, _⟩ => ⟨S512x1024, .f32⟩
  | .local _ .vmem, ⟨17, _⟩ => ⟨S1024x768, .bf16⟩
  | .local _ .vmem, ⟨18, _⟩ => ⟨S1024x768, .bf16⟩
  | .local _ .vmem, ⟨19, _⟩ => ⟨S1x768, .f32⟩
  | .local _ .vmem, ⟨20, _⟩ => ⟨S1x768, .f32⟩
  | .local _ .vmem, ⟨21, _⟩ => ⟨S1x1024, .f32⟩
  | .local _ .vmem, ⟨22, _⟩ => ⟨S2048x1024, .bf16⟩
  | .local _ .vmem, ⟨23, _⟩ => ⟨S2048x1024, .f32⟩
  | .local _ .vmem, ⟨24, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v70 : Index := Scalar.indexCast v1
  let c0_40 : Index := 0#32
  ![v70.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v25 : Index := Scalar.indexCast v1
  let c0_16 : Index := 0#32
  ![v25.toNat, 0]
def k0_cond5 (i : grid0.Coords) : BitVec 1 :=
  let arg0 : BitVec 32 := BitVec.ofNat 32 (i 0).val
  let c3_i32_31 : BitVec 32 := 3#32
  let v51 : BitVec 1 := Scalar.cmpi .eq arg0 c3_i32_31
  let v52 : BitVec 32 := Scalar.extui v51
  let c0_i32_32 : BitVec 32 := 0#32
  let v53 : BitVec 1 := Scalar.cmpi .ne v52 c0_i32_32
  v53

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v57 : Index := Scalar.indexCast v1
  let c0_37 : Index := 0#32
  ![v57.toNat, 0]
def k0_cond4 (i : grid0.Coords) : BitVec 1 :=
  let arg1 : BitVec 32 := BitVec.ofNat 32 (i 1).val
  let c3_i32_29 : BitVec 32 := 3#32
  let v48 : BitVec 1 := Scalar.cmpi .eq arg1 c3_i32_29
  let v49 : BitVec 32 := Scalar.extui v48
  let c0_i32_30 : BitVec 32 := 0#32
  let v50 : BitVec 1 := Scalar.cmpi .ne v49 c0_i32_30
  v50

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c3_i32 : BitVec 32 := 3#32
  let v1 : BitVec 1 := Scalar.cmpi .slt arg0 c3_i32
  let v2 : BitVec 1 := Scalar.andi v0 v1
  let c0_i32_0 : BitVec 32 := 0#32
  let v3 : BitVec 32 := Scalar.select v2 arg1 c0_i32_0
  let c1_i32 : BitVec 32 := 1#32
  let v4 : BitVec 32 := Scalar.subi arg0 c1_i32
  let c0_i32_1 : BitVec 32 := 0#32
  let c1_i32_2 : BitVec 32 := 1#32
  let v5 : BitVec 32 := Scalar.maxsi c0_i32_1 v4
  let v6 : BitVec 32 := Scalar.minsi c1_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceInIdeal.lean ====
abbrev S2048x1024 : Shape := ⟨2, ![2048, 1024]⟩
abbrev S2048x512 : Shape := ⟨2, ![2048, 512]⟩
abbrev S2048x256 : Shape := ⟨2, ![2048, 256]⟩
abbrev S2048x1536 : Shape := ⟨2, ![2048, 1536]⟩
abbrev S2048x528 : Shape := ⟨2, ![2048, 528]⟩
abbrev S1024 : Shape := ⟨1, ![1024]⟩
abbrev S1024x2832 : Shape := ⟨2, ![1024, 2832]⟩
abbrev S2048x2832 : Shape := ⟨2, ![2048, 2832]⟩
abbrev S_ : Shape := ⟨0, ![]⟩
abbrev S2832 : Shape := ⟨1, ![2832]⟩
abbrev S2048 : Shape := ⟨1, ![2048]⟩
abbrev S2048x1 : Shape := ⟨2, ![2048, 1]⟩
abbrev S1x1024 : Shape := ⟨2, ![1, 1024]⟩
abbrev S1x2832 : Shape := ⟨2, ![1, 2832]⟩
abbrev S2832x1024 : Shape := ⟨2, ![2832, 1024]⟩
abbrev S1024x3072 : Shape := ⟨2, ![1024, 3072]⟩
abbrev S3072 : Shape := ⟨1, ![3072]⟩
abbrev S1x3072 : Shape := ⟨2, ![1, 3072]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x256, .f32⟩
  | .hbm, ⟨4, _⟩ => ⟨S2048x1536, .f32⟩
  | .hbm, ⟨5, _⟩ => ⟨S2048x528, .f32⟩
  | .hbm, ⟨6, _⟩ => ⟨S1024, .f32⟩
  | .hbm, ⟨7, _⟩ => ⟨S1024x2832, .f32⟩
  | .hbm, ⟨8, _⟩ => ⟨S2048x2832, .f32⟩
  | .hbm, ⟨9, _⟩ => ⟨S_, .f32⟩
  | .hbm, ⟨10, _⟩ => ⟨S2832, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x2832, .f32⟩
  | .hbm, ⟨32, _⟩ => ⟨S1x2832, .f32⟩
  | .hbm, ⟨33, _⟩ => ⟨S2048x2832, .f32⟩
  | .hbm, ⟨34, _⟩ => ⟨S2048x2832, .f32⟩
  | .hbm, ⟨35, _⟩ => ⟨S_, .f32⟩
  | .hbm, ⟨36, _⟩ => ⟨S2832, .f32⟩
  | .hbm, ⟨37, _⟩ => ⟨S1x2832, .f32⟩
  | .hbm, ⟨38, _⟩ => ⟨S_, .f32⟩
  | .hbm, ⟨39, _⟩ => ⟨S2832, .f32⟩
  | .hbm, ⟨40, _⟩ => ⟨S2832x1024, .f32⟩
  | .hbm, ⟨41, _⟩ => ⟨S1024x2832, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .i32⟩
  | .hbm, ⟨70, _⟩ => ⟨S_, .f32⟩
  | .hbm, ⟨71, _⟩ => ⟨S1024x3072, .f32⟩
  | .hbm, ⟨72, _⟩ => ⟨S1024x3072, .bf16⟩
  | .hbm, ⟨73, _⟩ => ⟨S_, .i32⟩
  | .hbm, ⟨74, _⟩ => ⟨S_, .f32⟩
  | .hbm, ⟨75, _⟩ => ⟨S3072, .f32⟩
  | .hbm, ⟨76, _⟩ => ⟨S1x3072, .f32⟩
  | .hbm, ⟨77, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== KernelFfn.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S1x1024 : Shape := ⟨2, ![1, 1024]⟩
abbrev S1024x8x352 : Shape := ⟨3, ![1024, 8, 352]⟩
abbrev S8x1024x352 : Shape := ⟨3, ![8, 1024, 352]⟩
abbrev S256x1024 : Shape := ⟨2, ![256, 1024]⟩
abbrev S2x1024x352 : Shape := ⟨3, ![2, 1024, 352]⟩
abbrev S2x352x1024 : Shape := ⟨3, ![2, 352, 1024]⟩
abbrev S704x1024 : Shape := ⟨2, ![704, 1024]⟩
abbrev S256 : Shape := ⟨1, ![256]⟩
abbrev S256x1 : Shape := ⟨2, ![256, 1]⟩
abbrev S1x1024x352 : Shape := ⟨3, ![1, 1024, 352]⟩
abbrev S1024x352 : Shape := ⟨2, ![1024, 352]⟩
abbrev S1024x704 : Shape := ⟨2, ![1024, 704]⟩
abbrev S256x704 : Shape := ⟨2, ![256, 704]⟩

abbrev nBuf : Space → Nat
  | .hbm => 20
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S8x352x1024, .bf16⟩
  | .hbm, ⟨8, _⟩ => ⟨S1x1024, .f32⟩
  | .hbm, ⟨9, _⟩ => ⟨S1024x2816, .bf16⟩
  | .hbm, ⟨10, _⟩ => ⟨S1024x8x352, .bf16⟩
  | .hbm, ⟨11, _⟩ => ⟨S8x1024x352, .bf16⟩
  | .hbm, ⟨12, _⟩ => ⟨S1024x2816, .bf16⟩
  | .hbm, ⟨13, _⟩ => ⟨S1024x8x352, .bf16⟩
  | .hbm, ⟨14, _⟩ => ⟨S8x1024x352, .bf16⟩
  | .hbm, ⟨15, _⟩ => ⟨S2048x1024, .f32⟩
  | .hbm, ⟨16, _⟩ => ⟨S8x352x1024, .bf16⟩
  | .hbm, ⟨17, _⟩ => ⟨S8x352x1024, .bf16⟩
  | .hbm, ⟨18, _⟩ => ⟨S8x352x1024, .bf16⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1024x352, .bf16⟩
  | .local _ .vmem, ⟨6, _⟩ => ⟨S2x1024x352, .bf16⟩
  | .local _ .vmem, ⟨7, _⟩ => ⟨S2x1024x352, .bf16⟩
  | .local _ .vmem, ⟨8, _⟩ => ⟨S2x1024x352, .bf16⟩
  | .local _ .vmem, ⟨9, _⟩ => ⟨S2x352x1024, .bf16⟩
  | .local _ .vmem, ⟨10, _⟩ => ⟨S2x352x1024, .bf16⟩
  | .local _ .vmem, ⟨11, _⟩ => ⟨S256x1024, .f32⟩
  | .local _ .vmem, ⟨12, _⟩ => ⟨S256x1024, .f32⟩
  | .local _ .vmem, ⟨13, _⟩ => ⟨S2x352x1024, .bf16⟩
  | .local _ .vmem, ⟨14, _⟩ => ⟨S2x352x1024, .bf16⟩
  | .local _ .vmem, ⟨15, _⟩ => ⟨S2x352x1024, .bf16⟩
  | .local _ .vmem, ⟨16, _⟩ => ⟨S2x352x1024, .bf16⟩
  | .local _ .vmem, ⟨17, _⟩ => ⟨S2x352x1024, .bf16⟩
  | .local _ .vmem, ⟨18, _⟩ => ⟨S2x352x1024, .bf16⟩
  | .local _ .vmem, ⟨19, _⟩ => ⟨S1x1024, .f32⟩
  | .local _ .vmem, ⟨20, _⟩ => ⟨S2048x1024, .bf16⟩
  | .local _ .vmem, ⟨21, _⟩ => ⟨S2048x1024, .bf16⟩
  | .local _ .vmem, ⟨22, _⟩ => ⟨S2048x1024, .f32⟩
  | .local _ .vmem, ⟨23, _⟩ => ⟨S704x1024, .f32⟩
  | .local _ .vmem, ⟨24, _⟩ => ⟨S704x1024, .f32⟩
  | .local _ .vmem, ⟨25, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v104 : Index := Scalar.indexCast v1
  let c0_56 : Index := 0#32
  ![v104.toNat, 0]
def k0_off2 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  let c0 : Index := 0#32
  ![v13.toNat, 0]
def k0_cond5 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_48 : BitVec 32 := 0#32
  let v87 : BitVec 1 := Scalar.cmpi .ne v86 c0_i32_48
  v87

def k0_off3 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v91 : Index := Scalar.indexCast v1
  let c0_53 : Index := 0#32
  ![v91.toNat, 0]
def k0_cond4 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_47 : BitVec 32 := 0#32
  let v84 : BitVec 1 := Scalar.cmpi .ne v83 c0_i32_47
  v84

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 1 := Scalar.cmpi .eq arg0 c3_i32
  let v2 : BitVec 1 := Scalar.ori v0 v1
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x352x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceFfnIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S8x352x1024 : Shape := ⟨3, ![8, 352, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S1024x2816, .f32⟩
  | .hbm, ⟨52, _⟩ => ⟨S2816x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2816x1024, .f32⟩
  | .hbm, ⟨57, _⟩ => ⟨S1024x2816, .f32⟩
  | .hbm, ⟨58, _⟩ => ⟨S2048x1024, .f32⟩
  | .hbm, ⟨59, _⟩ => ⟨S2048x2816, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2816x1024, .f32⟩
  | .hbm, ⟨64, _⟩ => ⟨S1024x2816, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2816x1024, .f32⟩
  | .hbm, ⟨94, _⟩ => ⟨S8x352x1024, .f32⟩
  | .hbm, ⟨95, _⟩ => ⟨S8x352x1024, .bf16⟩
  | .hbm, ⟨96, _⟩ => ⟨S2816x1024, .f32⟩
  | .hbm, ⟨97, _⟩ => ⟨S8x352x1024, .f32⟩
  | .hbm, ⟨98, _⟩ => ⟨S8x352x1024, .bf16⟩
  | .hbm, ⟨99, _⟩ => ⟨S8x352x1024, .f32⟩
  | .hbm, ⟨100, _⟩ => ⟨S8x352x1024, .bf16⟩
  | .hbm, ⟨101, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== KernelAttn.lean ====
abbrev S2048x2832 : Shape := ⟨2, ![2048, 2832]⟩
abbrev S8 : Shape := ⟨1, ![8]⟩
abbrev S2048x1024 : Shape := ⟨2, ![2048, 1024]⟩
abbrev S_ : Shape := ⟨0, ![]⟩
abbrev S2048x3072 : Shape := ⟨2, ![2048, 3072]⟩
abbrev S1 : Shape := ⟨1, ![1]⟩
abbrev S8x128 : Shape := ⟨2, ![8, 128]⟩
abbrev S1024 : Shape := ⟨1, ![1024]⟩
abbrev S1024x1 : Shape := ⟨2, ![1024, 1]⟩
abbrev S2048x512 : Shape := ⟨2, ![2048, 512]⟩
abbrev S2048x256 : Shape := ⟨2, ![2048, 256]⟩
abbrev S128x256 : Shape := ⟨2, ![128, 256]⟩
abbrev S128x128 : Shape := ⟨2, ![128, 128]⟩
abbrev S512x1 : Shape := ⟨2, ![512, 1]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S512 : Shape := ⟨1, ![512]⟩
abbrev S64x256 : Shape := ⟨2, ![64, 256]⟩
abbrev S256x256 : Shape := ⟨2, ![256, 256]⟩

abbrev nBuf : Space → Nat
  | .hbm => 35
  | .vmem => 21
  | .smem => 0
  | _ => 0

abbrev bufTy : (tb : Table) → Fin (tcTables nBuf tb) → BufTy
  | .hbm, ⟨0, _⟩ => ⟨S2048x2832, .f32⟩
  | .hbm, ⟨1, _⟩ => ⟨S8, .f32⟩
  | .hbm, ⟨2, _⟩ => ⟨S2048x1024, .f32⟩
  | .hbm, ⟨3, _⟩ => ⟨S_, .i32⟩
  | .hbm, ⟨4, _⟩ => ⟨S_, .f32⟩
  | .hbm, ⟨5, _⟩ => ⟨S2048x3072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S8, .f32⟩
  | .hbm, ⟨23, _⟩ => ⟨S8x128, .f32⟩
  | .hbm, ⟨24, _⟩ => ⟨S1024, .f32⟩
  | .hbm, ⟨25, _⟩ => ⟨S1024x1, .f32⟩
  | .hbm, ⟨26, _⟩ => ⟨S8x128, .f32⟩
  | .hbm, ⟨27, _⟩ => ⟨S1024, .f32⟩
  | .hbm, ⟨28, _⟩ => ⟨S1024x1, .f32⟩
  | .hbm, ⟨29, _⟩ => ⟨S2048x512, .f32⟩
  | .hbm, ⟨30, _⟩ => ⟨S2048x256, .f32⟩
  | .hbm, ⟨31, _⟩ => ⟨S1024x1, .f32⟩
  | .hbm, ⟨32, _⟩ => ⟨S8x128, .f32⟩
  | .hbm, ⟨33, _⟩ => ⟨S_, .f32⟩
  | .hbm, ⟨34, _⟩ => ⟨S8, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S2048x256, .f32⟩
  | .local _ .vmem, ⟨19, _⟩ => ⟨S512x1, .f32⟩
  | .local _ .vmem, ⟨20, _⟩ => ⟨S512x1, .f32⟩
  | _, _ => ⟨S2048x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_cst_4 : Ref sig .tc := ⟨.hbm, 11, rfl⟩
abbrev main_cst_5 : Ref sig .tc := ⟨.hbm, 12, rfl⟩
abbrev main_cst_6 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 16], ![false, false]⟩

def k0_cond4 (i : grid0.Coords) : BitVec 1 :=
  let arg1 : BitVec 32 := BitVec.ofNat 32 (i 1).val
  let c0_i32_82 : BitVec 32 := 0#32
  let v206 : BitVec 1 := Scalar.cmpi .sgt arg1 c0_i32_82
  let v207 : BitVec 32 := Scalar.extui v206
  let c0_i32_83 : BitVec 32 := 0#32
  let v208 : BitVec 1 := Scalar.cmpi .ne v207 c0_i32_83
  v208

def k0_mult1 (i : grid0.Coords) : BitVec 32 :=
  let arg1 : BitVec 32 := BitVec.ofNat 32 (i 1).val
  let c1_i32_84 : BitVec 32 := 1#32
  let v209 : BitVec 32 := Scalar.subi arg1 c1_i32_84
  let c128_i32_85 : BitVec 32 := 128#32
  let v210 : BitVec 32 := Scalar.muli v209 c128_i32_85
  v210
def k0_off1 (i : grid0.Coords) : Fin 2 → Nat :=
  let arg1 : BitVec 32 := BitVec.ofNat 32 (i 1).val
  let c1_i32_84 : BitVec 32 := 1#32
  let v209 : BitVec 32 := Scalar.subi arg1 c1_i32_84
  let c128_i32_85 : BitVec 32 := 128#32
  let v210 : BitVec 32 := Scalar.muli v209 c128_i32_85
  let v211 : BitVec 32 := v210
  let v212 : Index := Scalar.indexCast v211
  let c0_86 : Index := 0#32
  ![v212.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c0_i32_80 : BitVec 32 := 0#32
  let v203 : BitVec 1 := Scalar.cmpi .eq arg1 c0_i32_80
  let v204 : BitVec 32 := Scalar.extui v203
  let c0_i32_81 : BitVec 32 := 0#32
  let v205 : BitVec 1 := Scalar.cmpi .ne v204 c0_i32_81
  v205

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelAttnIdeal.lean ====
variable {F : FTy → Type} [FloatOps F] [Named F]
def κ : String → Option EReal := fun
  | "mask" => some ⊥
  | _ => none
-- ==== ReferenceAttnIdeal.lean ====
abbrev S2048x2832 : Shape := ⟨2, ![2048, 2832]⟩
abbrev S8 : Shape := ⟨1, ![8]⟩
abbrev S2048x1024 : Shape := ⟨2, ![2048, 1024]⟩
abbrev S2048x512 : Shape := ⟨2, ![2048, 512]⟩
abbrev S2048x128 : Shape := ⟨2, ![2048, 128]⟩
abbrev S1x2048x8x64 : Shape := ⟨4, ![1, 2048, 8, 64]⟩
abbrev S1x2048x2x64 : Shape := ⟨4, ![1, 2048, 2, 64]⟩
abbrev S1x16x128x2x4x64 : Shape := ⟨6, ![1, 16, 128, 2, 4, 64]⟩
abbrev S1x16x128x2x64 : Shape := ⟨5, ![1, 16, 128, 2, 64]⟩
abbrev S_ : Shape := ⟨0, ![]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x2x16x256x128x4 : Shape := ⟨6, ![1, 2, 16, 256, 128, 4]⟩
abbrev S1x2x4x16x128x256 : Shape := ⟨6, ![1, 2, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1 : Shape := ⟨1, ![1]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S1x2x4x1x128x256 : Shape := ⟨6, ![1, 2, 4, 1, 128, 256]⟩
abbrev S1x2x4x16x128 : Shape := ⟨5, ![1, 2, 4, 16, 128]⟩
abbrev S1x2x4x16x128x1 : Shape := ⟨6, ![1, 2, 4, 16, 128, 1]⟩
abbrev S1x2x4x1x1x1 : Shape := ⟨6, ![1, 2, 4, 1, 1, 1]⟩
abbrev S1x16x2x64x4x128 : Shape := ⟨6, ![1, 16, 2, 64, 4, 128]⟩
abbrev S1x2048x512 : Shape := ⟨3, ![1, 2048, 512]⟩
abbrev S1x16x2x4x128x256 : Shape := ⟨6, ![1, 16, 2, 4, 128, 256]⟩
abbrev S1x16x2x64x256 : Shape := ⟨5, ![1, 16, 2, 64, 256]⟩
abbrev S1x2x4x1 : Shape := ⟨4, ![1, 2, 4, 1]⟩
abbrev S2x4x16x128 : Shape := ⟨4, ![2, 4, 16, 128]⟩
abbrev S1x2x16x128x4x64 : Shape := ⟨6, ![1, 2, 16, 128, 4, 64]⟩
abbrev S1x2x16x256x64 : Shape := ⟨5, ![1, 2, 16, 256, 64]⟩
abbrev S2048x256 : Shape := ⟨2, ![2048, 256]⟩

abbrev nBuf : Space → Nat
  | .hbm => 244
  | .vmem => 0
  | .smem => 0
  | _ => 0

abbrev hbmTy0_0 (i : Nat) : BufTy := match i % 128 with
  | 0 => ⟨S2048x2832, .f32⟩
  | 1 => ⟨S8, .f32⟩
  | 2 => ⟨S2048x1024, .f32⟩
  | 3 => ⟨S2048x512, .f32⟩
  | 4 => ⟨S2048x128, .f32⟩
  | 5 => ⟨S2048x128, .f32⟩
  | 6 => ⟨S1x2048x8x64, .f32⟩
  | 7 => ⟨S1x2048x2x64, .f32⟩
  | 8 => ⟨S1x2048x2x64, .f32⟩
  | 9 => ⟨S1x16x128x2x4x64, .f32⟩
  | 10 => ⟨S1x16x128x2x64, .f32⟩
  | 11 => ⟨S_, .f32⟩
  | 12 => ⟨S1x1x128x2x64, .f32⟩
  | 13 => ⟨S1x15x128x2x64, .f32⟩
  | 14 => ⟨S1x16x128x2x64, .f32⟩
  | 15 => ⟨S_, .f32⟩
  | 16 => ⟨S1x1x128x2x64, .f32⟩
  | 17 => ⟨S1x16x256x2x64, .f32⟩
  | 18 => ⟨S1x16x128x2x64, .f32⟩
  | 19 => ⟨S_, .f32⟩
  | 20 => ⟨S1x1x128x2x64, .f32⟩
  | 21 => ⟨S1x15x128x2x64, .f32⟩
  | 22 => ⟨S1x16x128x2x64, .f32⟩
  | 23 => ⟨S_, .f32⟩
  | 24 => ⟨S1x1x128x2x64, .f32⟩
  | 25 => ⟨S1x16x256x2x64, .f32⟩
  | 26 => ⟨S1x2x16x256x128x4, .f32⟩
  | 27 => ⟨S1x2x4x16x128x256, .f32⟩
  | 28 => ⟨S_, .f32⟩
  | 29 => ⟨S1x2x4x16x128x256, .f32⟩
  | 30 => ⟨S1x2x4x16x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S16, .i32⟩
  | 42 => ⟨S16x1x1, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S_, .i32⟩
  | 51 => ⟨S16x1x1, .i32⟩
  | 52 => ⟨S16x1x1, .i1⟩
  | 53 => ⟨S_, .i32⟩
  | 54 => ⟨S1x256, .i32⟩
  | 55 => ⟨S1x256, .i1⟩
  | 56 => ⟨S1x1x256, .i1⟩
  | 57 => ⟨S16x1x256, .i1⟩
  | 58 => ⟨S16x1x256, .i1⟩
  | 59 => ⟨S16x1x256, .i1⟩
  | 60 => ⟨S1x128x256, .i1⟩
  | 61 => ⟨S16x128x256, .i1⟩
  | 62 => ⟨S16x128x256, .i1⟩
  | 63 => ⟨S16x128x256, .i1⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S8, .f32⟩
  | 81 => ⟨S2x4, .f32⟩
  | 82 => ⟨S2x4x1x1x1, .f32⟩
  | 83 => ⟨S128x256, .f32⟩
  | 84 => ⟨S1x1x1x128x256, .f32⟩
  | 85 => ⟨S2x4x1x128x256, .f32⟩
  | 86 => ⟨S2x4x1x128x256, .f32⟩
  | 87 => ⟨S2x4x1x128x256, .f32⟩
  | 88 => ⟨S1x2x4x1x128x256, .f32⟩
  | 89 => ⟨S1x2x4x16x128x256, .f32⟩
  | 90 => ⟨S1x2x4x16x128x256, .f32⟩
  | 91 => ⟨S_, .f32⟩
  | 92 => ⟨S_, .f32⟩
  | 93 => ⟨S1x2x4x16x128x256, .i1⟩
  | 94 => ⟨S1x2x4x16x128x256, .f32⟩
  | 95 => ⟨S1x2x4x16x128x256, .f32⟩
  | 96 => ⟨S_, .f32⟩
  | 97 => ⟨S1x2x4x16x128x256, .f32⟩
  | 98 => ⟨S2x4, .f32⟩
  | 99 => ⟨S2x4x1x1x1, .f32⟩
  | 100 => ⟨S_, .f32⟩
  | 101 => ⟨S1x2x4x16x128, .f32⟩
  | 102 => ⟨S1x2x4x16x128x1, .f32⟩
  | 103 => ⟨S1x2x4x16x128x256, .f32⟩
  | 104 => ⟨S1x2x4x16x128x256, .i1⟩
  | 105 => ⟨S1x2x4x16x128x256, .f32⟩
  | 106 => ⟨S_, .f32⟩
  | 107 => ⟨S1x2x4x16x128, .f32⟩
  | 108 => ⟨S1x2x4x16x128x1, .f32⟩
  | 109 => ⟨S1x2x4x1x1x1, .f32⟩
  | 110 => ⟨S1x2x4x16x128x1, .f32⟩
  | 111 => ⟨S1x2x4x16x128x1, .f32⟩
  | 112 => ⟨S1x2x4x16x128x1, .f32⟩
  | 113 => ⟨S1x2x4x16x128x1, .i1⟩
  | 114 => ⟨S1x2x4x16x128x1, .f32⟩
  | 115 => ⟨S1x2x4x16x128x1, .i1⟩
  | 116 => ⟨S_, .f32⟩
  | 117 => ⟨S1x2x4x16x128x1, .f32⟩
  | 118 => ⟨S_, .f32⟩
  | 119 => ⟨S1x2x4x16x128x1, .f32⟩
  | 120 => ⟨S_, .f32⟩
  | 121 => ⟨S1x2x4x16x128x1, .f32⟩
  | 122 => ⟨S1x2x4x16x128x1, .f32⟩
  | 123 => ⟨S1x2x4x16x128x1, .f32⟩
  | 124 => ⟨S1x2x4x16x128x1, .f32⟩
  | 125 => ⟨S1x2x4x16x128x1, .i1⟩
  | 126 => ⟨S1x2x4x16x128x1, .f32⟩
  | 127 => ⟨S1x2x4x16x128x1, .i1⟩
  | _ => ⟨S2048x2832, .f32⟩

abbrev hbmTy0_1 (i : Nat) : BufTy := match i % 128 with
  | 0 => ⟨S_, .f32⟩
  | 1 => ⟨S1x2x4x16x128x1, .f32⟩
  | 2 => ⟨S_, .f32⟩
  | 3 => ⟨S1x2x4x16x128x1, .f32⟩
  | 4 => ⟨S_, .f32⟩
  | 5 => ⟨S1x2x4x16x128x1, .f32⟩
  | 6 => ⟨S1x2x4x16x128x1, .f32⟩
  | 7 => ⟨S1x2x4x16x128x1, .f32⟩
  | 8 => ⟨S1x2x4x16x128x256, .f32⟩
  | 9 => ⟨S1x2x4x16x128x256, .f32⟩
  | 10 => ⟨S1x2x4x16x128x256, .f32⟩
  | 11 => ⟨S_, .f32⟩
  | 12 => ⟨S1x2x4x16x128, .f32⟩
  | 13 => ⟨S1x2x4x16x128x1, .f32⟩
  | 14 => ⟨S1x2x4x1x1x1, .f32⟩
  | 15 => ⟨S1x2x4x16x128x1, .f32⟩
  | 16 => ⟨S1x2x4x16x128x1, .f32⟩
  | 17 => ⟨S1x2x4x16x128x1, .f32⟩
  | 18 => ⟨S1x2x4x16x128x1, .f32⟩
  | 19 => ⟨S1x2x4x16x128x256, .f32⟩
  | 20 => ⟨S1x2x4x16x128x256, .f32⟩
  | 21 => ⟨S1x2x4x16x128x1, .f32⟩
  | 22 => ⟨S_, .f32⟩
  | 23 => ⟨S1x2x4x16x128x1, .f32⟩
  | 24 => ⟨S1x2x4x16x128x1, .f32⟩
  | 25 => ⟨S1x16x2x64x4x128, .f32⟩
  | 26 => ⟨S1x16x128x2x4x64, .f32⟩
  | 27 => ⟨S1x2048x512, .f32⟩
  | 28 => ⟨S2048x512, .f32⟩
  | 29 => ⟨S2048x512, .f32⟩
  | 30 => ⟨S1x2048x512, .f32⟩
  | 31 => ⟨S1x16x128x2x4x64, .f32⟩
  | 32 => ⟨S1x16x2x64x4x128, .f32⟩
  | 33 => ⟨S1x16x2x4x128x256, .f32⟩
  | 34 => ⟨S1x2x4x16x128x256, .f32⟩
  | 35 => ⟨S1x16x2x64x256, .f32⟩
  | 36 => ⟨S1x16x256x2x64, .f32⟩
  | 37 => ⟨S1x2x4x16x128x256, .f32⟩
  | 38 => ⟨S1x2x4x16x128x256, .f32⟩
  | 39 => ⟨S1x2x4x16x128x256, .f32⟩
  | 40 => ⟨S_, .f32⟩
  | 41 => ⟨S1x2x4x16x128, .f32⟩
  | 42 => ⟨S1x2x4x16x128x1, .f32⟩
  | 43 => ⟨S1x2x4x16x128x1, .f32⟩
  | 44 => ⟨S1x2x4x16x128x256, .f32⟩
  | 45 => ⟨S1x2x4x16x128x256, .f32⟩
  | 46 => ⟨S1x2x4x16x128x1, .f32⟩
  | 47 => ⟨S_, .f32⟩
  | 48 => ⟨S1x2x4x1, .f32⟩
  | 49 => ⟨S1x2x4x1x1x1, .f32⟩
  | 50 => ⟨S1x2x4x16x128x1, .f32⟩
  | 51 => ⟨S_, .f32⟩
  | 52 => ⟨S2x4, .f32⟩
  | 53 => ⟨S2x4x1x1x1, .f32⟩
  | 54 => ⟨S_, .f32⟩
  | 55 => ⟨S2x4x16x128, .f32⟩
  | 56 => ⟨S1x2x4x16x128, .f32⟩
  | 57 => ⟨S1x2x4x16x128x256, .f32⟩
  | 58 => ⟨S1x2x4x16x128x256, .f32⟩
  | 59 => ⟨S1x2x4x16x128x256, .f32⟩
  | 60 => ⟨S1x2x4x16x128x256, .f32⟩
  | 61 => ⟨S_, .f32⟩
  | 62 => ⟨S1x2x4x16x128, .f32⟩
  | 63 => ⟨S1x2x4x16x128x1, .f32⟩
  | 64 => ⟨S1x2x4x16x128x1, .f32⟩
  | 65 => ⟨S1x2x4x16x128x1, .f32⟩
  | 66 => ⟨S_, .f32⟩
  | 67 => ⟨S1x2x4x1, .f32⟩
  | 68 => ⟨S1x2x4x1x1x1, .f32⟩
  | 69 => ⟨S1x2x4x16x128x1, .f32⟩
  | 70 => ⟨S_, .f32⟩
  | 71 => ⟨S2x4, .f32⟩
  | 72 => ⟨S2x4x1x1x1, .f32⟩
  | 73 => ⟨S2x4x1x1x1, .f32⟩
  | 74 => ⟨S_, .f32⟩
  | 75 => ⟨S2x4x16x128, .f32⟩
  | 76 => ⟨S1x2x4x16x128, .f32⟩
  | 77 => ⟨S1x2x4x16x128, .f32⟩
  | 78 => ⟨S1x2x4x16x128x256, .f32⟩
  | 79 => ⟨S1x2x4x16x128x256, .f32⟩
  | 80 => ⟨S1x2x4x16x128x256, .f32⟩
  | 81 => ⟨S_, .f32⟩
  | 82 => ⟨S2x4, .f32⟩
  | 83 => ⟨S8, .f32⟩
  | 84 => ⟨S_, .f32⟩
  | 85 => ⟨S1x2x4x16x128x256, .f32⟩
  | 86 => ⟨S1x2x4x16x128x256, .f32⟩
  | 87 => ⟨S_, .f32⟩
  | 88 => ⟨S1x2x4x16x128x256, .f32⟩
  | 89 => ⟨S1x2x4x16x128x256, .f32⟩
  | 90 => ⟨S1x2x16x256x128x4, .f32⟩
  | 91 => ⟨S1x2x16x128x4x64, .f32⟩
  | 92 => ⟨S1x16x128x2x4x64, .f32⟩
  | 93 => ⟨S1x2x16x256x64, .f32⟩
  | 94 => ⟨S1x16x256x2x64, .f32⟩
  | 95 => ⟨S1x16x128x2x64, .f32⟩
  | 96 => ⟨S1x16x128x2x64, .f32⟩
  | 97 => ⟨S1x1x128x2x64, .f32⟩
  | 98 => ⟨S1x15x128x2x64, .f32⟩
  | 99 => ⟨S_, .f32⟩
  | 100 => ⟨S1x16x128x2x64, .f32⟩
  | 101 => ⟨S1x16x128x2x64, .f32⟩
  | 102 => ⟨S1x2048x2x64, .f32⟩
  | 103 => ⟨S1x16x128x2x64, .f32⟩
  | 104 => ⟨S1x16x128x2x64, .f32⟩
  | 105 => ⟨S1x1x128x2x64, .f32⟩
  | 106 => ⟨S1x15x128x2x64, .f32⟩
  | 107 => ⟨S_, .f32⟩
  | 108 => ⟨S1x16x128x2x64, .f32⟩
  | 109 => ⟨S1x16x128x2x64, .f32⟩
  | 110 => ⟨S1x2048x2x64, .f32⟩
  | 111 => ⟨S1x2048x8x64, .f32⟩
  | 112 => ⟨S2048x128, .f32⟩
  | 113 => ⟨S2048x128, .f32⟩
  | 114 => ⟨S2048x512, .f32⟩
  | 115 => ⟨S2048x256, .f32⟩
  | _ => ⟨S2048x2832, .f32⟩

abbrev hbmTy (i : Nat) : BufTy := match i / 128 with
  | 0 => hbmTy0_0 i
  | 1 => hbmTy0_1 i
  | _ => ⟨S2048x2832, .f32⟩

abbrev bufTy : (tb : Table) → Fin (tcTables nBuf tb) → BufTy
  | .hbm, ⟨i, _⟩ => hbmTy i
  | _, _ => ⟨S2048x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_cst_9 : Ref sig .tc := ⟨.hbm, 65, rfl⟩
abbrev main_cst_10 : Ref sig .tc := ⟨.hbm, 66, rfl⟩
abbrev main_cst_11 : Ref sig .tc := ⟨.hbm, 67, rfl⟩
abbrev main_cst_12 : Ref sig .tc := ⟨.hbm, 68, rfl⟩
abbrev main_cst_13 : Ref sig .tc := ⟨.hbm, 69, rfl⟩
abbrev main_cst_14 : Ref sig .tc := ⟨.hbm, 70, rfl⟩
abbrev main_cst_15 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_16 : Ref sig .tc := ⟨.hbm, 91, rfl⟩
abbrev main_call0_v0 : Ref sig .tc := ⟨.hbm, 92, rfl⟩
abbrev main_v70_1 : Ref sig .tc := ⟨.hbm, 93, rfl⟩
abbrev main_call0_v2 : Ref sig .tc := ⟨.hbm, 94, rfl⟩
abbrev main_v70_0 : Ref sig .tc := ⟨.hbm, 95, rfl⟩
abbrev main_call0_cst : Ref sig .tc := ⟨.hbm, 96, rfl⟩
abbrev main_v70_2 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_22 : Ref sig .tc := ⟨.hbm, 128, rfl⟩
abbrev main_v96 : Ref sig .tc := ⟨.hbm, 129, rfl⟩
abbrev main_cst_23 : Ref sig .tc := ⟨.hbm, 130, rfl⟩
abbrev main_v97 : Ref sig .tc := ⟨.hbm, 131, rfl⟩
abbrev main_cst_24 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_26 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_27 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_28 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_29 : Ref sig .tc := ⟨.hbm, 179, rfl⟩
abbrev main_v140 : Ref sig .tc := ⟨.hbm, 180, rfl⟩
abbrev main_v141 : Ref sig .tc := ⟨.hbm, 181, rfl⟩
abbrev main_cst_30 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_31 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_32 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_33 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_34 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_cst_35 : Ref sig .tc := ⟨.hbm, 209, rfl⟩
abbrev main_v164 : Ref sig .tc := ⟨.hbm, 210, rfl⟩
abbrev main_v165 : Ref sig .tc := ⟨.hbm, 211, rfl⟩
abbrev main_call1_cst : Ref sig .tc := ⟨.hbm, 212, rfl⟩
abbrev main_call1_v0 : Ref sig .tc := ⟨.hbm, 213, rfl⟩
abbrev main_v166 : Ref sig .tc := ⟨.hbm, 214, rfl⟩
abbrev main_cst_36 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_cst_37 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_38 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩

abbrev nD : Nat := 1
abbrev τ : Topo := Topo.v7x

variable {F : FTy → Type} [FloatOps F]
-- ==== KernelCv.lean ====
abbrev S2048x2048 : Shape := ⟨2, ![2048, 2048]⟩
abbrev S31x1024 : Shape := ⟨2, ![31, 1024]⟩
abbrev S1024 : Shape := ⟨1, ![1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S31x1x1024 : Shape := ⟨3, ![31, 1, 1024]⟩
abbrev S1x2048x1024 : Shape := ⟨3, ![1, 2048, 1024]⟩
abbrev S16x2048x1024 : Shape := ⟨3, ![16, 2048, 1024]⟩
abbrev S15x2048x1024 : Shape := ⟨3, ![15, 2048, 1024]⟩
abbrev S31x2048x1024 : Shape := ⟨3, ![31, 2048, 1024]⟩
abbrev S1x1024 : Shape := ⟨2, ![1, 1024]⟩
abbrev S256x1024 : Shape := ⟨2, ![256, 1024]⟩
abbrev S32x1024 : Shape := ⟨2, ![32, 1024]⟩
abbrev S288x1024 : Shape := ⟨2, ![288, 1024]⟩
abbrev S256 : Shape := ⟨1, ![256]⟩
abbrev S256x1 : Shape := ⟨2, ![256, 1]⟩
abbrev S280x1024 : Shape := ⟨2, ![280, 1024]⟩
abbrev S272x1024 : Shape := ⟨2, ![272, 1024]⟩

abbrev nBuf : Space → Nat
  | .hbm => 102
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S30x1024, .f32⟩
  | .hbm, ⟨19, _⟩ => ⟨S2078x1024, .f32⟩
  | .hbm, ⟨20, _⟩ => ⟨S31x1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x2048x1024, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S1x2048x1024, .f32⟩
  | .hbm, ⟨65, _⟩ => ⟨S1x2048x1024, .f32⟩
  | .hbm, ⟨66, _⟩ => ⟨S1x2048x1024, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x2048x1024, .f32⟩
  | .hbm, ⟨80, _⟩ => ⟨S1x2048x1024, .f32⟩
  | .hbm, ⟨81, _⟩ => ⟨S1x2048x1024, .f32⟩
  | .hbm, ⟨82, _⟩ => ⟨S1x2048x1024, .f32⟩
  | .hbm, ⟨83, _⟩ => ⟨S16x2048x1024, .f32⟩
  | .hbm, ⟨84, _⟩ => ⟨S15x2048x1024, .f32⟩
  | .hbm, ⟨85, _⟩ => ⟨S31x2048x1024, .f32⟩
  | .hbm, ⟨86, _⟩ => ⟨S31x2048x1024, .f32⟩
  | .hbm, ⟨87, _⟩ => ⟨S31x2048x1024, .f32⟩
  | .hbm, ⟨88, _⟩ => ⟨S_, .f32⟩
  | .hbm, ⟨89, _⟩ => ⟨S2048x1024, .f32⟩
  | .hbm, ⟨90, _⟩ => ⟨S1x1024, .f32⟩
  | .hbm, ⟨91, _⟩ => ⟨S2048x1024, .f32⟩
  | .hbm, ⟨92, _⟩ => ⟨S2048x1024, .f32⟩
  | .hbm, ⟨93, _⟩ => ⟨S1x1024, .f32⟩
  | .hbm, ⟨94, _⟩ => ⟨S1x1024, .f32⟩
  | .hbm, ⟨95, _⟩ => ⟨S2048x1024, .f32⟩
  | .hbm, ⟨96, _⟩ => ⟨S2048x1024, .f32⟩
  | .hbm, ⟨97, _⟩ => ⟨S31x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .f32⟩
  | .local _ .vmem, ⟨9, _⟩ => ⟨S256x1024, .f32⟩
  | .local _ .vmem, ⟨10, _⟩ => ⟨S31x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S31x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S288x1024, .f32⟩
  | .local _ .vmem, ⟨24, _⟩ => ⟨S288x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_2 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85_0 : Ref sig .tc := ⟨.hbm, 95, rfl⟩
abbrev main_v85_1 : Ref sig .tc := ⟨.hbm, 96, rfl⟩
abbrev main_v85_2 : Ref sig .tc := ⟨.hbm, 97, rfl⟩
abbrev main_v85_3 : Ref sig .tc := ⟨.hbm, 98, rfl⟩
abbrev main_v85_4 : Ref sig .tc := ⟨.hbm, 99, rfl⟩
abbrev main_v85_5 : Ref sig .tc := ⟨.hbm, 100, rfl⟩
abbrev main_v86 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S31x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceCvIdeal.lean ====
abbrev S2048x2048 : Shape := ⟨2, ![2048, 2048]⟩
abbrev S31x1024 : Shape := ⟨2, ![31, 1024]⟩
abbrev S1024 : Shape := ⟨1, ![1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S31x1x1024 : Shape := ⟨3, ![31, 1, 1024]⟩
abbrev S1x2048x1024 : Shape := ⟨3, ![1, 2048, 1024]⟩
abbrev S16x2048x1024 : Shape := ⟨3, ![16, 2048, 1024]⟩
abbrev S15x2048x1024 : Shape := ⟨3, ![15, 2048, 1024]⟩
abbrev S31x2048x1024 : Shape := ⟨3, ![31, 2048, 1024]⟩
abbrev S1x1024 : Shape := ⟨2, ![1, 1024]⟩
abbrev S2048 : Shape := ⟨1, ![2048]⟩
abbrev S2048x1 : Shape := ⟨2, ![2048, 1]⟩

abbrev nBuf : Space → Nat
  | .hbm => 369
  | .vmem => 0
  | .smem => 0
  | _ => 0

abbrev hbmTy0_0 (i : Nat) : BufTy := match i % 128 with
  | 0 => ⟨S2048x2048, .f32⟩
  | 1 => ⟨S31x1024, .f32⟩
  | 2 => ⟨S1024, .f32⟩
  | 3 => ⟨S1024, .f32⟩
  | 4 => ⟨S1024, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S30x1024, .f32⟩
  | 23 => ⟨S2078x1024, .f32⟩
  | 24 => ⟨S_, .f32⟩
  | 25 => ⟨S30x1024, .f32⟩
  | 26 => ⟨S31x1x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S1x2048x1024, .f32⟩
  | 59 => ⟨S1x2048x1024, .f32⟩
  | 60 => ⟨S1x2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S1x2048x1024, .f32⟩
  | 68 => ⟨S1x2048x1024, .f32⟩
  | 69 => ⟨S1x2048x1024, .f32⟩
  | 70 => ⟨S1x2048x1024, .f32⟩
  | 71 => ⟨S1x2048x1024, .f32⟩
  | 72 => ⟨S1x2048x1024, .f32⟩
  | 73 => ⟨S1x2048x1024, .f32⟩
  | 74 => ⟨S1x2048x1024, .f32⟩
  | 75 => ⟨S1x2048x1024, .f32⟩
  | 76 => ⟨S1x2048x1024, .f32⟩
  | 77 => ⟨S1x2048x1024, .f32⟩
  | 78 => ⟨S1x2048x1024, .f32⟩
  | 79 => ⟨S1x2048x1024, .f32⟩
  | 80 => ⟨S1x2048x1024, .f32⟩
  | 81 => ⟨S1x2048x1024, .f32⟩
  | 82 => ⟨S1x2048x1024, .f32⟩
  | 83 => ⟨S1x2048x1024, .f32⟩
  | 84 => ⟨S1x2048x1024, .f32⟩
  | 85 => ⟨S1x2048x1024, .f32⟩
  | 86 => ⟨S1x2048x1024, .f32⟩
  | 87 => ⟨S1x2048x1024, .f32⟩
  | 88 => ⟨S1x2048x1024, .f32⟩
  | 89 => ⟨S16x2048x1024, .f32⟩
  | 90 => ⟨S15x2048x1024, .f32⟩
  | 91 => ⟨S31x2048x1024, .f32⟩
  | 92 => ⟨S31x2048x1024, .f32⟩
  | 93 => ⟨S31x2048x1024, .f32⟩
  | 94 => ⟨S_, .f32⟩
  | 95 => ⟨S2048x1024, .f32⟩
  | 96 => ⟨S1x1024, .f32⟩
  | 97 => ⟨S2048x1024, .f32⟩
  | 98 => ⟨S2048x1024, .f32⟩
  | 99 => ⟨S_, .f32⟩
  | 100 => ⟨S2048, .f32⟩
  | 101 => ⟨S2048x1, .f32⟩
  | 102 => ⟨S_, .f32⟩
  | 103 => ⟨S2048x1, .f32⟩
  | 104 => ⟨S2048x1, .f32⟩
  | 105 => ⟨S2048x1024, .f32⟩
  | 106 => ⟨S2048x1024, .f32⟩
  | 107 => ⟨S2048x1024, .f32⟩
  | 108 => ⟨S_, .f32⟩
  | 109 => ⟨S2048, .f32⟩
  | 110 => ⟨S2048x1, .f32⟩
  | 111 => ⟨S_, .f32⟩
  | 112 => ⟨S2048x1, .f32⟩
  | 113 => ⟨S2048x1, .f32⟩
  | 114 => ⟨S_, .f32⟩
  | 115 => ⟨S2048x1, .f32⟩
  | 116 => ⟨S2048x1, .f32⟩
  | 117 => ⟨S2048x1, .f32⟩
  | 118 => ⟨S2048x1, .f32⟩
  | 119 => ⟨S_, .f32⟩
  | 120 => ⟨S2048x1, .f32⟩
  | 121 => ⟨S2048x1, .f32⟩
  | 122 => ⟨S2048x1024, .f32⟩
  | 123 => ⟨S2048x1024, .f32⟩
  | 124 => ⟨S1x1024, .f32⟩
  | 125 => ⟨S2048x1024, .f32⟩
  | 126 => ⟨S2048x1024, .f32⟩
  | 127 => ⟨S1x1024, .f32⟩
  | _ => ⟨S2048x2048, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S_, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S2048x1024, .f32⟩
  | 25 => ⟨S_, .f32⟩
  | 26 => ⟨S1024, .f32⟩
  | 27 => ⟨S1x1024, .f32⟩
  | 28 => ⟨S2048x1024, .f32⟩
  | 29 => ⟨S2048x1024, .f32⟩
  | 30 => ⟨S_, .f32⟩
  | 31 => ⟨S1024, .f32⟩
  | 32 => ⟨S2048x1024, .f32⟩
  | 33 => ⟨S_, .f32⟩
  | 34 => ⟨S2048, .f32⟩
  | 35 => ⟨S2048x1, .f32⟩
  | 36 => ⟨S2048x1024, .f32⟩
  | 37 => ⟨S2048x1024, .f32⟩
  | 38 => ⟨S2048x1, .f32⟩
  | 39 => ⟨S_, .f32⟩
  | 40 => ⟨S2048x1, .f32⟩
  | 41 => ⟨S2048x1, .f32⟩
  | 42 => ⟨S_, .f32⟩
  | 43 => ⟨S2048, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S_, .f32⟩
  | 57 => ⟨S2048, .f32⟩
  | 58 => ⟨S2048x1024, .f32⟩
  | 59 => ⟨S2048x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S31x2048x1024, .f32⟩
  | 66 => ⟨S31x2048x1024, .f32⟩
  | 67 => ⟨S31x2048x1024, .f32⟩
  | 68 => ⟨S31x2048x1024, .f32⟩
  | 69 => ⟨S_, .f32⟩
  | 70 => ⟨S31x1024, .f32⟩
  | 71 => ⟨S31x1x1024, .f32⟩
  | 72 => ⟨S1x2048x1024, .f32⟩
  | 73 => ⟨S2048x1024, .f32⟩
  | 74 => ⟨S1x2048x1024, .f32⟩
  | 75 => ⟨S2048x1024, .f32⟩
  | 76 => ⟨S1x2048x1024, .f32⟩
  | 77 => ⟨S2048x1024, .f32⟩
  | 78 => ⟨S1x2048x1024, .f32⟩
  | 79 => ⟨S2048x1024, .f32⟩
  | 80 => ⟨S1x2048x1024, .f32⟩
  | 81 => ⟨S2048x1024, .f32⟩
  | 82 => ⟨S1x2048x1024, .f32⟩
  | 83 => ⟨S2048x1024, .f32⟩
  | 84 => ⟨S1x2048x1024, .f32⟩
  | 85 => ⟨S2048x1024, .f32⟩
  | 86 => ⟨S1x2048x1024, .f32⟩
  | 87 => ⟨S2048x1024, .f32⟩
  | 88 => ⟨S1x2048x1024, .f32⟩
  | 89 => ⟨S2048x1024, .f32⟩
  | 90 => ⟨S1x2048x1024, .f32⟩
  | 91 => ⟨S2048x1024, .f32⟩
  | 92 => ⟨S1x2048x1024, .f32⟩
  | 93 => ⟨S2048x1024, .f32⟩
  | 94 => ⟨S1x2048x1024, .f32⟩
  | 95 => ⟨S2048x1024, .f32⟩
  | 96 => ⟨S1x2048x1024, .f32⟩
  | 97 => ⟨S2048x1024, .f32⟩
  | 98 => ⟨S1x2048x1024, .f32⟩
  | 99 => ⟨S2048x1024, .f32⟩
  | 100 => ⟨S1x2048x1024, .f32⟩
  | 101 => ⟨S2048x1024, .f32⟩
  | 102 => ⟨S1x2048x1024, .f32⟩
  | 103 => ⟨S2048x1024, .f32⟩
  | 104 => ⟨S1x2048x1024, .f32⟩
  | 105 => ⟨S2048x1024, .f32⟩
  | 106 => ⟨S1x2048x1024, .f32⟩
  | 107 => ⟨S2048x1024, .f32⟩
  | 108 => ⟨S1x2048x1024, .f32⟩
  | 109 => ⟨S2048x1024, .f32⟩
  | 110 => ⟨S1x2048x1024, .f32⟩
  | 111 => ⟨S2048x1024, .f32⟩
  | 112 => ⟨S1x2048x1024, .f32⟩
  | 113 => ⟨S2048x1024, .f32⟩
  | 114 => ⟨S1x2048x1024, .f32⟩
  | 115 => ⟨S2048x1024, .f32⟩
  | 116 => ⟨S1x2048x1024, .f32⟩
  | 117 => ⟨S2048x1024, .f32⟩
  | 118 => ⟨S1x2048x1024, .f32⟩
  | 119 => ⟨S2048x1024, .f32⟩
  | 120 => ⟨S1x2048x1024, .f32⟩
  | 121 => ⟨S2048x1024, .f32⟩
  | 122 => ⟨S1x2048x1024, .f32⟩
  | 123 => ⟨S2048x1024, .f32⟩
  | 124 => ⟨S1x2048x1024, .f32⟩
  | 125 => ⟨S2048x1024, .f32⟩
  | 126 => ⟨S1x2048x1024, .f32⟩
  | 127 => ⟨S2048x1024, .f32⟩
  | _ => ⟨S2048x2048, .f32⟩

abbrev hbmTy0_2 (i : Nat) : BufTy := match i % 128 with
  | 0 => ⟨S1x2048x1024, .f32⟩
  | 1 => ⟨S2048x1024, .f32⟩
  | 2 => ⟨S1x2048x1024, .f32⟩
  | 3 => ⟨S2048x1024, .f32⟩
  | 4 => ⟨S1x2048x1024, .f32⟩
  | 5 => ⟨S2048x1024, .f32⟩
  | 6 => ⟨S_, .f32⟩
  | 7 => ⟨S2078x1024, .f32⟩
  | 8 => ⟨S_, .f32⟩
  | 9 => ⟨S2078x1024, .f32⟩
  | 10 => ⟨S2078x1024, .f32⟩
  | 11 => ⟨S_, .f32⟩
  | 12 => ⟨S2078x1024, .f32⟩
  | 13 => ⟨S2078x1024, .f32⟩
  | 14 => ⟨S_, .f32⟩
  | 15 => ⟨S2078x1024, .f32⟩
  | 16 => ⟨S2078x1024, .f32⟩
  | 17 => ⟨S_, .f32⟩
  | 18 => ⟨S2078x1024, .f32⟩
  | 19 => ⟨S2078x1024, .f32⟩
  | 20 => ⟨S_, .f32⟩
  | 21 => ⟨S2078x1024, .f32⟩
  | 22 => ⟨S2078x1024, .f32⟩
  | 23 => ⟨S_, .f32⟩
  | 24 => ⟨S2078x1024, .f32⟩
  | 25 => ⟨S2078x1024, .f32⟩
  | 26 => ⟨S_, .f32⟩
  | 27 => ⟨S2078x1024, .f32⟩
  | 28 => ⟨S2078x1024, .f32⟩
  | 29 => ⟨S_, .f32⟩
  | 30 => ⟨S2078x1024, .f32⟩
  | 31 => ⟨S2078x1024, .f32⟩
  | 32 => ⟨S_, .f32⟩
  | 33 => ⟨S2078x1024, .f32⟩
  | 34 => ⟨S2078x1024, .f32⟩
  | 35 => ⟨S_, .f32⟩
  | 36 => ⟨S2078x1024, .f32⟩
  | 37 => ⟨S2078x1024, .f32⟩
  | 38 => ⟨S_, .f32⟩
  | 39 => ⟨S2078x1024, .f32⟩
  | 40 => ⟨S2078x1024, .f32⟩
  | 41 => ⟨S_, .f32⟩
  | 42 => ⟨S2078x1024, .f32⟩
  | 43 => ⟨S2078x1024, .f32⟩
  | 44 => ⟨S_, .f32⟩
  | 45 => ⟨S2078x1024, .f32⟩
  | 46 => ⟨S2078x1024, .f32⟩
  | 47 => ⟨S_, .f32⟩
  | 48 => ⟨S2078x1024, .f32⟩
  | 49 => ⟨S2078x1024, .f32⟩
  | 50 => ⟨S_, .f32⟩
  | 51 => ⟨S2078x1024, .f32⟩
  | 52 => ⟨S2078x1024, .f32⟩
  | 53 => ⟨S_, .f32⟩
  | 54 => ⟨S2078x1024, .f32⟩
  | 55 => ⟨S2078x1024, .f32⟩
  | 56 => ⟨S_, .f32⟩
  | 57 => ⟨S2078x1024, .f32⟩
  | 58 => ⟨S2078x1024, .f32⟩
  | 59 => ⟨S_, .f32⟩
  | 60 => ⟨S2078x1024, .f32⟩
  | 61 => ⟨S2078x1024, .f32⟩
  | 62 => ⟨S_, .f32⟩
  | 63 => ⟨S2078x1024, .f32⟩
  | 64 => ⟨S2078x1024, .f32⟩
  | 65 => ⟨S_, .f32⟩
  | 66 => ⟨S2078x1024, .f32⟩
  | 67 => ⟨S2078x1024, .f32⟩
  | 68 => ⟨S_, .f32⟩
  | 69 => ⟨S2078x1024, .f32⟩
  | 70 => ⟨S2078x1024, .f32⟩
  | 71 => ⟨S_, .f32⟩
  | 72 => ⟨S2078x1024, .f32⟩
  | 73 => ⟨S2078x1024, .f32⟩
  | 74 => ⟨S_, .f32⟩
  | 75 => ⟨S2078x1024, .f32⟩
  | 76 => ⟨S2078x1024, .f32⟩
  | 77 => ⟨S_, .f32⟩
  | 78 => ⟨S2078x1024, .f32⟩
  | 79 => ⟨S2078x1024, .f32⟩
  | 80 => ⟨S_, .f32⟩
  | 81 => ⟨S2078x1024, .f32⟩
  | 82 => ⟨S2078x1024, .f32⟩
  | 83 => ⟨S_, .f32⟩
  | 84 => ⟨S2078x1024, .f32⟩
  | 85 => ⟨S2078x1024, .f32⟩
  | 86 => ⟨S_, .f32⟩
  | 87 => ⟨S2078x1024, .f32⟩
  | 88 => ⟨S2078x1024, .f32⟩
  | 89 => ⟨S_, .f32⟩
  | 90 => ⟨S2078x1024, .f32⟩
  | 91 => ⟨S2078x1024, .f32⟩
  | 92 => ⟨S_, .f32⟩
  | 93 => ⟨S2078x1024, .f32⟩
  | 94 => ⟨S2078x1024, .f32⟩
  | 95 => ⟨S_, .f32⟩
  | 96 => ⟨S2078x1024, .f32⟩
  | 97 => ⟨S2078x1024, .f32⟩
  | 98 => ⟨S_, .f32⟩
  | 99 => ⟨S31x1024, .f32⟩
  | 100 => ⟨S30x1024, .f32⟩
  | 101 => ⟨S2048x1024, .f32⟩
  | 102 => ⟨S2048x1024, .f32⟩
  | 103 => ⟨S2048x1024, .f32⟩
  | 104 => ⟨S2048x1024, .f32⟩
  | 105 => ⟨S_, .f32⟩
  | 106 => ⟨S2048x2048, .f32⟩
  | 107 => ⟨S_, .f32⟩
  | 108 => ⟨S2048x2048, .f32⟩
  | 109 => ⟨S2048x2048, .f32⟩
  | 110 => ⟨S1x1024, .f32⟩
  | 111 => ⟨S1x1024, .f32⟩
  | 112 => ⟨S1x1024, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_4 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_5 : Ref sig .tc := ⟨.hbm, 99, rfl⟩
abbrev main_v87 : Ref sig .tc := ⟨.hbm, 100, rfl⟩
abbrev main_v88 : Ref sig .tc := ⟨.hbm, 101, rfl⟩
abbrev main_cst_6 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_7 : Ref sig .tc := ⟨.hbm, 108, rfl⟩
abbrev main_v94 : Ref sig .tc := ⟨.hbm, 109, rfl⟩
abbrev main_v95 : Ref sig .tc := ⟨.hbm, 110, rfl⟩
abbrev main_cst_8 : Ref sig .tc := ⟨.hbm, 111, rfl⟩
abbrev main_v96 : Ref sig .tc := ⟨.hbm, 112, rfl⟩
abbrev main_v97 : Ref sig .tc := ⟨.hbm, 113, rfl⟩
abbrev main_cst_9 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_v112_2 : Ref sig .tc := ⟨.hbm, 137, rfl⟩
abbrev main_call0_cst_1 : Ref sig .tc := ⟨.hbm, 138, rfl⟩
abbrev main_call0_v6 : Ref sig .tc := ⟨.hbm, 139, rfl⟩
abbrev main_call0_v7 : Ref sig .tc := ⟨.hbm, 140, rfl⟩
abbrev main_v112_1 : Ref sig .tc := ⟨.hbm, 141, rfl⟩
abbrev main_v112_0 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_v113 : Ref sig .tc := ⟨.hbm, 146, rfl⟩
abbrev main_cst_11 : Ref sig .tc := ⟨.hbm, 147, rfl⟩
abbrev main_v114 : Ref sig .tc := ⟨.hbm, 148, rfl⟩
abbrev main_v115 : Ref sig .tc := ⟨.hbm, 149, rfl⟩
abbrev main_cst_12 : Ref sig .tc := ⟨.hbm, 150, rfl⟩
abbrev main_v116 : Ref sig .tc := ⟨.hbm, 151, rfl⟩
abbrev main_v117 : Ref sig .tc := ⟨.hbm, 152, rfl⟩
abbrev main_cst_13 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_14 : Ref sig .tc := ⟨.hbm, 158, rfl⟩
abbrev main_v122 : Ref sig .tc := ⟨.hbm, 159, rfl⟩
abbrev main_v123 : Ref sig .tc := ⟨.hbm, 160, rfl⟩
abbrev main_cst_15 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_16 : Ref sig .tc := ⟨.hbm, 167, rfl⟩
abbrev main_v129 : Ref sig .tc := ⟨.hbm, 168, rfl⟩
abbrev main_v130 : Ref sig .tc := ⟨.hbm, 169, rfl⟩
abbrev main_cst_17 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_18 : Ref sig .tc := ⟨.hbm, 178, rfl⟩
abbrev main_v138 : Ref sig .tc := ⟨.hbm, 179, rfl⟩
abbrev main_v139 : Ref sig .tc := ⟨.hbm, 180, rfl⟩
abbrev main_cst_19 : Ref sig .tc := ⟨.hbm, 181, rfl⟩
abbrev main_v140 : Ref sig .tc := ⟨.hbm, 182, rfl⟩
abbrev main_v141 : Ref sig .tc := ⟨.hbm, 183, rfl⟩
abbrev main_cst_20 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_21 : Ref sig .tc := ⟨.hbm, 188, rfl⟩
abbrev main_v145 : Ref sig .tc := ⟨.hbm, 189, rfl⟩
abbrev main_v146 : Ref sig .tc := ⟨.hbm, 190, rfl⟩
abbrev main_cst_22 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_23 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_24 : Ref sig .tc := ⟨.hbm, 262, rfl⟩
abbrev main_v216 : Ref sig .tc := ⟨.hbm, 263, rfl⟩
abbrev main_cst_25 : Ref sig .tc := ⟨.hbm, 264, rfl⟩
abbrev main_v217 : Ref sig .tc := ⟨.hbm, 265, rfl⟩
abbrev main_v218 : Ref sig .tc := ⟨.hbm, 266, rfl⟩
abbrev main_cst_26 : Ref sig .tc := ⟨.hbm, 267, rfl⟩
abbrev main_v219 : Ref sig .tc := ⟨.hbm, 268, rfl⟩
abbrev main_v220 : Ref sig .tc := ⟨.hbm, 269, rfl⟩
abbrev main_cst_27 : Ref sig .tc := ⟨.hbm, 270, rfl⟩
abbrev main_v221 : Ref sig .tc := ⟨.hbm, 271, rfl⟩
abbrev main_v222 : Ref sig .tc := ⟨.hbm, 272, rfl⟩
abbrev main_cst_28 : Ref sig .tc := ⟨.hbm, 273, rfl⟩
abbrev main_v223 : Ref sig .tc := ⟨.hbm, 274, rfl⟩
abbrev main_v224 : Ref sig .tc := ⟨.hbm, 275, rfl⟩
abbrev main_cst_29 : Ref sig .tc := ⟨.hbm, 276, rfl⟩
abbrev main_v225 : Ref sig .tc := ⟨.hbm, 277, rfl⟩
abbrev main_v226 : Ref sig .tc := ⟨.hbm, 278, rfl⟩
abbrev main_cst_30 : Ref sig .tc := ⟨.hbm, 279, rfl⟩
abbrev main_v227 : Ref sig .tc := ⟨.hbm, 280, rfl⟩
abbrev main_v228 : Ref sig .tc := ⟨.hbm, 281, rfl⟩
abbrev main_cst_31 : Ref sig .tc := ⟨.hbm, 282, rfl⟩
abbrev main_v229 : Ref sig .tc := ⟨.hbm, 283, rfl⟩
abbrev main_v230 : Ref sig .tc := ⟨.hbm, 284, rfl⟩
abbrev main_cst_32 : Ref sig .tc := ⟨.hbm, 285, rfl⟩
abbrev main_v231 : Ref sig .tc := ⟨.hbm, 286, rfl⟩
abbrev main_v232 : Ref sig .tc := ⟨.hbm, 287, rfl⟩
abbrev main_cst_33 : Ref sig .tc := ⟨.hbm, 288, rfl⟩
abbrev main_v233 : Ref sig .tc := ⟨.hbm, 289, rfl⟩
abbrev main_v234 : Ref sig .tc := ⟨.hbm, 290, rfl⟩
abbrev main_cst_34 : Ref sig .tc := ⟨.hbm, 291, rfl⟩
abbrev main_v235 : Ref sig .tc := ⟨.hbm, 292, rfl⟩
abbrev main_v236 : Ref sig .tc := ⟨.hbm, 293, rfl⟩
abbrev main_cst_35 : Ref sig .tc := ⟨.hbm, 294, rfl⟩
abbrev main_v237 : Ref sig .tc := ⟨.hbm, 295, rfl⟩
abbrev main_v238 : Ref sig .tc := ⟨.hbm, 296, rfl⟩
abbrev main_cst_36 : Ref sig .tc := ⟨.hbm, 297, rfl⟩
abbrev main_v239 : Ref sig .tc := ⟨.hbm, 298, rfl⟩
abbrev main_v240 : Ref sig .tc := ⟨.hbm, 299, rfl⟩
abbrev main_cst_37 : Ref sig .tc := ⟨.hbm, 300, rfl⟩
abbrev main_v241 : Ref sig .tc := ⟨.hbm, 301, rfl⟩
abbrev main_v242 : Ref sig .tc := ⟨.hbm, 302, rfl⟩
abbrev main_cst_38 : Ref sig .tc := ⟨.hbm, 303, rfl⟩
abbrev main_v243 : Ref sig .tc := ⟨.hbm, 304, rfl⟩
abbrev main_v244 : Ref sig .tc := ⟨.hbm, 305, rfl⟩
abbrev main_cst_39 : Ref sig .tc := ⟨.hbm, 306, rfl⟩
abbrev main_v245 : Ref sig .tc := ⟨.hbm, 307, rfl⟩
abbrev main_v246 : Ref sig .tc := ⟨.hbm, 308, rfl⟩
abbrev main_cst_40 : Ref sig .tc := ⟨.hbm, 309, rfl⟩
abbrev main_v247 : Ref sig .tc := ⟨.hbm, 310, rfl⟩
abbrev main_v248 : Ref sig .tc := ⟨.hbm, 311, rfl⟩
abbrev main_cst_41 : Ref sig .tc := ⟨.hbm, 312, rfl⟩
abbrev main_v249 : Ref sig .tc := ⟨.hbm, 313, rfl⟩
abbrev main_v250 : Ref sig .tc := ⟨.hbm, 314, rfl⟩
abbrev main_cst_42 : Ref sig .tc := ⟨.hbm, 315, rfl⟩
abbrev main_v251 : Ref sig .tc := ⟨.hbm, 316, rfl⟩
abbrev main_v252 : Ref sig .tc := ⟨.hbm, 317, rfl⟩
abbrev main_cst_43 : Ref sig .tc := ⟨.hbm, 318, rfl⟩
abbrev main_v253 : Ref sig .tc := ⟨.hbm, 319, rfl⟩
abbrev main_v254 : Ref sig .tc := ⟨.hbm, 320, rfl⟩
abbrev main_cst_44 : Ref sig .tc := ⟨.hbm, 321, rfl⟩
abbrev main_v255 : Ref sig .tc := ⟨.hbm, 322, rfl⟩
abbrev main_v256 : Ref sig .tc := ⟨.hbm, 323, rfl⟩
abbrev main_cst_45 : Ref sig .tc := ⟨.hbm, 324, rfl⟩
abbrev main_v257 : Ref sig .tc := ⟨.hbm, 325, rfl⟩
abbrev main_v258 : Ref sig .tc := ⟨.hbm, 326, rfl⟩
abbrev main_cst_46 : Ref sig .tc := ⟨.hbm, 327, rfl⟩
abbrev main_v259 : Ref sig .tc := ⟨.hbm, 328, rfl⟩
abbrev main_v260 : Ref sig .tc := ⟨.hbm, 329, rfl⟩
abbrev main_cst_47 : Ref sig .tc := ⟨.hbm, 330, rfl⟩
abbrev main_v261 : Ref sig .tc := ⟨.hbm, 331, rfl⟩
abbrev main_v262 : Ref sig .tc := ⟨.hbm, 332, rfl⟩
abbrev main_cst_48 : Ref sig .tc := ⟨.hbm, 333, rfl⟩
abbrev main_v263 : Ref sig .tc := ⟨.hbm, 334, rfl⟩
abbrev main_v264 : Ref sig .tc := ⟨.hbm, 335, rfl⟩
abbrev main_cst_49 : Ref sig .tc := ⟨.hbm, 336, rfl⟩
abbrev main_v265 : Ref sig .tc := ⟨.hbm, 337, rfl⟩
abbrev main_v266 : Ref sig .tc := ⟨.hbm, 338, rfl⟩
abbrev main_cst_50 : Ref sig .tc := ⟨.hbm, 339, rfl⟩
abbrev main_v267 : Ref sig .tc := ⟨.hbm, 340, rfl⟩
abbrev main_v268 : Ref sig .tc := ⟨.hbm, 341, rfl⟩
abbrev main_cst_51 : Ref sig .tc := ⟨.hbm, 342, rfl⟩
abbrev main_v269 : Ref sig .tc := ⟨.hbm, 343, rfl⟩
abbrev main_v270 : Ref sig .tc := ⟨.hbm, 344, rfl⟩
abbrev main_cst_52 : Ref sig .tc := ⟨.hbm, 345, rfl⟩
abbrev main_v271 : Ref sig .tc := ⟨.hbm, 346, rfl⟩
abbrev main_v272 : Ref sig .tc := ⟨.hbm, 347, rfl⟩
abbrev main_cst_53 : Ref sig .tc := ⟨.hbm, 348, rfl⟩
abbrev main_v273 : Ref sig .tc := ⟨.hbm, 349, rfl⟩
abbrev main_v274 : Ref sig .tc := ⟨.hbm, 350, rfl⟩
abbrev main_cst_54 : Ref sig .tc := ⟨.hbm, 351, rfl⟩
abbrev main_v275 : Ref sig .tc := ⟨.hbm, 352, rfl⟩
abbrev main_v276 : Ref sig .tc := ⟨.hbm, 353, rfl⟩
abbrev main_cst_55 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_cst_56 : Ref sig .tc := ⟨.hbm, 361, rfl⟩
abbrev main_v283 : Ref sig .tc := ⟨.hbm, 362, rfl⟩
abbrev main_cst_57 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩

abbrev nD : Nat := 1
abbrev τ : Topo := Topo.v7x

variable {F : FTy → Type} [FloatOps F]
-- ==== Proof.Math.Sums.lean ====
module

public import Idealize.ShloMosaic.Lib.Pipeline.ValueKit
public import Idealize.ShloMosaic.Lib.Pointwise

@[expose] public section

/-!
# Finite factors and sums of extended reals

The extended reals are not a ring: a product distributes over a sum when the factor is finite and not negative,
and a finite factor of either sign distributes over a sum of a number with itself.
-/

open Idealize Idealize.ShloMosaic

namespace Cert.Sums

/-- A finite factor that is not negative moves into a finite sum. -/
theorem mul_sum {n : ℕ} (a : ℝ) (ha : 0 ≤ a) (f : Fin n → EReal) : (a : EReal) * ∑ k, f k = ∑ k, (a : EReal) * f k := by
  induction n with
  | zero => simp
  | succ n ih =>
    rw [Fin.sum_univ_succ, Fin.sum_univ_succ,
      EReal.left_distrib_of_nonneg_of_ne_top (EReal.coe_nonneg.2 ha) (EReal.coe_ne_top a), ih]

/-- The same with the factor on the right. -/
theorem sum_mul {n : ℕ} (a : ℝ) (ha : 0 ≤ a) (f : Fin n → EReal) : (∑ k, f k) * (a : EReal) = ∑ k, f k * (a : EReal) := by
  rw [mul_comm, mul_sum a ha]
  exact Finset.sum_congr rfl fun k _ => mul_comm _ _

/-- A finite factor that is not negative distributes over a difference. -/
theorem mul_sub (a : ℝ) (ha : 0 ≤ a) (x y : EReal) : (a : EReal) * (x - y) = a * x - a * y :=
  EReal.mul_sub_of_nonneg_of_ne_top (EReal.coe_nonneg.2 ha) (EReal.coe_ne_top a)

/-- Twice a product, with the two inside the finite factor. -/
theorem add_self_mul (y : EReal) (a : ℝ) : y * (a : EReal) + y * (a : EReal) = y * ((2 * a : ℝ) : EReal) := by
  induction y with
  | coe r => rw [← EReal.coe_mul, ← EReal.coe_mul, ← EReal.coe_add]; congr 1; ring
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl

/-- A square of an extended real is not negative. -/
theorem mul_self_nonneg (x : EReal) : 0 ≤ x * x := by
  induction x with
  | coe r => rw [← EReal.coe_mul]; exact EReal.coe_nonneg.2 (_root_.mul_self_nonneg r)
  | bot => simp
  | top => simp

end Cert.Sums

end
-- ==== Proof.Math.Rms.lean ====
module

public import proofs.«01_k».proof.Proof.Math.Sums

@[expose] public section

/-!
# The gradient of a root-mean-square norm of a row of 1024 numbers

`msq x` is the mean of the squares plus the small constant, `rstd x` its reciprocal square root.  The gradient of
`x ↦ (x * rstd x) * w` against a cotangent is written here in two ways: as the kernel computes it (`gradK`, one
projection off the normalised row) and as the derivative of the forward lines gives it (`gradR`, a term through each
of the two places the row enters).  They agree at every argument: the mean of squares is never negative, so `rstd x`
is a finite number that is not negative (zero where the mean is infinite), and such a factor distributes.
-/

open Idealize Idealize.ShloMosaic

noncomputable section

namespace Cert.Rms

/-- The row's length as the programs spell it. -/
abbrev cD : EReal := Ideal.ofBits .f32 0x44800000#32
/-- The small constant under the root as the programs spell it. -/
abbrev cE : EReal := Ideal.ofBits .f32 0x358637BD#32
/-- Minus one half as the reference spells it. -/
abbrev cMH : EReal := Ideal.ofBits .f32 0xBF000000#32

theorem cD_eq : cD = ((1024 : ℝ) : EReal) := by
  simp [cD, Ideal.ofBits, Ideal.ieee, -EReal.coe_mul]; norm_num
theorem cMH_eq : cMH = ((-(1/2) : ℝ) : EReal) := by
  simp [cMH, Ideal.ofBits, Ideal.ieee, -EReal.coe_mul]; norm_num
theorem cE_pos : ∃ e : ℝ, 0 < e ∧ cE = (e : EReal) := by
  refine ⟨8796093 * 2 ^ (-43 : ℤ), by positivity, ?_⟩
  simp [cE, Ideal.ofBits, Ideal.ieee, -EReal.coe_mul]

/-- The mean of the squares plus the small constant. -/
def msq (x : Fin 1024 → EReal) : EReal := Ideal.div (∑ k, x k * x k) cD + cE
/-- Its reciprocal square root. -/
def rstd (x : Fin 1024 → EReal) : EReal := Ideal.rsqrt (msq x)

/-- `rstd` is a finite number that is not negative, and divided by `msq` it is its own cube. -/
theorem rstd_finite (x : Fin 1024 → EReal) :
    ∃ r : ℝ, 0 ≤ r ∧ rstd x = (r : EReal) ∧ Ideal.div (rstd x) (msq x) = ((r * r * r : ℝ) : EReal) := by
  obtain ⟨e, he, hE⟩ := cE_pos
  have hs : (0 : EReal) ≤ ∑ k, x k * x k := Finset.sum_nonneg fun k _ => Sums.mul_self_nonneg _
  have hm : msq x = (∑ k, x k * x k) * ((1 / 1024 : ℝ) : EReal) + (e : EReal) := by
    rw [msq, cD_eq, Ideal.div_coe (by norm_num), hE]
  unfold rstd
  generalize (∑ k, x k * x k) = s at hs hm
  induction s with
  | bot => simp at hs
  | top =>
    rw [EReal.top_mul_coe_of_pos (by norm_num), EReal.top_add_coe] at hm
    rw [hm]
    refine ⟨0, le_rfl, by simp, by simp [Ideal.div]⟩
  | coe s =>
    have h0 : 0 ≤ s := EReal.coe_nonneg.1 hs
    have hp : 0 < s * (1 / 1024) + e := by positivity
    rw [← EReal.coe_mul, ← EReal.coe_add] at hm
    rw [hm]
    generalize s * (1 / 1024) + e = u at hp
    refine ⟨(Real.sqrt u)⁻¹, by positivity, ?_, ?_⟩
    · rw [Ideal.rsqrt_coe, if_neg (not_lt.2 hp.le), if_neg hp.ne']
    · rw [Ideal.rsqrt_coe, if_neg (not_lt.2 hp.le), if_neg hp.ne', Ideal.div_coe hp.ne', ← EReal.coe_mul]
      congr 1
      rw [mul_assoc, ← mul_inv, Real.mul_self_sqrt hp.le, one_div]

/-- The gradient as the kernel computes it. -/
def gradK (x g : Fin 1024 → EReal) (j : Fin 1024) : EReal :=
  rstd x * (g j - x j * rstd x * Ideal.div (∑ k, g k * (x k * rstd x)) cD)

/-- The factor that carries the gradient through the mean of the squares. -/
def through (x g : Fin 1024 → EReal) : EReal :=
  Ideal.div ((∑ k, x k * g k) * (cMH * Ideal.div (rstd x) (msq x))) cD

/-- The gradient as the derivative of the forward lines gives it. -/
def gradR (x g : Fin 1024 → EReal) (j : Fin 1024) : EReal :=
  g j * rstd x + x j * through x g + through x g * x j

/-- The two agree at every argument. -/
theorem gradK_eq_gradR (x g : Fin 1024 → EReal) (j : Fin 1024) : gradK x g j = gradR x g j := by
  obtain ⟨r, hr, h1, h2⟩ := rstd_finite x
  have hS : (∑ k, g k * (x k * (r : EReal))) = (∑ k, x k * g k) * (r : EReal) := by
    rw [Sums.sum_mul r hr]
    refine Finset.sum_congr rfl fun k _ => ?_
    rw [mul_left_comm, mul_assoc, mul_comm (g k)]
  unfold gradK gradR through
  rw [h2, h1, hS, cD_eq, cMH_eq, Ideal.div_coe (by norm_num), Ideal.div_coe (by norm_num), Sums.mul_sub r hr,
    mul_comm _ (x j), add_assoc]
  generalize (∑ k, x k * g k) = S
  rw [mul_comm (r : EReal) (g j), sub_eq_add_neg]
  congr 1
  have e1 : (r : EReal) * (x j * (r : EReal) * (S * (r : EReal) * ((1 / 1024 : ℝ) : EReal)))
      = x j * S * ((r * r * r * (1 / 1024) : ℝ) : EReal) := by
    push_cast
    ac_rfl
  have e2 : x j * (S * (((-(1/2) : ℝ) : EReal) * ((r * r * r : ℝ) : EReal)) * ((1 / 1024 : ℝ) : EReal))
      = x j * S * ((-(1/2) * (r * r * r) * (1 / 1024) : ℝ) : EReal) := by
    rw [EReal.coe_mul (-(1/2) * (r * r * r)), EReal.coe_mul (-(1/2)) (r * r * r)]
    ac_rfl
  rw [e1, e2, Sums.add_self_mul, ← mul_neg, ← EReal.coe_neg]
  congr 2
  ring

end Cert.Rms

end

end
-- ==== Proof.Loss.Math.lean ====
module

public import proofs.«01_k».proof.Proof.Math.Rms

@[expose] public section

/-!
# The loss of one row and the cotangent of its normalised row

The loss of a row is half the mean of the squared residuals.  The kernel multiplies the residual by one over the
row's length; the derivative of the reference's lines multiplies twice the residual by one half over the length.
-/

noncomputable section

open Idealize Idealize.ShloMosaic

namespace Cert.Loss

/-- One half over the row's length, as the kernel spells it. -/
abbrev cHalfInv : EReal := Ideal.ofBits .f32 0x3A000000#32
/-- One over the row's length, as the kernel spells it. -/
abbrev cInv : EReal := Ideal.ofBits .f32 0x3A800000#32
/-- One half, as the reference spells it. -/
abbrev cHalf : EReal := Ideal.ofBits .f32 0x3F000000#32
/-- Two, as the reference spells it. -/
abbrev cTwo : EReal := Ideal.ofBits .f32 0x40000000#32

theorem cHalfInv_eq : cHalfInv = ((1 / 2048 : ℝ) : EReal) := by
  simp [cHalfInv, Ideal.ofBits, Ideal.ieee, -EReal.coe_mul]; norm_num
theorem cInv_eq : cInv = ((1 / 1024 : ℝ) : EReal) := by
  simp [cInv, Ideal.ofBits, Ideal.ieee, -EReal.coe_mul]; norm_num
theorem cHalf_eq : cHalf = ((1 / 2 : ℝ) : EReal) := by
  simp [cHalf, Ideal.ofBits, Ideal.ieee, -EReal.coe_mul]; norm_num
theorem cTwo_eq : cTwo = ((2 : ℝ) : EReal) := by
  simp [cTwo, Ideal.ofBits, Ideal.ieee, -EReal.coe_mul]; norm_num

/-- The residual of one row against its target. -/
def err (x w tg : Fin 1024 → EReal) (k : Fin 1024) : EReal := x k * Rms.rstd x * w k - tg k

/-- The sum of the squared residuals of a row. -/
def sqErr (x w tg : Fin 1024 → EReal) : EReal := ∑ k, err x w tg k * err x w tg k

/-- The cotangent of the normalised row as the kernel computes it. -/
def cotK (x w tg : Fin 1024 → EReal) (k : Fin 1024) : EReal := err x w tg k * cInv

/-- The same as the derivative of the reference's lines gives it. -/
def cotR (x w tg : Fin 1024 → EReal) (k : Fin 1024) : EReal := Ideal.div cHalf Rms.cD * (cTwo * err x w tg k)

theorem cotK_eq_cotR (x w tg : Fin 1024 → EReal) (k : Fin 1024) : cotK x w tg k = cotR x w tg k := by
  rw [cotK, cotR, cInv_eq, cHalf_eq, cTwo_eq, Rms.cD_eq, Ideal.div_coe (by norm_num), ← mul_assoc, ← EReal.coe_mul,
    ← EReal.coe_mul, mul_comm]
  congr 2
  norm_num

/-- The two cotangents are one function. -/
theorem cotK_eq : cotK = cotR := by
  funext x w tg k
  exact cotK_eq_cotR x w tg k

/-- The loss of all rows: the kernel adds the scaled blocks of 256 rows, the reference halves the sum of the rows' means. -/
theorem loss_eq (e : Fin 2048 → EReal) :
    (∑ a : Fin 8, cHalfInv * ∑ i : Fin 256, e ⟨a.val * 256 + i.val, by omega⟩)
      = cHalf * ∑ i : Fin 2048, Ideal.div (e i) Rms.cD := by
  rw [cHalfInv_eq, cHalf_eq, Rms.cD_eq, Sums.mul_sum _ (by norm_num)]
  have h1 : ∀ a : Fin 8, ((1 / 2048 : ℝ) : EReal) * ∑ i : Fin 256, e ⟨a.val * 256 + i.val, by omega⟩
      = ∑ i : Fin 256, ((1 / 2048 : ℝ) : EReal) * e ⟨a.val * 256 + i.val, by omega⟩ :=
    fun a => Sums.mul_sum _ (by norm_num) _
  rw [Finset.sum_congr rfl fun a _ => h1 a]
  refine Fin.sum_mul_add_congr (S := 8) (n := 256) fun a i hl => ?_
  rw [Ideal.div_coe (by norm_num), mul_left_comm, ← EReal.coe_mul, mul_comm]
  congr 2
  norm_num

end Cert.Loss
end
-- ==== Proof.Loss.Block.lean ====
module

public import proofs.«01_k».proof.Proof.Gen.KernelIdeal.Value
public import proofs.«01_k».proof.Proof.Loss.Math

@[expose] public section

set_option maxRecDepth 16384

/-!
# What one block of the loss kernel computes

A block holds 256 rows.  `err` is the residual of the normalised and scaled row against its target.
-/

noncomputable section

open Idealize Idealize.ShloMosaic Idealize.ShloMosaic.Pipeline Idealize.SL
open Cert.KernelIdeal Cert.KernelIdeal.Gen

namespace Cert.Loss

/-- The loss block is cleared at the first point. -/
theorem zero_loss (j : S1x1.Idx) : k0_pay5 (F := Ideal) j = 0 := by pointwise [k0_pay5]
/-- The weight's gradient is cleared at the first point. -/
theorem zero_dfw (j : S1x1024.Idx) : k0_pay6 (F := Ideal) j = 0 := by pointwise [k0_pay6]

/-- The residual of a row of the block. -/
theorem err_block (x : Vec Ideal S256x1024 .f32) (w : Vec Ideal S1x1024 .f32) (tg : Vec Ideal S256x1024 .f32) (j : S256x1024.Idx) :
    k0_pay8 x w tg j = err (fun k => x (ix2 (j 0) k)) (fun k => w (ix2 0 k)) (fun k => tg (ix2 (j 0) k)) (j 1) := by
  pointwise [k0_pay8, k0_pay7, err, Rms.rstd, Rms.msq]

/-- The loss block after a point: what it held plus the block's rows. -/
theorem loss_block (x : Vec Ideal S256x1024 .f32) (w : Vec Ideal S1x1024 .f32) (tg : Vec Ideal S256x1024 .f32) (acc : Vec Ideal S1x1 .f32) (j : S1x1.Idx) :
    k0_pay9 x w tg acc j = acc j + cHalfInv * ∑ i : Fin 256, sqErr (fun k => x (ix2 i k)) (fun k => w (ix2 0 k)) (fun k => tg (ix2 i k)) := by
  pointwise [k0_pay9, sqErr, err_block]

/-- The gradient of the rows. -/
theorem dx_block (x : Vec Ideal S256x1024 .f32) (w : Vec Ideal S1x1024 .f32) (tg : Vec Ideal S256x1024 .f32) (j : S256x1024.Idx) :
    k0_pay3 x (k0_pay7 w) (k0_pay10 x w tg) (k0_pay11 x) (Scalar.ofBits .f32 0x44800000#32) j
      = Rms.gradK (fun k => x (ix2 (j 0) k))
          (fun k => cotK (fun k => x (ix2 (j 0) k)) (fun k => w (ix2 0 k)) (fun k => tg (ix2 (j 0) k)) k * w (ix2 0 k)) (j 1) := by
  pointwise [k0_pay3, k0_pay2, k0_pay1, k0_pay7, k0_pay10, k0_pay11, err_block, cotK, Rms.gradK, Rms.rstd, Rms.msq]

/-- The weight's gradient after a point: what the block held plus the block's rows. -/
theorem dfw_block (x : Vec Ideal S256x1024 .f32) (w : Vec Ideal S1x1024 .f32) (tg : Vec Ideal S256x1024 .f32) (acc : Vec Ideal S1x1024 .f32) (j : S1x1024.Idx) :
    k0_pay4 x (k0_pay10 x w tg) (k0_pay11 x) (Scalar.ofBits .f32 0x44800000#32) acc j = acc j + ∑ i : Fin 256,
      cotK (fun k => x (ix2 i k)) (fun k => w (ix2 0 k)) (fun k => tg (ix2 i k)) (j 1)
        * (x (ix2 i (j 1)) * Rms.rstd (fun k => x (ix2 i k))) := by
  pointwise [k0_pay4, k0_pay2, k0_pay1, k0_pay10, k0_pay11, err_block, cotK, Rms.rstd, Rms.msq]

end Cert.Loss
end
-- ==== Proof.Loss.Kernel.lean ====
module

public import proofs.«01_k».proof.Proof.Loss.Block

@[expose] public section

set_option maxRecDepth 16384

/-!
# What the loss kernel's three result arrays hold
-/

noncomputable section

open Idealize Idealize.ShloMosaic Idealize.ShloMosaic.Pipeline Idealize.ShloMosaic.TcCoe Idealize.SL
open Cert.KernelIdeal Cert.KernelIdeal.Gen

namespace Cert.Loss

/-- The summed loss of all rows, as the kernel scales it. -/
def lossK (X : Vec Ideal S2048x1024 .f32) (w : Vec Ideal S1024 .f32) (T : Vec Ideal S2048x1024 .f32) (j : S1x1.Idx) : EReal :=
  ∑ a : Fin 8, cHalfInv * ∑ i : Fin 256, sqErr (fun k => X (ix2 ⟨a * 256 + i, by omega⟩ k)) (fun k => w (ix1 k)) (fun k => T (ix2 ⟨a * 256 + i, by omega⟩ k))

/-- The gradient of the rows. -/
def dxK (X : Vec Ideal S2048x1024 .f32) (w : Vec Ideal S1024 .f32) (T : Vec Ideal S2048x1024 .f32) (j : S2048x1024.Idx) : EReal :=
  Rms.gradK (fun k => X (ix2 (j 0) k))
    (fun k => cotK (fun k => X (ix2 (j 0) k)) (fun k => w (ix1 k)) (fun k => T (ix2 (j 0) k)) k * w (ix1 k)) (j 1)

/-- The weight's gradient. -/
def dfwK (X : Vec Ideal S2048x1024 .f32) (w : Vec Ideal S1024 .f32) (T : Vec Ideal S2048x1024 .f32) (j : S1x1024.Idx) : EReal :=
  ∑ i : Fin 2048, cotK (fun k => X (ix2 i k)) (fun k => w (ix1 k)) (fun k => T (ix2 i k)) (j 1)
        * (X (ix2 i (j 1)) * Rms.rstd (fun k => X (ix2 i k)))

variable (m : (ℓ : Loc nD τ sig) → Buf (Elt Ideal) ℓ)

/-- Which block each operand and the rows' gradient use at a point. -/
theorem idx : ∀ t : Fin cfg0.N, win0_0.index t = ![t.val, 0] ∧ win0_1.index t = ![0, 0] ∧ win0_2.index t = ![t.val, 0]
    ∧ win0_4.index t = ![t.val, 0] := (by decide +kernel : ∀ t : Fin grid0.N, _)

theorem row_lt (t : Fin cfg0.N) (i : Fin 256) : t.val * 256 + i.val < 2048 := by
  have ht : t.val < 8 := lt_of_lt_of_eq t.isLt N_0
  omega

/-- A row of the first operand's block at a point. -/
theorem x_read (c : Dev nD) (t : Fin cfg0.N) (i : Fin 256) (k : Fin 1024) :
    iblk m c 0 t (ix2 i k) = m ((c : Thread nD τ).loc main_arg0) (ix2 ⟨t.val * 256 + i.val, row_lt t i⟩ k) := by
  blk_point [iblk, V, idx t]

/-- The weight's block is the weight. -/
theorem w_read (c : Dev nD) (t : Fin cfg0.N) (k : Fin 1024) :
    iblk m c 1 t (ix2 0 k) = m ((c : Thread nD τ).loc main_arg1) (ix1 k) := by
  blk_point [iblk, V, idx t]

/-- A row of the target's block at a point. -/
theorem t_read (c : Dev nD) (t : Fin cfg0.N) (i : Fin 256) (k : Fin 1024) :
    iblk m c 2 t (ix2 i k) = m ((c : Thread nD τ).loc main_arg2) (ix2 ⟨t.val * 256 + i.val, row_lt t i⟩ k) := by
  blk_point [iblk, V, idx t]

/-- The weight's gradient after the run. -/
theorem dfw_final (c : Dev nD) : (dats m 0 c).arrAt 5 (cfgs 0).N
    = dfwK (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by rw [outsAt0_A m c t h]; frame_out; rw [dfw_block, zero_dfw])
    (fun t h j => by rw [outsAt0_B m c t h]; frame_out; rw [dfw_block])
    (le_of_eq N_0) t0_7 rfl j, zero_add]
  unfold dfwK
  refine Fin.sum_mul_add_congr (S := 8) (n := 256) fun t i hl => ?_
  simp only [x_read m c t, w_read m c t, t_read m c t]
  erw [x_read m c t i (j 1)]

/-- The rows' gradient after the run. -/
theorem dx_final (c : Dev nD) : (dats m 0 c).arrAt 4 (cfgs 0).N
    = dxK (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have key : Rms.gradK (fun k => iblk m c 0 t (ix2 (y 0) k))
      (fun k => cotK (fun k => iblk m c 0 t (ix2 (y 0) k)) (fun k => iblk m c 1 t (ix2 0 k))
            (fun k => iblk m c 2 t (ix2 (y 0) k)) k * iblk m c 1 t (ix2 0 k)) (y 1) =
      dxK (m ((c : Thread nD τ).loc main_arg0)) (m ((c : Thread nD τ).loc main_arg1)) (m ((c : Thread nD τ).loc main_arg2))
        (((View.whole main_v1_1).slice (win0_4.rect t)).emb y) := by
    have h0 : (⟨t.val * 256 + (y 0).val, row_lt t (y 0)⟩ : Fin 2048) = ((View.whole main_v1_1).slice (win0_4.rect t)).emb y 0 := by
      apply Fin.ext; blk_simp [idx t]
    have h1 : y 1 = ((View.whole main_v1_1).slice (win0_4.rect t)).emb y 1 := by
      apply Fin.ext; blk_simp [idx t]
    unfold dxK
    rw [← h0, ← h1]
    simp only [x_read m c t (y 0), w_read, t_read m c t (y 0)]
  by_cases h : t.val % 8 = 0
  · rw [outsAt0_A m c t h]; frame_out
    rw [dx_block]; exact key
  · rw [outsAt0_B m c t h]; frame_out
    rw [dx_block]; exact key

/-- The loss after the run. -/
theorem loss_final (c : Dev nD) : (dats m 0 c).arrAt 3 (cfgs 0).N
    = lossK (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0) _
    (fun t h j => by rw [outsAt0_A m c t h]; frame_out; rw [loss_block, zero_loss])
    (fun t h j => by rw [outsAt0_B m c t h]; frame_out; rw [loss_block])
    (le_of_eq N_0) t0_7 rfl j, zero_add]
  unfold lossK
  refine Fin.sum_fin_congr fun t => ?_
  simp only [x_read, w_read, t_read]

end Cert.Loss
end
-- ==== Proof.Loss.Reference.lean ====
module

public import proofs.«01_k».proof.Proof.Gen.ReferenceIdeal.Read
public import proofs.«01_k».proof.Proof.Loss.Math

@[expose] public section

set_option maxRecDepth 16384

/-!
# What the reference of the loss computes
-/

noncomputable section

open Idealize Idealize.ShloMosaic Idealize.ShloMosaic.Pipeline Idealize.ShloMosaic.TcCoe Idealize.SL
open Cert.ReferenceIdeal Cert.ReferenceIdeal.Read

namespace Cert.Loss

variable (X : Vec Ideal S2048x1024 .f32) (w : Vec Ideal S1024 .f32) (T : Vec Ideal S2048x1024 .f32)

/-- The reciprocal root of a row's mean square. -/
theorem rstd_at (j : S2048x1.Idx) : val_main_v7 (F := Ideal) X j = Rms.rstd (fun k => X (ix2 (j 0) k)) := by
  pointwise [val_main_v7, val_main_v6, val_main_v5, val_main_v4, val_main_v3, val_main_v2, val_main_v1, val_main_v0,
    val_main_cst, val_main_cst_0, val_main_cst_1, Rms.rstd, Rms.msq]

/-- The residual. -/
theorem err_at (j : S2048x1024.Idx) : val_main_v16 (F := Ideal) X w T j
    = err (fun k => X (ix2 (j 0) k)) (fun k => w (ix1 k)) (fun k => T (ix2 (j 0) k)) (j 1) := by
  pointwise [val_main_v16, val_main_v15, val_main_v14, val_main_v13, val_main_v12, val_main_v11, rstd_at, err]

/-- The cotangent of the normalised and scaled row. -/
theorem cot_at (j : S2048x1024.Idx) : val_main_v30 (F := Ideal) X w T j
    = cotR (fun k => X (ix2 (j 0) k)) (fun k => w (ix1 k)) (fun k => T (ix2 (j 0) k)) (j 1) := by
  pointwise [val_main_v30, val_main_v29, val_main_v28, val_main_v27, val_main_v26, val_main_v25, val_main_v19, val_main_v18,
    val_main_cst_10, val_main_cst_9, val_main_cst_8, val_main_cst_3, err_at, cotR]

/-- The factor through the mean square. -/
theorem through_at (j : S2048.Idx) : val_main_v45 (F := Ideal) X w T j
    = Rms.through (fun k => X (ix2 (j 0) k)) (fun k => cotR (fun k => X (ix2 (j 0) k)) (fun k => w (ix1 k)) (fun k => T (ix2 (j 0) k)) k * w (ix1 k)) := by
  pointwise [val_main_v45, val_main_v44, val_main_v43, val_main_v42, val_main_v39, val_main_v38, val_main_v37, val_main_v35,
    val_main_v34, val_main_v13, val_main_v10, val_main_v9, val_main_v8, val_main_v6, val_main_v5, val_main_v4, val_main_v3,
    val_main_v2, val_main_v1, val_main_v0, val_main_cst, val_main_cst_0, val_main_cst_1, val_main_cst_2, val_main_cst_12,
    val_main_cst_13, val_main_cst_14, val_main_cst_15, rstd_at, cot_at, Rms.through, Rms.msq]
  exact Fin.sum_univ_one _

/-- The rows' gradient. -/
theorem dx_at (j : S2048x1024.Idx) : val_main_v50 (F := Ideal) X w T j
    = Rms.gradR (fun k => X (ix2 (j 0) k)) (fun k => cotR (fun k => X (ix2 (j 0) k)) (fun k => w (ix1 k)) (fun k => T (ix2 (j 0) k)) k * w (ix1 k)) (j 1) := by
  pointwise [val_main_v50, val_main_v49, val_main_v48, val_main_v47, val_main_v46, val_main_v41, val_main_v40, val_main_v35,
    val_main_v34, val_main_v13, through_at, rstd_at, cot_at, Rms.gradR]

/-- The weight's gradient. -/
theorem dfw_at (j : S1x1024.Idx) : val_main_v52 (F := Ideal) X w T j
    = ∑ i : Fin 2048, X (ix2 i (j 1)) * Rms.rstd (fun k => X (ix2 i k)) * cotR (fun k => X (ix2 i k)) (fun k => w (ix1 k)) (fun k => T (ix2 i k)) (j 1) := by
  pointwise [val_main_v52, val_main_v36, val_main_v33, val_main_v32, val_main_v31, val_main_v12, val_main_v11, val_main_cst_11, val_main_cst_12,
    rstd_at, cot_at]
  exact Fin.sum_univ_one _

/-- The loss. -/
theorem loss_at (j : S1x1.Idx) : val_main_v51 (F := Ideal) X w T j
    = Ideal.ofBits .f32 0x3F000000#32 * ∑ i : Fin 2048, Ideal.div (sqErr (fun k => X (ix2 i k)) (fun k => w (ix1 k)) (fun k => T (ix2 i k))) Rms.cD := by
  pointwise [val_main_v51, val_main_v24, val_main_v23, val_main_v22, val_main_v21, val_main_v20, val_main_v17, val_main_cst_4, val_main_cst_5,
    val_main_cst_6, val_main_cst_7, sqErr, err_at]

end Cert.Loss
end
-- ==== Proof.Loss.Claim.lean ====
module

public import proofs.«01_k».proof.Defs
public import proofs.«01_k».proof.Proof.Gen.ReferenceIdeal
public import proofs.«01_k».proof.Proof.Loss.Kernel
public import proofs.«01_k».proof.Proof.Loss.Reference

@[expose] public section

set_option maxRecDepth 16384

/-!
# The loss, the rows' gradient and the weight's gradient: kernel and reference agree
-/

noncomputable section

open Idealize Idealize.ShloMosaic Idealize.ShloMosaic.Pipeline Idealize.ShloMosaic.TcCoe Idealize.SL Idealize.SL.Sem

namespace Cert.Loss

open Cert.KernelIdeal (S2048x1024 S1024 S1x1024 S1x1)

variable (X : Vec Ideal S2048x1024 .f32) (w : Vec Ideal S1024 .f32) (T : Vec Ideal S2048x1024 .f32)

theorem loss_value : Cert.ReferenceIdeal.Read.val_main_v51 (F := Ideal) X w T = lossK X w T := by
  funext j
  rw [loss_at]
  exact (loss_eq fun i => sqErr (fun k => X (ix2 i k)) (fun k => w (ix1 k)) (fun k => T (ix2 i k))).symm

theorem dx_value : Cert.ReferenceIdeal.Read.val_main_v50 (F := Ideal) X w T = dxK X w T := by
  funext j
  rw [dx_at]
  unfold dxK
  rw [cotK_eq]
  exact (Rms.gradK_eq_gradR _ _ _).symm

theorem dfw_value : Cert.ReferenceIdeal.Read.val_main_v52 (F := Ideal) X w T = dfwK X w T := by
  funext j
  rw [dfw_at]
  unfold dfwK
  refine Fin.sum_fin_congr fun i => ?_
  rw [cotK_eq]
  exact mul_comm _ _

/-- The claim of equal results. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => lossK (m ((c.tc : Thread _ _).loc Cert.KernelIdeal.main_arg0)) (m ((c.tc : Thread _ _).loc Cert.KernelIdeal.main_arg1)) (m ((c.tc : Thread _ _).loc Cert.KernelIdeal.main_arg2)),
    fun c => dxK (m ((c.tc : Thread _ _).loc Cert.KernelIdeal.main_arg0)) (m ((c.tc : Thread _ _).loc Cert.KernelIdeal.main_arg1)) (m ((c.tc : Thread _ _).loc Cert.KernelIdeal.main_arg2)),
    fun c => dfwK (m ((c.tc : Thread _ _).loc Cert.KernelIdeal.main_arg0)) (m ((c.tc : Thread _ _).loc Cert.KernelIdeal.main_arg1)) (m ((c.tc : Thread _ _).loc Cert.KernelIdeal.main_arg2)), ?_, ?_⟩
  · refine (θ_run _ _ _).mono (fun r h c => ?_) (Cert.KernelIdeal.Value.run_blocks m ρ)
    obtain ⟨h0, h1, h2, h3⟩ := h c
    exact ⟨h0.trans (loss_final m c), h1.trans (dx_final m c), h2.trans (dfw_final m c), h3⟩
  · refine (θ_run _ _ _).mono (fun r h c => ?_) (Cert.ReferenceIdeal.Value.run m' ρ')
    obtain ⟨h0, h1, h2, h3⟩ := h c
    obtain ⟨a0, a1, a2⟩ := hargs c
    refine ⟨h0.trans ?_, h1.trans ?_, h2.trans ?_, h3⟩
    · rw [Cert.ReferenceIdeal.Read.val_main_v51_eq, a0, a1, a2]; exact loss_value _ _ _
    · rw [Cert.ReferenceIdeal.Read.val_main_v50_eq, a0, a1, a2]; exact dx_value _ _ _
    · rw [Cert.ReferenceIdeal.Read.val_main_v52_eq, a0, a1, a2]; exact dfw_value _ _ _

end Cert.Loss

end
-- ==== Proof.Math.Finite.lean ====
module

public import Idealize.ShloMosaic.Adequacy
public import Idealize.ShloMosaic.Lib.ReduceAll
public import Idealize.ShloMosaic.Lib.Pointwise

@[expose] public section

/-!
# Reading "every entry is finite" from the word a precondition computes
-/

noncomputable section

open Idealize Idealize.ShloMosaic

namespace Cert.Finite

/-- An entry whose absolute value compares less than infinity is a real number. -/
theorem real_of_lt (x : EReal) (h : Ideal.cmp .olt (max x (-x)) (Ideal.ofBits .f32 0x7F800000#32) = 1#1) :
    ∃ r : ℝ, x = r := by
  have e : Ideal.ofBits .f32 0x7F800000#32 = ⊤ := by simp [Ideal.ofBits, Ideal.ieee]
  rw [e] at h
  induction x with
  | coe r => exact ⟨r, rfl⟩
  | bot => exact absurd h (by simp [Ideal.cmp])
  | top => exact absurd h (by simp [Ideal.cmp])

end Cert.Finite
end
-- ==== Proof.Dnc.Math.lean ====
module

public import proofs.«01_k».proof.Proof.Math.Sums
public import Idealize.ShloMosaic.PureOps.Ideal.Laws

@[expose] public section

/-!
# The gradient of a causal four tap convolution followed by SiLU, one column

`x` is the column, `w` its four taps and `d` the cotangent.
-/

noncomputable section

open Idealize Idealize.ShloMosaic

namespace Cert.Dnc

/-- A column of the projection that the convolution reads. -/
def xcol (P : Vec Ideal ⟨2, ![2048, 2832]⟩ .f32) (q : Fin 1536) (n : Fin 2048) : EReal := P (ix2 n ⟨768 + q.val, by omega⟩)
/-- Its four taps. -/
def wcol (w : Vec Ideal ⟨2, ![4, 1536]⟩ .f32) (q : Fin 1536) (k : Fin 4) : EReal := w (ix2 k q)
/-- Its cotangent. -/
def dcol (d : Vec Ideal ⟨2, ![2048, 1536]⟩ .f32) (q : Fin 1536) (n : Fin 2048) : EReal := d (ix2 n q)

/-- The column with three zeros before it, and zeros after it. -/
def xp (x : Fin 2048 → EReal) (n : ℕ) : EReal := if h : 3 ≤ n ∧ n < 2051 then x ⟨n - 3, by omega⟩ else 0

/-- The convolution's output at a row. -/
def acc (x : Fin 2048 → EReal) (w : Fin 4 → EReal) (n : ℕ) : EReal :=
  w 3 * xp x (n + 3) + w 0 * xp x n + w 1 * xp x (n + 1) + w 2 * xp x (n + 2)

/-- The derivative of SiLU, as the kernel writes it. -/
def siluD (a : EReal) : EReal :=
  Ideal.div 1 (1 + Ideal.exp (0 - a)) * (1 + a * (1 - Ideal.div 1 (1 + Ideal.exp (0 - a))))

/-- The convolution output's gradient at a row, zero past the last row. -/
def dacc (x : Fin 2048 → EReal) (w : Fin 4 → EReal) (d : Fin 2048 → EReal) (n : ℕ) : EReal :=
  if h : n < 2048 then d ⟨n, h⟩ * siluD (acc x w n) else 0

/-- The column's gradient at a row. -/
def dx (x : Fin 2048 → EReal) (w : Fin 4 → EReal) (d : Fin 2048 → EReal) (n : ℕ) : EReal :=
  w 3 * dacc x w d n + w 2 * dacc x w d (n + 1) + w 1 * dacc x w d (n + 2) + w 0 * dacc x w d (n + 3)

/-- A tap's gradient. -/
def dw (x : Fin 2048 → EReal) (w : Fin 4 → EReal) (d : Fin 2048 → EReal) (k : ℕ) : EReal :=
  ∑ n : Fin 2048, dacc x w d n * xp x (n + k)

/-! The reference's form of the same functions. -/

/-- The convolution's output, the taps added in their order. -/
def accR (x : Fin 2048 → EReal) (w : Fin 4 → EReal) (n : ℕ) : EReal :=
  0 + w 0 * xp x n + w 1 * xp x (n + 1) + w 2 * xp x (n + 2) + w 3 * xp x (n + 3)

/-- The logistic function. -/
def sg (a : EReal) : EReal := Ideal.div 1 (1 + Ideal.exp (-a))

/-- The gradient of SiLU by the product rule. -/
def cotR (a d : EReal) : EReal := d * sg a + a * d * (sg a * (1 - sg a))

theorem accR_eq (x : Fin 2048 → EReal) (w : Fin 4 → EReal) (n : ℕ) : accR x w n = acc x w n := by
  unfold accR acc
  rw [zero_add, add_comm _ (w 3 * xp x (n + 3)), ← add_assoc, ← add_assoc]

theorem sg_eq (a : EReal) : sg a = Ideal.logistic a := rfl

/-- The two forms of SiLU's gradient agree where the cotangent is finite. -/
theorem cotR_eq (a : EReal) (d : ℝ) : cotR a d = d * siluD a := by
  have h : siluD a = sg a * (1 + a * (1 - sg a)) := by unfold siluD sg; rw [zero_sub]
  rw [h, cotR, sg_eq]
  induction a with
  | bot => simp [Ideal.logistic_bot]
  | top =>
    have h1 : (1 : EReal) - 1 = 0 := EReal.sub_self (by decide) (by decide)
    simp [Ideal.logistic_top, h1]
  | coe a =>
    rw [Ideal.logistic_coe]
    norm_cast
    ring

/-- A row's gradient where there is such a row, and zero past the last. -/
def cotP (x : Fin 2048 → EReal) (w : Fin 4 → EReal) (d : Fin 2048 → EReal) (n : ℕ) : EReal :=
  if h : n < 2048 then cotR (accR x w n) (d ⟨n, h⟩) else 0

theorem cotP_eq (x : Fin 2048 → EReal) (w : Fin 4 → EReal) (d : Fin 2048 → EReal) (hd : ∀ n, ∃ r : ℝ, d n = r) (n : ℕ) :
    cotP x w d n = dacc x w d n := by
  unfold cotP dacc
  split
  · next h => obtain ⟨r, hr⟩ := hd ⟨n, h⟩; rw [hr, accR_eq, cotR_eq]
  · rfl

/-- A tap times the row's gradient, cut off past the last row. -/
theorem tap_cut (v : EReal) (x : Fin 2048 → EReal) (w : Fin 4 → EReal) (d : Fin 2048 → EReal) (n n' : ℕ) (e : n = n') :
    (if _h : n < 2048 then v * cotP x w d n else 0) = v * cotP x w d n' := by
  subst e
  split
  · rfl
  · next h => rw [cotP, dif_neg h, mul_zero]

end Cert.Dnc
end
-- ==== Proof.Math.Rows.lean ====
module

public import Idealize.ShloMosaic.Lib.Pipeline.ValueKit
public import Idealize.ShloMosaic.Lib.WritesUnit

@[expose] public section

/-!
# A matrix written in bands of rows

A scratch buffer holds a list of stored rectangles, the newest first.  These lemmas read one element: the newest
rectangle that holds its row and column decides.
-/

noncomputable section

open Idealize Idealize.ShloMosaic Idealize.ShloMosaic.Pipeline Idealize.ShloMosaic.View

namespace Cert.Rows

variable {Val : EltTy → Type} {e : EltTy} {n k : ℕ}

/-- The place of an element in a rectangle of whole rows. -/
theorem emb_eq {o N : ℕ} (inb : ∀ a : Fin 2, ![o, 0] a + ![N, k] a ≤ (⟨2, ![n, k]⟩ : Shape).size a)
    (x : (Rect.unit (s := ⟨2, ![n, k]⟩) ![o, 0] ![N, k] inb).shape.Idx) (y : (⟨2, ![n, k]⟩ : Shape).Idx)
    (h0 : (y 0).val = o + (x 0).val) (h1 : (y 1).val = (x 1).val) :
    (Rect.unit (s := ⟨2, ![n, k]⟩) ![o, 0] ![N, k] inb).emb x = y := by
  funext a
  apply Fin.ext
  show ![o, 0] a + 1 * (x a).val = (y a).val
  match a with
  | ⟨0, _⟩ => simpa using h0.symm
  | ⟨1, _⟩ => simpa using h1.symm

/-- A row inside the newest band. -/
theorem canon_hit [∀ e, Nonempty (Val e)] {o N : ℕ} (inb : ∀ a : Fin 2, ![o, 0] a + ![N, k] a ≤ (⟨2, ![n, k]⟩ : Shape).size a)
    (w : (Rect.unit (s := ⟨2, ![n, k]⟩) ![o, 0] ![N, k] inb).shape.Idx → Val e) (L : List (Piece Val (⟨2, ![n, k]⟩ : Shape) e))
    (x : (Rect.unit (s := ⟨2, ![n, k]⟩) ![o, 0] ![N, k] inb).shape.Idx) (y : (⟨2, ![n, k]⟩ : Shape).Idx)
    (h0 : (y 0).val = o + (x 0).val) (h1 : (y 1).val = (x 1).val) :
    View.canon (⟨Rect.unit (s := ⟨2, ![n, k]⟩) ![o, 0] ![N, k] inb, w⟩ :: L) y = w x := by
  rw [← emb_eq inb x y h0 h1]
  exact View.canon_cons_emb _ w L x

/-- A row outside the newest band. -/
theorem canon_miss [∀ e, Nonempty (Val e)] {o N : ℕ} (inb : ∀ a : Fin 2, ![o, 0] a + ![N, k] a ≤ (⟨2, ![n, k]⟩ : Shape).size a)
    (w : (Rect.unit (s := ⟨2, ![n, k]⟩) ![o, 0] ![N, k] inb).shape.Idx → Val e) (L : List (Piece Val (⟨2, ![n, k]⟩ : Shape) e))
    (y : (⟨2, ![n, k]⟩ : Shape).Idx) (h : (y 0).val < o ∨ o + N ≤ (y 0).val) :
    View.canon (⟨Rect.unit (s := ⟨2, ![n, k]⟩) ![o, 0] ![N, k] inb, w⟩ :: L) y = View.canon L y := by
  refine View.canon_cons_of_not_mem _ L ?_
  intro hm
  have hm' : y ∈ (Rect.unit (s := ⟨2, ![n, k]⟩) ![o, 0] ![N, k] inb).set := hm
  rw [Rect.mem_set_unit] at hm'
  have h0 : o ≤ (y 0).val ∧ (y 0).val < o + N := hm' 0
  omega

/-- A load of a band of rows, of what the stored bands left. -/
theorem readCov_at [∀ e, Nonempty (Val e)] {sig : RefSig} {κ : Kind} {sp : Space} (v : View sig κ sp (⟨2, ![n, k]⟩ : Shape) e)
    (L : List (Piece Val (⟨2, ![n, k]⟩ : Shape) e)) {o N : ℕ}
    (inb : ∀ a : Fin 2, ![o, 0] a + ![N, k] a ≤ (⟨2, ![n, k]⟩ : Shape).size a)
    (x : (Rect.unit (s := ⟨2, ![n, k]⟩) ![o, 0] ![N, k] inb).shape.Idx) (y : (⟨2, ![n, k]⟩ : Shape).Idx)
    (h0 : (y 0).val = o + (x 0).val) (h1 : (y 1).val = (x 1).val) :
    v.readCov L (Rect.unit (s := ⟨2, ![n, k]⟩) ![o, 0] ![N, k] inb).toLoadRect x = View.canon L y := by
  rw [View.readCov_eq_canon', ← emb_eq inb x y h0 h1]
  rfl

/-- A load of a band of rows from a matrix filled by two bands, the later one stored first. -/
theorem readCov_two [∀ e, Nonempty (Val e)] {sig : RefSig} {κ : Kind} {sp : Space} (v : View sig κ sp (⟨2, ![n, k]⟩ : Shape) e)
    {A B N o : ℕ} (inb1 : ∀ a : Fin 2, ![B, 0] a + ![A, k] a ≤ (⟨2, ![n, k]⟩ : Shape).size a)
    (inb0 : ∀ a : Fin 2, ![0, 0] a + ![B, k] a ≤ (⟨2, ![n, k]⟩ : Shape).size a)
    (inb : ∀ a : Fin 2, ![o, 0] a + ![N, k] a ≤ (⟨2, ![n, k]⟩ : Shape).size a)
    (p : (⟨2, ![A, k]⟩ : Shape).Idx → Val e) (q : (⟨2, ![B, k]⟩ : Shape).Idx → Val e) (hn : n ≤ B + A) (i : Fin N) (c : Fin k) :
    v.readCov [⟨Rect.unit (s := ⟨2, ![n, k]⟩) ![B, 0] ![A, k] inb1, p⟩, ⟨Rect.unit (s := ⟨2, ![n, k]⟩) ![0, 0] ![B, k] inb0, q⟩]
      (Rect.unit (s := ⟨2, ![n, k]⟩) ![o, 0] ![N, k] inb).toLoadRect (ix2 i c)
      = if h : o + i.val < B then q (ix2 ⟨o + i.val, h⟩ c)
        else p (ix2 ⟨o + i.val - B, by have h1 : o + N ≤ n := inb 0; omega⟩ c) := by
  have h1 : o + N ≤ n := inb 0
  refine (readCov_at v _ inb (ix2 i c) (ix2 ⟨o + i.val, by omega⟩ c) rfl rfl).trans ?_
  by_cases h : o + i.val < B
  · rw [dif_pos h]
    exact (canon_miss inb1 _ _ _ (Or.inl h)).trans (canon_hit inb0 _ _ (ix2 ⟨o + i.val, h⟩ c) _ (Nat.zero_add _).symm rfl)
  · rw [dif_neg h]
    exact canon_hit inb1 _ _ (ix2 ⟨o + i.val - B, by omega⟩ c) _ (show o + i.val = B + (o + i.val - B) by omega) rfl

/-- The same, the earlier band stored last. -/
theorem readCov_two' [∀ e, Nonempty (Val e)] {sig : RefSig} {κ : Kind} {sp : Space} (v : View sig κ sp (⟨2, ![n, k]⟩ : Shape) e)
    {A B N o : ℕ} (inb1 : ∀ a : Fin 2, ![B, 0] a + ![A, k] a ≤ (⟨2, ![n, k]⟩ : Shape).size a)
    (inb0 : ∀ a : Fin 2, ![0, 0] a + ![B, k] a ≤ (⟨2, ![n, k]⟩ : Shape).size a)
    (inb : ∀ a : Fin 2, ![o, 0] a + ![N, k] a ≤ (⟨2, ![n, k]⟩ : Shape).size a)
    (p : (⟨2, ![A, k]⟩ : Shape).Idx → Val e) (q : (⟨2, ![B, k]⟩ : Shape).Idx → Val e) (hn : n ≤ B + A) (i : Fin N) (c : Fin k) :
    v.readCov [⟨Rect.unit (s := ⟨2, ![n, k]⟩) ![0, 0] ![B, k] inb0, q⟩, ⟨Rect.unit (s := ⟨2, ![n, k]⟩) ![B, 0] ![A, k] inb1, p⟩]
      (Rect.unit (s := ⟨2, ![n, k]⟩) ![o, 0] ![N, k] inb).toLoadRect (ix2 i c)
      = if h : o + i.val < B then q (ix2 ⟨o + i.val, h⟩ c)
        else p (ix2 ⟨o + i.val - B, by have h1 : o + N ≤ n := inb 0; omega⟩ c) := by
  have h1 : o + N ≤ n := inb 0
  refine (readCov_at v _ inb (ix2 i c) (ix2 ⟨o + i.val, by omega⟩ c) rfl rfl).trans ?_
  by_cases h : o + i.val < B
  · rw [dif_pos h]
    exact canon_hit inb0 _ _ (ix2 ⟨o + i.val, h⟩ c) _ (Nat.zero_add _).symm rfl
  · rw [dif_neg h]
    exact (canon_miss inb0 _ _ _ (Or.inr (show 0 + B ≤ o + i.val by omega))).trans
      (canon_hit inb1 _ _ (ix2 ⟨o + i.val - B, by omega⟩ c) _ (show o + i.val = B + (o + i.val - B) by omega) rfl)

/-- A load of a band of rows from a matrix whose first rows were stored over older contents. -/
theorem ld_over {sig : RefSig} {κ : Kind} {sp : Space} (v : View sig κ sp (⟨2, ![n, k]⟩ : Shape) e) (f : v.ty.Contents Val)
    {B N o : ℕ} (inb0 : ∀ a : Fin 2, ![0, 0] a + ![B, k] a ≤ (⟨2, ![n, k]⟩ : Shape).size a)
    (inb : ∀ a : Fin 2, ![o, 0] a + ![N, k] a ≤ (⟨2, ![n, k]⟩ : Shape).size a)
    (q : (⟨2, ![B, k]⟩ : Shape).Idx → Val e) (i : Fin N) (c : Fin k) :
    View.ld (v.read Val (v.writes Val f [⟨Rect.unit (s := ⟨2, ![n, k]⟩) ![0, 0] ![B, k] inb0, q⟩]))
      (Rect.unit (s := ⟨2, ![n, k]⟩) ![o, 0] ![N, k] inb) (ix2 i c)
      = if h : o + i.val < B then q (ix2 ⟨o + i.val, h⟩ c)
        else v.read Val f (ix2 ⟨o + i.val, by have h1 : o + N ≤ n := inb 0; omega⟩ c) := by
  have h1 : o + N ≤ n := inb 0
  show v.read Val (v.writes Val f _) ((Rect.unit (s := ⟨2, ![n, k]⟩) ![o, 0] ![N, k] inb).emb (ix2 i c)) = _
  rw [emb_eq inb (ix2 i c) (ix2 ⟨o + i.val, by omega⟩ c) rfl rfl]
  by_cases h : o + i.val < B
  · rw [dif_pos h]
    exact read_writes_cons_rows_of_mem v f inb0 q [] _ (ix2 ⟨o + i.val, h⟩ c) rfl (Nat.zero_add _).symm rfl
  · rw [dif_neg h]
    exact read_writes_cons_rows_of_not_mem v f inb0 q [] _ rfl rfl (Or.inr (show 0 + B ≤ o + i.val by omega))

/-- One row, loaded. -/
theorem ld_row {o : ℕ} (inb : ∀ a : Fin 2, ![o, 0] a + ![1, k] a ≤ (⟨2, ![n, k]⟩ : Shape).size a)
    (X : (⟨2, ![n, k]⟩ : Shape).Idx → Val e) (a : Fin n) (h : a.val = o) (c : Fin k) :
    View.ld X (Rect.unit (s := ⟨2, ![n, k]⟩) ![o, 0] ![1, k] inb) (ix2 0 c) = X (ix2 a c) := by
  show X ((Rect.unit (s := ⟨2, ![n, k]⟩) ![o, 0] ![1, k] inb).emb (ix2 0 c)) = _
  rw [emb_eq inb (ix2 0 c) (ix2 a c) h rfl]

end Cert.Rows
end
-- ==== Proof.Dnc.Block.lean ====
module

public import proofs.«01_k».proof.Proof.Gen.KernelDncIdeal.Value
public import proofs.«01_k».proof.Proof.Dnc.Math
public import proofs.«01_k».proof.Proof.Math.Rows
public import Idealize.ShloMosaic.Lib.Pipeline.ValueKit
public import Idealize.ShloMosaic.Lib.Pointwise

@[expose] public section

set_option maxRecDepth 16384

/-!
# What the stores of the convolution's backward kernel hold, in the values loaded before them
-/

noncomputable section

open Idealize Idealize.ShloMosaic Idealize.ShloMosaic.Pipeline Idealize.SL
open Cert.KernelDncIdeal Cert.KernelDncIdeal.Gen

namespace Cert.Dnc

theorem halo_block (i : grid0.Coords) (h : Vec Ideal S8x768 .f32) (j : S8x768.Idx) :
    k0_pay5 i h j = if (i 1).val < 7 then h j else 0 := by
  have key : ∀ n : Fin 8, Scalar.select (Scalar.cmpi CmpIPredicate.sgt (Scalar.subi 7#32 (BitVec.ofNat 32 n.val)) 0#32) (h j) (0 : EReal)
      = if n.val < 7 then h j else 0 := by
    intro n
    fin_cases n <;> rfl
  pointwise [k0_pay5]
  exact key (i 1)

theorem dacc_block (w : Vec Ideal S4x768 .f32) (a b c d o : Vec Ideal S256x768 .f32) (i : Fin 256) (k : Fin 768) :
    k0_pay8 w (k0_pay7 w a b c) d o (ix2 i k)
      = o (ix2 i k) * siluD (w (ix2 3 k) * a (ix2 i k) + w (ix2 0 k) * b (ix2 i k) + w (ix2 1 k) * c (ix2 i k) + w (ix2 2 k) * d (ix2 i k)) := by
  pointwise [k0_pay8, k0_pay7, siluD]

theorem dacc_block' (w : Vec Ideal S4x768 .f32) (a d o : Vec Ideal S256x768 .f32) : k0_pay9 w a d o = k0_pay8 w a d o := by
  funext j
  pointwise [k0_pay9]

theorem dx_block (w : Vec Ideal S4x768 .f32) (a b c d : Vec Ideal S256x768 .f32) (i : Fin 256) (k : Fin 768) :
    k0_pay10 w a b c d (ix2 i k)
      = w (ix2 3 k) * a (ix2 i k) + w (ix2 2 k) * b (ix2 i k) + w (ix2 1 k) * c (ix2 i k) + w (ix2 0 k) * d (ix2 i k) := by
  pointwise [k0_pay10]

theorem dw_block3 (d x : Vec Ideal S256x768 .f32) (o : Vec Ideal S1x768 .f32) (k : Fin 768) :
    k0_pay11 d x o (ix2 0 k) = o (ix2 0 k) + ∑ s : Fin 256, d (ix2 s k) * x (ix2 s k) := by
  pointwise [k0_pay11]
theorem dw_block0 (d x : Vec Ideal S256x768 .f32) (o : Vec Ideal S1x768 .f32) (k : Fin 768) :
    k0_pay12 d x o (ix2 0 k) = o (ix2 0 k) + ∑ s : Fin 256, d (ix2 s k) * x (ix2 s k) := by
  pointwise [k0_pay12]
theorem dw_block1 (d x : Vec Ideal S256x768 .f32) (o : Vec Ideal S1x768 .f32) (k : Fin 768) :
    k0_pay13 d x o (ix2 0 k) = o (ix2 0 k) + ∑ s : Fin 256, d (ix2 s k) * x (ix2 s k) := by
  pointwise [k0_pay13]
theorem dw_block2 (d x : Vec Ideal S256x768 .f32) (o : Vec Ideal S1x768 .f32) (k : Fin 768) :
    k0_pay1 (k0_pay14 o) (k0_pay15 d x) (ix2 0 k) = o (ix2 0 k) + ∑ s : Fin 256, d (ix2 s k) * x (ix2 s k) := by
  pointwise [k0_pay1, k0_pay14, k0_pay15]

theorem tail_block (d : Vec Ideal S256x768 .f32) (i : Fin 8) (k : Fin 768) :
    k0_pay2 (F := Ideal) d (ix2 i k) = d (ix2 ⟨i.val, by omega⟩ k) := by
  pointwise [k0_pay2]
theorem copy_block (d : Vec Ideal S256x768 .f32) : k0_pay6 d = d := by
  funext j
  pointwise [k0_pay6]
theorem zero_dw (j : S4x768.Idx) : k0_pay3 (F := Ideal) j = 0 := by pointwise [k0_pay3]
theorem zero_tail (j : S8x768.Idx) : k0_pay4 (F := Ideal) j = 0 := by pointwise [k0_pay4]

end Cert.Dnc
end
-- ==== Proof.Dnc.Kernel.lean ====
module

public import proofs.«01_k».proof.Proof.Dnc.Block

@[expose] public section

set_option maxRecDepth 16384

/-!
# What the convolution's backward kernel holds at each point

At point `t` the kernel works on rows `256 * (7 - t % 8) ..` and columns `768 * (t / 8) ..`.
-/

noncomputable section

open Idealize Idealize.ShloMosaic Idealize.ShloMosaic.Pipeline Idealize.ShloMosaic.TcCoe Idealize.SL
open Cert.KernelDncIdeal Cert.KernelDncIdeal.Gen

namespace Cert.Dnc

variable (m : (ℓ : Loc nD τ sig) → Buf (Elt Ideal) ℓ)

/-- Which block each operand and result uses at a point. -/
theorem idx : ∀ t : Fin cfg0.N, win0_0.index t = ![7 - t.val % 8, 1 + t.val / 8] ∧ win0_1.index t = ![(7 - t.val % 8) * 32 - 1, 1 + t.val / 8]
    ∧ win0_2.index t = ![0, t.val / 8] ∧ win0_3.index t = ![7 - t.val % 8, t.val / 8] ∧ win0_4.index t = ![7 - t.val % 8, t.val / 8]
    ∧ win0_5.index t = ![0, t.val / 8] := (by decide +kernel : ∀ t : Fin grid0.N, _)

theorem coord1 : ∀ t : Fin cfg0.N, (grid0.coords t 1).val = t.val % 8 := (by decide +kernel : ∀ t : Fin grid0.N, _)

theorem lt_16 (t : Fin cfg0.N) : t.val < 16 := lt_of_lt_of_eq t.isLt N_0

/-- The column of the whole array that a block's column is. -/
def gcol (t : Fin cfg0.N) (k : Fin 768) : Fin 1536 := ⟨t.val / 8 * 768 + k.val, by have := lt_16 t; omega⟩
/-- The row of the whole array that a block's row is. -/
def grow (t : Fin cfg0.N) (i : Fin 256) : Fin 2048 := ⟨(7 - t.val % 8) * 256 + i.val, by omega⟩

theorem pad_at (P : Vec Ideal S2048x2832 .f32) (z : Vec Ideal S_ .f32) (i : Fin 2048) (q : Fin 3072) (h : q.val < 2832) :
    pad S2048x3072 ![0, 0] ![0, 240] ![0, 0] P z pads_S2048x2832_S2048x3072_000_02400 h_S_ (ix2 i q) = P (ix2 i ⟨q.val, h⟩) := by
  pointwise
  exact dif_pos h

/-- The padded projection, one element inside the part that is not padding. -/
theorem V_main_v0 (c : Dev nD) (i : Fin 2048) (q : Fin 3072) (h : q.val < 2832) :
    V m c main_v0 (ix2 i q) = m ((c : Thread nD τ).loc main_arg0) (ix2 i ⟨q.val, h⟩) := by
  have e : V m c main_v0 = pad S2048x3072 ![0, 0] ![0, 240] ![0, 0] (m ((c : Thread nD τ).loc main_arg0))
      (sitofp (F := Ideal) .f32 (constantI S_ 32 0#32)) pads_S2048x2832_S2048x3072_000_02400 h_S_ := by
    show StableHlo.after _ _ _ = _
    unfold hostOps0 hostOps0_1
    simp only [List.flatten_cons, List.flatten_nil, List.cons_append, List.nil_append]
    after_results
    rfl
  rw [e]
  exact pad_at _ _ i q h

theorem x_read (c : Dev nD) (t : Fin cfg0.N) (i : Fin 256) (k : Fin 768) :
    iblk m c 0 t (ix2 i k) = xcol (m ((c : Thread nD τ).loc main_arg0)) (gcol t k) (grow t i) := by
  have := lt_16 t
  refine Eq.trans ?_ (V_main_v0 m c (grow t i) ⟨768 + (gcol t k).val, by omega⟩ (by have := (gcol t k).isLt; show 768 + (gcol t k).val < 2832; omega))
  unfold gcol grow
  blk_point [iblk, idx t]

theorem h_read (c : Dev nD) (t : Fin cfg0.N) (h : t.val % 8 < 7) (i : Fin 8) (k : Fin 768) :
    iblk m c 1 t (ix2 i k) = xcol (m ((c : Thread nD τ).loc main_arg0)) (gcol t k) ⟨(7 - t.val % 8) * 256 - 8 + i.val, by omega⟩ := by
  have := lt_16 t
  refine Eq.trans ?_ (V_main_v0 m c ⟨(7 - t.val % 8) * 256 - 8 + i.val, by omega⟩ ⟨768 + (gcol t k).val, by omega⟩ (by have := (gcol t k).isLt; show 768 + (gcol t k).val < 2832; omega))
  unfold gcol
  blk_point [iblk, idx t]

theorem w_read (c : Dev nD) (t : Fin cfg0.N) (i : Fin 4) (k : Fin 768) :
    iblk m c 2 t (ix2 i k) = wcol (m ((c : Thread nD τ).loc main_arg1)) (gcol t k) i := by
  have := lt_16 t
  unfold wcol gcol
  blk_point [iblk, V, idx t]

theorem d_read (c : Dev nD) (t : Fin cfg0.N) (i : Fin 256) (k : Fin 768) :
    iblk m c 3 t (ix2 i k) = dcol (m ((c : Thread nD τ).loc main_arg2)) (gcol t k) (grow t i) := by
  have := lt_16 t
  unfold dcol gcol grow
  blk_point [iblk, V, idx t]

/-- The two bands the kernel stores in its row buffer: the block's rows after eight rows of the block before. -/
abbrev bands (c : Dev nD) (t : Fin cfg0.N) : List (View.Piece (Elt Ideal) S264x768 .f32) :=
  [⟨Rect.unit ![8, 0] ![256, 768] inb_S264x768_S256x768_8_0, k0_pay6 (iblk m c 0 t)⟩,
    ⟨Rect.unit ![0, 0] ![8, 768] inb_S264x768_S8x768_0_0, k0_pay5 (grid0.coords t) (iblk m c 1 t)⟩]

/-- A band of the row buffer: rows of the padded column. -/
theorem band_read (c : Dev nD) (t : Fin cfg0.N) {sg : RefSig} {κ : Kind} {sp : Space} (v : View sg κ sp S264x768 .f32)
    {o : ℕ} (inb : ∀ a : Fin 2, ![o, 0] a + ![256, 768] a ≤ S264x768.size a) (h5 : 5 ≤ o) (i : Fin 256) (k : Fin 768) :
    v.readCov (bands m c t) (Rect.unit (s := S264x768) ![o, 0] ![256, 768] inb).toLoadRect (ix2 i k)
      = xp (xcol (m ((c : Thread nD τ).loc main_arg0)) (gcol t k)) ((7 - t.val % 8) * 256 + i.val + (o - 5)) := by
  have ho : o + 256 ≤ 264 := inb 0
  have key := Rows.readCov_two (Val := Elt Ideal) (e := .f32) v inb_S264x768_S256x768_8_0 inb_S264x768_S8x768_0_0 inb (k0_pay6 (iblk m c 0 t))
    (k0_pay5 (grid0.coords t) (iblk m c 1 t)) (by norm_num) i k
  refine key.trans ?_
  clear key
  unfold xp
  by_cases h : o + i.val < 8
  · rw [dif_pos h, halo_block, coord1]
    by_cases h7 : t.val % 8 < 7
    · rw [if_pos h7, h_read m c t h7, dif_pos (by omega)]
      exact congrArg _ (Fin.ext (show (7 - t.val % 8) * 256 - 8 + (o + i.val) = (7 - t.val % 8) * 256 + i.val + (o - 5) - 3 by omega))
    · rw [if_neg h7, dif_neg (by omega)]
  · rw [dif_neg h, copy_block, x_read, dif_pos (by omega)]
    exact congrArg _ (Fin.ext (show (7 - t.val % 8) * 256 + (o + i.val - 8) = (7 - t.val % 8) * 256 + i.val + (o - 5) - 3 by omega))

/-- The convolution output's gradient in the block. -/
abbrev blk (c : Dev nD) (t : Fin cfg0.N) : Vec Ideal S256x768 .f32 :=
  k0_pay8 (iblk m c 2 t)
    (k0_pay7 (iblk m c 2 t)
      ((View.whole cc0_scratch0).readCov (bands m c t) (Rect.unit (s := S264x768) ![8, 0] ![256, 768] inb_S264x768_S256x768_8_0).toLoadRect)
      ((View.whole cc0_scratch0).readCov (bands m c t) (Rect.unit (s := S264x768) ![5, 0] ![256, 768] inb_S264x768_S256x768_5_0).toLoadRect)
      ((View.whole cc0_scratch0).readCov (bands m c t) (Rect.unit (s := S264x768) ![6, 0] ![256, 768] inb_S264x768_S256x768_6_0).toLoadRect))
    ((View.whole cc0_scratch0).readCov (bands m c t) (Rect.unit (s := S264x768) ![7, 0] ![256, 768] inb_S264x768_S256x768_7_0).toLoadRect)
    (iblk m c 3 t)

/-- The gradient of the convolution's output, in the whole arrays. -/
abbrev D (c : Dev nD) (q : Fin 1536) (n : ℕ) : EReal :=
  dacc (xcol (m ((c : Thread nD τ).loc main_arg0)) q) (wcol (m ((c : Thread nD τ).loc main_arg1)) q) (dcol (m ((c : Thread nD τ).loc main_arg2)) q) n

theorem blk_at (c : Dev nD) (t : Fin cfg0.N) (i : Fin 256) (k : Fin 768) :
    blk m c t (ix2 i k) = D m c (gcol t k) ((7 - t.val % 8) * 256 + i.val) := by
  refine (dacc_block _ _ _ _ _ _ _ _).trans ?_
  rw [d_read, w_read, w_read, w_read, w_read, band_read m c t _ _ (by decide), band_read m c t _ _ (by decide),
    band_read m c t _ _ (by decide), band_read m c t _ _ (by decide)]
  unfold D dacc
  rw [dif_pos (by omega)]
  rfl

/-- The last eight rows of the gradient buffer after a point: the block's first eight. -/
theorem tail_at (c : Dev nD) (t : Fin cfg0.N) (i : Fin 8) (k : Fin 768) :
    (outsAt0 m c t.val t.isLt).2.2 (ix2 ⟨256 + i.val, by omega⟩ k) = D m c (gcol t k) ((7 - t.val % 8) * 256 + i.val) := by
  by_cases h : t.val % 8 = 0
  · rw [outsAt0_A m c t h]; frame_out
    refine (Rows.canon_hit (Val := Elt Ideal) (e := .f32) inb_S264x768_S8x768_256_0 _ _ (ix2 i k) _ rfl rfl).trans ?_
    exact (tail_block _ i k).trans (blk_at m c t _ k)
  · rw [outsAt0_B m c t h]; frame_out
    refine (Rows.canon_hit (Val := Elt Ideal) (e := .f32) inb_S264x768_S8x768_256_0 _ _ (ix2 i k) _ rfl rfl).trans ?_
    exact (tail_block _ i k).trans (blk_at m c t _ k)

/-- What the kernel stores in the gradient buffer's first rows. -/
abbrev blk9 (c : Dev nD) (t : Fin cfg0.N) : Vec Ideal S256x768 .f32 :=
  k0_pay9 (iblk m c 2 t)
    (k0_pay7 (iblk m c 2 t)
      ((View.whole cc0_scratch0).readCov (bands m c t) (Rect.unit (s := S264x768) ![8, 0] ![256, 768] inb_S264x768_S256x768_8_0).toLoadRect)
      ((View.whole cc0_scratch0).readCov (bands m c t) (Rect.unit (s := S264x768) ![5, 0] ![256, 768] inb_S264x768_S256x768_5_0).toLoadRect)
      ((View.whole cc0_scratch0).readCov (bands m c t) (Rect.unit (s := S264x768) ![6, 0] ![256, 768] inb_S264x768_S256x768_6_0).toLoadRect))
    ((View.whole cc0_scratch0).readCov (bands m c t) (Rect.unit (s := S264x768) ![7, 0] ![256, 768] inb_S264x768_S256x768_7_0).toLoadRect)
    (iblk m c 3 t)

theorem blk9_at (c : Dev nD) (t : Fin cfg0.N) (i : Fin 256) (k : Fin 768) :
    blk9 m c t (ix2 i k) = D m c (gcol t k) ((7 - t.val % 8) * 256 + i.val) := by
  unfold blk9
  rw [dacc_block']
  exact blk_at m c t i k

/-- The band just stored. -/
theorem grad_read0 (c : Dev nD) (t : Fin cfg0.N) {sg : RefSig} {κ : Kind} {sp : Space} (v : View sg κ sp S264x768 .f32)
    (L : List (View.Piece (Elt Ideal) S264x768 .f32)) (i : Fin 256) (k : Fin 768) :
    v.readCov (⟨Rect.unit ![0, 0] ![256, 768] inb_S264x768_S256x768_0_0, blk9 m c t⟩ :: L)
      (Rect.unit (s := S264x768) ![0, 0] ![256, 768] inb_S264x768_S256x768_0_0).toLoadRect (ix2 i k)
      = D m c (gcol t k) ((7 - t.val % 8) * 256 + i.val) := by
  rw [View.readCov_cons_toLoadRect]
  exact blk9_at m c t i k

/-- The gradient buffer at the last rows' block: nothing follows. -/
theorem grad_readA (c : Dev nD) (t : Fin cfg0.N) (h : t.val % 8 = 0) {sg : RefSig} {κ : Kind} {sp : Space} (v : View sg κ sp S264x768 .f32)
    {o : ℕ} (inb : ∀ a : Fin 2, ![o, 0] a + ![256, 768] a ≤ S264x768.size a) (i : Fin 256) (k : Fin 768) :
    v.readCov [⟨Rect.unit ![0, 0] ![256, 768] inb_S264x768_S256x768_0_0, blk9 m c t⟩,
        ⟨Rect.unit ![256, 0] ![8, 768] inb_S264x768_S8x768_256_0, k0_pay4 (F := Ideal)⟩]
      (Rect.unit (s := S264x768) ![o, 0] ![256, 768] inb).toLoadRect (ix2 i k)
      = D m c (gcol t k) ((7 - t.val % 8) * 256 + i.val + o) := by
  have key := Rows.readCov_two' (Val := Elt Ideal) (e := .f32) v inb_S264x768_S8x768_256_0 inb_S264x768_S256x768_0_0 inb (k0_pay4 (F := Ideal))
    (blk9 m c t) (by norm_num) i k
  refine key.trans ?_
  clear key
  by_cases hi : o + i.val < 256
  · rw [dif_pos hi, blk9_at]
    exact congrArg _ (show (7 - t.val % 8) * 256 + (o + i.val) = (7 - t.val % 8) * 256 + i.val + o by omega)
  · rw [dif_neg hi, zero_tail]
    unfold D dacc
    rw [dif_neg (by omega)]

/-- The gradient buffer at any other block: the block below follows. -/
theorem grad_readB (c : Dev nD) (t : Fin cfg0.N) (h : ¬ t.val % 8 = 0) (hw : (Memref.whole cc0_scratch1).IsWhole)
    {o : ℕ} (inb : ∀ a : Fin 2, ![o, 0] a + ![256, 768] a ≤ S264x768.size a) (i : Fin 256) (k : Fin 768) :
    View.ld ((View.whole cc0_scratch1).read (Elt Ideal) ((View.whole cc0_scratch1).writes (Elt Ideal)
        (hw.unread (outsAt0 m c (t.val - 1) (by omega)).2.2) [⟨Rect.unit ![0, 0] ![256, 768] inb_S264x768_S256x768_0_0, blk9 m c t⟩]))
      (Rect.unit (s := S264x768) ![o, 0] ![256, 768] inb) (ix2 i k)
      = D m c (gcol t k) ((7 - t.val % 8) * 256 + i.val + o) := by
  have ho : o + 256 ≤ 264 := inb 0
  have key := Rows.ld_over (Val := Elt Ideal) (e := .f32) (View.whole cc0_scratch1)
    (hw.unread (outsAt0 m c (t.val - 1) (by omega)).2.2) inb_S264x768_S256x768_0_0 inb (blk9 m c t) i k
  refine key.trans ?_
  clear key
  by_cases hi : o + i.val < 256
  · rw [dif_pos hi, blk9_at]
    exact congrArg _ (show (7 - t.val % 8) * 256 + (o + i.val) = (7 - t.val % 8) * 256 + i.val + o by omega)
  · rw [dif_neg hi]
    refine (congrFun (hw.read_unread _) _).trans ?_
    have e := tail_at m c ⟨t.val - 1, by omega⟩ ⟨o + i.val - 256, by omega⟩ k
    have hc : gcol ⟨t.val - 1, by omega⟩ k = gcol t k := Fin.ext (show (t.val - 1) / 8 * 768 + k.val = t.val / 8 * 768 + k.val by omega)
    rw [hc] at e
    refine Eq.trans (congrArg _ (congrArg (fun r => ix2 r k) (Fin.ext (show o + i.val = 256 + (o + i.val - 256) by omega)))) (e.trans ?_)
    exact congrArg _ (show (7 - (t.val - 1) % 8) * 256 + (o + i.val - 256) = (7 - t.val % 8) * 256 + i.val + o by omega)

/-- A block of the column's gradient after a point. -/
theorem dx_at (c : Dev nD) (t : Fin cfg0.N) (i : Fin 256) (k : Fin 768) :
    (outsAt0 m c t.val t.isLt).1 (ix2 i k)
      = dx (xcol (m ((c : Thread nD τ).loc main_arg0)) (gcol t k)) (wcol (m ((c : Thread nD τ).loc main_arg1)) (gcol t k))
          (dcol (m ((c : Thread nD τ).loc main_arg2)) (gcol t k)) ((7 - t.val % 8) * 256 + i.val) := by
  by_cases h : t.val % 8 = 0
  · rw [outsAt0_A m c t h]; frame_out
    refine (dx_block _ _ _ _ _ i k).trans ?_
    rw [w_read, w_read, w_read, w_read]
    unfold dx
    refine congrArg₂ (· + ·) (congrArg₂ (· + ·) (congrArg₂ (· + ·) (congrArg _ ?_) (congrArg _ ?_)) (congrArg _ ?_)) (congrArg _ ?_)
    · exact grad_read0 m c t _ _ i k
    · exact grad_readA m c t h _ _ i k
    · exact grad_readA m c t h _ _ i k
    · exact grad_readA m c t h _ _ i k
  · rw [outsAt0_B m c t h]; frame_out
    refine (dx_block _ _ _ _ _ i k).trans ?_
    rw [w_read, w_read, w_read, w_read]
    unfold dx
    refine congrArg₂ (· + ·) (congrArg₂ (· + ·) (congrArg₂ (· + ·) (congrArg _ ?_) (congrArg _ ?_)) (congrArg _ ?_)) (congrArg _ ?_)
    · exact grad_read0 m c t _ _ i k
    · exact grad_readB m c t h _ _ i k
    · exact grad_readB m c t h _ _ i k
    · exact grad_readB m c t h _ _ i k

/-- What a point adds to a tap's gradient. -/
def dwS (c : Dev nD) (t : Fin cfg0.N) (a : ℕ) (k : Fin 768) : EReal :=
  ∑ s : Fin 256, D m c (gcol t k) ((7 - t.val % 8) * 256 + s.val)
    * xp (xcol (m ((c : Thread nD τ).loc main_arg0)) (gcol t k)) ((7 - t.val % 8) * 256 + s.val + a)

theorem dwS_of (c : Dev nD) (t : Fin cfg0.N) {sg : RefSig} {κ : Kind} {sp : Space} (v : View sg κ sp S264x768 .f32)
    {o a : ℕ} (inb : ∀ a : Fin 2, ![o, 0] a + ![256, 768] a ≤ S264x768.size a) (h : 5 + a = o) (k : Fin 768) :
    ∑ s : Fin 256, blk m c t (ix2 s k) * v.readCov (bands m c t) (Rect.unit (s := S264x768) ![o, 0] ![256, 768] inb).toLoadRect (ix2 s k)
      = dwS m c t a k := by
  unfold dwS
  refine Fin.sum_fin_congr fun s => ?_
  rw [blk_at, band_read m c t v inb (by omega) s k]
  rw [show o - 5 = a by omega]

theorem dw_first (c : Dev nD) (t : Fin cfg0.N) (h : t.val % 8 = 0) (a : Fin 4) (k : Fin 768) :
    (outsAt0 m c t.val t.isLt).2.1 (ix2 a k) = 0 + dwS m c t a.val k := by
  rw [outsAt0_A m c t h]; frame_out
  match a with
  | 2 =>
    refine (Rows.canon_hit (Val := Elt Ideal) (e := .f32) inb_S4x768_S1x768_2_0 _ _ (ix2 0 k) _ rfl rfl).trans ?_
    refine (dw_block2 _ _ _ k).trans (congrArg₂ (· + ·) ?_
      (dwS_of m c t (View.whole cc0_scratch0) inb_S264x768_S256x768_7_0 (a := 2) rfl k))
    refine (Rows.readCov_at (Val := Elt Ideal) (e := .f32) _ _ inb_S4x768_S1x768_2_0 (ix2 0 k) (ix2 2 k) rfl rfl).trans ?_
    refine (Rows.canon_miss (Val := Elt Ideal) (e := .f32) inb_S4x768_S1x768_1_0 _ _ _ (.inr (show 1 + 1 ≤ 2 by decide))).trans ?_
    refine (Rows.canon_miss (Val := Elt Ideal) (e := .f32) inb_S4x768_S1x768_0_0 _ _ _ (.inr (show 0 + 1 ≤ 2 by decide))).trans ?_
    refine (Rows.canon_miss (Val := Elt Ideal) (e := .f32) inb_S4x768_S1x768_3_0 _ _ _ (.inl (show 2 < 3 by decide))).trans ?_
    exact (Rows.canon_hit (Val := Elt Ideal) (e := .f32) inb_S4x768_S4x768_0_0 _ _ (ix2 2 k) (ix2 2 k) rfl rfl).trans (zero_dw _)
  | 1 =>
    refine (Rows.canon_miss (Val := Elt Ideal) (e := .f32) inb_S4x768_S1x768_2_0 _ _ _ (.inl (show 1 < 2 by decide))).trans ?_
    refine (Rows.canon_hit (Val := Elt Ideal) (e := .f32) inb_S4x768_S1x768_1_0 _ _ (ix2 0 k) _ rfl rfl).trans ?_
    refine (dw_block1 _ _ _ k).trans (congrArg₂ (· + ·) ?_
      (dwS_of m c t (View.whole cc0_scratch0) inb_S264x768_S256x768_6_0 (a := 1) rfl k))
    refine (Rows.readCov_at (Val := Elt Ideal) (e := .f32) _ _ inb_S4x768_S1x768_1_0 (ix2 0 k) (ix2 1 k) rfl rfl).trans ?_
    refine (Rows.canon_miss (Val := Elt Ideal) (e := .f32) inb_S4x768_S1x768_0_0 _ _ _ (.inr (show 0 + 1 ≤ 1 by decide))).trans ?_
    refine (Rows.canon_miss (Val := Elt Ideal) (e := .f32) inb_S4x768_S1x768_3_0 _ _ _ (.inl (show 1 < 3 by decide))).trans ?_
    exact (Rows.canon_hit (Val := Elt Ideal) (e := .f32) inb_S4x768_S4x768_0_0 _ _ (ix2 1 k) (ix2 1 k) rfl rfl).trans (zero_dw _)
  | 0 =>
    refine (Rows.canon_miss (Val := Elt Ideal) (e := .f32) inb_S4x768_S1x768_2_0 _ _ _ (.inl (show 0 < 2 by decide))).trans ?_
    refine (Rows.canon_miss (Val := Elt Ideal) (e := .f32) inb_S4x768_S1x768_1_0 _ _ _ (.inl (show 0 < 1 by decide))).trans ?_
    refine (Rows.canon_hit (Val := Elt Ideal) (e := .f32) inb_S4x768_S1x768_0_0 _ _ (ix2 0 k) _ rfl rfl).trans ?_
    refine (dw_block0 _ _ _ k).trans (congrArg₂ (· + ·) ?_
      (dwS_of m c t (View.whole cc0_scratch0) inb_S264x768_S256x768_5_0 (a := 0) rfl k))
    refine (Rows.readCov_at (Val := Elt Ideal) (e := .f32) _ _ inb_S4x768_S1x768_0_0 (ix2 0 k) (ix2 0 k) rfl rfl).trans ?_
    refine (Rows.canon_miss (Val := Elt Ideal) (e := .f32) inb_S4x768_S1x768_3_0 _ _ _ (.inl (show 0 < 3 by decide))).trans ?_
    exact (Rows.canon_hit (Val := Elt Ideal) (e := .f32) inb_S4x768_S4x768_0_0 _ _ (ix2 0 k) (ix2 0 k) rfl rfl).trans (zero_dw _)
  | 3 =>
    refine (Rows.canon_miss (Val := Elt Ideal) (e := .f32) inb_S4x768_S1x768_2_0 _ _ _ (.inr (show 2 + 1 ≤ 3 by decide))).trans ?_
    refine (Rows.canon_miss (Val := Elt Ideal) (e := .f32) inb_S4x768_S1x768_1_0 _ _ _ (.inr (show 1 + 1 ≤ 3 by decide))).trans ?_
    refine (Rows.canon_miss (Val := Elt Ideal) (e := .f32) inb_S4x768_S1x768_0_0 _ _ _ (.inr (show 0 + 1 ≤ 3 by decide))).trans ?_
    refine (Rows.canon_hit (Val := Elt Ideal) (e := .f32) inb_S4x768_S1x768_3_0 _ _ (ix2 0 k) _ rfl rfl).trans ?_
    refine (dw_block3 _ _ _ k).trans (congrArg₂ (· + ·) ?_
      (dwS_of m c t (View.whole cc0_scratch0) inb_S264x768_S256x768_8_0 (a := 3) rfl k))
    refine (Rows.readCov_at (Val := Elt Ideal) (e := .f32) _ _ inb_S4x768_S1x768_3_0 (ix2 0 k) (ix2 3 k) rfl rfl).trans ?_
    exact (Rows.canon_hit (Val := Elt Ideal) (e := .f32) inb_S4x768_S4x768_0_0 _ _ (ix2 3 k) (ix2 3 k) rfl rfl).trans (zero_dw _)

theorem dw_next (c : Dev nD) (t : Fin cfg0.N) (h : ¬ t.val % 8 = 0) (a : Fin 4) (k : Fin 768) :
    (outsAt0 m c t.val t.isLt).2.1 (ix2 a k) = (outsAt0 m c (t.val - 1) (by omega)).2.1 (ix2 a k) + dwS m c t a.val k := by
  rw [outsAt0_B m c t h]; frame_out
  match a with
  | 2 =>
    refine (Rows.canon_hit (Val := Elt Ideal) (e := .f32) inb_S4x768_S1x768_2_0 _ _ (ix2 0 k) _ rfl rfl).trans ?_
    exact (dw_block2 _ _ _ k).trans (congrArg₂ (· + ·) (Rows.ld_row _ _ 2 rfl k)
      (dwS_of m c t (View.whole cc0_scratch0) inb_S264x768_S256x768_7_0 (a := 2) rfl k))
  | 1 =>
    refine (Rows.canon_miss (Val := Elt Ideal) (e := .f32) inb_S4x768_S1x768_2_0 _ _ _ (.inl (show 1 < 2 by decide))).trans ?_
    refine (Rows.canon_hit (Val := Elt Ideal) (e := .f32) inb_S4x768_S1x768_1_0 _ _ (ix2 0 k) _ rfl rfl).trans ?_
    exact (dw_block1 _ _ _ k).trans (congrArg₂ (· + ·) (Rows.ld_row _ _ 1 rfl k)
      (dwS_of m c t (View.whole cc0_scratch0) inb_S264x768_S256x768_6_0 (a := 1) rfl k))
  | 0 =>
    refine (Rows.canon_miss (Val := Elt Ideal) (e := .f32) inb_S4x768_S1x768_2_0 _ _ _ (.inl (show 0 < 2 by decide))).trans ?_
    refine (Rows.canon_miss (Val := Elt Ideal) (e := .f32) inb_S4x768_S1x768_1_0 _ _ _ (.inl (show 0 < 1 by decide))).trans ?_
    refine (Rows.canon_hit (Val := Elt Ideal) (e := .f32) inb_S4x768_S1x768_0_0 _ _ (ix2 0 k) _ rfl rfl).trans ?_
    exact (dw_block0 _ _ _ k).trans (congrArg₂ (· + ·) (Rows.ld_row _ _ 0 rfl k)
      (dwS_of m c t (View.whole cc0_scratch0) inb_S264x768_S256x768_5_0 (a := 0) rfl k))
  | 3 =>
    refine (Rows.canon_miss (Val := Elt Ideal) (e := .f32) inb_S4x768_S1x768_2_0 _ _ _ (.inr (show 2 + 1 ≤ 3 by decide))).trans ?_
    refine (Rows.canon_miss (Val := Elt Ideal) (e := .f32) inb_S4x768_S1x768_1_0 _ _ _ (.inr (show 1 + 1 ≤ 3 by decide))).trans ?_
    refine (Rows.canon_miss (Val := Elt Ideal) (e := .f32) inb_S4x768_S1x768_0_0 _ _ _ (.inr (show 0 + 1 ≤ 3 by decide))).trans ?_
    refine (Rows.canon_hit (Val := Elt Ideal) (e := .f32) inb_S4x768_S1x768_3_0 _ _ (ix2 0 k) _ rfl rfl).trans ?_
    exact (dw_block3 _ _ _ k).trans (congrArg₂ (· + ·) (Rows.ld_row _ _ 3 rfl k)
      (dwS_of m c t (View.whole cc0_scratch0) inb_S264x768_S256x768_8_0 (a := 3) rfl k))

end Cert.Dnc
end
-- ==== Proof.Dnc.Final.lean ====
module

public import proofs.«01_k».proof.Proof.Dnc.Kernel

@[expose] public section

set_option maxRecDepth 16384

/-!
# What the convolution's backward kernel leaves in its two result arrays
-/

noncomputable section

open Idealize Idealize.ShloMosaic Idealize.ShloMosaic.Pipeline Idealize.ShloMosaic.TcCoe Idealize.SL
open Cert.KernelDncIdeal Cert.KernelDncIdeal.Gen

namespace Cert.Dnc

/-- The gradient of the convolution's input. -/
def dxK (P : Vec Ideal S2048x2832 .f32) (w : Vec Ideal S4x1536 .f32) (d : Vec Ideal S2048x1536 .f32) (j : S2048x1536.Idx) : EReal :=
  dx (xcol P (j 1)) (wcol w (j 1)) (dcol d (j 1)) (j 0).val

/-- The gradient of its taps. -/
def dwK (P : Vec Ideal S2048x2832 .f32) (w : Vec Ideal S4x1536 .f32) (d : Vec Ideal S2048x1536 .f32) (j : S4x1536.Idx) : EReal :=
  dw (xcol P (j 1)) (wcol w (j 1)) (dcol d (j 1)) (j 0).val

variable (m : (ℓ : Loc nD τ sig) → Buf (Elt Ideal) ℓ)

theorem dx_final (c : Dev nD) : (dats m 0 c).arrAt 4 (cfgs 0).N
    = dxK (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨i, k, rfl⟩ : ∃ (i : Fin 256) (k : Fin 768), y = ix2 i k := ⟨y 0, y 1, by funext a; match a with | ⟨0, _⟩ => rfl | ⟨1, _⟩ => rfl⟩
  refine (dx_at m c t i k).trans ?_
  have := lt_16 t
  have h0 : (7 - t.val % 8) * 256 + i.val = (((View.whole main_v1_0).slice (win0_4.rect t)).emb (ix2 i k) 0).val := by
    blk_simp [idx t]
  have h1 : gcol t k = ((View.whole main_v1_0).slice (win0_4.rect t)).emb (ix2 i k) 1 := by
    apply Fin.ext; unfold gcol; blk_simp [idx t]
  unfold dxK
  rw [← h0, ← h1]

/-- The eight points that work on one block of columns visit the blocks of rows from the last to the first. -/
theorem sum_points (c : Dev nD) (t : Fin cfg0.N) (hr : t.val % 8 = 8 - 1) (a : ℕ) (k : Fin 768) :
    ∑ s : Fin 8, dwS m c ⟨8 * (t.val / 8) + s.val, Pipeline.run_point_lt_of_flush t hr s⟩ a k
      = dw (xcol (m ((c : Thread nD τ).loc main_arg0)) (gcol t k)) (wcol (m ((c : Thread nD τ).loc main_arg1)) (gcol t k))
          (dcol (m ((c : Thread nD τ).loc main_arg2)) (gcol t k)) a := by
  rw [← Equiv.sum_comp Fin.revPerm]
  unfold dw
  refine Fin.sum_mul_add_congr (S := 8) (n := 256) fun s i hl => ?_
  have hc : gcol ⟨8 * (t.val / 8) + (Fin.revPerm s).val, Pipeline.run_point_lt_of_flush t hr _⟩ k = gcol t k := by
    apply Fin.ext
    have := (Fin.revPerm s).isLt
    show (8 * (t.val / 8) + (Fin.revPerm s).val) / 8 * 768 + k.val = t.val / 8 * 768 + k.val
    omega
  have hrow : (7 - (8 * (t.val / 8) + (Fin.revPerm s).val) % 8) = s.val := by
    rw [Fin.revPerm_apply, Fin.val_rev]
    omega
  rw [hc]
  show D m c (gcol t k) ((7 - (8 * (t.val / 8) + (Fin.revPerm s).val) % 8) * 256 + i.val)
    * xp _ ((7 - (8 * (t.val / 8) + (Fin.revPerm s).val) % 8) * 256 + i.val + a) = _
  rw [hrow]

theorem dw_final (c : Dev nD) : (dats m 0 c).arrAt 5 (cfgs 0).N
    = dwK (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨a, k, rfl⟩ : ∃ (a : Fin 4) (k : Fin 768), y = ix2 a k := ⟨y 0, y 1, by funext b; match b with | ⟨0, _⟩ => rfl | ⟨1, _⟩ => rfl⟩
  have hr := (flush0_5 t).mp hf
  refine (Pipeline.eq_sum_fin_of_reset_step_apply_of_flush (fun n h (y : Fin 4 × Fin 768) => (outsAt0 m c n h).2.1 (ix2 y.1 y.2)) 8 (fun _ => 0)
    (fun t y => dwS m c t y.1.val y.2) (fun t h y => dw_first m c t h y.1 y.2) (fun t h y => dw_next m c t h y.1 y.2) t hr (a, k)).trans ?_
  rw [zero_add]
  refine (sum_points m c t hr a.val k).trans ?_
  have := lt_16 t
  have h0 : a.val = (((View.whole main_v1_1).slice (win0_5.rect t)).emb (ix2 a k) 0).val := by
    blk_simp [idx t]
  have h1 : gcol t k = ((View.whole main_v1_1).slice (win0_5.rect t)).emb (ix2 a k) 1 := by
    apply Fin.ext; unfold gcol; blk_simp [idx t]
  unfold dwK
  rw [← h0, ← h1]

end Cert.Dnc
end
-- ==== Proof.Dnc.Reference.lean ====
module

public import proofs.«01_k».proof.Proof.Dnc.Math
public import proofs.«01_k».proof.Proof.Gen.ReferenceDncIdeal.Run
public import proofs.«01_k».proof.Proof.Gen.ReferenceDncIdeal.Read

@[expose] public section

set_option maxRecDepth 16384

/-!
# What the convolution's reference computes, entry by entry
-/

noncomputable section

open Idealize Idealize.ShloMosaic Idealize.ShloMosaic.TcCoe Idealize.SL
open Cert.ReferenceDncIdeal Cert.ReferenceDncIdeal.Gen Cert.ReferenceDncIdeal.Read

namespace Cert.Dnc

variable (P : Vec Ideal S2048x2832 .f32) (w : Vec Ideal S4x1536 .f32) (d : Vec Ideal S2048x1536 .f32)

theorem pad_row (j : S2051x1536.Idx) : val_main_v2 (F := Ideal) P j = xp (xcol P (j 1)) (j 0).val := by
  pointwise [val_main_v2, val_main_v1, val_main_v0, val_main_cst, xp, xcol]
  by_cases h : (j 0).val < 3
  · rw [dif_pos h, dif_neg (Nat.not_le.mpr h)]
  · rw [dif_neg h, dif_pos (Nat.le_of_not_lt h)]

theorem shift0 (j : S2048x1536.Idx) : val_main_v6 (F := Ideal) P j = xp (xcol P (j 1)) (j 0).val := by
  pointwise [val_main_v6, pad_row]
theorem shift1 (j : S2048x1536.Idx) : val_main_v14 (F := Ideal) P j = xp (xcol P (j 1)) ((j 0).val + 1) := by
  pointwise [val_main_v14, pad_row]
  exact congrArg _ (add_comm _ _)
theorem shift2 (j : S2048x1536.Idx) : val_main_v21 (F := Ideal) P j = xp (xcol P (j 1)) ((j 0).val + 2) := by
  pointwise [val_main_v21, pad_row]
  exact congrArg _ (add_comm _ _)
theorem shift3 (j : S2048x1536.Idx) : val_main_v28 (F := Ideal) P j = xp (xcol P (j 1)) ((j 0).val + 3) := by
  pointwise [val_main_v28, pad_row]
  exact congrArg _ (add_comm _ _)

theorem acc_at (j : S2048x1536.Idx) : val_main_v32 (F := Ideal) P w j = accR (xcol P (j 1)) (wcol w (j 1)) (j 0).val := by
  pointwise [val_main_v32, val_main_v31, val_main_v30, val_main_v29, val_main_v27, val_main_v26, val_main_v25, val_main_v24, val_main_v23,
    val_main_v22, val_main_v20, val_main_v19, val_main_v18, val_main_v17, val_main_v16, val_main_v15, val_main_v13, val_main_v12, val_main_v11,
    val_main_v10, val_main_v9, val_main_v8, val_main_v7, val_main_v5, val_main_v4, val_main_cst_1, shift0, shift1, shift2, shift3, accR, wcol]

theorem sg_at (j : S2048x1536.Idx) : val_main_v33_2 (F := Ideal) P w j = sg (accR (xcol P (j 1)) (wcol w (j 1)) (j 0).val) := by
  pointwise [val_main_v33_2, val_main_call0_v4, val_main_call0_v3, val_main_call0_v2, val_main_call0_v1, val_main_call0_v0, val_main_call0_cst,
    val_main_call0_cst_0, acc_at, sg]

theorem cot_at (j : S2048x1536.Idx) : val_main_v34 (F := Ideal) P w d j
    = cotR (accR (xcol P (j 1)) (wcol w (j 1)) (j 0).val) (d j) := by
  pointwise [val_main_v34, val_main_call1_v2, val_main_call1_v1, val_main_call1_v0, val_main_v33_1, val_main_call0_v7, val_main_call0_v6,
    val_main_call0_cst_1, acc_at, sg_at, cotR]

theorem cot_row (j : S2048x1536.Idx) : val_main_v34 (F := Ideal) P w d j = cotP (xcol P (j 1)) (wcol w (j 1)) (dcol d (j 1)) (j 0).val := by
  rw [cot_at]
  refine Eq.trans ?_ (dif_pos (j 0).isLt).symm
  exact congrArg (fun i => cotR _ (d i)) (by funext a; match a with | ⟨0, _⟩ => rfl | ⟨1, _⟩ => rfl)

/-- The four padded contributions to the column's gradient. -/
theorem part3 (i : Fin 2048) (q : Fin 1536) : val_main_v41 (F := Ideal) P w d (ix2 ⟨i.val + 3, by omega⟩ q)
    = wcol w q 3 * cotP (xcol P q) (wcol w q) (dcol d q) i.val := by
  pointwise [val_main_v41, val_main_v36, val_main_v35, val_main_v29, val_main_v27, val_main_v26, val_main_cst_4, cot_row, wcol]
  exact tap_cut _ _ _ _ _ _ (by omega)
theorem part2 (i : Fin 2048) (q : Fin 1536) : val_main_v50 (F := Ideal) P w d (ix2 ⟨i.val + 3, by omega⟩ q)
    = wcol w q 2 * cotP (xcol P q) (wcol w q) (dcol d q) (i.val + 1) := by
  pointwise [val_main_v50, val_main_v45, val_main_v44, val_main_v22, val_main_v20, val_main_v19, val_main_cst_8, cot_row, wcol]
  exact tap_cut _ _ _ _ _ _ (by omega)
theorem part1 (i : Fin 2048) (q : Fin 1536) : val_main_v61 (F := Ideal) P w d (ix2 ⟨i.val + 3, by omega⟩ q)
    = wcol w q 1 * cotP (xcol P q) (wcol w q) (dcol d q) (i.val + 2) := by
  pointwise [val_main_v61, val_main_v56, val_main_v55, val_main_v15, val_main_v13, val_main_v12, val_main_cst_12, cot_row, wcol]
  exact tap_cut _ _ _ _ _ _ (by omega)
theorem part0 (i : Fin 2048) (q : Fin 1536) : val_main_v72 (F := Ideal) P w d (ix2 ⟨i.val + 3, by omega⟩ q)
    = wcol w q 0 * cotP (xcol P q) (wcol w q) (dcol d q) (i.val + 3) := by
  pointwise [val_main_v72, val_main_v67, val_main_v66, val_main_v7, val_main_v5, val_main_v4, val_main_cst_16, cot_row, wcol]
  exact tap_cut _ _ _ _ _ _ (by omega)

/-- The four rows of the taps' gradient before they are padded and added. -/
theorem tap3 (j : S1536.Idx) : val_main_v40 (F := Ideal) P w d j
    = ∑ n : Fin 2048, cotP (xcol P (j 0)) (wcol w (j 0)) (dcol d (j 0)) n.val * xp (xcol P (j 0)) (n.val + 3) := by
  pointwise [val_main_v40, val_main_v39, val_main_v38, val_main_v37, val_main_cst_2, val_main_cst_3, cot_row, shift3]
  exact Fin.sum_univ_one _
theorem tap2 (j : S1536.Idx) : val_main_v49 (F := Ideal) P w d j
    = ∑ n : Fin 2048, cotP (xcol P (j 0)) (wcol w (j 0)) (dcol d (j 0)) n.val * xp (xcol P (j 0)) (n.val + 2) := by
  pointwise [val_main_v49, val_main_v48, val_main_v47, val_main_v46, val_main_cst_6, val_main_cst_7, cot_row, shift2]
  exact Fin.sum_univ_one _
theorem tap1 (j : S1536.Idx) : val_main_v60 (F := Ideal) P w d j
    = ∑ n : Fin 2048, cotP (xcol P (j 0)) (wcol w (j 0)) (dcol d (j 0)) n.val * xp (xcol P (j 0)) (n.val + 1) := by
  pointwise [val_main_v60, val_main_v59, val_main_v58, val_main_v57, val_main_cst_10, val_main_cst_11, cot_row, shift1]
  exact Fin.sum_univ_one _
theorem tap0 (j : S1536.Idx) : val_main_v71 (F := Ideal) P w d j
    = ∑ n : Fin 2048, cotP (xcol P (j 0)) (wcol w (j 0)) (dcol d (j 0)) n.val * xp (xcol P (j 0)) n.val := by
  pointwise [val_main_v71, val_main_v70, val_main_v69, val_main_v68, val_main_cst_14, val_main_cst_15, cot_row, shift0]
  exact Fin.sum_univ_one _

/-- The reference's first result. -/
theorem ref_dx (hd : ∀ q n, ∃ r : ℝ, dcol d q n = r) (i : Fin 2048) (q : Fin 1536) : val_main_v78 (F := Ideal) P w d (ix2 i q)
    = dx (xcol P q) (wcol w q) (dcol d q) i.val := by
  have h : val_main_v78 (F := Ideal) P w d (ix2 i q) = val_main_v73 (F := Ideal) P w d (ix2 ⟨i.val + 3, by omega⟩ q) := by
    pointwise [val_main_v78]
    exact congrArg (fun a => val_main_v73 (F := Ideal) P w d (ix2 a q)) (Fin.ext (add_comm _ _))
  rw [h]
  show val_main_v41 (F := Ideal) P w d _ + val_main_v50 (F := Ideal) P w d _ + val_main_v61 (F := Ideal) P w d _ + val_main_v72 (F := Ideal) P w d _ = _
  rw [part3, part2, part1, part0]
  simp only [cotP_eq _ _ _ (hd q)]
  rfl

/-- The reference's second result. -/
theorem ref_dw (hd : ∀ q n, ∃ r : ℝ, dcol d q n = r) (k : Fin 4) (q : Fin 1536) : val_main_v76 (F := Ideal) P w d (ix2 k q)
    = dw (xcol P q) (wcol w q) (dcol d q) k.val := by
  pointwise [val_main_v76, val_main_v75, val_main_v74, val_main_v65, val_main_v64, val_main_v63, val_main_v54, val_main_v53, val_main_v52,
    val_main_v43, val_main_v42, val_main_cst_5, val_main_cst_9, val_main_cst_13, val_main_cst_17, tap0, tap1, tap2, tap3]
  simp only [cotP_eq _ _ _ (hd q)]
  fin_cases k <;> simp [dw]

end Cert.Dnc
end
-- ==== Proof.Dnc.Claim.lean ====
module

public import proofs.«01_k».proof.Defs
public import proofs.«01_k».proof.Proof.Gen.ReferenceDncIdeal
public import proofs.«01_k».proof.Proof.Gen.Pre_dout_finite
public import proofs.«01_k».proof.Proof.Math.Finite
public import proofs.«01_k».proof.Proof.Dnc.Final
public import proofs.«01_k».proof.Proof.Dnc.Reference

@[expose] public section

set_option maxRecDepth 16384

/-!
# The convolution's gradients: kernel and reference agree
-/

noncomputable section

open Idealize Idealize.ShloMosaic Idealize.ShloMosaic.Pipeline Idealize.ShloMosaic.TcCoe Idealize.SL Idealize.SL.Sem

namespace Cert.Dnc

open Cert.KernelDncIdeal (S2048x2832 S4x1536 S2048x1536)

variable (P : Vec Ideal S2048x2832 .f32) (w : Vec Ideal S4x1536 .f32) (d : Vec Ideal S2048x1536 .f32)

theorem dx_value (hd : ∀ j, ∃ r : ℝ, d j = r) : Cert.ReferenceDncIdeal.Read.val_main_v78 (F := Ideal) P w d = dxK P w d := by
  funext j
  obtain ⟨i, q, rfl⟩ : ∃ (i : Fin 2048) (q : Fin 1536), j = ix2 i q := ⟨j 0, j 1, by funext a; match a with | ⟨0, _⟩ => rfl | ⟨1, _⟩ => rfl⟩
  exact ref_dx P w d (fun q n => hd _) i q

theorem dw_value (hd : ∀ j, ∃ r : ℝ, d j = r) : Cert.ReferenceDncIdeal.Read.val_main_v76 (F := Ideal) P w d = dwK P w d := by
  funext j
  obtain ⟨k, q, rfl⟩ : ∃ (k : Fin 4) (q : Fin 1536), j = ix2 k q := ⟨j 0, j 1, by funext a; match a with | ⟨0, _⟩ => rfl | ⟨1, _⟩ => rfl⟩
  exact ref_dw P w d (fun q n => hd _) k q

/-- The precondition gives a real number at every entry of the cotangent. -/
theorem dout_real (h : @Cert.Pre_dout_finite.fn Cert.Pre_dout_finite.Gen.facts Ideal _ P w d = fun _ => 1#1) (j : S2048x1536.Idx) :
    ∃ r : ℝ, d j = r := by
  dsimp only [Cert.Pre_dout_finite.fn] at h
  exact Finite.real_of_lt _ (Host.reduce_andi_all _ _ _ _ _ (congrFun h ix0) j)

/-- The claim of equal results. -/
theorem algebraic : Cert.algebraic_KernelDncIdeal_ReferenceDncIdeal_pre_dout_finite (hKernelDncIdeal := Cert.KernelDncIdeal.Gen.facts)
    (hReferenceDncIdeal := Cert.ReferenceDncIdeal.Gen.facts) (hPre_dout_finite := Cert.Pre_dout_finite.Gen.facts) := by
  intro m ρ m' ρ' hpre hargs
  have hd := fun c => dout_real _ _ _ (hpre c)
  refine ⟨fun c => dxK (m ((c.tc : Thread _ _).loc Cert.KernelDncIdeal.main_arg0)) (m ((c.tc : Thread _ _).loc Cert.KernelDncIdeal.main_arg1)) (m ((c.tc : Thread _ _).loc Cert.KernelDncIdeal.main_arg2)),
    fun c => dwK (m ((c.tc : Thread _ _).loc Cert.KernelDncIdeal.main_arg0)) (m ((c.tc : Thread _ _).loc Cert.KernelDncIdeal.main_arg1)) (m ((c.tc : Thread _ _).loc Cert.KernelDncIdeal.main_arg2)), ?_, ?_⟩
  · refine (θ_run _ _ _).mono (fun r h c => ?_) (Cert.KernelDncIdeal.Value.run_blocks m ρ)
    obtain ⟨h0, h1, h2⟩ := h c
    exact ⟨h0.trans (dx_final m c), h1.trans (dw_final m c), h2⟩
  · refine (θ_run _ _ _).mono (fun r h c => ?_) (Cert.ReferenceDncIdeal.Value.run m' ρ')
    obtain ⟨h0, h1, h2⟩ := h c
    obtain ⟨a0, a1, a2⟩ := hargs c
    refine ⟨h0.trans ?_, h1.trans ?_, h2⟩
    · rw [Cert.ReferenceDncIdeal.Read.val_main_v78_eq, a0, a1, a2]; exact dx_value _ _ _ (hd c)
    · rw [Cert.ReferenceDncIdeal.Read.val_main_v76_eq, a0, a1, a2]; exact dw_value _ _ _ (hd c)

end Cert.Dnc

end
-- ==== Proof.Pw.Block.lean ====
module
public import proofs.«01_k».proof.Proof.Gen.KernelPwIdeal.Skeleton
public import proofs.«01_k».proof.Proof.Math.Rms
public import Idealize.ShloMosaic.Lib.Pipeline.ValueKit
public import Idealize.ShloMosaic.Lib.Pointwise
@[expose] public section
set_option maxRecDepth 16384

/-!
# What the stores of the norm-and-projection backward kernel hold, in the values loaded before them
-/
noncomputable section
open Idealize Idealize.ShloMosaic Idealize.ShloMosaic.Pipeline Idealize.SL
open Cert.KernelPwIdeal Cert.KernelPwIdeal.Gen
namespace Cert.Pw

/-- The normalised row, scaled. -/
theorem xn_block (x : Vec Ideal S512x1024 .f32) (nw : Vec Ideal S1x1024 .f32) (i : Fin 512) (k : Fin 1024) :
    k0_pay7 x nw (ix2 i k) = x (ix2 i k) * Rms.rstd (fun k => x (ix2 i k)) * nw (ix2 0 k) := by
  pointwise [k0_pay7, Rms.rstd, Rms.msq]

/-- A column block's part of the normalised rows' gradient is added. -/
theorem mm_block (dp : Vec Ideal S512x1024 .f32) (g : Vec Ideal S512x1024 .f32) (w : Vec Ideal S1024x1024 .bf16) (i : Fin 512) (k : Fin 1024) :
    k0_pay1 (k0_pay12 dp) g w (ix2 i k) = g (ix2 i k) + ∑ q : Fin 1024, dp (ix2 i q) * w (ix2 k q) := by
  pointwise [k0_pay1, k0_pay12]

/-- A tile's part of the weight gradient is added. -/
theorem acc_block (dp : Vec Ideal S512x1024 .f32) (a : Vec Ideal S1024x1024 .f32) (xn : Vec Ideal S512x1024 .bf16) (k : Fin 1024) (q : Fin 1024) :
    k0_pay13 dp a xn (ix2 k q) = a (ix2 k q) + ∑ i : Fin 512, xn (ix2 i k) * dp (ix2 i q) := by
  pointwise [k0_pay13, k0_pay12]

/-- A tile's part of the bias gradient is added. -/
theorem db_block (dp : Vec Ideal S512x1024 .f32) (b : Vec Ideal S1x1024 .f32) (q : Fin 1024) :
    k0_pay14 dp b (ix2 0 q) = b (ix2 0 q) + ∑ i : Fin 512, dp (ix2 i q) := by
  pointwise [k0_pay14]

/-- A tile's part of the norm weight's gradient is added. -/
theorem dn_block (x g : Vec Ideal S512x1024 .f32) (b : Vec Ideal S1x1024 .f32) (k : Fin 1024) :
    k0_pay6 x g b (ix2 0 k) = b (ix2 0 k) + ∑ i : Fin 512, g (ix2 i k) * (x (ix2 i k) * Rms.rstd (fun k => x (ix2 i k))) := by
  pointwise [k0_pay6, k0_pay4, k0_pay3, Rms.rstd, Rms.msq]

/-- The input's gradient. -/
theorem dx_block (x g r : Vec Ideal S512x1024 .f32) (nw : Vec Ideal S1x1024 .f32) (i : Fin 512) (k : Fin 1024) :
    k0_pay5 x nw g r (ix2 i k) = r (ix2 i k) + Rms.gradK (fun k => x (ix2 i k)) (fun k => g (ix2 i k) * nw (ix2 0 k)) k := by
  pointwise [k0_pay5, k0_pay4, k0_pay3, Rms.gradK, Rms.rstd, Rms.msq]
theorem cast_block (a : Vec Ideal S1024x1024 .f32) : k0_pay2 (F := Ideal) a = a := by
  funext j
  pointwise [k0_pay2]
theorem zero8 (j : S512x1024.Idx) : k0_pay8 (F := Ideal) j = 0 := by pointwise [k0_pay8]
theorem zero9 (j : S1x1024.Idx) : k0_pay9 (F := Ideal) j = 0 := by pointwise [k0_pay9]
theorem zero10 (j : S1024x1024.Idx) : k0_pay10 (F := Ideal) j = 0 := by pointwise [k0_pay10]
theorem zero11 (j : S1x1024.Idx) : k0_pay11 (F := Ideal) j = 0 := by pointwise [k0_pay11]
end Cert.Pw
end
-- ==== Proof.Math.Bands.lean ====
module

public import Idealize.ShloMosaic.Lib.Pipeline.ValueKit
public import Idealize.ShloMosaic.Lib.WritesUnit
public import Idealize.ShloMosaic.Lib.VecWindow

@[expose] public section

/-!
# Bands of whole rows of a matrix

`band o X` is the band of `N` rows of `X` from row `o` on, `put o X w` is `X` with that band replaced by `w`.
A kernel's load and store of a rectangle of whole rows are these two functions.
-/

noncomputable section

open Idealize Idealize.ShloMosaic Idealize.ShloMosaic.Pipeline Idealize.ShloMosaic.View

namespace Cert.Bands

variable {α : Type} {n N k : ℕ}

/-- The band of `N` rows from row `o` on. -/
def band (o : ℕ) (h : o + N ≤ n) (X : (⟨2, ![n, k]⟩ : Shape).Idx → α) : (⟨2, ![N, k]⟩ : Shape).Idx → α :=
  fun x => X (ix2 ⟨o + (x 0).val, by have h0 : (x 0).val < N := (x 0).isLt; omega⟩ (x 1))

/-- The matrix with the band of `N` rows from row `o` on replaced. -/
def put (o : ℕ) (X : (⟨2, ![n, k]⟩ : Shape).Idx → α) (w : (⟨2, ![N, k]⟩ : Shape).Idx → α) : (⟨2, ![n, k]⟩ : Shape).Idx → α :=
  fun y => if h : o ≤ (y 0).val ∧ (y 0).val < o + N then w (ix2 ⟨(y 0).val - o, by omega⟩ (y 1)) else X y

/-- The band just replaced. -/
theorem band_put (o : ℕ) (h : o + N ≤ n) (X : (⟨2, ![n, k]⟩ : Shape).Idx → α) (w : (⟨2, ![N, k]⟩ : Shape).Idx → α) :
    band o h (put o X w) = w := by
  funext x
  have h0 : (x 0).val < N := (x 0).isLt
  unfold band put
  refine (dif_pos (show o ≤ o + (x 0).val ∧ o + (x 0).val < o + N by omega)).trans (congrArg w ?_)
  funext a
  match a with
  | ⟨0, _⟩ => exact Fin.ext (show o + (x 0).val - o = (x 0).val by omega)
  | ⟨1, _⟩ => rfl

/-- A band of rows outside the one replaced. -/
theorem band_put_of_ne (o o' : ℕ) (h : o' + N ≤ n) (X : (⟨2, ![n, k]⟩ : Shape).Idx → α) (w : (⟨2, ![N, k]⟩ : Shape).Idx → α)
    (hne : o' + N ≤ o ∨ o + N ≤ o') : band o' h (put o X w) = band o' h X := by
  funext x
  have h0 : (x 0).val < N := (x 0).isLt
  unfold band put
  exact dif_neg (show ¬(o ≤ o' + (x 0).val ∧ o' + (x 0).val < o + N) by omega)

/-- A store of a rectangle of whole rows. -/
theorem read_write {Val : EltTy → Type} {e : EltTy} {sig : RefSig} {κ : Kind} {sp : Space} (v : View sig κ sp (⟨2, ![n, k]⟩ : Shape) e)
    (f : v.ty.Contents Val) {off : Fin 2 → ℕ} {o : ℕ} (inb : ∀ a : Fin 2, off a + ![N, k] a ≤ (⟨2, ![n, k]⟩ : Shape).size a)
    (hoff : off = ![o, 0]) (w : (⟨2, ![N, k]⟩ : Shape).Idx → Val e) (L : List (Piece Val (⟨2, ![n, k]⟩ : Shape) e)) :
    v.read Val (v.writes Val f ((⟨Rect.unit (s := ⟨2, ![n, k]⟩) off ![N, k] inb, w⟩ : Piece Val (⟨2, ![n, k]⟩ : Shape) e) :: L))
      = put o (v.read Val (v.writes Val f L)) w := by
  funext y
  unfold put
  by_cases h : o ≤ (y 0).val ∧ (y 0).val < o + N
  · rw [dif_pos h]
    have hN : (y 0).val - o < N := by omega
    exact read_writes_cons_rows_of_mem v f inb w L y (ix2 ⟨(y 0).val - o, hN⟩ (y 1)) hoff
      (show (y 0).val = o + ((y 0).val - o) by omega) rfl
  · rw [dif_neg h]
    have hN : (y 0).val < o ∨ o + N ≤ (y 0).val := by omega
    exact read_writes_cons_rows_of_not_mem (W := N) v f inb w L y hoff rfl hN

/-- A load of a rectangle of whole rows. -/
theorem load {Val : EltTy → Type} {e : EltTy} (X : (⟨2, ![n, k]⟩ : Shape).Idx → Val e) {off : Fin 2 → ℕ} {o : ℕ}
    (inb : ∀ a : Fin 2, off a + ![N, k] a ≤ (⟨2, ![n, k]⟩ : Shape).size a) (hoff : off = ![o, 0]) (h : o + N ≤ n) :
    (fun x => X ((Rect.unit (s := ⟨2, ![n, k]⟩) off ![N, k] inb).emb x)) = band o h X := by
  subst hoff
  funext x
  unfold band
  refine congrArg X (funext fun a => Fin.ext ?_)
  match a with
  | ⟨0, _⟩ => exact show o + 1 * (x 0).val = o + (x 0).val by omega
  | ⟨1, _⟩ => exact show 0 + 1 * (x 1).val = (x 1).val by omega

/-- A load of the rectangle of whole rows just stored. -/
theorem readCov_rows {Val : EltTy → Type} [∀ e, Nonempty (Val e)] {e : EltTy} {sig : RefSig} {κ : Kind} {sp : Space} {off off' : Fin 2 → ℕ}
    (hoff : off = off') (v : View sig κ sp (⟨2, ![n, k]⟩ : Shape) e) (inb : ∀ a : Fin 2, off a + ![N, k] a ≤ (⟨2, ![n, k]⟩ : Shape).size a)
    (inb' : ∀ a : Fin 2, off' a + ![N, k] a ≤ (⟨2, ![n, k]⟩ : Shape).size a) (w : (⟨2, ![N, k]⟩ : Shape).Idx → Val e)
    (L : List (Piece Val (⟨2, ![n, k]⟩ : Shape) e)) :
    v.readCov ((⟨Rect.unit (s := ⟨2, ![n, k]⟩) off' ![N, k] inb', w⟩ : Piece Val (⟨2, ![n, k]⟩ : Shape) e) :: L)
      (Rect.unit (s := ⟨2, ![n, k]⟩) off ![N, k] inb).toLoadRect = w := by
  subst hoff
  exact View.readCov_cons_toLoadRect v (Rect.unit (s := ⟨2, ![n, k]⟩) off ![N, k] inb) w L

/-- A load of a rectangle of whole rows of a buffer. -/
theorem readAt_rows {Val : EltTy → Type} {e : EltTy} {sig : RefSig} {κ : Kind} {sp : Space} {off : Fin 2 → ℕ} {o : ℕ}
    (hoff : off = ![o, 0]) (h : o + N ≤ n) (v : View sig κ sp (⟨2, ![n, k]⟩ : Shape) e)
    (f : v.ty.Contents Val) (inb : ∀ a : Fin 2, off a + ![N, k] a ≤ (⟨2, ![n, k]⟩ : Shape).size a) :
    v.readAt Val (Rect.unit (s := ⟨2, ![n, k]⟩) off ![N, k] inb).toLoadRect f = band o h (v.read Val f) :=
  (rfl : _ = fun x => v.read Val f ((Rect.unit (s := ⟨2, ![n, k]⟩) off ![N, k] inb).emb x)).trans (load _ inb hoff h)

section whole

variable {Val : EltTy → Type} {e : EltTy} {sig : RefSig} {κ : Kind} {sp : Space} (v : View sig κ sp (⟨2, ![n, k]⟩ : Shape) e)
  {off off' : Fin 2 → ℕ} (inb : ∀ a : Fin 2, off a + ![n, k] a ≤ (⟨2, ![n, k]⟩ : Shape).size a)
  (inb' : ∀ a : Fin 2, off' a + ![n, k] a ≤ (⟨2, ![n, k]⟩ : Shape).size a)

/-- A load of a whole buffer. -/
theorem readAt_all (f : v.ty.Contents Val) :
    v.readAt Val (Rect.unit (s := ⟨2, ![n, k]⟩) off ![n, k] inb).toLoadRect f = v.read Val f :=
  View.readAt_full v f inb

/-- A store of a whole buffer. -/
theorem read_all (f : v.ty.Contents Val) (w : (⟨2, ![n, k]⟩ : Shape).Idx → Val e) (L : List (Piece Val (⟨2, ![n, k]⟩ : Shape) e)) :
    v.read Val (v.writes Val f ((⟨Rect.unit (s := ⟨2, ![n, k]⟩) off ![n, k] inb, w⟩ : Piece Val (⟨2, ![n, k]⟩ : Shape) e) :: L)) = w :=
  View.read_writes_full v f inb w L

/-- A load of a whole buffer after a store of it. -/
theorem readCov_all [∀ e, Nonempty (Val e)] (w : (⟨2, ![n, k]⟩ : Shape).Idx → Val e) (L : List (Piece Val (⟨2, ![n, k]⟩ : Shape) e)) :
    v.readCov ((⟨Rect.unit (s := ⟨2, ![n, k]⟩) off' ![n, k] inb', w⟩ : Piece Val (⟨2, ![n, k]⟩ : Shape) e) :: L)
      (Rect.unit (s := ⟨2, ![n, k]⟩) off ![n, k] inb).toLoadRect = w :=
  View.readCov_full v inb inb' w L

end whole

section slabs

variable {Val : EltTy → Type} {e : EltTy} {sig : RefSig} {κ : Kind} {sp : Space} {a b l : ℕ} (v : View sig κ sp (⟨3, ![a, b, l]⟩ : Shape) e)

/-- One matrix of a stack of them. -/
def slab {β : Type} (o : ℕ) (h : o < a) (X : (⟨3, ![a, b, l]⟩ : Shape).Idx → β) : (⟨3, ![1, b, l]⟩ : Shape).Idx → β :=
  fun x => X (ix3 ⟨o, h⟩ (x 1) (x 2))

/-- A load of one matrix of a stack. -/
theorem readAt_slab {o : ℕ} (h : o < a) (f : v.ty.Contents Val)
    (inb : ∀ i : Fin 3, ![o, 0, 0] i + ![1, b, l] i ≤ (⟨3, ![a, b, l]⟩ : Shape).size i) :
    v.readAt Val (Rect.unit (s := ⟨3, ![a, b, l]⟩) ![o, 0, 0] ![1, b, l] inb).toLoadRect f = slab o h (v.read Val f) := by
  refine (rfl : _ = fun x => v.read Val f ((Rect.unit (s := ⟨3, ![a, b, l]⟩) ![o, 0, 0] ![1, b, l] inb).emb x)).trans (funext fun x => ?_)
  unfold slab
  refine congrArg (v.read Val f) (funext fun i => Fin.ext ?_)
  match i with
  | ⟨0, _⟩ => have h0 : (x 0).val < 1 := (x 0).isLt; exact show o + 1 * (x 0).val = o by omega
  | ⟨1, _⟩ => exact show 0 + 1 * (x 1).val = (x 1).val by omega
  | ⟨2, _⟩ => exact show 0 + 1 * (x 2).val = (x 2).val by omega

/-- A load of a whole stack. -/
theorem readAt_stack {off : Fin 3 → ℕ} (inb : ∀ i : Fin 3, off i + ![a, b, l] i ≤ (⟨3, ![a, b, l]⟩ : Shape).size i) (f : v.ty.Contents Val) :
    v.readAt Val (Rect.unit (s := ⟨3, ![a, b, l]⟩) off ![a, b, l] inb).toLoadRect f = v.read Val f :=
  View.readAt_full v f inb

/-- A store of a whole stack. -/
theorem read_stack {off : Fin 3 → ℕ} (inb : ∀ i : Fin 3, off i + ![a, b, l] i ≤ (⟨3, ![a, b, l]⟩ : Shape).size i) (f : v.ty.Contents Val)
    (w : (⟨3, ![a, b, l]⟩ : Shape).Idx → Val e) (L : List (Piece Val (⟨3, ![a, b, l]⟩ : Shape) e)) :
    v.read Val (v.writes Val f ((⟨Rect.unit (s := ⟨3, ![a, b, l]⟩) off ![a, b, l] inb, w⟩ : Piece Val (⟨3, ![a, b, l]⟩ : Shape) e) :: L)) = w :=
  View.read_writes_full v f inb w L

end slabs

end Cert.Bands
end
-- ==== Proof.Pw.Body.lean ====
module

public import proofs.«01_k».proof.Proof.Math.Bands
public import proofs.«01_k».proof.Proof.Gen.KernelPwIdeal.Frame
public import proofs.«01_k».proof.Proof.Gen.KernelPwIdeal.Skeleton

@[expose] public section

set_option maxRecDepth 16384

/-!
# One grid point of the projection's gradient

The grid runs over the column blocks of the projection (outer) and the row tiles (inner).  Three scratch buffers are
carried: the normalised rows, the gradient of the normalised rows, and the weight gradient of the current column block.
`Cert.Pw.run` says what one point leaves in the scratch buffers and in the output windows, over what they held.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelPwIdeal Cert.KernelPwIdeal.Gen Cert.Bands

namespace Cert.Pw

variable {F : FTy → Type} [FloatOps F]

local notation "𝕄" => MT nD τ sig Unit (Elt F) ℕ (UR sig nD τ) ℕ

/-- The first row of the tile at a point. -/
def row (i : grid0.Coords) : ℕ := 512 * (i 1).val

theorem row_le (i : grid0.Coords) : row i + 512 ≤ 2048 := by
  have h : (i 1).val < 4 := (i 1).isLt
  unfold row; omega

/-- The tile's rows of a scratch buffer. -/
def tile {e : EltTy} (i : grid0.Coords) (X : Vec F S2048x1024 e) : Vec F S512x1024 e := band (row i) (row_le i) X

/-- The normalised rows after the point: stored while the first column block runs. -/
def xnNew (i : grid0.Coords) (x2 : Vec F S512x1024 .f32) (x5 : Vec F S1x1024 .f32) (x11 : Vec F S2048x1024 .bf16) : Vec F S2048x1024 .bf16 :=
  if k0_cond1 i = 1#1 then put (row i) x11 (k0_pay7 x2 x5) else x11

/-- The gradient of the normalised rows before this point's product: zero on the tile in the first column block. -/
def dxMid (i : grid0.Coords) (x12 : Vec F S2048x1024 .f32) : Vec F S2048x1024 .f32 :=
  if k0_cond1 i = 1#1 then put (row i) x12 (k0_pay8 (F := F)) else x12

/-- and after it. -/
def dxNew (i : grid0.Coords) (x4 : Vec F S512x1024 .f32) (x6 : Vec F S1024x1024 .bf16) (x12 : Vec F S2048x1024 .f32) : Vec F S2048x1024 .f32 :=
  put (row i) (dxMid i x12) (k0_pay1 (k0_pay12 x4) (tile i (dxMid i x12)) x6)

/-- The weight gradient of the column block: restarted at its first tile. -/
def accNew (i : grid0.Coords) (x2 : Vec F S512x1024 .f32) (x4 : Vec F S512x1024 .f32) (x5 : Vec F S1x1024 .f32) (x11 : Vec F S2048x1024 .bf16)
    (x13 : Vec F S1024x1024 .f32) : Vec F S1024x1024 .f32 :=
  k0_pay13 x4 (if (i 1).val = 0 then k0_pay10 (F := F) else x13) (tile i (xnNew i x2 x5 x11))

/-- The bias gradient of the column block: restarted at its first tile. -/
def dbNew (i : grid0.Coords) (x4 : Vec F S512x1024 .f32) (x9 : Vec F S1x1024 .f32) : Vec F S1x1024 .f32 :=
  k0_pay14 x4 (if (i 1).val = 0 then k0_pay11 (F := F) else x9)

/-- The weight gradient's window: stored at the column block's last tile. -/
def dwOut (i : grid0.Coords) (x2 : Vec F S512x1024 .f32) (x4 : Vec F S512x1024 .f32) (x5 : Vec F S1x1024 .f32) (x8 : Vec F S1024x1024 .bf16)
    (x11 : Vec F S2048x1024 .bf16) (x13 : Vec F S1024x1024 .f32) : Vec F S1024x1024 .bf16 :=
  if k0_cond4 i = 1#1 then k0_pay2 (accNew i x2 x4 x5 x11 x13) else x8

/-- The input gradient's window: stored in the last column block. -/
def dxOut (i : grid0.Coords) (x2 x3 x4 : Vec F S512x1024 .f32) (x5 : Vec F S1x1024 .f32) (x6 : Vec F S1024x1024 .bf16)
    (x7 : Vec F S512x1024 .f32) (x12 : Vec F S2048x1024 .f32) : Vec F S512x1024 .f32 :=
  if k0_cond5 i = 1#1 then k0_pay5 x2 x5 (tile i (dxNew i x4 x6 x12)) x3 else x7

/-- The norm weight's gradient: zeroed at the first point, added to in the last column block. -/
def dnNew (i : grid0.Coords) (x2 x4 : Vec F S512x1024 .f32) (x6 : Vec F S1024x1024 .bf16) (x10 : Vec F S1x1024 .f32)
    (x12 : Vec F S2048x1024 .f32) : Vec F S1x1024 .f32 :=
  if k0_cond5 i = 1#1 then k0_pay6 x2 (tile i (dxNew i x4 x6 x12)) (if k0_cond2 i = 1#1 then k0_pay9 (F := F) else x10)
  else if k0_cond2 i = 1#1 then k0_pay9 (F := F) else x10

/-- The body's test for the first tile of a column block. -/
abbrev First (i : grid0.Coords) : Prop := Scalar.cmpi .ne (Scalar.extui (Scalar.cmpi .eq (BitVec.ofNat 32 (i 1).val) 0#32)) 0#32 = 1#1

/-- Which of the body's conditions hold at a point, if the zeroing ones hold exactly at its own coordinates. -/
def Cases (i : grid0.Coords) : Prop :=
  (k0_cond1 i = 1#1 ∧ ¬k0_cond5 i = 1#1 ∧
      ((k0_cond2 i = 1#1 ∧ First i ∧ (i 1).val = 0 ∧ ¬k0_cond4 i = 1#1)
        ∨ (¬k0_cond2 i = 1#1 ∧ ¬First i ∧ ¬(i 1).val = 0 ∧ ¬k0_cond4 i = 1#1)
        ∨ (¬k0_cond2 i = 1#1 ∧ ¬First i ∧ ¬(i 1).val = 0 ∧ k0_cond4 i = 1#1)))
    ∨ (¬k0_cond1 i = 1#1 ∧ k0_cond5 i = 1#1 ∧
      ((¬k0_cond2 i = 1#1 ∧ First i ∧ (i 1).val = 0 ∧ ¬k0_cond4 i = 1#1)
        ∨ (¬k0_cond2 i = 1#1 ∧ ¬First i ∧ ¬(i 1).val = 0 ∧ ¬k0_cond4 i = 1#1)
        ∨ (¬k0_cond2 i = 1#1 ∧ ¬First i ∧ ¬(i 1).val = 0 ∧ k0_cond4 i = 1#1)))

theorem cases : ∀ i : grid0.Coords, Cases i := by unfold Cases; decide +kernel

theorem off1 (i : grid0.Coords) : k0_off1 i = ![row i, 0] := k0_off1_eq i
theorem off2 (i : grid0.Coords) : k0_off2 i = ![row i, 0] := k0_off2_eq i
theorem off3 (i : grid0.Coords) : k0_off3 i = ![row i, 0] := k0_off3_eq i

theorem off21 (i : grid0.Coords) : k0_off2 i = k0_off1 i := rfl
theorem off32 (i : grid0.Coords) : k0_off3 i = k0_off2 i := rfl

set_option maxHeartbeats 4000000 in
/-- One run of the body: from any contents of its buffers, each is left at the function of its coordinates and contents
    defined above. -/
theorem run (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S2048x1024 .f32) (harg12 : arg12.IsWhole) (arg13 : Memref sig .tc .vmem S1024x1024 .f32) (harg13 : arg13.IsWhole)
    (x2 : Vec F S512x1024 .f32) (x3 : Vec F S512x1024 .f32) (x4 : Vec F S512x1024 .f32) (x5 : Vec F S1x1024 .f32) (x6 : Vec F S1024x1024 .bf16) (x7 : Vec F S512x1024 .f32) (x8 : Vec F S1024x1024 .bf16) (x9 : Vec F S1x1024 .f32) (x10 : Vec F S1x1024 .f32) (x11 : Vec F S2048x1024 .bf16) (x12 : Vec F S2048x1024 .f32) (x13 : Vec F S1024x1024 .f32)
    (E : Set ℕ) (K : PUnit → sProp 𝕄) :
    iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare (dxOut i x2 x3 x4 x5 x6 x7 x12)
          ∗ owns (c : Thread nD τ) arg8 fullShare (dwOut i x2 x4 x5 x8 x11 x13)
          ∗ owns (c : Thread nD τ) arg9 fullShare (dbNew i x4 x9)
          ∗ owns (c : Thread nD τ) arg10 fullShare (dnNew i x2 x4 x6 x10 x12)
          ∗ owns (c : Thread nD τ) arg11 fullShare (xnNew i x2 x5 x11)
          ∗ owns (c : Thread nD τ) arg12 fullShare (dxNew i x4 x6 x12)
          ∗ owns (c : Thread nD τ) arg13 fullShare (accNew i x2 x4 x5 x11 x13)) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13) K := by
    obtain ⟨h1, h5, ⟨h2, h3, h3', h4⟩ | ⟨h2, h3, h3', h4⟩ | ⟨h2, h3, h3', h4⟩⟩ | ⟨h1, h5, ⟨h2, h3, h3', h4⟩ | ⟨h2, h3, h3', h4⟩ | ⟨h2, h3, h3', h4⟩⟩ := cases i
    all_goals
      simp only [cc0_rmslin_bwd_eq_skeleton]; unfold cc0_rmslin_bwd_skel
      simp only [k0_part1_eq_skeleton]
      unfold owns
      iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, Hk⟩
      obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg10.eq_unread e10; obtain rfl := harg11.eq_unread e11; obtain rfl := harg12.eq_unread e12; obtain rfl := harg13.eq_unread e13
      sl_exec (disch := first | sl_exact h1 | sl_exact h2 | sl_exact h3 | sl_exact h4 | sl_exact h5)
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H8]
      · iexists _; isplitr; swap; · iexact H8
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H9]
      · iexists _; isplitr; swap; · iexact H9
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H10]
      · iexists _; isplitr; swap; · iexact H10
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H11]
      · iexists _; isplitr; swap; · iexact H11
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H12]
      · iexists _; isplitr; swap; · iexact H12
        ipureintro
        sl_unfold_run_names
        simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      iexists _; isplitr; swap; · iexact H13
      ipureintro
      sl_unfold_run_names
      simp only [dxOut, dwOut, dbNew, dnNew, xnNew, dxNew, dxMid, accNew, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]

end Cert.Pw
end
-- ==== Proof.Pw.Chain.lean ====
module

public import proofs.«01_k».proof.Proof.Pw.Body

@[expose] public section

set_option maxRecDepth 16384

/-!
# The points in their order

What the scratch buffers and the output windows hold after each grid point, over the blocks the points read: the
normalised rows of a tile (`XN`), the gradient of a tile's normalised rows over the column blocks so far (`DX`), the
weight and bias gradients of the current column block over its tiles so far (`ACC`, `DB`), and the norm weight's
gradient (`DN`).
-/

noncomputable section

open Idealize.ShloMosaic
open Cert.KernelPwIdeal Cert.KernelPwIdeal.Gen Cert.Bands

namespace Cert.Pw

variable {F : FTy → Type} [FloatOps F]

/-! ## Which conditions hold -/

theorem tileCoord : ∀ t : Fin grid0.N, (grid0.coords t 1).val = t.val % 4 := by decide +kernel
theorem cond1_iff : ∀ t : Fin grid0.N, k0_cond1 (grid0.coords t) = 1#1 ↔ t.val < 4 := by decide +kernel
theorem cond2_iff : ∀ t : Fin grid0.N, k0_cond2 (grid0.coords t) = 1#1 ↔ t.val = 0 := by decide +kernel
theorem cond4_iff : ∀ t : Fin grid0.N, k0_cond4 (grid0.coords t) = 1#1 ↔ t.val % 4 = 3 := by decide +kernel
theorem cond5_iff : ∀ t : Fin grid0.N, k0_cond5 (grid0.coords t) = 1#1 ↔ 4 ≤ t.val := by decide +kernel
theorem row_eq (t : Fin grid0.N) : row (grid0.coords t) = 512 * (t.val % 4) := by unfold row; rw [tileCoord]

theorem rows_le (n : ℕ) : 512 * (n % 4) + 512 ≤ 2048 := by omega

/-! ## The contents -/

/-- The blocks the points read. -/
structure Blocks (F : FTy → Type) where
  x : ℕ → Vec F S512x1024 .f32
  dres : ℕ → Vec F S512x1024 .f32
  dp : ℕ → Vec F S512x1024 .f32
  nw : ℕ → Vec F S1x1024 .f32
  w : ℕ → Vec F S1024x1024 .bf16

variable (B : Blocks F)

/-- The normalised rows of tile `n`. -/
def XN (n : ℕ) : Vec F S512x1024 .bf16 := k0_pay7 (B.x n) (B.nw n)

/-- The gradient of tile `j`'s normalised rows over the column blocks up to `c`. -/
def DXc (j : ℕ) : ℕ → Vec F S512x1024 .f32
  | 0 => k0_pay1 (k0_pay12 (B.dp j)) (k0_pay8 (F := F)) (B.w j)
  | c + 1 => k0_pay1 (k0_pay12 (B.dp (4 * (c + 1) + j))) (DXc j c) (B.w (4 * (c + 1) + j))

/-- The same after point `n`. -/
def DX (n : ℕ) : Vec F S512x1024 .f32 := DXc B (n % 4) (n / 4)

/-- The column block's weight gradient after point `n`. -/
def ACC : ℕ → Vec F S1024x1024 .f32
  | 0 => k0_pay13 (B.dp 0) (k0_pay10 (F := F)) (XN B 0)
  | n + 1 => k0_pay13 (B.dp (n + 1)) (if (n + 1) % 4 = 0 then k0_pay10 (F := F) else ACC n) (XN B ((n + 1) % 4))

/-- The column block's bias gradient after point `n`. -/
def DB : ℕ → Vec F S1x1024 .f32
  | 0 => k0_pay14 (B.dp 0) (k0_pay11 (F := F))
  | n + 1 => k0_pay14 (B.dp (n + 1)) (if (n + 1) % 4 = 0 then k0_pay11 (F := F) else DB n)

/-- The norm weight's gradient after point `n`. -/
def DN : ℕ → Vec F S1x1024 .f32
  | 0 => k0_pay9 (F := F)
  | n + 1 => if n + 1 < 4 then DN n else k0_pay6 (B.x (n + 1)) (DX B (n + 1)) (DN n)

/-- The input gradient's block at point `n` of the last column block. -/
def DXOUT (n : ℕ) : Vec F S512x1024 .f32 := k0_pay5 (B.x n) (B.nw n) (DX B n) (B.dres n)

theorem DX_low {n : ℕ} (h : n < 4) : DX B n = k0_pay1 (k0_pay12 (B.dp n)) (k0_pay8 (F := F)) (B.w n) := by
  unfold DX; rw [show n / 4 = 0 by omega, show n % 4 = n by omega]; rfl

theorem DX_high {n : ℕ} (h : 4 ≤ n) : DX B n = k0_pay1 (k0_pay12 (B.dp n)) (DX B (n - 4)) (B.w n) := by
  unfold DX
  obtain ⟨c, hc⟩ : ∃ c, n / 4 = c + 1 := ⟨n / 4 - 1, by omega⟩
  rw [hc, show (n - 4) / 4 = c by omega, show (n - 4) % 4 = n % 4 by omega]
  show k0_pay1 (k0_pay12 (B.dp (4 * (c + 1) + n % 4))) (DXc B (n % 4) c) (B.w (4 * (c + 1) + n % 4)) = _
  rw [show 4 * (c + 1) + n % 4 = n by omega]

theorem ACC_eq (n : ℕ) : ACC B n = k0_pay13 (B.dp n) (if n % 4 = 0 then k0_pay10 (F := F) else ACC B (n - 1)) (XN B (n % 4)) := by
  cases n <;> rfl

theorem DB_eq (n : ℕ) : DB B n = k0_pay14 (B.dp n) (if n % 4 = 0 then k0_pay11 (F := F) else DB B (n - 1)) := by
  cases n <;> rfl

/-! ## What is known of the scratch buffers before a point -/

/-- Before point `n`: the normalised rows of the tiles met, the gradients of the last four tiles met, and in the middle
    of a column block its weight gradient so far. -/
structure Good (n : ℕ) (f11 : Vec F S2048x1024 .bf16) (f12 : Vec F S2048x1024 .f32) (f13 : Vec F S1024x1024 .f32) : Prop where
  xn : ∀ j, j < 4 → j < n → band (512 * (j % 4)) (rows_le j) f11 = XN B j
  dx : ∀ p, p < n → n ≤ p + 4 → band (512 * (p % 4)) (rows_le p) f12 = DX B p
  acc : n % 4 ≠ 0 → f13 = ACC B (n - 1)

theorem good_zero (f11 : Vec F S2048x1024 .bf16) (f12 : Vec F S2048x1024 .f32) (f13 : Vec F S1024x1024 .f32) : Good B 0 f11 f12 f13 :=
  ⟨fun _ _ h => absurd h (by omega), fun _ h => absurd h (by omega), fun h => absurd rfl h⟩

variable {B}
variable {t : Fin grid0.N} {f11 : Vec F S2048x1024 .bf16} {f12 : Vec F S2048x1024 .f32} {f13 : Vec F S1024x1024 .f32}

/-- A tile of a buffer, by the tile's number. -/
theorem tile_eq {e : EltTy} (t : Fin grid0.N) (X : Vec F S2048x1024 e) : tile (grid0.coords t) X = band (512 * (t.val % 4)) (rows_le t.val) X := by
  unfold tile; congr 1; exact row_eq t

/-- The normalised rows the point multiplies. -/
theorem xn_tile (h : Good B t.val f11 f12 f13) :
    tile (grid0.coords t) (xnNew (grid0.coords t) (B.x t.val) (B.nw t.val) f11) = XN B (t.val % 4) := by
  unfold xnNew
  by_cases h4 : t.val < 4
  · rw [if_pos ((cond1_iff t).mpr h4)]
    unfold tile; rw [band_put, Nat.mod_eq_of_lt h4]; rfl
  · rw [if_neg (fun h' => h4 ((cond1_iff t).mp h')), tile_eq]
    have := h.xn (t.val % 4) (Nat.mod_lt _ (by norm_num)) (by omega)
    rw [← this]; congr 1; omega

/-- The gradient of the normalised rows the point leaves. -/
theorem dx_tile (h : Good B t.val f11 f12 f13) :
    tile (grid0.coords t) (dxNew (grid0.coords t) (B.dp t.val) (B.w t.val) f12) = DX B t.val := by
  unfold dxNew dxMid
  by_cases h4 : t.val < 4
  · rw [if_pos ((cond1_iff t).mpr h4), DX_low B h4]
    unfold tile; rw [band_put, band_put]
  · rw [if_neg (fun h' => h4 ((cond1_iff t).mp h')), DX_high B (by omega)]
    unfold tile; rw [band_put]
    refine congrArg (fun z => k0_pay1 (k0_pay12 (B.dp t.val)) z (B.w t.val)) ?_
    rw [← h.dx (t.val - 4) (by omega) (by omega)]
    exact (tile_eq t f12).trans (by congr 1; omega)

/-- The weight gradient the point leaves. -/
theorem acc_eq (h : Good B t.val f11 f12 f13) :
    accNew (grid0.coords t) (B.x t.val) (B.dp t.val) (B.nw t.val) f11 f13 = ACC B t.val := by
  unfold accNew
  rw [xn_tile h, ACC_eq, tileCoord]
  by_cases h4 : t.val % 4 = 0
  · rw [if_pos h4, if_pos h4]
  · rw [if_neg h4, if_neg h4, h.acc h4]

/-- A point's stores keep what is known. -/
theorem good_succ (h : Good B t.val f11 f12 f13) :
    Good B (t.val + 1) (xnNew (grid0.coords t) (B.x t.val) (B.nw t.val) f11)
      (dxNew (grid0.coords t) (B.dp t.val) (B.w t.val) f12)
      (accNew (grid0.coords t) (B.x t.val) (B.dp t.val) (B.nw t.val) f11 f13) where
  xn j hj hn := by
    by_cases hjt : j = t.val
    · subst hjt
      rw [← tile_eq, xn_tile h, Nat.mod_eq_of_lt hj]
    · rw [← h.xn j hj (by omega)]
      unfold xnNew
      split
      · exact band_put_of_ne _ _ _ _ _ (by rw [row_eq]; have := (cond1_iff t).mp ‹_›; omega)
      · rfl
  dx p hp hn := by
    by_cases hpt : p = t.val
    · subst hpt
      rw [← tile_eq, dx_tile h]
    · have hne : 512 * (p % 4) + 512 ≤ row (grid0.coords t) ∨ row (grid0.coords t) + 512 ≤ 512 * (p % 4) := by rw [row_eq]; omega
      rw [← h.dx p (by omega) (by omega)]
      unfold dxNew dxMid
      rw [band_put_of_ne _ _ _ _ _ hne]
      split
      · exact band_put_of_ne _ _ _ _ _ hne
      · rfl
  acc _ := acc_eq h

end Cert.Pw
end
-- ==== Proof.Pw.Frame.lean ====
module

public import proofs.«01_k».proof.Proof.Pw.Chain
public import Idealize.ShloMosaic.Lib.Pipeline.TableIdle

@[expose] public section

set_option maxRecDepth 16384

/-!
# The frame of the projection's gradient

The region's proof data over the points' contents (`Chain`), the body's obligation at every point, and the launch.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelPwIdeal Cert.KernelPwIdeal.Gen Cert.Bands

namespace Cert.Pw

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- A number as a grid point. -/
def pt (n : ℕ) : Fin grid0.N := ⟨n % 8, lt_of_lt_of_eq (Nat.mod_lt _ (by norm_num)) N_0.symm⟩

theorem pt_val (t : Fin grid0.N) : pt t.val = t := Fin.ext (Nat.mod_eq_of_lt (lt_of_lt_of_eq t.isLt N_0))

/-- The blocks the region's arrays hold. -/
def blocks (c : Dev nD) : Blocks F where
  x n := iblk m c 0 (pt n)
  dres n := iblk m c 1 (pt n)
  dp n := iblk m c 2 (pt n)
  nw n := iblk m c 3 (pt n)
  w n := iblk m c 4 (pt n)

theorem blocks_x (c : Dev nD) (t : Fin cfg0.N) : (blocks m c).x t.val = iblk m c 0 t := by
  show (fun s : Fin cfg0.N => (iblk m c 0 s : Vec F S512x1024 .f32)) (pt t.val) = _; rw [pt_val]
theorem blocks_dres (c : Dev nD) (t : Fin cfg0.N) : (blocks m c).dres t.val = iblk m c 1 t := by
  show (fun s : Fin cfg0.N => (iblk m c 1 s : Vec F S512x1024 .f32)) (pt t.val) = _; rw [pt_val]
theorem blocks_dp (c : Dev nD) (t : Fin cfg0.N) : (blocks m c).dp t.val = iblk m c 2 t := by
  show (fun s : Fin cfg0.N => (iblk m c 2 s : Vec F S512x1024 .f32)) (pt t.val) = _; rw [pt_val]
theorem blocks_nw (c : Dev nD) (t : Fin cfg0.N) : (blocks m c).nw t.val = iblk m c 3 t := by
  show (fun s : Fin cfg0.N => (iblk m c 3 s : Vec F S1x1024 .f32)) (pt t.val) = _; rw [pt_val]
theorem blocks_w (c : Dev nD) (t : Fin cfg0.N) : (blocks m c).w t.val = iblk m c 4 t := by
  show (fun s : Fin cfg0.N => (iblk m c 4 s : Vec F S1024x1024 .bf16)) (pt t.val) = _; rw [pt_val]

abbrev sc0 : Memref sig .tc .vmem S2048x1024 .bf16 := Memref.whole cc0_scratch0
abbrev sc1 : Memref sig .tc .vmem S2048x1024 .f32 := Memref.whole cc0_scratch1
abbrev sc2 : Memref sig .tc .vmem S1024x1024 .f32 := Memref.whole cc0_scratch2

/-- What the launch hands over: the scratch buffers at some contents, and the generator's register. -/
theorem launched (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- Before point `n`: the scratch buffers at contents of which `Good` is known. -/
def Phi (c : Dev nD) (n : ℕ) : sProp 𝕄 :=
  iprop(∃ f11 f12 f13, ⌜Good (blocks m c) n f11 f12 f13⌝ ∗ owns (c : Thread nD τ) sc0 fullShare f11
    ∗ owns (c : Thread nD τ) sc1 fullShare f12 ∗ owns (c : Thread nD τ) sc2 fullShare f13 ∗ (∃ r, prngReg c r))

/-- The proof data: inputs at their blocks, outputs at the points' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => DXOUT (blocks m c) t.val
    | ⟨6, _⟩ => k0_pay2 (ACC (blocks m c) t.val)
    | ⟨7, _⟩ => DB (blocks m c) t.val
    | ⟨8, _⟩ => DN (blocks m c) t.val
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = DXOUT (blocks m c) t.val := by dsimp only [dats]
theorem after0_6 (c : Dev nD) (t : Fin cfg0.N) : (dats m 0 c).after 6 t = k0_pay2 (ACC (blocks m c) t.val) := by dsimp only [dats]
theorem after0_7 (c : Dev nD) (t : Fin cfg0.N) : (dats m 0 c).after 7 t = DB (blocks m c) t.val := by dsimp only [dats]
theorem after0_8 (c : Dev nD) (t : Fin cfg0.N) : (dats m 0 c).after 8 t = DN (blocks m c) t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- In the middle of a column block the bias gradient's window holds what the point before left. -/
theorem before0_7 (c : Dev nD) (t : Fin cfg0.N) (h : ¬t.val % 4 = 0) (d) : (dats m 0 c).before 7 t d = DB (blocks m c) (t.val - 1) := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl), after0_7]

theorem idle8 : ∀ t : Fin grid0.N, cfg0.idle 8 (grid0.coords t) = true → t.val = 1 ∨ t.val = 2 ∨ t.val = 3 := by decide +kernel
theorem notIdle8 : ∀ t : Fin grid0.N, t.val ≠ 1 → t.val ≠ 2 → t.val ≠ 3 → cfg0.idle 8 (grid0.coords t) = false := by decide +kernel

theorem DN_idle (B : Blocks F) {n : ℕ} (h : n = 1 ∨ n = 2 ∨ n = 3) : DN B n = DN B (n - 1) := by
  rcases h with rfl | rfl | rfl <;> exact if_pos (by norm_num)

theorem fresh8 : ∀ n, n < 8 → cfg0.fresh 8 n = decide (n = 0)
  | 0, _ => rfl
  | n + 1, h => by
    have hN : n < cfg0.N := lt_of_lt_of_eq (by omega) (show 8 = cfg0.N from N_0.symm)
    rw [Cfg.fresh_succ cfg0 8 n hN, fresh8 n (by omega)]
    have hf : (cfg0.win 8).flush ⟨n, hN⟩ = false := Bool.eq_false_iff.mpr fun h' => by have := (flush0_8 _).mp h'; dsimp only at this; omega
    rw [hf, Bool.false_or]
    by_cases h0 : n = 0
    · have : cfg0.idle 8 (cfg0.grid.coords ⟨n, hN⟩) = false := notIdle8 ⟨n, hN⟩ (by simp [h0]) (by simp [h0]) (by simp [h0])
      rw [this]; simp
    · simp [h0]

/-- After the first point the norm weight's window holds what the point before left, idle points between. -/
theorem before0_8 (c : Dev nD) (t : Fin cfg0.N) (h : t.val ≠ 0) (d) : (dats m 0 c).before 8 t d = DN (blocks m c) (t.val - 1) := by
  have hN : t.val < 8 := lt_of_lt_of_eq t.isLt (show cfg0.N = 8 from N_0)
  rw [(dats m 0 c).before_out_traj 8 rfl (fun _ _ => rfl) (fun s hs hi _ => by
      rw [after0_8, after0_8]
      exact DN_idle _ (idle8 s hi)) t.val t rfl d, fresh8 _ hN, if_neg (by simpa using h), after0_8]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ owns (c : Thread nD τ) (st0_7 t) fullShare ((dats m 0 c).after 7 t)
    ∗ (dats m 0 c).leavesExact 8 t)

theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

theorem idle5 : ∀ t : Fin grid0.N, t.val < 4 → cfg0.idle 5 (grid0.coords t) = true ∧ (cfg0.win 5).flush t = false := by decide +kernel
theorem live5 : ∀ t : Fin grid0.N, ¬t.val < 4 → cfg0.idle 5 (grid0.coords t) = false := by decide +kernel
theorem idle6 : ∀ t : Fin grid0.N, ¬t.val % 4 = 3 → cfg0.idle 6 (grid0.coords t) = true ∧ (cfg0.win 6).flush t = false := by decide +kernel
theorem live6 : ∀ t : Fin grid0.N, t.val % 4 = 3 → cfg0.idle 6 (grid0.coords t) = false := by decide +kernel
theorem idle8' : ∀ t : Fin grid0.N, (t.val = 1 ∨ t.val = 2 ∨ t.val = 3) → cfg0.idle 8 (grid0.coords t) = true ∧ (cfg0.win 8).flush t = false := by decide +kernel

variable {f11 : Vec F S2048x1024 .bf16} {f12 : Vec F S2048x1024 .f32} {f13 : Vec F S1024x1024 .f32} {m}

/-- The input gradient's window after the point. -/
theorem leaves5 (c : Dev nD) (t : Fin cfg0.N) (h : Good (blocks m c) t.val f11 f12 f13) (d) :
    owns (c : Thread nD τ) (st0_5 t) fullShare (dxOut (grid0.coords t) ((blocks m c).x t.val) ((blocks m c).dres t.val) ((blocks m c).dp t.val)
      ((blocks m c).nw t.val) ((blocks m c).w t.val) ((dats m 0 c).before 5 t d) f12) ⊢ ((dats m 0 c).leavesExact 5 t : sProp 𝕄) := by
  by_cases h4 : t.val < 4
  · rw [(dats m 0 c).leavesExact_idle 5 t (idle5 t h4).1 (idle5 t h4).2]
    unfold dxOut; rw [if_neg (fun h' => by have := (cond5_iff t).mp h'; omega)]
    iintro H; iexists _; iexact H
  · rw [leavesExact_live _ 5 t (live5 t h4), after0_5]
    unfold dxOut; rw [if_pos ((cond5_iff t).mpr (by omega)), dx_tile h]
    exact .rfl

/-- The weight gradient's window after the point. -/
theorem leaves6 (c : Dev nD) (t : Fin cfg0.N) (h : Good (blocks m c) t.val f11 f12 f13) (d) :
    owns (c : Thread nD τ) (st0_6 t) fullShare (dwOut (grid0.coords t) ((blocks m c).x t.val) ((blocks m c).dp t.val)
      ((blocks m c).nw t.val) ((dats m 0 c).before 6 t d) f11 f13) ⊢ ((dats m 0 c).leavesExact 6 t : sProp 𝕄) := by
  by_cases h4 : t.val % 4 = 3
  · rw [leavesExact_live _ 6 t (live6 t h4), after0_6]
    unfold dwOut; rw [if_pos ((cond4_iff t).mpr h4), acc_eq h]
  · rw [(dats m 0 c).leavesExact_idle 6 t (idle6 t h4).1 (idle6 t h4).2]
    unfold dwOut; rw [if_neg (fun h' => h4 ((cond4_iff t).mp h'))]
    iintro H; iexists _; iexact H

/-- The bias gradient's window after the point. -/
theorem leaves7 (c : Dev nD) (t : Fin cfg0.N) (d) :
    dbNew (grid0.coords t) ((blocks m c).dp t.val) ((dats m 0 c).before 7 t d) = (dats m 0 c).after 7 t := by
  rw [after0_7, DB_eq]
  unfold dbNew; rw [tileCoord]
  by_cases h4 : t.val % 4 = 0
  · rw [if_pos h4, if_pos h4]
  · rw [if_neg h4, if_neg h4, before0_7 m c t h4]

/-- The norm weight's window after the point. -/
theorem leaves8 (c : Dev nD) (t : Fin cfg0.N) (h : Good (blocks m c) t.val f11 f12 f13) (d) :
    owns (c : Thread nD τ) (st0_8 t) fullShare (dnNew (grid0.coords t) ((blocks m c).x t.val) ((blocks m c).dp t.val)
      ((blocks m c).w t.val) ((dats m 0 c).before 8 t d) f12) ⊢ ((dats m 0 c).leavesExact 8 t : sProp 𝕄) := by
  unfold dnNew
  by_cases h4 : t.val < 4
  · rw [if_neg (fun h' => by have := (cond5_iff t).mp h'; omega)]
    by_cases h0 : t.val = 0
    · rw [if_pos ((cond2_iff t).mpr h0), leavesExact_live _ 8 t (notIdle8 t (by omega) (by omega) (by omega)), after0_8, h0]
      exact .rfl
    · rw [if_neg (fun h' => h0 ((cond2_iff t).mp h')), (dats m 0 c).leavesExact_idle 8 t (idle8' t (by omega)).1 (idle8' t (by omega)).2]
      iintro H; iexists _; iexact H
  · rw [if_pos ((cond5_iff t).mpr (by omega)), if_neg (fun h' => h4 (by have := (cond2_iff t).mp h'; omega)), dx_tile h,
      leavesExact_live _ 8 t (notIdle8 t (by omega) (by omega) (by omega)), after0_8, before0_8 m c t (by omega)]
    obtain ⟨n, hn⟩ : ∃ n, t.val = n + 1 := ⟨t.val - 1, by omega⟩
    rw [hn]
    refine Entails.of_eq (congrArg _ ?_)
    exact (if_neg (show ¬n + 1 < 4 by omega)).symm

variable (m)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, ← blocks_x, ← blocks_dres, ← blocks_dp, ← blocks_nw, ← blocks_w]
  rw [show (dats m 0 c).owesAt () t.succ = (dats m 0 c).owesAt () t.castSucc from rfl, after0_0, after0_1, after0_2, after0_3, after0_4]
  rw [show (dats m 0 c).Φ t.castSucc = Phi m c t.val from rfl, show (dats m 0 c).Φ t.succ = Phi m c (t.val + 1) from rfl]
  simp only [← blocks_x, ← blocks_dres, ← blocks_dp, ← blocks_nw, ← blocks_w]
  unfold Phi
  iintro ⟨⟨%f11, %f12, %f13, %hg, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ ((blocks m c).x t.val) ((blocks m c).dres t.val)
    ((blocks m c).dp t.val) ((blocks m c).nw t.val) ((blocks m c).w t.val) ((dats m 0 c).before 5 t d5) ((dats m 0 c).before 6 t d6)
    ((dats m 0 c).before 7 t d7) ((dats m 0 c).before 8 t d8) f11 f12 f13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, S0, S1, S2⟩
  isplitl [S0 S1 S2 Hr]
  · iexists _; iexists _; iexists _
    isplitr
    · ipureintro; exact good_succ hg
    isplitl [S0]; · iexact S0
    isplitl [S1]; · iexact S1
    isplitl [S2]; · iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iapply (leaves5 c t hg d5); iexact H5
  isplitl [H6]; · iapply (leaves6 c t hg d6); iexact H6
  isplitl [H7]; · rw [← leaves7 c t d7]; iexact H7
  iapply (leaves8 c t hg d8); iexact H8

theorem defs₀_row (t : Fin cfg0.N) : defs₀ (F := F) .tc cfg0.body (cfg0.bodyArgs t (cfg0.slots t)) = bodyAt0 t := by
  unfold defs₀; rw [Defs.onTc_tc]

/-- The obligation of the region's body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched]
  unfold Phi
  iintro ⟨⟨⟨%f11, S0⟩, ⟨%f12, S1⟩, ⟨%f13, S2⟩⟩, Hr⟩
  iexists f11; iexists f12; iexists f13
  isplitr
  · ipureintro; exact good_zero _ _ _ _
  isplitl [S0]; · iexact S0
  isplitl [S1]; · iexact S1
  isplitl [S2]; · iexact S2
  iexact Hr

theorem hout (c : Dev nD) : (dats m 0 c).Φ (Fin.last cfg0.N) ⊢ Pipeline.ΦA spec0 c := by
  rw [show (dats m 0 c).Φ (Fin.last cfg0.N) = Phi m c cfg0.N from rfl, launched]
  unfold Phi
  iintro ⟨%f11, %f12, %f13, %hg, S0, S1, S2, Hr⟩
  isplitl [S0 S1 S2]
  · isplitl [S0]; · iexists _; iexact S0
    isplitl [S1]; · iexists _; iexact S1
    iexists _; iexact S2
  iexact Hr

set_option backward.isDefEq.respectTransparency.types false in
/-- The launch: every weakly fair execution ends, the arrays at what the proof data say, the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program ends, its arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Pw
end
-- ==== Proof.Pw.Value.lean ====
module

public import proofs.«01_k».proof.Proof.Pw.Block
public import proofs.«01_k».proof.Proof.Pw.Frame

@[expose] public section

set_option maxRecDepth 16384

/-!
# What the norm-and-projection backward kernel leaves in its four result arrays
-/

noncomputable section

open Idealize Idealize.ShloMosaic Idealize.ShloMosaic.Pipeline Idealize.ShloMosaic.TcCoe Idealize.SL
open Cert.KernelPwIdeal Cert.KernelPwIdeal.Gen

namespace Cert.Pw

variable (X R : Vec Ideal S2048x1024 .f32) (P : Vec Ideal S2048x2048 .f32) (nw : Vec Ideal S1024 .f32) (W : Vec Ideal S1024x2048 .f32)

/-- A row of the norm's input. -/
abbrev xrow (i : Fin 2048) (k : Fin 1024) : EReal := X (ix2 i k)
/-- The normalised rows, scaled. -/
def xnM (i : Fin 2048) (k : Fin 1024) : EReal := X (ix2 i k) * Rms.rstd (xrow X i) * nw (ix1 k)
/-- The gradient of the normalised rows. -/
def gM (i : Fin 2048) (k : Fin 1024) : EReal := ∑ q : Fin 2048, P (ix2 i q) * W (ix2 k q)
/-- The gradient of the input. -/
def dxM (j : S2048x1024.Idx) : EReal := R j + Rms.gradK (xrow X (j 0)) (fun k => gM P W (j 0) k * nw (ix1 k)) (j 1)
/-- The gradient of the projection's weight. -/
def dwM (j : S1024x2048.Idx) : EReal := ∑ i : Fin 2048, xnM X nw i (j 0) * P (ix2 i (j 1))
/-- The gradient of the projection's bias. -/
def dbM (j : S1x2048.Idx) : EReal := ∑ i : Fin 2048, P (ix2 i (j 1))
/-- The gradient of the norm's weight. -/
def dnM (j : S1x1024.Idx) : EReal := ∑ i : Fin 2048, gM P W i (j 1) * (X (ix2 i (j 1)) * Rms.rstd (xrow X i))

variable (m : (ℓ : Loc nD τ sig) → Buf (Elt Ideal) ℓ) (c : Dev nD)

/-- Which block each operand and result uses at a point. -/
theorem idx : ∀ t : Fin cfg0.N, win0_0.index t = ![t.val % 4, 0] ∧ (4 ≤ t.val → win0_1.index t = ![t.val % 4, 0])
    ∧ win0_2.index t = ![t.val % 4, t.val / 4] ∧ win0_3.index t = ![0, 0] ∧ win0_4.index t = ![0, t.val / 4]
    ∧ (4 ≤ t.val → win0_5.index t = ![t.val % 4, 0]) ∧ win0_6.index t = ![0, t.val / 4] ∧ win0_7.index t = ![0, t.val / 4]
    ∧ win0_8.index t = ![0, 0] := (by decide +kernel : ∀ t : Fin grid0.N, _)

theorem lt_8 (t : Fin cfg0.N) : t.val < 8 := lt_of_lt_of_eq t.isLt N_0

/-- The row of the whole array that a tile's row is. -/
def grow (n : ℕ) (i : Fin 512) : Fin 2048 := ⟨n % 4 * 512 + i.val, by omega⟩
/-- The column of the whole array that a block's column is. -/
def gcol (n : ℕ) (h : n < 8) (q : Fin 1024) : Fin 2048 := ⟨n / 4 * 1024 + q.val, by omega⟩

theorem x_at (n : ℕ) (h : n < 8) (i : Fin 512) (k : Fin 1024) :
    (blocks m c).x n (ix2 i k) = m ((c : Thread nD τ).loc main_arg0) (ix2 (grow n i) k) := by
  obtain ⟨t, rfl⟩ : ∃ t : Fin cfg0.N, t.val = n := ⟨⟨n, lt_of_lt_of_eq h N_0.symm⟩, rfl⟩
  rw [blocks_x]; unfold grow
  blk_point [iblk, V, idx t]

theorem r_at (n : ℕ) (h : n < 8) (h4 : 4 ≤ n) (i : Fin 512) (k : Fin 1024) :
    (blocks m c).dres n (ix2 i k) = m ((c : Thread nD τ).loc main_arg1) (ix2 (grow n i) k) := by
  obtain ⟨t, rfl⟩ : ∃ t : Fin cfg0.N, t.val = n := ⟨⟨n, lt_of_lt_of_eq h N_0.symm⟩, rfl⟩
  rw [blocks_dres]; unfold grow
  blk_point [iblk, V, (idx t).2.1 h4]

theorem p_at (n : ℕ) (h : n < 8) (i : Fin 512) (q : Fin 1024) :
    (blocks m c).dp n (ix2 i q) = m ((c : Thread nD τ).loc main_arg2) (ix2 (grow n i) (gcol n h q)) := by
  obtain ⟨t, rfl⟩ : ∃ t : Fin cfg0.N, t.val = n := ⟨⟨n, lt_of_lt_of_eq h N_0.symm⟩, rfl⟩
  rw [blocks_dp]; unfold grow gcol
  blk_point [iblk, V, idx t]

theorem nw_at (n : ℕ) (h : n < 8) (k : Fin 1024) :
    (blocks m c).nw n (ix2 0 k) = m ((c : Thread nD τ).loc main_arg3) (ix1 k) := by
  obtain ⟨t, rfl⟩ : ∃ t : Fin cfg0.N, t.val = n := ⟨⟨n, lt_of_lt_of_eq h N_0.symm⟩, rfl⟩
  rw [blocks_nw]
  blk_point [iblk, V, idx t]

theorem w_at (n : ℕ) (h : n < 8) (k q : Fin 1024) :
    (blocks m c).w n (ix2 k q) = m ((c : Thread nD τ).loc main_arg4) (ix2 k (gcol n h q)) := by
  obtain ⟨t, rfl⟩ : ∃ t : Fin cfg0.N, t.val = n := ⟨⟨n, lt_of_lt_of_eq h N_0.symm⟩, rfl⟩
  rw [blocks_w]; unfold gcol
  blk_point [iblk, V, idx t]

/-! ## The contents of scratch buffers and windows, entry by entry -/

theorem xn_at (n : ℕ) (h : n < 8) (i : Fin 512) (k : Fin 1024) :
    XN (blocks m c) n (ix2 i k) = xnM (m ((c : Thread nD τ).loc main_arg0)) (m ((c : Thread nD τ).loc main_arg3)) (grow n i) k := by
  unfold XN
  rw [xn_block]
  simp only [x_at m c n h, nw_at m c n h]
  rfl

/-- After the last column block the gradient of the normalised rows is whole. -/
theorem dx_at (n : ℕ) (h : n < 8) (h4 : 4 ≤ n) (i : Fin 512) (k : Fin 1024) :
    DX (blocks m c) n (ix2 i k) = gM (m ((c : Thread nD τ).loc main_arg2)) (m ((c : Thread nD τ).loc main_arg4)) (grow n i) k := by
  rw [DX_high _ h4, mm_block, DX_low _ (by omega), mm_block, zero8, zero_add]
  unfold gM
  refine Eq.trans ?_ (Fin.sum_mul_add_congr (S := 2) (n := 1024) (F := fun s q => (blocks m c).dp (n - 4 + 4 * s.val) (ix2 i q) * (blocks m c).w (n - 4 + 4 * s.val) (ix2 k q)) fun s q hl => ?_)
  · rw [Fin.sum_univ_two]
    show _ = (∑ q, (blocks m c).dp (n - 4 + 4 * 0) (ix2 i q) * (blocks m c).w (n - 4 + 4 * 0) (ix2 k q)) + ∑ q, (blocks m c).dp (n - 4 + 4 * 1) (ix2 i q) * (blocks m c).w (n - 4 + 4 * 1) (ix2 k q)
    rw [show n - 4 + 4 * 0 = n - 4 by omega, show n - 4 + 4 * 1 = n by omega]
  · have hs := s.isLt
    have hn : n - 4 + 4 * s.val < 8 := by omega
    rw [p_at m c _ hn, w_at m c _ hn]
    have e1 : grow (n - 4 + 4 * s.val) i = grow n i := Fin.ext (show (n - 4 + 4 * s.val) % 4 * 512 + i.val = n % 4 * 512 + i.val by omega)
    have e2 : gcol (n - 4 + 4 * s.val) hn q = ⟨s.val * 1024 + q.val, hl⟩ := Fin.ext (show (n - 4 + 4 * s.val) / 4 * 1024 + q.val = s.val * 1024 + q.val by omega)
    rw [e1, e2]

/-- Four steps of an accumulation that starts from zero. -/
theorem four_steps (a f : ℕ → EReal) (n : ℕ) (hn : n % 4 = 3) (hr : ∀ t, t % 4 = 0 → a t = 0 + f t) (hs : ∀ t, t % 4 ≠ 0 → a t = a (t - 1) + f t) :
    a n = ∑ s : Fin 4, f (n - 3 + s.val) := by
  rw [hs n (by omega), hs (n - 1) (by omega), hs (n - 1 - 1) (by omega), hr (n - 1 - 1 - 1) (by omega), zero_add, Fin.sum_univ_four]
  show f (n - 1 - 1 - 1) + f (n - 1 - 1) + f (n - 1) + f n = f (n - 3 + 0) + f (n - 3 + 1) + f (n - 3 + 2) + f (n - 3 + 3)
  rw [show n - 1 - 1 - 1 = n - 3 + 0 by omega, show n - 1 - 1 = n - 3 + 1 by omega, show n - 1 = n - 3 + 2 by omega, show n - 3 + 3 = n by omega]

/-- At the last tile of a column block its weight gradient is whole. -/
theorem acc_at (n : ℕ) (h : n < 8) (hn : n % 4 = 3) (k q : Fin 1024) :
    ACC (blocks m c) n (ix2 k q) = dwM (m ((c : Thread nD τ).loc main_arg0)) (m ((c : Thread nD τ).loc main_arg2)) (m ((c : Thread nD τ).loc main_arg3)) (ix2 k (gcol n h q)) := by
  refine (four_steps (fun t => ACC (blocks m c) t (ix2 k q)) (fun t => ∑ i : Fin 512, XN (blocks m c) (t % 4) (ix2 i k) * (blocks m c).dp t (ix2 i q)) n hn
    (fun t ht => ?_) (fun t ht => ?_)).trans ?_
  · show ACC (blocks m c) t (ix2 k q) = _
    rw [ACC_eq, if_pos ht, acc_block, zero10]
  · show ACC (blocks m c) t (ix2 k q) = _
    rw [ACC_eq, if_neg ht, acc_block]
  · unfold dwM
    refine Fin.sum_mul_add_congr (S := 4) (n := 512) fun s i hl => ?_
    have hs := s.isLt
    have hn' : n - 3 + s.val < 8 := by omega
    rw [xn_at m c _ (by omega), p_at m c _ hn']
    have e1 : grow ((n - 3 + s.val) % 4) i = ⟨s.val * 512 + i.val, hl⟩ := Fin.ext (show (n - 3 + s.val) % 4 % 4 * 512 + i.val = s.val * 512 + i.val by omega)
    have e2 : grow (n - 3 + s.val) i = ⟨s.val * 512 + i.val, hl⟩ := Fin.ext (show (n - 3 + s.val) % 4 * 512 + i.val = s.val * 512 + i.val by omega)
    have e3 : gcol (n - 3 + s.val) hn' q = gcol n h q := Fin.ext (show (n - 3 + s.val) / 4 * 1024 + q.val = n / 4 * 1024 + q.val by omega)
    rw [e1, e2, e3]
    rfl

/-- The same for its bias gradient. -/
theorem db_at (n : ℕ) (h : n < 8) (hn : n % 4 = 3) (q : Fin 1024) :
    DB (blocks m c) n (ix2 0 q) = dbM (m ((c : Thread nD τ).loc main_arg2)) (ix2 0 (gcol n h q)) := by
  refine (four_steps (fun t => DB (blocks m c) t (ix2 0 q)) (fun t => ∑ i : Fin 512, (blocks m c).dp t (ix2 i q)) n hn
    (fun t ht => ?_) (fun t ht => ?_)).trans ?_
  · show DB (blocks m c) t (ix2 0 q) = _
    rw [DB_eq, if_pos ht, db_block, zero11]
  · show DB (blocks m c) t (ix2 0 q) = _
    rw [DB_eq, if_neg ht, db_block]
  · unfold dbM
    refine Fin.sum_mul_add_congr (S := 4) (n := 512) fun s i hl => ?_
    have hs := s.isLt
    have hn' : n - 3 + s.val < 8 := by omega
    rw [p_at m c _ hn']
    have e2 : grow (n - 3 + s.val) i = ⟨s.val * 512 + i.val, hl⟩ := Fin.ext (show (n - 3 + s.val) % 4 * 512 + i.val = s.val * 512 + i.val by omega)
    have e3 : gcol (n - 3 + s.val) hn' q = gcol n h q := Fin.ext (show (n - 3 + s.val) / 4 * 1024 + q.val = n / 4 * 1024 + q.val by omega)
    rw [e2, e3]
    rfl

/-- After the last point the norm weight's gradient is whole. -/
theorem dn_at (k : Fin 1024) : DN (blocks m c) 7 (ix2 0 k) = dnM (m ((c : Thread nD τ).loc main_arg0)) (m ((c : Thread nD τ).loc main_arg2)) (m ((c : Thread nD τ).loc main_arg4)) (ix2 0 k) := by
  have hs : ∀ t, 4 ≤ t + 1 → DN (blocks m c) (t + 1) (ix2 0 k) = DN (blocks m c) t (ix2 0 k)
      + ∑ i : Fin 512, DX (blocks m c) (t + 1) (ix2 i k) * ((blocks m c).x (t + 1) (ix2 i k) * Rms.rstd (fun k => (blocks m c).x (t + 1) (ix2 i k))) := fun t ht => by
    rw [← dn_block]; unfold DN; rw [if_neg (by omega)]; cases t <;> rfl
  have h3 : DN (blocks m c) 3 (ix2 0 k) = 0 := zero9 (ix2 0 k)
  rw [hs 6 (by norm_num), hs 5 (by norm_num), hs 4 (by norm_num), hs 3 (by norm_num), h3, zero_add]
  unfold dnM
  refine Eq.trans ?_ (Fin.sum_mul_add_congr (S := 4) (n := 512)
    (F := fun s i => DX (blocks m c) (4 + s.val) (ix2 i k) * ((blocks m c).x (4 + s.val) (ix2 i k) * Rms.rstd (fun k => (blocks m c).x (4 + s.val) (ix2 i k)))) fun s i hl => ?_)
  · rw [Fin.sum_univ_four]; rfl
  · have hs := s.isLt
    rw [dx_at m c _ (by omega) (by omega)]
    simp only [x_at m c (4 + s.val) (by omega)]
    have e2 : grow (4 + s.val) i = ⟨s.val * 512 + i.val, hl⟩ := Fin.ext (show (4 + s.val) % 4 * 512 + i.val = s.val * 512 + i.val by omega)
    rw [e2]
    rfl

theorem dxout_at (n : ℕ) (h : n < 8) (h4 : 4 ≤ n) (i : Fin 512) (k : Fin 1024) :
    DXOUT (blocks m c) n (ix2 i k) = dxM (m ((c : Thread nD τ).loc main_arg0)) (m ((c : Thread nD τ).loc main_arg1)) (m ((c : Thread nD τ).loc main_arg2))
      (m ((c : Thread nD τ).loc main_arg3)) (m ((c : Thread nD τ).loc main_arg4)) (ix2 (grow n i) k) := by
  unfold DXOUT
  rw [dx_block]
  simp only [x_at m c n h, nw_at m c n h, r_at m c n h h4, dx_at m c n h h4]
  rfl

/-! ## The arrays after the last point -/

theorem flush5 : ∀ t : Fin cfg0.N, (cfg0.win 5).flush t = true → 4 ≤ t.val := (by decide +kernel : ∀ t : Fin grid0.N, _)

theorem dx_final : (dats m 0 c).arrAt 5 (cfgs 0).N = dxM (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  obtain ⟨i, k, rfl⟩ : ∃ (i : Fin 512) (k : Fin 1024), y = ix2 i k := ⟨y 0, y 1, by funext a; match a with | ⟨0, _⟩ => rfl | ⟨1, _⟩ => rfl⟩
  have h4 := flush5 t hf
  rw [dxout_at m c t.val (lt_8 t) h4]
  refine congrArg _ (funext fun a => Fin.ext ?_)
  match a with
  | ⟨0, _⟩ => blk_simp [(idx t).2.2.2.2.2.1 h4]; rfl
  | ⟨1, _⟩ => blk_simp [(idx t).2.2.2.2.2.1 h4]

theorem dw_final : (dats m 0 c).arrAt 6 (cfgs 0).N = dwM (m ((c : Thread nD τ).loc main_arg0)) (m ((c : Thread nD τ).loc main_arg2))
      (m ((c : Thread nD τ).loc main_arg3)) := by
  refine (dats m 0 c).arrAt_eq_of_covers 6 _ (by decide +kernel) fun t hf y => ?_
  blk_simp
  rw [after0_6, cast_block]
  obtain ⟨k, q, rfl⟩ : ∃ (k : Fin 1024) (q : Fin 1024), y = ix2 k q := ⟨y 0, y 1, by funext a; match a with | ⟨0, _⟩ => rfl | ⟨1, _⟩ => rfl⟩
  rw [acc_at m c t.val (lt_8 t) ((flush0_6 t).mp hf)]
  refine congrArg _ (funext fun a => Fin.ext ?_)
  match a with
  | ⟨0, _⟩ => blk_simp [idx t]
  | ⟨1, _⟩ => blk_simp [idx t]; rfl

theorem db_final : (dats m 0 c).arrAt 7 (cfgs 0).N = dbM (m ((c : Thread nD τ).loc main_arg2)) := by
  refine (dats m 0 c).arrAt_eq_of_covers 7 _ (by decide +kernel) fun t hf y => ?_
  blk_simp
  rw [after0_7]
  obtain ⟨q, rfl⟩ : ∃ (q : Fin 1024), y = ix2 0 q := ⟨y 1, by funext a; match a with | ⟨0, _⟩ => exact Subsingleton.elim (α := Fin 1) _ _ | ⟨1, _⟩ => rfl⟩
  rw [db_at m c t.val (lt_8 t) ((flush0_7 t).mp hf)]
  refine congrArg _ (funext fun a => Fin.ext ?_)
  match a with
  | ⟨0, _⟩ => blk_simp [idx t]
  | ⟨1, _⟩ => blk_simp [idx t]; rfl

theorem dn_final : (dats m 0 c).arrAt 8 (cfgs 0).N = dnM (m ((c : Thread nD τ).loc main_arg0)) (m ((c : Thread nD τ).loc main_arg2)) (m ((c : Thread nD τ).loc main_arg4)) := by
  refine (dats m 0 c).arrAt_eq_of_covers 8 _ (by decide +kernel) fun t hf y => ?_
  blk_simp
  rw [after0_8]
  obtain ⟨k, rfl⟩ : ∃ (k : Fin 1024), y = ix2 0 k := ⟨y 1, by funext a; match a with | ⟨0, _⟩ => exact Subsingleton.elim (α := Fin 1) _ _ | ⟨1, _⟩ => rfl⟩
  have h7 : t.val = 7 := by have := (flush0_8 t).mp hf; have := lt_8 t; omega
  rw [h7, dn_at m c]
  refine congrArg _ (funext fun a => Fin.ext ?_)
  match a with
  | ⟨0, _⟩ => blk_simp [idx t]
  | ⟨1, _⟩ => blk_simp [idx t]

end Cert.Pw
end
-- ==== Proof.Pw.Reference.lean ====
module

public import proofs.«01_k».proof.Proof.Math.Rms
public import proofs.«01_k».proof.Proof.Gen.ReferencePwIdeal.Run
public import proofs.«01_k».proof.Proof.Gen.ReferencePwIdeal.Read
public import Idealize.ShloMosaic.Lib.Pointwise

@[expose] public section

set_option maxRecDepth 16384

/-!
# What the norm-and-projection reference computes, entry by entry
-/

noncomputable section

open Idealize Idealize.ShloMosaic Idealize.ShloMosaic.TcCoe Idealize.SL
open Cert.ReferencePwIdeal Cert.ReferencePwIdeal.Gen Cert.ReferencePwIdeal.Read

namespace Cert.Pw

variable (X R : Vec Ideal S2048x1024 .f32) (P : Vec Ideal S2048x2048 .f32) (nw : Vec Ideal S1024 .f32) (W : Vec Ideal S1024x2048 .f32)

theorem msq_at (i : Fin 2048) : val_main_v6 (F := Ideal) X (ix2 i 0) = Rms.msq (fun k => X (ix2 i k)) := by
  pointwise [val_main_v6, val_main_v5, val_main_v4, val_main_v3, val_main_v2, val_main_v1, val_main_v0, val_main_cst, val_main_cst_0, val_main_cst_1, Rms.msq]

theorem rstd_at (i : Fin 2048) : val_main_v7 (F := Ideal) X (ix2 i 0) = Rms.rstd (fun k => X (ix2 i k)) := by
  pointwise [val_main_v7, msq_at, Rms.rstd]

theorem xn_ref (i : Fin 2048) (k : Fin 1024) : val_main_v15 (F := Ideal) X nw (ix2 i k) = X (ix2 i k) * Rms.rstd (fun k => X (ix2 i k)) * nw (ix1 k) := by
  pointwise [val_main_v15, val_main_v14, val_main_v13, val_main_v12, val_main_v11, rstd_at]

theorem g_ref (i : Fin 2048) (k : Fin 1024) : val_main_v26 (F := Ideal) P W (ix2 i k) = ∑ q : Fin 2048, P (ix2 i q) * W (ix2 k q) := by
  pointwise [val_main_v26, val_main_v20]

theorem gn_ref (i : Fin 2048) (k : Fin 1024) : val_main_v31 (F := Ideal) P nw W (ix2 i k) = (∑ q : Fin 2048, P (ix2 i q) * W (ix2 k q)) * nw (ix1 k) := by
  pointwise [val_main_v31, val_main_v30, val_main_v13, g_ref]

theorem through_at (i : Fin 2048) (k : Fin 1024) : val_main_v43 (F := Ideal) X P nw W (ix2 i k)
    = Rms.through (fun k => X (ix2 i k)) (fun k => (∑ q : Fin 2048, P (ix2 i q) * W (ix2 k q)) * nw (ix1 k)) := by
  pointwise [val_main_v43, val_main_v42, val_main_v41, val_main_v40, val_main_v39, val_main_v35, val_main_v34, val_main_v33, val_main_v10, val_main_v9, val_main_v8,
    val_main_cst_2, val_main_cst_7, val_main_cst_8, val_main_cst_9, gn_ref, Rms.through]
  refine (Fin.sum_univ_one _).trans ?_
  rw [rstd_at, msq_at]

/-- The input's gradient. -/
theorem dx_ref (i : Fin 2048) (k : Fin 1024) : val_main_v47 (F := Ideal) X R P nw W (ix2 i k)
    = R (ix2 i k) + Rms.gradK (fun k => X (ix2 i k)) (fun k => (∑ q : Fin 2048, P (ix2 i q) * W (ix2 k q)) * nw (ix1 k)) k := by
  rw [Rms.gradK_eq_gradR]
  pointwise [val_main_v47, val_main_v46, val_main_v45, val_main_v44, val_main_v38, val_main_v37, val_main_v36, rstd_at, gn_ref, through_at, Rms.gradR]
  rw [add_assoc, add_assoc, add_assoc]

/-- The projection weight's gradient. -/
theorem dw_ref (k : Fin 1024) (q : Fin 2048) : val_main_v48 (F := Ideal) X P nw (ix2 k q)
    = ∑ i : Fin 2048, X (ix2 i k) * Rms.rstd (fun k => X (ix2 i k)) * nw (ix1 k) * P (ix2 i q) := by
  pointwise [val_main_v48, val_main_v25, val_main_v24, val_main_v20, xn_ref]
  exact Finset.sum_congr rfl fun i _ => mul_comm _ _

/-- The projection bias's gradient. -/
theorem db_ref (q : Fin 2048) : val_main_v49 (F := Ideal) P (ix2 0 q) = ∑ i : Fin 2048, P (ix2 i q) := by
  pointwise [val_main_v49, val_main_v23, val_main_v22, val_main_v21, val_main_cst_3, val_main_cst_4]
  exact Fin.sum_univ_one _

/-- The norm weight's gradient. -/
theorem dn_ref (k : Fin 1024) : val_main_v50 (F := Ideal) X P W (ix2 0 k)
    = ∑ i : Fin 2048, (∑ q : Fin 2048, P (ix2 i q) * W (ix2 k q)) * (X (ix2 i k) * Rms.rstd (fun k => X (ix2 i k))) := by
  pointwise [val_main_v50, val_main_v32, val_main_v29, val_main_v28, val_main_v27, val_main_v12, val_main_v11, val_main_cst_5, val_main_cst_6, rstd_at, g_ref]
  exact (Fin.sum_univ_one _).trans (Finset.sum_congr rfl fun i _ => mul_comm _ _)

end Cert.Pw
end
-- ==== Proof.Pw.Claim.lean ====
module

public import proofs.«01_k».proof.Defs
public import proofs.«01_k».proof.Proof.Gen.KernelPw
public import proofs.«01_k».proof.Proof.Gen.ReferencePwIdeal
public import proofs.«01_k».proof.Proof.Pw.Value
public import proofs.«01_k».proof.Proof.Pw.Reference

@[expose] public section

set_option maxRecDepth 16384

/-!
# The norm's and projection's gradients: kernel and reference agree
-/

noncomputable section

open Idealize Idealize.ShloMosaic Idealize.ShloMosaic.Pipeline Idealize.ShloMosaic.TcCoe Idealize.SL Idealize.SL.Sem

namespace Cert.Pw

open Cert.KernelPwIdeal (S2048x1024 S2048x2048 S1024 S1024x2048 S1x1024 S1x2048)

variable (X R : Vec Ideal S2048x1024 .f32) (P : Vec Ideal S2048x2048 .f32) (nw : Vec Ideal S1024 .f32) (W : Vec Ideal S1024x2048 .f32)

theorem dx_value : Cert.ReferencePwIdeal.Read.val_main_v47 (F := Ideal) X R P nw W = dxM X R P nw W := by
  funext j
  obtain ⟨i, k, rfl⟩ : ∃ (i : Fin 2048) (k : Fin 1024), j = ix2 i k := ⟨j 0, j 1, by funext a; match a with | ⟨0, _⟩ => rfl | ⟨1, _⟩ => rfl⟩
  exact dx_ref X R P nw W i k

theorem dw_value : Cert.ReferencePwIdeal.Read.val_main_v48 (F := Ideal) X P nw = dwM X P nw := by
  funext j
  obtain ⟨i, k, rfl⟩ : ∃ (i : Fin 1024) (k : Fin 2048), j = ix2 i k := ⟨j 0, j 1, by funext a; match a with | ⟨0, _⟩ => rfl | ⟨1, _⟩ => rfl⟩
  exact dw_ref X P nw i k

theorem db_value : Cert.ReferencePwIdeal.Read.val_main_v49 (F := Ideal) P = dbM P := by
  funext j
  obtain ⟨q, rfl⟩ : ∃ (q : Fin 2048), j = ix2 0 q := ⟨j 1, by funext a; match a with | ⟨0, _⟩ => exact Subsingleton.elim (α := Fin 1) _ _ | ⟨1, _⟩ => rfl⟩
  exact db_ref P q

theorem dn_value : Cert.ReferencePwIdeal.Read.val_main_v50 (F := Ideal) X P W = dnM X P W := by
  funext j
  obtain ⟨k, rfl⟩ : ∃ (k : Fin 1024), j = ix2 0 k := ⟨j 1, by funext a; match a with | ⟨0, _⟩ => exact Subsingleton.elim (α := Fin 1) _ _ | ⟨1, _⟩ => rfl⟩
  exact dn_ref X P W k

/-- The frame of the printed program: the same text as the one the run is proved for, at bit patterns. -/
theorem frame_bits : Cert.quiescent_KernelPw (hKernelPw := Cert.KernelPw.Gen.facts) := fun m ρ _ =>
  Eq.mp (by sl_kernel_rfl) (frame (F := Bits) m ρ)

/-- The frame of the reference: its counters are zero because it declares no semaphore. -/
theorem frame_reference : Cert.quiescent_ReferencePwIdeal (hReferencePwIdeal := Cert.ReferencePwIdeal.Gen.facts) := fun m ρ _ =>
  (θ_run Cert.ReferencePwIdeal.defs _ _).mono (fun r h => ⟨fun c => (h c).2.2.2.2, sem_eq_zero_of_no_sems (by decide) r.2⟩)
    (Cert.ReferencePwIdeal.Value.run m ρ)

/-- The claim of equal results. -/
theorem algebraic : Cert.algebraic_KernelPwIdeal_ReferencePwIdeal (hKernelPwIdeal := Cert.KernelPwIdeal.Gen.facts)
    (hReferencePwIdeal := Cert.ReferencePwIdeal.Gen.facts) := by
  intro m ρ m' ρ' _ hargs
  refine ⟨fun c => (dats m 0 c).arrAt 5 (Cert.KernelPwIdeal.cfgs 0).N, fun c => (dats m 0 c).arrAt 6 (Cert.KernelPwIdeal.cfgs 0).N,
    fun c => (dats m 0 c).arrAt 7 (Cert.KernelPwIdeal.cfgs 0).N, fun c => (dats m 0 c).arrAt 8 (Cert.KernelPwIdeal.cfgs 0).N, ?_, ?_⟩
  · refine (θ_run _ _ _).mono (fun r h c => ?_) (θ_run_and ((θ_run _ _ _).mono (fun _ h => h.1) (run_main m ρ)) (frame m ρ))
    exact ⟨(h.1 c).1 5, (h.1 c).1 6, (h.1 c).1 7, (h.1 c).1 8, h.2.1 c⟩
  · refine (θ_run _ _ _).mono (fun r h c => ?_) (Cert.ReferencePwIdeal.Value.run m' ρ')
    obtain ⟨h0, h1, h2, h3, h4⟩ := h c
    obtain ⟨a0, a1, a2, a3, a4, a5⟩ := hargs c
    refine ⟨h0.trans ?_, h1.trans ?_, h2.trans ?_, h3.trans ?_, h4⟩
    · rw [Cert.ReferencePwIdeal.Read.val_main_v47_eq, a0, a1, a2, a3, a4, dx_value]; exact (dx_final m c).symm
    · rw [Cert.ReferencePwIdeal.Read.val_main_v48_eq, a0, a2, a3, dw_value]; exact (dw_final m c).symm
    · rw [Cert.ReferencePwIdeal.Read.val_main_v49_eq, a2, db_value]; exact (db_final m c).symm
    · rw [Cert.ReferencePwIdeal.Read.val_main_v50_eq, a0, a2, a4, dn_value]; exact (dn_final m c).symm

end Cert.Pw

end
-- ==== Proof.In.Block.lean ====
module

public import proofs.«01_k».proof.Proof.Gen.KernelInIdeal.Skeleton
public import proofs.«01_k».proof.Proof.Math.Rms
public import Idealize.ShloMosaic.Lib.Pipeline.ValueKit
public import Idealize.ShloMosaic.Lib.Pointwise

@[expose] public section

set_option maxRecDepth 16384

/-!
# What the stores of the four-piece backward kernel hold, in the values loaded before them
-/

noncomputable section

open Idealize Idealize.ShloMosaic Idealize.ShloMosaic.Pipeline Idealize.SL
open Cert.KernelInIdeal Cert.KernelInIdeal.Gen

namespace Cert.In

/-- The tile's cotangent as the column block of the coordinates chooses it: first two pieces side by side, last the
    fourth piece, between them the third. -/
theorem dp_block (g : grid0.Coords) (q : Vec Ideal S512x512 .f32) (kv : Vec Ideal S512x256 .f32) (z v : Vec Ideal S512x768 .f32) (i : Fin 512) (k : Fin 768) :
    k0_pay14 g q kv z v (ix2 i k) = if (g 0).val = 0 then (if h : k.val < 512 then q (ix2 i ⟨k.val, h⟩) else kv (ix2 i ⟨k.val - 512, by omega⟩))
      else if (g 0).val = 3 then z (ix2 i k) else v (ix2 i k) := by
  have h4 : (g 0).val < 4 := (g 0).isLt
  unfold k0_pay14
  generalize hg : (g 0).val = n at h4 ⊢
  match n, h4 with
  | 0, _ => rw [if_pos rfl]; pointwise
  | 1, _ => rw [if_neg (by omega), if_neg (by omega)]; pointwise; rfl
  | 2, _ => rw [if_neg (by omega), if_neg (by omega)]; pointwise; rfl
  | 3, _ => rw [if_neg (by omega), if_pos rfl]; pointwise; rfl

/-- The normalised row, scaled. -/
theorem xn_block (x : Vec Ideal S512x1024 .f32) (nw : Vec Ideal S1x1024 .f32) (i : Fin 512) (k : Fin 1024) :
    k0_pay9 x nw (ix2 i k) = x (ix2 i k) * Rms.rstd (fun k => x (ix2 i k)) * nw (ix2 0 k) := by
  pointwise [k0_pay9, Rms.rstd, Rms.msq]

/-- A column block's part of the normalised rows' gradient is added. -/
theorem mm_block (d : Vec Ideal S512x768 .bf16) (g : Vec Ideal S512x1024 .f32) (w : Vec Ideal S1024x768 .bf16) (i : Fin 512) (k : Fin 1024) :
    k0_pay3 d g w (ix2 i k) = g (ix2 i k) + ∑ q : Fin 768, d (ix2 i q) * w (ix2 k q) := by
  pointwise [k0_pay3]

/-- Storing the cotangent in half precision keeps its entries. -/
theorem dpb_block (g : grid0.Coords) (q : Vec Ideal S512x512 .f32) (kv : Vec Ideal S512x256 .f32) (z v : Vec Ideal S512x768 .f32) (j : S512x768.Idx) :
    k0_pay15 g q kv z v j = k0_pay14 g q kv z v j := rfl

/-- A tile's part of the weight gradient is added. -/
theorem acc_block (g : grid0.Coords) (p : Vec Ideal S512x512 .f32) (kv : Vec Ideal S512x256 .f32) (z v : Vec Ideal S512x768 .f32) (a : Vec Ideal S1024x768 .f32)
    (xn : Vec Ideal S512x1024 .bf16) (k : Fin 1024) (q : Fin 768) :
    k0_pay1 (k0_pay16 g p kv z v a xn) (ix2 k q) = a (ix2 k q) + ∑ i : Fin 512, xn (ix2 i k) * k0_pay14 g p kv z v (ix2 i q) := by
  unfold k0_pay16 k0_pay15
  generalize k0_pay14 g p kv z v = d
  pointwise [k0_pay1]

/-- A tile's part of the bias gradient is added. -/
theorem db_block (d : Vec Ideal S512x768 .f32) (b : Vec Ideal S1x768 .f32) (q : Fin 768) :
    k0_pay2 d b (ix2 0 q) = b (ix2 0 q) + ∑ i : Fin 512, d (ix2 i q) := by
  pointwise [k0_pay2]

/-- A tile's part of the norm weight's gradient is added. -/
theorem dn_block (x g : Vec Ideal S512x1024 .f32) (b : Vec Ideal S1x1024 .f32) (k : Fin 1024) :
    k0_pay8 x g b (ix2 0 k) = b (ix2 0 k) + ∑ i : Fin 512, g (ix2 i k) * (x (ix2 i k) * Rms.rstd (fun k => x (ix2 i k))) := by
  pointwise [k0_pay8, k0_pay6, k0_pay5, Rms.rstd, Rms.msq]

/-- The input's gradient. -/
theorem dx_block (x g r : Vec Ideal S512x1024 .f32) (nw : Vec Ideal S1x1024 .f32) (i : Fin 512) (k : Fin 1024) :
    k0_pay7 x nw g r (ix2 i k) = r (ix2 i k) + Rms.gradK (fun k => x (ix2 i k)) (fun k => g (ix2 i k) * nw (ix2 0 k)) k := by
  pointwise [k0_pay7, k0_pay6, k0_pay5, Rms.gradK, Rms.rstd, Rms.msq]

theorem cast_block (a : Vec Ideal S1024x768 .f32) : k0_pay4 (F := Ideal) a = a := by
  funext j
  pointwise [k0_pay4]

theorem zero10 (j : S512x1024.Idx) : k0_pay10 (F := Ideal) j = 0 := by pointwise [k0_pay10]
theorem zero11 (j : S1x1024.Idx) : k0_pay11 (F := Ideal) j = 0 := by pointwise [k0_pay11]
theorem zero12 (j : S1024x768.Idx) : k0_pay12 (F := Ideal) j = 0 := by pointwise [k0_pay12]
theorem zero13 (j : S1x768.Idx) : k0_pay13 (F := Ideal) j = 0 := by pointwise [k0_pay13]

end Cert.In
end
-- ==== Proof.In.Body.lean ====
module

public import proofs.«01_k».proof.Proof.Math.Bands
public import proofs.«01_k».proof.Proof.Gen.KernelInIdeal.Frame
public import proofs.«01_k».proof.Proof.Gen.KernelInIdeal.Skeleton

@[expose] public section

set_option maxRecDepth 16384

/-!
# One grid point of the combined projection's gradient

The grid runs over the four column blocks of the projection (outer) and the row tiles (inner).  The columns' cotangent
comes from four arrays: the first block's from two beside each other, the last one's from another, the middle ones' from
a third.  Three scratch buffers are carried: the normalised rows, the gradient of the normalised rows, and the weight
gradient of the current column block.  `Cert.In.run` says what one point leaves, over what its buffers held.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelInIdeal Cert.KernelInIdeal.Gen Cert.Bands

namespace Cert.In

variable {F : FTy → Type} [FloatOps F]

local notation "𝕄" => MT nD τ sig Unit (Elt F) ℕ (UR sig nD τ) ℕ

/-- The blocks a point reads. -/
structure Reads (F : FTy → Type) where
  x : Vec F S512x1024 .f32
  dres : Vec F S512x1024 .f32
  dq : Vec F S512x512 .f32
  dkv : Vec F S512x256 .f32
  dqkv : Vec F S512x768 .f32
  dz : Vec F S512x768 .f32
  nw : Vec F S1x1024 .f32
  w : Vec F S1024x768 .bf16

/-- The first row of the tile at a point. -/
def row (i : grid0.Coords) : ℕ := 512 * (i 1).val

theorem row_le (i : grid0.Coords) : row i + 512 ≤ 2048 := by
  have h : (i 1).val < 4 := (i 1).isLt
  unfold row; omega

/-- The tile's rows of a scratch buffer. -/
def tile {e : EltTy} (i : grid0.Coords) (X : Vec F S2048x1024 e) : Vec F S512x1024 e := band (row i) (row_le i) X

variable (i : grid0.Coords) (r : Reads F)

/-- The cotangent of the column block, -/
def dp : Vec F S512x768 .f32 := k0_pay14 i r.dq r.dkv r.dz r.dqkv

/-- and rounded. -/
def dpb : Vec F S512x768 .bf16 := k0_pay15 i r.dq r.dkv r.dz r.dqkv

/-- The normalised rows after the point: stored while the first column block runs. -/
def xnNew (x14 : Vec F S2048x1024 .bf16) : Vec F S2048x1024 .bf16 :=
  if k0_cond1 i = 1#1 then put (row i) x14 (k0_pay9 r.x r.nw) else x14

/-- The gradient of the normalised rows before this point's product: zero on the tile in the first column block, -/
def dxMid (x15 : Vec F S2048x1024 .f32) : Vec F S2048x1024 .f32 :=
  if k0_cond1 i = 1#1 then put (row i) x15 (k0_pay10 (F := F)) else x15

/-- and after it. -/
def dxNew (x15 : Vec F S2048x1024 .f32) : Vec F S2048x1024 .f32 :=
  put (row i) (dxMid i x15) (k0_pay3 (dpb i r) (tile i (dxMid i x15)) r.w)

/-- The column block's weight gradient with this tile's product added. -/
def addW (a : Vec F S1024x768 .f32) (xn : Vec F S512x1024 .bf16) : Vec F S1024x768 .f32 :=
  k0_pay1 (k0_pay16 i r.dq r.dkv r.dz r.dqkv a xn)

/-- The weight gradient of the column block: restarted at its first tile. -/
def accNew (x14 : Vec F S2048x1024 .bf16) (x16 : Vec F S1024x768 .f32) : Vec F S1024x768 .f32 :=
  addW i r (if (i 1).val = 0 then k0_pay12 (F := F) else x16) (tile i (xnNew i r x14))

/-- The bias gradient of the column block: restarted at its first tile. -/
def dbNew (x12 : Vec F S1x768 .f32) : Vec F S1x768 .f32 := k0_pay2 (dp i r) (if (i 1).val = 0 then k0_pay13 (F := F) else x12)

/-- The weight gradient's window: stored at the column block's last tile. -/
def dwOut (x11 : Vec F S1024x768 .bf16) (x14 : Vec F S2048x1024 .bf16) (x16 : Vec F S1024x768 .f32) : Vec F S1024x768 .bf16 :=
  if k0_cond4 i = 1#1 then k0_pay4 (accNew i r x14 x16) else x11

/-- The input gradient's window: stored in the last column block. -/
def dxOut (x10 : Vec F S512x1024 .f32) (x15 : Vec F S2048x1024 .f32) : Vec F S512x1024 .f32 :=
  if k0_cond5 i = 1#1 then k0_pay7 r.x r.nw (tile i (dxNew i r x15)) r.dres else x10

/-- The norm weight's gradient: zeroed at the first point, -/
def dnMid (x13 : Vec F S1x1024 .f32) : Vec F S1x1024 .f32 := if k0_cond2 i = 1#1 then k0_pay11 (F := F) else x13

/-- added to in the last column block. -/
def dnNew (x13 : Vec F S1x1024 .f32) (x15 : Vec F S2048x1024 .f32) : Vec F S1x1024 .f32 :=
  if k0_cond5 i = 1#1 then k0_pay8 r.x (tile i (dxNew i r x15)) (dnMid i x13) else dnMid i x13

/-- The body's test for the first tile of a column block. -/
abbrev First (i : grid0.Coords) : Prop := Scalar.cmpi .ne (Scalar.extui (Scalar.cmpi .eq (BitVec.ofNat 32 (i 1).val) 0#32)) 0#32 = 1#1

/-- The tile is the column block's first, at which `z` holds, or one in the middle, or its last. -/
abbrev TileCases (i : grid0.Coords) (z : Prop) : Prop :=
  (z ∧ First i ∧ (i 1).val = 0 ∧ ¬k0_cond4 i = 1#1) ∨ (¬k0_cond2 i = 1#1 ∧ ¬First i ∧ ¬(i 1).val = 0 ∧ ¬k0_cond4 i = 1#1)
    ∨ (¬k0_cond2 i = 1#1 ∧ ¬First i ∧ ¬(i 1).val = 0 ∧ k0_cond4 i = 1#1)

/-- Which of the body's conditions hold together: the first column block, a middle one, the last. -/
def Cases (i : grid0.Coords) : Prop :=
  (k0_cond1 i = 1#1 ∧ ¬k0_cond5 i = 1#1 ∧ TileCases i (k0_cond2 i = 1#1))
    ∨ (¬k0_cond1 i = 1#1 ∧ ¬k0_cond5 i = 1#1 ∧ TileCases i (¬k0_cond2 i = 1#1))
    ∨ (¬k0_cond1 i = 1#1 ∧ k0_cond5 i = 1#1 ∧ TileCases i (¬k0_cond2 i = 1#1))

theorem cases : ∀ i : grid0.Coords, Cases i := by unfold Cases; decide +kernel

theorem off1 : k0_off1 i = ![row i, 0] := k0_off1_eq i
theorem off2 : k0_off2 i = ![row i, 0] := k0_off2_eq i
theorem off3 : k0_off3 i = ![row i, 0] := k0_off3_eq i

theorem off21 : k0_off2 i = k0_off1 i := rfl
theorem off32 : k0_off3 i = k0_off2 i := rfl

set_option maxHeartbeats 8000000 in
/-- One run of the body: from any contents of its buffers, each is left at the function of its coordinates and contents
    defined above. -/
theorem run (c : Dev nD) (i : grid0.Coords)
    (arg2 : Memref sig .tc .vmem S512x1024 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x256 .f32) (harg5 : arg5.IsWhole) (arg6 : Memref sig .tc .vmem S512x768 .f32) (harg6 : arg6.IsWhole) (arg7 : Memref sig .tc .vmem S512x768 .f32) (harg7 : arg7.IsWhole) (arg8 : Memref sig .tc .vmem S1x1024 .f32) (harg8 : arg8.IsWhole) (arg9 : Memref sig .tc .vmem S1024x768 .bf16) (harg9 : arg9.IsWhole) (arg10 : Memref sig .tc .vmem S512x1024 .f32) (harg10 : arg10.IsWhole) (arg11 : Memref sig .tc .vmem S1024x768 .bf16) (harg11 : arg11.IsWhole) (arg12 : Memref sig .tc .vmem S1x768 .f32) (harg12 : arg12.IsWhole) (arg13 : Memref sig .tc .vmem S1x1024 .f32) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S1024x768 .f32) (harg16 : arg16.IsWhole)
    (r : Reads F) (x10 : Vec F S512x1024 .f32) (x11 : Vec F S1024x768 .bf16) (x12 : Vec F S1x768 .f32) (x13 : Vec F S1x1024 .f32) (x14 : Vec F S2048x1024 .bf16) (x15 : Vec F S2048x1024 .f32) (x16 : Vec F S1024x768 .f32)
    (E : Set ℕ) (K : PUnit → sProp 𝕄) :
    iprop(owns (c : Thread nD τ) arg2 fullShare (r.x)
          ∗ owns (c : Thread nD τ) arg3 fullShare (r.dres)
          ∗ owns (c : Thread nD τ) arg4 fullShare (r.dq)
          ∗ owns (c : Thread nD τ) arg5 fullShare (r.dkv)
          ∗ owns (c : Thread nD τ) arg6 fullShare (r.dqkv)
          ∗ owns (c : Thread nD τ) arg7 fullShare (r.dz)
          ∗ owns (c : Thread nD τ) arg8 fullShare (r.nw)
          ∗ owns (c : Thread nD τ) arg9 fullShare (r.w)
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg16 fullShare x16
          ∗ (iprop(owns (c : Thread nD τ) arg2 fullShare (r.x)
          ∗ owns (c : Thread nD τ) arg3 fullShare (r.dres)
          ∗ owns (c : Thread nD τ) arg4 fullShare (r.dq)
          ∗ owns (c : Thread nD τ) arg5 fullShare (r.dkv)
          ∗ owns (c : Thread nD τ) arg6 fullShare (r.dqkv)
          ∗ owns (c : Thread nD τ) arg7 fullShare (r.dz)
          ∗ owns (c : Thread nD τ) arg8 fullShare (r.nw)
          ∗ owns (c : Thread nD τ) arg9 fullShare (r.w)
          ∗ owns (c : Thread nD τ) arg10 fullShare (dxOut i r x10 x15)
          ∗ owns (c : Thread nD τ) arg11 fullShare (dwOut i r x11 x14 x16)
          ∗ owns (c : Thread nD τ) arg12 fullShare (dbNew i r x12)
          ∗ owns (c : Thread nD τ) arg13 fullShare (dnNew i r x13 x15)
          ∗ owns (c : Thread nD τ) arg14 fullShare (xnNew i r x14)
          ∗ owns (c : Thread nD τ) arg15 fullShare (dxNew i r x15)
          ∗ owns (c : Thread nD τ) arg16 fullShare (accNew i r x14 x16)) -∗ K ⟨⟩))
      ⊢ wp frame (wpE (defs₀ (F := F)) Variants.none c none) E (cc0_rmslin_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    obtain ⟨h1, h5, ⟨h2, h3, h3', h4⟩ | ⟨h2, h3, h3', h4⟩ | ⟨h2, h3, h3', h4⟩⟩ | ⟨h1, h5, ⟨h2, h3, h3', h4⟩ | ⟨h2, h3, h3', h4⟩ | ⟨h2, h3, h3', h4⟩⟩ | ⟨h1, h5, ⟨h2, h3, h3', h4⟩ | ⟨h2, h3, h3', h4⟩ | ⟨h2, h3, h3', h4⟩⟩ := cases i
    all_goals
      simp only [cc0_rmslin_bwd_eq_skeleton]; unfold cc0_rmslin_bwd_skel
      simp only [k0_part1_eq_skeleton]
      unfold owns
      iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
      obtain rfl := harg2.eq_unread e2; obtain rfl := harg3.eq_unread e3; obtain rfl := harg4.eq_unread e4; obtain rfl := harg5.eq_unread e5; obtain rfl := harg6.eq_unread e6; obtain rfl := harg7.eq_unread e7
      obtain rfl := harg8.eq_unread e8; obtain rfl := harg9.eq_unread e9; obtain rfl := harg10.eq_unread e10; obtain rfl := harg11.eq_unread e11; obtain rfl := harg12.eq_unread e12; obtain rfl := harg13.eq_unread e13
      obtain rfl := harg14.eq_unread e14; obtain rfl := harg15.eq_unread e15; obtain rfl := harg16.eq_unread e16
      sl_exec (disch := first | sl_exact h1 | sl_exact h2 | sl_exact h3 | sl_exact h4 | sl_exact h5)
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H11]
      · iexists _; isplitr; swap; · iexact H11
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H12]
      · iexists _; isplitr; swap; · iexact H12
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H13]
      · iexists _; isplitr; swap; · iexact H13
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H14]
      · iexists _; isplitr; swap; · iexact H14
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      isplitl [H15]
      · iexists _; isplitr; swap; · iexact H15
        ipureintro; sl_unfold_run_names
        simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]
      iexists _; isplitr; swap; · iexact H16
      ipureintro; sl_unfold_run_names
      simp only [dxOut, dwOut, dbNew, dnNew, dnMid, xnNew, dxNew, dxMid, accNew, addW, dp, dpb, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put]

end Cert.In
end
-- ==== Proof.Math.Tiles.lean ====
module

public import proofs.«01_k».proof.Proof.Math.Bands

@[expose] public section

/-!
# A grid of column blocks of `nt` tiles each

Point `n` works on tile `n % nt` in column block `n / nt`.  A buffer of rows holds one band of `tm` rows per tile; what
is known of it before a point are the bands that the last `nt` points left.  Three accumulations over the points: per
tile over the column blocks (`colAcc`), per column block over the tiles (`rowAcc`), over the last column block alone
(`tailAcc`).
-/

noncomputable section

open Idealize Idealize.ShloMosaic Cert.Bands

namespace Cert.Tiles

variable {α : Type} {nt tm n k : ℕ}

/-- Before point `t` the bands of the last `nt` points hold what `T` says. -/
def Known (hn : ∀ p, tm * (p % nt) + tm ≤ n) (t : ℕ) (X : (⟨2, ![n, k]⟩ : Shape).Idx → α) (T : ℕ → (⟨2, ![tm, k]⟩ : Shape).Idx → α) : Prop :=
  ∀ p, p < t → t ≤ p + nt → band (tm * (p % nt)) (hn p) X = T p

variable {hn : ∀ p, tm * (p % nt) + tm ≤ n} {t : ℕ} {X : (⟨2, ![n, k]⟩ : Shape).Idx → α} {T : ℕ → (⟨2, ![tm, k]⟩ : Shape).Idx → α}

theorem known_zero : Known hn 0 X T := fun _ h => absurd h (Nat.not_lt_zero _)

/-- The point's band is stored. -/
theorem known_put (h : Known hn t X T) {o : ℕ} (ho : o = tm * (t % nt)) {v : (⟨2, ![tm, k]⟩ : Shape).Idx → α} (hv : v = T t) :
    Known hn (t + 1) (put o X v) T := by
  subst ho
  intro p hp hnt
  by_cases hpt : p = t
  · subst hpt
    rw [band_put, hv]
  · rw [← h p (by omega) (by omega)]
    refine band_put_of_ne _ _ _ _ _ ?_
    have hne : p % nt ≠ t % nt := fun e => by
      have h1 : (t - p) % nt = 0 := Nat.sub_mod_eq_zero_of_mod_eq e.symm
      have h2 := Nat.eq_zero_of_dvd_of_lt (Nat.dvd_of_mod_eq_zero h1) (by omega)
      omega
    rcases Nat.lt_or_gt_of_ne hne with h' | h'
    · left; exact (Nat.mul_succ _ _).symm.le.trans (Nat.mul_le_mul_left _ h')
    · right; exact (Nat.mul_succ _ _).symm.le.trans (Nat.mul_le_mul_left _ h')

/-- A band stored twice. -/
theorem put_put (o : ℕ) (X : (⟨2, ![n, k]⟩ : Shape).Idx → α) (v w : (⟨2, ![tm, k]⟩ : Shape).Idx → α) : put o (put o X v) w = put o X w := by
  funext y
  unfold put
  by_cases h : o ≤ (y 0).val ∧ (y 0).val < o + tm
  · rw [dif_pos h, dif_pos h]
  · rw [dif_neg h, dif_neg h, dif_neg h]

/-- The band of the point's tile, left `nt` points before. -/
theorem known_load (h : Known hn t X T) (h0 : 0 < nt) (ht : nt ≤ t) : band (tm * (t % nt)) (hn t) X = T (t - nt) := by
  rw [← h (t - nt) (by omega) (by omega)]
  congr 2
  exact (Nat.mod_eq_sub_mod ht)

/-- The point stores nothing in the buffer and its tile's band is still right. -/
theorem known_keep (h : Known hn t X T) (h0 : 0 < nt) (ht : nt ≤ t) (hT : T t = T (t - nt)) : Known hn (t + 1) X T := by
  intro p hp hnt
  by_cases hpt : p = t
  · subst hpt
    rw [known_load h h0 ht, hT]
  · exact h p (by omega) (by omega)

/-- An accumulation per tile over the column blocks. -/
def colAcc {β : Type} (nt : ℕ) (z : β) (add : ℕ → β → β) (p : ℕ) : β :=
  if _h : nt = 0 ∨ p < nt then add p z else add p (colAcc nt z add (p - nt))
termination_by p
decreasing_by omega

section acc
variable {β : Type} {z : β} {add : ℕ → β → β}

theorem colAcc_low {p : ℕ} (h : p < nt) : colAcc nt z add p = add p z := by rw [colAcc, dif_pos (Or.inr h)]
theorem colAcc_high {p : ℕ} (h0 : 0 < nt) (h : nt ≤ p) : colAcc nt z add p = add p (colAcc nt z add (p - nt)) := by
  rw [colAcc, dif_neg (by omega)]

/-- An accumulation per column block over its tiles. -/
def rowAcc (nt : ℕ) (z : β) (add : ℕ → β → β) : ℕ → β
  | 0 => add 0 z
  | p + 1 => add (p + 1) (if (p + 1) % nt = 0 then z else rowAcc nt z add p)

theorem rowAcc_eq (p : ℕ) : rowAcc nt z add p = add p (if p % nt = 0 then z else rowAcc nt z add (p - 1)) := by
  cases p
  · rw [Nat.zero_mod, if_pos rfl]; rfl
  · rfl

/-- After point `n` of a column block's middle the point before left its accumulation so far. -/
theorem rowAcc_step {p : ℕ} {a : β} (h : p % nt ≠ 0 → a = rowAcc nt z add (p - 1)) : add p (if p % nt = 0 then z else a) = rowAcc nt z add p := by
  rw [rowAcc_eq]
  by_cases h0 : p % nt = 0
  · rw [if_pos h0, if_pos h0]
  · rw [if_neg h0, if_neg h0, h h0]

/-- An accumulation over the points from `L` on. -/
def tailAcc (L : ℕ) (z : β) (add : ℕ → β → β) : ℕ → β
  | 0 => z
  | p + 1 => if p + 1 < L then tailAcc L z add p else add (p + 1) (tailAcc L z add p)

theorem tailAcc_low {L p : ℕ} (h : p < L) : tailAcc L z add p = z := by
  induction p with
  | zero => rfl
  | succ p ih => exact (if_pos h).trans (ih (by omega))

theorem tailAcc_high {L p : ℕ} (h0 : 0 < L) (h : L ≤ p) : tailAcc L z add p = add p (tailAcc L z add (p - 1)) := by
  obtain ⟨l, rfl⟩ : ∃ l, p = l + 1 := ⟨p - 1, by omega⟩
  exact if_neg (by omega)

end acc

/-! ## The accumulations of sums -/

section sums
variable {J : Type} {z : J → EReal} {add : ℕ → (J → EReal) → J → EReal} (f : ℕ → EReal) (y : J)

/-- After column block `c` a tile's accumulation is the sum over the blocks so far. -/
theorem colAcc_sum (h0 : 0 < nt) (hz : z y = 0) (ha : ∀ p a, add p a y = a y + f p) (c i : ℕ) (hi : i < nt) :
    colAcc nt z add (nt * c + i) y = ∑ s : Fin (c + 1), f (nt * s.val + i) := by
  induction c with
  | zero =>
    rw [colAcc_low (by omega), ha, hz, zero_add]
    exact (Fin.sum_univ_one (fun s : Fin 1 => f (nt * s.val + i))).symm
  | succ c ih =>
    have e : nt * (c + 1) + i - nt = nt * c + i := by rw [Nat.mul_succ]; omega
    rw [colAcc_high h0 (by rw [Nat.mul_succ]; omega), ha, e, ih, Fin.sum_univ_castSucc (n := c + 1)]
    rfl

/-- After tile `i` of a column block its accumulation is the sum over the tiles so far. -/
theorem rowAcc_sum (h0 : 0 < nt) (hz : z y = 0) (ha : ∀ p a, add p a y = a y + f p) (c i : ℕ) (hi : i < nt) :
    rowAcc nt z add (nt * c + i) y = ∑ s : Fin (i + 1), f (nt * c + s.val) := by
  induction i with
  | zero =>
    rw [rowAcc_eq, if_pos (by simp), ha, hz, zero_add]
    exact (Fin.sum_univ_one (fun s : Fin 1 => f (nt * c + s.val))).symm
  | succ i ih =>
    rw [rowAcc_eq, if_neg (by rw [Nat.mul_add_mod, Nat.mod_eq_of_lt hi]; omega), ha, show nt * c + (i + 1) - 1 = nt * c + i by omega,
      ih (by omega), Fin.sum_univ_castSucc (n := i + 1)]
    rfl

/-- After point `L + i` the accumulation is the sum over the points from `L` on. -/
theorem tailAcc_sum {L : ℕ} (h0 : 0 < L) (hz : z y = 0) (ha : ∀ p a, add p a y = a y + f p) (i : ℕ) :
    tailAcc L z add (L + i) y = ∑ s : Fin (i + 1), f (L + s.val) := by
  induction i with
  | zero =>
    rw [Nat.add_zero, tailAcc_high h0 le_rfl, ha, tailAcc_low (by omega), hz, zero_add]
    exact (Fin.sum_univ_one (fun s : Fin 1 => f (L + s.val))).symm
  | succ i ih =>
    rw [tailAcc_high h0 (by omega), ha, show L + (i + 1) - 1 = L + i by omega, ih,
      Fin.sum_univ_castSucc (n := i + 1)]
    rfl

end sums

end Cert.Tiles
end
-- ==== Proof.In.Chain.lean ====
module

public import proofs.«01_k».proof.Proof.In.Body
public import proofs.«01_k».proof.Proof.Math.Tiles

@[expose] public section

set_option maxRecDepth 16384

/-!
# The points in their order

What the scratch buffers and the output windows hold after each grid point, over the blocks the points read: the
normalised rows of a tile (`XN`), the gradient of a tile's normalised rows over the column blocks so far (`DX`), the
weight and bias gradients of the current column block over its tiles so far (`ACC`, `DB`), and the norm weight's
gradient (`DN`).
-/

noncomputable section

open Idealize.ShloMosaic
open Cert.KernelInIdeal Cert.KernelInIdeal.Gen Cert.Bands Cert.Tiles

namespace Cert.In

variable {F : FTy → Type} [FloatOps F]

theorem tileCoord : ∀ t : Fin grid0.N, (grid0.coords t 1).val = t.val % 4 := by decide +kernel
theorem cond1_iff : ∀ t : Fin grid0.N, k0_cond1 (grid0.coords t) = 1#1 ↔ t.val < 4 := by decide +kernel
theorem cond2_iff : ∀ t : Fin grid0.N, k0_cond2 (grid0.coords t) = 1#1 ↔ t.val = 0 := by decide +kernel
theorem cond4_iff : ∀ t : Fin grid0.N, k0_cond4 (grid0.coords t) = 1#1 ↔ t.val % 4 = 3 := by decide +kernel
theorem cond5_iff : ∀ t : Fin grid0.N, k0_cond5 (grid0.coords t) = 1#1 ↔ 12 ≤ t.val := by decide +kernel
theorem row_eq (t : Fin grid0.N) : row (grid0.coords t) = 512 * (t.val % 4) := by unfold row; rw [tileCoord]

theorem rows_le (n : ℕ) : 512 * (n % 4) + 512 ≤ 2048 := by omega

/-- A number as a grid point. -/
def pt (n : ℕ) : Fin grid0.N := ⟨n % 16, lt_of_lt_of_eq (Nat.mod_lt _ (by norm_num)) N_0.symm⟩

theorem pt_val (t : Fin grid0.N) : pt t.val = t := Fin.ext (Nat.mod_eq_of_lt (lt_of_lt_of_eq t.isLt N_0))

/-! ## The contents -/

variable (B : ℕ → Reads F)

/-- The normalised rows of point `n`'s tile: stored by the first column block's point. -/
def XN (n : ℕ) : Vec F S512x1024 .bf16 := k0_pay9 (B (n % 4)).x (B (n % 4)).nw

/-- The gradient of the tile's normalised rows after point `n`. -/
def DX : ℕ → Vec F S512x1024 .f32 := colAcc 4 (k0_pay10 (F := F)) fun n a => k0_pay3 (dpb (grid0.coords (pt n)) (B n)) a (B n).w

/-- The column block's weight gradient after point `n`. -/
def ACC : ℕ → Vec F S1024x768 .f32 := rowAcc 4 (k0_pay12 (F := F)) fun n a => addW (grid0.coords (pt n)) (B n) a (XN B n)

/-- The column block's bias gradient after point `n`. -/
def DB : ℕ → Vec F S1x768 .f32 := rowAcc 4 (k0_pay13 (F := F)) fun n a => k0_pay2 (dp (grid0.coords (pt n)) (B n)) a

/-- The norm weight's gradient after point `n`. -/
def DN : ℕ → Vec F S1x1024 .f32 := tailAcc 12 (k0_pay11 (F := F)) fun n a => k0_pay8 (B n).x (DX B n) a

/-- The input gradient's block at point `n` of the last column block. -/
def DXOUT (n : ℕ) : Vec F S512x1024 .f32 := k0_pay7 (B n).x (B n).nw (DX B n) (B n).dres

/-! ## What is known of the scratch buffers before a point -/

/-- Before point `n`: the last four points' bands of the two row buffers, and in the middle of a column block its weight
    gradient so far. -/
structure Good (n : ℕ) (f0 : Vec F S2048x1024 .bf16) (f1 : Vec F S2048x1024 .f32) (f2 : Vec F S1024x768 .f32) : Prop where
  xn : Known rows_le n f0 (XN B)
  dx : Known rows_le n f1 (DX B)
  acc : n % 4 ≠ 0 → f2 = ACC B (n - 1)

variable {B} {t : Fin grid0.N} {f0 : Vec F S2048x1024 .bf16} {f1 : Vec F S2048x1024 .f32} {f2 : Vec F S1024x768 .f32}

theorem good_zero : Good B 0 f0 f1 f2 := ⟨known_zero, known_zero, fun h => absurd rfl h⟩

/-- A tile of a buffer, by the tile's number. -/
theorem tile_eq {e : EltTy} (t : Fin grid0.N) (X : Vec F S2048x1024 e) : tile (grid0.coords t) X = band (512 * (t.val % 4)) (rows_le t.val) X := by
  unfold tile; congr 1; exact row_eq t

theorem XN_sub {n : ℕ} (h : 4 ≤ n) : XN B n = XN B (n - 4) := by
  unfold XN; rw [show (n - 4) % 4 = n % 4 by omega]

/-- The normalised rows after the point, -/
theorem xn_succ (h : Good B t.val f0 f1 f2) : Known rows_le (t.val + 1) (xnNew (grid0.coords t) (B t.val) f0) (XN B) := by
  unfold xnNew
  by_cases h4 : t.val < 4
  · rw [if_pos ((cond1_iff t).mpr h4)]
    exact known_put h.xn (row_eq t) (by unfold XN; rw [Nat.mod_eq_of_lt h4])
  · rw [if_neg (fun h' => h4 ((cond1_iff t).mp h'))]
    exact known_keep h.xn (by norm_num) (by omega) (XN_sub (by omega))

/-- and the tile of them that it multiplies. -/
theorem xn_tile (h : Good B t.val f0 f1 f2) : tile (grid0.coords t) (xnNew (grid0.coords t) (B t.val) f0) = XN B t.val :=
  (tile_eq t _).trans (xn_succ h t.val (by omega) (by omega))

/-- The gradient of the normalised rows that the point adds to. -/
theorem dx_eq (h : Good B t.val f0 f1 f2) :
    k0_pay3 (dpb (grid0.coords t) (B t.val)) (tile (grid0.coords t) (dxMid (grid0.coords t) f1)) (B t.val).w = DX B t.val := by
  unfold dxMid DX
  by_cases h4 : t.val < 4
  · rw [if_pos ((cond1_iff t).mpr h4), colAcc_low h4, pt_val]
    unfold tile; rw [band_put]
  · rw [if_neg (fun h' => h4 ((cond1_iff t).mp h')), colAcc_high (by norm_num) (by omega), pt_val, tile_eq,
      known_load h.dx (by norm_num) (by omega)]
    rfl

/-- The gradient of the normalised rows after the point, -/
theorem dx_succ (h : Good B t.val f0 f1 f2) : Known rows_le (t.val + 1) (dxNew (grid0.coords t) (B t.val) f1) (DX B) := by
  have e : ∀ v, put (row (grid0.coords t)) (dxMid (grid0.coords t) f1) v = put (row (grid0.coords t)) f1 v := fun v => by
    unfold dxMid; split
    · exact put_put _ _ _ _
    · rfl
  unfold dxNew
  rw [e]
  exact known_put h.dx (row_eq t) (dx_eq h)

/-- and its tile. -/
theorem dx_tile (h : Good B t.val f0 f1 f2) : tile (grid0.coords t) (dxNew (grid0.coords t) (B t.val) f1) = DX B t.val :=
  (tile_eq t _).trans (dx_succ h t.val (by omega) (by omega))

/-- The weight gradient the point leaves. -/
theorem acc_eq (h : Good B t.val f0 f1 f2) : accNew (grid0.coords t) (B t.val) f0 f2 = ACC B t.val := by
  unfold accNew ACC
  rw [xn_tile h, tileCoord, ← rowAcc_step h.acc, pt_val]

/-- A point's stores keep what is known. -/
theorem good_succ (h : Good B t.val f0 f1 f2) :
    Good B (t.val + 1) (xnNew (grid0.coords t) (B t.val) f0) (dxNew (grid0.coords t) (B t.val) f1) (accNew (grid0.coords t) (B t.val) f0 f2) :=
  ⟨xn_succ h, dx_succ h, fun _ => acc_eq h⟩

end Cert.In
end
-- ==== Proof.In.Frame.lean ====
module

public import proofs.«01_k».proof.Proof.In.Chain
public import Idealize.ShloMosaic.Lib.Pipeline.TableIdle

@[expose] public section

set_option maxRecDepth 16384

/-!
# The frame of the combined projection's gradient

The region's proof data over the points' contents (`Chain`), the body's obligation at every point, and the launch.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelInIdeal Cert.KernelInIdeal.Gen Cert.Bands Cert.Tiles

namespace Cert.In

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The blocks the region's arrays hold. -/
def blocks (c : Dev nD) (n : ℕ) : Reads F where
  x := iblk m c 0 (pt n)
  dres := iblk m c 1 (pt n)
  dq := iblk m c 2 (pt n)
  dkv := iblk m c 3 (pt n)
  dqkv := iblk m c 4 (pt n)
  dz := iblk m c 5 (pt n)
  nw := iblk m c 6 (pt n)
  w := iblk m c 7 (pt n)

theorem blocks_x (c : Dev nD) (t : Fin cfg0.N) : (blocks m c t.val).x = iblk m c 0 t := by
  show (fun s : Fin cfg0.N => (iblk m c 0 s : Vec F S512x1024 .f32)) (pt t.val) = _; rw [pt_val]
theorem blocks_dres (c : Dev nD) (t : Fin cfg0.N) : (blocks m c t.val).dres = iblk m c 1 t := by
  show (fun s : Fin cfg0.N => (iblk m c 1 s : Vec F S512x1024 .f32)) (pt t.val) = _; rw [pt_val]
theorem blocks_dq (c : Dev nD) (t : Fin cfg0.N) : (blocks m c t.val).dq = iblk m c 2 t := by
  show (fun s : Fin cfg0.N => (iblk m c 2 s : Vec F S512x512 .f32)) (pt t.val) = _; rw [pt_val]
theorem blocks_dkv (c : Dev nD) (t : Fin cfg0.N) : (blocks m c t.val).dkv = iblk m c 3 t := by
  show (fun s : Fin cfg0.N => (iblk m c 3 s : Vec F S512x256 .f32)) (pt t.val) = _; rw [pt_val]
theorem blocks_dqkv (c : Dev nD) (t : Fin cfg0.N) : (blocks m c t.val).dqkv = iblk m c 4 t := by
  show (fun s : Fin cfg0.N => (iblk m c 4 s : Vec F S512x768 .f32)) (pt t.val) = _; rw [pt_val]
theorem blocks_dz (c : Dev nD) (t : Fin cfg0.N) : (blocks m c t.val).dz = iblk m c 5 t := by
  show (fun s : Fin cfg0.N => (iblk m c 5 s : Vec F S512x768 .f32)) (pt t.val) = _; rw [pt_val]
theorem blocks_nw (c : Dev nD) (t : Fin cfg0.N) : (blocks m c t.val).nw = iblk m c 6 t := by
  show (fun s : Fin cfg0.N => (iblk m c 6 s : Vec F S1x1024 .f32)) (pt t.val) = _; rw [pt_val]
theorem blocks_w (c : Dev nD) (t : Fin cfg0.N) : (blocks m c t.val).w = iblk m c 7 t := by
  show (fun s : Fin cfg0.N => (iblk m c 7 s : Vec F S1024x768 .bf16)) (pt t.val) = _; rw [pt_val]

abbrev sc0 : Memref sig .tc .vmem S2048x1024 .bf16 := Memref.whole cc0_scratch0
abbrev sc1 : Memref sig .tc .vmem S2048x1024 .f32 := Memref.whole cc0_scratch1
abbrev sc2 : Memref sig .tc .vmem S1024x768 .f32 := Memref.whole cc0_scratch2

/-- What the launch hands over: the scratch buffers at some contents, and the generator's register. -/
theorem launched (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before point `n`: the scratch buffers at contents of which `Good` is known. -/
def Phi (c : Dev nD) (n : ℕ) : sProp 𝕄 :=
  iprop(∃ f0 f1 f2, ⌜Good (blocks m c) n f0 f1 f2⌝ ∗ owns (c : Thread nD τ) sc0 fullShare f0 ∗ owns (c : Thread nD τ) sc1 fullShare f1 ∗ owns (c : Thread nD τ) sc2 fullShare f2 ∗ (∃ r, prngReg c r))

/-- The proof data: inputs at their blocks, outputs at the points' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DXOUT (blocks m c) t.val
    | ⟨9, _⟩ => k0_pay4 (ACC (blocks m c) t.val)
    | ⟨10, _⟩ => DB (blocks m c) t.val
    | ⟨11, _⟩ => DN (blocks m c) t.val
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DXOUT (blocks m c) t.val := by dsimp only [dats]
theorem after0_9 (c : Dev nD) (t : Fin cfg0.N) : (dats m 0 c).after 9 t = k0_pay4 (ACC (blocks m c) t.val) := by dsimp only [dats]
theorem after0_10 (c : Dev nD) (t : Fin cfg0.N) : (dats m 0 c).after 10 t = DB (blocks m c) t.val := by dsimp only [dats]
theorem after0_11 (c : Dev nD) (t : Fin cfg0.N) : (dats m 0 c).after 11 t = DN (blocks m c) t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- In the middle of a column block the bias gradient's window holds what the point before left. -/
theorem before0_10 (c : Dev nD) (t : Fin cfg0.N) (h : t.val % 4 ≠ 0) (d) : (dats m 0 c).before 10 t d = DB (blocks m c) (t.val - 1) := by
  rw [Dat.before_out_kept _ 10 rfl t (by omega) (Bool.eq_false_iff.mpr fun h' => by have := (flush0_10 _).mp h'; dsimp only at this; omega)
    (fun _ => rfl) (fun _ _ => rfl), after0_10]

theorem idle11 : ∀ t : Fin grid0.N, cfg0.idle 11 (grid0.coords t) = true → t.val ≠ 0 ∧ t.val < 12 := by decide +kernel
theorem idle11' : ∀ t : Fin grid0.N, t.val ≠ 0 → t.val < 12 → cfg0.idle 11 (grid0.coords t) = true ∧ (cfg0.win 11).flush t = false := by decide +kernel
theorem live11 : ∀ t : Fin grid0.N, (t.val = 0 ∨ 12 ≤ t.val) → cfg0.idle 11 (grid0.coords t) = false := by decide +kernel

theorem fresh11 : ∀ n, n < 16 → cfg0.fresh 11 n = decide (n = 0)
  | 0, _ => rfl
  | n + 1, h => by
    have hN : n < cfg0.N := lt_of_lt_of_eq (by omega) (show 16 = cfg0.N from N_0.symm)
    rw [Cfg.fresh_succ cfg0 11 n hN, fresh11 n (by omega)]
    have hf : (cfg0.win 11).flush ⟨n, hN⟩ = false := Bool.eq_false_iff.mpr fun h' => by have := (flush0_11 _).mp h'; dsimp only at this; omega
    rw [hf, Bool.false_or]
    by_cases h0 : n = 0
    · have : cfg0.idle 11 (cfg0.grid.coords ⟨n, hN⟩) = false := live11 ⟨n, hN⟩ (Or.inl h0)
      rw [this]; simp
    · simp [h0]

/-- After the first point the norm weight's window holds what the point before left, idle points between. -/
theorem before0_11 (c : Dev nD) (t : Fin cfg0.N) (h : t.val ≠ 0) (d) : (dats m 0 c).before 11 t d = DN (blocks m c) (t.val - 1) := by
  have hN : t.val < 16 := lt_of_lt_of_eq t.isLt (show cfg0.N = 16 from N_0)
  rw [(dats m 0 c).before_out_traj 11 rfl (fun _ _ => rfl) (fun s hs hi _ => by
      rw [after0_11, after0_11]
      exact (tailAcc_low (idle11 s hi).2).trans (tailAcc_low (show s.val - 1 < 12 by have := (idle11 s hi).2; omega)).symm) t.val t rfl d, fresh11 _ hN, if_neg (by simpa using h), after0_11]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t
    ∗ (dats m 0 c).leavesExact 9 t
    ∗ owns (c : Thread nD τ) (st0_10 t) fullShare ((dats m 0 c).after 10 t)
    ∗ (dats m 0 c).leavesExact 11 t)

theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

variable {f0 : Vec F S2048x1024 .bf16} {f1 : Vec F S2048x1024 .f32} {f2 : Vec F S1024x768 .f32} {m}

theorem idle8 : ∀ t : Fin grid0.N, t.val < 12 → cfg0.idle 8 (grid0.coords t) = true ∧ (cfg0.win 8).flush t = false := by decide +kernel
theorem live8 : ∀ t : Fin grid0.N, ¬t.val < 12 → cfg0.idle 8 (grid0.coords t) = false := by decide +kernel

/-- The input gradient's window after the point. -/
theorem leaves8 (c : Dev nD) (t : Fin cfg0.N) (h : Good (blocks m c) t.val f0 f1 f2) (d) :
    owns (c : Thread nD τ) (st0_8 t) fullShare (dxOut (grid0.coords t) (blocks m c t.val) ((dats m 0 c).before 8 t d) f1)
      ⊢ ((dats m 0 c).leavesExact 8 t : sProp 𝕄) := by
  by_cases hL : t.val < 12
  · rw [(dats m 0 c).leavesExact_idle 8 t (idle8 t hL).1 (idle8 t hL).2]
    unfold dxOut; rw [if_neg (fun h' => by have := (cond5_iff t).mp h'; omega)]
    iintro H; iexists _; iexact H
  · rw [leavesExact_live _ 8 t (live8 t hL), after0_8]
    unfold dxOut; rw [if_pos ((cond5_iff t).mpr (by omega)), dx_tile h]
    exact .rfl

theorem idle9 : ∀ t : Fin grid0.N, ¬t.val % 4 = 3 → cfg0.idle 9 (grid0.coords t) = true ∧ (cfg0.win 9).flush t = false := by decide +kernel
theorem live9 : ∀ t : Fin grid0.N, t.val % 4 = 3 → cfg0.idle 9 (grid0.coords t) = false := by decide +kernel

/-- The weight gradient's window after the point. -/
theorem leaves9 (c : Dev nD) (t : Fin cfg0.N) (h : Good (blocks m c) t.val f0 f1 f2) (d) :
    owns (c : Thread nD τ) (st0_9 t) fullShare (dwOut (grid0.coords t) (blocks m c t.val) ((dats m 0 c).before 9 t d) f0 f2)
      ⊢ ((dats m 0 c).leavesExact 9 t : sProp 𝕄) := by
  unfold dwOut
  by_cases hl : t.val % 4 = 3
  · rw [leavesExact_live _ 9 t (live9 t hl), after0_9, if_pos ((cond4_iff t).mpr hl), acc_eq h]
  · rw [(dats m 0 c).leavesExact_idle 9 t (idle9 t hl).1 (idle9 t hl).2, if_neg (fun h' => hl ((cond4_iff t).mp h'))]
    iintro H; iexists _; iexact H

/-- The bias gradient's window after the point. -/
theorem leaves10 (c : Dev nD) (t : Fin cfg0.N) (d) : dbNew (grid0.coords t) (blocks m c t.val) ((dats m 0 c).before 10 t d) = (dats m 0 c).after 10 t := by
  rw [after0_10]
  unfold dbNew DB
  rw [tileCoord, ← rowAcc_step (fun h => before0_10 m c t h d), pt_val]

/-- The norm weight's window after the point. -/
theorem leaves11 (c : Dev nD) (t : Fin cfg0.N) (h : Good (blocks m c) t.val f0 f1 f2) (d) :
    owns (c : Thread nD τ) (st0_11 t) fullShare (dnNew (grid0.coords t) (blocks m c t.val) ((dats m 0 c).before 11 t d) f1) ⊢ ((dats m 0 c).leavesExact 11 t : sProp 𝕄) := by
  unfold dnNew dnMid
  by_cases hL : t.val < 12
  · rw [if_neg (fun h' => by have := (cond5_iff t).mp h'; omega)]
    by_cases h0 : t.val = 0
    · rw [if_pos ((cond2_iff t).mpr h0), leavesExact_live _ 11 t (live11 t (Or.inl h0)), after0_11]
      exact Entails.of_eq (congrArg _ (tailAcc_low hL).symm)
    · rw [if_neg (fun h' => h0 ((cond2_iff t).mp h')), (dats m 0 c).leavesExact_idle 11 t (idle11' t h0 hL).1 (idle11' t h0 hL).2]
      iintro H; iexists _; iexact H
  · rw [if_pos ((cond5_iff t).mpr (by omega)), if_neg (fun h' => hL (by have := (cond2_iff t).mp h'; omega)), dx_tile h,
      leavesExact_live _ 11 t (live11 t (Or.inr (by omega))), after0_11, before0_11 m c t (by omega)]
    exact Entails.of_eq (congrArg _ (tailAcc_high (by norm_num) (by omega)).symm)

variable (m)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, ← blocks_x, ← blocks_dres, ← blocks_dq, ← blocks_dkv, ← blocks_dqkv, ← blocks_dz, ← blocks_nw, ← blocks_w]
  rw [show (dats m 0 c).owesAt () t.succ = (dats m 0 c).owesAt () t.castSucc from rfl, after0_0, after0_1, after0_2, after0_3, after0_4, after0_5, after0_6, after0_7]
  rw [show (dats m 0 c).Φ t.castSucc = Phi m c t.val from rfl, show (dats m 0 c).Φ t.succ = Phi m c (t.val + 1) from rfl]
  simp only [← blocks_x, ← blocks_dres, ← blocks_dq, ← blocks_dkv, ← blocks_dqkv, ← blocks_dz, ← blocks_nw, ← blocks_w]
  unfold Phi
  iintro ⟨⟨%f0, %f1, %f2, %hg, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) _ _ _ _ _ _ _ _ _ _ _ _ _ _ _ _ _ _ _ _ _ _ _ _ _ _ _ _ _ _ (blocks m c t.val) ((dats m 0 c).before 8 t d8) ((dats m 0 c).before 9 t d9) ((dats m 0 c).before 10 t d10) ((dats m 0 c).before 11 t d11) f0 f1 f2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  iintro ⟨H0, H1, H2, H3, H4, H5, H6, H7, H8, H9, H10, H11, S0, S1, S2⟩
  isplitl [S0 S1 S2 Hr]
  · iexists _; iexists _; iexists _
    isplitr
    · ipureintro; exact good_succ hg
    isplitl [S0]; · iexact S0
    isplitl [S1]; · iexact S1
    isplitl [S2]; · iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 c t hg d8); iexact H8
  isplitl [H9]; · iapply (leaves9 c t hg d9); iexact H9
  isplitl [H10]; · rw [← leaves10 c t d10]; iexact H10
  iapply (leaves11 c t hg d11); iexact H11

theorem defs₀_row (t : Fin cfg0.N) : defs₀ (F := F) .tc cfg0.body (cfg0.bodyArgs t (cfg0.slots t)) = bodyAt0 t := by
  unfold defs₀; rw [Defs.onTc_tc]

/-- The obligation of the region's body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched]
  unfold Phi
  iintro ⟨⟨⟨%f0, S0⟩, ⟨%f1, S1⟩, ⟨%f2, S2⟩⟩, Hr⟩
  iexists f0; iexists f1; iexists f2
  isplitr
  · ipureintro; exact good_zero
  isplitl [S0]; · iexact S0
  isplitl [S1]; · iexact S1
  isplitl [S2]; · iexact S2
  iexact Hr

theorem hout (c : Dev nD) : (dats m 0 c).Φ (Fin.last cfg0.N) ⊢ Pipeline.ΦA spec0 c := by
  rw [show (dats m 0 c).Φ (Fin.last cfg0.N) = Phi m c cfg0.N from rfl, launched]
  unfold Phi
  iintro ⟨%f0, %f1, %f2, %hg, S0, S1, S2, Hr⟩
  isplitl [S0 S1 S2]
  · isplitl [S0]; · iexists _; iexact S0
    isplitl [S1]; · iexists _; iexact S1
    iexists _; iexact S2
  iexact Hr

set_option backward.isDefEq.respectTransparency.types false in
/-- The launch: every weakly fair execution ends, the arrays at what the proof data say, the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program ends, its arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.In
end
-- ==== Proof.In.Value.lean ====
module

public import proofs.«01_k».proof.Proof.In.Block
public import proofs.«01_k».proof.Proof.In.Frame

@[expose] public section

set_option maxRecDepth 16384

/-!
# What the four-piece backward kernel leaves in its four result arrays

The projection has 2832 columns; the kernel works on 3072, the last 240 of which are zero in the cotangent and in the
weight.
-/

noncomputable section

open Idealize Idealize.ShloMosaic Idealize.ShloMosaic.Pipeline Idealize.ShloMosaic.TcCoe Idealize.SL
open Cert.KernelInIdeal Cert.KernelInIdeal.Gen Cert.Tiles

namespace Cert.In

variable (X R : Vec Ideal S2048x1024 .f32) (Q : Vec Ideal S2048x512 .f32) (KV : Vec Ideal S2048x256 .f32) (QKV : Vec Ideal S2048x1536 .f32)
  (Z : Vec Ideal S2048x528 .f32) (nw : Vec Ideal S1024 .f32) (W : Vec Ideal S1024x2832 .f32)

/-- The cotangent's four pieces side by side, then zeros. -/
def pM (i : Fin 2048) (q : Fin 3072) : EReal :=
  if h0 : q.val < 512 then Q (ix2 i ⟨q.val, h0⟩) else if h1 : q.val < 768 then KV (ix2 i ⟨q.val - 512, by omega⟩)
  else if h2 : q.val < 2304 then QKV (ix2 i ⟨q.val - 768, by omega⟩) else if h3 : q.val < 2832 then Z (ix2 i ⟨q.val - 2304, by omega⟩) else 0
/-- The weight, then zeros. -/
def wM (k : Fin 1024) (q : Fin 3072) : EReal := if h : q.val < 2832 then W (ix2 k ⟨q.val, h⟩) else 0
/-- A row of the norm's input. -/
abbrev xrow (i : Fin 2048) (k : Fin 1024) : EReal := X (ix2 i k)
/-- The normalised rows, scaled. -/
def xnM (i : Fin 2048) (k : Fin 1024) : EReal := X (ix2 i k) * Rms.rstd (xrow X i) * nw (ix1 k)
/-- The gradient of the normalised rows. -/
def gM (i : Fin 2048) (k : Fin 1024) : EReal := ∑ q : Fin 3072, pM Q KV QKV Z i q * wM W k q
/-- The gradient of the input. -/
def dxM (j : S2048x1024.Idx) : EReal := R j + Rms.gradK (xrow X (j 0)) (fun k => gM Q KV QKV Z W (j 0) k * nw (ix1 k)) (j 1)
/-- The gradient of the projection's weight. -/
def dwM (j : S1024x3072.Idx) : EReal := ∑ i : Fin 2048, xnM X nw i (j 0) * pM Q KV QKV Z i (j 1)
/-- The gradient of the projection's bias. -/
def dbM (j : S1x3072.Idx) : EReal := ∑ i : Fin 2048, pM Q KV QKV Z i (j 1)
/-- The gradient of the norm's weight. -/
def dnM (j : S1x1024.Idx) : EReal := ∑ i : Fin 2048, gM Q KV QKV Z W i (j 1) * (X (ix2 i (j 1)) * Rms.rstd (xrow X i))

variable (m : (ℓ : Loc nD τ sig) → Buf (Elt Ideal) ℓ) (c : Dev nD)

/-- Which block each operand uses at a point. -/
theorem idxIn : ∀ t : Fin cfg0.N, ((t.val < 4 ∨ 12 ≤ t.val) → win0_0.index t = ![t.val % 4, 0]) ∧ (12 ≤ t.val → win0_1.index t = ![t.val % 4, 0])
    ∧ (t.val < 4 → win0_2.index t = ![t.val % 4, 0]) ∧ (t.val < 4 → win0_3.index t = ![t.val % 4, 0])
    ∧ (4 ≤ t.val → t.val < 12 → win0_4.index t = ![t.val % 4, t.val / 4 - 1]) ∧ (12 ≤ t.val → win0_5.index t = ![t.val % 4, 0])
    ∧ win0_6.index t = ![0, 0] ∧ win0_7.index t = ![0, t.val / 4] := (by decide +kernel : ∀ t : Fin grid0.N, _)

/-- Which block each result uses at a point. -/
theorem idxOut : ∀ t : Fin cfg0.N, (12 ≤ t.val → win0_8.index t = ![t.val % 4, 0]) ∧ win0_9.index t = ![0, t.val / 4]
    ∧ win0_10.index t = ![0, t.val / 4] ∧ win0_11.index t = ![0, 0] := (by decide +kernel : ∀ t : Fin grid0.N, _)

theorem blockCoord : ∀ t : Fin grid0.N, (grid0.coords t 0).val = t.val / 4 := by decide +kernel

theorem lt_16 (t : Fin cfg0.N) : t.val < 16 := lt_of_lt_of_eq t.isLt N_0

/-- The row of the whole array that a tile's row is. -/
def grow (n : ℕ) (i : Fin 512) : Fin 2048 := ⟨n % 4 * 512 + i.val, by omega⟩
/-- The column of the whole array that a block's column is. -/
def gcol (n : ℕ) (h : n < 16) (q : Fin 768) : Fin 3072 := ⟨n / 4 * 768 + q.val, by omega⟩

/-- Zeros after the columns of an array of two axes. -/
theorem pad_w (P : Vec Ideal S1024x2832 .bf16) (z : Vec Ideal S_ .bf16) (hz : z = fun _ => (0 : EReal)) (k : Fin 1024) (q : Fin 3072) :
    pad S1024x3072 ![0, 0] ![0, 240] ![0, 0] P z pads_S1024x2832_S1024x3072_000_02400 h_S_ (ix2 k q) = if h : q.val < 2832 then P (ix2 k ⟨q.val, h⟩) else (0 : EReal) := by
  subst hz
  pointwise
theorem pad_z (P : Vec Ideal S2048x528 .f32) (z : Vec Ideal S_ .f32) (hz : z = fun _ => (0 : EReal)) (i : Fin 2048) (q : Fin 768) :
    pad S2048x768 ![0, 0] ![0, 240] ![0, 0] P z pads_S2048x528_S2048x768_000_02400 h_S_ (ix2 i q) = if h : q.val < 528 then P (ix2 i ⟨q.val, h⟩) else (0 : EReal) := by
  subst hz
  pointwise
theorem zero_word (ft : FTy) : sitofp (F := Ideal) ft (constantI S_ 32 0#32) = fun _ => (0 : EReal) := by
  funext j
  show (((0#32 : BitVec 32).toInt : ℝ) : EReal) = 0
  simp

/-- The weight the region finds: the argument, then zeros. -/
theorem V_w (k : Fin 1024) (q : Fin 3072) : V m c main_v1 (ix2 k q) = wM (m ((c : Thread nD τ).loc main_arg7)) k q := by
  have e : V m c main_v1 = pad S1024x3072 ![0, 0] ![0, 240] ![0, 0] (truncf (F := Ideal) .bf16 (m ((c : Thread nD τ).loc main_arg7)) bitsLt_bf16_f32)
      (sitofp (F := Ideal) .bf16 (constantI S_ 32 0#32)) pads_S1024x2832_S1024x3072_000_02400 h_S_ := by
    show StableHlo.after _ _ _ = _
    unfold hostOps0 hostOps0_1 hostOps0_2 hostOps0_3 hostOps0_4
    simp only [List.flatten_cons, List.flatten_nil, List.cons_append, List.nil_append]
    after_results
    rfl
  rw [e, pad_w _ _ (zero_word _)]
  rfl

/-- The last piece of the cotangent the region finds: the argument, then zeros. -/
theorem V_z (i : Fin 2048) (q : Fin 768) : V m c main_v2 (ix2 i q) = if h : q.val < 528 then m ((c : Thread nD τ).loc main_arg5) (ix2 i ⟨q.val, h⟩) else (0 : EReal) := by
  have e : V m c main_v2 = pad S2048x768 ![0, 0] ![0, 240] ![0, 0] (m ((c : Thread nD τ).loc main_arg5))
      (sitofp (F := Ideal) .f32 (constantI S_ 32 0#32)) pads_S2048x528_S2048x768_000_02400 h_S_ := by
    show StableHlo.after _ _ _ = _
    unfold hostOps0 hostOps0_1 hostOps0_2 hostOps0_3 hostOps0_4
    simp only [List.flatten_cons, List.flatten_nil, List.cons_append, List.nil_append]
    after_results
    rfl
  rw [e, pad_z _ _ (zero_word _)]

theorem V_nw (k : Fin 1024) : V m c main_v3 (ix2 0 k) = m ((c : Thread nD τ).loc main_arg6) (ix1 k) := by
  have e : V m c main_v3 = broadcastInDim S1x1024 ![1] bcast_S1024_S1x1024_1 (m ((c : Thread nD τ).loc main_arg6)) := by
    show StableHlo.after _ _ _ = _
    unfold hostOps0 hostOps0_1 hostOps0_2 hostOps0_3 hostOps0_4
    simp only [List.flatten_cons, List.flatten_nil, List.cons_append, List.nil_append]
    after_results
  rw [e]
  pointwise

theorem x_at (n : ℕ) (h : n < 16) (he : n < 4 ∨ 12 ≤ n) (i : Fin 512) (k : Fin 1024) :
    (blocks m c n).x (ix2 i k) = m ((c : Thread nD τ).loc main_arg0) (ix2 (grow n i) k) := by
  obtain ⟨t, rfl⟩ : ∃ t : Fin cfg0.N, t.val = n := ⟨⟨n, lt_of_lt_of_eq h N_0.symm⟩, rfl⟩
  rw [blocks_x]; unfold grow
  blk_point [iblk, V, (idxIn t).1 he]

theorem r_at (n : ℕ) (h : n < 16) (h12 : 12 ≤ n) (i : Fin 512) (k : Fin 1024) :
    (blocks m c n).dres (ix2 i k) = m ((c : Thread nD τ).loc main_arg1) (ix2 (grow n i) k) := by
  obtain ⟨t, rfl⟩ : ∃ t : Fin cfg0.N, t.val = n := ⟨⟨n, lt_of_lt_of_eq h N_0.symm⟩, rfl⟩
  rw [blocks_dres]; unfold grow
  blk_point [iblk, V, (idxIn t).2.1 h12]

theorem q_at (n : ℕ) (h : n < 16) (h4 : n < 4) (i : Fin 512) (q : Fin 512) :
    (blocks m c n).dq (ix2 i q) = m ((c : Thread nD τ).loc main_arg2) (ix2 (grow n i) q) := by
  obtain ⟨t, rfl⟩ : ∃ t : Fin cfg0.N, t.val = n := ⟨⟨n, lt_of_lt_of_eq h N_0.symm⟩, rfl⟩
  rw [blocks_dq]; unfold grow
  blk_point [iblk, V, (idxIn t).2.2.1 h4]

theorem kv_at (n : ℕ) (h : n < 16) (h4 : n < 4) (i : Fin 512) (q : Fin 256) :
    (blocks m c n).dkv (ix2 i q) = m ((c : Thread nD τ).loc main_arg3) (ix2 (grow n i) q) := by
  obtain ⟨t, rfl⟩ : ∃ t : Fin cfg0.N, t.val = n := ⟨⟨n, lt_of_lt_of_eq h N_0.symm⟩, rfl⟩
  rw [blocks_dkv]; unfold grow
  blk_point [iblk, V, (idxIn t).2.2.2.1 h4]

theorem qkv_at (n : ℕ) (h : n < 16) (h4 : 4 ≤ n) (h12 : n < 12) (i : Fin 512) (q : Fin 768) :
    (blocks m c n).dqkv (ix2 i q) = m ((c : Thread nD τ).loc main_arg4) (ix2 (grow n i) ⟨(n / 4 - 1) * 768 + q.val, by omega⟩) := by
  obtain ⟨t, rfl⟩ : ∃ t : Fin cfg0.N, t.val = n := ⟨⟨n, lt_of_lt_of_eq h N_0.symm⟩, rfl⟩
  rw [blocks_dqkv]; unfold grow
  blk_point [iblk, V, (idxIn t).2.2.2.2.1 h4 h12]

theorem z_at (n : ℕ) (h : n < 16) (h12 : 12 ≤ n) (i : Fin 512) (q : Fin 768) :
    (blocks m c n).dz (ix2 i q) = if h : q.val < 528 then m ((c : Thread nD τ).loc main_arg5) (ix2 (grow n i) ⟨q.val, h⟩) else (0 : EReal) := by
  obtain ⟨t, rfl⟩ : ∃ t : Fin cfg0.N, t.val = n := ⟨⟨n, lt_of_lt_of_eq h N_0.symm⟩, rfl⟩
  rw [blocks_dz]; refine Eq.trans ?_ (V_z m c (grow t.val i) q); unfold grow
  blk_point [iblk, (idxIn t).2.2.2.2.2.1 h12]

theorem nw_at (n : ℕ) (h : n < 16) (k : Fin 1024) :
    (blocks m c n).nw (ix2 0 k) = m ((c : Thread nD τ).loc main_arg6) (ix1 k) := by
  obtain ⟨t, rfl⟩ : ∃ t : Fin cfg0.N, t.val = n := ⟨⟨n, lt_of_lt_of_eq h N_0.symm⟩, rfl⟩
  rw [blocks_nw]; refine Eq.trans ?_ (V_nw m c k)
  blk_point [iblk, idxIn t]

theorem w_at (n : ℕ) (h : n < 16) (k : Fin 1024) (q : Fin 768) :
    (blocks m c n).w (ix2 k q) = wM (m ((c : Thread nD τ).loc main_arg7)) k (gcol n h q) := by
  obtain ⟨t, rfl⟩ : ∃ t : Fin cfg0.N, t.val = n := ⟨⟨n, lt_of_lt_of_eq h N_0.symm⟩, rfl⟩
  rw [blocks_w]; refine Eq.trans ?_ (V_w m c k (gcol t.val h q)); unfold gcol
  blk_point [iblk, idxIn t]

/-! ## The contents of scratch buffers and windows, entry by entry -/

/-- The cotangent of the launch, padded. -/
abbrev pA : Fin 2048 → Fin 3072 → EReal :=
  pM (m ((c : Thread nD τ).loc main_arg2)) (m ((c : Thread nD τ).loc main_arg3)) (m ((c : Thread nD τ).loc main_arg4)) (m ((c : Thread nD τ).loc main_arg5))
/-- The gradient of the launch's normalised rows. -/
abbrev gA : Fin 2048 → Fin 1024 → EReal :=
  gM (m ((c : Thread nD τ).loc main_arg2)) (m ((c : Thread nD τ).loc main_arg3)) (m ((c : Thread nD τ).loc main_arg4)) (m ((c : Thread nD τ).loc main_arg5)) (m ((c : Thread nD τ).loc main_arg7))

theorem p_at (n : ℕ) (h : n < 16) (i : Fin 512) (q : Fin 768) :
    dp (grid0.coords (pt n)) (blocks m c n) (ix2 i q) = pA m c (grow n i) (gcol n h q) := by
  have hq := q.isLt
  have hv : (pt n).val = n := Nat.mod_eq_of_lt h
  unfold dp
  rw [dp_block, blockCoord, hv]
  show _ = pM _ _ _ _ _ _
  unfold pM gcol
  by_cases h0 : n / 4 = 0
  · rw [if_pos h0]
    have h4 : n < 4 := by omega
    have ec : n / 4 * 768 + q.val = q.val := by omega
    simp only [ec]
    by_cases hk : q.val < 512
    · rw [dif_pos hk, dif_pos hk, q_at m c n h h4]
    · rw [dif_neg hk, dif_neg hk, dif_pos hq, kv_at m c n h h4]
  · rw [if_neg h0]
    by_cases h3 : n / 4 = 3
    · have h12 : 12 ≤ n := by omega
      rw [if_pos h3, z_at m c n h h12, dif_neg (show ¬ n / 4 * 768 + q.val < 512 by omega), dif_neg (show ¬ n / 4 * 768 + q.val < 768 by omega),
        dif_neg (show ¬ n / 4 * 768 + q.val < 2304 by omega)]
      by_cases hk : q.val < 528
      · rw [dif_pos hk, dif_pos (show n / 4 * 768 + q.val < 2832 by omega)]
        refine congrArg _ (congrArg (ix2 _) (Fin.ext (show q.val = n / 4 * 768 + q.val - 2304 by omega)))
      · rw [dif_neg hk, dif_neg (show ¬ n / 4 * 768 + q.val < 2832 by omega)]
    · rw [if_neg h3, qkv_at m c n h (by omega) (by omega), dif_neg (show ¬ n / 4 * 768 + q.val < 512 by omega),
        dif_neg (show ¬ n / 4 * 768 + q.val < 768 by omega), dif_pos (show n / 4 * 768 + q.val < 2304 by omega)]
      refine congrArg _ (congrArg (ix2 _) (Fin.ext (show (n / 4 - 1) * 768 + q.val = n / 4 * 768 + q.val - 768 by omega)))

theorem xn_at (n : ℕ) (i : Fin 512) (k : Fin 1024) :
    XN (blocks m c) n (ix2 i k) = xnM (m ((c : Thread nD τ).loc main_arg0)) (m ((c : Thread nD τ).loc main_arg6)) (grow n i) k := by
  have hlt : n % 4 < 4 := Nat.mod_lt _ (by norm_num)
  unfold XN
  rw [xn_block]
  simp only [x_at m c (n % 4) (by omega) (Or.inl hlt), nw_at m c (n % 4) (by omega)]
  rw [show grow (n % 4) i = grow n i from Fin.ext (show n % 4 % 4 * 512 + i.val = n % 4 * 512 + i.val by omega)]
  rfl

/-- After the last column block the gradient of the normalised rows is whole. -/
theorem dx_at (t : ℕ) (ht : t < 4) (i : Fin 512) (k : Fin 1024) :
    DX (blocks m c) (4 * 3 + t) (ix2 i k) = gA m c (grow t i) k := by
  refine (colAcc_sum (f := fun n => ∑ q : Fin 768, dpb (grid0.coords (pt n)) (blocks m c n) (ix2 i q) * (blocks m c n).w (ix2 k q)) (ix2 i k)
    (by norm_num) (zero10 _) (fun n a => mm_block _ _ _ _ _) 3 t ht).trans ?_
  show _ = gM _ _ _ _ _ _ _
  unfold gM
  refine Fin.sum_mul_add_congr (S := 4) (n := 768) (F := fun s q => dpb (grid0.coords (pt (4 * s.val + t))) (blocks m c (4 * s.val + t)) (ix2 i q) * (blocks m c (4 * s.val + t)).w (ix2 k q)) fun s q hl => ?_
  have hs := s.isLt
  have hn : 4 * s.val + t < 16 := by omega
  have ep : dpb (grid0.coords (pt (4 * s.val + t))) (blocks m c (4 * s.val + t)) (ix2 i q) = pA m c (grow (4 * s.val + t) i) (gcol (4 * s.val + t) hn q) :=
    p_at m c _ hn i q
  rw [ep, w_at m c _ hn]
  have e1 : grow (4 * s.val + t) i = grow t i := Fin.ext (show (4 * s.val + t) % 4 * 512 + i.val = t % 4 * 512 + i.val by omega)
  have e2 : gcol (4 * s.val + t) hn q = ⟨s.val * 768 + q.val, hl⟩ := Fin.ext (show (4 * s.val + t) / 4 * 768 + q.val = s.val * 768 + q.val by omega)
  rw [e1, e2]

/-- At the last tile of a column block its weight gradient is whole. -/
theorem acc_at (b : ℕ) (hb : b < 4) (k : Fin 1024) (q : Fin 768) :
    ACC (blocks m c) (4 * b + 3) (ix2 k q) = ∑ i : Fin 2048, xnM (m ((c : Thread nD τ).loc main_arg0)) (m ((c : Thread nD τ).loc main_arg6)) i k
      * pA m c i (gcol (4 * b) (by omega) q) := by
  refine (rowAcc_sum (f := fun n => ∑ i : Fin 512, XN (blocks m c) n (ix2 i k) * dp (grid0.coords (pt n)) (blocks m c n) (ix2 i q)) (ix2 k q)
    (by norm_num) (zero12 _) (fun n a => acc_block _ _ _ _ _ _ _ _ _) b 3 (by norm_num)).trans ?_
  refine Fin.sum_mul_add_congr (S := 4) (n := 512) fun s i hl => ?_
  have hs := s.isLt
  have hn : 4 * b + s.val < 16 := by omega
  rw [xn_at m c, p_at m c _ hn]
  have e1 : grow (4 * b + s.val) i = ⟨s.val * 512 + i.val, hl⟩ := Fin.ext (show (4 * b + s.val) % 4 * 512 + i.val = s.val * 512 + i.val by omega)
  have e3 : gcol (4 * b + s.val) hn q = gcol (4 * b) (by omega) q := Fin.ext (show (4 * b + s.val) / 4 * 768 + q.val = 4 * b / 4 * 768 + q.val by omega)
  rw [e1, e3]

/-- The same for its bias gradient. -/
theorem db_at (b : ℕ) (hb : b < 4) (q : Fin 768) :
    DB (blocks m c) (4 * b + 3) (ix2 0 q) = ∑ i : Fin 2048, pA m c i (gcol (4 * b) (by omega) q) := by
  refine (rowAcc_sum (f := fun n => ∑ i : Fin 512, dp (grid0.coords (pt n)) (blocks m c n) (ix2 i q)) (ix2 0 q)
    (by norm_num) (zero13 _) (fun n a => db_block _ _ _) b 3 (by norm_num)).trans ?_
  refine Fin.sum_mul_add_congr (S := 4) (n := 512) fun s i hl => ?_
  have hs := s.isLt
  have hn : 4 * b + s.val < 16 := by omega
  rw [p_at m c _ hn]
  have e1 : grow (4 * b + s.val) i = ⟨s.val * 512 + i.val, hl⟩ := Fin.ext (show (4 * b + s.val) % 4 * 512 + i.val = s.val * 512 + i.val by omega)
  have e3 : gcol (4 * b + s.val) hn q = gcol (4 * b) (by omega) q := Fin.ext (show (4 * b + s.val) / 4 * 768 + q.val = 4 * b / 4 * 768 + q.val by omega)
  rw [e1, e3]

/-- After the last point the norm weight's gradient is whole. -/
theorem dn_at (k : Fin 1024) : DN (blocks m c) (12 + 3) (ix2 0 k)
    = ∑ i : Fin 2048, gA m c i k * (xrow (m ((c : Thread nD τ).loc main_arg0)) i k * Rms.rstd (xrow (m ((c : Thread nD τ).loc main_arg0)) i)) := by
  refine (tailAcc_sum (f := fun n => ∑ i : Fin 512, DX (blocks m c) n (ix2 i k) * ((blocks m c n).x (ix2 i k) * Rms.rstd (fun k => (blocks m c n).x (ix2 i k)))) (ix2 0 k)
    (by norm_num) (zero11 _) (fun n a => dn_block _ _ _ _) 3).trans ?_
  refine Fin.sum_mul_add_congr (S := 4) (n := 512) fun s i hl => ?_
  have hs := s.isLt
  rw [show 12 + s.val = 4 * 3 + s.val from rfl, dx_at m c s.val hs]
  simp only [x_at m c (4 * 3 + s.val) (by omega) (Or.inr (by omega))]
  have e1 : grow s.val i = ⟨s.val * 512 + i.val, hl⟩ := Fin.ext (show s.val % 4 * 512 + i.val = s.val * 512 + i.val by omega)
  have e2 : grow (4 * 3 + s.val) i = ⟨s.val * 512 + i.val, hl⟩ := Fin.ext (show (4 * 3 + s.val) % 4 * 512 + i.val = s.val * 512 + i.val by omega)
  rw [e1, e2]

theorem dxout_at (t : ℕ) (ht : t < 4) (i : Fin 512) (k : Fin 1024) :
    DXOUT (blocks m c) (4 * 3 + t) (ix2 i k) = dxM (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 (grow t i) k) := by
  unfold DXOUT
  rw [dx_block]
  have e1 : grow (4 * 3 + t) i = grow t i := Fin.ext (show (4 * 3 + t) % 4 * 512 + i.val = t % 4 * 512 + i.val by omega)
  simp only [x_at m c (4 * 3 + t) (by omega) (Or.inr (by omega)), nw_at m c (4 * 3 + t) (by omega), r_at m c (4 * 3 + t) (by omega) (by omega), dx_at m c t ht, e1]
  rfl

/-! ## The arrays after the last point -/

theorem flush8 : ∀ t : Fin cfg0.N, (cfg0.win 8).flush t = true → 12 ≤ t.val := (by decide +kernel : ∀ t : Fin grid0.N, _)

theorem dx_final : (dats m 0 c).arrAt 8 (cfgs 0).N = dxM (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := by
  refine (dats m 0 c).arrAt_eq_of_covers 8 _ (by decide +kernel) fun t hf y => ?_
  blk_simp
  rw [after0_8]
  obtain ⟨i, k, rfl⟩ : ∃ (i : Fin 512) (k : Fin 1024), y = ix2 i k := ⟨y 0, y 1, by funext a; match a with | ⟨0, _⟩ => rfl | ⟨1, _⟩ => rfl⟩
  have h12 := flush8 t hf
  have h16 := lt_16 t
  rw [show DXOUT (blocks m c) t.val = DXOUT (blocks m c) (4 * 3 + (t.val - 12)) by rw [show 4 * 3 + (t.val - 12) = t.val by omega], dxout_at m c (t.val - 12) (by omega)]
  refine congrArg _ (funext fun a => Fin.ext ?_)
  match a with
  | ⟨0, _⟩ => blk_simp [(idxOut t).1 h12]; show (t.val - 12) % 4 * 512 + i.val = _; omega
  | ⟨1, _⟩ => blk_simp [(idxOut t).1 h12]

theorem dw_final : (dats m 0 c).arrAt 9 (cfgs 0).N = dwM (m ((c : Thread nD τ).loc main_arg0)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, cast_block]
  obtain ⟨k, q, rfl⟩ : ∃ (k : Fin 1024) (q : Fin 768), y = ix2 k q := ⟨y 0, y 1, by funext a; match a with | ⟨0, _⟩ => rfl | ⟨1, _⟩ => rfl⟩
  have h3 := (flush0_9 t).mp hf
  have h16 := lt_16 t
  rw [show ACC (blocks m c) t.val = ACC (blocks m c) (4 * (t.val / 4) + 3) by rw [show 4 * (t.val / 4) + 3 = t.val by omega], acc_at m c (t.val / 4) (by omega)]
  refine congrArg (dwM _ _ _ _ _ _) (a₁ := ix2 k (gcol (4 * (t.val / 4)) (by omega) q)) (funext fun a => Fin.ext ?_)
  match a with
  | ⟨0, _⟩ => blk_simp [idxOut t]
  | ⟨1, _⟩ => blk_simp [idxOut t]; show 4 * (t.val / 4) / 4 * 768 + q.val = _; omega

theorem db_final : (dats m 0 c).arrAt 10 (cfgs 0).N = dbM (m ((c : Thread nD τ).loc main_arg2)) (m ((c : Thread nD τ).loc main_arg3))
    (m ((c : Thread nD τ).loc main_arg4)) (m ((c : Thread nD τ).loc main_arg5)) := by
  refine (dats m 0 c).arrAt_eq_of_covers 10 _ (by decide +kernel) fun t hf y => ?_
  blk_simp
  rw [after0_10]
  obtain ⟨q, rfl⟩ : ∃ (q : Fin 768), y = ix2 0 q := ⟨y 1, by funext a; match a with | ⟨0, _⟩ => exact Subsingleton.elim (α := Fin 1) _ _ | ⟨1, _⟩ => rfl⟩
  have h3 := (flush0_10 t).mp hf
  have h16 := lt_16 t
  rw [show DB (blocks m c) t.val = DB (blocks m c) (4 * (t.val / 4) + 3) by rw [show 4 * (t.val / 4) + 3 = t.val by omega], db_at m c (t.val / 4) (by omega)]
  refine congrArg (dbM _ _ _ _) (a₁ := ix2 0 (gcol (4 * (t.val / 4)) (by omega) q)) (funext fun a => Fin.ext ?_)
  match a with
  | ⟨0, _⟩ => blk_simp [idxOut t]
  | ⟨1, _⟩ => blk_simp [idxOut t]; show 4 * (t.val / 4) / 4 * 768 + q.val = _; omega

theorem dn_final : (dats m 0 c).arrAt 11 (cfgs 0).N = dnM (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg7)) := by
  refine (dats m 0 c).arrAt_eq_of_covers 11 _ (by decide +kernel) fun t hf y => ?_
  blk_simp
  rw [after0_11]
  obtain ⟨k, rfl⟩ : ∃ (k : Fin 1024), y = ix2 0 k := ⟨y 1, by funext a; match a with | ⟨0, _⟩ => exact Subsingleton.elim (α := Fin 1) _ _ | ⟨1, _⟩ => rfl⟩
  have h15 : t.val = 12 + 3 := by have := (flush0_11 t).mp hf; have := lt_16 t; omega
  rw [h15, dn_at m c]
  refine congrArg (dnM _ _ _ _ _ _) (a₁ := ix2 0 k) (funext fun a => Fin.ext ?_)
  match a with
  | ⟨0, _⟩ => blk_simp [idxOut t]
  | ⟨1, _⟩ => blk_simp [idxOut t]

end Cert.In
end
-- ==== Proof.In.Reference.lean ====
module

public import proofs.«01_k».proof.Proof.In.Value
public import proofs.«01_k».proof.Proof.Gen.ReferenceInIdeal.Run
public import proofs.«01_k».proof.Proof.Gen.ReferenceInIdeal.Read
public import Idealize.ShloMosaic.Lib.Pointwise

@[expose] public section

set_option maxRecDepth 16384

/-!
# What the four-piece reference computes, entry by entry

The reference works on the projection's 2832 columns; the 240 columns of zeros that the kernel has after them add
nothing to its sums.
-/

noncomputable section

open Idealize Idealize.ShloMosaic Idealize.ShloMosaic.TcCoe Idealize.SL
open Cert.ReferenceInIdeal Cert.ReferenceInIdeal.Gen Cert.ReferenceInIdeal.Read

namespace Cert.In

variable (X R : Vec Ideal S2048x1024 .f32) (Q : Vec Ideal S2048x512 .f32) (KV : Vec Ideal S2048x256 .f32) (QKV : Vec Ideal S2048x1536 .f32)
  (Z : Vec Ideal S2048x528 .f32) (nw : Vec Ideal S1024 .f32) (W : Vec Ideal S1024x2832 .f32)

/-- A column of the projection among the padded columns. -/
def real (q : Fin 2832) : Fin 3072 := ⟨q.val, by omega⟩

/-- A sum over the padded columns of numbers that are zero on the padding. -/
theorem sum_real (f : Fin 3072 → EReal) (hz : ∀ q : Fin 3072, 2832 ≤ q.val → f q = 0) : ∑ q : Fin 3072, f q = ∑ q : Fin 2832, f (real q) := by
  have e : ∑ q : Fin 3072, f q = _ := Fin.sum_univ_add (a := 2832) (b := 240) f
  rw [e, Finset.sum_eq_zero (s := (Finset.univ : Finset (Fin 240))) (fun q _ => hz _ (Nat.le_add_right _ _)), add_zero]
  rfl

theorem p_ref (i : Fin 2048) (q : Fin 2832) : val_main_v0 (F := Ideal) Q KV QKV Z (ix2 i q) = pM Q KV QKV Z i (real q) := by
  unfold pM real
  pointwise [val_main_v0]
  simp only [Nat.sub_sub, Nat.reduceAdd]
  have hq := q.isLt
  have e1 : ¬ q.val < 512 → (q.val - 512 < 256 ↔ q.val < 768) := fun h => ⟨fun _ => by omega, fun _ => by omega⟩
  have e2 : ¬ q.val < 768 → (q.val - 768 < 1536 ↔ q.val < 2304) := fun h => ⟨fun _ => by omega, fun _ => by omega⟩
  by_cases h0 : q.val < 512
  · rw [dif_pos h0, dif_pos h0]
  by_cases h1 : q.val < 768
  · rw [dif_neg h0, dif_neg h0, dif_pos ((e1 h0).mpr h1), dif_pos h1]
  by_cases h2 : q.val < 2304
  · rw [dif_neg h0, dif_neg h0, dif_neg (fun h => h1 ((e1 h0).mp h)), dif_neg h1, dif_pos ((e2 h1).mpr h2), dif_pos h2]
  · rw [dif_neg h0, dif_neg h0, dif_neg (fun h => h1 ((e1 h0).mp h)), dif_neg h1, dif_neg (fun h => h2 ((e2 h1).mp h)), dif_neg h2]

theorem p_pad (i : Fin 2048) (q : Fin 3072) (h : 2832 ≤ q.val) : pM Q KV QKV Z i q = 0 := by
  unfold pM
  rw [dif_neg (by omega), dif_neg (by omega), dif_neg (by omega), dif_neg (by omega)]

theorem w_real (k : Fin 1024) (q : Fin 2832) : wM W k (real q) = W (ix2 k q) := dif_pos q.isLt

theorem msq_at (i : Fin 2048) : val_main_v8 (F := Ideal) X (ix2 i 0) = Rms.msq (fun k => X (ix2 i k)) := by
  pointwise [val_main_v8, val_main_v7, val_main_v6, val_main_v5, val_main_v4, val_main_v3, val_main_v2, val_main_cst_0, val_main_cst_1, val_main_cst_2, Rms.msq]

theorem rstd_at (i : Fin 2048) : val_main_v9 (F := Ideal) X (ix2 i 0) = Rms.rstd (fun k => X (ix2 i k)) := by
  pointwise [val_main_v9, msq_at, Rms.rstd]

theorem xn_ref (i : Fin 2048) (k : Fin 1024) : val_main_v17 (F := Ideal) X nw (ix2 i k) = xnM X nw i k := by
  unfold xnM
  pointwise [val_main_v17, val_main_v16, val_main_v15, val_main_v14, val_main_v13, rstd_at]

theorem g_ref (i : Fin 2048) (k : Fin 1024) : val_main_v27 (F := Ideal) Q KV QKV Z W (ix2 i k) = gM Q KV QKV Z W i k := by
  have e : val_main_v27 (F := Ideal) Q KV QKV Z W (ix2 i k) = ∑ q : Fin 2832, val_main_v0 (F := Ideal) Q KV QKV Z (ix2 i q) * W (ix2 k q) := by
    pointwise [val_main_v27]
  rw [e, gM, sum_real _ fun q h => by rw [p_pad _ _ _ _ _ _ h, zero_mul]]
  exact Finset.sum_congr rfl fun q _ => by rw [p_ref, w_real]

theorem gn_ref (i : Fin 2048) (k : Fin 1024) : val_main_v32 (F := Ideal) Q KV QKV Z nw W (ix2 i k) = gM Q KV QKV Z W i k * nw (ix1 k) := by
  pointwise [val_main_v32, val_main_v31, val_main_v15, g_ref]

theorem through_at (i : Fin 2048) (k : Fin 1024) : val_main_v44 (F := Ideal) X Q KV QKV Z nw W (ix2 i k)
    = Rms.through (fun k => X (ix2 i k)) (fun k => gM Q KV QKV Z W i k * nw (ix1 k)) := by
  pointwise [val_main_v44, val_main_v43, val_main_v42, val_main_v41, val_main_v40, val_main_v36, val_main_v35, val_main_v34, val_main_v12, val_main_v11, val_main_v10,
    val_main_cst_3, val_main_cst_8, val_main_cst_9, val_main_cst_10, gn_ref, Rms.through]
  refine (Fin.sum_univ_one _).trans ?_
  rw [rstd_at, msq_at]

/-- The input's gradient. -/
theorem dx_ref (i : Fin 2048) (k : Fin 1024) : val_main_v48 (F := Ideal) X R Q KV QKV Z nw W (ix2 i k)
    = R (ix2 i k) + Rms.gradK (fun k => X (ix2 i k)) (fun k => gM Q KV QKV Z W i k * nw (ix1 k)) k := by
  rw [Rms.gradK_eq_gradR]
  pointwise [val_main_v48, val_main_v47, val_main_v46, val_main_v45, val_main_v39, val_main_v38, val_main_v37, rstd_at, gn_ref, through_at, Rms.gradR]
  rw [add_assoc, add_assoc, add_assoc]

/-- The projection weight's gradient on the projection's columns. -/
theorem dw_real (k : Fin 1024) (q : Fin 2832) : val_main_v26 (F := Ideal) X Q KV QKV Z nw (ix2 k q)
    = ∑ i : Fin 2048, xnM X nw i k * pM Q KV QKV Z i (real q) := by
  pointwise [val_main_v26, val_main_v25, xn_ref, p_ref]
  exact Finset.sum_congr rfl fun i _ => mul_comm _ _

/-- The projection weight's gradient, padded. -/
theorem dw_ref (k : Fin 1024) (q : Fin 3072) : val_main_v50 (F := Ideal) X Q KV QKV Z nw (ix2 k q)
    = ∑ i : Fin 2048, xnM X nw i k * pM Q KV QKV Z i q := by
  have e : val_main_v50 (F := Ideal) X Q KV QKV Z nw (ix2 k q)
      = if h : q.val < 2832 then val_main_v26 (F := Ideal) X Q KV QKV Z nw (ix2 k ⟨q.val, h⟩) else val_main_call0_v0 (F := Ideal) (Shape.Idx.first h_S_) := by
    pointwise [val_main_v50, val_main_v49]
  rw [e]
  by_cases h : q.val < 2832
  · rw [dif_pos h, dw_real]; rfl
  · rw [dif_neg h, Finset.sum_eq_zero fun i _ => by rw [p_pad _ _ _ _ _ _ (by omega), mul_zero]]
    exact congrFun (zero_word .f32) _

theorem db_real (q : Fin 2832) : val_main_v24 (F := Ideal) Q KV QKV Z (ix1 q) = ∑ i : Fin 2048, pM Q KV QKV Z i (real q) := by
  pointwise [val_main_v24, val_main_v23, val_main_v22, val_main_cst_4, val_main_cst_5, p_ref]
  exact Fin.sum_univ_one _

/-- The projection bias's gradient, padded. -/
theorem db_ref (q : Fin 3072) : val_main_v52 (F := Ideal) Q KV QKV Z (ix2 0 q) = ∑ i : Fin 2048, pM Q KV QKV Z i q := by
  have e : val_main_v52 (F := Ideal) Q KV QKV Z (ix2 0 q)
      = if h : q.val < 2832 then val_main_v24 (F := Ideal) Q KV QKV Z (ix1 ⟨q.val, h⟩) else val_main_call1_v0 (F := Ideal) (Shape.Idx.first h_S_) := by
    pointwise [val_main_v52, val_main_v51]
  rw [e]
  by_cases h : q.val < 2832
  · rw [dif_pos h, db_real]; rfl
  · rw [dif_neg h, Finset.sum_eq_zero fun i _ => p_pad _ _ _ _ _ _ (by omega)]
    exact congrFun (zero_word .f32) _

/-- The norm weight's gradient. -/
theorem dn_ref (k : Fin 1024) : val_main_v53 (F := Ideal) X Q KV QKV Z W (ix2 0 k)
    = ∑ i : Fin 2048, gM Q KV QKV Z W i k * (X (ix2 i k) * Rms.rstd (fun k => X (ix2 i k))) := by
  pointwise [val_main_v53, val_main_v33, val_main_v30, val_main_v29, val_main_v28, val_main_v14, val_main_v13, val_main_cst_6, val_main_cst_7, rstd_at, g_ref]
  exact (Fin.sum_univ_one _).trans (Finset.sum_congr rfl fun i _ => mul_comm _ _)

end Cert.In
end
-- ==== Proof.In.Claim.lean ====
module

public import proofs.«01_k».proof.Defs
public import proofs.«01_k».proof.Proof.Gen.KernelIn
public import proofs.«01_k».proof.Proof.Gen.ReferenceInIdeal
public import proofs.«01_k».proof.Proof.In.Reference

@[expose] public section

set_option maxRecDepth 16384

/-!
# The gradients through a norm and a four-piece projection: kernel and reference agree
-/

noncomputable section

open Idealize Idealize.ShloMosaic Idealize.ShloMosaic.Pipeline Idealize.ShloMosaic.TcCoe Idealize.SL Idealize.SL.Sem

namespace Cert.In

open Cert.ReferenceInIdeal.Read
open Cert.KernelInIdeal (S2048x1024 S2048x512 S2048x256 S2048x1536 S2048x528 S1024 S1024x2832)

variable (X R : Vec Ideal S2048x1024 .f32) (Q : Vec Ideal S2048x512 .f32) (KV : Vec Ideal S2048x256 .f32) (QKV : Vec Ideal S2048x1536 .f32)
  (Z : Vec Ideal S2048x528 .f32) (nw : Vec Ideal S1024 .f32) (W : Vec Ideal S1024x2832 .f32)

theorem dx_value : val_main_v48 (F := Ideal) X R Q KV QKV Z nw W = dxM X R Q KV QKV Z nw W := by
  funext j
  obtain ⟨i, k, rfl⟩ : ∃ (i : Fin 2048) (k : Fin 1024), j = ix2 i k := ⟨j 0, j 1, by funext a; match a with | ⟨0, _⟩ => rfl | ⟨1, _⟩ => rfl⟩
  exact dx_ref X R Q KV QKV Z nw W i k

theorem dw_value : val_main_v50 (F := Ideal) X Q KV QKV Z nw = dwM X Q KV QKV Z nw := by
  funext j
  obtain ⟨i, k, rfl⟩ : ∃ (i : Fin 1024) (k : Fin 3072), j = ix2 i k := ⟨j 0, j 1, by funext a; match a with | ⟨0, _⟩ => rfl | ⟨1, _⟩ => rfl⟩
  exact dw_ref X Q KV QKV Z nw i k

theorem db_value : val_main_v52 (F := Ideal) Q KV QKV Z = dbM Q KV QKV Z := by
  funext j
  obtain ⟨q, rfl⟩ : ∃ (q : Fin 3072), j = ix2 0 q := ⟨j 1, by funext a; match a with | ⟨0, _⟩ => exact Subsingleton.elim (α := Fin 1) _ _ | ⟨1, _⟩ => rfl⟩
  exact db_ref Q KV QKV Z q

theorem dn_value : val_main_v53 (F := Ideal) X Q KV QKV Z W = dnM X Q KV QKV Z W := by
  funext j
  obtain ⟨k, rfl⟩ : ∃ (k : Fin 1024), j = ix2 0 k := ⟨j 1, by funext a; match a with | ⟨0, _⟩ => exact Subsingleton.elim (α := Fin 1) _ _ | ⟨1, _⟩ => rfl⟩
  exact dn_ref X Q KV QKV Z W k

/-- The frame of the printed program: the same text as the one the run is proved for, at bit patterns. -/
theorem frame_bits : Cert.quiescent_KernelIn (hKernelIn := Cert.KernelIn.Gen.facts) := fun m ρ _ =>
  Eq.mp (by sl_kernel_rfl) (frame (F := Bits) m ρ)

/-- The frame of the reference: its counters are zero because it declares no semaphore. -/
theorem frame_reference : Cert.quiescent_ReferenceInIdeal (hReferenceInIdeal := Cert.ReferenceInIdeal.Gen.facts) := fun m ρ _ =>
  (θ_run Cert.ReferenceInIdeal.defs _ _).mono (fun r h => ⟨fun c => (h c).2.2.2.2, sem_eq_zero_of_no_sems (by decide) r.2⟩)
    (Cert.ReferenceInIdeal.Value.run m ρ)

/-- The claim of equal results. -/
theorem algebraic : Cert.algebraic_KernelInIdeal_ReferenceInIdeal (hKernelInIdeal := Cert.KernelInIdeal.Gen.facts)
    (hReferenceInIdeal := Cert.ReferenceInIdeal.Gen.facts) := by
  intro m ρ m' ρ' _ hargs
  refine ⟨fun c => (dats m 0 c).arrAt 8 (Cert.KernelInIdeal.cfgs 0).N, fun c => (dats m 0 c).arrAt 9 (Cert.KernelInIdeal.cfgs 0).N,
    fun c => (dats m 0 c).arrAt 10 (Cert.KernelInIdeal.cfgs 0).N, fun c => (dats m 0 c).arrAt 11 (Cert.KernelInIdeal.cfgs 0).N, ?_, ?_⟩
  · refine (θ_run _ _ _).mono (fun r h c => ?_) (θ_run_and ((θ_run _ _ _).mono (fun _ h => h.1) (run_main m ρ)) (frame m ρ))
    exact ⟨(h.1 c).1 8, (h.1 c).1 9, (h.1 c).1 10, (h.1 c).1 11, h.2.1 c⟩
  · refine (θ_run _ _ _).mono (fun r h c => ?_) (Cert.ReferenceInIdeal.Value.run m' ρ')
    obtain ⟨h0, h1, h2, h3, h4⟩ := h c
    obtain ⟨a0, a1, a2, a3, a4, a5, a6, a7⟩ := hargs c
    refine ⟨h0.trans ?_, h1.trans ?_, h2.trans ?_, h3.trans ?_, h4⟩
    · rw [val_main_v48_eq, a0, a1, a2, a3, a4, a5, a6, a7, dx_value]; exact (dx_final m c).symm
    · rw [val_main_v50_eq, a0, a2, a3, a4, a5, a6, dw_value]; exact (dw_final m c).symm
    · rw [val_main_v52_eq, a2, a3, a4, a5, db_value]; exact (db_final m c).symm
    · rw [val_main_v53_eq, a0, a2, a3, a4, a5, a7, dn_value]; exact (dn_final m c).symm

end Cert.In

end
-- ==== Proof.Ffn.Body.lean ====
module

public import proofs.«01_k».proof.Proof.Math.Bands
public import proofs.«01_k».proof.Proof.Gen.KernelFfnIdeal.Frame
public import proofs.«01_k».proof.Proof.Gen.KernelFfnIdeal.Skeleton

@[expose] public section

set_option maxRecDepth 16384

/-!
# One grid point of SwiGLU's gradient

The grid runs over the four column blocks of the hidden layer (outer, two shards of 352 columns each) and the row tiles
(inner).  Six scratch buffers are carried: the normalised rows, the rounded cotangent, the gradient of the normalised
rows, and the three weight gradients of the current column block.  `Cert.Ffn.run` says what one point leaves, over what
its buffers held.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFfnIdeal Cert.KernelFfnIdeal.Gen Cert.Bands

namespace Cert.Ffn

variable {F : FTy → Type} [FloatOps F]

local notation "𝕄" => MT nD τ sig Unit (Elt F) ℕ (UR sig nD τ) ℕ

/-- The blocks a point reads. -/
structure Reads (F : FTy → Type) where
  x : Vec F S256x1024 .f32
  dy : Vec F S256x1024 .f32
  nw : Vec F S1x1024 .f32
  wg : Vec F S2x1024x352 .bf16
  wu : Vec F S2x1024x352 .bf16
  wd : Vec F S2x352x1024 .bf16

/-- The first row of the tile at a point. -/
def row (i : grid0.Coords) : ℕ := 256 * (i 1).val

theorem row_le (i : grid0.Coords) : row i + 256 ≤ 2048 := by
  have h : (i 1).val < 8 := (i 1).isLt
  unfold row; omega

/-- The tile's rows of a scratch buffer. -/
def tile {e : EltTy} (i : grid0.Coords) (X : Vec F S2048x1024 e) : Vec F S256x1024 e := band (row i) (row_le i) X

/-- The first and the second shard of a weight's block. -/
def s0 {b l : ℕ} {e : EltTy} (X : Vec F (⟨3, ![2, b, l]⟩ : Shape) e) : Vec F (⟨3, ![1, b, l]⟩ : Shape) e := slab 0 (by norm_num) X
def s1 {b l : ℕ} {e : EltTy} (X : Vec F (⟨3, ![2, b, l]⟩ : Shape) e) : Vec F (⟨3, ![1, b, l]⟩ : Shape) e := slab 1 (by norm_num) X

variable (i : grid0.Coords) (r : Reads F) (xn dyb : Vec F S256x1024 .bf16)

/-- The gate's and the other branch's values on a tile. -/
def gate : FVec F S256x704 .f32 := k0_pay19 xn (s0 r.wg) (s1 r.wg)
def up : FVec F S256x704 .f32 := k0_pay20 xn (s0 r.wu) (s1 r.wu)

/-- The two branches' cotangents. -/
def dUp : FVec F S256x704 .bf16 := k0_pay25 dyb (gate r xn) (k0_pay21 (F := F)) r.wd
def dGate : FVec F S256x704 .bf16 := k0_pay26 dyb (gate r xn) (up r xn) (k0_pay21 (F := F)) r.wd

/-- The weight gradients with this tile's products added. -/
def addG (a : Vec F S704x1024 .f32) : Vec F S704x1024 .f32 := k0_pay28 xn dyb (gate r xn) (up r xn) (k0_pay21 (F := F)) r.wd a
def addU (a : Vec F S704x1024 .f32) : Vec F S704x1024 .f32 :=
  k0_pay1 xn (dUp r xn dyb) a (constant S704x1024 .f32 0x00000000#32)
def addD (a : Vec F S704x1024 .f32) : Vec F S704x1024 .f32 := k0_pay27 dyb (gate r xn) (up r xn) (k0_pay21 (F := F)) a

/-- The gradient of the normalised rows with this column block's products added. -/
def addX (a : Vec F S256x1024 .f32) : Vec F S256x1024 .f32 :=
  k0_pay2 (k0_pay17 (s0 r.wg) (s1 r.wg)) (k0_pay18 (s0 r.wu) (s1 r.wu)) (dUp r xn dyb) (dGate r xn dyb) a

/-- The normalised rows after the point: stored while the first column block runs. -/
def xnNew (x13 : Vec F S2048x1024 .bf16) : Vec F S2048x1024 .bf16 :=
  if k0_cond1 i = 1#1 then put (row i) x13 (k0_pay10 r.x r.nw) else x13

/-- The rounded cotangent: likewise. -/
def dyNew (x14 : Vec F S2048x1024 .bf16) : Vec F S2048x1024 .bf16 :=
  if k0_cond1 i = 1#1 then put (row i) x14 (k0_pay11 r.dy) else x14

/-- The gradient of the normalised rows before this point's products: zero on the tile in the first column block, -/
def dxMid (x15 : Vec F S2048x1024 .f32) : Vec F S2048x1024 .f32 :=
  if k0_cond1 i = 1#1 then put (row i) x15 (k0_pay12 (F := F)) else x15

/-- and after them. -/
def dxNew (x13 x14 : Vec F S2048x1024 .bf16) (x15 : Vec F S2048x1024 .f32) : Vec F S2048x1024 .f32 :=
  put (row i) (dxMid i x15) (addX r (tile i (xnNew i r x13)) (tile i (dyNew i r x14)) (tile i (dxMid i x15)))

/-- The weight gradients of the column block: restarted at its first tile. -/
def gNew (x13 x14 : Vec F S2048x1024 .bf16) (x16 : Vec F S704x1024 .f32) : Vec F S704x1024 .f32 :=
  addG r (tile i (xnNew i r x13)) (tile i (dyNew i r x14)) (if (i 1).val = 0 then k0_pay14 (F := F) else x16)
def uNew (x13 x14 : Vec F S2048x1024 .bf16) (x17 : Vec F S704x1024 .f32) : Vec F S704x1024 .f32 :=
  addU r (tile i (xnNew i r x13)) (tile i (dyNew i r x14)) (if (i 1).val = 0 then k0_pay15 (F := F) else x17)
def dNew (x13 x14 : Vec F S2048x1024 .bf16) (x18 : Vec F S704x1024 .f32) : Vec F S704x1024 .f32 :=
  addD r (tile i (xnNew i r x13)) (tile i (dyNew i r x14)) (if (i 1).val = 0 then k0_pay16 (F := F) else x18)

/-- The weight gradients' windows: stored at the column block's last tile. -/
def gOut (x9 : Vec F S2x352x1024 .bf16) (x13 x14 : Vec F S2048x1024 .bf16) (x16 : Vec F S704x1024 .f32) : Vec F S2x352x1024 .bf16 :=
  if k0_cond4 i = 1#1 then k0_pay3 (gNew i r x13 x14 x16) else x9
def uOut (x10 : Vec F S2x352x1024 .bf16) (x13 x14 : Vec F S2048x1024 .bf16) (x17 : Vec F S704x1024 .f32) : Vec F S2x352x1024 .bf16 :=
  if k0_cond4 i = 1#1 then k0_pay4 (uNew i r x13 x14 x17) else x10
def dOut (x11 : Vec F S2x352x1024 .bf16) (x13 x14 : Vec F S2048x1024 .bf16) (x18 : Vec F S704x1024 .f32) : Vec F S2x352x1024 .bf16 :=
  if k0_cond4 i = 1#1 then k0_pay5 (dNew i r x13 x14 x18) else x11

/-- The input gradient's window: stored in the last column block. -/
def dxOut (x8 : Vec F S256x1024 .f32) (x13 x14 : Vec F S2048x1024 .bf16) (x15 : Vec F S2048x1024 .f32) : Vec F S256x1024 .f32 :=
  if k0_cond5 i = 1#1 then k0_pay8 r.x r.nw (tile i (dxNew i r x13 x14 x15)) r.dy else x8

/-- The norm weight's gradient: zeroed at the first point, -/
def dnMid (x12 : Vec F S1x1024 .f32) : Vec F S1x1024 .f32 := if k0_cond2 i = 1#1 then k0_pay13 (F := F) else x12

/-- added to in the last column block. -/
def dnNew (x12 : Vec F S1x1024 .f32) (x13 x14 : Vec F S2048x1024 .bf16) (x15 : Vec F S2048x1024 .f32) : Vec F S1x1024 .f32 :=
  if k0_cond5 i = 1#1 then k0_pay9 r.x (tile i (dxNew i r x13 x14 x15)) (dnMid i x12) else dnMid i x12

/-- The body's test for the first tile of a column block. -/
abbrev First (i : grid0.Coords) : Prop := Scalar.cmpi .ne (Scalar.extui (Scalar.cmpi .eq (BitVec.ofNat 32 (i 1).val) 0#32)) 0#32 = 1#1

/-- The tile is the column block's first, at which `z` holds, or one in the middle, or its last. -/
abbrev TileCases (i : grid0.Coords) (z : Prop) : Prop :=
  (z ∧ First i ∧ (i 1).val = 0 ∧ ¬k0_cond4 i = 1#1) ∨ (¬k0_cond2 i = 1#1 ∧ ¬First i ∧ ¬(i 1).val = 0 ∧ ¬k0_cond4 i = 1#1)
    ∨ (¬k0_cond2 i = 1#1 ∧ ¬First i ∧ ¬(i 1).val = 0 ∧ k0_cond4 i = 1#1)

/-- Which of the body's conditions hold together: the first column block, a middle one, the last. -/
def Cases (i : grid0.Coords) : Prop :=
  (k0_cond1 i = 1#1 ∧ ¬k0_cond5 i = 1#1 ∧ TileCases i (k0_cond2 i = 1#1))
    ∨ (¬k0_cond1 i = 1#1 ∧ ¬k0_cond5 i = 1#1 ∧ TileCases i (¬k0_cond2 i = 1#1))
    ∨ (¬k0_cond1 i = 1#1 ∧ k0_cond5 i = 1#1 ∧ TileCases i (¬k0_cond2 i = 1#1))

theorem cases : ∀ i : grid0.Coords, Cases i := by unfold Cases; decide +kernel

theorem off1 : k0_off1 i = ![row i, 0] := k0_off1_eq i
theorem off2 : k0_off2 i = ![row i, 0] := k0_off2_eq i
theorem off3 : k0_off3 i = ![row i, 0] := k0_off3_eq i

theorem off21 : k0_off2 i = k0_off1 i := rfl
theorem off32 : k0_off3 i = k0_off2 i := rfl

set_option maxHeartbeats 8000000 in
/-- One run of the body: from any contents of its buffers, each is left at the function of its coordinates and contents
    defined above. -/
theorem run (c : Dev nD) (i : grid0.Coords)
    (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S2x1024x352 .bf16) (harg5 : arg5.IsWhole) (arg6 : Memref sig .tc .vmem S2x1024x352 .bf16) (harg6 : arg6.IsWhole) (arg7 : Memref sig .tc .vmem S2x352x1024 .bf16) (harg7 : arg7.IsWhole) (arg8 : Memref sig .tc .vmem S256x1024 .f32) (harg8 : arg8.IsWhole) (arg9 : Memref sig .tc .vmem S2x352x1024 .bf16) (harg9 : arg9.IsWhole) (arg10 : Memref sig .tc .vmem S2x352x1024 .bf16) (harg10 : arg10.IsWhole) (arg11 : Memref sig .tc .vmem S2x352x1024 .bf16) (harg11 : arg11.IsWhole) (arg12 : Memref sig .tc .vmem S1x1024 .f32) (harg12 : arg12.IsWhole) (arg13 : Memref sig .tc .vmem S2048x1024 .bf16) (harg13 : arg13.IsWhole) (arg14 : Memref sig .tc .vmem S2048x1024 .bf16) (harg14 : arg14.IsWhole) (arg15 : Memref sig .tc .vmem S2048x1024 .f32) (harg15 : arg15.IsWhole) (arg16 : Memref sig .tc .vmem S704x1024 .f32) (harg16 : arg16.IsWhole) (arg17 : Memref sig .tc .vmem S704x1024 .f32) (harg17 : arg17.IsWhole) (arg18 : Memref sig .tc .vmem S704x1024 .f32) (harg18 : arg18.IsWhole)
    (r : Reads F) (x8 : Vec F S256x1024 .f32) (x9 x10 x11 : Vec F S2x352x1024 .bf16) (x12 : Vec F S1x1024 .f32) (x13 x14 : Vec F S2048x1024 .bf16) (x15 : Vec F S2048x1024 .f32) (x16 x17 x18 : Vec F S704x1024 .f32)
    (E : Set ℕ) (K : PUnit → sProp 𝕄) :
    iprop(owns (c : Thread nD τ) arg2 fullShare (r.x)
          ∗ owns (c : Thread nD τ) arg3 fullShare (r.dy)
          ∗ owns (c : Thread nD τ) arg4 fullShare (r.nw)
          ∗ owns (c : Thread nD τ) arg5 fullShare (r.wg)
          ∗ owns (c : Thread nD τ) arg6 fullShare (r.wu)
          ∗ owns (c : Thread nD τ) arg7 fullShare (r.wd)
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg16 fullShare x16
          ∗ owns (c : Thread nD τ) arg17 fullShare x17
          ∗ owns (c : Thread nD τ) arg18 fullShare x18
          ∗ (iprop(owns (c : Thread nD τ) arg2 fullShare (r.x)
          ∗ owns (c : Thread nD τ) arg3 fullShare (r.dy)
          ∗ owns (c : Thread nD τ) arg4 fullShare (r.nw)
          ∗ owns (c : Thread nD τ) arg5 fullShare (r.wg)
          ∗ owns (c : Thread nD τ) arg6 fullShare (r.wu)
          ∗ owns (c : Thread nD τ) arg7 fullShare (r.wd)
          ∗ owns (c : Thread nD τ) arg8 fullShare (dxOut i r x8 x13 x14 x15)
          ∗ owns (c : Thread nD τ) arg9 fullShare (gOut i r x9 x13 x14 x16)
          ∗ owns (c : Thread nD τ) arg10 fullShare (uOut i r x10 x13 x14 x17)
          ∗ owns (c : Thread nD τ) arg11 fullShare (dOut i r x11 x13 x14 x18)
          ∗ owns (c : Thread nD τ) arg12 fullShare (dnNew i r x12 x13 x14 x15)
          ∗ owns (c : Thread nD τ) arg13 fullShare (xnNew i r x13)
          ∗ owns (c : Thread nD τ) arg14 fullShare (dyNew i r x14)
          ∗ owns (c : Thread nD τ) arg15 fullShare (dxNew i r x13 x14 x15)
          ∗ owns (c : Thread nD τ) arg16 fullShare (gNew i r x13 x14 x16)
          ∗ owns (c : Thread nD τ) arg17 fullShare (uNew i r x13 x14 x17)
          ∗ owns (c : Thread nD τ) arg18 fullShare (dNew i r x13 x14 x18)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    obtain ⟨h1, h5, ⟨h2, h3, h3', h4⟩ | ⟨h2, h3, h3', h4⟩ | ⟨h2, h3, h3', h4⟩⟩ | ⟨h1, h5, ⟨h2, h3, h3', h4⟩ | ⟨h2, h3, h3', h4⟩ | ⟨h2, h3, h3', h4⟩⟩ | ⟨h1, h5, ⟨h2, h3, h3', h4⟩ | ⟨h2, h3, h3', h4⟩ | ⟨h2, h3, h3', h4⟩⟩ := cases i
    all_goals
      simp only [cc0_ffn_bwd_eq_skeleton]; unfold cc0_ffn_bwd_skel
      simp only [k0_part1_eq_skeleton, k0_part2_eq_skeleton]
      unfold owns
      iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, Hk⟩
      obtain rfl := harg2.eq_unread e2; obtain rfl := harg3.eq_unread e3; obtain rfl := harg4.eq_unread e4; obtain rfl := harg5.eq_unread e5; obtain rfl := harg6.eq_unread e6; obtain rfl := harg7.eq_unread e7
      obtain rfl := harg8.eq_unread e8; obtain rfl := harg9.eq_unread e9; obtain rfl := harg10.eq_unread e10; obtain rfl := harg11.eq_unread e11; obtain rfl := harg12.eq_unread e12; obtain rfl := harg13.eq_unread e13
      obtain rfl := harg14.eq_unread e14; obtain rfl := harg15.eq_unread e15; obtain rfl := harg16.eq_unread e16; obtain rfl := harg17.eq_unread e17; obtain rfl := harg18.eq_unread e18
      sl_exec (disch := first | sl_exact h1 | sl_exact h2 | sl_exact h3 | sl_exact h4 | sl_exact h5)
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H9]
      · iexists _; isplitr; swap; · iexact H9
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H10]
      · iexists _; isplitr; swap; · iexact H10
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H11]
      · iexists _; isplitr; swap; · iexact H11
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H12]
      · iexists _; isplitr; swap; · iexact H12
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H13]
      · iexists _; isplitr; swap; · iexact H13
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H14]
      · iexists _; isplitr; swap; · iexact H14
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H15]
      · iexists _; isplitr; swap; · iexact H15
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H16]
      · iexists _; isplitr; swap; · iexact H16
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      isplitl [H17]
      · iexists _; isplitr; swap; · iexact H17
        ipureintro; sl_unfold_run_names
        simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]
      iexists _; isplitr; swap; · iexact H18
      ipureintro; sl_unfold_run_names
      simp only [dxOut, gOut, uOut, dOut, gNew, uNew, dNew, dnNew, dnMid, xnNew, dyNew, dxNew, dxMid, addG, addU, addD, addX, dUp, dGate, gate, up, s0, s1, tile, h1, h2, h3', h4, h5, ↓reduceIte, readAt_all, read_all, readCov_all, View.writes_nil, Memref.IsWhole.read_unread, read_write _ _ _ (off1 i), read_write _ _ _ (off2 i), readAt_rows (off2 i) (row_le i), readAt_rows (off3 i) (row_le i), readCov_rows (off21 i), readCov_rows (off32 i), band_put, readAt_slab _ (show 0 < 2 by norm_num), readAt_slab _ (show 1 < 2 by norm_num), readAt_stack, read_stack]

end Cert.Ffn
end
-- ==== Proof.Ffn.Block.lean ====
module

public import proofs.«01_k».proof.Proof.Ffn.Body
public import proofs.«01_k».proof.Proof.Math.Rms
public import Idealize.ShloMosaic.Lib.Pipeline.ValueKit
public import Idealize.ShloMosaic.Lib.Pointwise

@[expose] public section

set_option maxRecDepth 16384

/-!
# What the stores of the SwiGLU backward kernel hold, in the values loaded before them
-/

noncomputable section

open Idealize Idealize.ShloMosaic Idealize.ShloMosaic.Pipeline Idealize.SL
open Cert.KernelFfnIdeal Cert.KernelFfnIdeal.Gen

namespace Cert.Ffn

/-- One half as the programs spell it. -/
abbrev cH : EReal := Ideal.ofBits .f32 0x3F000000#32
/-- The logistic function as the programs spell it. -/
def sg (g : EReal) : EReal := Ideal.div (Ideal.ofBits .f32 0x3F800000#32) (Ideal.ofBits .f32 0x3F800000#32 + Ideal.exp (-g))
/-- The gate's gradient as the kernel spells it. -/
def dgateK (dh g u : EReal) : EReal := dh * u * (sg g * (Ideal.ofBits .f32 0x3F800000#32 + g * (Ideal.ofBits .f32 0x3F800000#32 - sg g)))

/-- Column `q` of the two shards of a column-sharded weight side by side. -/
def wcol (w : Vec Ideal S2x1024x352 .bf16) (k : Fin 1024) (q : Fin 704) : EReal :=
  if h : q.val < 352 then w (ix3 0 k ⟨q.val, h⟩) else w (ix3 1 k ⟨q.val - 352, by omega⟩)
/-- Row `q` of the two shards of a row-sharded weight one after the other. -/
def wrow (w : Vec Ideal S2x352x1024 .bf16) (q : Fin 704) (k : Fin 1024) : EReal :=
  w (ix3 ⟨q.val / 352, by omega⟩ ⟨q.val % 352, Nat.mod_lt _ (by norm_num)⟩ k)

variable (r : Reads Ideal) (xn dyb : Vec Ideal S256x1024 .bf16)

theorem wg_block (k : Fin 1024) (q : Fin 704) : k0_pay17 (s0 r.wg) (s1 r.wg) (ix2 k q) = wcol r.wg k q := by
  unfold wcol s0 s1
  pointwise [k0_pay17, Bands.slab]

theorem wu_block (k : Fin 1024) (q : Fin 704) : k0_pay18 (s0 r.wu) (s1 r.wu) (ix2 k q) = wcol r.wu k q := wg_block { r with wg := r.wu } k q

theorem gate_block (i : Fin 256) (q : Fin 704) : gate r xn (ix2 i q) = ∑ k : Fin 1024, xn (ix2 i k) * wcol r.wg k q := by
  have e : gate r xn (ix2 i q) = ∑ k : Fin 1024, xn (ix2 i k) * k0_pay17 (s0 r.wg) (s1 r.wg) (ix2 k q) := by
    unfold gate k0_pay19
    generalize k0_pay17 (s0 r.wg) (s1 r.wg) = w
    pointwise
  rw [e]
  exact Finset.sum_congr rfl fun k _ => by rw [wg_block]

theorem up_block (i : Fin 256) (q : Fin 704) : up r xn (ix2 i q) = ∑ k : Fin 1024, xn (ix2 i k) * wcol r.wu k q :=
  gate_block { r with wg := r.wu } xn i q

theorem dh_block (i : Fin 256) (q : Fin 704) : k0_pay24 dyb r.wd (ix2 i q) = ∑ k : Fin 1024, dyb (ix2 i k) * wrow r.wd q k := by
  unfold wrow
  pointwise [k0_pay24]

theorem sg_block (g : Vec Ideal S256x704 .f32) (j : S256x704.Idx) : k0_pay22 (F := Ideal) g (k0_pay21 (F := Ideal)) j = sg (g j) := by
  pointwise [k0_pay22, k0_pay21, sg]
  rw [zero_sub]

theorem dUp_block (g : Vec Ideal S256x704 .f32) (wd : Vec Ideal S2x352x1024 .bf16) (j : S256x704.Idx) :
    k0_pay25 (F := Ideal) dyb g (k0_pay21 (F := Ideal)) wd j = k0_pay24 dyb wd j * (g j * sg (g j)) := by
  rw [← sg_block]
  unfold k0_pay25 k0_pay23
  generalize k0_pay24 dyb wd = d
  generalize k0_pay22 (F := Ideal) g (k0_pay21 (F := Ideal)) = s
  pointwise

theorem dGate_block (g u : Vec Ideal S256x704 .f32) (wd : Vec Ideal S2x352x1024 .bf16) (j : S256x704.Idx) :
    k0_pay26 (F := Ideal) dyb g u (k0_pay21 (F := Ideal)) wd j = dgateK (k0_pay24 dyb wd j) (g j) (u j) := by
  unfold dgateK
  rw [← sg_block]
  unfold k0_pay26
  generalize k0_pay24 dyb wd = d
  generalize k0_pay22 (F := Ideal) g (k0_pay21 (F := Ideal)) = s
  pointwise

/-- The normalised row, scaled. -/
theorem xn_block (x : Vec Ideal S256x1024 .f32) (nw : Vec Ideal S1x1024 .f32) (i : Fin 256) (k : Fin 1024) :
    k0_pay10 x nw (ix2 i k) = x (ix2 i k) * Rms.rstd (fun k => x (ix2 i k)) * nw (ix2 0 k) := by
  pointwise [k0_pay10, Rms.rstd, Rms.msq]

theorem dy_block (d : Vec Ideal S256x1024 .f32) (j : S256x1024.Idx) : k0_pay11 d j = cH * d j := by
  pointwise [k0_pay11]

/-- A column block's part of the normalised rows' gradient is added. -/
theorem addX_block (a : Vec Ideal S256x1024 .f32) (i : Fin 256) (k : Fin 1024) : addX r xn dyb a (ix2 i k)
    = a (ix2 i k) + (∑ q : Fin 704, dGate r xn dyb (ix2 i q) * wcol r.wg k q + ∑ q : Fin 704, dUp r xn dyb (ix2 i q) * wcol r.wu k q) := by
  have e : addX r xn dyb a (ix2 i k) = a (ix2 i k) + (∑ q : Fin 704, dGate r xn dyb (ix2 i q) * k0_pay17 (s0 r.wg) (s1 r.wg) (ix2 k q)
      + ∑ q : Fin 704, dUp r xn dyb (ix2 i q) * k0_pay18 (s0 r.wu) (s1 r.wu) (ix2 k q)) := by
    unfold addX k0_pay2
    generalize k0_pay17 (s0 r.wg) (s1 r.wg) = w
    generalize k0_pay18 (s0 r.wu) (s1 r.wu) = v
    generalize dGate r xn dyb = p
    generalize dUp r xn dyb = q
    pointwise
  rw [e]
  simp only [wg_block, wu_block]

/-- A tile's part of each weight gradient is added. -/
theorem addG_block (a : Vec Ideal S704x1024 .f32) (q : Fin 704) (k : Fin 1024) : addG r xn dyb a (ix2 q k)
    = a (ix2 q k) + ∑ i : Fin 256, dGate r xn dyb (ix2 i q) * xn (ix2 i k) := by
  unfold addG k0_pay28 dGate
  generalize k0_pay26 (F := Ideal) _ _ _ _ _ = p
  pointwise

theorem addU_block (a : Vec Ideal S704x1024 .f32) (q : Fin 704) (k : Fin 1024) : addU r xn dyb a (ix2 q k)
    = a (ix2 q k) + ∑ i : Fin 256, dUp r xn dyb (ix2 i q) * xn (ix2 i k) := by
  unfold addU k0_pay1
  generalize dUp r xn dyb = p
  pointwise

theorem addD_block (a : Vec Ideal S704x1024 .f32) (q : Fin 704) (k : Fin 1024) : addD r xn dyb a (ix2 q k)
    = a (ix2 q k) + ∑ i : Fin 256, gate r xn (ix2 i q) * sg (gate r xn (ix2 i q)) * up r xn (ix2 i q) * dyb (ix2 i k) := by
  simp only [← sg_block]
  unfold addD k0_pay27 k0_pay23
  generalize k0_pay22 (F := Ideal) _ _ = s
  generalize gate r xn = g
  generalize up r xn = u
  pointwise

/-- A tile's part of the norm weight's gradient is added. -/
theorem dn_block (x g : Vec Ideal S256x1024 .f32) (b : Vec Ideal S1x1024 .f32) (k : Fin 1024) :
    k0_pay9 x g b (ix2 0 k) = b (ix2 0 k) + ∑ i : Fin 256, g (ix2 i k) * (x (ix2 i k) * Rms.rstd (fun k => x (ix2 i k))) := by
  pointwise [k0_pay9, k0_pay7, k0_pay6, Rms.rstd, Rms.msq]

/-- The input's gradient. -/
theorem dx_block (x g d : Vec Ideal S256x1024 .f32) (nw : Vec Ideal S1x1024 .f32) (i : Fin 256) (k : Fin 1024) :
    k0_pay8 x nw g d (ix2 i k) = d (ix2 i k) + Rms.gradK (fun k => x (ix2 i k)) (fun k => g (ix2 i k) * nw (ix2 0 k)) k := by
  pointwise [k0_pay8, k0_pay7, k0_pay6, Rms.gradK, Rms.rstd, Rms.msq]

/-- The weight gradients leave as two shards. -/
theorem outG_block (a : Vec Ideal S704x1024 .f32) (s : Fin 2) (j : Fin 352) (k : Fin 1024) :
    k0_pay3 (F := Ideal) a (ix3 s j k) = a (ix2 ⟨s.val * 352 + j.val, by omega⟩ k) := by
  pointwise [k0_pay3]
theorem outU_block (a : Vec Ideal S704x1024 .f32) (s : Fin 2) (j : Fin 352) (k : Fin 1024) :
    k0_pay4 (F := Ideal) a (ix3 s j k) = a (ix2 ⟨s.val * 352 + j.val, by omega⟩ k) := outG_block a s j k
theorem outD_block (a : Vec Ideal S704x1024 .f32) (s : Fin 2) (j : Fin 352) (k : Fin 1024) :
    k0_pay5 (F := Ideal) a (ix3 s j k) = a (ix2 ⟨s.val * 352 + j.val, by omega⟩ k) := outG_block a s j k

theorem zero12 (j : S256x1024.Idx) : k0_pay12 (F := Ideal) j = 0 := by pointwise [k0_pay12]
theorem zero13 (j : S1x1024.Idx) : k0_pay13 (F := Ideal) j = 0 := by pointwise [k0_pay13]
theorem zero14 (j : S704x1024.Idx) : k0_pay14 (F := Ideal) j = 0 := by pointwise [k0_pay14]
theorem zero15 (j : S704x1024.Idx) : k0_pay15 (F := Ideal) j = 0 := by pointwise [k0_pay15]
theorem zero16 (j : S704x1024.Idx) : k0_pay16 (F := Ideal) j = 0 := by pointwise [k0_pay16]

end Cert.Ffn
end
-- ==== Proof.Ffn.Chain.lean ====
module

public import proofs.«01_k».proof.Proof.Ffn.Body
public import proofs.«01_k».proof.Proof.Math.Tiles

@[expose] public section

set_option maxRecDepth 16384

/-!
# The points in their order

What the buffers hold after each grid point, over the blocks the points read: the normalised rows and the rounded
cotangent of a tile (`XN`, `DY`), the gradient of a tile's normalised rows over the column blocks so far (`DX`), the
three weight gradients of the current column block over its tiles so far (`WG`, `WU`, `WD`), and the norm weight's
gradient (`DN`).
-/

noncomputable section

open Idealize.ShloMosaic
open Cert.KernelFfnIdeal Cert.KernelFfnIdeal.Gen Cert.Bands Cert.Tiles

namespace Cert.Ffn

variable {F : FTy → Type} [FloatOps F]

theorem tileCoord : ∀ t : Fin grid0.N, (grid0.coords t 1).val = t.val % 8 := by decide +kernel
theorem cond1_iff : ∀ t : Fin grid0.N, k0_cond1 (grid0.coords t) = 1#1 ↔ t.val < 8 := by decide +kernel
theorem cond2_iff : ∀ t : Fin grid0.N, k0_cond2 (grid0.coords t) = 1#1 ↔ t.val = 0 := by decide +kernel
theorem cond4_iff : ∀ t : Fin grid0.N, k0_cond4 (grid0.coords t) = 1#1 ↔ t.val % 8 = 7 := by decide +kernel
theorem cond5_iff : ∀ t : Fin grid0.N, k0_cond5 (grid0.coords t) = 1#1 ↔ 24 ≤ t.val := by decide +kernel
theorem row_eq (t : Fin grid0.N) : row (grid0.coords t) = 256 * (t.val % 8) := by unfold row; rw [tileCoord]

theorem rows_le (n : ℕ) : 256 * (n % 8) + 256 ≤ 2048 := by omega

/-- A number as a grid point. -/
def pt (n : ℕ) : Fin grid0.N := ⟨n % 32, lt_of_lt_of_eq (Nat.mod_lt _ (by norm_num)) N_0.symm⟩

theorem pt_val (t : Fin grid0.N) : pt t.val = t := Fin.ext (Nat.mod_eq_of_lt (lt_of_lt_of_eq t.isLt N_0))

/-! ## The contents -/

variable (B : ℕ → Reads F)

/-- The normalised rows and the rounded cotangent of point `n`'s tile: stored by the first column block's point. -/
def XN (n : ℕ) : Vec F S256x1024 .bf16 := k0_pay10 (B (n % 8)).x (B (n % 8)).nw
def DY (n : ℕ) : Vec F S256x1024 .bf16 := k0_pay11 (B (n % 8)).dy

/-- The gradient of the tile's normalised rows after point `n`. -/
def DX : ℕ → Vec F S256x1024 .f32 := colAcc 8 (k0_pay12 (F := F)) fun n a => addX (B n) (XN B n) (DY B n) a

/-- The column block's weight gradients after point `n`. -/
def WG : ℕ → Vec F S704x1024 .f32 := rowAcc 8 (k0_pay14 (F := F)) fun n a => addG (B n) (XN B n) (DY B n) a
def WU : ℕ → Vec F S704x1024 .f32 := rowAcc 8 (k0_pay15 (F := F)) fun n a => addU (B n) (XN B n) (DY B n) a
def WD : ℕ → Vec F S704x1024 .f32 := rowAcc 8 (k0_pay16 (F := F)) fun n a => addD (B n) (XN B n) (DY B n) a

/-- The norm weight's gradient after point `n`. -/
def DN : ℕ → Vec F S1x1024 .f32 := tailAcc 24 (k0_pay13 (F := F)) fun n a => k0_pay9 (B n).x (DX B n) a

/-- The input gradient's block at point `n` of the last column block. -/
def DXOUT (n : ℕ) : Vec F S256x1024 .f32 := k0_pay8 (B n).x (B n).nw (DX B n) (B n).dy

/-! ## What is known of the scratch buffers before a point -/

/-- Before point `n`: the last eight points' bands of the three row buffers, and in the middle of a column block its
    weight gradients so far. -/
structure Good (n : ℕ) (f0 f1 : Vec F S2048x1024 .bf16) (f2 : Vec F S2048x1024 .f32) (f3 f4 f5 : Vec F S704x1024 .f32) : Prop where
  xn : Known rows_le n f0 (XN B)
  dy : Known rows_le n f1 (DY B)
  dx : Known rows_le n f2 (DX B)
  wg : n % 8 ≠ 0 → f3 = WG B (n - 1)
  wu : n % 8 ≠ 0 → f4 = WU B (n - 1)
  wd : n % 8 ≠ 0 → f5 = WD B (n - 1)

variable {B} {t : Fin grid0.N} {f0 f1 : Vec F S2048x1024 .bf16} {f2 : Vec F S2048x1024 .f32} {f3 f4 f5 : Vec F S704x1024 .f32}

theorem good_zero : Good B 0 f0 f1 f2 f3 f4 f5 :=
  ⟨known_zero, known_zero, known_zero, fun h => absurd rfl h, fun h => absurd rfl h, fun h => absurd rfl h⟩

/-- A tile of a buffer, by the tile's number. -/
theorem tile_eq {e : EltTy} (t : Fin grid0.N) (X : Vec F S2048x1024 e) : tile (grid0.coords t) X = band (256 * (t.val % 8)) (rows_le t.val) X := by
  unfold tile; congr 1; exact row_eq t

/-- A buffer stored while the first column block runs. -/
theorem first_succ {e : EltTy} {X : Vec F S2048x1024 e} {T : ℕ → Vec F S256x1024 e} {v : Vec F S256x1024 e} (h : Known rows_le t.val X T)
    (hv : t.val < 8 → v = T t.val) (hT : 8 ≤ t.val → T t.val = T (t.val - 8)) :
    Known rows_le (t.val + 1) (if k0_cond1 (grid0.coords t) = 1#1 then put (row (grid0.coords t)) X v else X) T := by
  by_cases h4 : t.val < 8
  · rw [if_pos ((cond1_iff t).mpr h4)]
    exact known_put h (row_eq t) (hv h4)
  · rw [if_neg (fun h' => h4 ((cond1_iff t).mp h'))]
    exact known_keep h (by norm_num) (by omega) (hT (by omega))

theorem mod_sub {n : ℕ} (h : 8 ≤ n) : n % 8 = (n - 8) % 8 := by omega

/-- The normalised rows after the point, and the tile of them that it multiplies. -/
theorem xn_succ (h : Good B t.val f0 f1 f2 f3 f4 f5) : Known rows_le (t.val + 1) (xnNew (grid0.coords t) (B t.val) f0) (XN B) :=
  first_succ h.xn (fun h4 => by unfold XN; rw [Nat.mod_eq_of_lt h4]) fun h4 => by unfold XN; rw [mod_sub h4]

theorem xn_tile (h : Good B t.val f0 f1 f2 f3 f4 f5) : tile (grid0.coords t) (xnNew (grid0.coords t) (B t.val) f0) = XN B t.val :=
  (tile_eq t _).trans (xn_succ h t.val (by omega) (by omega))

/-- The rounded cotangent likewise. -/
theorem dy_succ (h : Good B t.val f0 f1 f2 f3 f4 f5) : Known rows_le (t.val + 1) (dyNew (grid0.coords t) (B t.val) f1) (DY B) :=
  first_succ h.dy (fun h4 => by unfold DY; rw [Nat.mod_eq_of_lt h4]) fun h4 => by unfold DY; rw [mod_sub h4]

theorem dy_tile (h : Good B t.val f0 f1 f2 f3 f4 f5) : tile (grid0.coords t) (dyNew (grid0.coords t) (B t.val) f1) = DY B t.val :=
  (tile_eq t _).trans (dy_succ h t.val (by omega) (by omega))

/-- The gradient of the normalised rows that the point stores. -/
theorem dx_eq (h : Good B t.val f0 f1 f2 f3 f4 f5) :
    addX (B t.val) (XN B t.val) (DY B t.val) (tile (grid0.coords t) (dxMid (grid0.coords t) f2)) = DX B t.val := by
  unfold dxMid DX
  by_cases h4 : t.val < 8
  · rw [if_pos ((cond1_iff t).mpr h4), colAcc_low h4]
    unfold tile; rw [band_put]
  · rw [if_neg (fun h' => h4 ((cond1_iff t).mp h')), colAcc_high (by norm_num) (by omega), tile_eq, known_load h.dx (by norm_num) (by omega)]
    rfl

/-- The gradient of the normalised rows after the point, -/
theorem dx_succ (h : Good B t.val f0 f1 f2 f3 f4 f5) : Known rows_le (t.val + 1) (dxNew (grid0.coords t) (B t.val) f0 f1 f2) (DX B) := by
  have e : ∀ v, put (row (grid0.coords t)) (dxMid (grid0.coords t) f2) v = put (row (grid0.coords t)) f2 v := fun v => by
    unfold dxMid; split
    · exact put_put _ _ _ _
    · rfl
  unfold dxNew
  rw [e, xn_tile h, dy_tile h]
  exact known_put h.dx (row_eq t) (dx_eq h)

/-- and its tile. -/
theorem dx_tile (h : Good B t.val f0 f1 f2 f3 f4 f5) : tile (grid0.coords t) (dxNew (grid0.coords t) (B t.val) f0 f1 f2) = DX B t.val :=
  (tile_eq t _).trans (dx_succ h t.val (by omega) (by omega))

/-- The weight gradients the point leaves. -/
theorem wg_eq (h : Good B t.val f0 f1 f2 f3 f4 f5) : gNew (grid0.coords t) (B t.val) f0 f1 f3 = WG B t.val := by
  unfold gNew WG; rw [xn_tile h, dy_tile h, tileCoord, ← rowAcc_step h.wg]
theorem wu_eq (h : Good B t.val f0 f1 f2 f3 f4 f5) : uNew (grid0.coords t) (B t.val) f0 f1 f4 = WU B t.val := by
  unfold uNew WU; rw [xn_tile h, dy_tile h, tileCoord, ← rowAcc_step h.wu]
theorem wd_eq (h : Good B t.val f0 f1 f2 f3 f4 f5) : dNew (grid0.coords t) (B t.val) f0 f1 f5 = WD B t.val := by
  unfold dNew WD; rw [xn_tile h, dy_tile h, tileCoord, ← rowAcc_step h.wd]

/-- A point's stores keep what is known. -/
theorem good_succ (h : Good B t.val f0 f1 f2 f3 f4 f5) :
    Good B (t.val + 1) (xnNew (grid0.coords t) (B t.val) f0) (dyNew (grid0.coords t) (B t.val) f1) (dxNew (grid0.coords t) (B t.val) f0 f1 f2)
      (gNew (grid0.coords t) (B t.val) f0 f1 f3) (uNew (grid0.coords t) (B t.val) f0 f1 f4) (dNew (grid0.coords t) (B t.val) f0 f1 f5) :=
  ⟨xn_succ h, dy_succ h, dx_succ h, fun _ => wg_eq h, fun _ => wu_eq h, fun _ => wd_eq h⟩

end Cert.Ffn
end
-- ==== Proof.Ffn.Frame.lean ====
module

public import proofs.«01_k».proof.Proof.Ffn.Chain
public import Idealize.ShloMosaic.Lib.Pipeline.TableIdle

@[expose] public section

set_option maxRecDepth 16384

/-!
# The frame of SwiGLU's gradient

The region's proof data over the points' contents (`Chain`), the body's obligation at every point, and the launch.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelFfnIdeal Cert.KernelFfnIdeal.Gen Cert.Bands Cert.Tiles

namespace Cert.Ffn

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- The blocks the region's arrays hold. -/
def blocks (c : Dev nD) (n : ℕ) : Reads F where
  x := iblk m c 0 (pt n)
  dy := iblk m c 1 (pt n)
  nw := iblk m c 2 (pt n)
  wg := iblk m c 3 (pt n)
  wu := iblk m c 4 (pt n)
  wd := iblk m c 5 (pt n)

theorem blocks_x (c : Dev nD) (t : Fin cfg0.N) : (blocks m c t.val).x = iblk m c 0 t := by
  show (fun s : Fin cfg0.N => (iblk m c 0 s : Vec F S256x1024 .f32)) (pt t.val) = _; rw [pt_val]
theorem blocks_dy (c : Dev nD) (t : Fin cfg0.N) : (blocks m c t.val).dy = iblk m c 1 t := by
  show (fun s : Fin cfg0.N => (iblk m c 1 s : Vec F S256x1024 .f32)) (pt t.val) = _; rw [pt_val]
theorem blocks_nw (c : Dev nD) (t : Fin cfg0.N) : (blocks m c t.val).nw = iblk m c 2 t := by
  show (fun s : Fin cfg0.N => (iblk m c 2 s : Vec F S1x1024 .f32)) (pt t.val) = _; rw [pt_val]
theorem blocks_wg (c : Dev nD) (t : Fin cfg0.N) : (blocks m c t.val).wg = iblk m c 3 t := by
  show (fun s : Fin cfg0.N => (iblk m c 3 s : Vec F S2x1024x352 .bf16)) (pt t.val) = _; rw [pt_val]
theorem blocks_wu (c : Dev nD) (t : Fin cfg0.N) : (blocks m c t.val).wu = iblk m c 4 t := by
  show (fun s : Fin cfg0.N => (iblk m c 4 s : Vec F S2x1024x352 .bf16)) (pt t.val) = _; rw [pt_val]
theorem blocks_wd (c : Dev nD) (t : Fin cfg0.N) : (blocks m c t.val).wd = iblk m c 5 t := by
  show (fun s : Fin cfg0.N => (iblk m c 5 s : Vec F S2x352x1024 .bf16)) (pt t.val) = _; rw [pt_val]

abbrev sc0 : Memref sig .tc .vmem S2048x1024 .bf16 := Memref.whole cc0_scratch0
abbrev sc1 : Memref sig .tc .vmem S2048x1024 .bf16 := Memref.whole cc0_scratch1
abbrev sc2 : Memref sig .tc .vmem S2048x1024 .f32 := Memref.whole cc0_scratch2
abbrev sc3 : Memref sig .tc .vmem S704x1024 .f32 := Memref.whole cc0_scratch3
abbrev sc4 : Memref sig .tc .vmem S704x1024 .f32 := Memref.whole cc0_scratch4
abbrev sc5 : Memref sig .tc .vmem S704x1024 .f32 := Memref.whole cc0_scratch5

/-- What the launch hands over: the scratch buffers at some contents, and the generator's register. -/
theorem launched (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- Before point `n`: the scratch buffers at contents of which `Good` is known. -/
def Phi (c : Dev nD) (n : ℕ) : sProp 𝕄 :=
  iprop(∃ f0 f1 f2 f3 f4 f5, ⌜Good (blocks m c) n f0 f1 f2 f3 f4 f5⌝ ∗ owns (c : Thread nD τ) sc0 fullShare f0 ∗ owns (c : Thread nD τ) sc1 fullShare f1 ∗ owns (c : Thread nD τ) sc2 fullShare f2 ∗ owns (c : Thread nD τ) sc3 fullShare f3 ∗ owns (c : Thread nD τ) sc4 fullShare f4 ∗ owns (c : Thread nD τ) sc5 fullShare f5 ∗ (∃ r, prngReg c r))

/-- The proof data: inputs at their blocks, outputs at the points' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => DXOUT (blocks m c) t.val
    | ⟨7, _⟩ => k0_pay3 (WG (blocks m c) t.val)
    | ⟨8, _⟩ => k0_pay4 (WU (blocks m c) t.val)
    | ⟨9, _⟩ => k0_pay5 (WD (blocks m c) t.val)
    | ⟨10, _⟩ => DN (blocks m c) t.val
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = DXOUT (blocks m c) t.val := by dsimp only [dats]
theorem after0_7 (c : Dev nD) (t : Fin cfg0.N) : (dats m 0 c).after 7 t = k0_pay3 (WG (blocks m c) t.val) := by dsimp only [dats]
theorem after0_8 (c : Dev nD) (t : Fin cfg0.N) : (dats m 0 c).after 8 t = k0_pay4 (WU (blocks m c) t.val) := by dsimp only [dats]
theorem after0_9 (c : Dev nD) (t : Fin cfg0.N) : (dats m 0 c).after 9 t = k0_pay5 (WD (blocks m c) t.val) := by dsimp only [dats]
theorem after0_10 (c : Dev nD) (t : Fin cfg0.N) : (dats m 0 c).after 10 t = DN (blocks m c) t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem idle10 : ∀ t : Fin grid0.N, cfg0.idle 10 (grid0.coords t) = true → t.val ≠ 0 ∧ t.val < 24 := by decide +kernel
theorem idle10' : ∀ t : Fin grid0.N, t.val ≠ 0 → t.val < 24 → cfg0.idle 10 (grid0.coords t) = true ∧ (cfg0.win 10).flush t = false := by decide +kernel
theorem live10 : ∀ t : Fin grid0.N, (t.val = 0 ∨ 24 ≤ t.val) → cfg0.idle 10 (grid0.coords t) = false := by decide +kernel

theorem fresh10 : ∀ n, n < 32 → cfg0.fresh 10 n = decide (n = 0)
  | 0, _ => rfl
  | n + 1, h => by
    have hN : n < cfg0.N := lt_of_lt_of_eq (by omega) (show 32 = cfg0.N from N_0.symm)
    rw [Cfg.fresh_succ cfg0 10 n hN, fresh10 n (by omega)]
    have hf : (cfg0.win 10).flush ⟨n, hN⟩ = false := Bool.eq_false_iff.mpr fun h' => by have := (flush0_10 _).mp h'; dsimp only at this; omega
    rw [hf, Bool.false_or]
    by_cases h0 : n = 0
    · have : cfg0.idle 10 (cfg0.grid.coords ⟨n, hN⟩) = false := live10 ⟨n, hN⟩ (Or.inl h0)
      rw [this]; simp
    · simp [h0]

/-- After the first point the norm weight's window holds what the point before left, idle points between. -/
theorem before0_10 (c : Dev nD) (t : Fin cfg0.N) (h : t.val ≠ 0) (d) : (dats m 0 c).before 10 t d = DN (blocks m c) (t.val - 1) := by
  have hN : t.val < 32 := lt_of_lt_of_eq t.isLt (show cfg0.N = 32 from N_0)
  rw [(dats m 0 c).before_out_traj 10 rfl (fun _ _ => rfl) (fun s hs hi _ => by
      rw [after0_10, after0_10]
      exact (tailAcc_low (idle10 s hi).2).trans (tailAcc_low (show s.val - 1 < 24 by have := (idle10 s hi).2; omega)).symm) t.val t rfl d, fresh10 _ hN, if_neg (by simpa using h), after0_10]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

variable {f0 : Vec F S2048x1024 .bf16} {f1 : Vec F S2048x1024 .bf16} {f2 : Vec F S2048x1024 .f32} {f3 : Vec F S704x1024 .f32} {f4 : Vec F S704x1024 .f32} {f5 : Vec F S704x1024 .f32} {m}

theorem idle6 : ∀ t : Fin grid0.N, t.val < 24 → cfg0.idle 6 (grid0.coords t) = true ∧ (cfg0.win 6).flush t = false := by decide +kernel
theorem live6 : ∀ t : Fin grid0.N, ¬t.val < 24 → cfg0.idle 6 (grid0.coords t) = false := by decide +kernel

/-- The input gradient's window after the point. -/
theorem leaves6 (c : Dev nD) (t : Fin cfg0.N) (h : Good (blocks m c) t.val f0 f1 f2 f3 f4 f5) (d) :
    owns (c : Thread nD τ) (st0_6 t) fullShare (dxOut (grid0.coords t) (blocks m c t.val) ((dats m 0 c).before 6 t d) f0 f1 f2)
      ⊢ ((dats m 0 c).leavesExact 6 t : sProp 𝕄) := by
  by_cases hL : t.val < 24
  · rw [(dats m 0 c).leavesExact_idle 6 t (idle6 t hL).1 (idle6 t hL).2]
    unfold dxOut; rw [if_neg (fun h' => by have := (cond5_iff t).mp h'; omega)]
    iintro H; iexists _; iexact H
  · rw [leavesExact_live _ 6 t (live6 t hL), after0_6]
    unfold dxOut; rw [if_pos ((cond5_iff t).mpr (by omega)), dx_tile h]
    exact .rfl

theorem idle7 : ∀ t : Fin grid0.N, ¬t.val % 8 = 7 → cfg0.idle 7 (grid0.coords t) = true ∧ (cfg0.win 7).flush t = false := by decide +kernel
theorem live7 : ∀ t : Fin grid0.N, t.val % 8 = 7 → cfg0.idle 7 (grid0.coords t) = false := by decide +kernel

/-- The weight gradients' windows after the point. -/
theorem leaves7 (c : Dev nD) (t : Fin cfg0.N) (h : Good (blocks m c) t.val f0 f1 f2 f3 f4 f5) (d) :
    owns (c : Thread nD τ) (st0_7 t) fullShare (gOut (grid0.coords t) (blocks m c t.val) ((dats m 0 c).before 7 t d) f0 f1 f3)
      ⊢ ((dats m 0 c).leavesExact 7 t : sProp 𝕄) := by
  unfold gOut
  by_cases hl : t.val % 8 = 7
  · rw [leavesExact_live _ 7 t (live7 t hl), after0_7, if_pos ((cond4_iff t).mpr hl), wg_eq h]
  · rw [(dats m 0 c).leavesExact_idle 7 t (idle7 t hl).1 (idle7 t hl).2, if_neg (fun h' => hl ((cond4_iff t).mp h'))]
    iintro H; iexists _; iexact H

theorem idle8 : ∀ t : Fin grid0.N, ¬t.val % 8 = 7 → cfg0.idle 8 (grid0.coords t) = true ∧ (cfg0.win 8).flush t = false := by decide +kernel
theorem live8 : ∀ t : Fin grid0.N, t.val % 8 = 7 → cfg0.idle 8 (grid0.coords t) = false := by decide +kernel

/-- The second. -/
theorem leaves8 (c : Dev nD) (t : Fin cfg0.N) (h : Good (blocks m c) t.val f0 f1 f2 f3 f4 f5) (d) :
    owns (c : Thread nD τ) (st0_8 t) fullShare (uOut (grid0.coords t) (blocks m c t.val) ((dats m 0 c).before 8 t d) f0 f1 f4)
      ⊢ ((dats m 0 c).leavesExact 8 t : sProp 𝕄) := by
  unfold uOut
  by_cases hl : t.val % 8 = 7
  · rw [leavesExact_live _ 8 t (live8 t hl), after0_8, if_pos ((cond4_iff t).mpr hl), wu_eq h]
  · rw [(dats m 0 c).leavesExact_idle 8 t (idle8 t hl).1 (idle8 t hl).2, if_neg (fun h' => hl ((cond4_iff t).mp h'))]
    iintro H; iexists _; iexact H

theorem idle9 : ∀ t : Fin grid0.N, ¬t.val % 8 = 7 → cfg0.idle 9 (grid0.coords t) = true ∧ (cfg0.win 9).flush t = false := by decide +kernel
theorem live9 : ∀ t : Fin grid0.N, t.val % 8 = 7 → cfg0.idle 9 (grid0.coords t) = false := by decide +kernel

/-- The third. -/
theorem leaves9 (c : Dev nD) (t : Fin cfg0.N) (h : Good (blocks m c) t.val f0 f1 f2 f3 f4 f5) (d) :
    owns (c : Thread nD τ) (st0_9 t) fullShare (dOut (grid0.coords t) (blocks m c t.val) ((dats m 0 c).before 9 t d) f0 f1 f5)
      ⊢ ((dats m 0 c).leavesExact 9 t : sProp 𝕄) := by
  unfold dOut
  by_cases hl : t.val % 8 = 7
  · rw [leavesExact_live _ 9 t (live9 t hl), after0_9, if_pos ((cond4_iff t).mpr hl), wd_eq h]
  · rw [(dats m 0 c).leavesExact_idle 9 t (idle9 t hl).1 (idle9 t hl).2, if_neg (fun h' => hl ((cond4_iff t).mp h'))]
    iintro H; iexists _; iexact H

/-- The norm weight's window after the point. -/
theorem leaves10 (c : Dev nD) (t : Fin cfg0.N) (h : Good (blocks m c) t.val f0 f1 f2 f3 f4 f5) (d) :
    owns (c : Thread nD τ) (st0_10 t) fullShare (dnNew (grid0.coords t) (blocks m c t.val) ((dats m 0 c).before 10 t d) f0 f1 f2) ⊢ ((dats m 0 c).leavesExact 10 t : sProp 𝕄) := by
  unfold dnNew dnMid
  by_cases hL : t.val < 24
  · rw [if_neg (fun h' => by have := (cond5_iff t).mp h'; omega)]
    by_cases h0 : t.val = 0
    · rw [if_pos ((cond2_iff t).mpr h0), leavesExact_live _ 10 t (live10 t (Or.inl h0)), after0_10]
      exact Entails.of_eq (congrArg _ (tailAcc_low hL).symm)
    · rw [if_neg (fun h' => h0 ((cond2_iff t).mp h')), (dats m 0 c).leavesExact_idle 10 t (idle10' t h0 hL).1 (idle10' t h0 hL).2]
      iintro H; iexists _; iexact H
  · rw [if_pos ((cond5_iff t).mpr (by omega)), if_neg (fun h' => hL (by have := (cond2_iff t).mp h'; omega)), dx_tile h,
      leavesExact_live _ 10 t (live10 t (Or.inr (by omega))), after0_10, before0_10 m c t (by omega)]
    exact Entails.of_eq (congrArg _ (tailAcc_high (by norm_num) (by omega)).symm)

variable (m)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, ← blocks_x, ← blocks_dy, ← blocks_nw, ← blocks_wg, ← blocks_wu, ← blocks_wd]
  rw [show (dats m 0 c).owesAt () t.succ = (dats m 0 c).owesAt () t.castSucc from rfl, after0_0, after0_1, after0_2, after0_3, after0_4, after0_5]
  rw [show (dats m 0 c).Φ t.castSucc = Phi m c t.val from rfl, show (dats m 0 c).Φ t.succ = Phi m c (t.val + 1) from rfl]
  simp only [← blocks_x, ← blocks_dy, ← blocks_nw, ← blocks_wg, ← blocks_wu, ← blocks_wd]
  unfold Phi
  iintro ⟨⟨%f0, %f1, %f2, %f3, %f4, %f5, %hg, S0, S1, S2, S3, S4, S5, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ _ _ _ _ _ _ _ _ _ _ _ _ (blocks m c t.val) ((dats m 0 c).before 6 t d6) ((dats m 0 c).before 7 t d7) ((dats m 0 c).before 8 t d8) ((dats m 0 c).before 9 t d9) ((dats m 0 c).before 10 t d10) f0 f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hr]
  · iexists _; iexists _; iexists _; iexists _; iexists _; iexists _
    isplitr
    · ipureintro; exact good_succ hg
    isplitl [S0]; · iexact S0
    isplitl [S1]; · iexact S1
    isplitl [S2]; · iexact S2
    isplitl [S3]; · iexact S3
    isplitl [S4]; · iexact S4
    isplitl [S5]; · iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 c t hg d6); iexact H6
  isplitl [H7]; · iapply (leaves7 c t hg d7); iexact H7
  isplitl [H8]; · iapply (leaves8 c t hg d8); iexact H8
  isplitl [H9]; · iapply (leaves9 c t hg d9); iexact H9
  iapply (leaves10 c t hg d10); iexact H10

theorem defs₀_row (t : Fin cfg0.N) : defs₀ (F := F) .tc cfg0.body (cfg0.bodyArgs t (cfg0.slots t)) = bodyAt0 t := by
  unfold defs₀; rw [Defs.onTc_tc]

/-- The obligation of the region's body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, launched]
  unfold Phi
  iintro ⟨⟨⟨%f0, S0⟩, ⟨%f1, S1⟩, ⟨%f2, S2⟩, ⟨%f3, S3⟩, ⟨%f4, S4⟩, ⟨%f5, S5⟩⟩, Hr⟩
  iexists f0; iexists f1; iexists f2; iexists f3; iexists f4; iexists f5
  isplitr
  · ipureintro; exact good_zero
  isplitl [S0]; · iexact S0
  isplitl [S1]; · iexact S1
  isplitl [S2]; · iexact S2
  isplitl [S3]; · iexact S3
  isplitl [S4]; · iexact S4
  isplitl [S5]; · iexact S5
  iexact Hr

theorem hout (c : Dev nD) : (dats m 0 c).Φ (Fin.last cfg0.N) ⊢ Pipeline.ΦA spec0 c := by
  rw [show (dats m 0 c).Φ (Fin.last cfg0.N) = Phi m c cfg0.N from rfl, launched]
  unfold Phi
  iintro ⟨%f0, %f1, %f2, %f3, %f4, %f5, %hg, S0, S1, S2, S3, S4, S5, Hr⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hr

set_option backward.isDefEq.respectTransparency.types false in
/-- The launch: every weakly fair execution ends, the arrays at what the proof data say, the counters at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program ends, its arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Ffn
end
-- ==== Proof.Ffn.Value.lean ====
module

public import proofs.«01_k».proof.Proof.Ffn.Block
public import proofs.«01_k».proof.Proof.Ffn.Frame

@[expose] public section

set_option maxRecDepth 16384

/-!
# What the SwiGLU backward kernel leaves in its five result arrays

The kernel walks eight tiles of 256 rows for each of four blocks of 704 hidden columns; a block of columns is two shards
of 352 columns next to each other.
-/

noncomputable section

open Idealize Idealize.ShloMosaic Idealize.ShloMosaic.Pipeline Idealize.ShloMosaic.TcCoe Idealize.SL
open Cert.KernelFfnIdeal Cert.KernelFfnIdeal.Gen Cert.Tiles

namespace Cert.Ffn

variable (X D : Vec Ideal S2048x1024 .f32) (nw : Vec Ideal S1024 .f32) (Wg Wu : Vec Ideal S1024x2816 .f32) (Wd : Vec Ideal S2816x1024 .f32)

/-- A row of the norm's input. -/
abbrev xrow (i : Fin 2048) (k : Fin 1024) : EReal := X (ix2 i k)
/-- The normalised rows, scaled. -/
def xnM (i : Fin 2048) (k : Fin 1024) : EReal := X (ix2 i k) * Rms.rstd (xrow X i) * nw (ix1 k)
/-- The gradient that enters the layer: half of the cotangent. -/
def dyM (i : Fin 2048) (k : Fin 1024) : EReal := cH * D (ix2 i k)
/-- The gate's product, and with the other weight the second factor's. -/
def gateM (i : Fin 2048) (q : Fin 2816) : EReal := ∑ k : Fin 1024, xnM X nw i k * Wg (ix2 k q)
/-- The gradient of the hidden row. -/
def dhM (i : Fin 2048) (q : Fin 2816) : EReal := ∑ k : Fin 1024, dyM D i k * Wd (ix2 q k)
/-- The gradient of the gate's product. -/
def dgM (i : Fin 2048) (q : Fin 2816) : EReal := dgateK (dhM D Wd i q) (gateM X nw Wg i q) (gateM X nw Wu i q)
/-- The gradient of the second factor's product. -/
def duM (i : Fin 2048) (q : Fin 2816) : EReal := dhM D Wd i q * (gateM X nw Wg i q * sg (gateM X nw Wg i q))
/-- The hidden row. -/
def hM (i : Fin 2048) (q : Fin 2816) : EReal := gateM X nw Wg i q * sg (gateM X nw Wg i q) * gateM X nw Wu i q
/-- The gradient of the normalised rows. -/
def gM (i : Fin 2048) (k : Fin 1024) : EReal :=
  ∑ q : Fin 2816, dgM X D nw Wg Wu Wd i q * Wg (ix2 k q) + ∑ q : Fin 2816, duM X D nw Wg Wd i q * Wu (ix2 k q)
/-- The gradient of the input. -/
def dxM (j : S2048x1024.Idx) : EReal := D j + Rms.gradK (xrow X (j 0)) (fun k => gM X D nw Wg Wu Wd (j 0) k * nw (ix1 k)) (j 1)
/-- The hidden column that a row of a shard is. -/
def col (s : Fin 8) (r : Fin 352) : Fin 2816 := ⟨s.val * 352 + r.val, by omega⟩
/-- The gradient of the gate's weight, by shards. -/
def dwgM (j : S8x352x1024.Idx) : EReal := ∑ i : Fin 2048, dgM X D nw Wg Wu Wd i (col (j 0) (j 1)) * xnM X nw i (j 2)
/-- The gradient of the second factor's weight, by shards. -/
def dwuM (j : S8x352x1024.Idx) : EReal := ∑ i : Fin 2048, duM X D nw Wg Wd i (col (j 0) (j 1)) * xnM X nw i (j 2)
/-- The gradient of the last weight, by shards. -/
def dwdM (j : S8x352x1024.Idx) : EReal := ∑ i : Fin 2048, hM X nw Wg Wu i (col (j 0) (j 1)) * dyM D i (j 2)
/-- The gradient of the norm's weight. -/
def dnM (j : S1x1024.Idx) : EReal := ∑ i : Fin 2048, gM X D nw Wg Wu Wd i (j 1) * (X (ix2 i (j 1)) * Rms.rstd (xrow X i))

variable (m : (ℓ : Loc nD τ sig) → Buf (Elt Ideal) ℓ) (c : Dev nD)

/-- The arguments of a launch. -/
abbrev aX : Vec Ideal S2048x1024 .f32 := m ((c : Thread nD τ).loc main_arg0)
abbrev aD : Vec Ideal S2048x1024 .f32 := m ((c : Thread nD τ).loc main_arg1)
abbrev aN : Vec Ideal S1024 .f32 := m ((c : Thread nD τ).loc main_arg2)
abbrev aG : Vec Ideal S1024x2816 .f32 := m ((c : Thread nD τ).loc main_arg3)
abbrev aU : Vec Ideal S1024x2816 .f32 := m ((c : Thread nD τ).loc main_arg4)
abbrev aW : Vec Ideal S2816x1024 .f32 := m ((c : Thread nD τ).loc main_arg5)

/-- Which block each operand uses at a point. -/
theorem idxIn : ∀ t : Fin cfg0.N, ((t.val < 8 ∨ 24 ≤ t.val) → win0_0.index t = ![t.val % 8, 0]) ∧ ((t.val < 8 ∨ 24 ≤ t.val) → win0_1.index t = ![t.val % 8, 0])
    ∧ win0_2.index t = ![0, 0]
    ∧ win0_3.index t = ![t.val / 8, 0, 0] ∧ win0_4.index t = ![t.val / 8, 0, 0] ∧ win0_5.index t = ![t.val / 8, 0, 0] := (by decide +kernel : ∀ t : Fin grid0.N, _)

/-- Which block each result uses at a point. -/
theorem idxOut : ∀ t : Fin cfg0.N, (24 ≤ t.val → win0_6.index t = ![t.val % 8, 0]) ∧ win0_7.index t = ![t.val / 8, 0, 0]
    ∧ win0_8.index t = ![t.val / 8, 0, 0] ∧ win0_9.index t = ![t.val / 8, 0, 0] ∧ win0_10.index t = ![0, 0] := (by decide +kernel : ∀ t : Fin grid0.N, _)

theorem lt_32 (t : Fin cfg0.N) : t.val < 32 := lt_of_lt_of_eq t.isLt N_0

/-- The row of the whole array that a tile's row is. -/
def grow (n : ℕ) (i : Fin 256) : Fin 2048 := ⟨n % 8 * 256 + i.val, by omega⟩
/-- The column of the whole array that a block's column is. -/
def gcol (n : ℕ) (h : n < 32) (q : Fin 704) : Fin 2816 := ⟨n / 8 * 704 + q.val, by omega⟩

/-- The shards of a column-sharded weight, as the region finds them. -/
theorem V_g (s : Fin 8) (k : Fin 1024) (r : Fin 352) : V m c main_v5 (ix3 s k r) = aG m c (ix2 k (col s r)) := by
  have e : V m c main_v5 = transpose S8x1024x352 [1, 0, 2] (shapeCast S1024x8x352 (truncf (F := Ideal) .bf16 (aG m c) bitsLt_bf16_f32) shapeCasts_S1024x2816_S1024x8x352) transposes_S1024x8x352_S8x1024x352_1_0_2 := by
    show StableHlo.after _ _ _ = _
    unfold hostOps0
    after_results
    rfl
  rw [e]; unfold col
  pointwise

theorem V_u (s : Fin 8) (k : Fin 1024) (r : Fin 352) : V m c main_v8 (ix3 s k r) = aU m c (ix2 k (col s r)) := by
  have e : V m c main_v8 = transpose S8x1024x352 [1, 0, 2] (shapeCast S1024x8x352 (truncf (F := Ideal) .bf16 (aU m c) bitsLt_bf16_f32) shapeCasts_S1024x2816_S1024x8x352) transposes_S1024x8x352_S8x1024x352_1_0_2 := by
    show StableHlo.after _ _ _ = _
    unfold hostOps0
    after_results
    rfl
  rw [e]; unfold col
  pointwise

theorem V_d (s : Fin 8) (r : Fin 352) (k : Fin 1024) : V m c main_v1 (ix3 s r k) = aW m c (ix2 (col s r) k) := by
  have e : V m c main_v1 = shapeCast S8x352x1024 (truncf (F := Ideal) .bf16 (aW m c) bitsLt_bf16_f32) shapeCasts_S2816x1024_S8x352x1024 := by
    show StableHlo.after _ _ _ = _
    unfold hostOps0
    after_results
    rfl
  rw [e]; unfold col
  pointwise

theorem V_nw (k : Fin 1024) : V m c main_v2 (ix2 0 k) = aN m c (ix1 k) := by
  have e : V m c main_v2 = broadcastInDim S1x1024 ![1] bcast_S1024_S1x1024_1 (aN m c) := by
    show StableHlo.after _ _ _ = _
    unfold hostOps0
    after_results
  rw [e]
  pointwise

theorem x_at (n : ℕ) (h : n < 32) (he : n < 8 ∨ 24 ≤ n) (i : Fin 256) (k : Fin 1024) : (blocks m c n).x (ix2 i k) = aX m c (ix2 (grow n i) k) := by
  obtain ⟨t, rfl⟩ : ∃ t : Fin cfg0.N, t.val = n := ⟨⟨n, lt_of_lt_of_eq h N_0.symm⟩, rfl⟩
  rw [blocks_x]; unfold grow
  blk_point [iblk, V, (idxIn t).1 he]

theorem d_at (n : ℕ) (h : n < 32) (he : n < 8 ∨ 24 ≤ n) (i : Fin 256) (k : Fin 1024) : (blocks m c n).dy (ix2 i k) = aD m c (ix2 (grow n i) k) := by
  obtain ⟨t, rfl⟩ : ∃ t : Fin cfg0.N, t.val = n := ⟨⟨n, lt_of_lt_of_eq h N_0.symm⟩, rfl⟩
  rw [blocks_dy]; unfold grow
  blk_point [iblk, V, (idxIn t).2.1 he]

theorem nw_at (n : ℕ) (h : n < 32) (k : Fin 1024) : (blocks m c n).nw (ix2 0 k) = aN m c (ix1 k) := by
  obtain ⟨t, rfl⟩ : ∃ t : Fin cfg0.N, t.val = n := ⟨⟨n, lt_of_lt_of_eq h N_0.symm⟩, rfl⟩
  rw [blocks_nw]; refine Eq.trans ?_ (V_nw m c k)
  blk_point [iblk, idxIn t]

theorem g_shard (n : ℕ) (h : n < 32) (s : Fin 2) (k : Fin 1024) (r : Fin 352) :
    (blocks m c n).wg (ix3 s k r) = aG m c (ix2 k (col ⟨n / 8 * 2 + s.val, by omega⟩ r)) := by
  obtain ⟨t, rfl⟩ : ∃ t : Fin cfg0.N, t.val = n := ⟨⟨n, lt_of_lt_of_eq h N_0.symm⟩, rfl⟩
  rw [blocks_wg]; refine Eq.trans ?_ (V_g m c ⟨t.val / 8 * 2 + s.val, by omega⟩ k r)
  blk_point [iblk, idxIn t]

theorem u_shard (n : ℕ) (h : n < 32) (s : Fin 2) (k : Fin 1024) (r : Fin 352) :
    (blocks m c n).wu (ix3 s k r) = aU m c (ix2 k (col ⟨n / 8 * 2 + s.val, by omega⟩ r)) := by
  obtain ⟨t, rfl⟩ : ∃ t : Fin cfg0.N, t.val = n := ⟨⟨n, lt_of_lt_of_eq h N_0.symm⟩, rfl⟩
  rw [blocks_wu]; refine Eq.trans ?_ (V_u m c ⟨t.val / 8 * 2 + s.val, by omega⟩ k r)
  blk_point [iblk, idxIn t]

theorem d_shard (n : ℕ) (h : n < 32) (s : Fin 2) (r : Fin 352) (k : Fin 1024) :
    (blocks m c n).wd (ix3 s r k) = aW m c (ix2 (col ⟨n / 8 * 2 + s.val, by omega⟩ r) k) := by
  obtain ⟨t, rfl⟩ : ∃ t : Fin cfg0.N, t.val = n := ⟨⟨n, lt_of_lt_of_eq h N_0.symm⟩, rfl⟩
  rw [blocks_wd]; refine Eq.trans ?_ (V_d m c ⟨t.val / 8 * 2 + s.val, by omega⟩ r k)
  blk_point [iblk, idxIn t]

/-- Two shards side by side are the block's columns. -/
theorem g_at (n : ℕ) (h : n < 32) (k : Fin 1024) (q : Fin 704) : wcol (blocks m c n).wg k q = aG m c (ix2 k (gcol n h q)) := by
  unfold wcol
  split_ifs with hq
  · rw [g_shard m c n h]; exact congrArg _ (congrArg (ix2 k) (Fin.ext (show (n / 8 * 2 + 0) * 352 + q.val = n / 8 * 704 + q.val by omega)))
  · rw [g_shard m c n h]; exact congrArg _ (congrArg (ix2 k) (Fin.ext (show (n / 8 * 2 + 1) * 352 + (q.val - 352) = n / 8 * 704 + q.val by omega)))

theorem u_at (n : ℕ) (h : n < 32) (k : Fin 1024) (q : Fin 704) : wcol (blocks m c n).wu k q = aU m c (ix2 k (gcol n h q)) := by
  unfold wcol
  split_ifs with hq
  · rw [u_shard m c n h]; exact congrArg _ (congrArg (ix2 k) (Fin.ext (show (n / 8 * 2 + 0) * 352 + q.val = n / 8 * 704 + q.val by omega)))
  · rw [u_shard m c n h]; exact congrArg _ (congrArg (ix2 k) (Fin.ext (show (n / 8 * 2 + 1) * 352 + (q.val - 352) = n / 8 * 704 + q.val by omega)))

theorem w_at (n : ℕ) (h : n < 32) (q : Fin 704) (k : Fin 1024) : wrow (blocks m c n).wd q k = aW m c (ix2 (gcol n h q) k) := by
  unfold wrow
  rw [d_shard m c n h]
  refine congrArg _ (congrArg (fun z => ix2 z k) (Fin.ext (show (n / 8 * 2 + q.val / 352) * 352 + q.val % 352 = n / 8 * 704 + q.val by omega)))

/-! ## The contents of scratch buffers and windows, entry by entry -/

theorem grow_mod (n : ℕ) (i : Fin 256) : grow (n % 8) i = grow n i := Fin.ext (show n % 8 % 8 * 256 + i.val = n % 8 * 256 + i.val by omega)

theorem xn_at (n : ℕ) (i : Fin 256) (k : Fin 1024) : XN (blocks m c) n (ix2 i k) = xnM (aX m c) (aN m c) (grow n i) k := by
  unfold XN
  rw [xn_block]
  simp only [x_at m c (n % 8) (by omega) (Or.inl (Nat.mod_lt _ (by norm_num))), nw_at m c (n % 8) (by omega), grow_mod]
  rfl

theorem dy_at (n : ℕ) (i : Fin 256) (k : Fin 1024) : DY (blocks m c) n (ix2 i k) = dyM (aD m c) (grow n i) k := by
  unfold DY
  rw [dy_block, d_at m c (n % 8) (by omega) (Or.inl (Nat.mod_lt _ (by norm_num))), grow_mod]
  rfl

theorem gate_at (n : ℕ) (h : n < 32) (i : Fin 256) (q : Fin 704) :
    gate (blocks m c n) (XN (blocks m c) n) (ix2 i q) = gateM (aX m c) (aN m c) (aG m c) (grow n i) (gcol n h q) := by
  rw [gate_block]
  exact Finset.sum_congr rfl fun k _ => by rw [xn_at, g_at m c n h]

theorem up_at (n : ℕ) (h : n < 32) (i : Fin 256) (q : Fin 704) :
    up (blocks m c n) (XN (blocks m c) n) (ix2 i q) = gateM (aX m c) (aN m c) (aU m c) (grow n i) (gcol n h q) := by
  rw [up_block]
  exact Finset.sum_congr rfl fun k _ => by rw [xn_at, u_at m c n h]

theorem dh_at (n : ℕ) (h : n < 32) (i : Fin 256) (q : Fin 704) :
    k0_pay24 (DY (blocks m c) n) (blocks m c n).wd (ix2 i q) = dhM (aD m c) (aW m c) (grow n i) (gcol n h q) := by
  rw [dh_block]
  exact Finset.sum_congr rfl fun k _ => by rw [dy_at, w_at m c n h]

theorem dg_at (n : ℕ) (h : n < 32) (i : Fin 256) (q : Fin 704) : dGate (blocks m c n) (XN (blocks m c) n) (DY (blocks m c) n) (ix2 i q)
    = dgM (aX m c) (aD m c) (aN m c) (aG m c) (aU m c) (aW m c) (grow n i) (gcol n h q) := by
  unfold dGate
  rw [dGate_block, dh_at m c n h, gate_at m c n h, up_at m c n h]
  rfl

theorem du_at (n : ℕ) (h : n < 32) (i : Fin 256) (q : Fin 704) : dUp (blocks m c n) (XN (blocks m c) n) (DY (blocks m c) n) (ix2 i q)
    = duM (aX m c) (aD m c) (aN m c) (aG m c) (aW m c) (grow n i) (gcol n h q) := by
  unfold dUp
  rw [dUp_block, dh_at m c n h, gate_at m c n h]
  rfl

/-- After the last column block the gradient of the normalised rows is whole. -/
theorem dx_at (t : ℕ) (ht : t < 8) (i : Fin 256) (k : Fin 1024) :
    DX (blocks m c) (8 * 3 + t) (ix2 i k) = gM (aX m c) (aD m c) (aN m c) (aG m c) (aU m c) (aW m c) (grow t i) k := by
  refine (colAcc_sum (f := fun n => ∑ q : Fin 704, dGate (blocks m c n) (XN (blocks m c) n) (DY (blocks m c) n) (ix2 i q) * wcol (blocks m c n).wg k q
      + ∑ q : Fin 704, dUp (blocks m c n) (XN (blocks m c) n) (DY (blocks m c) n) (ix2 i q) * wcol (blocks m c n).wu k q) (ix2 i k)
    (by norm_num) (zero12 _) (fun n a => addX_block _ _ _ _ _ _) 3 t ht).trans ?_
  rw [Finset.sum_add_distrib]
  unfold gM
  have e1 (s : Fin 4) : grow (8 * s.val + t) i = grow t i := Fin.ext (show (8 * s.val + t) % 8 * 256 + i.val = t % 8 * 256 + i.val by omega)
  have e2 (s : Fin 4) (hn : 8 * s.val + t < 32) (q : Fin 704) (hl : s.val * 704 + q.val < 4 * 704) : gcol (8 * s.val + t) hn q = ⟨s.val * 704 + q.val, hl⟩ :=
    Fin.ext (show (8 * s.val + t) / 8 * 704 + q.val = s.val * 704 + q.val by omega)
  congr 1
  · refine Fin.sum_mul_add_congr (S := 4) (n := 704) (F := fun s q => dGate (blocks m c (8 * s.val + t)) (XN (blocks m c) (8 * s.val + t)) (DY (blocks m c) (8 * s.val + t)) (ix2 i q)
      * wcol (blocks m c (8 * s.val + t)).wg k q) fun s q hl => ?_
    have hn : 8 * s.val + t < 32 := by omega
    rw [dg_at m c _ hn, g_at m c _ hn, e1, e2 s hn q hl]
  · refine Fin.sum_mul_add_congr (S := 4) (n := 704) (F := fun s q => dUp (blocks m c (8 * s.val + t)) (XN (blocks m c) (8 * s.val + t)) (DY (blocks m c) (8 * s.val + t)) (ix2 i q)
      * wcol (blocks m c (8 * s.val + t)).wu k q) fun s q hl => ?_
    have hn : 8 * s.val + t < 32 := by omega
    rw [du_at m c _ hn, u_at m c _ hn, e1, e2 s hn q hl]

theorem row_col (b : ℕ) (hb : b < 4) (s : Fin 8) (i : Fin 256) (q : Fin 704) (hl : s.val * 256 + i.val < 8 * 256) (hn : 8 * b + s.val < 32) :
    grow (8 * b + s.val) i = ⟨s.val * 256 + i.val, hl⟩ ∧ gcol (8 * b + s.val) hn q = gcol (8 * b) (by omega) q :=
  ⟨Fin.ext (show (8 * b + s.val) % 8 * 256 + i.val = s.val * 256 + i.val by omega),
    Fin.ext (show (8 * b + s.val) / 8 * 704 + q.val = 8 * b / 8 * 704 + q.val by omega)⟩

/-- At the last tile of a column block its weight gradients are whole. -/
theorem wg_at (b : ℕ) (hb : b < 4) (q : Fin 704) (k : Fin 1024) : WG (blocks m c) (8 * b + 7) (ix2 q k)
    = ∑ i : Fin 2048, dgM (aX m c) (aD m c) (aN m c) (aG m c) (aU m c) (aW m c) i (gcol (8 * b) (by omega) q) * xnM (aX m c) (aN m c) i k := by
  refine (rowAcc_sum (f := fun n => ∑ i : Fin 256, dGate (blocks m c n) (XN (blocks m c) n) (DY (blocks m c) n) (ix2 i q) * XN (blocks m c) n (ix2 i k)) (ix2 q k)
    (by norm_num) (zero14 _) (fun n a => addG_block _ _ _ _ _ _) b 7 (by norm_num)).trans ?_
  refine Fin.sum_mul_add_congr (S := 8) (n := 256) fun s i hl => ?_
  have hn : 8 * b + s.val < 32 := by omega
  obtain ⟨e1, e2⟩ := row_col b hb s i q hl hn
  rw [xn_at m c, dg_at m c _ hn, e1, e2]

theorem wu_at (b : ℕ) (hb : b < 4) (q : Fin 704) (k : Fin 1024) : WU (blocks m c) (8 * b + 7) (ix2 q k)
    = ∑ i : Fin 2048, duM (aX m c) (aD m c) (aN m c) (aG m c) (aW m c) i (gcol (8 * b) (by omega) q) * xnM (aX m c) (aN m c) i k := by
  refine (rowAcc_sum (f := fun n => ∑ i : Fin 256, dUp (blocks m c n) (XN (blocks m c) n) (DY (blocks m c) n) (ix2 i q) * XN (blocks m c) n (ix2 i k)) (ix2 q k)
    (by norm_num) (zero15 _) (fun n a => addU_block _ _ _ _ _ _) b 7 (by norm_num)).trans ?_
  refine Fin.sum_mul_add_congr (S := 8) (n := 256) fun s i hl => ?_
  have hn : 8 * b + s.val < 32 := by omega
  obtain ⟨e1, e2⟩ := row_col b hb s i q hl hn
  rw [xn_at m c, du_at m c _ hn, e1, e2]

theorem wd_at (b : ℕ) (hb : b < 4) (q : Fin 704) (k : Fin 1024) : WD (blocks m c) (8 * b + 7) (ix2 q k)
    = ∑ i : Fin 2048, hM (aX m c) (aN m c) (aG m c) (aU m c) i (gcol (8 * b) (by omega) q) * dyM (aD m c) i k := by
  refine (rowAcc_sum (f := fun n => ∑ i : Fin 256, gate (blocks m c n) (XN (blocks m c) n) (ix2 i q) * sg (gate (blocks m c n) (XN (blocks m c) n) (ix2 i q))
      * up (blocks m c n) (XN (blocks m c) n) (ix2 i q) * DY (blocks m c) n (ix2 i k)) (ix2 q k)
    (by norm_num) (zero16 _) (fun n a => addD_block _ _ _ _ _ _) b 7 (by norm_num)).trans ?_
  refine Fin.sum_mul_add_congr (S := 8) (n := 256) fun s i hl => ?_
  have hn : 8 * b + s.val < 32 := by omega
  obtain ⟨e1, e2⟩ := row_col b hb s i q hl hn
  rw [dy_at m c, gate_at m c _ hn, up_at m c _ hn, e1, e2]
  rfl

/-- After the last point the norm weight's gradient is whole. -/
theorem dn_at (k : Fin 1024) : DN (blocks m c) (24 + 7) (ix2 0 k) = dnM (aX m c) (aD m c) (aN m c) (aG m c) (aU m c) (aW m c) (ix2 0 k) := by
  refine (tailAcc_sum (f := fun n => ∑ i : Fin 256, DX (blocks m c) n (ix2 i k) * ((blocks m c n).x (ix2 i k) * Rms.rstd (fun k => (blocks m c n).x (ix2 i k)))) (ix2 0 k)
    (by norm_num) (zero13 _) (fun n a => dn_block _ _ _ _) 7).trans ?_
  refine Fin.sum_mul_add_congr (S := 8) (n := 256) fun s i hl => ?_
  have hs := s.isLt
  rw [show 24 + s.val = 8 * 3 + s.val from rfl, dx_at m c s.val hs]
  simp only [x_at m c (8 * 3 + s.val) (by omega) (Or.inr (by omega))]
  have e1 : grow s.val i = ⟨s.val * 256 + i.val, hl⟩ := Fin.ext (show s.val % 8 * 256 + i.val = s.val * 256 + i.val by omega)
  have e2 : grow (8 * 3 + s.val) i = ⟨s.val * 256 + i.val, hl⟩ := Fin.ext (show (8 * 3 + s.val) % 8 * 256 + i.val = s.val * 256 + i.val by omega)
  rw [e1, e2]
  rfl

theorem dxout_at (t : ℕ) (ht : t < 8) (i : Fin 256) (k : Fin 1024) :
    DXOUT (blocks m c) (8 * 3 + t) (ix2 i k) = dxM (aX m c) (aD m c) (aN m c) (aG m c) (aU m c) (aW m c) (ix2 (grow t i) k) := by
  unfold DXOUT
  rw [dx_block]
  have e1 : grow (8 * 3 + t) i = grow t i := Fin.ext (show (8 * 3 + t) % 8 * 256 + i.val = t % 8 * 256 + i.val by omega)
  simp only [x_at m c (8 * 3 + t) (by omega) (Or.inr (by omega)), nw_at m c (8 * 3 + t) (by omega), d_at m c (8 * 3 + t) (by omega) (Or.inr (by omega)), dx_at m c t ht, e1]
  rfl

/-! ## The arrays after the last point -/

theorem flush6 : ∀ t : Fin cfg0.N, (cfg0.win 6).flush t = true → 24 ≤ t.val := (by decide +kernel : ∀ t : Fin grid0.N, _)

theorem dx_final : (dats m 0 c).arrAt 6 (cfgs 0).N = dxM (aX m c) (aD m c) (aN m c) (aG m c) (aU m c) (aW m c) := by
  refine (dats m 0 c).arrAt_eq_of_covers 6 _ (by decide +kernel) fun t hf y => ?_
  blk_simp
  rw [after0_6]
  obtain ⟨i, k, rfl⟩ : ∃ (i : Fin 256) (k : Fin 1024), y = ix2 i k := ⟨y 0, y 1, by funext a; match a with | ⟨0, _⟩ => rfl | ⟨1, _⟩ => rfl⟩
  have h24 := flush6 t hf
  have h32 := lt_32 t
  rw [show DXOUT (blocks m c) t.val = DXOUT (blocks m c) (8 * 3 + (t.val - 24)) by rw [show 8 * 3 + (t.val - 24) = t.val by omega], dxout_at m c (t.val - 24) (by omega)]
  refine congrArg _ (funext fun a => Fin.ext ?_)
  match a with
  | ⟨0, _⟩ => blk_simp [(idxOut t).1 h24]; show (t.val - 24) % 8 * 256 + i.val = _; omega
  | ⟨1, _⟩ => blk_simp [(idxOut t).1 h24]

/-- An index of a pair of shards is a shard, a row and a column. -/
theorem ix3_of (y : S2x352x1024.Idx) : ∃ (s : Fin 2) (r : Fin 352) (k : Fin 1024), y = ix3 s r k :=
  ⟨y 0, y 1, y 2, by funext a; match a with | ⟨0, _⟩ => rfl | ⟨1, _⟩ => rfl | ⟨2, _⟩ => rfl⟩

/-- A block's column is a column of one of its two shards. -/
theorem gcol_col (b : ℕ) (hb : b < 4) (s : Fin 2) (r : Fin 352) :
    gcol (8 * b) (by omega) ⟨s.val * 352 + r.val, by omega⟩ = col ⟨b * 2 + s.val, by omega⟩ r :=
  Fin.ext (show 8 * b / 8 * 704 + (s.val * 352 + r.val) = (b * 2 + s.val) * 352 + r.val by omega)

theorem wg_final : (dats m 0 c).arrAt 7 (cfgs 0).N = dwgM (aX m c) (aD m c) (aN m c) (aG m c) (aU m c) (aW m c) := by
  refine (dats m 0 c).arrAt_eq_of_covers 7 _ (by decide +kernel) fun t hf y => ?_
  blk_simp
  obtain ⟨s, r, k, rfl⟩ := ix3_of y
  have h7 := (flush0_7 t).mp hf
  have h32 := lt_32 t
  have hb : t.val / 8 < 4 := by omega
  rw [after0_7, outG_block, show WG (blocks m c) t.val = WG (blocks m c) (8 * (t.val / 8) + 7) by rw [show 8 * (t.val / 8) + 7 = t.val by omega],
    wg_at m c (t.val / 8) hb, gcol_col _ hb]
  refine congrArg (dwgM _ _ _ _ _ _) (a₁ := ix3 ⟨t.val / 8 * 2 + s.val, by omega⟩ r k) (funext fun a => Fin.ext ?_)
  match a with
  | ⟨0, _⟩ => blk_simp [idxOut t]
  | ⟨1, _⟩ => blk_simp [idxOut t]
  | ⟨2, _⟩ => blk_simp [idxOut t]

theorem wu_final : (dats m 0 c).arrAt 8 (cfgs 0).N = dwuM (aX m c) (aD m c) (aN m c) (aG m c) (aW m c) := by
  refine (dats m 0 c).arrAt_eq_of_covers 8 _ (by decide +kernel) fun t hf y => ?_
  blk_simp
  obtain ⟨s, r, k, rfl⟩ := ix3_of y
  have h7 := (flush0_8 t).mp hf
  have h32 := lt_32 t
  have hb : t.val / 8 < 4 := by omega
  rw [after0_8, outU_block, show WU (blocks m c) t.val = WU (blocks m c) (8 * (t.val / 8) + 7) by rw [show 8 * (t.val / 8) + 7 = t.val by omega],
    wu_at m c (t.val / 8) hb, gcol_col _ hb]
  refine congrArg (dwuM _ _ _ _ _) (a₁ := ix3 ⟨t.val / 8 * 2 + s.val, by omega⟩ r k) (funext fun a => Fin.ext ?_)
  match a with
  | ⟨0, _⟩ => blk_simp [idxOut t]
  | ⟨1, _⟩ => blk_simp [idxOut t]
  | ⟨2, _⟩ => blk_simp [idxOut t]

theorem wd_final : (dats m 0 c).arrAt 9 (cfgs 0).N = dwdM (aX m c) (aD m c) (aN m c) (aG m c) (aU m c) := by
  refine (dats m 0 c).arrAt_eq_of_covers 9 _ (by decide +kernel) fun t hf y => ?_
  blk_simp
  obtain ⟨s, r, k, rfl⟩ := ix3_of y
  have h7 := (flush0_9 t).mp hf
  have h32 := lt_32 t
  have hb : t.val / 8 < 4 := by omega
  rw [after0_9, outD_block, show WD (blocks m c) t.val = WD (blocks m c) (8 * (t.val / 8) + 7) by rw [show 8 * (t.val / 8) + 7 = t.val by omega],
    wd_at m c (t.val / 8) hb, gcol_col _ hb]
  refine congrArg (dwdM _ _ _ _ _) (a₁ := ix3 ⟨t.val / 8 * 2 + s.val, by omega⟩ r k) (funext fun a => Fin.ext ?_)
  match a with
  | ⟨0, _⟩ => blk_simp [idxOut t]
  | ⟨1, _⟩ => blk_simp [idxOut t]
  | ⟨2, _⟩ => blk_simp [idxOut t]

theorem dn_final : (dats m 0 c).arrAt 10 (cfgs 0).N = dnM (aX m c) (aD m c) (aN m c) (aG m c) (aU m c) (aW m c) := by
  refine (dats m 0 c).arrAt_eq_of_covers 10 _ (by decide +kernel) fun t hf y => ?_
  blk_simp
  rw [after0_10]
  obtain ⟨k, rfl⟩ : ∃ (k : Fin 1024), y = ix2 0 k := ⟨y 1, by funext a; match a with | ⟨0, _⟩ => exact Subsingleton.elim (α := Fin 1) _ _ | ⟨1, _⟩ => rfl⟩
  have h31 : t.val = 24 + 7 := by have := (flush0_10 t).mp hf; have := lt_32 t; omega
  rw [h31, dn_at m c]
  refine congrArg (dnM _ _ _ _ _ _) (a₁ := ix2 0 k) (funext fun a => Fin.ext ?_)
  match a with
  | ⟨0, _⟩ => blk_simp [idxOut t]
  | ⟨1, _⟩ => blk_simp [idxOut t]

/-- An index of the shards is a shard, a row and a column. -/
theorem ix3_all (y : S8x352x1024.Idx) : ∃ (s : Fin 8) (r : Fin 352) (k : Fin 1024), y = ix3 s r k :=
  ⟨y 0, y 1, y 2, by funext a; match a with | ⟨0, _⟩ => rfl | ⟨1, _⟩ => rfl | ⟨2, _⟩ => rfl⟩

end Cert.Ffn
end
-- ==== Proof.Math.Real.lean ====
module

public import proofs.«01_k».proof.Proof.Math.Rms

@[expose] public section

/-!
# Extended reals that are real numbers
-/

noncomputable section

open Idealize Idealize.ShloMosaic

namespace Cert.Reals

/-- `x` is a real number. -/
def IsR (x : EReal) : Prop := ∃ r : ℝ, x = r

theorem IsR.add {x y : EReal} : IsR x → IsR y → IsR (x + y) := by
  rintro ⟨a, rfl⟩ ⟨b, rfl⟩
  exact ⟨a + b, (EReal.coe_add a b).symm⟩

theorem IsR.mul {x y : EReal} : IsR x → IsR y → IsR (x * y) := by
  rintro ⟨a, rfl⟩ ⟨b, rfl⟩
  exact ⟨a * b, (EReal.coe_mul a b).symm⟩

theorem IsR.neg {x : EReal} : IsR x → IsR (-x) := by
  rintro ⟨a, rfl⟩
  exact ⟨-a, (EReal.coe_neg a).symm⟩

theorem IsR.sum {ι : Type*} (s : Finset ι) (f : ι → EReal) (h : ∀ k ∈ s, IsR (f k)) : IsR (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- An entry of a normalised row is real, whatever the row: a row with an infinite entry has the factor zero. -/
theorem norm_real (x : Fin 1024 → EReal) (k : Fin 1024) : IsR (x k * Rms.rstd x) := by
  have key : x k * x k = ⊤ → Rms.rstd x = 0 := by
    intro ht
    have hs : ∑ k, x k * x k = ⊤ :=
      top_le_iff.mp (ht ▸ Finset.single_le_sum (f := fun k => x k * x k) (fun i _ => Sums.mul_self_nonneg _) (Finset.mem_univ k))
    obtain ⟨e, he, hE⟩ := Rms.cE_pos
    unfold Rms.rstd Rms.msq
    rw [hs, Rms.cD_eq, Ideal.div_coe (by norm_num), hE, EReal.top_mul_coe_of_pos (by norm_num), EReal.top_add_coe]
    simp
  obtain ⟨r, _, h, _⟩ := Rms.rstd_finite x
  cases hx : x k with
  | coe a => exact ⟨a * r, by rw [h, EReal.coe_mul]⟩
  | bot => rw [hx] at key; exact ⟨0, by rw [key (by simp)]; simp⟩
  | top => rw [hx] at key; exact ⟨0, by rw [key (by simp)]; simp⟩

end Cert.Reals
end
-- ==== Proof.Ffn.Reference.lean ====
module

public import proofs.«01_k».proof.Proof.Ffn.Value
public import proofs.«01_k».proof.Proof.Math.Real
public import proofs.«01_k».proof.Proof.Gen.ReferenceFfnIdeal.Run
public import proofs.«01_k».proof.Proof.Gen.ReferenceFfnIdeal.Read
public import Idealize.ShloMosaic.Lib.Pointwise

@[expose] public section

set_option maxRecDepth 16384

/-!
# What the SwiGLU reference computes, entry by entry

The derivative of `x ↦ x * logistic x` comes as a sum of two products in the reference and as one product in the kernel;
the two are equal at real numbers, and the gate's products are real where the weights and the cotangent are.
-/

noncomputable section

open Idealize Idealize.ShloMosaic Idealize.ShloMosaic.TcCoe Idealize.SL
open Cert.ReferenceFfnIdeal Cert.ReferenceFfnIdeal.Gen Cert.ReferenceFfnIdeal.Read Cert.Reals

namespace Cert.Ffn

variable (X D : Vec Ideal S2048x1024 .f32) (nw : Vec Ideal S1024 .f32) (Wg Wu : Vec Ideal S1024x2816 .f32) (Wd : Vec Ideal S2816x1024 .f32)

theorem one_eq : Ideal.ofBits .f32 0x3F800000#32 = ((1 : ℝ) : EReal) := by
  simp [Ideal.ofBits, Ideal.ieee, -EReal.coe_mul]; norm_num

theorem half_real : IsR cH := ⟨1 / 2, by simp [cH, Ideal.ofBits, Ideal.ieee, -EReal.coe_mul]; norm_num⟩

theorem sg_real {g : EReal} : IsR g → IsR (sg g) := by
  rintro ⟨a, rfl⟩
  refine ⟨1 / (1 + Real.exp (-a)), ?_⟩
  have h : (1 : ℝ) + Real.exp (-a) ≠ 0 := by positivity
  unfold sg
  rw [one_eq, ← EReal.coe_neg, Ideal.exp_coe, ← EReal.coe_add, Ideal.div_coe h, ← EReal.coe_mul, one_mul]

/-- The two spellings of the gate's gradient agree at real numbers. -/
theorem dgateK_eq {dh g u : EReal} (hd : IsR dh) (hg : IsR g) (hu : IsR u) :
    dgateK dh g u = dh * u * sg g + g * (dh * u) * (sg g * (Ideal.ofBits .f32 0x3F800000#32 - sg g)) := by
  obtain ⟨s, hs⟩ := sg_real hg
  unfold dgateK
  rw [hs, one_eq]
  obtain ⟨d, rfl⟩ := hd
  obtain ⟨g, rfl⟩ := hg
  obtain ⟨u, rfl⟩ := hu
  norm_cast
  ring

theorem xn_real (hn : ∀ k, IsR (nw k)) (i : Fin 2048) (k : Fin 1024) : IsR (xnM X nw i k) := (norm_real (xrow X i) k).mul (hn _)

theorem gate_real (hn : ∀ k, IsR (nw k)) (hg : ∀ k, IsR (Wg k)) (i : Fin 2048) (q : Fin 2816) : IsR (gateM X nw Wg i q) :=
  IsR.sum _ _ fun k _ => (xn_real X nw hn i k).mul (hg _)

theorem dh_real (hd : ∀ k, IsR (D k)) (hw : ∀ k, IsR (Wd k)) (i : Fin 2048) (q : Fin 2816) : IsR (dhM D Wd i q) :=
  IsR.sum _ _ fun k _ => (IsR.mul half_real (hd _)).mul (hw _)

theorem msq_at (i : Fin 2048) : val_main_v6 (F := Ideal) X (ix2 i 0) = Rms.msq (fun k => X (ix2 i k)) := by
  pointwise [val_main_v6, val_main_v5, val_main_v4, val_main_v3, val_main_v2, val_main_v1, val_main_v0, val_main_cst, val_main_cst_0, val_main_cst_1, Rms.msq]

theorem rstd_at (i : Fin 2048) : val_main_v7 (F := Ideal) X (ix2 i 0) = Rms.rstd (fun k => X (ix2 i k)) := by
  pointwise [val_main_v7, msq_at, Rms.rstd]

theorem xn_ref (i : Fin 2048) (k : Fin 1024) : val_main_v15 (F := Ideal) X nw (ix2 i k) = xnM X nw i k := by
  unfold xnM
  pointwise [val_main_v15, val_main_v14, val_main_v13, val_main_v12, val_main_v11, rstd_at]

theorem gate_ref (i : Fin 2048) (q : Fin 2816) : val_main_v16 (F := Ideal) X nw Wg (ix2 i q) = gateM X nw Wg i q := by
  unfold gateM
  pointwise [val_main_v16, xn_ref]

theorem up_ref (i : Fin 2048) (q : Fin 2816) : val_main_v18 (F := Ideal) X nw Wu (ix2 i q) = gateM X nw Wu i q := by
  unfold gateM
  pointwise [val_main_v18, xn_ref]

theorem sg_ref (i : Fin 2048) (q : Fin 2816) : val_main_v17_2 (F := Ideal) X nw Wg (ix2 i q) = sg (gateM X nw Wg i q) := by
  unfold sg
  pointwise [val_main_v17_2, val_main_call0_v4, val_main_call0_v3, val_main_call0_v2, val_main_call0_v1, val_main_call0_v0, val_main_call0_cst, val_main_call0_cst_0, gate_ref]

theorem dy_ref (i : Fin 2048) (k : Fin 1024) : val_main_v26 (F := Ideal) D (ix2 i k) = dyM D i k := by
  unfold dyM
  pointwise [val_main_v26, val_main_v25, val_main_v24, val_main_cst_4]

theorem dh_ref (i : Fin 2048) (q : Fin 2816) : val_main_v29 (F := Ideal) D Wd (ix2 i q) = dhM D Wd i q := by
  unfold dhM
  pointwise [val_main_v29, dy_ref]

theorem du_ref (i : Fin 2048) (q : Fin 2816) : val_main_v30 (F := Ideal) X D nw Wg Wd (ix2 i q) = duM X D nw Wg Wd i q := by
  unfold duM
  pointwise [val_main_v30, val_main_v17_0, gate_ref, sg_ref, dh_ref]
  exact mul_comm _ _

theorem h_ref (i : Fin 2048) (q : Fin 2816) : val_main_v19 (F := Ideal) X nw Wg Wu (ix2 i q) = hM X nw Wg Wu i q := by
  unfold hM
  pointwise [val_main_v19, val_main_v17_0, gate_ref, sg_ref, up_ref]

/-- The gate's gradient, as two products. -/
theorem dg_two (i : Fin 2048) (q : Fin 2816) : val_main_v35 (F := Ideal) X D nw Wg Wu Wd (ix2 i q)
    = dhM D Wd i q * gateM X nw Wu i q * sg (gateM X nw Wg i q) + gateM X nw Wg i q * (dhM D Wd i q * gateM X nw Wu i q)
      * (sg (gateM X nw Wg i q) * (Ideal.ofBits .f32 0x3F800000#32 - sg (gateM X nw Wg i q))) := by
  pointwise [val_main_v35, val_main_call1_v2, val_main_call1_v1, val_main_call1_v0, val_main_v31, val_main_v17_1, val_main_call0_v7, val_main_call0_v6,
    val_main_call0_cst_1, gate_ref, sg_ref, up_ref, dh_ref]

section
variable (hd : ∀ k, IsR (D k)) (hn : ∀ k, IsR (nw k)) (hg : ∀ k, IsR (Wg k)) (hu : ∀ k, IsR (Wu k)) (hw : ∀ k, IsR (Wd k))
include hd hn hg hu hw

theorem dg_ref (i : Fin 2048) (q : Fin 2816) : val_main_v35 (F := Ideal) X D nw Wg Wu Wd (ix2 i q) = dgM X D nw Wg Wu Wd i q := by
  rw [dg_two, dgM, dgateK_eq (dh_real D Wd hd hw i q) (gate_real X nw Wg hn hg i q) (gate_real X nw Wu hn hu i q)]

theorem g_ref (i : Fin 2048) (k : Fin 1024) : val_main_v39 (F := Ideal) X D nw Wg Wu Wd (ix2 i k) = gM X D nw Wg Wu Wd i k := by
  have e : val_main_v39 (F := Ideal) X D nw Wg Wu Wd (ix2 i k)
      = ∑ q : Fin 2816, duM X D nw Wg Wd i q * Wu (ix2 k q) + ∑ q : Fin 2816, val_main_v35 (F := Ideal) X D nw Wg Wu Wd (ix2 i q) * Wg (ix2 k q) := by
    pointwise [val_main_v39, val_main_v38, val_main_v34, du_ref]
  rw [e, gM, add_comm]
  simp only [dg_ref X D nw Wg Wu Wd hd hn hg hu hw]

theorem gn_ref (i : Fin 2048) (k : Fin 1024) : val_main_v44 (F := Ideal) X D nw Wg Wu Wd (ix2 i k) = gM X D nw Wg Wu Wd i k * nw (ix1 k) := by
  rw [← g_ref X D nw Wg Wu Wd hd hn hg hu hw]
  pointwise [val_main_v44, val_main_v43, val_main_v13]

theorem through_at (i : Fin 2048) (k : Fin 1024) : val_main_v56 (F := Ideal) X D nw Wg Wu Wd (ix2 i k)
    = Rms.through (fun k => X (ix2 i k)) (fun k => gM X D nw Wg Wu Wd i k * nw (ix1 k)) := by
  unfold Rms.through
  simp only [← gn_ref X D nw Wg Wu Wd hd hn hg hu hw]
  pointwise [val_main_v56, val_main_v55, val_main_v54, val_main_v53, val_main_v52, val_main_v48, val_main_v47, val_main_v46, val_main_v10, val_main_v9, val_main_v8,
    val_main_cst_2, val_main_cst_7, val_main_cst_8, val_main_cst_9]
  refine (Fin.sum_univ_one _).trans ?_
  rw [rstd_at, msq_at]

/-- The input's gradient. -/
theorem dx_ref (i : Fin 2048) (k : Fin 1024) : val_main_v60 (F := Ideal) X D nw Wg Wu Wd (ix2 i k) = dxM X D nw Wg Wu Wd (ix2 i k) := by
  show _ = D (ix2 i k) + Rms.gradK (fun k => X (ix2 i k)) (fun k => gM X D nw Wg Wu Wd i k * nw (ix1 k)) k
  rw [Rms.gradK_eq_gradR]
  unfold Rms.gradR
  rw [← through_at X D nw Wg Wu Wd hd hn hg hu hw i k]
  simp only [← gn_ref X D nw Wg Wu Wd hd hn hg hu hw]
  pointwise [val_main_v60, val_main_v59, val_main_v58, val_main_v57, val_main_v51, val_main_v50, val_main_v49, rstd_at]
  rw [add_assoc, add_assoc, add_assoc]

theorem wg_ref (s : Fin 8) (r : Fin 352) (k : Fin 1024) : val_main_v63 (F := Ideal) X D nw Wg Wu Wd (ix3 s r k) = dwgM X D nw Wg Wu Wd (ix3 s r k) := by
  have e : val_main_v63 (F := Ideal) X D nw Wg Wu Wd (ix3 s r k) = val_main_v36 (F := Ideal) X D nw Wg Wu Wd (ix2 (col s r) k) := by
    unfold col
    pointwise [val_main_v63, val_main_v62, val_main_v61, val_main_v37]
  have e' (q : Fin 2816) : val_main_v36 (F := Ideal) X D nw Wg Wu Wd (ix2 q k)
      = ∑ i : Fin 2048, val_main_v35 (F := Ideal) X D nw Wg Wu Wd (ix2 i q) * xnM X nw i k := by
    pointwise [val_main_v36, xn_ref]
  rw [e, e']
  simp only [dg_ref X D nw Wg Wu Wd hd hn hg hu hw]
  rfl

/-- The norm weight's gradient. -/
theorem dn_ref (k : Fin 1024) : val_main_v69 (F := Ideal) X D nw Wg Wu Wd (ix2 0 k) = dnM X D nw Wg Wu Wd (ix2 0 k) := by
  show _ = ∑ i : Fin 2048, gM X D nw Wg Wu Wd i k * (X (ix2 i k) * Rms.rstd (fun k => X (ix2 i k)))
  simp only [← g_ref X D nw Wg Wu Wd hd hn hg hu hw]
  pointwise [val_main_v69, val_main_v45, val_main_v42, val_main_v41, val_main_v40, val_main_v12, val_main_v11, val_main_cst_5, val_main_cst_6, rstd_at]
  exact (Fin.sum_univ_one _).trans (Finset.sum_congr rfl fun i _ => mul_comm _ _)

end

theorem wu_ref (s : Fin 8) (r : Fin 352) (k : Fin 1024) : val_main_v66 (F := Ideal) X D nw Wg Wd (ix3 s r k) = dwuM X D nw Wg Wd (ix3 s r k) := by
  have e : val_main_v66 (F := Ideal) X D nw Wg Wd (ix3 s r k) = val_main_v32 (F := Ideal) X D nw Wg Wd (ix2 (col s r) k) := by
    unfold col
    pointwise [val_main_v66, val_main_v65, val_main_v64, val_main_v33]
  have e' (q : Fin 2816) : val_main_v32 (F := Ideal) X D nw Wg Wd (ix2 q k) = ∑ i : Fin 2048, duM X D nw Wg Wd i q * xnM X nw i k := by
    pointwise [val_main_v32, du_ref, xn_ref]
  rw [e, e']
  rfl

theorem wd_ref (s : Fin 8) (r : Fin 352) (k : Fin 1024) : val_main_v68 (F := Ideal) X D nw Wg Wu (ix3 s r k) = dwdM X D nw Wg Wu (ix3 s r k) := by
  have e : val_main_v68 (F := Ideal) X D nw Wg Wu (ix3 s r k) = val_main_v27 (F := Ideal) X D nw Wg Wu (ix2 k (col s r)) := by
    unfold col
    pointwise [val_main_v68, val_main_v67, val_main_v28]
  have e' (q : Fin 2816) : val_main_v27 (F := Ideal) X D nw Wg Wu (ix2 k q) = ∑ i : Fin 2048, dyM D i k * hM X nw Wg Wu i q := by
    pointwise [val_main_v27, dy_ref, h_ref]
  rw [e, e']
  exact Finset.sum_congr rfl fun i _ => mul_comm _ _

end Cert.Ffn
end
-- ==== Proof.Ffn.Claim.lean ====
module

public import proofs.«01_k».proof.Defs
public import proofs.«01_k».proof.Proof.Gen.KernelFfn
public import proofs.«01_k».proof.Proof.Gen.ReferenceFfnIdeal
public import proofs.«01_k».proof.Proof.Gen.Pre_ffn_finite
public import proofs.«01_k».proof.Proof.Math.Finite
public import proofs.«01_k».proof.Proof.Ffn.Reference
public import Idealize.ShloMosaic.Lib.ReduceAll

@[expose] public section

set_option maxRecDepth 16384

/-!
# The gradients through the SwiGLU layer: kernel and reference agree
-/

noncomputable section

open Idealize Idealize.ShloMosaic Idealize.ShloMosaic.Pipeline Idealize.ShloMosaic.TcCoe Idealize.SL Idealize.SL.Sem

namespace Cert.Ffn

open Cert.ReferenceFfnIdeal.Read Cert.Reals
open Cert.KernelFfnIdeal (S2048x1024 S1024 S1024x2816 S2816x1024 S8x352x1024)

variable (X D : Vec Ideal S2048x1024 .f32) (nw : Vec Ideal S1024 .f32) (Wg Wu : Vec Ideal S1024x2816 .f32) (Wd : Vec Ideal S2816x1024 .f32)

section
variable (h : @Cert.Pre_ffn_finite.fn Cert.Pre_ffn_finite.Gen.facts Ideal _ X D nw Wg Wu Wd = fun _ => 1#1)
include h

/-- The precondition makes every entry of the cotangent and of the four weights a real number. -/
theorem pre_real : (∀ j, IsR (D j)) ∧ (∀ j, IsR (nw j)) ∧ (∀ j, IsR (Wg j)) ∧ (∀ j, IsR (Wu j)) ∧ ∀ j, IsR (Wd j) := by
  have h0 := congrFun h ix0
  dsimp only [Cert.Pre_ffn_finite.fn, Cert.Pre_ffn_finite.fn_part1] at h0
  obtain ⟨h0, h5⟩ := IntOp.andi_eq_one.mp h0
  obtain ⟨h0, h4⟩ := IntOp.andi_eq_one.mp h0
  obtain ⟨h0, h3⟩ := IntOp.andi_eq_one.mp h0
  obtain ⟨h1, h2⟩ := IntOp.andi_eq_one.mp h0
  exact ⟨fun j => Finite.real_of_lt _ (Host.reduce_andi_all _ _ _ _ _ h1 j), fun j => Finite.real_of_lt _ (Host.reduce_andi_all _ _ _ _ _ h2 j),
    fun j => Finite.real_of_lt _ (Host.reduce_andi_all _ _ _ _ _ h3 j), fun j => Finite.real_of_lt _ (Host.reduce_andi_all _ _ _ _ _ h4 j),
    fun j => Finite.real_of_lt _ (Host.reduce_andi_all _ _ _ _ _ h5 j)⟩

theorem dx_value : val_main_v60 (F := Ideal) X D nw Wg Wu Wd = dxM X D nw Wg Wu Wd := by
  obtain ⟨hd, hn, hg, hu, hw⟩ := pre_real _ _ _ _ _ _ h
  funext j
  obtain ⟨i, k, rfl⟩ : ∃ (i : Fin 2048) (k : Fin 1024), j = ix2 i k := ⟨j 0, j 1, by funext a; match a with | ⟨0, _⟩ => rfl | ⟨1, _⟩ => rfl⟩
  exact dx_ref X D nw Wg Wu Wd hd hn hg hu hw i k

theorem wg_value : val_main_v63 (F := Ideal) X D nw Wg Wu Wd = dwgM X D nw Wg Wu Wd := by
  obtain ⟨hd, hn, hg, hu, hw⟩ := pre_real _ _ _ _ _ _ h
  funext j
  obtain ⟨s, r, k, rfl⟩ := ix3_all j
  exact wg_ref X D nw Wg Wu Wd hd hn hg hu hw s r k

theorem dn_value : val_main_v69 (F := Ideal) X D nw Wg Wu Wd = dnM X D nw Wg Wu Wd := by
  obtain ⟨hd, hn, hg, hu, hw⟩ := pre_real _ _ _ _ _ _ h
  funext j
  obtain ⟨k, rfl⟩ : ∃ (k : Fin 1024), j = ix2 0 k := ⟨j 1, by funext a; match a with | ⟨0, _⟩ => exact Subsingleton.elim (α := Fin 1) _ _ | ⟨1, _⟩ => rfl⟩
  exact dn_ref X D nw Wg Wu Wd hd hn hg hu hw k

end

theorem wu_value : val_main_v66 (F := Ideal) X D nw Wg Wd = dwuM X D nw Wg Wd := by
  funext j
  obtain ⟨s, r, k, rfl⟩ := ix3_all j
  exact wu_ref X D nw Wg Wd s r k

theorem wd_value : val_main_v68 (F := Ideal) X D nw Wg Wu = dwdM X D nw Wg Wu := by
  funext j
  obtain ⟨s, r, k, rfl⟩ := ix3_all j
  exact wd_ref X D nw Wg Wu s r k

/-- The frame of the printed program: the same text as the one the run is proved for, at bit patterns. -/
theorem frame_bits : Cert.quiescent_KernelFfn (hKernelFfn := Cert.KernelFfn.Gen.facts) := fun m ρ _ =>
  Eq.mp (by sl_kernel_rfl) (frame (F := Bits) m ρ)

/-- The frame of the reference: its counters are zero because it declares no semaphore. -/
theorem frame_reference : Cert.quiescent_ReferenceFfnIdeal (hReferenceFfnIdeal := Cert.ReferenceFfnIdeal.Gen.facts) := fun m ρ _ =>
  (θ_run Cert.ReferenceFfnIdeal.defs _ _).mono (fun r h => ⟨fun c => (h c).2.2.2.2.2, sem_eq_zero_of_no_sems (by decide) r.2⟩)
    (Cert.ReferenceFfnIdeal.Value.run m ρ)

/-- The claim of equal results. -/
theorem algebraic : Cert.algebraic_KernelFfnIdeal_ReferenceFfnIdeal_pre_ffn_finite (hKernelFfnIdeal := Cert.KernelFfnIdeal.Gen.facts)
    (hReferenceFfnIdeal := Cert.ReferenceFfnIdeal.Gen.facts) (hPre_ffn_finite := Cert.Pre_ffn_finite.Gen.facts) := by
  intro m ρ m' ρ' hpre hargs
  have hx := fun c => dx_value (aX m c) (aD m c) (aN m c) (aG m c) (aU m c) (aW m c) (hpre c)
  have hg := fun c => wg_value (aX m c) (aD m c) (aN m c) (aG m c) (aU m c) (aW m c) (hpre c)
  have hn := fun c => dn_value (aX m c) (aD m c) (aN m c) (aG m c) (aU m c) (aW m c) (hpre c)
  refine ⟨fun c => (dats m 0 c).arrAt 6 (Cert.KernelFfnIdeal.cfgs 0).N, fun c => (dats m 0 c).arrAt 7 (Cert.KernelFfnIdeal.cfgs 0).N,
    fun c => (dats m 0 c).arrAt 8 (Cert.KernelFfnIdeal.cfgs 0).N, fun c => (dats m 0 c).arrAt 9 (Cert.KernelFfnIdeal.cfgs 0).N,
    fun c => (dats m 0 c).arrAt 10 (Cert.KernelFfnIdeal.cfgs 0).N, ?_, ?_⟩
  · refine (θ_run _ _ _).mono (fun r h c => ?_) (θ_run_and ((θ_run _ _ _).mono (fun _ h => h.1) (run_main m ρ)) (frame m ρ))
    exact ⟨(h.1 c).1 6, (h.1 c).1 7, (h.1 c).1 8, (h.1 c).1 9, (h.1 c).1 10, h.2.1 c⟩
  · refine (θ_run _ _ _).mono (fun r h c => ?_) (Cert.ReferenceFfnIdeal.Value.run m' ρ')
    obtain ⟨h0, h1, h2, h3, h4, h5⟩ := h c
    obtain ⟨a0, a1, a2, a3, a4, a5⟩ := hargs c
    refine ⟨h0.trans ?_, h1.trans ?_, h2.trans ?_, h3.trans ?_, h4.trans ?_, h5⟩
    · rw [val_main_v60_eq, a0, a1, a2, a3, a4, a5]; exact (hx c).trans (dx_final m c).symm
    · rw [val_main_v63_eq, a0, a1, a2, a3, a4, a5]; exact (hg c).trans (wg_final m c).symm
    · rw [val_main_v66_eq, a0, a1, a2, a3, a5, wu_value]; exact (wu_final m c).symm
    · rw [val_main_v68_eq, a0, a1, a2, a3, a4, wd_value]; exact (wd_final m c).symm
    · rw [val_main_v69_eq, a0, a1, a2, a3, a4, a5]; exact (hn c).trans (dn_final m c).symm

end Cert.Ffn

end
-- ==== Proof.Math.Cols.lean ====
module

public import proofs.«01_k».proof.Proof.Math.Bands

@[expose] public section

/-!
# Bands of whole columns of a matrix

`cols o X` is the band of `N` columns of `X` from column `o` on, `putc o X w` is `X` with that band replaced by `w`.
A kernel's load and store of a rectangle of whole columns are these two functions.
-/

noncomputable section

open Idealize Idealize.ShloMosaic Idealize.ShloMosaic.Pipeline Idealize.ShloMosaic.View

namespace Cert.Bands

variable {α : Type} {n N k : ℕ}

/-- The band of `N` columns from column `o` on. -/
def cols (o : ℕ) (h : o + N ≤ k) (X : (⟨2, ![n, k]⟩ : Shape).Idx → α) : (⟨2, ![n, N]⟩ : Shape).Idx → α :=
  fun x => X (ix2 (x 0) ⟨o + (x 1).val, by have h1 : (x 1).val < N := (x 1).isLt; omega⟩)

/-- The matrix with the band of `N` columns from column `o` on replaced. -/
def putc (o : ℕ) (X : (⟨2, ![n, k]⟩ : Shape).Idx → α) (w : (⟨2, ![n, N]⟩ : Shape).Idx → α) : (⟨2, ![n, k]⟩ : Shape).Idx → α :=
  fun y => if h : o ≤ (y 1).val ∧ (y 1).val < o + N then w (ix2 (y 0) ⟨(y 1).val - o, by omega⟩) else X y

variable {Val : EltTy → Type} {e : EltTy} {sig : RefSig} {κ : Kind} {sp : Space} (v : View sig κ sp (⟨2, ![n, k]⟩ : Shape) e)

/-- A load of a band of columns. -/
theorem readAt_cols {o : ℕ} (h : o + N ≤ k) (f : v.ty.Contents Val)
    (inb : ∀ a : Fin 2, ![0, o] a + ![n, N] a ≤ (⟨2, ![n, k]⟩ : Shape).size a) :
    v.readAt Val (Rect.unit (s := ⟨2, ![n, k]⟩) ![0, o] ![n, N] inb).toLoadRect f = cols o h (v.read Val f) := by
  refine (rfl : _ = fun x => v.read Val f ((Rect.unit (s := ⟨2, ![n, k]⟩) ![0, o] ![n, N] inb).emb x)).trans (funext fun x => ?_)
  unfold cols
  refine congrArg (v.read Val f) (funext fun i => Fin.ext ?_)
  match i with
  | ⟨0, _⟩ => exact (Nat.zero_add _).trans (Nat.one_mul _) |>.trans rfl
  | ⟨1, _⟩ => exact congrArg (o + ·) (Nat.one_mul _)

/-- A store of a band of columns. -/
theorem read_writec (f : v.ty.Contents Val) {o : ℕ} (inb : ∀ a : Fin 2, ![0, o] a + ![n, N] a ≤ (⟨2, ![n, k]⟩ : Shape).size a)
    (w : (⟨2, ![n, N]⟩ : Shape).Idx → Val e) (L : List (Piece Val (⟨2, ![n, k]⟩ : Shape) e)) :
    v.read Val (v.writes Val f ((⟨Rect.unit (s := ⟨2, ![n, k]⟩) ![0, o] ![n, N] inb, w⟩ : Piece Val (⟨2, ![n, k]⟩ : Shape) e) :: L))
      = putc o (v.read Val (v.writes Val f L)) w := by
  funext y
  unfold putc
  by_cases h : o ≤ (y 1).val ∧ (y 1).val < o + N
  · rw [dif_pos h]
    have hN : (y 1).val - o < N := by omega
    exact read_writes_cons_unit_of_mem v f inb w L y (ix2 (y 0) ⟨(y 1).val - o, hN⟩) rfl fun a => by
      match a with
      | ⟨0, _⟩ => exact (Nat.zero_add _).symm
      | ⟨1, _⟩ => exact show (y 1).val = o + ((y 1).val - o) by omega
  · rw [dif_neg h]
    have hN : (y 1).val < o ∨ o + N ≤ (y 1).val := by omega
    exact read_writes_cons_unit_of_not_mem v f inb w L y rfl (1 : Fin 2) hN

/-- A load of a band of rows after a store of the whole. -/
theorem readCov_whole [∀ e, Nonempty (Val e)] {o : ℕ} (h : o + N ≤ n) {off off' : Fin 2 → ℕ} (hoff : off = ![o, 0])
    (inb : ∀ a : Fin 2, off a + ![N, k] a ≤ (⟨2, ![n, k]⟩ : Shape).size a)
    (inb' : ∀ a : Fin 2, off' a + ![n, k] a ≤ (⟨2, ![n, k]⟩ : Shape).size a) (w : (⟨2, ![n, k]⟩ : Shape).Idx → Val e)
    (L : List (Piece Val (⟨2, ![n, k]⟩ : Shape) e)) :
    v.readCov ((⟨Rect.unit (s := ⟨2, ![n, k]⟩) off' ![n, k] inb', w⟩ : Piece Val (⟨2, ![n, k]⟩ : Shape) e) :: L)
      (Rect.unit (s := ⟨2, ![n, k]⟩) off ![N, k] inb).toLoadRect = band o h w :=
  (readAt_rows hoff h v _ inb).trans (congrArg (band o h) (read_all v inb' _ w L))

end Cert.Bands
end
-- ==== Proof.Attn.Body.lean ====
module

public import proofs.«01_k».proof.Proof.Math.Cols
public import proofs.«01_k».proof.Proof.Gen.KernelAttnIdeal.Frame
public import proofs.«01_k».proof.Proof.Gen.KernelAttnIdeal.Skeleton

@[expose] public section

set_option maxRecDepth 16384

/-!
# One grid point of the attention's gradient

The grid runs over the two key and value heads (outer) and the sixteen query blocks of 128 rows (inner).  A point holds
four query heads' rows of its block below each other and the keys of the block before it and its own; it stores the
queries' gradient, adds the keys' and values' gradients to two blocks of a buffer that stays for all points, and adds the
sinks' to a buffer that stays for a head.  `Cert.Attn.run` says what one point leaves, over what its buffers held.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal Cert.KernelAttnIdeal.Gen Cert.Bands

namespace Cert.Attn

variable {F : FTy → Type} [FloatOps F] [Named F]

local notation "𝕄" => MT nD τ sig Unit (Elt F) ℕ (UR sig nD τ) ℕ

/-- The blocks a point reads: the queries, the keys of the block before and of this one, the values likewise, the sinks
    and the slopes by row, and the cotangent. -/
structure Reads (F : FTy → Type) where
  q : Vec F S128x256 .f32
  kp : Vec F S128x128 .f32
  kc : Vec F S128x128 .f32
  vp : Vec F S128x128 .f32
  vc : Vec F S128x128 .f32
  sink : Vec F S512x1 .f32
  slope : Vec F S512x1 .f32
  dy : Vec F S128x256 .f32

/-- The columns of one query head. -/
def c0 (X : Vec F S128x256 .f32) : Vec F S128x64 .f32 := cols 0 (by norm_num) X
def c1 (X : Vec F S128x256 .f32) : Vec F S128x64 .f32 := cols 64 (by norm_num) X
def c2 (X : Vec F S128x256 .f32) : Vec F S128x64 .f32 := cols 128 (by norm_num) X
def c3 (X : Vec F S128x256 .f32) : Vec F S128x64 .f32 := cols 192 (by norm_num) X

variable (i : grid0.Coords) (r : Reads F)

/-- The coordinate of the key and value head. -/
abbrev hd : BitVec 32 := BitVec.ofNat 32 (i 0).val

/-- The queries, keys and values of the point. -/
def qs : FVec F S512x64 .f32 := k0_pay9 (c0 r.q) (c1 r.q) (c2 r.q) (c3 r.q)
def ks : FVec F S256x64 .f32 := k0_pay10 (hd i) r.kp r.kc
def vs : FVec F S256x64 .f32 := k0_pay11 (hd i) r.vp r.vc

/-- The distance of a key, as a number. -/
def dist : FVec F S512x256 .f32 := k0_pay8 (F := F) k0_pay6

/-- The exponentials of the scores and of the sink, their sum, and the reciprocal of its square. -/
def ex : FVec F S512x256 .f32 := k0_pay18 (k0_pay7 i) dist (qs r) (ks i r) r.slope r.sink
def exSink : FVec F S512x1 .f32 := k0_pay19 (k0_pay7 i) dist (qs r) (ks i r) r.slope r.sink
def tot : FVec F S512x1 .f32 := k0_pay20 (k0_pay7 i) dist (qs r) (ks i r) r.slope r.sink
def inv : FVec F S512x1 .f32 := k0_pay21 (k0_pay7 i) dist (qs r) (ks i r) r.slope r.sink

/-- The values' gradient, the probabilities' gradient, and the keys' gradient. -/
def dv : FVec F S256x64 .f32 := k0_pay22 (k0_pay7 i) dist (qs r) (ks i r) (c0 r.dy) (c1 r.dy) (c2 r.dy) (c3 r.dy) r.slope r.sink
def dp : FVec F S512x256 .f32 := k0_pay23 (vs i r) (c0 r.dy) (c1 r.dy) (c2 r.dy) (c3 r.dy)
def dk : FVec F S256x64 .f32 := k0_pay26 (k0_pay7 i) (k0_pay14 (qs r)) (ex i r) (tot i r) (inv i r) (dp i r)

/-- The queries' gradient, written one head after another. -/
def dqNew (x10 : Vec F S128x256 .f32) : Vec F S128x256 .f32 :=
  putc 192 (putc 128 (putc 64 (putc 0 x10
    (k0_pay28 (k0_pay7 i) (k0_pay15 (ks i r)) (ex i r) (tot i r) (inv i r) (dp i r)))
    (k0_pay29 (k0_pay7 i) (k0_pay15 (ks i r)) (ex i r) (tot i r) (inv i r) (dp i r)))
    (k0_pay30 (k0_pay7 i) (k0_pay15 (ks i r)) (ex i r) (tot i r) (inv i r) (dp i r)))
    (k0_pay31 (k0_pay7 i) (k0_pay15 (ks i r)) (ex i r) (tot i r) (inv i r) (dp i r))

/-- The first of the two blocks of rows whose keys a point's queries see, where there are two. -/
def lo (i : grid0.Coords) : ℕ := 128 * ((i 1).val - 1)

theorem lo_le (i : grid0.Coords) : lo i + 256 ≤ 2048 := by
  have h : (i 1).val < 16 := (i 1).isLt
  unfold lo; omega

/-- The keys' and values' gradients with the point's share added: at the first query block to its own rows only. -/
def addOne (a : Vec F S128x256 .f32) : Vec F S128x256 .f32 := k0_pay2 (k0_pay33 (hd i)) (k0_pay34 (dv i r) (dk i r)) (k0_pay35 (F := F)) a
def addTwo (a : Vec F S256x256 .f32) : Vec F S256x256 .f32 := k0_pay3 (k0_pay33 (hd i)) (k0_pay34 (dv i r) (dk i r)) (k0_pay35 (F := F)) a

/-- The keys' and values' gradients before the point: zeros at the first point. -/
def kvMid (x11 : Vec F S2048x256 .f32) : Vec F S2048x256 .f32 := if k0_cond1 i = 1#1 then k0_pay4 (F := F) else x11

/-- And after it. -/
def kvNew (x11 : Vec F S2048x256 .f32) : Vec F S2048x256 .f32 :=
  if k0_cond4 i = 1#1 then put (lo i) (kvMid i x11) (addTwo i r (band (lo i) (lo_le i) (kvMid i x11)))
  else put 0 (kvMid i x11) (addOne i r (band 0 (by norm_num) (kvMid i x11)))

/-- The sinks' gradient by row: restarted at the first query block. -/
def addSink (a : Vec F S512x1 .f32) : Vec F S512x1 .f32 := k0_pay32 (ex i r) (exSink i r) (inv i r) (dp i r) a
def skNew (x12 : Vec F S512x1 .f32) : Vec F S512x1 .f32 := addSink i r (if (i 1).val = 0 then k0_pay5 (F := F) else x12)

/-- The body's test for the first query block. -/
abbrev First (i : grid0.Coords) : Prop := Scalar.cmpi .ne (Scalar.extui (Scalar.cmpi .eq (BitVec.ofNat 32 (i 1).val) 0#32)) 0#32 = 1#1

/-- Which of the body's conditions hold together: the first point, the second head's first query block, a later query block. -/
def Cases (i : grid0.Coords) : Prop :=
  (k0_cond1 i = 1#1 ∧ First i ∧ (i 1).val = 0 ∧ k0_cond3 i = 1#1 ∧ ¬k0_cond4 i = 1#1)
    ∨ (¬k0_cond1 i = 1#1 ∧ First i ∧ (i 1).val = 0 ∧ k0_cond3 i = 1#1 ∧ ¬k0_cond4 i = 1#1)
    ∨ (¬k0_cond1 i = 1#1 ∧ ¬First i ∧ ¬(i 1).val = 0 ∧ ¬k0_cond3 i = 1#1 ∧ k0_cond4 i = 1#1 )

theorem cases : ∀ i : grid0.Coords, Cases i := by unfold Cases; decide +kernel

theorem off1 : ∀ i : grid0.Coords, k0_cond4 i = 1#1 → k0_off1 i = ![lo i, 0] := by unfold lo; decide +kernel

set_option maxHeartbeats 8000000 in
/-- One run of the body: from any contents of its buffers, each is left at the function of its coordinates and contents
    defined above. -/
theorem run (c : Dev nD) (i : grid0.Coords)
    (arg2 : Memref sig .tc .vmem S128x256 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S2048x256 .f32) (harg11 : arg11.IsWhole) (arg12 : Memref sig .tc .vmem S512x1 .f32) (harg12 : arg12.IsWhole)
    (r : Reads F) (x10 : Vec F S128x256 .f32) (x11 : Vec F S2048x256 .f32) (x12 : Vec F S512x1 .f32)
    (E : Set ℕ) (K : PUnit → sProp 𝕄) :
    iprop(owns (c : Thread nD τ) arg2 fullShare (r.q)
          ∗ owns (c : Thread nD τ) arg3 fullShare (r.kp)
          ∗ owns (c : Thread nD τ) arg4 fullShare (r.kc)
          ∗ owns (c : Thread nD τ) arg5 fullShare (r.vp)
          ∗ owns (c : Thread nD τ) arg6 fullShare (r.vc)
          ∗ owns (c : Thread nD τ) arg7 fullShare (r.sink)
          ∗ owns (c : Thread nD τ) arg8 fullShare (r.slope)
          ∗ owns (c : Thread nD τ) arg9 fullShare (r.dy)
          ∗ owns (c : Thread nD τ) arg10 fullShare x10
          ∗ owns (c : Thread nD τ) arg11 fullShare x11
          ∗ owns (c : Thread nD τ) arg12 fullShare x12
          ∗ (iprop(owns (c : Thread nD τ) arg2 fullShare (r.q)
          ∗ owns (c : Thread nD τ) arg3 fullShare (r.kp)
          ∗ owns (c : Thread nD τ) arg4 fullShare (r.kc)
          ∗ owns (c : Thread nD τ) arg5 fullShare (r.vp)
          ∗ owns (c : Thread nD τ) arg6 fullShare (r.vc)
          ∗ owns (c : Thread nD τ) arg7 fullShare (r.sink)
          ∗ owns (c : Thread nD τ) arg8 fullShare (r.slope)
          ∗ owns (c : Thread nD τ) arg9 fullShare (r.dy)
          ∗ owns (c : Thread nD τ) arg10 fullShare (dqNew i r x10)
          ∗ owns (c : Thread nD τ) arg11 fullShare (kvNew i r x11)
          ∗ owns (c : Thread nD τ) arg12 fullShare (skNew i r x12)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K := by
    obtain ⟨h1, h2, h2', h3, h4⟩ | ⟨h1, h2, h2', h3, h4⟩ | ⟨h1, h2, h2', h3, h4⟩ := cases i
    all_goals
      simp only [cc0_attn_bwd_eq_skeleton]; unfold cc0_attn_bwd_skel
      simp only [k0_part1_eq_skeleton, k0_part2_eq_skeleton, k0_part3_eq_skeleton, k0_part4_eq_skeleton, k0_part5_eq_skeleton]
      unfold owns
      iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
      obtain rfl := harg2.eq_unread e2; obtain rfl := harg3.eq_unread e3; obtain rfl := harg4.eq_unread e4; obtain rfl := harg5.eq_unread e5; obtain rfl := harg6.eq_unread e6; obtain rfl := harg7.eq_unread e7
      obtain rfl := harg8.eq_unread e8; obtain rfl := harg9.eq_unread e9; obtain rfl := harg10.eq_unread e10; obtain rfl := harg11.eq_unread e11; obtain rfl := harg12.eq_unread e12
      sl_exec (disch := first | sl_exact h1 | sl_exact h2 | sl_exact h3 | sl_exact h4)
      sl_step
      iapply Hk
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; sl_unfold_run_names
        simp only [dqNew, kvNew, kvMid, skNew, addOne, addTwo, addSink, dv, dk, dp, ex, exSink, tot, inv, dist, qs, ks, vs, hd, c0, c1, c2, c3, h1, h2', h3, h4, ↓reduceIte, readAt_all, read_all, readCov_all, View.writes_nil, Memref.IsWhole.read_unread, readAt_cols _ (show 0 + 64 ≤ 256 by norm_num), readAt_cols _ (show 64 + 64 ≤ 256 by norm_num), readAt_cols _ (show 128 + 64 ≤ 256 by norm_num), readAt_cols _ (show 192 + 64 ≤ 256 by norm_num), read_writec]
      isplitl [H11]
      · iexists _; isplitr; swap; · iexact H11
        ipureintro; sl_unfold_run_names
        first
          | simp only [dqNew, kvNew, kvMid, skNew, addOne, addTwo, addSink, dv, dk, dp, ex, exSink, tot, inv, dist, qs, ks, vs, hd, c0, c1, c2, c3, h1, h2', h3, h4, ↓reduceIte, readAt_all, read_all, readCov_all, View.writes_nil, Memref.IsWhole.read_unread, readAt_cols _ (show 0 + 64 ≤ 256 by norm_num), readAt_cols _ (show 64 + 64 ≤ 256 by norm_num), readAt_cols _ (show 128 + 64 ≤ 256 by norm_num), readAt_cols _ (show 192 + 64 ≤ 256 by norm_num), read_writec, read_write _ _ _ (off1 i h4), readAt_rows (off1 i h4) (lo_le i)]; done
          | simp only [dqNew, kvNew, kvMid, skNew, addOne, addTwo, addSink, dv, dk, dp, ex, exSink, tot, inv, dist, qs, ks, vs, hd, c0, c1, c2, c3, h1, h2', h3, h4, ↓reduceIte, readAt_all, read_all, readCov_all, View.writes_nil, Memref.IsWhole.read_unread, readAt_cols _ (show 0 + 64 ≤ 256 by norm_num), readAt_cols _ (show 64 + 64 ≤ 256 by norm_num), readAt_cols _ (show 128 + 64 ≤ 256 by norm_num), readAt_cols _ (show 192 + 64 ≤ 256 by norm_num), read_writec, read_write (N := 128) (n := 2048) (k := 256) _ _ _ (rfl : (![0, 0] : Fin 2 → ℕ) = ![0, 0]), readAt_rows (N := 128) (n := 2048) (rfl : (![0, 0] : Fin 2 → ℕ) = ![0, 0]) (by norm_num), readCov_whole (N := 128) (n := 2048) _ (by norm_num) (rfl : (![0, 0] : Fin 2 → ℕ) = ![0, 0])]
      iexists _; isplitr; swap; · iexact H12
      ipureintro; sl_unfold_run_names
      simp only [dqNew, kvNew, kvMid, skNew, addOne, addTwo, addSink, dv, dk, dp, ex, exSink, tot, inv, dist, qs, ks, vs, hd, c0, c1, c2, c3, h1, h2', h3, h4, ↓reduceIte, readAt_all, read_all, readCov_all, View.writes_nil, Memref.IsWhole.read_unread, readAt_cols _ (show 0 + 64 ≤ 256 by norm_num), readAt_cols _ (show 64 + 64 ≤ 256 by norm_num), readAt_cols _ (show 128 + 64 ≤ 256 by norm_num), readAt_cols _ (show 192 + 64 ≤ 256 by norm_num), read_writec]

end Cert.Attn
end
-- ==== Proof.Attn.Block.lean ====
module

public import proofs.«01_k».proof.Proof.Attn.Body
public import Idealize.ShloMosaic.Lib.Pipeline.ValueKit
public import Idealize.ShloMosaic.Lib.Pointwise

@[expose] public section

set_option maxRecDepth 16384

/-!
# What one grid point of the attention's gradient computes, element by element

Row `ro g a` of the 512 is query head `g` of the four, query `a` of the block's 128.
-/

noncomputable section

open Idealize Idealize.ShloMosaic Idealize.ShloMosaic.Pipeline Idealize.SL
open Cert.KernelAttnIdeal Cert.KernelAttnIdeal.Gen Cert.Bands

namespace Cert.Attn

/-- The row of a query head and a query. -/
def ro (g : Fin 4) (a : Fin 128) : Fin 512 := ⟨128 * g.val + a.val, by omega⟩

/-- The column of a query head and a feature. -/
def co (g : Fin 4) (d : Fin 64) : Fin 256 := ⟨64 * g.val + d.val, by omega⟩

/-- Key row `j` of the block before and of this one, at feature `d` of head `h`. -/
def keyRow (p c : Vec Ideal S128x128 .f32) (h : ℕ) (j : Fin 256) (d : Fin 64) : EReal :=
  if hj : j.val < 128 then p (ix2 ⟨j.val, hj⟩ ⟨64 * (h % 2) + d.val, by omega⟩)
  else c (ix2 ⟨j.val - 128, by omega⟩ ⟨64 * (h % 2) + d.val, by omega⟩)

variable (i : grid0.Coords) (r : Reads Ideal)

theorem stack_at (X : Vec Ideal S128x256 .f32) (g : Fin 4) (a : Fin 128) (d : Fin 64) :
    k0_pay9 (c0 X) (c1 X) (c2 X) (c3 X) (ix2 (ro g a) d) = X (ix2 a (co g d)) := by
  have ha := a.isLt
  fin_cases g
  · unfold ro co c0 c1 c2 c3; pointwise [k0_pay9, cols]
  · unfold ro co c0 c1 c2 c3; pointwise [k0_pay9, cols]
  all_goals
    unfold ro co c0 c1 c2 c3
    pointwise [k0_pay9, cols]
    split_ifs <;> first | omega | exact congrArg (fun q => X (ix2 q _)) (Fin.ext (show _ = a.val by dsimp only; omega))

theorem stackDy_at (X : Vec Ideal S128x256 .f32) (g : Fin 4) (a : Fin 128) (d : Fin 64) :
    k0_pay12 (c0 X) (c1 X) (c2 X) (c3 X) (ix2 (ro g a) d) = X (ix2 a (co g d)) := by
  have ha := a.isLt
  fin_cases g
  · unfold ro co c0 c1 c2 c3; pointwise [k0_pay12, cols]
  · unfold ro co c0 c1 c2 c3; pointwise [k0_pay12, cols]
  all_goals
    unfold ro co c0 c1 c2 c3
    pointwise [k0_pay12, cols]
    split_ifs <;> first | omega | exact congrArg (fun q => X (ix2 q _)) (Fin.ext (show _ = a.val by dsimp only; omega))

theorem keys_at (p c : Vec Ideal S128x128 .f32) (j : Fin 256) (d : Fin 64) : k0_pay10 (hd i) p c (ix2 j d) = keyRow p c (i 0).val j d := by
  have h : (i 0).val < 2 := (i 0).isLt
  unfold keyRow
  obtain h | h : (i 0).val = 0 ∨ (i 0).val = 1 := by omega
  all_goals
    unfold hd
    rw [h]
    first | (pointwise [k0_pay10]; done) | (pointwise [k0_pay10]; rfl)

/-- The remainder by 128 the kernel takes of a row's number. -/
def rowRem (x : BitVec 32) : BitVec 32 :=
  let n := Scalar.select (Scalar.cmpi CmpIPredicate.eq 128#32 0#32) 1#32 128#32
  let q := IntOp.remsi ArithUnit.vector x n
  Scalar.select (IntOp.andi (IntOp.xori (IntOp.cmpi CmpIPredicate.slt q 0#32) (Scalar.cmpi CmpIPredicate.slt n 0#32)) (IntOp.cmpi CmpIPredicate.ne q 0#32))
    (IntOp.addi q n) q

theorem rowRem_eq : ∀ g : Fin 4, ∀ a : Fin 128, rowRem (BitVec.ofNat 32 (128 * g.val + a.val)) = BitVec.ofNat 32 a.val := by decide +kernel

theorem dist_at (g : Fin 4) (a : Fin 128) (j : Fin 256) :
    k0_pay6 (ix2 (ro g a) j) = IntOp.subi (IntOp.addi (BitVec.ofNat 32 a.val) 128#32) (BitVec.ofNat 32 j.val) := by
  have e : k0_pay6 (ix2 (ro g a) j) = IntOp.subi (IntOp.addi (rowRem (BitVec.ofNat 32 (128 * g.val + a.val))) 128#32) (BitVec.ofNat 32 j.val) := by
    unfold ro rowRem
    pointwise [k0_pay6]
  rw [e, rowRem_eq]

/-- Whether query `a` of block `n` sees key `j`, as the kernel tests it. -/
def seen (n : ℕ) (a : Fin 128) (j : Fin 256) : BitVec 1 :=
  IntOp.andi (IntOp.andi (IntOp.cmpi .sge (IntOp.subi (IntOp.addi (BitVec.ofNat 32 a.val) 128#32) (BitVec.ofNat 32 j.val)) 0#32)
      (IntOp.cmpi .slt (IntOp.subi (IntOp.addi (BitVec.ofNat 32 a.val) 128#32) (BitVec.ofNat 32 j.val)) 128#32))
    (IntOp.ori (IntOp.cmpi .sgt (BitVec.ofNat 32 n) 0#32) (IntOp.cmpi .sge (BitVec.ofNat 32 j.val) 128#32))

theorem mask_at (g : Fin 4) (a : Fin 128) (j : Fin 256) : k0_pay7 i (ix2 (ro g a) j) = seen (i 1).val a j := by
  unfold seen
  rw [← dist_at g]
  unfold k0_pay7
  generalize k0_pay6 = d
  pointwise
  rfl

/-- A score before the mask: the product of a query and a key, scaled, less the slope times the distance. -/
def rawScore (q : Fin 64 → EReal) (k : Fin 64 → EReal) (slope : EReal) (a : Fin 128) (j : Fin 256) : EReal :=
  (∑ d : Fin 64, q d * k d) * Ideal.ofBits .f32 0x3E000000#32
    - slope * FloatOps.sitofp (F := Ideal) .f32 (IntOp.subi (IntOp.addi (BitVec.ofNat 32 a.val) 128#32) (BitVec.ofNat 32 j.val))

/-- The masked scores of the point. -/
def score : FVec Ideal S512x256 .f32 := k0_pay16 (k0_pay7 i) (dist (F := Ideal)) (qs r) (ks i r) r.slope

theorem score_at (g : Fin 4) (a : Fin 128) (j : Fin 256) :
    score i r (ix2 (ro g a) j) = Scalar.select (seen (i 1).val a j)
      (rawScore (fun d => r.q (ix2 a (co g d))) (fun d => keyRow r.kp r.kc (i 0).val j d) (r.slope (ix2 (ro g a) 0)) a j) ⊥ := by
  have e : score i r (ix2 (ro g a) j) = Scalar.select (k0_pay7 i (ix2 (ro g a) j))
      ((∑ d : Fin 64, qs r (ix2 (ro g a) d) * ks i r (ix2 j d)) * Ideal.ofBits .f32 0x3E000000#32
        - r.slope (ix2 (ro g a) 0) * FloatOps.sitofp (F := Ideal) .f32 (k0_pay6 (ix2 (ro g a) j)))
      (Named.named (F := Ideal) Cert.KernelAttnIdeal.κ "mask" (φ := .f32) 0xF149F2CA#32) := by
    unfold score dist
    generalize k0_pay7 i = m
    generalize k0_pay6 = d
    generalize qs r = q
    generalize ks i r = k
    pointwise [k0_pay16, k0_pay14, k0_pay15, k0_pay8]
  rw [e, mask_at, dist_at, IdealRules.named_const.ideal_named_scalar _ _ _ _ rfl]
  unfold rawScore qs ks
  simp only [stack_at, keys_at]

/-- The largest score of a row, or the sink where that is larger. -/
def top : FVec Ideal S512x1 .f32 := k0_pay17 (k0_pay7 i) (dist (F := Ideal)) (qs r) (ks i r) r.slope r.sink

theorem top_at (ρ : Fin 512) : top i r (ix2 ρ 0) =
    max (Finset.fold max (Ideal.ofBits .f32 0xFF800000#32) (fun j : Fin 256 => score i r (ix2 ρ j)) Finset.univ) (r.sink (ix2 ρ 0)) := by
  unfold top k0_pay17 score
  generalize k0_pay16 (k0_pay7 i) (dist (F := Ideal)) (qs r) (ks i r) r.slope = s
  pointwise [k0_pay13]

theorem ex_at (ρ : Fin 512) (j : Fin 256) : ex i r (ix2 ρ j) = Ideal.exp (score i r (ix2 ρ j) - top i r (ix2 ρ 0)) := by
  unfold ex k0_pay18 score top
  generalize k0_pay16 (k0_pay7 i) (dist (F := Ideal)) (qs r) (ks i r) r.slope = s
  generalize k0_pay17 (k0_pay7 i) (dist (F := Ideal)) (qs r) (ks i r) r.slope r.sink = m
  pointwise

theorem exSink_at (ρ : Fin 512) : exSink i r (ix2 ρ 0) = Ideal.exp (r.sink (ix2 ρ 0) - top i r (ix2 ρ 0)) := by
  unfold exSink k0_pay19 top
  generalize k0_pay17 (k0_pay7 i) (dist (F := Ideal)) (qs r) (ks i r) r.slope r.sink = m
  pointwise [k0_pay13]

theorem tot_at (ρ : Fin 512) : tot i r (ix2 ρ 0) = (∑ j : Fin 256, ex i r (ix2 ρ j)) + exSink i r (ix2 ρ 0) := by
  unfold tot k0_pay20 ex exSink
  generalize k0_pay18 (k0_pay7 i) (dist (F := Ideal)) (qs r) (ks i r) r.slope r.sink = e
  generalize k0_pay19 (k0_pay7 i) (dist (F := Ideal)) (qs r) (ks i r) r.slope r.sink = s
  pointwise

theorem inv_at (ρ : Fin 512) : inv i r (ix2 ρ 0) = Ideal.div (Ideal.ofBits .f32 0x3F800000#32) (tot i r (ix2 ρ 0) * tot i r (ix2 ρ 0)) := by
  unfold inv k0_pay21 tot
  generalize k0_pay20 (k0_pay7 i) (dist (F := Ideal)) (qs r) (ks i r) r.slope r.sink = s
  pointwise

theorem dp_at (g : Fin 4) (a : Fin 128) (j : Fin 256) :
    dp i r (ix2 (ro g a) j) = ∑ d : Fin 64, r.dy (ix2 a (co g d)) * keyRow r.vp r.vc (i 0).val j d := by
  have e : dp i r (ix2 (ro g a) j) = ∑ d : Fin 64, k0_pay12 (c0 r.dy) (c1 r.dy) (c2 r.dy) (c3 r.dy) (ix2 (ro g a) d) * k0_pay10 (hd i) r.vp r.vc (ix2 j d) := by
    unfold dp
    rw [show vs i r = k0_pay10 (hd i) r.vp r.vc from rfl]
    unfold k0_pay23
    generalize k0_pay12 (c0 r.dy) (c1 r.dy) (c2 r.dy) (c3 r.dy) = y
    generalize k0_pay10 (hd i) r.vp r.vc = v
    pointwise
  rw [e]
  simp only [stackDy_at, keys_at]

/-- The gradient of a row's normaliser. -/
def dz : FVec Ideal S512x1 .f32 := k0_pay24 (ex i r) (inv i r) (dp i r)

theorem dz_at (ρ : Fin 512) : dz i r (ix2 ρ 0) = -∑ j : Fin 256, dp i r (ix2 ρ j) * inv i r (ix2 ρ 0) * ex i r (ix2 ρ j) := by
  unfold dz k0_pay24
  generalize ex i r = e
  generalize inv i r = v
  generalize dp i r = p
  pointwise
  rw [zero_sub]

/-- The gradient of the scaled products of queries and keys, scaled. -/
def ds : FVec Ideal S512x256 .f32 := k0_pay25 (k0_pay7 i) (ex i r) (tot i r) (inv i r) (dp i r)

theorem ds_at (g : Fin 4) (a : Fin 128) (j : Fin 256) :
    ds i r (ix2 (ro g a) j) = Scalar.select (seen (i 1).val a j)
      ((Ideal.div (dp i r (ix2 (ro g a) j)) (tot i r (ix2 (ro g a) 0)) + dz i r (ix2 (ro g a) 0)) * ex i r (ix2 (ro g a) j)) 0
        * Ideal.ofBits .f32 0x3E000000#32 := by
  rw [← mask_at i g]
  unfold ds k0_pay25 dz
  generalize k0_pay24 (ex i r) (inv i r) (dp i r) = z
  generalize ex i r = e
  generalize tot i r = t
  generalize dp i r = p
  generalize k0_pay7 i = m
  pointwise
  exact congrArg (fun q => Scalar.select (m (ix2 (ro g a) j)) ((Ideal.div (p (ix2 (ro g a) j)) (t (ix2 (ro g a) 0)) + q) * e (ix2 (ro g a) j)
    * Ideal.ofBits .f32 0x3E000000#32) 0) (Fin.sum_univ_one fun q : Fin 1 => z (ix2 (ro g a) q))

theorem dv_at (j : Fin 256) (d : Fin 64) :
    dv i r (ix2 j d) = ∑ ρ : Fin 512, k0_pay12 (c0 r.dy) (c1 r.dy) (c2 r.dy) (c3 r.dy) (ix2 ρ d) * Ideal.div (ex i r (ix2 ρ j)) (tot i r (ix2 ρ 0)) := by
  unfold dv k0_pay22 ex tot
  generalize k0_pay18 (k0_pay7 i) (dist (F := Ideal)) (qs r) (ks i r) r.slope r.sink = e
  generalize k0_pay20 (k0_pay7 i) (dist (F := Ideal)) (qs r) (ks i r) r.slope r.sink = s
  generalize k0_pay12 (c0 r.dy) (c1 r.dy) (c2 r.dy) (c3 r.dy) = y
  pointwise

theorem dk_at (j : Fin 256) (d : Fin 64) : dk i r (ix2 j d) = ∑ ρ : Fin 512, ds i r (ix2 ρ j) * qs r (ix2 ρ d) := by
  unfold dk k0_pay26 ds
  generalize k0_pay25 (k0_pay7 i) (ex i r) (tot i r) (inv i r) (dp i r) = s
  generalize qs r = q
  pointwise [k0_pay14]

/-- The queries' gradient, head below head. -/
def dq : FVec Ideal S512x64 .f32 := k0_pay27 (k0_pay7 i) (k0_pay15 (ks i r)) (ex i r) (tot i r) (inv i r) (dp i r)

theorem dq_at (ρ : Fin 512) (d : Fin 64) : dq i r (ix2 ρ d) = ∑ j : Fin 256, ds i r (ix2 ρ j) * ks i r (ix2 j d) := by
  unfold dq k0_pay27 ds
  generalize k0_pay25 (k0_pay7 i) (ex i r) (tot i r) (inv i r) (dp i r) = s
  generalize ks i r = k
  pointwise [k0_pay15]

theorem dqNew_at (x : Vec Ideal S128x256 .f32) (g : Fin 4) (a : Fin 128) (d : Fin 64) :
    dqNew i r x (ix2 a (co g d)) = dq i r (ix2 (ro g a) d) := by
  have hd := d.isLt
  unfold dqNew dq putc k0_pay28 k0_pay29 k0_pay30 k0_pay31
  generalize k0_pay27 (k0_pay7 i) (k0_pay15 (ks i r)) (ex i r) (tot i r) (inv i r) (dp i r) = s
  fin_cases g
  all_goals
    unfold co ro
    pointwise
    split_ifs <;> first | omega | rfl | exact (‹False ∧ _›).1.elim

theorem addSink_at (s : Vec Ideal S512x1 .f32) (ρ : Fin 512) :
    addSink i r s (ix2 ρ 0) = s (ix2 ρ 0) + dz i r (ix2 ρ 0) * exSink i r (ix2 ρ 0) := by
  unfold addSink k0_pay32 dz
  generalize k0_pay24 (ex i r) (inv i r) (dp i r) = z
  generalize exSink i r = t
  pointwise

/-- A column of the keys' (`w = 0`) and values' (`w = 1`) gradients. -/
def kvCol (w h : Fin 2) (d : Fin 64) : Fin 256 := ⟨128 * w.val + 64 * h.val + d.val, by omega⟩

/-- The point's share of the keys' or values' gradient. -/
def share (w : Fin 2) (j : Fin 256) (d : Fin 64) : EReal := if w.val = 0 then dk i r (ix2 j d) else dv i r (ix2 j d)

theorem mine_row (x : BitVec 32) (j : Fin 256) (c : Fin 256) : k0_pay33 x (ix2 j c) = k0_pay33 x (ix2 0 c) := by pointwise [k0_pay33]

theorem mine_col : ∀ e w h : Fin 2, ∀ d : Fin 64, k0_pay33 (BitVec.ofNat 32 e.val) (ix2 0 (kvCol w h d)) = if h.val = e.val then 1#1 else 0#1 := by
  decide +kernel

/-- The kernel's test of a column's head. -/
theorem mine_at (w h : Fin 2) (d : Fin 64) (j : Fin 256) :
    k0_pay33 (hd i) (ix2 j (kvCol w h d)) = if h.val = (i 0).val then 1#1 else 0#1 :=
  (mine_row _ j _).trans (mine_col (⟨(i 0).val, (i 0).isLt⟩ : Fin 2) w h d)

theorem cat_at (w h : Fin 2) (d : Fin 64) (j : Fin 256) : k0_pay34 (dv i r) (dk i r) (ix2 j (kvCol w h d)) = share i r w j d := by
  unfold share
  generalize dv i r = v
  generalize dk i r = k
  unfold kvCol
  have hd := d.isLt
  fin_cases w <;> fin_cases h
  · pointwise [k0_pay34]
  · pointwise [k0_pay34]
  all_goals
    pointwise [k0_pay34]
    split_ifs <;> first | omega | exact congrArg (fun q => v (ix2 j q)) (Fin.ext (show _ = d.val by dsimp only; omega))

/-- A point's share of a column of another head is zero. -/
theorem addOne_at (x : Vec Ideal S128x256 .f32) (w h : Fin 2) (d : Fin 64) (j : Fin 128) :
    addOne i r x (ix2 j (kvCol w h d)) = x (ix2 j (kvCol w h d)) + if h.val = (i 0).val then share i r w ⟨128 + j.val, by omega⟩ d else 0 := by
  have e : addOne i r x (ix2 j (kvCol w h d)) = x (ix2 j (kvCol w h d)) +
      Scalar.select (k0_pay33 (hd i) (ix2 ⟨128 + j.val, by omega⟩ (kvCol w h d))) (k0_pay34 (dv i r) (dk i r) (ix2 ⟨128 + j.val, by omega⟩ (kvCol w h d))) 0 := by
    unfold addOne
    generalize k0_pay33 (hd i) = m
    generalize k0_pay34 (dv i r) (dk i r) = s
    generalize kvCol w h d = c
    pointwise [k0_pay2, k0_pay1, k0_pay35]
  rw [e, mine_at, cat_at]
  split_ifs <;> rfl

theorem addTwo_at (x : Vec Ideal S256x256 .f32) (w h : Fin 2) (d : Fin 64) (j : Fin 256) :
    addTwo i r x (ix2 j (kvCol w h d)) = x (ix2 j (kvCol w h d)) + if h.val = (i 0).val then share i r w j d else 0 := by
  have e : addTwo i r x (ix2 j (kvCol w h d)) = x (ix2 j (kvCol w h d)) +
      Scalar.select (k0_pay33 (hd i) (ix2 j (kvCol w h d))) (k0_pay34 (dv i r) (dk i r) (ix2 j (kvCol w h d))) 0 := by
    unfold addTwo
    generalize k0_pay33 (hd i) = m
    generalize k0_pay34 (dv i r) (dk i r) = s
    generalize kvCol w h d = c
    pointwise [k0_pay3, k0_pay1, k0_pay35]
  rw [e, mine_at, cat_at]
  split_ifs <;> rfl

end Cert.Attn
end
-- ==== Proof.Attn.Chain.lean ====
module

public import proofs.«01_k».proof.Proof.Attn.Body
public import proofs.«01_k».proof.Proof.Math.Tiles

@[expose] public section

set_option maxRecDepth 16384

/-!
# The points in their order

What the windows hold after each grid point, over the blocks the points read: the queries' gradient of the point (`DQ`),
the keys' and values' gradients over the points so far (`KV`), and the sinks' over the head's points so far (`SK`).
-/

noncomputable section

open Idealize.ShloMosaic
open Cert.KernelAttnIdeal Cert.KernelAttnIdeal.Gen Cert.Bands Cert.Tiles

namespace Cert.Attn

variable {F : FTy → Type} [FloatOps F] [Named F]

theorem headCoord : ∀ t : Fin grid0.N, (grid0.coords t 0).val = t.val / 16 := by decide +kernel
theorem rowCoord : ∀ t : Fin grid0.N, (grid0.coords t 1).val = t.val % 16 := by decide +kernel
theorem cond1_iff : ∀ t : Fin grid0.N, k0_cond1 (grid0.coords t) = 1#1 ↔ t.val = 0 := by decide +kernel
theorem cond4_iff : ∀ t : Fin grid0.N, k0_cond4 (grid0.coords t) = 1#1 ↔ t.val % 16 ≠ 0 := by decide +kernel

/-- A number as a grid point. -/
def pt (n : ℕ) : Fin grid0.N := ⟨n % 32, lt_of_lt_of_eq (Nat.mod_lt _ (by norm_num)) N_0.symm⟩

theorem pt_val (t : Fin grid0.N) : pt t.val = t := Fin.ext (Nat.mod_eq_of_lt (lt_of_lt_of_eq t.isLt N_0))

/-- Four bands of columns that fill a matrix leave nothing of what it held. -/
theorem putc_all {X X' : Vec F S128x256 .f32} {a b c d : Vec F S128x64 .f32} :
    putc 192 (putc 128 (putc 64 (putc 0 X a) b) c) d = putc 192 (putc 128 (putc 64 (putc 0 X' a) b) c) d := by
  funext y
  have h : (y 1).val < 256 := (y 1).isLt
  unfold putc
  split; · rfl
  split; · rfl
  split; · rfl
  split; · rfl
  omega

variable (B : ℕ → Reads F)

/-- The queries' gradient of point `n`. -/
def DQ (n : ℕ) : Vec F S128x256 .f32 := dqNew (grid0.coords (pt n)) (B n) (B n).q

/-- The keys' and values' gradients after point `n`. -/
def KV : ℕ → Vec F S2048x256 .f32
  | 0 => kvNew (grid0.coords (pt 0)) (B 0) (k0_pay4 (F := F))
  | n + 1 => kvNew (grid0.coords (pt (n + 1))) (B (n + 1)) (KV n)

/-- The sinks' gradient by row after point `n`, over the points of its head. -/
def SK : ℕ → Vec F S512x1 .f32 := rowAcc 16 (k0_pay5 (F := F)) fun n a => addSink (grid0.coords (pt n)) (B n) a

variable {B} (t : Fin grid0.N)

theorem dq_eq (x : Vec F S128x256 .f32) : dqNew (grid0.coords t) (B t.val) x = DQ B t.val := by
  unfold DQ; rw [pt_val]; exact putc_all

theorem kv_eq {x : Vec F S2048x256 .f32} (h : t.val ≠ 0 → x = KV B (t.val - 1)) : kvNew (grid0.coords t) (B t.val) x = KV B t.val := by
  by_cases h0 : t.val = 0
  · have e : kvMid (grid0.coords t) x = kvMid (grid0.coords t) (k0_pay4 (F := F)) := by
      unfold kvMid; rw [if_pos ((cond1_iff t).mpr h0), if_pos ((cond1_iff t).mpr h0)]
    have e' : KV B t.val = kvNew (grid0.coords t) (B t.val) (k0_pay4 (F := F)) := by
      have e0 := pt_val t
      rw [h0] at e0 ⊢
      rw [KV, e0]
    rw [e']; unfold kvNew; rw [e]
  · rw [h h0]
    obtain ⟨k, hk⟩ := Nat.exists_eq_succ_of_ne_zero h0
    have ht := pt_val t
    rw [hk] at ht ⊢
    rw [KV, ht]
    rfl

theorem sk_eq {x : Vec F S512x1 .f32} (h : t.val % 16 ≠ 0 → x = SK B (t.val - 1)) : skNew (grid0.coords t) (B t.val) x = SK B t.val := by
  unfold skNew SK; rw [rowCoord, ← rowAcc_step h, pt_val]

end Cert.Attn
end
-- ==== Proof.Attn.Frame.lean ====
module

public import proofs.«01_k».proof.Proof.Attn.Chain
public import Idealize.ShloMosaic.Lib.Pipeline.TableIdle

@[expose] public section

set_option maxRecDepth 16384

/-!
# The frame of the attention's gradient

The launch ends, with the windows' arrays at what the points leave, and the counters at zero.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal Cert.KernelAttnIdeal.Gen Cert.Bands Cert.Tiles

namespace Cert.Attn

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The blocks the region's arrays hold. -/
def blocks (c : Dev nD) (n : ℕ) : Reads F where
  q := iblk m c 0 (pt n)
  kp := iblk m c 1 (pt n)
  kc := iblk m c 2 (pt n)
  vp := iblk m c 3 (pt n)
  vc := iblk m c 4 (pt n)
  sink := iblk m c 5 (pt n)
  slope := iblk m c 6 (pt n)
  dy := iblk m c 7 (pt n)

theorem blocks_q (c : Dev nD) (t : Fin cfg0.N) : (blocks m c t.val).q = iblk m c 0 t := by
  show (fun s : Fin cfg0.N => (iblk m c 0 s : Vec F S128x256 .f32)) (pt t.val) = _; rw [pt_val]
theorem blocks_kp (c : Dev nD) (t : Fin cfg0.N) : (blocks m c t.val).kp = iblk m c 1 t := by
  show (fun s : Fin cfg0.N => (iblk m c 1 s : Vec F S128x128 .f32)) (pt t.val) = _; rw [pt_val]
theorem blocks_kc (c : Dev nD) (t : Fin cfg0.N) : (blocks m c t.val).kc = iblk m c 2 t := by
  show (fun s : Fin cfg0.N => (iblk m c 2 s : Vec F S128x128 .f32)) (pt t.val) = _; rw [pt_val]
theorem blocks_vp (c : Dev nD) (t : Fin cfg0.N) : (blocks m c t.val).vp = iblk m c 3 t := by
  show (fun s : Fin cfg0.N => (iblk m c 3 s : Vec F S128x128 .f32)) (pt t.val) = _; rw [pt_val]
theorem blocks_vc (c : Dev nD) (t : Fin cfg0.N) : (blocks m c t.val).vc = iblk m c 4 t := by
  show (fun s : Fin cfg0.N => (iblk m c 4 s : Vec F S128x128 .f32)) (pt t.val) = _; rw [pt_val]
theorem blocks_sink (c : Dev nD) (t : Fin cfg0.N) : (blocks m c t.val).sink = iblk m c 5 t := by
  show (fun s : Fin cfg0.N => (iblk m c 5 s : Vec F S512x1 .f32)) (pt t.val) = _; rw [pt_val]
theorem blocks_slope (c : Dev nD) (t : Fin cfg0.N) : (blocks m c t.val).slope = iblk m c 6 t := by
  show (fun s : Fin cfg0.N => (iblk m c 6 s : Vec F S512x1 .f32)) (pt t.val) = _; rw [pt_val]
theorem blocks_dy (c : Dev nD) (t : Fin cfg0.N) : (blocks m c t.val).dy = iblk m c 7 t := by
  show (fun s : Fin cfg0.N => (iblk m c 7 s : Vec F S128x256 .f32)) (pt t.val) = _; rw [pt_val]

/-- The proof data: inputs at their blocks, outputs at the points' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DQ (blocks m c) t.val
    | ⟨9, _⟩ => KV (blocks m c) t.val
    | ⟨10, _⟩ => SK (blocks m c) t.val
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DQ (blocks m c) t.val := by dsimp only [dats]
theorem after0_9 (c : Dev nD) (t : Fin cfg0.N) : (dats m 0 c).after 9 t = KV (blocks m c) t.val := by dsimp only [dats]
theorem after0_10 (c : Dev nD) (t : Fin cfg0.N) : (dats m 0 c).after 10 t = SK (blocks m c) t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem live9 : ∀ t : Fin grid0.N, cfg0.idle 9 (grid0.coords t) = false := by decide +kernel

theorem fresh9 : ∀ n, n < 32 → cfg0.fresh 9 n = decide (n = 0)
  | 0, _ => rfl
  | n + 1, h => by
    have hN : n < cfg0.N := lt_of_lt_of_eq (by omega) (show 32 = cfg0.N from N_0.symm)
    rw [Cfg.fresh_succ cfg0 9 n hN]
    have hf : (cfg0.win 9).flush ⟨n, hN⟩ = false := Bool.eq_false_iff.mpr fun h' => by have := (flush0_9 _).mp h'; dsimp only at this; omega
    have hi : cfg0.idle 9 (cfg0.grid.coords ⟨n, hN⟩) = false := live9 ⟨n, hN⟩
    rw [hf, hi]; simp

theorem fresh10 : ∀ n, n < 32 → cfg0.fresh 10 n = decide (n % 16 = 0)
  | 0, _ => rfl
  | n + 1, h => by
    have hN : n < cfg0.N := lt_of_lt_of_eq (by omega) (show 32 = cfg0.N from N_0.symm)
    rw [Cfg.fresh_succ cfg0 10 n hN]
    have hi : cfg0.idle 10 (cfg0.grid.coords ⟨n, hN⟩) = false := rfl
    rw [hi]
    by_cases h0 : n % 16 = 15
    · rw [(flush0_10 ⟨n, hN⟩).mpr h0]; simp; omega
    · rw [Bool.eq_false_iff.mpr fun h' => h0 ((flush0_10 ⟨n, hN⟩).mp h')]; simp; omega

/-- After the first point the keys' and values' window holds what the point before left. -/
theorem before0_9 (c : Dev nD) (t : Fin cfg0.N) (h : t.val ≠ 0) (d) : (dats m 0 c).before 9 t d = KV (blocks m c) (t.val - 1) := by
  have hN : t.val < 32 := lt_of_lt_of_eq t.isLt (show cfg0.N = 32 from N_0)
  rw [(dats m 0 c).before_out_traj 9 rfl (fun _ _ => rfl) (fun s _ hi _ => absurd hi (by rw [live9 s]; exact Bool.false_ne_true)) t.val t rfl d,
    fresh9 _ hN, if_neg (by simpa using h), after0_9]

/-- After the head's first point the sinks' window likewise. -/
theorem before0_10 (c : Dev nD) (t : Fin cfg0.N) (h : t.val % 16 ≠ 0) (d) : (dats m 0 c).before 10 t d = SK (blocks m c) (t.val - 1) := by
  have hN : t.val < 32 := lt_of_lt_of_eq t.isLt (show cfg0.N = 32 from N_0)
  rw [(dats m 0 c).before_out_traj 10 rfl (fun _ _ => rfl) (fun s _ hi _ => absurd hi Bool.false_ne_true) t.val t rfl d,
    fresh10 _ hN, if_neg (by simpa using h), after0_10]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ owns (c : Thread nD τ) (st0_10 t) fullShare ((dats m 0 c).after 10 t))

theorem leavesExact_live {c : Dev nD} (dat : Dat τ (Elt F) Unit ℕ (UR sig nD τ) ℕ cfg0 c) (w : Fin cfg0.W) (t : Fin cfg0.N)
    (hi : cfg0.idle w (cfg0.grid.coords t) = false) :
    dat.leavesExact w t = owns (c : Thread nD τ) ((cfg0.win w).stage (cfg0.slots t w)) fullShare (dat.after w t) := by
  unfold Dat.leavesExact; rw [hi]

variable {m}

/-- The queries' gradient's window after the point. -/
theorem leaves8 (c : Dev nD) (t : Fin cfg0.N) (d) :
    owns (c : Thread nD τ) (st0_8 t) fullShare (dqNew (grid0.coords t) (blocks m c t.val) ((dats m 0 c).before 8 t d))
      = (owns (c : Thread nD τ) (st0_8 t) fullShare ((dats m 0 c).after 8 t) : sProp 𝕄) := by
  rw [after0_8, dq_eq]

/-- The keys' and values' gradients' window. -/
theorem leaves9 (c : Dev nD) (t : Fin cfg0.N) (d) :
    owns (c : Thread nD τ) (st0_9 t) fullShare (kvNew (grid0.coords t) (blocks m c t.val) ((dats m 0 c).before 9 t d))
      ⊢ ((dats m 0 c).leavesExact 9 t : sProp 𝕄) := by
  rw [leavesExact_live _ 9 t (live9 t), after0_9, kv_eq t fun h => before0_9 m c t h d]

/-- The sinks' gradient's window. -/
theorem leaves10 (c : Dev nD) (t : Fin cfg0.N) (d) :
    owns (c : Thread nD τ) (st0_10 t) fullShare (skNew (grid0.coords t) (blocks m c t.val) ((dats m 0 c).before 10 t d))
      = (owns (c : Thread nD τ) (st0_10 t) fullShare ((dats m 0 c).after 10 t) : sProp 𝕄) := by
  rw [after0_10, sk_eq t fun h => before0_10 m c t h d]

variable (m)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, ← blocks_q, ← blocks_kp, ← blocks_kc, ← blocks_vp, ← blocks_vc, ← blocks_sink, ← blocks_slope, ← blocks_dy]
  rw [show (dats m 0 c).owesAt () t.succ = (dats m 0 c).owesAt () t.castSucc from rfl, after0_0, after0_1, after0_2, after0_3, after0_4, after0_5, after0_6, after0_7]
  rw [show (dats m 0 c).Φ t.castSucc = Pipeline.ΦA spec0 c from rfl, show (dats m 0 c).Φ t.succ = Pipeline.ΦA spec0 c from rfl]
  simp only [← blocks_q, ← blocks_kp, ← blocks_kc, ← blocks_vp, ← blocks_vc, ← blocks_sink, ← blocks_slope, ← blocks_dy]
  iintro ⟨Hr, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ (blocks m c t.val) ((dats m 0 c).before 8 t d8) ((dats m 0 c).before 9 t d9) ((dats m 0 c).before 10 t d10)  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [← leaves8 c t d8]; iexact H8
  isplitl [H9]; · iapply (leaves9 c t d9); iexact H9
  rw [← leaves10 c t d10]; iexact H10

theorem defs₀_row (t : Fin cfg0.N) : defs₀ (F := F) .tc cfg0.body (cfg0.bodyArgs t (cfg0.slots t)) = bodyAt0 t := by
  unfold defs₀; rw [Defs.onTc_tc]

/-- The obligation of the region's body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The launch and the host's lines after it: every weakly fair execution ends, the arrays at what the proof data and those
    lines say, the counters at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)
    (hQ' := fun _ h => h)

/-- The frame: the program ends, its arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Attn
end
-- ==== Proof.Attn.Value.lean ====
module

public import proofs.«01_k».proof.Proof.Attn.Block
public import proofs.«01_k».proof.Proof.Attn.Frame

@[expose] public section

set_option maxRecDepth 16384

/-!
# What the attention's gradient leaves in its result arrays

Throughout `h` is the key and value head, `n` the query block, `g` the query head of the four that share `h`, `a` the query
of the block's 128, `j` the key of the 256 of the block before and of this one, and `d` the feature.
-/

noncomputable section

open Idealize Idealize.ShloMosaic Idealize.ShloMosaic.Pipeline Idealize.ShloMosaic.TcCoe Idealize.SL
open Cert.KernelAttnIdeal Cert.KernelAttnIdeal.Gen Cert.Tiles Cert.Bands

namespace Cert.Attn

/-- The row of a query block's query. -/
def row (n : Fin 16) (a : Fin 128) : Fin 2048 := ⟨128 * n.val + a.val, by omega⟩
/-- The column of a query head's feature. -/
def qcol (h : Fin 2) (g : Fin 4) (d : Fin 64) : Fin 512 := ⟨256 * h.val + 64 * g.val + d.val, by omega⟩
/-- The query head. -/
def qhead (h : Fin 2) (g : Fin 4) : Fin 8 := ⟨4 * h.val + g.val, by omega⟩

variable (P : Vec Ideal S2048x2832 .f32) (S : Vec Ideal S8 .f32) (D : Vec Ideal S2048x1024 .f32)

/-- The queries. -/
def qM (h : Fin 2) (n : Fin 16) (g : Fin 4) (a : Fin 128) (d : Fin 64) : EReal := P (ix2 (row n a) ⟨(qcol h g d).val, by omega⟩)
/-- The keys (from column 512 on) and the values (from column 640 on) that a block sees. -/
def kM (o : ℕ) (ho : o ≤ 640) (h : Fin 2) (n : Fin 16) (j : Fin 256) (d : Fin 64) : EReal :=
  if hj : j.val < 128 then P (ix2 ⟨128 * (n.val - 1) + j.val, by omega⟩ ⟨o + 64 * h.val + d.val, by omega⟩)
  else P (ix2 ⟨128 * n.val + (j.val - 128), by omega⟩ ⟨o + 64 * h.val + d.val, by omega⟩)
/-- The cotangent of the attention's result. -/
def yM (h : Fin 2) (n : Fin 16) (g : Fin 4) (a : Fin 128) (d : Fin 64) : EReal := D (ix2 (row n a) ⟨(qcol h g d).val, by omega⟩)
/-- A query head's slope. -/
def slopeM (e : Fin 8) : EReal := Ideal.ofBits .f32 (BitVec.ofNat 32 (0x3F000000 - e.val * 0x00800000))
/-- The masked scores. -/
def scoreM (h : Fin 2) (n : Fin 16) (g : Fin 4) (a : Fin 128) (j : Fin 256) : EReal :=
  Scalar.select (seen n.val a j) (rawScore (qM P h n g a) (kM P 512 (by norm_num) h n j) (slopeM (qhead h g)) a j) ⊥
/-- The largest score or the sink. -/
def topM (h : Fin 2) (n : Fin 16) (g : Fin 4) (a : Fin 128) : EReal :=
  max (Finset.fold max (Ideal.ofBits .f32 0xFF800000#32) (fun j : Fin 256 => scoreM P h n g a j) Finset.univ) (S (ix1 (qhead h g)))
/-- The exponentials, the sink's, and their sum. -/
def exM (h : Fin 2) (n : Fin 16) (g : Fin 4) (a : Fin 128) (j : Fin 256) : EReal := Ideal.exp (scoreM P h n g a j - topM P S h n g a)
def esM (h : Fin 2) (n : Fin 16) (g : Fin 4) (a : Fin 128) : EReal := Ideal.exp (S (ix1 (qhead h g)) - topM P S h n g a)
def totM (h : Fin 2) (n : Fin 16) (g : Fin 4) (a : Fin 128) : EReal := (∑ j : Fin 256, exM P S h n g a j) + esM P S h n g a
/-- The reciprocal of the square of the sum. -/
def invM (h : Fin 2) (n : Fin 16) (g : Fin 4) (a : Fin 128) : EReal := Ideal.div (Ideal.ofBits .f32 0x3F800000#32) (totM P S h n g a * totM P S h n g a)
/-- The gradient of the probabilities. -/
def dpM (h : Fin 2) (n : Fin 16) (g : Fin 4) (a : Fin 128) (j : Fin 256) : EReal := ∑ d : Fin 64, yM D h n g a d * kM P 640 le_rfl h n j d
/-- The gradient of the sum. -/
def dzM (h : Fin 2) (n : Fin 16) (g : Fin 4) (a : Fin 128) : EReal := -∑ j : Fin 256, dpM P D h n g a j * invM P S h n g a * exM P S h n g a j
/-- The gradient of the products of queries and keys. -/
def dsM (h : Fin 2) (n : Fin 16) (g : Fin 4) (a : Fin 128) (j : Fin 256) : EReal :=
  Scalar.select (seen n.val a j) ((Ideal.div (dpM P D h n g a j) (totM P S h n g a) + dzM P S D h n g a) * exM P S h n g a j) 0 * Ideal.ofBits .f32 0x3E000000#32
/-- The queries' gradient. -/
def dqM (h : Fin 2) (n : Fin 16) (g : Fin 4) (a : Fin 128) (d : Fin 64) : EReal := ∑ j : Fin 256, dsM P S D h n g a j * kM P 512 (by norm_num) h n j d
/-- The keys' and values' gradients from one query block. -/
def dkM (h : Fin 2) (n : Fin 16) (j : Fin 256) (d : Fin 64) : EReal := ∑ g : Fin 4, ∑ a : Fin 128, dsM P S D h n g a j * qM P h n g a d
def dvM (h : Fin 2) (n : Fin 16) (j : Fin 256) (d : Fin 64) : EReal :=
  ∑ g : Fin 4, ∑ a : Fin 128, yM D h n g a d * Ideal.div (exM P S h n g a j) (totM P S h n g a)
def shareM (w h : Fin 2) (n : Fin 16) (j : Fin 256) (d : Fin 64) : EReal := if w.val = 0 then dkM P S D h n j d else dvM P S D h n j d
/-- And from both blocks that see a key. -/
def kvM (w h : Fin 2) (b : Fin 16) (a : Fin 128) (d : Fin 64) : EReal :=
  shareM P S D w h b ⟨128 + a.val, by omega⟩ d + if hb : b.val < 15 then shareM P S D w h ⟨b.val + 1, by omega⟩ ⟨a.val, by omega⟩ d else 0
/-- The sinks' gradient, by query. -/
def skM (h : Fin 2) (g : Fin 4) (a : Fin 128) : EReal := ∑ n : Fin 16, dzM P S D h n g a * esM P S h n g a

variable (m : (ℓ : Loc nD τ sig) → Buf (Elt Ideal) ℓ) (c : Dev nD)

/-- The arguments of a launch. -/
abbrev aP : Vec Ideal S2048x2832 .f32 := m ((c : Thread nD τ).loc main_arg0)
abbrev aS : Vec Ideal S8 .f32 := m ((c : Thread nD τ).loc main_arg1)
abbrev aD : Vec Ideal S2048x1024 .f32 := m ((c : Thread nD τ).loc main_arg2)

/-- Which block each operand uses at a point. -/
theorem idxIn : ∀ t : Fin cfg0.N, win0_0.index t = ![t.val % 16, t.val / 16] ∧ win0_1.index t = ![t.val % 16 - 1, 4] ∧ win0_2.index t = ![t.val % 16, 4]
    ∧ win0_3.index t = ![t.val % 16 - 1, 5] ∧ win0_4.index t = ![t.val % 16, 5] ∧ win0_5.index t = ![t.val / 16, 0] ∧ win0_6.index t = ![t.val / 16, 0]
    ∧ win0_7.index t = ![t.val % 16, t.val / 16] := (by decide +kernel : ∀ t : Fin grid0.N, _)

/-- Which block each result uses at a point. -/
theorem idxOut : ∀ t : Fin cfg0.N, win0_8.index t = ![t.val % 16, t.val / 16] ∧ win0_9.index t = ![0, 0] ∧ win0_10.index t = ![t.val / 16, 0] :=
  (by decide +kernel : ∀ t : Fin grid0.N, _)

theorem lt_32 (t : Fin cfg0.N) : t.val < 32 := lt_of_lt_of_eq t.isLt N_0

/-- The point of a key head and a query block. -/
def pnt (h : Fin 2) (n : Fin 16) : Fin cfg0.N := ⟨16 * h.val + n.val, lt_of_lt_of_eq (by omega) N_0.symm⟩

theorem pnt_div (h : Fin 2) (n : Fin 16) : (pnt h n).val / 16 = h.val := by show (16 * h.val + n.val) / 16 = _; omega
theorem pnt_mod (h : Fin 2) (n : Fin 16) : (pnt h n).val % 16 = n.val := by show (16 * h.val + n.val) % 16 = _; omega

/-- The projection the region finds: the argument, then zeros. -/
theorem V_p (i : Fin 2048) (q : Fin 2832) : V m c main_v0 (ix2 i ⟨q.val, by omega⟩) = aP m c (ix2 i q) := by
  have e : V m c main_v0 = pad S2048x3072 ![0, 0] ![0, 240] ![0, 0] (aP m c)
      (sitofp (F := Ideal) .f32 (constantI S_ 32 0#32)) pads_S2048x2832_S2048x3072_000_02400 h_S_ := by
    show StableHlo.after _ _ _ = _
    unfold hostOps0 hostOps0_1 hostOps0_2
    simp only [List.flatten_cons, List.flatten_nil, List.cons_append, List.nil_append]
    after_results
    rfl
  rw [e]
  have hq := q.isLt
  pointwise

/-- The sinks by row. -/
theorem V_s (e : Fin 8) (a : Fin 128) : V m c main_v15 (ix2 ⟨128 * e.val + a.val, by omega⟩ 0) = aS m c (ix1 e) := by
  have e : V m c main_v15 = broadcastInDim S1024x1 ![0] bcast_S1024_S1024x1_0 (shapeCast S1024 (broadcastInDim S8x128 ![0] bcast_S8_S8x128_0 (aS m c)) shapeCasts_S8x128_S1024) := by
    show StableHlo.after _ _ _ = _
    unfold hostOps0 hostOps0_1 hostOps0_2
    simp only [List.flatten_cons, List.flatten_nil, List.cons_append, List.nil_append]
    after_results
    rfl
  rw [e]
  pointwise

/-- A slope, as an array of one entry. -/
abbrev one (b : BitVec 32) : Vec Ideal S1 .f32 := broadcastInDim S1 ![] bcast_S_S1 (constant (F := Ideal) S_ .f32 b)

/-- The slopes of the query heads. -/
def slopes : Vec Ideal S8 .f32 :=
  concatenate S8 0 [⟨S1, one 0x3F000000#32⟩, ⟨S1, one 0x3E800000#32⟩, ⟨S1, one 0x3E000000#32⟩, ⟨S1, one 0x3D800000#32⟩, ⟨S1, one 0x3D000000#32⟩,
    ⟨S1, one 0x3C800000#32⟩, ⟨S1, one 0x3C000000#32⟩, ⟨S1, one 0x3B800000#32⟩] concatenates_S1_S1_S1_S1_S1_S1_S1_S1_S8_d0

theorem slopes_at (e : Fin 8) : slopes (ix1 e) = slopeM e := by
  fin_cases e <;> (unfold slopeM slopes one; pointwise)

/-- The slopes by row. -/
theorem V_l (e : Fin 8) (a : Fin 128) : V m c main_v12 (ix2 ⟨128 * e.val + a.val, by omega⟩ 0) = slopeM e := by
  have h : V m c main_v12 = broadcastInDim S1024x1 ![0] bcast_S1024_S1024x1_0 (shapeCast S1024 (broadcastInDim S8x128 ![0] bcast_S8_S8x128_0 slopes)
      shapeCasts_S8x128_S1024) := by
    show StableHlo.after _ _ _ = _
    unfold hostOps0 hostOps0_1 hostOps0_2
    simp only [List.flatten_cons, List.flatten_nil, List.cons_append, List.nil_append]
    after_results
    rfl
  rw [h, ← slopes_at e]
  generalize slopes = L
  pointwise

variable (h : Fin 2) (n : Fin 16)

theorem q_at (g : Fin 4) (a : Fin 128) (d : Fin 64) : (blocks m c (pnt h n).val).q (ix2 a (co g d)) = qM (aP m c) h n g a d := by
  rw [blocks_q]
  refine Eq.trans ?_ (V_p m c (row n a) ⟨(qcol h g d).val, by omega⟩)
  unfold row qcol co
  blk_point [iblk, idxIn (pnt h n), pnt_div h n, pnt_mod h n]

theorem y_at (g : Fin 4) (a : Fin 128) (d : Fin 64) : (blocks m c (pnt h n).val).dy (ix2 a (co g d)) = yM (aD m c) h n g a d := by
  rw [blocks_dy]
  refine Eq.trans ?_ (congrFun (V_main_arg2 m c) (ix2 (row n a) ⟨(qcol h g d).val, by omega⟩))
  unfold row qcol co
  blk_point [iblk, idxIn (pnt h n), pnt_div h n, pnt_mod h n]

theorem k_at (j : Fin 256) (d : Fin 64) : keyRow (blocks m c (pnt h n).val).kp (blocks m c (pnt h n).val).kc h.val j d = kM (aP m c) 512 (by norm_num) h n j d := by
  unfold keyRow kM
  split_ifs with hj
  · rw [blocks_kp]
    refine Eq.trans ?_ (V_p m c _ _)
    blk_point [iblk, idxIn (pnt h n), pnt_div h n, pnt_mod h n]
  · rw [blocks_kc]
    refine Eq.trans ?_ (V_p m c _ _)
    blk_point [iblk, idxIn (pnt h n), pnt_div h n, pnt_mod h n]

theorem v_at (j : Fin 256) (d : Fin 64) : keyRow (blocks m c (pnt h n).val).vp (blocks m c (pnt h n).val).vc h.val j d = kM (aP m c) 640 le_rfl h n j d := by
  unfold keyRow kM
  split_ifs with hj
  · rw [blocks_vp]
    refine Eq.trans ?_ (V_p m c _ _)
    blk_point [iblk, idxIn (pnt h n), pnt_div h n, pnt_mod h n]
  · rw [blocks_vc]
    refine Eq.trans ?_ (V_p m c _ _)
    blk_point [iblk, idxIn (pnt h n), pnt_div h n, pnt_mod h n]

theorem sink_at (g : Fin 4) (a : Fin 128) : (blocks m c (pnt h n).val).sink (ix2 (ro g a) 0) = aS m c (ix1 (qhead h g)) := by
  rw [blocks_sink]
  refine Eq.trans ?_ (V_s m c (qhead h g) a)
  unfold ro qhead
  blk_point [iblk, idxIn (pnt h n), pnt_div h n, pnt_mod h n]

theorem slope_at (g : Fin 4) (a : Fin 128) : (blocks m c (pnt h n).val).slope (ix2 (ro g a) 0) = slopeM (qhead h g) := by
  rw [blocks_slope]
  refine Eq.trans ?_ (V_l m c (qhead h g) a)
  unfold ro qhead
  blk_point [iblk, idxIn (pnt h n), pnt_div h n, pnt_mod h n]

/-! ## The contents of one point, entry by entry -/

/-- The coordinates of a point and the blocks it reads. -/
abbrev cd : grid0.Coords := grid0.coords (pnt h n)
abbrev bk : Reads Ideal := blocks m c (pnt h n).val

theorem cd0 : (cd h n 0).val = h.val := (headCoord _).trans (pnt_div h n)
theorem cd1 : (cd h n 1).val = n.val := (rowCoord _).trans (pnt_mod h n)

theorem scoreV (g : Fin 4) (a : Fin 128) (j : Fin 256) : score (cd h n) (bk m c h n) (ix2 (ro g a) j) = scoreM (aP m c) h n g a j := by
  rw [score_at, cd0, cd1, slope_at]
  simp only [q_at, k_at]
  rfl

theorem topV (g : Fin 4) (a : Fin 128) : top (cd h n) (bk m c h n) (ix2 (ro g a) 0) = topM (aP m c) (aS m c) h n g a := by
  rw [top_at, sink_at]
  simp only [scoreV]
  rfl

theorem exV (g : Fin 4) (a : Fin 128) (j : Fin 256) : ex (cd h n) (bk m c h n) (ix2 (ro g a) j) = exM (aP m c) (aS m c) h n g a j := by
  rw [ex_at, scoreV, topV]; rfl

theorem esV (g : Fin 4) (a : Fin 128) : exSink (cd h n) (bk m c h n) (ix2 (ro g a) 0) = esM (aP m c) (aS m c) h n g a := by
  rw [exSink_at, sink_at, topV]; rfl

theorem totV (g : Fin 4) (a : Fin 128) : tot (cd h n) (bk m c h n) (ix2 (ro g a) 0) = totM (aP m c) (aS m c) h n g a := by
  rw [tot_at, esV]
  simp only [exV]
  rfl

theorem invV (g : Fin 4) (a : Fin 128) : inv (cd h n) (bk m c h n) (ix2 (ro g a) 0) = invM (aP m c) (aS m c) h n g a := by
  rw [inv_at, totV]; rfl

theorem dpV (g : Fin 4) (a : Fin 128) (j : Fin 256) : dp (cd h n) (bk m c h n) (ix2 (ro g a) j) = dpM (aP m c) (aD m c) h n g a j := by
  rw [dp_at, cd0]
  simp only [y_at, v_at]
  rfl

theorem dzV (g : Fin 4) (a : Fin 128) : dz (cd h n) (bk m c h n) (ix2 (ro g a) 0) = dzM (aP m c) (aS m c) (aD m c) h n g a := by
  rw [dz_at, invV]
  simp only [dpV, exV]
  rfl

theorem dsV (g : Fin 4) (a : Fin 128) (j : Fin 256) : ds (cd h n) (bk m c h n) (ix2 (ro g a) j) = dsM (aP m c) (aS m c) (aD m c) h n g a j := by
  rw [ds_at, cd1, dpV, totV, dzV, exV]; rfl

/-- A sum over the 512 rows is one over query heads and queries. -/
theorem sum_rows (f : Fin 512 → EReal) : ∑ ρ : Fin 512, f ρ = ∑ g : Fin 4, ∑ a : Fin 128, f (ro g a) := by
  refine (Fin.sum_mul_add_congr (S := 4) (n := 128) (F := fun g a => f (ro g a)) fun g a hl => congrArg f (Fin.ext ?_)).symm
  show 128 * g.val + a.val = g.val * 128 + a.val
  omega

theorem dkV (j : Fin 256) (d : Fin 64) : dk (cd h n) (bk m c h n) (ix2 j d) = dkM (aP m c) (aS m c) (aD m c) h n j d := by
  rw [dk_at, sum_rows]
  unfold qs
  simp only [dsV, stack_at, q_at]
  rfl

theorem dvV (j : Fin 256) (d : Fin 64) : dv (cd h n) (bk m c h n) (ix2 j d) = dvM (aP m c) (aS m c) (aD m c) h n j d := by
  rw [dv_at, sum_rows]
  simp only [exV, totV, stackDy_at, y_at]
  rfl

theorem shareV (w : Fin 2) (j : Fin 256) (d : Fin 64) : share (cd h n) (bk m c h n) w j d = shareM (aP m c) (aS m c) (aD m c) w h n j d := by
  unfold share shareM
  rw [dkV, dvV]

theorem dqV (g : Fin 4) (a : Fin 128) (d : Fin 64) : DQ (blocks m c) (pnt h n).val (ix2 a (co g d)) = dqM (aP m c) (aS m c) (aD m c) h n g a d := by
  unfold DQ
  rw [pt_val, dqNew_at, dq_at]
  unfold ks
  simp only [dsV, keys_at, cd0, k_at]
  rfl

/-- The sinks' gradient of a head is summed over its query blocks. -/
theorem skV (g : Fin 4) (a : Fin 128) : SK (blocks m c) (16 * h.val + 15) (ix2 (ro g a) 0) = skM (aP m c) (aS m c) (aD m c) h g a := by
  have e := rowAcc_sum (nt := 16) (z := k0_pay5 (F := Ideal)) (add := fun n a => addSink (grid0.coords (pt n)) (blocks m c n) a)
    (f := fun n => dz (grid0.coords (pt n)) (blocks m c n) (ix2 (ro g a) 0) * exSink (grid0.coords (pt n)) (blocks m c n) (ix2 (ro g a) 0)) (ix2 (ro g a) 0)
    (by norm_num) (by pointwise [k0_pay5]) (fun n a => addSink_at _ _ _ _) h.val 15 (by norm_num)
  refine e.trans (Finset.sum_congr rfl fun s _ => ?_)
  show dz (grid0.coords (pt (pnt h s).val)) (bk m c h s) (ix2 (ro g a) 0) * exSink (grid0.coords (pt (pnt h s).val)) (bk m c h s) (ix2 (ro g a) 0) = _
  rw [pt_val]
  exact congrArg₂ (· * ·) (dzV m c h s g a) (esV m c h s g a)

/-! ## The keys' and values' gradients -/

/-- What the point of head `h` and block `n` adds to a row of block `b`, at a column of head `e`. -/
def addM (w e : Fin 2) (b : Fin 16) (a : Fin 128) (d : Fin 64) (h : Fin 2) (n : Fin 16) : EReal :=
  if e = h then (if b = n then shareM (aP m c) (aS m c) (aD m c) w e n ⟨128 + a.val, by omega⟩ d
    else if b.val + 1 = n.val then shareM (aP m c) (aS m c) (aD m c) w e n ⟨a.val, by omega⟩ d else 0) else 0

section
variable {N n k : ℕ} {o : ℕ} (X : (⟨2, ![n, k]⟩ : Shape).Idx → EReal) (w : (⟨2, ![N, k]⟩ : Shape).Idx → EReal) (i : Fin n) (q : Fin k)

/-- A row of a band that is written back with something added. -/
theorem put_band (hN : o + N ≤ n) (r : Fin N) (hi : i.val = o + r.val) {s : EReal} (hw : w (ix2 r q) = band o hN X (ix2 r q) + s) :
    put o X w (ix2 i q) = X (ix2 i q) + s := by
  have er : (⟨i.val - o, by omega⟩ : Fin N) = r := Fin.ext (by show i.val - o = r.val; omega)
  have ei : (⟨o + r.val, by omega⟩ : Fin n) = i := Fin.ext hi.symm
  refine (dif_pos (show o ≤ i.val ∧ i.val < o + N by omega)).trans ?_
  show w (ix2 (⟨i.val - o, _⟩ : Fin N) q) = _
  rw [er, hw]
  show X (ix2 (⟨o + r.val, _⟩ : Fin n) q) + s = _
  rw [ei]

/-- A row outside a band. -/
theorem put_out (hi : i.val < o ∨ o + N ≤ i.val) : put o X w (ix2 i q) = X (ix2 i q) :=
  dif_neg (show ¬(o ≤ i.val ∧ i.val < o + N) by omega)
end

theorem kvNewV (x : Vec Ideal S2048x256 .f32) (w e : Fin 2) (b : Fin 16) (a : Fin 128) (d : Fin 64) :
    kvNew (cd h n) (bk m c h n) x (ix2 (row b a) (kvCol w e d)) = kvMid (cd h n) x (ix2 (row b a) (kvCol w e d)) + addM m c w e b a d h n := by
  unfold kvNew
  generalize kvMid (cd h n) x = X
  have hb := b.isLt
  have hn := n.isLt
  have ha := a.isLt
  have hl : lo (cd h n) = 128 * (n.val - 1) := by unfold lo; rw [cd1]
  have h4 := cond4_iff (pnt h n)
  rw [pnt_mod] at h4
  have hr : (row b a).val = 128 * b.val + a.val := rfl
  have bn : b = n ↔ b.val = n.val := Fin.ext_iff
  have hh (u v : EReal) (huv : e = h → u = v) : (if e.val = (cd h n 0).val then u else 0) = if e = h then v else 0 := by
    rw [cd0]
    by_cases q : e = h
    · rw [if_pos q, if_pos (congrArg Fin.val q), huv q]
    · rw [if_neg q, if_neg fun z => q (Fin.ext z)]
  unfold addM
  by_cases h0 : n.val = 0
  · rw [if_neg fun q => h4.mp q h0]
    by_cases hb0 : b = n
    · refine put_band X _ _ _ (by norm_num) a (by omega) ((addOne_at _ _ _ w e d a).trans (congrArg (_ + ·) (hh _ _ fun q => ?_)))
      rw [if_pos hb0, shareV, q]
    · rw [if_neg hb0, if_neg (show ¬b.val + 1 = n.val by omega), ite_self, add_zero]
      exact put_out X _ _ _ (by have := fun q => hb0 (bn.mpr q); omega)
  · rw [if_pos (h4.mpr h0)]
    by_cases hb0 : b = n
    · refine put_band X _ _ _ (lo_le _) ⟨128 + a.val, by omega⟩ (by show (row b a).val = lo (cd h n) + (128 + a.val); omega)
        ((addTwo_at _ _ _ w e d _).trans (congrArg (_ + ·) (hh _ _ fun q => ?_)))
      rw [if_pos hb0, shareV, q]
    · rw [if_neg hb0]
      by_cases hb1 : b.val + 1 = n.val
      · refine put_band X _ _ _ (lo_le _) ⟨a.val, by omega⟩ (by show (row b a).val = lo (cd h n) + a.val; omega)
          ((addTwo_at _ _ _ w e d _).trans (congrArg (_ + ·) (hh _ _ fun q => ?_)))
        rw [if_pos hb1, shareV, q]
      · rw [if_neg hb1, ite_self, add_zero]
        exact put_out X _ _ _ (by have := fun q => hb0 (bn.mpr q); omega)

/-- The head and the block of a point. -/
def hOf (p : ℕ) : Fin 2 := ⟨p / 16 % 2, Nat.mod_lt _ (by norm_num)⟩
def nOf (p : ℕ) : Fin 16 := ⟨p % 16, Nat.mod_lt _ (by norm_num)⟩

theorem pnt_of (p : ℕ) (hp : p < 32) : (pnt (hOf p) (nOf p)).val = p := by
  show 16 * (p / 16 % 2) + p % 16 = p; omega

theorem kvStep (p : ℕ) (hp : p < 32) (x : Vec Ideal S2048x256 .f32) (w e : Fin 2) (b : Fin 16) (a : Fin 128) (d : Fin 64) :
    kvNew (grid0.coords (pt p)) (blocks m c p) x (ix2 (row b a) (kvCol w e d))
      = kvMid (grid0.coords (pt p)) x (ix2 (row b a) (kvCol w e d)) + addM m c w e b a d (hOf p) (nOf p) := by
  have e1 := kvNewV m c (hOf p) (nOf p) x w e b a d
  have e2 : grid0.coords (pt p) = cd (hOf p) (nOf p) := congrArg grid0.coords (Fin.ext ((Nat.mod_eq_of_lt hp).trans (pnt_of p hp).symm))
  have e3 : blocks m c p = bk m c (hOf p) (nOf p) := congrArg (blocks m c) (pnt_of p hp).symm
  rw [e2, e3]
  exact e1

theorem kvSum (p : ℕ) (hp : p < 32) (w e : Fin 2) (b : Fin 16) (a : Fin 128) (d : Fin 64) :
    KV (blocks m c) p (ix2 (row b a) (kvCol w e d)) = ∑ s : Fin (p + 1), addM m c w e b a d (hOf s.val) (nOf s.val) := by
  have zero4 (y) : k0_pay4 (F := Ideal) y = 0 := by pointwise [k0_pay4]
  induction p with
  | zero =>
    rw [KV, kvStep m c 0 hp]
    unfold kvMid
    rw [if_pos ((cond1_iff (pt 0)).mpr rfl), zero4, zero_add]
    exact (Fin.sum_univ_one fun s : Fin 1 => addM m c w e b a d (hOf s.val) (nOf s.val)).symm
  | succ p ih =>
    have hv : (pt (p + 1)).val = p + 1 := Nat.mod_eq_of_lt hp
    rw [KV, kvStep m c (p + 1) hp]
    unfold kvMid
    rw [if_neg fun q => by have := (cond1_iff (pt (p + 1))).mp q; omega, ih (by omega), Fin.sum_univ_castSucc (n := p + 1)]
    rfl

/-- A block's rows are seen from the block itself and from the one after it. -/
theorem sum_two (b : Fin 16) (u v : Fin 16 → EReal) :
    (∑ n : Fin 16, if b = n then u n else if b.val + 1 = n.val then v n else 0) = u b + if hb : b.val < 15 then v ⟨b.val + 1, by omega⟩ else 0 := by
  have e (n : Fin 16) : (if b = n then u n else if b.val + 1 = n.val then v n else 0) = (if b = n then u n else 0) + if b.val + 1 = n.val then v n else 0 := by
    by_cases q : b = n
    · rw [if_pos q, if_pos q, if_neg (by rw [q]; omega), add_zero]
    · rw [if_neg q, if_neg q, zero_add]
  simp only [e]
  rw [Finset.sum_add_distrib, Finset.sum_ite_eq, if_pos (Finset.mem_univ _)]
  congr 1
  split_ifs with hb
  · rw [← Finset.sum_ite_eq Finset.univ (⟨b.val + 1, by omega⟩ : Fin 16) v |>.trans (if_pos (Finset.mem_univ _))]
    exact Finset.sum_congr rfl fun n _ => if_congr (by rw [Fin.ext_iff]) rfl rfl
  · exact Finset.sum_eq_zero fun n _ => if_neg (by omega)

theorem kvV (w e : Fin 2) (b : Fin 16) (a : Fin 128) (d : Fin 64) :
    KV (blocks m c) 31 (ix2 (row b a) (kvCol w e d)) = kvM (aP m c) (aS m c) (aD m c) w e b a d := by
  rw [kvSum m c 31 (by norm_num)]
  refine (Fin.sum_mul_add_congr (S := 2) (n := 16) (F := fun h n => addM m c w e b a d h n) fun h n hl => ?_).symm.trans ?_
  · have e1 : hOf (h.val * 16 + n.val) = h := Fin.ext (by show (h.val * 16 + n.val) / 16 % 2 = h.val; omega)
    have e2 : nOf (h.val * 16 + n.val) = n := Fin.ext (by show (h.val * 16 + n.val) % 16 = n.val; omega)
    show _ = addM m c w e b a d (hOf (h.val * 16 + n.val)) (nOf (h.val * 16 + n.val))
    rw [e1, e2]
  · unfold addM kvM
    have e1 (h : Fin 2) : (∑ n : Fin 16, if e = h then (if b = n then shareM (aP m c) (aS m c) (aD m c) w e n ⟨128 + a.val, by omega⟩ d
        else if b.val + 1 = n.val then shareM (aP m c) (aS m c) (aD m c) w e n ⟨a.val, by omega⟩ d else 0) else 0)
        = if e = h then (∑ n : Fin 16, if b = n then shareM (aP m c) (aS m c) (aD m c) w e n ⟨128 + a.val, by omega⟩ d
        else if b.val + 1 = n.val then shareM (aP m c) (aS m c) (aD m c) w e n ⟨a.val, by omega⟩ d else 0) else 0 := by
      by_cases q : e = h
      · simp only [if_pos q]
      · simp only [if_neg q, Finset.sum_const_zero]
    rw [Finset.sum_congr rfl fun h _ => e1 h, Finset.sum_ite_eq, if_pos (Finset.mem_univ _)]
    exact sum_two b (fun n => shareM (aP m c) (aS m c) (aD m c) w e n ⟨128 + a.val, by omega⟩ d) fun n => shareM (aP m c) (aS m c) (aD m c) w e n ⟨a.val, by omega⟩ d

end Cert.Attn
end
-- ==== Proof.Attn.Final.lean ====
module

public import proofs.«01_k».proof.Proof.Attn.Value

@[expose] public section

set_option maxRecDepth 16384

/-!
# The three results of the attention's gradient
-/

noncomputable section

open Idealize Idealize.ShloMosaic Idealize.ShloMosaic.Pipeline Idealize.ShloMosaic.TcCoe Idealize.SL
open Cert.KernelAttnIdeal Cert.KernelAttnIdeal.Gen

namespace Cert.Attn

variable (P : Vec Ideal S2048x2832 .f32) (S : Vec Ideal S8 .f32) (D : Vec Ideal S2048x1024 .f32)

/-- The queries' gradient, the keys' and values', and the sinks' by row and by head. -/
def dqF : Vec Ideal S2048x512 .f32 := fun y => dqM P S D ⟨(y 1).val / 256 % 2, Nat.mod_lt _ (by norm_num)⟩ ⟨(y 0).val / 128 % 16, Nat.mod_lt _ (by norm_num)⟩
  ⟨(y 1).val / 64 % 4, Nat.mod_lt _ (by norm_num)⟩ ⟨(y 0).val % 128, Nat.mod_lt _ (by norm_num)⟩ ⟨(y 1).val % 64, Nat.mod_lt _ (by norm_num)⟩
def kvF : Vec Ideal S2048x256 .f32 := fun y => kvM P S D ⟨(y 1).val / 128 % 2, Nat.mod_lt _ (by norm_num)⟩ ⟨(y 1).val / 64 % 2, Nat.mod_lt _ (by norm_num)⟩
  ⟨(y 0).val / 128 % 16, Nat.mod_lt _ (by norm_num)⟩ ⟨(y 0).val % 128, Nat.mod_lt _ (by norm_num)⟩ ⟨(y 1).val % 64, Nat.mod_lt _ (by norm_num)⟩
def skF : Vec Ideal S1024x1 .f32 := fun y => skM P S D ⟨(y 0).val / 512 % 2, Nat.mod_lt _ (by norm_num)⟩ ⟨(y 0).val / 128 % 4, Nat.mod_lt _ (by norm_num)⟩
  ⟨(y 0).val % 128, Nat.mod_lt _ (by norm_num)⟩
def skH : Vec Ideal S8 .f32 := fun y => ∑ a : Fin 128, skM P S D ⟨(y 0).val / 4 % 2, Nat.mod_lt _ (by norm_num)⟩ ⟨(y 0).val % 4, Nat.mod_lt _ (by norm_num)⟩ a

/-- The entry at a block's row and a head's column. -/
theorem dqF_at (h : Fin 2) (n : Fin 16) (g : Fin 4) (a : Fin 128) (d : Fin 64) (i : Fin 2048) (k : Fin 512) (hi : i.val = 128 * n.val + a.val)
    (hk : k.val = 256 * h.val + 64 * g.val + d.val) : dqF P S D (ix2 i k) = dqM P S D h n g a d := by
  unfold dqF
  congr 1 <;> refine Fin.ext ?_
  · show k.val / 256 % 2 = h.val; omega
  · show i.val / 128 % 16 = n.val; omega
  · show k.val / 64 % 4 = g.val; omega
  · show i.val % 128 = a.val; omega
  · show k.val % 64 = d.val; omega

theorem kvF_at (w e : Fin 2) (b : Fin 16) (a : Fin 128) (d : Fin 64) (i : Fin 2048) (k : Fin 256) (hi : i.val = 128 * b.val + a.val)
    (hk : k.val = 128 * w.val + 64 * e.val + d.val) : kvF P S D (ix2 i k) = kvM P S D w e b a d := by
  unfold kvF
  congr 1 <;> refine Fin.ext ?_
  · show k.val / 128 % 2 = w.val; omega
  · show k.val / 64 % 2 = e.val; omega
  · show i.val / 128 % 16 = b.val; omega
  · show i.val % 128 = a.val; omega
  · show k.val % 64 = d.val; omega

theorem skF_at (h : Fin 2) (g : Fin 4) (a : Fin 128) (i : Fin 1024) (hi : i.val = 512 * h.val + 128 * g.val + a.val) :
    skF P S D (ix2 i 0) = skM P S D h g a := by
  unfold skF
  congr 1 <;> refine Fin.ext ?_
  · show i.val / 512 % 2 = h.val; omega
  · show i.val / 128 % 4 = g.val; omega
  · show i.val % 128 = a.val; omega

theorem skH_at (h : Fin 2) (g : Fin 4) : skH P S D (ix1 (qhead h g)) = ∑ a : Fin 128, skM P S D h g a := by
  refine Finset.sum_congr rfl fun a _ => ?_
  congr 1 <;> refine Fin.ext ?_
  · show (4 * h.val + g.val) / 4 % 2 = h.val; omega
  · show (4 * h.val + g.val) % 4 = g.val; omega

/-- Every index of a row of blocks and a row of heads. -/
theorem split_block (i : Fin 128) (k : Fin 256) : ∃ (g : Fin 4) (d : Fin 64), (ix2 i k : S128x256.Idx) = ix2 i (co g d) :=
  ⟨⟨k.val / 64, by omega⟩, ⟨k.val % 64, by omega⟩, by congr 1; exact Fin.ext (by show k.val = 64 * (k.val / 64) + k.val % 64; omega)⟩

variable (m : (ℓ : Loc nD τ sig) → Buf (Elt Ideal) ℓ) (c : Dev nD)

/-- A point is a head and a query block. -/
theorem pnt_all (t : Fin cfg0.N) : ∃ (h : Fin 2) (n : Fin 16), t = pnt h n := by
  have := lt_32 t
  exact ⟨⟨t.val / 16, by omega⟩, ⟨t.val % 16, by omega⟩, Fin.ext (by show t.val = 16 * (t.val / 16) + t.val % 16; omega)⟩

theorem dq_final : (dats m 0 c).arrAt 8 (cfgs 0).N = dqF (aP m c) (aS m c) (aD m c) := by
  refine (dats m 0 c).arrAt_eq_of_covers 8 _ (by decide +kernel) fun t hf y => ?_
  blk_simp
  obtain ⟨i, k, rfl⟩ : ∃ (i : Fin 128) (k : Fin 256), y = ix2 i k := ⟨y 0, y 1, by funext a; match a with | ⟨0, _⟩ => rfl | ⟨1, _⟩ => rfl⟩
  obtain ⟨h, n, rfl⟩ := pnt_all t
  obtain ⟨g, d, e⟩ := split_block i k
  rw [after0_8, e, dqV, ← dqF_at (aP m c) (aS m c) (aD m c) h n g i d (row n i) (qcol h g d) rfl rfl]
  have e0 := pnt_div h n
  have e1 := pnt_mod h n
  refine congrArg (dqF _ _ _) (a₁ := ix2 (row n i) (qcol h g d)) (funext fun a => Fin.ext ?_)
  match a with
  | ⟨0, _⟩ => blk_simp [idxOut (pnt h n)]; show 128 * n.val + i.val = (pnt h n).val % 16 * 128 + i.val; omega
  | ⟨1, _⟩ => blk_simp [idxOut (pnt h n)]; show 256 * h.val + 64 * g.val + d.val = (pnt h n).val / 16 * 256 + (64 * g.val + d.val); omega

theorem kv_final : (dats m 0 c).arrAt 9 (cfgs 0).N = kvF (aP m c) (aS m c) (aD m c) := by
  refine (dats m 0 c).arrAt_eq_of_covers 9 _ (by decide +kernel) fun t hf y => ?_
  blk_simp
  obtain ⟨i, k, rfl⟩ : ∃ (i : Fin 2048) (k : Fin 256), y = ix2 i k := ⟨y 0, y 1, by funext a; match a with | ⟨0, _⟩ => rfl | ⟨1, _⟩ => rfl⟩
  have h31 : t.val = 31 := by have := (flush0_9 t).mp hf; have := lt_32 t; omega
  obtain ⟨b, a, rfl⟩ : ∃ (b : Fin 16) (a : Fin 128), i = row b a :=
    ⟨⟨i.val / 128, by omega⟩, ⟨i.val % 128, by omega⟩, Fin.ext (by show i.val = 128 * (i.val / 128) + i.val % 128; omega)⟩
  obtain ⟨w, e, d, rfl⟩ : ∃ (w e : Fin 2) (d : Fin 64), k = kvCol w e d :=
    ⟨⟨k.val / 128, by omega⟩, ⟨k.val / 64 % 2, by omega⟩, ⟨k.val % 64, by omega⟩,
      Fin.ext (by show k.val = 128 * (k.val / 128) + 64 * (k.val / 64 % 2) + k.val % 64; omega)⟩
  rw [after0_9, h31, kvV, ← kvF_at (aP m c) (aS m c) (aD m c) w e b a d (row b a) (kvCol w e d) rfl rfl]
  refine congrArg (kvF _ _ _) (a₁ := ix2 (row b a) (kvCol w e d)) (funext fun a => Fin.ext ?_)
  match a with
  | ⟨0, _⟩ => blk_simp [idxOut t]
  | ⟨1, _⟩ => blk_simp [idxOut t]

theorem sk_final : (dats m 0 c).arrAt 10 (cfgs 0).N = skF (aP m c) (aS m c) (aD m c) := by
  refine (dats m 0 c).arrAt_eq_of_covers 10 _ (by decide +kernel) fun t hf y => ?_
  blk_simp
  obtain ⟨i, rfl⟩ : ∃ (i : Fin 512), y = ix2 i 0 := ⟨y 0, by funext a; match a with | ⟨0, _⟩ => rfl | ⟨1, _⟩ => exact Subsingleton.elim (α := Fin 1) _ _⟩
  have h15 := (flush0_10 t).mp hf
  have h32 := lt_32 t
  obtain ⟨g, a, rfl⟩ : ∃ (g : Fin 4) (a : Fin 128), i = ro g a :=
    ⟨⟨i.val / 128, by omega⟩, ⟨i.val % 128, by omega⟩, Fin.ext (by show i.val = 128 * (i.val / 128) + i.val % 128; omega)⟩
  have et : t.val = 16 * (⟨t.val / 16, by omega⟩ : Fin 2).val + 15 := by show t.val = 16 * (t.val / 16) + 15; omega
  rw [after0_10, show SK (blocks m c) t.val = SK (blocks m c) (16 * (⟨t.val / 16, by omega⟩ : Fin 2).val + 15) from congrArg _ et, skV,
    ← skF_at (aP m c) (aS m c) (aD m c) ⟨t.val / 16, by omega⟩ g a ⟨512 * (t.val / 16) + 128 * g.val + a.val, by omega⟩ rfl]
  refine congrArg (skF _ _ _) (a₁ := ix2 ⟨512 * (t.val / 16) + 128 * g.val + a.val, by omega⟩ 0) (funext fun q => Fin.ext ?_)
  match q with
  | ⟨0, _⟩ => blk_simp [idxOut t]; show 512 * (t.val / 16) + 128 * g.val + a.val = t.val / 16 * 512 + (128 * g.val + a.val); omega
  | ⟨1, _⟩ => blk_simp [idxOut t]

/-- Arrays of the region that several operands share are never written. -/
theorem shared_in (w w' : Fin cfg0.W) (hne : w ≠ w') (e : Pipeline.arrRef spec0 w = Pipeline.arrRef spec0 w') :
    (dats m 0 c).arrAt w (cfgs 0).N = V m c (Pipeline.arrRef spec0 w) := by
  have hw : (cfg0.win w).isOut = false := (by decide : ∀ w w' : Fin cfg0.W, w ≠ w' → Pipeline.arrRef spec0 w = Pipeline.arrRef spec0 w' → (cfg0.win w).isOut = false) w w' hne e
  exact ((dats m 0 c).arrAt_in w hw _).trans (A_eq m c w)

/-- The sinks' gradient by head, summed on the host. -/
theorem sk_tail : Pipeline.afterTail₀ cfgs (dats m) 0 (V0 m) [hostOps1] c main_v18 = skH (aP m c) (aS m c) (aD m c) := by
  have e0 := (Pipeline.withArrays_arr_shared spec0 c (V0 m c) (fun w => (dats m 0 c).arrAt w (cfgs 0).N) (shared_in m c) 10).trans (sk_final m c)
  have e : Pipeline.afterTail₀ cfgs (dats m) 0 (V0 m) [hostOps1] c main_v18
      = Host.reduceAdd (F := Ideal) (φ := .f32) (shapeCast S8x128 (skF (aP m c) (aS m c) (aD m c)) shapeCasts_S1024x1_S8x128) (constant (F := Ideal) S_ .f32 0x00000000#32)
        reducesTo_S8x128_S8_d1 h_S_ := by
    rw [← e0]
    show StableHlo.after _ _ _ = _
    simp only [List.flatten_cons, List.flatten_nil, List.append_nil, hostOps1]
    after_results
    rfl
  rw [e]
  funext y
  obtain ⟨h, g, rfl⟩ : ∃ (h : Fin 2) (g : Fin 4), y = ix1 (qhead h g) := by
    have : (y 0).val < 8 := (y 0).isLt
    exact ⟨⟨(y 0).val / 4, by omega⟩, ⟨(y 0).val % 4, by omega⟩, by
      funext a; match a with | ⟨0, _⟩ => exact Fin.ext (by show (y 0).val = 4 * ((y 0).val / 4) + (y 0).val % 4; omega)⟩
  rw [skH_at]
  trans ∑ a : Fin 128, skF (aP m c) (aS m c) (aD m c) (ix2 ⟨512 * h.val + 128 * g.val + a.val, by omega⟩ 0)
  · generalize skF (aP m c) (aS m c) (aD m c) = X
    pointwise
    refine Finset.sum_congr rfl fun a _ => congrArg (fun q => X (ix2 q 0)) (Fin.ext ?_)
    show (4 * h.val + g.val) * 128 + a.val = 512 * h.val + 128 * g.val + a.val
    omega
  · exact Finset.sum_congr rfl fun a _ => skF_at _ _ _ h g a _ rfl

end Cert.Attn
end
-- ==== Proof.Attn.Real.lean ====
module

public import proofs.«01_k».proof.Proof.Attn.Final
public import proofs.«01_k».proof.Proof.Math.Real

@[expose] public section

set_option maxRecDepth 16384

/-!
# The attention's gradient at real arguments

Where the queries, keys, values, sinks and the cotangent are real, so are all the quantities of a row, the sum of its
exponentials is positive, and the gradient through the row's maximum vanishes.
-/

noncomputable section

open Idealize Idealize.ShloMosaic Idealize.ShloMosaic.TcCoe Idealize.SL
open Cert.KernelAttnIdeal Cert.KernelAttnIdeal.Gen Cert.Reals

namespace Cert.Attn

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem neg_inf : Ideal.ofBits .f32 0xFF800000#32 = ⊥ := by
  simp [Ideal.ofBits, Ideal.ieee]

theorem one_coe : Ideal.ofBits .f32 0x3F800000#32 = ((1 : ℝ) : EReal) := by
  simp [Ideal.ofBits, Ideal.ieee, -EReal.coe_mul]; norm_num

theorem eighth_real : IsR (Ideal.ofBits .f32 0x3E000000#32) := ⟨1 / 8, by simp [Ideal.ofBits, Ideal.ieee, -EReal.coe_mul]; norm_num⟩

theorem slope_real (e : Fin 8) : IsR (slopeM e) := by
  unfold slopeM
  fin_cases e <;> exact ⟨_, by simp [Ideal.ofBits, Ideal.ieee, -EReal.coe_mul]; rfl⟩

/-- A bit is set or it is not. -/
theorem bit (b : BitVec 1) : b = 1#1 ∨ b = 0#1 := by revert b; decide

/-- A row's largest entry is one of them. -/
theorem fold_attained (f : Fin 256 → EReal) : ∃ j, Finset.fold max ⊥ f Finset.univ = f j := by
  have hle (j) : f j ≤ Finset.fold max ⊥ f Finset.univ := (Finset.le_fold_max _).mpr (Or.inr ⟨j, Finset.mem_univ _, le_rfl⟩)
  rcases (Finset.le_fold_max _).mp (le_refl (Finset.fold max ⊥ f Finset.univ)) with h | ⟨j, _, h⟩
  · exact ⟨0, le_antisymm (h.trans bot_le) (hle 0)⟩
  · exact ⟨j, le_antisymm h (hle j)⟩

variable (P : Vec Ideal S2048x2832 .f32) (S : Vec Ideal S8 .f32) (D : Vec Ideal S2048x1024 .f32)

/-- The keys and values a block sees in the reference: zeros before the first block. -/
def kR (o : ℕ) (ho : o ≤ 640) (h : Fin 2) (n : Fin 16) (j : Fin 256) (d : Fin 64) : EReal :=
  if j.val < 128 ∧ n.val = 0 then 0 else kM P o ho h n j d
/-- The probabilities' gradient with them. -/
def dpR (h : Fin 2) (n : Fin 16) (g : Fin 4) (a : Fin 128) (j : Fin 256) : EReal := ∑ d : Fin 64, yM D h n g a d * kR P 640 le_rfl h n j d
/-- The gradient of the exponents. -/
def gR (h : Fin 2) (n : Fin 16) (g : Fin 4) (a : Fin 128) (j : Fin 256) : EReal :=
  (Ideal.div (dpR P D h n g a j) (totM P S h n g a) + dzM P S D h n g a) * exM P S h n g a j

/-- No query of the first block sees a key before it. -/
theorem seen_first : ∀ (a : Fin 128) (j : Fin 256), seen 0 a j = 1#1 → 128 ≤ j.val := by decide +kernel

theorem kR_seen (o : ℕ) (ho : o ≤ 640) (h : Fin 2) (n : Fin 16) (a : Fin 128) (j : Fin 256) (d : Fin 64) (hs : seen n.val a j = 1#1) :
    kR P o ho h n j d = kM P o ho h n j d := by
  refine if_neg fun ⟨h1, h2⟩ => ?_
  rw [h2] at hs
  have := seen_first a j hs
  omega

theorem score_unseen (h : Fin 2) (n : Fin 16) (g : Fin 4) (a : Fin 128) (j : Fin 256) (hs : seen n.val a j = 0#1) : scoreM P h n g a j = ⊥ := by
  unfold scoreM; rw [hs]; rfl

theorem ex_unseen (h : Fin 2) (n : Fin 16) (g : Fin 4) (a : Fin 128) (j : Fin 256) (hs : seen n.val a j = 0#1) : exM P S h n g a j = 0 := by
  unfold exM; rw [score_unseen _ _ _ _ _ _ hs, sub_eq_add_neg, EReal.bot_add, Ideal.exp_bot]

theorem dp_seen (h : Fin 2) (n : Fin 16) (g : Fin 4) (a : Fin 128) (j : Fin 256) (hs : seen n.val a j = 1#1) : dpR P D h n g a j = dpM P D h n g a j :=
  Finset.sum_congr rfl fun d _ => congrArg (_ * ·) (kR_seen P _ _ h n a j d hs)

/-- Whatever multiplies an exponential may be taken with either block of values. -/
theorem dp_ex (x : EReal) (h : Fin 2) (n : Fin 16) (g : Fin 4) (a : Fin 128) (j : Fin 256) :
    dpR P D h n g a j * x * exM P S h n g a j = dpM P D h n g a j * x * exM P S h n g a j := by
  rcases bit (seen n.val a j) with hs | hs
  · rw [dp_seen P D h n g a j hs]
  · rw [ex_unseen P S h n g a j hs, mul_zero, mul_zero]

theorem dz_eq (h : Fin 2) (n : Fin 16) (g : Fin 4) (a : Fin 128) :
    -∑ j : Fin 256, dpR P D h n g a j * invM P S h n g a * exM P S h n g a j = dzM P S D h n g a :=
  congrArg (- ·) (Finset.sum_congr rfl fun j _ => dp_ex P S D _ h n g a j)

theorem ds_eq (h : Fin 2) (n : Fin 16) (g : Fin 4) (a : Fin 128) (j : Fin 256) :
    Scalar.select (seen n.val a j) (gR P S D h n g a j) 0 * Ideal.ofBits .f32 0x3E000000#32 = dsM P S D h n g a j := by
  unfold gR dsM
  rcases bit (seen n.val a j) with hs | hs
  · rw [dp_seen P D h n g a j hs]
  · have z (x y : EReal) : Scalar.select 0#1 x y = y := rfl
    rw [hs, z, z]

theorem ds_k (h : Fin 2) (n : Fin 16) (g : Fin 4) (a : Fin 128) (j : Fin 256) (d : Fin 64) :
    dsM P S D h n g a j * kR P 512 (by norm_num) h n j d = dsM P S D h n g a j * kM P 512 (by norm_num) h n j d := by
  rcases bit (seen n.val a j) with hs | hs
  · rw [kR_seen P _ _ h n a j d hs]
  · have e : dsM P S D h n g a j = 0 := by unfold dsM; rw [hs]; exact zero_mul _
    rw [e, zero_mul, zero_mul]

section
variable (hp : ∀ (i : Fin 2048) (k : Fin 2832), k.val < 768 → IsR (P (ix2 i k))) (hs : ∀ e, IsR (S (ix1 e)))
  (hd : ∀ (i : Fin 2048) (k : Fin 1024), k.val < 512 → IsR (D (ix2 i k)))

include hp in
theorem q_real (h : Fin 2) (n : Fin 16) (g : Fin 4) (a : Fin 128) (d : Fin 64) : IsR (qM P h n g a d) :=
  hp _ _ (by show 256 * h.val + 64 * g.val + d.val < 768; omega)

include hp in
theorem k_real (o : ℕ) (ho : o ≤ 640) (h : Fin 2) (n : Fin 16) (j : Fin 256) (d : Fin 64) : IsR (kM P o ho h n j d) := by
  unfold kM
  split_ifs
  · exact hp _ _ (by show o + 64 * h.val + d.val < 768; omega)
  · exact hp _ _ (by show o + 64 * h.val + d.val < 768; omega)

include hp in
theorem kR_real (o : ℕ) (ho : o ≤ 640) (h : Fin 2) (n : Fin 16) (j : Fin 256) (d : Fin 64) : IsR (kR P o ho h n j d) := by
  unfold kR
  split_ifs
  · exact ⟨0, rfl⟩
  · exact k_real P hp o ho h n j d

include hp hd in
theorem dpR_real (h : Fin 2) (n : Fin 16) (g : Fin 4) (a : Fin 128) (j : Fin 256) : IsR (dpR P D h n g a j) :=
  IsR.sum _ _ fun d _ => (hd _ _ (by show 256 * h.val + 64 * g.val + d.val < 512; omega)).mul (kR_real P hp _ _ h n j d)

include hp in
theorem score_cases (h : Fin 2) (n : Fin 16) (g : Fin 4) (a : Fin 128) (j : Fin 256) : IsR (scoreM P h n g a j) ∨ scoreM P h n g a j = ⊥ := by
  rcases bit (seen n.val a j) with e | e
  · left
    unfold scoreM rawScore
    rw [e]
    show IsR (_ * _ - _ * _)
    rw [sub_eq_add_neg]
    exact ((IsR.sum _ _ fun d _ => (q_real P hp h n g a d).mul (k_real P hp _ _ h n j d)).mul eighth_real).add ((slope_real _).mul ⟨_, rfl⟩).neg
  · exact Or.inr (score_unseen P h n g a j e)

include hp hs in
theorem top_real (h : Fin 2) (n : Fin 16) (g : Fin 4) (a : Fin 128) : IsR (topM P S h n g a) := by
  unfold topM
  rw [neg_inf]
  obtain ⟨s, e⟩ := hs (qhead h g)
  obtain ⟨j, ej⟩ := fold_attained fun j => scoreM P h n g a j
  rw [e, ej]
  rcases score_cases P hp h n g a j with ⟨r, er⟩ | er
  · exact ⟨max r s, by rw [er]; exact (EReal.coe_strictMono.monotone.map_max).symm⟩
  · exact ⟨s, by rw [er]; exact max_eq_right bot_le⟩

include hp hs in
theorem ex_real (h : Fin 2) (n : Fin 16) (g : Fin 4) (a : Fin 128) (j : Fin 256) : ∃ r : ℝ, 0 ≤ r ∧ exM P S h n g a j = r := by
  obtain ⟨t, et⟩ := top_real P S hp hs h n g a
  rcases score_cases P hp h n g a j with ⟨r, er⟩ | er
  · exact ⟨Real.exp (r - t), (Real.exp_pos _).le, by unfold exM; rw [er, et, ← EReal.coe_sub, Ideal.exp_coe]⟩
  · exact ⟨0, le_rfl, by unfold exM; rw [er, sub_eq_add_neg, EReal.bot_add, Ideal.exp_bot]; rfl⟩

include hp hs in
theorem es_real (h : Fin 2) (n : Fin 16) (g : Fin 4) (a : Fin 128) : ∃ r : ℝ, 0 < r ∧ esM P S h n g a = r := by
  obtain ⟨t, et⟩ := top_real P S hp hs h n g a
  obtain ⟨s, es⟩ := hs (qhead h g)
  exact ⟨Real.exp (s - t), Real.exp_pos _, by unfold esM; rw [es, et, ← EReal.coe_sub, Ideal.exp_coe]⟩

include hp hs hd in
/-- The gradient through a row's maximum is zero. -/
theorem ct_zero (h : Fin 2) (n : Fin 16) (g : Fin 4) (a : Fin 128) :
    -(dzM P S D h n g a * esM P S h n g a) + ∑ j : Fin 256, -gR P S D h n g a j = 0 := by
  choose x hx0 hx using ex_real P S hp hs h n g a
  obtain ⟨s, hs0, es⟩ := es_real P S hp hs h n g a
  choose p hp' using dpR_real P D hp hd h n g a
  have hx0' : 0 ≤ ∑ j, x j := Finset.sum_nonneg fun j _ => hx0 j
  have hz : (∑ j, x j) + s ≠ 0 := by positivity
  have et : totM P S h n g a = (((∑ j, x j) + s : ℝ) : EReal) := by
    unfold totM; simp only [hx, es]; rw [sum_coe, EReal.coe_add]
  have ei : invM P S h n g a = ((1 / (((∑ j, x j) + s) * ((∑ j, x j) + s)) : ℝ) : EReal) := by
    unfold invM
    rw [et, ← EReal.coe_mul, one_coe, Ideal.div_coe (mul_ne_zero hz hz), ← EReal.coe_mul, one_mul]
  have ez : dzM P S D h n g a = ((-∑ j, p j * (1 / (((∑ j, x j) + s) * ((∑ j, x j) + s))) * x j : ℝ) : EReal) := by
    rw [← dz_eq, ei]
    simp only [hp', hx, ← EReal.coe_mul]
    rw [sum_coe, EReal.coe_neg]
  unfold gR
  simp only [et, ez, hp', hx, es, Ideal.div_coe hz, ← EReal.coe_mul, ← EReal.coe_add, ← EReal.coe_neg]
  rw [sum_coe, ← EReal.coe_add]
  refine congrArg Real.toEReal (?_ : _ = (0 : ℝ))
  generalize hZ : (∑ j, x j) + s = Z at *
  have e1 : ∑ j, p j * (1 / (Z * Z)) * x j = (1 / (Z * Z)) * ∑ j, p j * x j := by rw [Finset.mul_sum]; exact Finset.sum_congr rfl fun j _ => by ring
  rw [e1]
  have e2 (W : ℝ) : ∑ j, -((p j * (1 / Z) + -W) * x j) = -(1 / Z) * (∑ j, p j * x j) + W * ∑ j, x j := by
    rw [Finset.mul_sum, Finset.mul_sum, ← Finset.sum_add_distrib]
    exact Finset.sum_congr rfl fun j _ => by ring
  rw [e2, show ∑ j, x j = Z - s by rw [← hZ]; ring]
  field_simp
  ring

end

end Cert.Attn
end
-- ==== Proof.Attn.Reads.lean ====
module

public import proofs.«01_k».proof.Proof.Attn.Real
public import proofs.«01_k».proof.Proof.Gen.ReferenceAttnIdeal.Run
public import proofs.«01_k».proof.Proof.Gen.ReferenceAttnIdeal.Read
public import Idealize.ShloMosaic.Lib.Pointwise

@[expose] public section

set_option maxRecDepth 16384

/-!
# What the attention's reference computes, entry by entry
-/

noncomputable section

open Idealize Idealize.ShloMosaic Idealize.ShloMosaic.TcCoe Idealize.SL
open Cert.Reals Cert.ReferenceAttnIdeal Cert.ReferenceAttnIdeal.Gen Cert.ReferenceAttnIdeal.Read

namespace Cert.Attn

variable (P : Vec Ideal S2048x2832 .f32) (S : Vec Ideal S8 .f32) (D : Vec Ideal S2048x1024 .f32)

/-- Two entries whose coordinates are equal numbers. -/
theorem at2 {n k : ℕ} (X : (⟨2, ![n, k]⟩ : Shape).Idx → EReal) {i i' : Fin n} {q q' : Fin k} (hi : i.val = i'.val) (hq : q.val = q'.val) :
    X (ix2 i q) = X (ix2 i' q') := by
  rw [Fin.ext hi, Fin.ext hq]

theorem own_k (n : Fin 16) (a : Fin 128) (h : Fin 2) (d : Fin 64) :
    val_main_v7 (F := Ideal) P (ix5 0 n a h d) = P (ix2 (row n a) ⟨512 + 64 * h.val + d.val, by omega⟩) := by
  pointwise [val_main_v7, val_main_v4, val_main_v1]
  exact at2 P (by show n.val * 128 + a.val = 128 * n.val + a.val; omega) (by show 512 + (h.val * 64 + d.val) = 512 + 64 * h.val + d.val; omega)

theorem own_v (n : Fin 16) (a : Fin 128) (h : Fin 2) (d : Fin 64) :
    val_main_v13 (F := Ideal) P (ix5 0 n a h d) = P (ix2 (row n a) ⟨640 + 64 * h.val + d.val, by omega⟩) := by
  pointwise [val_main_v13, val_main_v5, val_main_v2]
  exact at2 P (by show n.val * 128 + a.val = 128 * n.val + a.val; omega) (by show 640 + (h.val * 64 + d.val) = 640 + 64 * h.val + d.val; omega)

/-- The block before and the block itself. -/
theorem two_blocks (o : ℕ) (ho : o ≤ 640) (n : Fin 16) (j : Fin 256) (h : Fin 2) (d : Fin 64) :
    (if h_1 : j.val < 128 then if hn : n.val < 1 then 0 else P (ix2 (row ⟨n.val - 1, by omega⟩ ⟨j.val, h_1⟩) ⟨o + 64 * h.val + d.val, by omega⟩)
      else P (ix2 (row n ⟨j.val - 128, by omega⟩) ⟨o + 64 * h.val + d.val, by omega⟩)) = kR P o ho h n j d := by
  unfold kR kM
  by_cases hj : j.val < 128
  · by_cases hn : n.val = 0
    · rw [dif_pos hj, dif_pos (by omega), if_pos ⟨hj, hn⟩]
    · rw [dif_pos hj, dif_neg (by omega), if_neg fun q => hn q.2, dif_pos hj]
      rfl
  · rw [dif_neg hj, if_neg fun q => hj q.1, dif_neg hj]
    rfl

theorem k_ref (n : Fin 16) (j : Fin 256) (h : Fin 2) (d : Fin 64) :
    val_main_v12 (F := Ideal) P (ix5 0 n j h d) = kR P 512 (by norm_num) h n j d := by
  rw [← two_blocks]
  pointwise [val_main_v12, val_main_v10, val_main_v9, val_main_v8, val_main_cst, own_k]

theorem v_ref (n : Fin 16) (j : Fin 256) (h : Fin 2) (d : Fin 64) :
    val_main_v18 (F := Ideal) P (ix5 0 n j h d) = kR P 640 le_rfl h n j d := by
  rw [← two_blocks]
  pointwise [val_main_v18, val_main_v16, val_main_v15, val_main_v14, val_main_cst_1, own_v]

theorem q_ref (n : Fin 16) (a : Fin 128) (h : Fin 2) (g : Fin 4) (d : Fin 64) :
    val_main_v6 (F := Ideal) P (ix6 0 n a h g d) = qM P h n g a d := by
  unfold qM
  pointwise [val_main_v6, val_main_v3, val_main_v0]
  exact at2 P (by show n.val * 128 + a.val = 128 * n.val + a.val; omega) (by show (h.val * 4 + g.val) * 64 + d.val = 256 * h.val + 64 * g.val + d.val; omega)

theorem y_ref (n : Fin 16) (a : Fin 128) (h : Fin 2) (g : Fin 4) (d : Fin 64) :
    val_main_v123 (F := Ideal) D (ix6 0 n h d g a) = yM D h n g a d := by
  unfold yM
  pointwise [val_main_v123, val_main_v122, val_main_v121, val_main_v120]
  exact at2 D (by show n.val * 128 + a.val = 128 * n.val + a.val; omega) (by show h.val * 256 + g.val * 64 + d.val = 256 * h.val + 64 * g.val + d.val; omega)

theorem raw_ref (h : Fin 2) (g : Fin 4) (n : Fin 16) (a : Fin 128) (j : Fin 256) :
    val_main_v20 (F := Ideal) P (ix6 0 h g n a j) = ∑ d : Fin 64, kR P 512 (by norm_num) h n j d * qM P h n g a d := by
  pointwise [val_main_v20, val_main_v19, k_ref, q_ref]

theorem seen_ref (n : Fin 16) (a : Fin 128) (j : Fin 256) : val_main_v50 (F := Ideal) (ix3 n a j) = seen n.val a j := by
  unfold seen
  pointwise [val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29, val_main_v28,
    val_main_v27, val_main_v26, val_main_v25, val_main_v24, val_main_v23, val_main_c, val_main_c_4, val_main_c_5, val_main_c_6, val_main_c_7]

theorem slope_ref (e : Fin 8) : val_main_v59 (F := Ideal) (ix1 e) = slopeM e := by
  rw [← slopes_at]; rfl

theorem dist_ref (a : Fin 128) (j : Fin 256) :
    val_main_v62 (F := Ideal) (ix2 a j) = FloatOps.sitofp (F := Ideal) .f32 (IntOp.subi (IntOp.addi (BitVec.ofNat 32 a.val) 128#32) (BitVec.ofNat 32 j.val)) := by
  pointwise [val_main_v62, val_main_v31, val_main_v30, val_main_v29, val_main_v28, val_main_v27, val_main_v26, val_main_v25, val_main_v24, val_main_v23, val_main_c]

theorem bias_ref (h : Fin 2) (g : Fin 4) (n : Fin 16) (a : Fin 128) (j : Fin 256) :
    val_main_v68 (F := Ideal) (ix6 0 h g n a j) = slopeM (qhead h g) * val_main_v62 (F := Ideal) (ix2 a j) := by
  rw [← slope_ref]
  pointwise [val_main_v68, val_main_v67, val_main_v66, val_main_v65, val_main_v64, val_main_v63, val_main_v61, val_main_v60]
  rw [show (⟨h.val * 4 + g.val, _⟩ : Fin 8) = qhead h g from Fin.ext (by show h.val * 4 + g.val = 4 * h.val + g.val; omega)]

theorem score_ref (h : Fin 2) (g : Fin 4) (n : Fin 16) (a : Fin 128) (j : Fin 256) :
    val_main_v70_0 (F := Ideal) P (ix6 0 h g n a j) = scoreM P h n g a j := by
  have e : val_main_v70_0 (F := Ideal) P (ix6 0 h g n a j) = Scalar.select (seen n.val a j)
      ((∑ d : Fin 64, kR P 512 (by norm_num) h n j d * qM P h n g a d) * Ideal.ofBits .f32 0x3E000000#32 - slopeM (qhead h g) * val_main_v62 (F := Ideal) (ix2 a j)) ⊥ := by
    rw [← neg_inf]
    pointwise [val_main_v70_0, val_main_v70_1, val_main_v69, val_main_v22, val_main_v21, val_main_cst_3, val_main_call0_v2, val_main_call0_v0, val_main_cst_16, raw_ref, bias_ref, seen_ref]
    exact congrArg (Scalar.select _ _) rfl
  rw [e]
  rcases bit (seen n.val a j) with hs | hs
  · unfold scoreM rawScore
    rw [dist_ref, Finset.sum_congr rfl fun d _ => (congrArg (· * _) (kR_seen P _ _ h n a j d hs)).trans (mul_comm _ _)]
  · rw [score_unseen P h n g a j hs, hs]; rfl

theorem sink_ref (h : Fin 2) (g : Fin 4) : val_main_v72 (F := Ideal) S (ix5 h g 0 0 0) = S (ix1 (qhead h g)) := by
  pointwise [val_main_v72, val_main_v71]
  rw [show (⟨h.val * 4 + g.val, _⟩ : Fin 8) = qhead h g from Fin.ext (by show h.val * 4 + g.val = 4 * h.val + g.val; omega)]

/-! ## Sums and maxima over some axes -/

/-- A sum over the entries that a reduction sends to one place. -/
theorem sum_fiber {s t : Shape} {axes : List (Fin s.rank)} (h : s.ReducesTo axes t) (x : s.Idx → EReal) (z : EReal) (j : t.Idx) {κ : Type} [Fintype κ]
    (e : κ → s.Idx) (he : ∀ k, h.drop (e k) = j) (hi : Function.Injective e) (hs : ∀ i, h.drop i = j → ∃ k, e k = i) :
    Ideal.hostReduceAdd h x z j = z + ∑ k, x (e k) :=
  congrArg (z + ·) (Finset.sum_nbij e (fun k _ => Finset.mem_filter.mpr ⟨Finset.mem_univ _, he k⟩) hi.injOn
    (fun i q => by
      obtain ⟨k, hk⟩ := hs i (Finset.mem_filter.mp q).2
      exact ⟨k, Finset.mem_coe.mpr (Finset.mem_univ k), hk⟩) fun _ _ => rfl).symm

variable (h : Fin 2) (g : Fin 4) (n : Fin 16) (a : Fin 128)

/-- Over a row's keys. -/
theorem red_keys (x : S1x2x4x16x128x256.Idx → EReal) (z : EReal) :
    Ideal.hostReduceAdd reducesTo_S1x2x4x16x128x256_S1x2x4x16x128_d5 x z (ix5 0 h g n a) = z + ∑ j : Fin 256, x (ix6 0 h g n a j) := by
  rw [Ideal.hostReduceAdd_single reducesTo_S1x2x4x16x128x256_S1x2x4x16x128_d5 (by decide)]
  refine congrArg (_ + ·) (Finset.sum_congr rfl fun k _ => ?_)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

/-- Over two axes of one entry. -/
theorem red_unit (x : S1x2x4x16x128x1.Idx → EReal) (z : EReal) :
    Ideal.hostReduceAdd reducesTo_S1x2x4x16x128x1_S2x4x16x128_d0_5 x z (ix4 h g n a) = z + x (ix6 0 h g n a 0) := by
  rw [sum_fiber reducesTo_S1x2x4x16x128x1_S2x4x16x128_d0_5 x z (ix4 h g n a) (fun _ : Fin 1 => ix6 0 h g n a 0)
    (fun _ => funext fun a => Fin.ext (by match a with | ⟨0, _⟩ => rfl | ⟨1, _⟩ => rfl | ⟨2, _⟩ => rfl | ⟨3, _⟩ => rfl))
    (fun _ _ _ => Subsingleton.elim _ _) fun i q => ⟨0, ?_⟩, Fin.sum_univ_one fun _ : Fin 1 => _]
  funext b
  match b with
  | ⟨0, _⟩ => exact Subsingleton.elim (α := Fin 1) _ _
  | ⟨1, _⟩ => exact Fin.ext (congrArg Fin.val (congrFun q ⟨0, by decide⟩)).symm
  | ⟨2, _⟩ => exact Fin.ext (congrArg Fin.val (congrFun q ⟨1, by decide⟩)).symm
  | ⟨3, _⟩ => exact Fin.ext (congrArg Fin.val (congrFun q ⟨2, by decide⟩)).symm
  | ⟨4, _⟩ => exact Fin.ext (congrArg Fin.val (congrFun q ⟨3, by decide⟩)).symm
  | ⟨5, _⟩ => exact Subsingleton.elim (α := Fin 1) _ _

/-- Over the query blocks and queries. -/
theorem red_queries (x : S1x2x4x16x128x1.Idx → EReal) (z : EReal) :
    Ideal.hostReduceAdd reducesTo_S1x2x4x16x128x1_S1x2x4x1_d3_4 x z (ix4 0 h g 0) = z + ∑ n : Fin 16, ∑ a : Fin 128, x (ix6 0 h g n a 0) := by
  rw [sum_fiber reducesTo_S1x2x4x16x128x1_S1x2x4x1_d3_4 x z (ix4 0 h g 0) (fun k : Fin 16 × Fin 128 => ix6 0 h g k.1 k.2 0)
    (fun _ => funext fun a => Fin.ext (by match a with | ⟨0, _⟩ => rfl | ⟨1, _⟩ => rfl | ⟨2, _⟩ => rfl | ⟨3, _⟩ => rfl))
    (fun k k' q => Prod.ext (congrFun q 3) (congrFun q 4)) fun i q => ⟨(i 3, i 4), ?_⟩, Fintype.sum_prod_type]
  funext b
  match b with
  | ⟨0, _⟩ => exact Subsingleton.elim (α := Fin 1) _ _
  | ⟨1, _⟩ => exact Fin.ext (congrArg Fin.val (congrFun q ⟨1, by decide⟩)).symm
  | ⟨2, _⟩ => exact Fin.ext (congrArg Fin.val (congrFun q ⟨2, by decide⟩)).symm
  | ⟨3, _⟩ => rfl
  | ⟨4, _⟩ => rfl
  | ⟨5, _⟩ => exact Subsingleton.elim (α := Fin 1) _ _

/-- Over all axes but the heads', each of one entry. -/
theorem red_heads (x : S1x2x4x1x1x1.Idx → EReal) (z : EReal) :
    Ideal.hostReduceAdd reducesTo_S1x2x4x1x1x1_S2x4_d0_3_4_5 x z (ix2 h g) = z + x (ix6 0 h g 0 0 0) := by
  rw [sum_fiber reducesTo_S1x2x4x1x1x1_S2x4_d0_3_4_5 x z (ix2 h g) (fun _ : Fin 1 => ix6 0 h g 0 0 0)
    (fun _ => funext fun a => Fin.ext (by match a with | ⟨0, _⟩ => rfl | ⟨1, _⟩ => rfl))
    (fun _ _ _ => Subsingleton.elim _ _) fun i q => ⟨0, ?_⟩, Fin.sum_univ_one fun _ : Fin 1 => _]
  funext b
  match b with
  | ⟨1, _⟩ => exact Fin.ext (congrArg Fin.val (congrFun q ⟨0, by decide⟩)).symm
  | ⟨2, _⟩ => exact Fin.ext (congrArg Fin.val (congrFun q ⟨1, by decide⟩)).symm
  | ⟨0, _⟩ | ⟨3, _⟩ | ⟨4, _⟩ | ⟨5, _⟩ => exact Subsingleton.elim (α := Fin 1) _ _

theorem red_heads5 (x : S2x4x1x1x1.Idx → EReal) (z : EReal) :
    Ideal.hostReduceAdd reducesTo_S2x4x1x1x1_S2x4_d2_3_4 x z (ix2 h g) = z + x (ix5 h g 0 0 0) := by
  rw [sum_fiber reducesTo_S2x4x1x1x1_S2x4_d2_3_4 x z (ix2 h g) (fun _ : Fin 1 => ix5 h g 0 0 0)
    (fun _ => funext fun a => Fin.ext (by match a with | ⟨0, _⟩ => rfl | ⟨1, _⟩ => rfl))
    (fun _ _ _ => Subsingleton.elim _ _) fun i q => ⟨0, ?_⟩, Fin.sum_univ_one fun _ : Fin 1 => _]
  funext b
  match b with
  | ⟨0, _⟩ => exact Fin.ext (congrArg Fin.val (congrFun q ⟨0, by decide⟩)).symm
  | ⟨1, _⟩ => exact Fin.ext (congrArg Fin.val (congrFun q ⟨1, by decide⟩)).symm
  | ⟨2, _⟩ | ⟨3, _⟩ | ⟨4, _⟩ => exact Subsingleton.elim (α := Fin 1) _ _

end Cert.Attn
end
-- ==== Proof.Attn.Maxima.lean ====
module

public import proofs.«01_k».proof.Proof.Attn.Reads

@[expose] public section

set_option maxRecDepth 16384

/-!
# The maxima of the rows of the attention's reference
-/

noncomputable section

open Idealize Idealize.ShloMosaic Idealize.ShloMosaic.TcCoe Idealize.SL
open Cert.Reals Cert.ReferenceAttnIdeal Cert.ReferenceAttnIdeal.Gen Cert.ReferenceAttnIdeal.Read

namespace Cert.Attn

variable (P : Vec Ideal S2048x2832 .f32) (S : Vec Ideal S8 .f32) (D : Vec Ideal S2048x1024 .f32)

/-- A reduction over a row's keys is a fold over them. -/
theorem red_fold (f : EReal → EReal → EReal) [Std.Commutative f] [Std.Associative f] (x : S1x2x4x16x128x256.Idx → EReal) (z : S_.Idx → EReal)
    (h : Fin 2) (g : Fin 4) (n : Fin 16) (a : Fin 128) :
    Host.reduce f x z reducesTo_S1x2x4x16x128x256_S1x2x4x16x128_d5 h_S_ (ix5 0 h g n a)
      = Finset.fold f (z (Shape.Idx.first h_S_)) (fun j : Fin 256 => x (ix6 0 h g n a j)) Finset.univ := by
  rw [Host.reduce_eq_fold_single f x z reducesTo_S1x2x4x16x128x256_S1x2x4x16x128_d5 (by decide) h_S_]
  exact congrArg (fun y : Fin 256 → EReal => Finset.fold f (z (Shape.Idx.first h_S_)) y Finset.univ) (funext fun j => congrArg x (funext fun a =>
    Fin.ext (by match a with | ⟨0, _⟩ => rfl | ⟨1, _⟩ => rfl | ⟨2, _⟩ => rfl | ⟨3, _⟩ => rfl | ⟨4, _⟩ => rfl | ⟨5, _⟩ => rfl)))

theorem max_ref (h : Fin 2) (g : Fin 4) (n : Fin 16) (a : Fin 128) :
    val_main_v73 (F := Ideal) P (ix5 0 h g n a) = Finset.fold max (Ideal.ofBits .f32 0xFF800000#32) (fun j : Fin 256 => scoreM P h n g a j) Finset.univ := by
  unfold val_main_v73
  refine (red_fold max (val_main_v70_0 (F := Ideal) P) (val_main_cst_17 (F := Ideal)) h g n a).trans ?_
  exact congrArg₂ (fun z (y : Fin 256 → EReal) => Finset.fold max z y Finset.univ) (show val_main_cst_17 (F := Ideal) (Shape.Idx.first h_S_) = Ideal.ofBits .f32 0xFF800000#32 from rfl)
    (funext fun j => score_ref P h g n a j)

theorem top_left (h : Fin 2) (g : Fin 4) (n : Fin 16) (a : Fin 128) :
    val_main_v79 (F := Ideal) P (ix6 0 h g n a 0) = val_main_v73 (F := Ideal) P (ix5 0 h g n a) := by
  unfold val_main_v79
  generalize val_main_v73 (F := Ideal) P = x
  pointwise

theorem top_right (h : Fin 2) (g : Fin 4) (n : Fin 16) (a : Fin 128) :
    val_main_v81 (F := Ideal) S (ix6 0 h g n a 0) = val_main_v72 (F := Ideal) S (ix5 h g 0 0 0) := by
  unfold val_main_v81 val_main_v80
  generalize val_main_v72 (F := Ideal) S = y
  pointwise

theorem top_ref (h : Fin 2) (g : Fin 4) (n : Fin 16) (a : Fin 128) : val_main_v82 (F := Ideal) P S (ix6 0 h g n a 0) = topM P S h n g a := by
  have e1 := (top_left P h g n a).trans (max_ref P h g n a)
  have e2 := (top_right S h g n a).trans (sink_ref S h g)
  rw [val_main_v82_apply, e1, e2, topM]
  rfl

end Cert.Attn
end
-- ==== Proof.Attn.Rows.lean ====
module

public import proofs.«01_k».proof.Proof.Attn.Maxima

@[expose] public section

set_option maxRecDepth 16384

/-!
# The rows of the attention's reference, and its gradients up to the scores
-/

noncomputable section

open Idealize Idealize.ShloMosaic Idealize.ShloMosaic.TcCoe Idealize.SL
open Cert.Reals Cert.ReferenceAttnIdeal Cert.ReferenceAttnIdeal.Gen Cert.ReferenceAttnIdeal.Read

namespace Cert.Attn

variable (P : Vec Ideal S2048x2832 .f32) (S : Vec Ideal S8 .f32) (D : Vec Ideal S2048x1024 .f32)

theorem ex_ref (h : Fin 2) (g : Fin 4) (n : Fin 16) (a : Fin 128) (j : Fin 256) : val_main_v103 (F := Ideal) P S (ix6 0 h g n a j) = exM P S h n g a j := by
  unfold exM
  pointwise [val_main_v103, val_main_v102, val_main_v101, score_ref, top_ref]

theorem es_ref (h : Fin 2) (g : Fin 4) (n : Fin 16) (a : Fin 128) : val_main_v109 (F := Ideal) P S (ix6 0 h g n a 0) = esM P S h n g a := by
  unfold esM
  pointwise [val_main_v109, val_main_v108, val_main_v107, val_main_v106, sink_ref, top_ref]

theorem tot_ref (h : Fin 2) (g : Fin 4) (n : Fin 16) (a : Fin 128) : val_main_v110 (F := Ideal) P S (ix6 0 h g n a 0) = totM P S h n g a := by
  unfold totM
  pointwise [val_main_v110, val_main_v105, val_main_v104, val_main_cst_25, red_keys, ex_ref, es_ref]

theorem inv_ref (h : Fin 2) (g : Fin 4) (n : Fin 16) (a : Fin 128) : val_main_v115 (F := Ideal) P S (ix6 0 h g n a 0) = invM P S h n g a := by
  unfold invM
  pointwise [val_main_v115, val_main_v114, val_main_v113, val_main_cst_26, tot_ref]

theorem dp_ref (h : Fin 2) (g : Fin 4) (n : Fin 16) (a : Fin 128) (j : Fin 256) : val_main_v125 (F := Ideal) P D (ix6 0 h g n a j) = dpR P D h n g a j := by
  unfold dpR
  pointwise [val_main_v125, val_main_v124, y_ref, v_ref]

theorem dz_ref (h : Fin 2) (g : Fin 4) (n : Fin 16) (a : Fin 128) : val_main_v133 (F := Ideal) P S D (ix6 0 h g n a 0) = dzM P S D h n g a := by
  rw [← dz_eq]
  pointwise [val_main_v133, val_main_v132, val_main_v131, val_main_v130, val_main_v129, val_main_v128, val_main_cst_27, red_keys, dp_ref, inv_ref, ex_ref]

theorem g_ref (h : Fin 2) (g : Fin 4) (n : Fin 16) (a : Fin 128) (j : Fin 256) : val_main_v146 (F := Ideal) P S D (ix6 0 h g n a j) = gR P S D h n g a j := by
  unfold gR
  pointwise [val_main_v146, val_main_v145, val_main_v144, val_main_v143, val_main_v142, val_main_v135, val_main_v134, val_main_cst_30, red_unit, dp_ref, tot_ref, dz_ref, ex_ref]

theorem ct_ref (h : Fin 2) (g : Fin 4) (n : Fin 16) (a : Fin 128) : val_main_v150 (F := Ideal) P S D (ix6 0 h g n a 0)
    = -(dzM P S D h n g a * esM P S h n g a) + ∑ j : Fin 256, -gR P S D h n g a j := by
  pointwise [val_main_v150, val_main_v149, val_main_v148, val_main_v147, val_main_v139, val_main_v136, val_main_cst_31, red_keys, dz_ref, es_ref, g_ref]

end Cert.Attn
end
-- ==== Proof.Attn.Reference.lean ====
module

public import proofs.«01_k».proof.Proof.Attn.Rows
public import proofs.«01_k».proof.Proof.Attn.Final

@[expose] public section

set_option maxRecDepth 16384

/-!
# The gradients of the attention's reference

Differentiating a row's maximum sends back nothing: over the reals the cotangent that would pass through it is zero. What is left of the
gradient of the scores is the block's.
-/

noncomputable section

open Idealize Idealize.ShloMosaic Idealize.ShloMosaic.TcCoe Idealize.SL
open Cert.Reals Cert.ReferenceAttnIdeal Cert.ReferenceAttnIdeal.Gen Cert.ReferenceAttnIdeal.Read

namespace Cert.Attn

variable (P : Vec Ideal S2048x2832 .f32) (S : Vec Ideal S8 .f32) (D : Vec Ideal S2048x1024 .f32)

/-- A truth value read as a number. -/
theorem is_one (p : Prop) [Decidable p] : FloatOps.uitofp (F := Ideal) .f32 (BitVec.ofBool (decide p)) = (if p then 1 else 0 : EReal) := by
  by_cases hp : p
  · rw [if_pos hp, decide_eq_true hp]
    show (((1 : ℕ) : ℝ) : EReal) = 1
    simp
  · rw [if_neg hp, decide_eq_false hp]
    show (((0 : ℕ) : ℝ) : EReal) = 0
    simp

/-- How many keys attain a row's maximum. -/
theorem count_ref (h : Fin 2) (g : Fin 4) (n : Fin 16) (a : Fin 128) : val_main_v78 (F := Ideal) P (ix5 0 h g n a) ≠ 0 := by
  have e : val_main_v78 (F := Ideal) P (ix5 0 h g n a) = ∑ j : Fin 256, (if scoreM P h n g a j
      = Finset.fold max (Ideal.ofBits .f32 0xFF800000#32) (fun j : Fin 256 => scoreM P h n g a j) Finset.univ then 1 else 0 : EReal) := by
    simp only [← max_ref]
    pointwise [val_main_v78, val_main_cst_18, red_keys, val_main_v77, val_main_v76, val_main_v75, val_main_v74, score_ref]
    exact Finset.sum_congr rfl fun x _ => is_one _
  rw [e, neg_inf]
  obtain ⟨j, hj⟩ := fold_attained fun j => scoreM P h n g a j
  refine ne_of_gt (lt_of_lt_of_le zero_lt_one ?_)
  refine le_trans (le_of_eq (if_pos hj.symm).symm) (Finset.single_le_sum (f := fun j => (if scoreM P h n g a j
      = Finset.fold max ⊥ (fun j : Fin 256 => scoreM P h n g a j) Finset.univ then 1 else 0 : EReal)) (fun k _ => ?_) (Finset.mem_univ j))
  split_ifs
  · exact zero_le_one
  · exact le_rfl

theorem dv_ref (h : Fin 2) (n : Fin 16) (j : Fin 256) (d : Fin 64) : val_main_v127 (F := Ideal) P S D (ix5 0 n j h d) = dvM P S D h n j d := by
  unfold dvM
  pointwise [val_main_v127, val_main_v126, val_main_v112, val_main_v111, y_ref, ex_ref, tot_ref]

theorem dv_host (b : Fin 16) (a : Fin 128) (h : Fin 2) (d : Fin 64) : val_main_v179 (F := Ideal) P S D (ix5 0 b a h d) = kvM P S D 1 h b a d := by
  have e : val_main_v179 (F := Ideal) P S D (ix5 0 b a h d) = val_main_v127 (F := Ideal) P S D (ix5 0 b ⟨128 + a.val, by omega⟩ h d)
      + (if hb : b.val < 15 then val_main_v127 (F := Ideal) P S D (ix5 0 ⟨1 + b.val, by omega⟩ ⟨a.val, by omega⟩ h d) else 0) := by
    pointwise [val_main_v179, val_main_v178, val_main_v177, val_main_v175, val_main_v174, val_main_cst_37]
  have z : ((1 : Fin 2).val = 0) = False := by decide
  simp only [kvM, shareM, z, ite_false, e, dv_ref P S D]
  by_cases hb : b.val < 15
  · rw [dif_pos hb, dif_pos hb]
    simp only [Nat.add_comm 1 b.val]
  · rw [dif_neg hb, dif_neg hb]

section
variable (hp : ∀ (i : Fin 2048) (k : Fin 2832), k.val < 768 → IsR (P (ix2 i k))) (hs : ∀ e, IsR (S (ix1 e)))
  (hd : ∀ (i : Fin 2048) (k : Fin 1024), k.val < 512 → IsR (D (ix2 i k)))
include hp hs hd

theorem ct_ref_zero (h : Fin 2) (g : Fin 4) (n : Fin 16) (a : Fin 128) : val_main_v150 (F := Ideal) P S D (ix6 0 h g n a 0) = 0 :=
  (ct_ref P S D h g n a).trans (ct_zero P S D hp hs hd h n g a)

theorem max_grad (h : Fin 2) (g : Fin 4) (n : Fin 16) (a : Fin 128) (j : Fin 256) : val_main_v162 (F := Ideal) P S D (ix6 0 h g n a j) = 0 := by
  have e : val_main_v162 (F := Ideal) P S D (ix6 0 h g n a j)
      = Ideal.div (val_main_v158 (F := Ideal) P S D (ix4 h g n a)) (val_main_v78 (F := Ideal) P (ix5 0 h g n a)) * val_main_v77 (F := Ideal) P (ix6 0 h g n a j) := by
    pointwise [val_main_v162, val_main_v161, val_main_v160, val_main_v159]
  have e1 : val_main_v158 (F := Ideal) P S D (ix4 h g n a) = val_main_v150 (F := Ideal) P S D (ix6 0 h g n a 0) * val_main_v91 (F := Ideal) P S (ix6 0 h g n a 0) := by
    pointwise [val_main_v158, val_main_v154, val_main_cst_34, red_unit]
  rw [e, e1, ct_ref_zero P S D hp hs hd, zero_mul, Ideal.zero_div (count_ref P h g n a), zero_mul]

theorem ds_ref (h : Fin 2) (g : Fin 4) (n : Fin 16) (a : Fin 128) (j : Fin 256) : val_main_v168 (F := Ideal) P S D (ix6 0 h g n a j) = dsM P S D h n g a j := by
  have e : val_main_v168 (F := Ideal) P S D (ix6 0 h g n a j) = Scalar.select (seen n.val a j) (gR P S D h n g a j + val_main_v162 (F := Ideal) P S D (ix6 0 h g n a j)) 0
      * Ideal.ofBits .f32 0x3E000000#32 := by
    pointwise [val_main_v168, val_main_v167, val_main_v166, val_main_v163, val_main_v70_1, val_main_call1_v0, val_main_call1_cst, val_main_cst_36, g_ref, seen_ref]
  rw [e, max_grad P S D hp hs hd, add_zero, ds_eq]

theorem sink_grad (h : Fin 2) (g : Fin 4) : val_main_v156 (F := Ideal) P S D (ix5 h g 0 0 0) = 0 := by
  have e : val_main_v156 (F := Ideal) P S D (ix5 h g 0 0 0) = ∑ n : Fin 16, ∑ a : Fin 128,
      val_main_v150 (F := Ideal) P S D (ix6 0 h g n a 0) * val_main_v100 (F := Ideal) P S (ix6 0 h g n a 0) := by
    pointwise [val_main_v156, val_main_v155, val_main_v153, val_main_v152, val_main_v151, val_main_cst_32, val_main_cst_33, red_queries, red_heads]
  rw [e]
  refine Finset.sum_eq_zero fun n _ => Finset.sum_eq_zero fun a _ => ?_
  rw [ct_ref_zero P S D hp hs hd, zero_mul]

theorem sk_ref (h : Fin 2) (g : Fin 4) : val_main_v165 (F := Ideal) P S D (ix1 (qhead h g)) = ∑ a : Fin 128, skM P S D h g a := by
  have e1 : val_main_v164 (F := Ideal) P S D (ix2 h g) = val_main_v141 (F := Ideal) P S D (ix5 h g 0 0 0) + val_main_v156 (F := Ideal) P S D (ix5 h g 0 0 0) := by
    pointwise [val_main_v164, val_main_v157, val_main_cst_35, red_heads5]
  have e2 : val_main_v141 (F := Ideal) P S D (ix5 h g 0 0 0) = ∑ n : Fin 16, ∑ a : Fin 128, dzM P S D h n g a * esM P S h n g a := by
    pointwise [val_main_v141, val_main_v140, val_main_v138, val_main_v137, val_main_v136, val_main_cst_28, val_main_cst_29, red_queries, red_heads, dz_ref, es_ref]
  have e3 : val_main_v165 (F := Ideal) P S D (ix1 (qhead h g)) = val_main_v164 (F := Ideal) P S D (ix2 h g) := by
    unfold val_main_v165
    generalize val_main_v164 (F := Ideal) P S D = x
    pointwise
    exact congrArg x (congrArg₂ ix2 (Fin.ext (by show (4 * h.val + g.val) / 4 = h.val; omega)) (Fin.ext (by show (4 * h.val + g.val) % 4 = g.val; omega)))
  rw [e3, e1, sink_grad P S D hp hs hd, add_zero, e2, Finset.sum_comm]
  rfl

theorem dq_ref (h : Fin 2) (g : Fin 4) (n : Fin 16) (a : Fin 128) (d : Fin 64) :
    val_main_v171 (F := Ideal) P S D (ix6 0 n a h g d) = dqM P S D h n g a d := by
  have e : val_main_v171 (F := Ideal) P S D (ix6 0 n a h g d)
      = ∑ j : Fin 256, val_main_v168 (F := Ideal) P S D (ix6 0 h g n a j) * kR P 512 (by norm_num) h n j d := by
    pointwise [val_main_v171, val_main_v170, val_main_v169, k_ref]
  rw [e]
  exact Finset.sum_congr rfl fun j _ => by rw [ds_ref P S D hp hs hd, ds_k]

theorem dk_ref (h : Fin 2) (n : Fin 16) (j : Fin 256) (d : Fin 64) : val_main_v173 (F := Ideal) P S D (ix5 0 n j h d) = dkM P S D h n j d := by
  have e : val_main_v173 (F := Ideal) P S D (ix5 0 n j h d)
      = ∑ g : Fin 4, ∑ a : Fin 128, val_main_v168 (F := Ideal) P S D (ix6 0 h g n a j) * qM P h n g a d := by
    pointwise [val_main_v173, val_main_v172, val_main_v169, q_ref]
    exact Finset.sum_comm
  rw [e]
  exact Finset.sum_congr rfl fun g _ => Finset.sum_congr rfl fun a _ => by rw [ds_ref P S D hp hs hd]

/-- The query gradients, as the host lays them out. -/
theorem dq_host : val_main_v191 (F := Ideal) P S D = dqF P S D := by
  funext y
  obtain ⟨i, k, rfl⟩ : ∃ (i : Fin 2048) (k : Fin 512), y = ix2 i k := ⟨y 0, y 1, by funext a; match a with | ⟨0, _⟩ => rfl | ⟨1, _⟩ => rfl⟩
  have e : val_main_v191 (F := Ideal) P S D (ix2 i k) = val_main_v171 (F := Ideal) P S D
      (ix6 0 ⟨i.val / 128, by omega⟩ ⟨i.val % 128, by omega⟩ ⟨k.val / 256, by omega⟩ ⟨k.val / 64 % 4, by omega⟩ ⟨k.val % 64, by omega⟩) := by
    unfold val_main_v191 val_main_v188
    generalize val_main_v171 (F := Ideal) P S D = x
    pointwise
  rw [e, dq_ref P S D hp hs hd]
  exact (dqF_at P S D _ _ _ _ _ i k (by dsimp only; omega) (by dsimp only; omega)).symm

/-- The keys' half of the other result, and the values'. -/
theorem dk_host (b : Fin 16) (a : Fin 128) (h : Fin 2) (d : Fin 64) : val_main_v186 (F := Ideal) P S D (ix5 0 b a h d) = kvM P S D 0 h b a d := by
  have e : val_main_v186 (F := Ideal) P S D (ix5 0 b a h d) = val_main_v173 (F := Ideal) P S D (ix5 0 b ⟨128 + a.val, by omega⟩ h d)
      + (if hb : b.val < 15 then val_main_v173 (F := Ideal) P S D (ix5 0 ⟨1 + b.val, by omega⟩ ⟨a.val, by omega⟩ h d) else 0) := by
    pointwise [val_main_v186, val_main_v185, val_main_v184, val_main_v182, val_main_v181, val_main_cst_38]
  have z : ((0 : Fin 2).val = 0) = True := by decide
  simp only [kvM, shareM, z, ite_true, e, dk_ref P S D hp hs hd]
  by_cases hb : b.val < 15
  · rw [dif_pos hb, dif_pos hb]
    simp only [Nat.add_comm 1 b.val]
  · rw [dif_neg hb, dif_neg hb]

/-- The other result: the keys' columns, then the values'. -/
theorem kv_host : val_main_v192 (F := Ideal) P S D = kvF P S D := by
  funext y
  obtain ⟨i, k, rfl⟩ : ∃ (i : Fin 2048) (k : Fin 256), y = ix2 i k := ⟨y 0, y 1, by funext a; match a with | ⟨0, _⟩ => rfl | ⟨1, _⟩ => rfl⟩
  have e : val_main_v192 (F := Ideal) P S D (ix2 i k) = if hk : k.val < 128
      then val_main_v186 (F := Ideal) P S D (ix5 0 ⟨i.val / 128, by omega⟩ ⟨i.val % 128, by omega⟩ ⟨k.val / 64, by omega⟩ ⟨k.val % 64, by omega⟩)
      else val_main_v179 (F := Ideal) P S D (ix5 0 ⟨i.val / 128, by omega⟩ ⟨i.val % 128, by omega⟩ ⟨(k.val - 128) / 64, by omega⟩ ⟨(k.val - 128) % 64, by omega⟩) := by
    unfold val_main_v192 val_main_v190 val_main_v189 val_main_v187 val_main_v180
    generalize val_main_v186 (F := Ideal) P S D = x
    generalize val_main_v179 (F := Ideal) P S D = x'
    pointwise
  rw [e]
  by_cases hk : k.val < 128
  · rw [dif_pos hk, dk_host P S D hp hs hd]
    exact (kvF_at P S D _ _ _ _ _ i k (by dsimp only; omega) (by show k.val = 128 * 0 + 64 * (k.val / 64) + k.val % 64; omega)).symm
  · rw [dif_neg hk, dv_host P S D]
    exact (kvF_at P S D _ _ _ _ _ i k (by dsimp only; omega) (by show k.val = 128 * 1 + 64 * ((k.val - 128) / 64) + (k.val - 128) % 64; omega)).symm

end

theorem sk_host (hp : ∀ (i : Fin 2048) (k : Fin 2832), k.val < 768 → IsR (P (ix2 i k))) (hs : ∀ e, IsR (S (ix1 e)))
    (hd : ∀ (i : Fin 2048) (k : Fin 1024), k.val < 512 → IsR (D (ix2 i k))) : val_main_v165 (F := Ideal) P S D = skH P S D := by
  funext y
  obtain ⟨h, g, rfl⟩ : ∃ (h : Fin 2) (g : Fin 4), y = ix1 (qhead h g) := ⟨⟨(y 0).val / 4, by have : (y 0).val < 8 := (y 0).isLt; omega⟩,
    ⟨(y 0).val % 4, by omega⟩, by
      funext a
      match a with
      | ⟨0, _⟩ => exact Fin.ext (by show (y 0).val = 4 * ((y 0).val / 4) + (y 0).val % 4; omega)⟩
  rw [sk_ref P S D hp hs hd, skH_at]

end Cert.Attn
end
-- ==== Proof.Attn.Claim.lean ====
module

public import proofs.«01_k».proof.Defs
public import proofs.«01_k».proof.Proof.Gen.KernelAttn
public import proofs.«01_k».proof.Proof.Gen.ReferenceAttnIdeal
public import proofs.«01_k».proof.Proof.Gen.Pre_attn_finite
public import proofs.«01_k».proof.Proof.Math.Finite
public import proofs.«01_k».proof.Proof.Attn.Reference
public import Idealize.ShloMosaic.Lib.ReduceAll

@[expose] public section

set_option maxRecDepth 16384

/-!
# The gradients through the attention: kernel and reference agree
-/

noncomputable section

open Idealize Idealize.ShloMosaic Idealize.ShloMosaic.Pipeline Idealize.ShloMosaic.TcCoe Idealize.SL Idealize.SL.Sem

namespace Cert.Attn

open Cert.ReferenceAttnIdeal.Read Cert.Reals
open Cert.KernelAttnIdeal (S2048x2832 S8 S2048x1024)

/-- The precondition makes every entry of the queries, keys and values, of the sinks, and of the attention's part of the cotangent real. -/
theorem pre_real (P : Vec Ideal S2048x2832 .f32) (S : Vec Ideal S8 .f32) (D : Vec Ideal S2048x1024 .f32)
    (h : @Cert.Pre_attn_finite.fn Cert.Pre_attn_finite.Gen.facts Ideal _ P S D = fun _ => 1#1) :
    (∀ (i : Fin 2048) (k : Fin 2832), k.val < 768 → IsR (P (ix2 i k))) ∧ (∀ e, IsR (S (ix1 e)))
      ∧ ∀ (i : Fin 2048) (k : Fin 1024), k.val < 512 → IsR (D (ix2 i k)) := by
  have h0 := congrFun h ix0
  dsimp only [Cert.Pre_attn_finite.fn] at h0
  obtain ⟨h0, h3⟩ := IntOp.andi_eq_one.mp h0
  obtain ⟨h1, h2⟩ := IntOp.andi_eq_one.mp h0
  refine ⟨fun i k hk => ?_, fun e => Finite.real_of_lt _ (Host.reduce_andi_all _ _ _ _ _ h2 (ix1 e)), fun i k hk => ?_⟩
  · have r := Finite.real_of_lt _ (Host.reduce_andi_all _ _ _ _ _ h1 (ix2 i ⟨k.val, hk⟩))
    have e : extractStridedSlice Cert.Pre_attn_finite.S2048x768 ![0, 0] P Cert.Pre_attn_finite.Gen.facts.slices_S2048x2832_S2048x768_0_0
        (ix2 i ⟨k.val, hk⟩) = P (ix2 i k) := by pointwise
    exact e ▸ r
  · have r := Finite.real_of_lt _ (Host.reduce_andi_all _ _ _ _ _ h3 (ix2 i ⟨k.val, hk⟩))
    have e : extractStridedSlice Cert.Pre_attn_finite.S2048x512 ![0, 0] D Cert.Pre_attn_finite.Gen.facts.slices_S2048x1024_S2048x512_0_0
        (ix2 i ⟨k.val, hk⟩) = D (ix2 i k) := by pointwise
    exact e ▸ r

/-- At bit patterns a named constant is the constant printed. -/
@[reducible] def namedBits : Named Bits where
  named _ _ {φ} bits := Scalar.ofBits φ bits

/-- The frame of the printed program: the same text as the one the run is proved for, at bit patterns. -/
theorem frame_bits : Cert.quiescent_KernelAttn (hKernelAttn := Cert.KernelAttn.Gen.facts) := fun m ρ _ =>
  letI := namedBits
  Eq.mp (by sl_kernel_rfl) (frame (F := Bits) m ρ)

/-- The mask's constant stands for minus infinity. -/
theorem preserves : Cert.preserves_KernelAttn_KernelAttnIdeal :=
  IdealRules.named_const.statement Cert.KernelAttnIdeal.κ "mask" .f32 0xF149F2CA#32 ⊥ rfl

/-- The frame of the reference: its counters are zero because it declares no semaphore. -/
theorem frame_reference : Cert.quiescent_ReferenceAttnIdeal (hReferenceAttnIdeal := Cert.ReferenceAttnIdeal.Gen.facts) := fun m ρ _ =>
  (θ_run Cert.ReferenceAttnIdeal.defs _ _).mono (fun r h => ⟨fun c => (h c).2.2.2, sem_eq_zero_of_no_sems (by decide) r.2⟩)
    (Cert.ReferenceAttnIdeal.Value.run m ρ)

/-- The claim of equal results. -/
theorem algebraic : Cert.algebraic_KernelAttnIdeal_ReferenceAttnIdeal_pre_attn_finite (hKernelAttnIdeal := Cert.KernelAttnIdeal.Gen.facts)
    (hReferenceAttnIdeal := Cert.ReferenceAttnIdeal.Gen.facts) (hPre_attn_finite := Cert.Pre_attn_finite.Gen.facts) := by
  intro m ρ m' ρ' hpre hargs
  have hr := fun c => pre_real (aP m c) (aS m c) (aD m c) (hpre c)
  have hq := fun c => dq_host (aP m c) (aS m c) (aD m c) (hr c).1 (hr c).2.1 (hr c).2.2
  have hk := fun c => kv_host (aP m c) (aS m c) (aD m c) (hr c).1 (hr c).2.1 (hr c).2.2
  have hs := fun c => sk_host (aP m c) (aS m c) (aD m c) (hr c).1 (hr c).2.1 (hr c).2.2
  refine ⟨fun c => (dats m 0 c).arrAt 8 (Cert.KernelAttnIdeal.cfgs 0).N, fun c => (dats m 0 c).arrAt 9 (Cert.KernelAttnIdeal.cfgs 0).N,
    fun c => skH (aP m c) (aS m c) (aD m c), ?_, ?_⟩
  · refine (θ_run _ _ _).mono (fun r h c => ?_) (θ_run_and ((θ_run _ _ _).mono (fun _ h => h.1) (run_main m ρ)) (frame m ρ))
    exact ⟨(h.1 c).1 8, (h.1 c).1 9,
      ((h.1 c).2 Cert.KernelAttnIdeal.main_v18 (Pipeline.mem_restRefs_of Cert.KernelAttnIdeal.main_v18 (by decide) (by decide))).trans (sk_tail m c), h.2.1 c⟩
  · refine (θ_run _ _ _).mono (fun r h c => ?_) (Cert.ReferenceAttnIdeal.Value.run m' ρ')
    obtain ⟨h0, h1, h2, h3⟩ := h c
    obtain ⟨a0, a1, a2⟩ := hargs c
    refine ⟨h0.trans ?_, h1.trans ?_, h2.trans ?_, h3⟩
    · exact (val_main_v191_eq (StableHlo.launchContents m' c)).trans ((congr (congrArg₂ val_main_v191 a0 a1) a2).trans ((hq c).trans (dq_final m c).symm))
    · exact (val_main_v192_eq (StableHlo.launchContents m' c)).trans ((congr (congrArg₂ val_main_v192 a0 a1) a2).trans ((hk c).trans (kv_final m c).symm))
    · exact (val_main_v165_eq (StableHlo.launchContents m' c)).trans ((congr (congrArg₂ val_main_v165 a0 a1) a2).trans (hs c))

end Cert.Attn

end
-- ==== Proof.Cv.Frame.lean ====
module

public import proofs.«01_k».proof.Proof.Gen.KernelCvIdeal.Frame.RunB
public import Idealize.ShloMosaic.Lib.Claim

@[expose] public section

set_option maxRecDepth 16384

/-!
# The frame of the convolution module's gradient

The grid's eight points run one after another.  What a point leaves is a `Left`; the points' chain is `left`.
-/

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelCvIdeal Cert.KernelCvIdeal.Gen

namespace Cert.Cv

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What a point leaves in the six results' windows and in the scratch it hands on. -/
structure Left (F : FTy → Type) [FloatOps F] where
  da : Vec F S256x1024 .f32
  db : Vec F S256x1024 .f32
  dw : Vec F S31x1024 .f32
  dbdw : Vec F S1x1024 .f32
  dlnw : Vec F S1x1024 .f32
  dlnb : Vec F S1x1024 .f32
  tail : Vec F S288x1024 .f32

/-- The body's run at the first point, -/
abbrev runA (c : Dev nD) (t : Fin cfg0.N) (h : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t)

/-- and at any other, after a point that left `P`. -/
abbrev runB (c : Dev nD) (t : Fin cfg0.N) (h : ¬ t.val % 8 = 0) (P : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)
    (fun h' => h ((hcond0_0 t).mp h')) (iblk m c 0 t) (iblk m c 1 t) (iblk m c 2 t) (iblk m c 3 t) (iblk m c 4 t) (iblk m c 5 t) (iblk m c 6 t) (iblk m c 7 t) (iblk m c 8 t) P.dw P.dbdw P.dlnw P.dlnb P.tail

/-- What case A leaves: its stores read back. -/
def leftA (c : Dev nD) (t : Fin cfg0.N) (h : t.val % 8 = 0) : Left F where
  da := View.canon (runA m c t h).1
  db := View.canon (runA m c t h).2.1
  dw := View.canon (runA m c t h).2.2.1
  dbdw := View.canon (runA m c t h).2.2.2.1
  dlnw := View.canon (runA m c t h).2.2.2.2.1
  dlnb := View.canon (runA m c t h).2.2.2.2.2.1
  tail := View.canon (runA m c t h).2.2.2.2.2.2.1

/-- Its stores fill every window and the scratch. -/
theorem coverA (c : Dev nD) (t : Fin cfg0.N) (h : t.val % 8 = 0) :
    (∀ y, ∃ p ∈ (runA m c t h).1, y ∈ p.1.set)
      ∧ (∀ y, ∃ p ∈ (runA m c t h).2.1, y ∈ p.1.set)
      ∧ (∀ y, ∃ p ∈ (runA m c t h).2.2.1, y ∈ p.1.set)
      ∧ (∀ y, ∃ p ∈ (runA m c t h).2.2.2.1, y ∈ p.1.set)
      ∧ (∀ y, ∃ p ∈ (runA m c t h).2.2.2.2.1, y ∈ p.1.set)
      ∧ (∀ y, ∃ p ∈ (runA m c t h).2.2.2.2.2.1, y ∈ p.1.set)
      ∧ (∀ y, ∃ p ∈ (runA m c t h).2.2.2.2.2.2.1, y ∈ p.1.set) :=
  ⟨View.cover_of_tiledL _ S256x1024.size (by sl_kernel_rfl),
    View.cover_of_tiledL _ S256x1024.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledBy _ ![32, 1024] (by sl_kernel_rfl)⟩

/-- What case B leaves: its stores read back. -/
def leftB (c : Dev nD) (t : Fin cfg0.N) (h : ¬ t.val % 8 = 0) (P : Left F) : Left F where
  da := View.canon (runB m c t h P).1
  db := View.canon (runB m c t h P).2.1
  dw := View.canon (runB m c t h P).2.2.1
  dbdw := View.canon (runB m c t h P).2.2.2.1
  dlnw := View.canon (runB m c t h P).2.2.2.2.1
  dlnb := View.canon (runB m c t h P).2.2.2.2.2.1
  tail := View.canon (runB m c t h P).2.2.2.2.2.2.1

/-- Its stores fill every window and the scratch. -/
theorem coverB (c : Dev nD) (t : Fin cfg0.N) (h : ¬ t.val % 8 = 0) (P : Left F) :
    (∀ y, ∃ p ∈ (runB m c t h P).1, y ∈ p.1.set)
      ∧ (∀ y, ∃ p ∈ (runB m c t h P).2.1, y ∈ p.1.set)
      ∧ (∀ y, ∃ p ∈ (runB m c t h P).2.2.1, y ∈ p.1.set)
      ∧ (∀ y, ∃ p ∈ (runB m c t h P).2.2.2.1, y ∈ p.1.set)
      ∧ (∀ y, ∃ p ∈ (runB m c t h P).2.2.2.2.1, y ∈ p.1.set)
      ∧ (∀ y, ∃ p ∈ (runB m c t h P).2.2.2.2.2.1, y ∈ p.1.set)
      ∧ (∀ y, ∃ p ∈ (runB m c t h P).2.2.2.2.2.2.1, y ∈ p.1.set) :=
  ⟨View.cover_of_tiledL _ S256x1024.size (by sl_kernel_rfl),
    View.cover_of_tiledL _ S256x1024.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledBy _ ![32, 1024] (by sl_kernel_rfl)⟩

/-- A point after one that left `P`. -/
def step (c : Dev nD) (t : Fin cfg0.N) (P : Left F) : Left F :=
  if h : t.val % 8 = 0 then leftA m c t h else leftB m c t h P

/-- The grid's points by number. -/
def pt (n : ℕ) : Fin cfg0.N := ⟨n % 8, lt_of_lt_of_eq (Nat.mod_lt _ (by decide)) N_0.symm⟩

theorem lt_8 (t : Fin cfg0.N) : t.val < 8 := lt_of_lt_of_eq t.isLt N_0
theorem pt_val (t : Fin cfg0.N) : pt t.val = t := Fin.ext (Nat.mod_eq_of_lt (lt_8 t))

/-- What the points so far leave. -/
def left (c : Dev nD) : ℕ → Left F
  | 0 => leftA m c (pt 0) rfl
  | n + 1 => step m c (pt (n + 1)) (left c n)

theorem left_first (c : Dev nD) (t : Fin cfg0.N) (h : t.val % 8 = 0) : left m c t.val = leftA m c t h := by
  obtain ⟨n, hn⟩ := t
  obtain rfl : n = 0 := by have := lt_8 ⟨n, hn⟩; dsimp only at this h; omega
  rfl

theorem left_next (c : Dev nD) (t : Fin cfg0.N) (h : ¬ t.val % 8 = 0) : left m c t.val = leftB m c t h (left m c (t.val - 1)) := by
  obtain ⟨n, hn⟩ := t
  obtain ⟨k, rfl⟩ : ∃ k, n = k + 1 := Nat.exists_eq_succ_of_ne_zero fun h0 => h (by dsimp only; omega)
  show step m c (pt (k + 1)) (left m c k) = _
  exact (congrArg (step m c · (left m c k)) (pt_val ⟨k + 1, hn⟩)).trans (dif_neg h)

/-- The scratch handed on: at anything before the first point, then at what the point before left. -/
def carry (c : Dev nD) : ℕ → sProp 𝕄
  | 0 => Pipeline.ΦA spec0 c
  | n + 1 => iprop(iprop((∃ d, owns (c : Thread nD τ) scM0_0 fullShare d) ∗ owns (c : Thread nD τ) scM0_1 fullShare (left m c n).tail) ∗ (∃ r, prngReg c r))

theorem carry_pos (c : Dev nD) (n : ℕ) (h : n ≠ 0) : carry m c n
    = iprop(iprop((∃ d, owns (c : Thread nD τ) scM0_0 fullShare d) ∗ owns (c : Thread nD τ) scM0_1 fullShare (left m c (n - 1)).tail) ∗ (∃ r, prngReg c r)) := by
  obtain ⟨k, rfl⟩ := Nat.exists_eq_succ_of_ne_zero h
  rfl

/-- The proof data: inputs at their blocks, results at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val).da
    | ⟨10, _⟩ => (left m c t.val).db
    | ⟨11, _⟩ => (left m c t.val).dw
    | ⟨12, _⟩ => (left m c t.val).dbdw
    | ⟨13, _⟩ => (left m c t.val).dlnw
    | ⟨14, _⟩ => (left m c t.val).dlnb
  Φ t := carry m c t.val
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (left m c t.val).da := by dsimp only [dats]
theorem after0_10 (c : Dev nD) (t : Fin cfg0.N) : (dats m 0 c).after 10 t = (left m c t.val).db := by dsimp only [dats]
theorem after0_11 (c : Dev nD) (t : Fin cfg0.N) : (dats m 0 c).after 11 t = (left m c t.val).dw := by dsimp only [dats]
theorem after0_12 (c : Dev nD) (t : Fin cfg0.N) : (dats m 0 c).after 12 t = (left m c t.val).dbdw := by dsimp only [dats]
theorem after0_13 (c : Dev nD) (t : Fin cfg0.N) : (dats m 0 c).after 13 t = (left m c t.val).dlnw := by dsimp only [dats]
theorem after0_14 (c : Dev nD) (t : Fin cfg0.N) : (dats m 0 c).after 14 t = (left m c t.val).dlnb := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! After the first point the four sums' windows hold what the point before left. -/

theorem before0_11 (c : Dev nD) (t : Fin cfg0.N) (h : ¬ t.val % 8 = 0) (d) : (dats m 0 c).before 11 t d = (left m c (t.val - 1)).dw := by
  have hN := lt_8 t
  rw [Dat.before_out_kept _ 11 rfl t (by omega) (Bool.eq_false_iff.mpr fun h => by have := (flush0_11 _).mp h; dsimp only at this; omega)
    (fun _ => rfl) (fun _ _ => rfl)]
  dsimp only [dats]
theorem before0_12 (c : Dev nD) (t : Fin cfg0.N) (h : ¬ t.val % 8 = 0) (d) : (dats m 0 c).before 12 t d = (left m c (t.val - 1)).dbdw := by
  have hN := lt_8 t
  rw [Dat.before_out_kept _ 12 rfl t (by omega) (Bool.eq_false_iff.mpr fun h => by have := (flush0_12 _).mp h; dsimp only at this; omega)
    (fun _ => rfl) (fun _ _ => rfl)]
  dsimp only [dats]
theorem before0_13 (c : Dev nD) (t : Fin cfg0.N) (h : ¬ t.val % 8 = 0) (d) : (dats m 0 c).before 13 t d = (left m c (t.val - 1)).dlnw := by
  have hN := lt_8 t
  rw [Dat.before_out_kept _ 13 rfl t (by omega) (Bool.eq_false_iff.mpr fun h => by have := (flush0_13 _).mp h; dsimp only at this; omega)
    (fun _ => rfl) (fun _ _ => rfl)]
  dsimp only [dats]
theorem before0_14 (c : Dev nD) (t : Fin cfg0.N) (h : ¬ t.val % 8 = 0) (d) : (dats m 0 c).before 14 t d = (left m c (t.val - 1)).dlnb := by
  have hN := lt_8 t
  rw [Dat.before_out_kept _ 14 rfl t (by omega) (Bool.eq_false_iff.mpr fun h => by have := (flush0_14 _).mp h; dsimp only at this; omega)
    (fun _ => rfl) (fun _ _ => rfl)]
  dsimp only [dats]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

/-- A buffer written over by covering stores holds what they say. -/
theorem written (c : Dev nD) {sp : Space} {s : Shape} {e : EltTy} (v : Memref sig .tc sp s e) (L : List (View.Piece (Elt F) s e))
    (h : ∀ y, ∃ p ∈ L, y ∈ p.1.set) :
    (iprop(∃ f, v.view.loc (c : Thread nD τ) ↦[v.view.set]{fullShare} v.view.writes (Elt F) f L) : sProp 𝕄)
      ⊢ owns (c : Thread nD τ) v fullShare (View.canon L) := by
  iintro ⟨%f, H⟩
  unfold owns; iexists _; isplitr
  swap; · iexact H
  ipureintro; exact View.read_writes_eq_canon _ _ _ h

/-- The nine operands at their blocks. -/
def ops (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t))

/-- The results' windows and the scratch handed on, at contents. -/
def outs (c : Dev nD) (t : Fin cfg0.N) (P : Left F) : sProp 𝕄 :=
  iprop(owns (c : Thread nD τ) (ms0_9 t) fullShare P.da ∗ owns (c : Thread nD τ) (ms0_10 t) fullShare P.db ∗ owns (c : Thread nD τ) (ms0_11 t) fullShare P.dw ∗ owns (c : Thread nD τ) (ms0_12 t) fullShare P.dbdw ∗ owns (c : Thread nD τ) (ms0_13 t) fullShare P.dlnw ∗ owns (c : Thread nD τ) (ms0_14 t) fullShare P.dlnb ∗ owns (c : Thread nD τ) scM0_1 fullShare P.tail)

/-- What a run leaves, read back. -/
theorem close (c : Dev nD) (t : Fin cfg0.N) {L9 L10 : List (View.Piece (Elt F) S256x1024 .f32)} {L11 : List (View.Piece (Elt F) S31x1024 .f32)}
    {L12 L13 L14 : List (View.Piece (Elt F) S1x1024 .f32)} {LS LT : List (View.Piece (Elt F) S288x1024 .f32)}
    (hc : (∀ y, ∃ p ∈ L9, y ∈ p.1.set) ∧ (∀ y, ∃ p ∈ L10, y ∈ p.1.set) ∧ (∀ y, ∃ p ∈ L11, y ∈ p.1.set) ∧ (∀ y, ∃ p ∈ L12, y ∈ p.1.set)
      ∧ (∀ y, ∃ p ∈ L13, y ∈ p.1.set) ∧ (∀ y, ∃ p ∈ L14, y ∈ p.1.set) ∧ (∀ y, ∃ p ∈ LS, y ∈ p.1.set)) :
    (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
      ∗ (∃ f, (ms0_9 t).view.loc (c : Thread nD τ) ↦[(ms0_9 t).view.set]{fullShare} (ms0_9 t).view.writes (Elt F) f L9)
      ∗ (∃ f, (ms0_10 t).view.loc (c : Thread nD τ) ↦[(ms0_10 t).view.set]{fullShare} (ms0_10 t).view.writes (Elt F) f L10)
      ∗ (∃ f, (ms0_11 t).view.loc (c : Thread nD τ) ↦[(ms0_11 t).view.set]{fullShare} (ms0_11 t).view.writes (Elt F) f L11)
      ∗ (∃ f, (ms0_12 t).view.loc (c : Thread nD τ) ↦[(ms0_12 t).view.set]{fullShare} (ms0_12 t).view.writes (Elt F) f L12)
      ∗ (∃ f, (ms0_13 t).view.loc (c : Thread nD τ) ↦[(ms0_13 t).view.set]{fullShare} (ms0_13 t).view.writes (Elt F) f L13)
      ∗ (∃ f, (ms0_14 t).view.loc (c : Thread nD τ) ↦[(ms0_14 t).view.set]{fullShare} (ms0_14 t).view.writes (Elt F) f L14)
      ∗ (∃ f, scM0_0.view.loc (c : Thread nD τ) ↦[scM0_0.view.set]{fullShare} scM0_0.view.writes (Elt F) f LT)
      ∗ (∃ f, scM0_1.view.loc (c : Thread nD τ) ↦[scM0_1.view.set]{fullShare} scM0_1.view.writes (Elt F) f LS)) : sProp 𝕄)
      ⊢ iprop(ops m c t ∗ outs c t ⟨View.canon L9, View.canon L10, View.canon L11, View.canon L12, View.canon L13, View.canon L14, View.canon LS⟩
        ∗ (∃ d, owns (c : Thread nD τ) scM0_0 fullShare d)) := by
  unfold ops outs
  obtain ⟨c9, c10, c11, c12, c13, c14, cs⟩ := hc
  iintro ⟨H0, H1, H2, H3, H4, H5, H6, H7, H8, H9, H10, H11, H12, H13, H14, ⟨%f, HS0⟩, HS1⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13 H14 HS1]
  · isplitl [H9]; · iapply (written c _ _ c9); iexact H9
    isplitl [H10]; · iapply (written c _ _ c10); iexact H10
    isplitl [H11]; · iapply (written c _ _ c11); iexact H11
    isplitl [H12]; · iapply (written c _ _ c12); iexact H12
    isplitl [H13]; · iapply (written c _ _ c13); iexact H13
    isplitl [H14]; · iapply (written c _ _ c14); iexact H14
    iapply (written c _ _ cs); iexact HS1
  iexists _; unfold owns; iexists _; isplitr
  swap; · iexact HS0
  ipureintro; rfl

/-- A run that asks for the operands one by one and returns `Q` serves where they are held together and `Q'` is wanted. -/
theorem regroup (c : Dev nD) (t : Fin cfg0.N) {S9 S10 S11 S12 S13 S14 T0 T1 Q Q' : sProp 𝕄} {W : (PUnit → sProp 𝕄) → sProp 𝕄}
    (hrun : ∀ K, iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t)
      ∗ S9 ∗ S10 ∗ S11 ∗ S12 ∗ S13 ∗ S14 ∗ T0 ∗ T1 ∗ (Q -∗ K ⟨⟩)) ⊢ W K) (hq : Q ⊢ Q') (K : PUnit → sProp 𝕄) :
    iprop(ops m c t ∗ S9 ∗ S10 ∗ S11 ∗ S12 ∗ S13 ∗ S14 ∗ T0 ∗ T1 ∗ (Q' -∗ K ⟨⟩)) ⊢ W K := by
  refine .trans ?_ (hrun K)
  unfold ops
  iintro ⟨⟨H0, H1, H2, H3, H4, H5, H6, H7, H8⟩, H9, H10, H11, H12, H13, H14, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iintro H
  iapply Hk
  iapply hq
  iexact H

set_option maxHeartbeats 1600000 in
/-- The body in case A. -/
theorem bodyA (c : Dev nD) (t : Fin cfg0.N) (h : t.val % 8 = 0) (K : PUnit → sProp 𝕄) :
    iprop(ops m c t ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) scM0_0 fullShare d) ∗ (∃ d, owns (c : Thread nD τ) scM0_1 fullShare d)
      ∗ (iprop(ops m c t ∗ outs c t (leftA m c t h) ∗ (∃ d, owns (c : Thread nD τ) scM0_0 fullShare d)) -∗ K ⟨⟩))
      ⊢ wp frame (wpE (defs₀ (F := F)) Variants.none c none) Set.univ (bodyAt0 t) K :=
  regroup m c t ((runA m c t h).2.2.2.2.2.2.2.2 Set.univ) (close m c t (coverA m c t h)) K

set_option maxHeartbeats 1600000 in
/-- The body in case B. -/
theorem bodyB (c : Dev nD) (t : Fin cfg0.N) (h : ¬ t.val % 8 = 0) (P : Left F) (K : PUnit → sProp 𝕄) :
    iprop(ops m c t ∗ (∃ d, owns (c : Thread nD τ) (ms0_9 t) fullShare d) ∗ (∃ d, owns (c : Thread nD τ) (ms0_10 t) fullShare d) ∗ owns (c : Thread nD τ) (ms0_11 t) fullShare P.dw ∗ owns (c : Thread nD τ) (ms0_12 t) fullShare P.dbdw ∗ owns (c : Thread nD τ) (ms0_13 t) fullShare P.dlnw ∗ owns (c : Thread nD τ) (ms0_14 t) fullShare P.dlnb ∗ (∃ d, owns (c : Thread nD τ) scM0_0 fullShare d) ∗ owns (c : Thread nD τ) scM0_1 fullShare P.tail
      ∗ (iprop(ops m c t ∗ outs c t (leftB m c t h P) ∗ (∃ d, owns (c : Thread nD τ) scM0_0 fullShare d)) -∗ K ⟨⟩))
      ⊢ wp frame (wpE (defs₀ (F := F)) Variants.none c none) Set.univ (bodyAt0 t) K :=
  regroup m c t ((runB m c t h P).2.2.2.2.2.2.2.2 Set.univ) (close m c t (coverB m c t h P)) K

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = carry m c (t.val + 1) from rfl, show (dats m 0 c).Φ t.castSucc = carry m c t.val from rfl]
  have hN := lt_8 t
  rw [carry_pos m c (t.val + 1) (Nat.succ_ne_zero _), Nat.add_sub_cancel]
  by_cases h : t.val % 8 = 0
  · rw [left_first m c t h, show t.val = 0 by omega, show carry m c 0 = Pipeline.ΦA spec0 c from rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyA m c t h)
    unfold ops
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    unfold outs
    iintro ⟨⟨H0, H1, H2, H3, H4, H5, H6, H7, H8⟩, ⟨H9, H10, H11, H12, H13, H14, HS1⟩, HS0⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before0_11 m c t h, before0_12 m c t h, before0_13 m c t h, before0_14 m c t h]
    rw [left_next m c t h, carry_pos m c t.val (fun h0 => h (by rw [h0]))]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyB m c t h (left m c (t.val - 1)))
    unfold ops
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexists _; iexact H9
    isplitl [H10]; · iexists _; iexact H10
    isplitl [H11]; · iexact H11
    isplitl [H12]; · iexact H12
    isplitl [H13]; · iexact H13
    isplitl [H14]; · iexact H14
    isplitl [HS0]; · iexact HS0
    isplitl [HS1]; · iexact HS1
    unfold outs
    iintro ⟨⟨H0, H1, H2, H3, H4, H5, H6, H7, H8⟩, ⟨H9, H10, H11, H12, H13, H14, HS1⟩, HS0⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) : defs₀ (F := F) .tc cfg0.body (cfg0.bodyArgs t (cfg0.slots t)) = bodyAt0 t := by
  unfold defs₀; rw [Defs.onTc_tc]

/-- The obligation of the region's body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = carry m c cfg0.N from rfl, carry_pos m c _ (by rw [show cfg0.N = 8 from N_0]; decide), PhiA0_eq]
  iintro ⟨⟨HS0, HS1⟩, Hg⟩
  isplitl [HS0 HS1]
  · isplitl [HS0]; · iexact HS0
    iexists _; iexact HS1
  iexact Hg

set_option backward.isDefEq.respectTransparency.types false in
set_option maxHeartbeats 800000 in
/-- The launch and the host's lines after it: every weakly fair execution ends, the arrays at what the proof data and those
    lines say, the counters at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

/-- The frame: the program ends, its arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Cv
end
-- ==== Proof.Cv.Host.lean ====
module

public import proofs.«01_k».proof.Proof.Gen.KernelCvIdeal.Launch
public import proofs.«01_k».proof.Proof.Gen.ReferenceCvIdeal.Read
public import proofs.«01_k».proof.Proof.Cv.Frame
public import Idealize.ShloMosaic.Lib.StableHlo.RunRead
public import Idealize.ShloMosaic.Lib.Pipeline.ValueKit

@[expose] public section

set_option maxRecDepth 16384

/-!
# What the host hands to the convolution module's backward kernel
-/

noncomputable section

open Idealize Idealize.ShloMosaic Idealize.ShloMosaic.Pipeline Idealize.ShloMosaic.TcCoe Idealize.SL
open Cert.KernelCvIdeal Cert.KernelCvIdeal.Gen

namespace Cert.Cv

variable (m : (ℓ : Loc nD τ sig) → Buf (Elt Ideal) ℓ)

theorem V_scale (c : Dev nD) : V m c main_v83 = broadcastInDim S1x1024 ![1] bcast_S1024_S1x1024_1 (m ((c : Thread nD τ).loc main_arg3)) := by
  show StableHlo.after _ _ _ = _
  after_reads_simp

theorem V_shift (c : Dev nD) : V m c main_v84 = broadcastInDim S1x1024 ![1] bcast_S1024_S1x1024_1 (m ((c : Thread nD τ).loc main_arg4)) := by
  show StableHlo.after _ _ _ = _
  after_reads_simp

/-- The contents of the host's buffers before its `n`-th line. -/
abbrev before (c : Dev nD) (n : ℕ) := StableHlo.upto (List.flatten [hostOps0 (F := Ideal)]) (fun b => m (c, b)) n

theorem host_zeros (c : Dev nD) : before m c 13 (Proc.devRef .tc main_v9) = Cert.ReferenceCvIdeal.Read.val_main_v12 (F := Ideal) := by
  after_reads_simp; rfl

theorem host_gated (c : Dev nD) : before m c 13 (Proc.devRef .tc main_v8) = Cert.ReferenceCvIdeal.Read.val_main_v11 (F := Ideal) (m ((c : Thread nD τ).loc main_arg0)) := by
  after_reads_simp; rfl

/-- The first sixteen shifted copies. -/
theorem host_low (c : Dev nD) : before m c 77 (Proc.devRef .tc main_v43) = Cert.ReferenceCvIdeal.Read.val_main_v47 (F := Ideal) (m ((c : Thread nD τ).loc main_arg0))
    ∧ before m c 77 (Proc.devRef .tc main_v44) = Cert.ReferenceCvIdeal.Read.val_main_v48 (F := Ideal) (m ((c : Thread nD τ).loc main_arg0))
    ∧ before m c 77 (Proc.devRef .tc main_v45) = Cert.ReferenceCvIdeal.Read.val_main_v49 (F := Ideal) (m ((c : Thread nD τ).loc main_arg0))
    ∧ before m c 77 (Proc.devRef .tc main_v46) = Cert.ReferenceCvIdeal.Read.val_main_v50 (F := Ideal) (m ((c : Thread nD τ).loc main_arg0))
    ∧ before m c 77 (Proc.devRef .tc main_v47) = Cert.ReferenceCvIdeal.Read.val_main_v51 (F := Ideal) (m ((c : Thread nD τ).loc main_arg0))
    ∧ before m c 77 (Proc.devRef .tc main_v48) = Cert.ReferenceCvIdeal.Read.val_main_v52 (F := Ideal) (m ((c : Thread nD τ).loc main_arg0))
    ∧ before m c 77 (Proc.devRef .tc main_v49) = Cert.ReferenceCvIdeal.Read.val_main_v53 (F := Ideal) (m ((c : Thread nD τ).loc main_arg0))
    ∧ before m c 77 (Proc.devRef .tc main_v50) = Cert.ReferenceCvIdeal.Read.val_main_v54 (F := Ideal) (m ((c : Thread nD τ).loc main_arg0))
    ∧ before m c 77 (Proc.devRef .tc main_v51) = Cert.ReferenceCvIdeal.Read.val_main_v55 (F := Ideal) (m ((c : Thread nD τ).loc main_arg0))
    ∧ before m c 77 (Proc.devRef .tc main_v52) = Cert.ReferenceCvIdeal.Read.val_main_v56 (F := Ideal) (m ((c : Thread nD τ).loc main_arg0))
    ∧ before m c 77 (Proc.devRef .tc main_v53) = Cert.ReferenceCvIdeal.Read.val_main_v57 (F := Ideal) (m ((c : Thread nD τ).loc main_arg0))
    ∧ before m c 77 (Proc.devRef .tc main_v54) = Cert.ReferenceCvIdeal.Read.val_main_v58 (F := Ideal) (m ((c : Thread nD τ).loc main_arg0))
    ∧ before m c 77 (Proc.devRef .tc main_v55) = Cert.ReferenceCvIdeal.Read.val_main_v59 (F := Ideal) (m ((c : Thread nD τ).loc main_arg0))
    ∧ before m c 77 (Proc.devRef .tc main_v56) = Cert.ReferenceCvIdeal.Read.val_main_v60 (F := Ideal) (m ((c : Thread nD τ).loc main_arg0))
    ∧ before m c 77 (Proc.devRef .tc main_v57) = Cert.ReferenceCvIdeal.Read.val_main_v61 (F := Ideal) (m ((c : Thread nD τ).loc main_arg0))
    ∧ before m c 77 (Proc.devRef .tc main_v58) = Cert.ReferenceCvIdeal.Read.val_main_v62 (F := Ideal) (m ((c : Thread nD τ).loc main_arg0)) := by
  have hz := host_zeros m c
  have hu := host_gated m c
  unfold before at hz hu
  refine ⟨?_, ?_, ?_, ?_, ?_, ?_, ?_, ?_, ?_, ?_, ?_, ?_, ?_, ?_, ?_, ?_⟩ <;> (after_reads_simp; rw [hz, hu]; rfl)

/-- The other fifteen. -/
theorem host_high (c : Dev nD) : before m c 78 (Proc.devRef .tc main_v59) = Cert.ReferenceCvIdeal.Read.val_main_v63 (F := Ideal) (m ((c : Thread nD τ).loc main_arg0))
    ∧ before m c 78 (Proc.devRef .tc main_v60) = Cert.ReferenceCvIdeal.Read.val_main_v64 (F := Ideal) (m ((c : Thread nD τ).loc main_arg0))
    ∧ before m c 78 (Proc.devRef .tc main_v61) = Cert.ReferenceCvIdeal.Read.val_main_v65 (F := Ideal) (m ((c : Thread nD τ).loc main_arg0))
    ∧ before m c 78 (Proc.devRef .tc main_v62) = Cert.ReferenceCvIdeal.Read.val_main_v66 (F := Ideal) (m ((c : Thread nD τ).loc main_arg0))
    ∧ before m c 78 (Proc.devRef .tc main_v63) = Cert.ReferenceCvIdeal.Read.val_main_v67 (F := Ideal) (m ((c : Thread nD τ).loc main_arg0))
    ∧ before m c 78 (Proc.devRef .tc main_v64) = Cert.ReferenceCvIdeal.Read.val_main_v68 (F := Ideal) (m ((c : Thread nD τ).loc main_arg0))
    ∧ before m c 78 (Proc.devRef .tc main_v65) = Cert.ReferenceCvIdeal.Read.val_main_v69 (F := Ideal) (m ((c : Thread nD τ).loc main_arg0))
    ∧ before m c 78 (Proc.devRef .tc main_v66) = Cert.ReferenceCvIdeal.Read.val_main_v70 (F := Ideal) (m ((c : Thread nD τ).loc main_arg0))
    ∧ before m c 78 (Proc.devRef .tc main_v67) = Cert.ReferenceCvIdeal.Read.val_main_v71 (F := Ideal) (m ((c : Thread nD τ).loc main_arg0))
    ∧ before m c 78 (Proc.devRef .tc main_v68) = Cert.ReferenceCvIdeal.Read.val_main_v72 (F := Ideal) (m ((c : Thread nD τ).loc main_arg0))
    ∧ before m c 78 (Proc.devRef .tc main_v69) = Cert.ReferenceCvIdeal.Read.val_main_v73 (F := Ideal) (m ((c : Thread nD τ).loc main_arg0))
    ∧ before m c 78 (Proc.devRef .tc main_v70) = Cert.ReferenceCvIdeal.Read.val_main_v74 (F := Ideal) (m ((c : Thread nD τ).loc main_arg0))
    ∧ before m c 78 (Proc.devRef .tc main_v71) = Cert.ReferenceCvIdeal.Read.val_main_v75 (F := Ideal) (m ((c : Thread nD τ).loc main_arg0))
    ∧ before m c 78 (Proc.devRef .tc main_v72) = Cert.ReferenceCvIdeal.Read.val_main_v76 (F := Ideal) (m ((c : Thread nD τ).loc main_arg0))
    ∧ before m c 78 (Proc.devRef .tc main_v73) = Cert.ReferenceCvIdeal.Read.val_main_v77 (F := Ideal) (m ((c : Thread nD τ).loc main_arg0)) := by
  have hz := host_zeros m c
  have hu := host_gated m c
  unfold before at hz hu
  refine ⟨?_, ?_, ?_, ?_, ?_, ?_, ?_, ?_, ?_, ?_, ?_, ?_, ?_, ?_, ?_⟩ <;> (after_reads_simp; rw [hz, hu]; rfl)

theorem host_v74 (c : Dev nD) : before m c 79 (Proc.devRef .tc main_v74) = Cert.ReferenceCvIdeal.Read.val_main_v78 (F := Ideal) (m ((c : Thread nD τ).loc main_arg0)) := by
  obtain ⟨h0, h1, h2, h3, h4, h5, h6, h7, h8, h9, h10, h11, h12, h13, h14, h15⟩ := host_low m c
  unfold before at *
  after_reads_simp
  dsimp only [Matrix.cons_val]
  rw [h0, h1, h2, h3, h4, h5, h6, h7, h8, h9, h10, h11, h12, h13, h14, h15]
  rfl

theorem host_v75 (c : Dev nD) : before m c 79 (Proc.devRef .tc main_v75) = Cert.ReferenceCvIdeal.Read.val_main_v79 (F := Ideal) (m ((c : Thread nD τ).loc main_arg0)) := by
  obtain ⟨h16, h17, h18, h19, h20, h21, h22, h23, h24, h25, h26, h27, h28, h29, h30⟩ := host_high m c
  unfold before at *
  after_reads_simp
  dsimp only [Matrix.cons_val]
  rw [h16, h17, h18, h19, h20, h21, h22, h23, h24, h25, h26, h27, h28, h29, h30]
  rfl

/-- The convolution's output is the reference's. -/
theorem V_conv (c : Dev nD) : V m c main_v82 = Cert.ReferenceCvIdeal.Read.val_main_v86 (F := Ideal)
    (m ((c : Thread nD τ).loc main_arg0)) (m ((c : Thread nD τ).loc main_arg1)) (m ((c : Thread nD τ).loc main_arg2)) := by
  have hl := host_v74 m c
  have hh := host_v75 m c
  unfold before at hl hh
  show StableHlo.after _ _ _ = _
  after_reads_simp
  rw [hl, hh]
  rfl

end Cert.Cv
end
-- ==== Proof.Cv.Row.lean ====
module

public import Idealize.ShloMosaic.PureOps.Ideal.Laws

@[expose] public section

/-!
# The gradient of a layer normalisation followed by SiLU, one row

`c` is the row, `w` and `b` the norm's weight and bias, `d` the cotangent.
-/

noncomputable section

open Idealize Idealize.ShloMosaic

namespace Cert.Cv

/-- A row of numbers. -/
abbrev Row := Fin 1024 → EReal

/-- The row's length, the norm's small number and minus one half, as the programs write them. -/
abbrev len : EReal := Ideal.ofBits .f32 1149239296#32
abbrev small : EReal := Ideal.ofBits .f32 897988541#32
abbrev mhalf : EReal := Ideal.ofBits .f32 3204448256#32

/-- The centered row, -/
def cen (c : Row) : Row := fun k => c k - Ideal.div (∑ x, c x) len
/-- its variance, -/
def var (c : Row) : EReal := Ideal.div (∑ x, cen c x * cen c x) len + small
/-- the factor that normalises it, -/
def inv (c : Row) : EReal := Ideal.rsqrt (var c)
/-- and the row normalised. -/
def nrm (c : Row) : Row := fun k => cen c k * inv c
/-- What SiLU is applied to. -/
def pre (c w b : Row) : Row := fun k => nrm c k * w k + b k
/-- The logistic function. -/
def lgs (y : EReal) : EReal := Ideal.div 1 (1 + Ideal.exp (-y))
/-- SiLU's gradient at `y` times the cotangent, by the product rule. -/
def gate (y d : EReal) : EReal := d * lgs y + y * d * (lgs y * (1 - lgs y))
/-- The cotangent of what SiLU is applied to. -/
def cot (c w b d : Row) : Row := fun k => gate (pre c w b k) (d k)
/-- What flows through the variance, for a cotangent `g` of the normalised row. -/
def thr (c g : Row) : EReal := Ideal.div ((∑ x, cen c x * g x) * (mhalf * Ideal.div (inv c) (var c))) len
/-- What flows to the centered row. -/
def toCen (c g : Row) : Row := fun k => g k * inv c + cen c k * thr c g + thr c g * cen c k
/-- What flows to the row. -/
def toRow (c g : Row) : Row := fun k => toCen c g k + Ideal.div (∑ x, -toCen c g x) len
/-- The gradient of the row. -/
def grad (c w b d : Row) : Row := toRow c fun k => cot c w b d k * w k

/-- The kernel writes SiLU's gradient by the quotient rule. -/
theorem gate_eq (y d : EReal) : d * Ideal.div 1 (1 + Ideal.exp (0 - y))
    + (0 - (0 - y * d * Ideal.div 1 ((1 + Ideal.exp (0 - y)) * (1 + Ideal.exp (0 - y))) * 1) * Ideal.exp (0 - y)) = gate y d := by
  unfold gate lgs
  simp only [zero_sub, mul_one, EReal.neg_mul, neg_neg]
  refine congrArg _ ?_
  rw [mul_assoc (y * d)]
  refine congrArg _ ?_
  induction y using EReal.rec with
  | bot =>
    have h : (1 : EReal) + ⊤ = ⊤ := EReal.coe_add_top 1
    simp [Ideal.div, h]
  | top =>
    have h : (1 : EReal) - 1 = 0 := EReal.sub_self (by decide) (by decide)
    simp [Ideal.div, h]
  | coe y =>
    rw [← EReal.coe_neg, Ideal.exp_coe]
    have he := Real.exp_pos (-y)
    generalize Real.exp (-y) = e at he
    rw [← EReal.coe_one, ← EReal.coe_add, ← EReal.coe_mul, Ideal.div_coe (by positivity), Ideal.div_coe (by positivity), ← EReal.coe_mul, ← EReal.coe_mul,
      ← EReal.coe_mul, ← EReal.coe_sub, ← EReal.coe_mul]
    refine congrArg _ ?_
    field_simp
    ring

end Cert.Cv
end
-- ==== Proof.Cv.Sums.lean ====
module

public import proofs.«01_k».proof.Proof.Cv.Row
public import Idealize.ShloMosaic.Lib.Pipeline.ValueKit

@[expose] public section

/-!
# The gradients of the convolution module, as sums over rows and taps

`A` holds the two halves of the module's input, `C` the convolution's output with its bias, `W` the taps, `lw` and `lb`
the norm's weight and bias and `D` the cotangent.
-/

noncomputable section

open Idealize Idealize.ShloMosaic

namespace Cert.Cv

/-- A matrix of numbers. -/
abbrev Mat (n k : ℕ) := (⟨2, ![n, k]⟩ : Shape).Idx → EReal

/-- A column in the first half of the input, -/
abbrev lo (k : Fin 1024) : Fin 2048 := ⟨k.val, by omega⟩
/-- and one in the second. -/
abbrev hi (k : Fin 1024) : Fin 2048 := ⟨1024 + k.val, by omega⟩

/-- The row of a matrix. -/
def mrow {n : ℕ} (x : Mat n 1024) (i : Fin n) : Row := fun k => x (ix2 i k)

/-- What the taps are applied to: the first half gated by the second, -/
def gated (A : Mat 2048 2048) (n : Fin 2048) (k : Fin 1024) : EReal := A (ix2 n (lo k)) * lgs (A (ix2 n (hi k)))

/-- with thirty rows of zeros before it. -/
def padded (A : Mat 2048 2048) (k : Fin 1024) (j : ℕ) : EReal :=
  if h : 30 ≤ j ∧ j < 2078 then gated A ⟨j - 30, by omega⟩ k else 0

/-- The gradient of the convolution's output, rows numbered from 0, zero past the last. -/
def gout (C D : Mat 2048 1024) (lw lb : Row) (k : Fin 1024) (n : ℕ) : EReal :=
  if h : n < 2048 then grad (mrow C ⟨n, h⟩) lw lb (mrow D ⟨n, h⟩) k else 0

/-- The gradient of what the taps are applied to. -/
def dgated (W : Mat 31 1024) (C D : Mat 2048 1024) (lw lb : Row) (k : Fin 1024) (n : ℕ) : EReal :=
  ∑ x : Fin 31, W (ix2 x k) * gout C D lw lb k (30 - x.val + n)

/-- The gradient of the first half of the input, -/
def dfirst (A : Mat 2048 2048) (W : Mat 31 1024) (C D : Mat 2048 1024) (lw lb : Row) (n : Fin 2048) (k : Fin 1024) : EReal :=
  dgated W C D lw lb k n.val * lgs (A (ix2 n (hi k)))

/-- and of the second. -/
def dsecond (A : Mat 2048 2048) (W : Mat 31 1024) (C D : Mat 2048 1024) (lw lb : Row) (n : Fin 2048) (k : Fin 1024) : EReal :=
  dgated W C D lw lb k n.val * A (ix2 n (lo k)) * lgs (A (ix2 n (hi k))) * (1 - lgs (A (ix2 n (hi k))))

/-- The gradient of a tap. -/
def dtap (A : Mat 2048 2048) (C D : Mat 2048 1024) (lw lb : Row) (r : ℕ) (k : Fin 1024) : EReal :=
  ∑ n : Fin 2048, gout C D lw lb k n.val * padded A k (n.val + r)

/-- The gradient of the bias. -/
def dbias (C D : Mat 2048 1024) (lw lb : Row) (k : Fin 1024) : EReal := ∑ n : Fin 2048, grad (mrow C n) lw lb (mrow D n) k

/-- The gradient of the norm's weight, -/
def dscale (C D : Mat 2048 1024) (lw lb : Row) (k : Fin 1024) : EReal :=
  ∑ n : Fin 2048, nrm (mrow C n) k * cot (mrow C n) lw lb (mrow D n) k

/-- and of its bias. -/
def dshift (C D : Mat 2048 1024) (lw lb : Row) (k : Fin 1024) : EReal := ∑ n : Fin 2048, cot (mrow C n) lw lb (mrow D n) k

/-- The kernel adds the taps of one offset modulo 8 after another. -/
theorem by_eights (f : Fin 31 → EReal) :
    f 6 + f 14 + f 22 + f 30 + f 5 + f 13 + f 21 + f 29 + f 4 + f 12 + f 20 + f 28 + f 3 + f 11 + f 19 + f 27
      + f 2 + f 10 + f 18 + f 26 + f 1 + f 9 + f 17 + f 25 + f 0 + f 8 + f 16 + f 24 + f 7 + f 15 + f 23 = ∑ x, f x := by
  have key : ∀ g : ℕ → EReal, g 6 + g 14 + g 22 + g 30 + g 5 + g 13 + g 21 + g 29 + g 4 + g 12 + g 20 + g 28 + g 3 + g 11 + g 19 + g 27
      + g 2 + g 10 + g 18 + g 26 + g 1 + g 9 + g 17 + g 25 + g 0 + g 8 + g 16 + g 24 + g 7 + g 15 + g 23 = ∑ x : Fin 31, g x.val := by
    intro g
    rw [Fin.sum_univ_eq_sum_range g 31]
    simp only [Finset.sum_range_succ, Finset.sum_range_zero, zero_add]
    ac_rfl
  refine (key fun n => f (Fin.ofNat 31 n)).trans (Finset.sum_congr rfl fun x _ => congrArg f ?_)
  exact Fin.ext (Nat.mod_eq_of_lt x.isLt)

/-- The reference adds them from the last to the first. -/
theorem by_falling (f : Fin 31 → EReal) :
    f 30 + f 29 + f 28 + f 27 + f 26 + f 25 + f 24 + f 23 + f 22 + f 21 + f 20 + f 19 + f 18 + f 17 + f 16 + f 15
      + f 14 + f 13 + f 12 + f 11 + f 10 + f 9 + f 8 + f 7 + f 6 + f 5 + f 4 + f 3 + f 2 + f 1 + f 0 = ∑ x, f x := by
  rw [← by_eights f]
  ac_rfl

end Cert.Cv
end
-- ==== Proof.Cv.Block.lean ====
module

public import proofs.«01_k».proof.Proof.Gen.KernelCvIdeal.Skeleton
public import proofs.«01_k».proof.Proof.Cv.Sums
public import Idealize.ShloMosaic.Lib.Pipeline.ValueKit
public import Idealize.ShloMosaic.Lib.Pointwise

@[expose] public section

set_option maxRecDepth 16384

/-!
# What one block of the convolution module's backward kernel computes
-/

noncomputable section

open Idealize Idealize.ShloMosaic Idealize.ShloMosaic.Pipeline Idealize.ShloMosaic.TcCoe Idealize.SL
open Cert.KernelCvIdeal Cert.KernelCvIdeal.Gen

namespace Cert.Cv

variable (x d : Vec Ideal S256x1024 .f32) (w b : Vec Ideal S1x1024 .f32) (i : Fin 256) (k : Fin 1024)

theorem cen_block : k0_pay14 x (ix2 i k) = cen (mrow x i) k := by
  unfold k0_pay14; pointwise [cen, mrow, len]

theorem var_block (j : Fin 1) : k0_pay15 x (ix2 i j) = var (mrow x i) := by
  unfold k0_pay15 var
  simp only [← cen_block]
  generalize k0_pay14 x = y
  pointwise [len, small]

theorem inv_block (j : Fin 1) : k0_pay16 x (ix2 i j) = inv (mrow x i) := by
  unfold k0_pay16 inv
  rw [← var_block x i j]
  generalize k0_pay15 x = y
  pointwise

theorem half_block (j : Fin 1) : k0_pay17 x (ix2 i j) = mhalf * Ideal.div (inv (mrow x i)) (var (mrow x i)) := by
  unfold k0_pay17
  rw [← inv_block x i j, ← var_block x i j]
  generalize k0_pay16 x = r
  generalize k0_pay15 x = y
  pointwise [mhalf]

theorem nrm_block : k0_pay18 x (ix2 i k) = nrm (mrow x i) k := by
  unfold k0_pay18 nrm
  rw [← cen_block, ← inv_block x i 0]
  generalize k0_pay16 x = r
  generalize k0_pay14 x = y
  pointwise

theorem pre_block : k0_pay19 x w b (ix2 i k) = pre (mrow x i) (mrow w 0) (mrow b 0) k := by
  unfold k0_pay19 k0_pay13 pre
  rw [← nrm_block]
  generalize k0_pay18 x = r
  pointwise [mrow]

theorem gate_block (y : Vec Ideal S256x1024 .f32) (i : Fin 256) (k : Fin 1024) (e s q : Vec Ideal S256x1024 .f32)
    (he : e (ix2 i k) = Ideal.exp (0 - y (ix2 i k))) (hs : s (ix2 i k) = Ideal.div 1 (1 + Ideal.exp (0 - y (ix2 i k))))
    (hq : q (ix2 i k) = Ideal.div 1 ((1 + Ideal.exp (0 - y (ix2 i k))) * (1 + Ideal.exp (0 - y (ix2 i k))))) :
    k0_pay24 y e s q d (ix2 i k) = gate (y (ix2 i k)) (d (ix2 i k)) := by
  rw [← gate_eq, ← hq, ← hs, ← he]
  unfold k0_pay24
  pointwise

/-- The cotangent of what SiLU is applied to, as the kernel computes it from its operands. -/
abbrev cotK : Vec Ideal S256x1024 .f32 :=
  k0_pay24 (k0_pay19 x w b) (k0_pay20 x w b) (k0_pay22 x w b) (k0_pay23 x w b) d

theorem cot_block : cotK x d w b (ix2 i k) = cot (mrow x i) (mrow w 0) (mrow b 0) (mrow d i) k := by
  unfold cot
  rw [← pre_block]
  refine gate_block d _ i k _ _ _ ?_ ?_ ?_
  · unfold k0_pay20; generalize k0_pay19 x w b = y; pointwise
  · unfold k0_pay22 k0_pay21 k0_pay20; generalize k0_pay19 x w b = y; pointwise
  · unfold k0_pay23 k0_pay21 k0_pay20; generalize k0_pay19 x w b = y; pointwise

/-- The gradient of the convolution's output, as the kernel computes it from its operands. -/
abbrev gradK : Vec Ideal S256x1024 .f32 :=
  k0_pay27 (k0_pay13 w) (k0_pay14 x) (k0_pay16 x) (k0_pay17 x) (k0_pay19 x w b) (k0_pay20 x w b) (k0_pay22 x w b) (k0_pay23 x w b) d

theorem grad_block : gradK x d w b (ix2 i k) = grad (mrow x i) (mrow w 0) (mrow b 0) (mrow d i) k := by
  unfold gradK k0_pay27 k0_pay13 grad toRow toCen thr
  rw [← half_block x i 0, ← inv_block x i 0]
  simp only [← cot_block, ← cen_block]
  unfold cotK
  generalize k0_pay24 (k0_pay19 x w b) (k0_pay20 x w b) (k0_pay22 x w b) (k0_pay23 x w b) d = g
  generalize k0_pay14 x = z
  generalize k0_pay16 x = r
  generalize k0_pay17 x = p
  pointwise [mrow, len, zero_sub, Fin.sum_univ_one]

/-- The three sums over a block's rows. -/
theorem lnb_block (o : Vec Ideal S1x1024 .f32) : k0_pay30 (k0_pay25 (k0_pay19 x w b) (k0_pay20 x w b) (k0_pay22 x w b) (k0_pay23 x w b) d) o (ix2 0 k)
    = o (ix2 0 k) + ∑ i, cot (mrow x i) (mrow w 0) (mrow b 0) (mrow d i) k := by
  unfold k0_pay30 k0_pay25
  simp only [← cot_block]
  unfold cotK
  generalize k0_pay24 (k0_pay19 x w b) (k0_pay20 x w b) (k0_pay22 x w b) (k0_pay23 x w b) d = g
  pointwise

theorem lnw_block (o : Vec Ideal S1x1024 .f32) :
    k0_pay29 (k0_pay26 (k0_pay18 x) (k0_pay19 x w b) (k0_pay20 x w b) (k0_pay22 x w b) (k0_pay23 x w b) d) (k0_pay28 o) (ix2 0 k)
    = o (ix2 0 k) + ∑ i, nrm (mrow x i) k * cot (mrow x i) (mrow w 0) (mrow b 0) (mrow d i) k := by
  unfold k0_pay29 k0_pay28 k0_pay26
  simp only [← cot_block, ← nrm_block]
  unfold cotK
  generalize k0_pay24 (k0_pay19 x w b) (k0_pay20 x w b) (k0_pay22 x w b) (k0_pay23 x w b) d = g
  generalize k0_pay18 x = y
  pointwise

theorem dbw_block (o : Vec Ideal S1x1024 .f32) : k0_pay31 (gradK x d w b) o (ix2 0 k)
    = o (ix2 0 k) + ∑ i, grad (mrow x i) (mrow w 0) (mrow b 0) (mrow d i) k := by
  unfold k0_pay31
  simp only [← grad_block]
  generalize gradK x d w b = g
  pointwise

theorem zero_bdw : k0_pay6 (F := Ideal) (ix2 0 k) = 0 := by unfold k0_pay6; pointwise
theorem zero_lnw : k0_pay7 (F := Ideal) (ix2 0 k) = 0 := by unfold k0_pay7; pointwise
theorem zero_lnb : k0_pay8 (F := Ideal) (ix2 0 k) = 0 := by unfold k0_pay8; pointwise

theorem logistic_block (i : Fin 256) : k0_pay10 x (ix2 i k) = lgs (x (ix2 i k)) := by
  unfold k0_pay10 lgs; pointwise; rw [zero_sub]

theorem copy_block (a : Vec Ideal S256x1024 .f32) : k0_pay12 a x (ix2 i k) = a (ix2 i k) * lgs (x (ix2 i k)) := by
  unfold k0_pay12; rw [← logistic_block]; generalize k0_pay10 x = y; pointwise

theorem halo_block (g : grid0.Coords) (a e : Vec Ideal S32x1024 .f32) (i : Fin 32) :
    k0_pay11 g a e (ix2 i k) = if (g 0).val < 7 then a (ix2 i k) * lgs (e (ix2 i k)) else 0 := by
  have key : ∀ (n : Fin 8) (z : EReal), Scalar.select (Scalar.cmpi CmpIPredicate.sgt (Scalar.subi 7#32 (BitVec.ofNat 32 n.val)) 0#32) z (0 : EReal)
      = if n.val < 7 then z else 0 := by
    intro n z
    fin_cases n <;> rfl
  refine Eq.trans ?_ (key (g 0) _)
  unfold k0_pay11 lgs
  pointwise
  simp only [zero_sub]

theorem tail_block (g : Vec Ideal S256x1024 .f32) (i : Fin 32) : k0_pay2 (F := Ideal) g (ix2 i k) = g (ix2 ⟨i.val, by omega⟩ k) := by
  unfold k0_pay2; pointwise

theorem first_block (s u : Vec Ideal S256x1024 .f32) : k0_pay3 (F := Ideal) s u (ix2 i k) = u (ix2 i k) * s (ix2 i k) := by
  unfold k0_pay3; pointwise

theorem second_block (a s u : Vec Ideal S256x1024 .f32) :
    k0_pay4 (F := Ideal) a s u (ix2 i k) = u (ix2 i k) * a (ix2 i k) * s (ix2 i k) * (1 - s (ix2 i k)) := by
  unfold k0_pay4; pointwise

theorem stored_block (g : Vec Ideal S256x1024 .f32) : k0_pay32 (F := Ideal) g (ix2 i k) = g (ix2 i k) := by unfold k0_pay32; pointwise
theorem zero_tail (i : Fin 32) : k0_pay9 (F := Ideal) (ix2 i k) = 0 := by unfold k0_pay9; pointwise
theorem zero_dw (r : Fin 31) : k0_pay5 (F := Ideal) (ix2 r k) = 0 := by unfold k0_pay5; pointwise

/-- The gradient of what the taps are applied to, from the eight loads of the gradient's rows. -/
abbrev tapsK (w : Vec Ideal S31x1024 .f32) (R0 R1 R2 R3 R4 R5 R6 : Vec Ideal S280x1024 .f32) (R7 : Vec Ideal S272x1024 .f32) : Vec Ideal S256x1024 .f32 :=
  k0_pay42 w R6 (k0_pay39 w (k0_pay36 w (k0_pay33 w R0) R1 (k0_pay34 R1) (k0_pay35 w) R2 R3) (k0_pay37 R3) (k0_pay38 w) R4 R5 R6) (k0_pay40 R6) (k0_pay41 w) R7

theorem taps_block (w : Vec Ideal S31x1024 .f32) (R0 R1 R2 R3 R4 R5 R6 : Vec Ideal S280x1024 .f32) (R7 : Vec Ideal S272x1024 .f32) (g : ℕ → EReal)
    (h0 : ∀ j, R0 (ix2 j k) = g (0 + j.val)) (h1 : ∀ j, R1 (ix2 j k) = g (1 + j.val)) (h2 : ∀ j, R2 (ix2 j k) = g (2 + j.val))
    (h3 : ∀ j, R3 (ix2 j k) = g (3 + j.val)) (h4 : ∀ j, R4 (ix2 j k) = g (4 + j.val)) (h5 : ∀ j, R5 (ix2 j k) = g (5 + j.val))
    (h6 : ∀ j, R6 (ix2 j k) = g (6 + j.val)) (h7 : ∀ j, R7 (ix2 j k) = g (7 + j.val)) :
    tapsK w R0 R1 R2 R3 R4 R5 R6 R7 (ix2 i k) = ∑ x : Fin 31, w (ix2 x k) * g (30 - x.val + i.val) := by
  rw [← by_eights fun x : Fin 31 => w (ix2 x k) * g (30 - x.val + i.val)]
  unfold tapsK k0_pay42 k0_pay39 k0_pay36 k0_pay33 k0_pay34 k0_pay35 k0_pay37 k0_pay38 k0_pay40 k0_pay41
  pointwise
  simp only [h0, h1, h2, h3, h4, h5, h6, h7, ← Nat.add_assoc, Fin.isValue]
  simp

end Cert.Cv
end
-- ==== Proof.Cv.Taps.lean ====
module

public import proofs.«01_k».proof.Proof.Cv.Block
public import proofs.«01_k».proof.Proof.Math.Rows

@[expose] public section

set_option maxRecDepth 16384

/-!
# What the backward kernel adds to the gradient of the taps, one row of it at a time

`G` holds the gradient of the convolution's output in the block.  `V` holds rows of what the taps are applied to, from
row `b` of its scratch buffer on, whose column is `x`.
-/

noncomputable section

open Idealize Idealize.ShloMosaic Idealize.ShloMosaic.Pipeline Idealize.ShloMosaic.TcCoe Idealize.SL
open Cert.KernelCvIdeal Cert.KernelCvIdeal.Gen

namespace Cert.Cv

/-- What the block adds to row `r` of the gradient. -/
def added (G : Vec Ideal S256x1024 .f32) (x : Fin 1024 → ℕ → EReal) (r : ℕ) (k : Fin 1024) : EReal :=
  ∑ i : Fin 256, G (ix2 i k) * x k (r + 2 + i.val)

variable (G : Vec Ideal S256x1024 .f32) (x : Fin 1024 → ℕ → EReal) (o : Vec Ideal S1x1024 .f32) (k : Fin 1024)

theorem tap_6 (V : Vec Ideal S280x1024 .f32) (h : ∀ j, V (ix2 j k) = x k (8 + j.val)) : k0_pay43 G V o (ix2 0 k) = o (ix2 0 k) + added G x 6 k := by
  unfold k0_pay43; pointwise [added, h, ← Nat.add_assoc, Nat.reduceAdd]
theorem tap_14 (V : Vec Ideal S280x1024 .f32) (h : ∀ j, V (ix2 j k) = x k (8 + j.val)) : k0_pay44 G V o (ix2 0 k) = o (ix2 0 k) + added G x 14 k := by
  unfold k0_pay44; pointwise [added, h, ← Nat.add_assoc, Nat.reduceAdd]
theorem tap_22 (V : Vec Ideal S280x1024 .f32) (h : ∀ j, V (ix2 j k) = x k (8 + j.val)) : k0_pay45 G V o (ix2 0 k) = o (ix2 0 k) + added G x 22 k := by
  unfold k0_pay45; pointwise [added, h, ← Nat.add_assoc, Nat.reduceAdd]
theorem tap_30 (V : Vec Ideal S280x1024 .f32) (h : ∀ j, V (ix2 j k) = x k (8 + j.val)) : k0_pay46 G V o (ix2 0 k) = o (ix2 0 k) + added G x 30 k := by
  unfold k0_pay46; pointwise [added, h, ← Nat.add_assoc, Nat.reduceAdd]
theorem tap_7 (V : Vec Ideal S272x1024 .f32) (h : ∀ j, V (ix2 j k) = x k (9 + j.val)) : k0_pay47 G V o (ix2 0 k) = o (ix2 0 k) + added G x 7 k := by
  unfold k0_pay47; pointwise [added, h, ← Nat.add_assoc, Nat.reduceAdd]
theorem tap_15 (V : Vec Ideal S272x1024 .f32) (h : ∀ j, V (ix2 j k) = x k (9 + j.val)) : k0_pay48 G V o (ix2 0 k) = o (ix2 0 k) + added G x 15 k := by
  unfold k0_pay48; pointwise [added, h, ← Nat.add_assoc, Nat.reduceAdd]
theorem tap_23 (V : Vec Ideal S272x1024 .f32) (h : ∀ j, V (ix2 j k) = x k (9 + j.val)) : k0_pay49 G V o (ix2 0 k) = o (ix2 0 k) + added G x 23 k := by
  unfold k0_pay49; pointwise [added, h, ← Nat.add_assoc, Nat.reduceAdd]
theorem tap_0 (V : Vec Ideal S280x1024 .f32) (h : ∀ j, V (ix2 j k) = x k (2 + j.val)) : k0_pay50 G V o (ix2 0 k) = o (ix2 0 k) + added G x 0 k := by
  unfold k0_pay50; pointwise [added, h, ← Nat.add_assoc, Nat.reduceAdd]
theorem tap_8 (V : Vec Ideal S280x1024 .f32) (h : ∀ j, V (ix2 j k) = x k (2 + j.val)) : k0_pay51 G V o (ix2 0 k) = o (ix2 0 k) + added G x 8 k := by
  unfold k0_pay51; pointwise [added, h, ← Nat.add_assoc, Nat.reduceAdd]
theorem tap_16 (V : Vec Ideal S280x1024 .f32) (h : ∀ j, V (ix2 j k) = x k (2 + j.val)) : k0_pay52 G V o (ix2 0 k) = o (ix2 0 k) + added G x 16 k := by
  unfold k0_pay52; pointwise [added, h, ← Nat.add_assoc, Nat.reduceAdd]
theorem tap_24 (V : Vec Ideal S280x1024 .f32) (h : ∀ j, V (ix2 j k) = x k (2 + j.val)) : k0_pay54 G (k0_pay53 V) o (ix2 0 k) = o (ix2 0 k) + added G x 24 k := by
  unfold k0_pay54 k0_pay53; pointwise [added, h, ← Nat.add_assoc, Nat.reduceAdd]
theorem tap_1 (V : Vec Ideal S280x1024 .f32) (h : ∀ j, V (ix2 j k) = x k (3 + j.val)) : k0_pay55 G V o (ix2 0 k) = o (ix2 0 k) + added G x 1 k := by
  unfold k0_pay55; pointwise [added, h, ← Nat.add_assoc, Nat.reduceAdd]
theorem tap_9 (V : Vec Ideal S280x1024 .f32) (h : ∀ j, V (ix2 j k) = x k (3 + j.val)) : k0_pay56 G V o (ix2 0 k) = o (ix2 0 k) + added G x 9 k := by
  unfold k0_pay56; pointwise [added, h, ← Nat.add_assoc, Nat.reduceAdd]
theorem tap_17 (V : Vec Ideal S280x1024 .f32) (h : ∀ j, V (ix2 j k) = x k (3 + j.val)) : k0_pay57 G V o (ix2 0 k) = o (ix2 0 k) + added G x 17 k := by
  unfold k0_pay57; pointwise [added, h, ← Nat.add_assoc, Nat.reduceAdd]
theorem tap_25 (V : Vec Ideal S280x1024 .f32) (h : ∀ j, V (ix2 j k) = x k (3 + j.val)) : k0_pay59 G (k0_pay58 V) o (ix2 0 k) = o (ix2 0 k) + added G x 25 k := by
  unfold k0_pay59 k0_pay58; pointwise [added, h, ← Nat.add_assoc, Nat.reduceAdd]
theorem tap_2 (V : Vec Ideal S280x1024 .f32) (h : ∀ j, V (ix2 j k) = x k (4 + j.val)) : k0_pay60 G V o (ix2 0 k) = o (ix2 0 k) + added G x 2 k := by
  unfold k0_pay60; pointwise [added, h, ← Nat.add_assoc, Nat.reduceAdd]
theorem tap_10 (V : Vec Ideal S280x1024 .f32) (h : ∀ j, V (ix2 j k) = x k (4 + j.val)) : k0_pay61 G V o (ix2 0 k) = o (ix2 0 k) + added G x 10 k := by
  unfold k0_pay61; pointwise [added, h, ← Nat.add_assoc, Nat.reduceAdd]
theorem tap_18 (V : Vec Ideal S280x1024 .f32) (h : ∀ j, V (ix2 j k) = x k (4 + j.val)) : k0_pay62 G V o (ix2 0 k) = o (ix2 0 k) + added G x 18 k := by
  unfold k0_pay62; pointwise [added, h, ← Nat.add_assoc, Nat.reduceAdd]
theorem tap_26 (V : Vec Ideal S280x1024 .f32) (h : ∀ j, V (ix2 j k) = x k (4 + j.val)) : k0_pay64 G (k0_pay63 V) o (ix2 0 k) = o (ix2 0 k) + added G x 26 k := by
  unfold k0_pay64 k0_pay63; pointwise [added, h, ← Nat.add_assoc, Nat.reduceAdd]
theorem tap_3 (V : Vec Ideal S280x1024 .f32) (h : ∀ j, V (ix2 j k) = x k (5 + j.val)) : k0_pay65 G V o (ix2 0 k) = o (ix2 0 k) + added G x 3 k := by
  unfold k0_pay65; pointwise [added, h, ← Nat.add_assoc, Nat.reduceAdd]
theorem tap_11 (V : Vec Ideal S280x1024 .f32) (h : ∀ j, V (ix2 j k) = x k (5 + j.val)) : k0_pay66 G V o (ix2 0 k) = o (ix2 0 k) + added G x 11 k := by
  unfold k0_pay66; pointwise [added, h, ← Nat.add_assoc, Nat.reduceAdd]
theorem tap_19 (V : Vec Ideal S280x1024 .f32) (h : ∀ j, V (ix2 j k) = x k (5 + j.val)) : k0_pay67 G V o (ix2 0 k) = o (ix2 0 k) + added G x 19 k := by
  unfold k0_pay67; pointwise [added, h, ← Nat.add_assoc, Nat.reduceAdd]
theorem tap_27 (V : Vec Ideal S280x1024 .f32) (h : ∀ j, V (ix2 j k) = x k (5 + j.val)) : k0_pay69 G (k0_pay68 V) o (ix2 0 k) = o (ix2 0 k) + added G x 27 k := by
  unfold k0_pay69 k0_pay68; pointwise [added, h, ← Nat.add_assoc, Nat.reduceAdd]
theorem tap_4 (V : Vec Ideal S280x1024 .f32) (h : ∀ j, V (ix2 j k) = x k (6 + j.val)) : k0_pay70 G V o (ix2 0 k) = o (ix2 0 k) + added G x 4 k := by
  unfold k0_pay70; pointwise [added, h, ← Nat.add_assoc, Nat.reduceAdd]
theorem tap_12 (V : Vec Ideal S280x1024 .f32) (h : ∀ j, V (ix2 j k) = x k (6 + j.val)) : k0_pay71 G V o (ix2 0 k) = o (ix2 0 k) + added G x 12 k := by
  unfold k0_pay71; pointwise [added, h, ← Nat.add_assoc, Nat.reduceAdd]
theorem tap_20 (V : Vec Ideal S280x1024 .f32) (h : ∀ j, V (ix2 j k) = x k (6 + j.val)) : k0_pay72 G V o (ix2 0 k) = o (ix2 0 k) + added G x 20 k := by
  unfold k0_pay72; pointwise [added, h, ← Nat.add_assoc, Nat.reduceAdd]
theorem tap_28 (V : Vec Ideal S280x1024 .f32) (h : ∀ j, V (ix2 j k) = x k (6 + j.val)) : k0_pay75 G (k0_pay73 V) (k0_pay74 o) (ix2 0 k) = o (ix2 0 k) + added G x 28 k := by
  unfold k0_pay75 k0_pay73 k0_pay74; pointwise [added, h, ← Nat.add_assoc, Nat.reduceAdd]
theorem tap_5 (V : Vec Ideal S280x1024 .f32) (h : ∀ j, V (ix2 j k) = x k (7 + j.val)) : k0_pay76 G V o (ix2 0 k) = o (ix2 0 k) + added G x 5 k := by
  unfold k0_pay76; pointwise [added, h, ← Nat.add_assoc, Nat.reduceAdd]
theorem tap_13 (V : Vec Ideal S280x1024 .f32) (h : ∀ j, V (ix2 j k) = x k (7 + j.val)) : k0_pay77 G V o (ix2 0 k) = o (ix2 0 k) + added G x 13 k := by
  unfold k0_pay77; pointwise [added, h, ← Nat.add_assoc, Nat.reduceAdd]
theorem tap_21 (V : Vec Ideal S280x1024 .f32) (h : ∀ j, V (ix2 j k) = x k (7 + j.val)) : k0_pay78 G V o (ix2 0 k) = o (ix2 0 k) + added G x 21 k := by
  unfold k0_pay78; pointwise [added, h, ← Nat.add_assoc, Nat.reduceAdd]
theorem tap_29 (V : Vec Ideal S280x1024 .f32) (h : ∀ j, V (ix2 j k) = x k (7 + j.val)) : k0_pay1 (k0_pay79 o) (k0_pay80 G V) (ix2 0 k) = o (ix2 0 k) + added G x 29 k := by
  unfold k0_pay1 k0_pay79 k0_pay80; pointwise [added, h, ← Nat.add_assoc, Nat.reduceAdd]

end Cert.Cv
end
-- ==== Proof.Cv.Kernel.lean ====
module

public import proofs.«01_k».proof.Proof.Cv.Host
public import proofs.«01_k».proof.Proof.Cv.Taps

@[expose] public section

set_option maxRecDepth 16384

/-!
# What the convolution module's backward kernel holds at each point

At point `t` the kernel works on rows `256 * (7 - t) ..`.
-/

noncomputable section

open Idealize Idealize.ShloMosaic Idealize.ShloMosaic.Pipeline Idealize.ShloMosaic.TcCoe Idealize.SL
open Cert.KernelCvIdeal Cert.KernelCvIdeal.Gen

namespace Cert.Cv

variable (m : (ℓ : Loc nD τ sig) → Buf (Elt Ideal) ℓ)

/-- Which block each operand and result uses at a point. -/
theorem idx : ∀ t : Fin cfg0.N, win0_0.index t = ![7 - t.val, 0] ∧ win0_1.index t = ![7 - t.val, 1] ∧ win0_2.index t = ![(7 - t.val) * 8 - 1, 0]
    ∧ win0_3.index t = ![(7 - t.val) * 8 - 1, 1] ∧ win0_4.index t = ![7 - t.val, 0] ∧ win0_5.index t = ![0, 0] ∧ win0_6.index t = ![0, 0]
    ∧ win0_7.index t = ![0, 0] ∧ win0_8.index t = ![7 - t.val, 0] ∧ win0_9.index t = ![7 - t.val, 0] ∧ win0_10.index t = ![7 - t.val, 0]
    ∧ win0_11.index t = ![0, 0] ∧ win0_12.index t = ![0, 0] ∧ win0_13.index t = ![0, 0] ∧ win0_14.index t = ![0, 0] :=
  (by decide +kernel : ∀ t : Fin grid0.N, _)

theorem coord : ∀ t : Fin cfg0.N, (grid0.coords t 0).val = t.val := (by decide +kernel : ∀ t : Fin grid0.N, _)

/-- The row of the whole array that a block's row is. -/
def grow (t : Fin cfg0.N) (i : Fin 256) : Fin 2048 := ⟨(7 - t.val) * 256 + i.val, by omega⟩

/-- The module's input, -/
abbrev inA (c : Dev nD) : Mat 2048 2048 := m ((c : Thread nD τ).loc main_arg0)
/-- the taps, -/
abbrev inW (c : Dev nD) : Mat 31 1024 := m ((c : Thread nD τ).loc main_arg1)
/-- the convolution's output with its bias, as the host computes it, -/
abbrev inC (c : Dev nD) : Mat 2048 1024 := V m c main_v82
/-- the norm's weight and bias -/
abbrev inLw (c : Dev nD) : Row := fun k => m ((c : Thread nD τ).loc main_arg3) (ix1 k)
abbrev inLb (c : Dev nD) : Row := fun k => m ((c : Thread nD τ).loc main_arg4) (ix1 k)
/-- and the cotangent. -/
abbrev inD (c : Dev nD) : Mat 2048 1024 := m ((c : Thread nD τ).loc main_arg5)

theorem a_read (c : Dev nD) (t : Fin cfg0.N) (i : Fin 256) (k : Fin 1024) : iblk m c 0 t (ix2 i k) = inA m c (ix2 (grow t i) (lo k)) := by
  have := lt_8 t
  unfold grow
  blk_point [iblk, V, idx t]

theorem b_read (c : Dev nD) (t : Fin cfg0.N) (i : Fin 256) (k : Fin 1024) : iblk m c 1 t (ix2 i k) = inA m c (ix2 (grow t i) (hi k)) := by
  have := lt_8 t
  unfold grow
  blk_point [iblk, V, idx t]

theorem ah_read (c : Dev nD) (t : Fin cfg0.N) (h : t.val < 7) (i : Fin 32) (k : Fin 1024) :
    iblk m c 2 t (ix2 i k) = inA m c (ix2 ⟨(7 - t.val) * 256 - 32 + i.val, by omega⟩ (lo k)) := by
  have := lt_8 t
  blk_point [iblk, V, idx t]

theorem bh_read (c : Dev nD) (t : Fin cfg0.N) (h : t.val < 7) (i : Fin 32) (k : Fin 1024) :
    iblk m c 3 t (ix2 i k) = inA m c (ix2 ⟨(7 - t.val) * 256 - 32 + i.val, by omega⟩ (hi k)) := by
  have := lt_8 t
  blk_point [iblk, V, idx t]

theorem c_read (c : Dev nD) (t : Fin cfg0.N) (i : Fin 256) (k : Fin 1024) : iblk m c 4 t (ix2 i k) = inC m c (ix2 (grow t i) k) := by
  have := lt_8 t
  unfold grow inC
  generalize hz : V m c main_v82 = z
  blk_point [iblk, hz, idx t]

theorem w_read (c : Dev nD) (t : Fin cfg0.N) (r : Fin 31) (k : Fin 1024) : iblk m c 5 t (ix2 r k) = inW m c (ix2 r k) := by
  blk_point [iblk, V, idx t]

theorem d_read (c : Dev nD) (t : Fin cfg0.N) (i : Fin 256) (k : Fin 1024) : iblk m c 8 t (ix2 i k) = inD m c (ix2 (grow t i) k) := by
  have := lt_8 t
  unfold grow
  blk_point [iblk, V, idx t]

theorem V_lw (c : Dev nD) (k : Fin 1024) : V m c main_v83 (ix2 0 k) = inLw m c k := by
  rw [V_scale]; pointwise

theorem V_lb (c : Dev nD) (k : Fin 1024) : V m c main_v84 (ix2 0 k) = inLb m c k := by
  rw [V_shift]; pointwise

theorem lw_read (c : Dev nD) (t : Fin cfg0.N) (k : Fin 1024) : iblk m c 6 t (ix2 0 k) = inLw m c k := by
  rw [← V_lw]
  generalize hz : V m c main_v83 = z
  blk_point [iblk, hz, idx t]

theorem lb_read (c : Dev nD) (t : Fin cfg0.N) (k : Fin 1024) : iblk m c 7 t (ix2 0 k) = inLb m c k := by
  rw [← V_lb]
  generalize hz : V m c main_v84 = z
  blk_point [iblk, hz, idx t]

/-- The gradient of the convolution's output in the block, -/
abbrev gblk (c : Dev nD) (t : Fin cfg0.N) : Vec Ideal S256x1024 .f32 := gradK (iblk m c 4 t) (iblk m c 8 t) (iblk m c 6 t) (iblk m c 7 t)
/-- and in the whole arrays. -/
abbrev go (c : Dev nD) (k : Fin 1024) (n : ℕ) : EReal := gout (inC m c) (inD m c) (inLw m c) (inLb m c) k n
/-- What the kernel stores of it. -/
abbrev sblk (c : Dev nD) (t : Fin cfg0.N) : Vec Ideal S256x1024 .f32 := k0_pay32 (F := Ideal) (gblk m c t)
/-- Rows of what the taps are applied to, as the kernel's scratch buffer holds them. -/
abbrev xs (c : Dev nD) (t : Fin cfg0.N) (k : Fin 1024) (j : ℕ) : EReal := padded (inA m c) k ((7 - t.val) * 256 + j - 2)

theorem row_c (c : Dev nD) (t : Fin cfg0.N) (i : Fin 256) : mrow (iblk m c 4 t) i = mrow (inC m c) (grow t i) := funext fun k => c_read m c t i k
theorem row_d (c : Dev nD) (t : Fin cfg0.N) (i : Fin 256) : mrow (iblk m c 8 t) i = mrow (inD m c) (grow t i) := funext fun k => d_read m c t i k
theorem row_lw (c : Dev nD) (t : Fin cfg0.N) : mrow (iblk m c 6 t) 0 = inLw m c := funext fun k => lw_read m c t k
theorem row_lb (c : Dev nD) (t : Fin cfg0.N) : mrow (iblk m c 7 t) 0 = inLb m c := funext fun k => lb_read m c t k

theorem gblk_at (c : Dev nD) (t : Fin cfg0.N) (i : Fin 256) (k : Fin 1024) : gblk m c t (ix2 i k) = go m c k ((7 - t.val) * 256 + i.val) := by
  refine (grad_block _ _ _ _ i k).trans ?_
  rw [row_c, row_d, row_lw, row_lb]
  unfold go gout
  rw [dif_pos (by omega)]
  rfl

/-- The two bands the kernel stores of what the taps are applied to: the block's rows after 32 rows of the block before. -/
abbrev bands (c : Dev nD) (t : Fin cfg0.N) : List (View.Piece (Elt Ideal) S288x1024 .f32) :=
  [⟨Rect.unit ![32, 0] ![256, 1024] inb_S288x1024_S256x1024_32_0, k0_pay12 (iblk m c 0 t) (iblk m c 1 t)⟩,
    ⟨Rect.unit ![0, 0] ![32, 1024] inb_S288x1024_S32x1024_0_0, k0_pay11 (grid0.coords t) (iblk m c 2 t) (iblk m c 3 t)⟩]

/-- A band of that buffer. -/
theorem band_read (c : Dev nD) (t : Fin cfg0.N) {sg : RefSig} {κ : Kind} {sp : Space} (v : View sg κ sp S288x1024 .f32)
    {o N : ℕ} (inb : ∀ a : Fin 2, ![o, 0] a + ![N, 1024] a ≤ S288x1024.size a) (h2 : 2 ≤ o) (i : Fin N) (k : Fin 1024) :
    v.readCov (bands m c t) (Rect.unit (s := S288x1024) ![o, 0] ![N, 1024] inb).toLoadRect (ix2 i k) = xs m c t k (o + i.val) := by
  have ho : o + N ≤ 288 := inb 0
  have ht := lt_8 t
  have key := Rows.readCov_two (Val := Elt Ideal) (e := .f32) v inb_S288x1024_S256x1024_32_0 inb_S288x1024_S32x1024_0_0 inb
    (k0_pay12 (iblk m c 0 t) (iblk m c 1 t)) (k0_pay11 (grid0.coords t) (iblk m c 2 t) (iblk m c 3 t)) (by norm_num) i k
  refine key.trans ?_
  clear key
  unfold xs padded
  by_cases h : o + i.val < 32
  · rw [dif_pos h, halo_block, coord]
    by_cases h7 : t.val < 7
    · rw [if_pos h7, ah_read m c t h7, bh_read m c t h7, dif_pos (by omega)]
      unfold gated
      have e : (⟨(7 - t.val) * 256 - 32 + (o + i.val), by omega⟩ : Fin 2048) = ⟨(7 - t.val) * 256 + (o + i.val) - 2 - 30, by omega⟩ := Fin.ext (show (7 - t.val) * 256 - 32 + (o + i.val) = (7 - t.val) * 256 + (o + i.val) - 2 - 30 by omega)
      simp only [e]
    · rw [if_neg h7, dif_neg (by omega)]
  · rw [dif_neg h, copy_block, a_read, b_read, dif_pos (by omega)]
    unfold gated
    have e : grow t ⟨o + i.val - 32, by omega⟩ = ⟨(7 - t.val) * 256 + (o + i.val) - 2 - 30, by omega⟩ :=
      Fin.ext (show (7 - t.val) * 256 + (o + i.val - 32) = (7 - t.val) * 256 + (o + i.val) - 2 - 30 by omega)
    rw [e]

/-- The last rows of the gradient buffer after a point: the block's first 32. -/
theorem tail_at (c : Dev nD) (t : Fin cfg0.N) (i : Fin 32) (k : Fin 1024) :
    (left m c t.val).tail (ix2 ⟨256 + i.val, by omega⟩ k) = go m c k ((7 - t.val) * 256 + i.val) := by
  by_cases h : t.val % 8 = 0
  · rw [left_first m c t h]; unfold leftA runA kernelRun0_A; dsimp only; frame_out
    refine (Rows.canon_hit (Val := Elt Ideal) (e := .f32) inb_S288x1024_S32x1024_256_0 _ _ (ix2 i k) _ rfl rfl).trans ?_
    exact (tail_block k _ i).trans (gblk_at m c t _ k)
  · rw [left_next m c t h]; unfold leftB runB kernelRun0_B; dsimp only; frame_out
    refine (Rows.canon_hit (Val := Elt Ideal) (e := .f32) inb_S288x1024_S32x1024_256_0 _ _ (ix2 i k) _ rfl rfl).trans ?_
    exact (tail_block k _ i).trans (gblk_at m c t _ k)

/-- The gradient buffer at the last rows' block: nothing follows. -/
theorem grad_readA (c : Dev nD) (t : Fin cfg0.N) (h : t.val % 8 = 0) {sg : RefSig} {κ : Kind} {sp : Space} (v : View sg κ sp S288x1024 .f32)
    {o N : ℕ} (inb : ∀ a : Fin 2, ![o, 0] a + ![N, 1024] a ≤ S288x1024.size a) (k : Fin 1024) (i : Fin N) :
    v.readCov [⟨Rect.unit ![0, 0] ![256, 1024] inb_S288x1024_S256x1024_0_0, sblk m c t⟩,
        ⟨Rect.unit ![256, 0] ![32, 1024] inb_S288x1024_S32x1024_256_0, k0_pay9 (F := Ideal)⟩]
      (Rect.unit (s := S288x1024) ![o, 0] ![N, 1024] inb).toLoadRect (ix2 i k)
      = go m c k ((7 - t.val) * 256 + (o + i.val)) := by
  have ho : o + N ≤ 288 := inb 0
  have ht := lt_8 t
  have key := Rows.readCov_two' (Val := Elt Ideal) (e := .f32) v inb_S288x1024_S32x1024_256_0 inb_S288x1024_S256x1024_0_0 inb (k0_pay9 (F := Ideal))
    (sblk m c t) (by norm_num) i k
  refine key.trans ?_
  clear key
  by_cases hi : o + i.val < 256
  · rw [dif_pos hi]
    exact (stored_block _ k _).trans (gblk_at m c t _ k)
  · rw [dif_neg hi, zero_tail]
    unfold go gout
    rw [dif_neg (by omega)]

/-- The gradient buffer at any other block: the block below follows. -/
theorem grad_readB (c : Dev nD) (t : Fin cfg0.N) (h : ¬ t.val % 8 = 0) (hw : (Memref.whole cc0_scratch1).IsWhole)
    {o N : ℕ} (inb : ∀ a : Fin 2, ![o, 0] a + ![N, 1024] a ≤ S288x1024.size a) (k : Fin 1024) (i : Fin N) :
    View.ld ((View.whole cc0_scratch1).read (Elt Ideal) ((View.whole cc0_scratch1).writes (Elt Ideal)
        (hw.unread (left m c (t.val - 1)).tail) [⟨Rect.unit ![0, 0] ![256, 1024] inb_S288x1024_S256x1024_0_0, sblk m c t⟩]))
      (Rect.unit (s := S288x1024) ![o, 0] ![N, 1024] inb) (ix2 i k)
      = go m c k ((7 - t.val) * 256 + (o + i.val)) := by
  have ho : o + N ≤ 288 := inb 0
  have ht := lt_8 t
  have key := Rows.ld_over (Val := Elt Ideal) (e := .f32) (View.whole cc0_scratch1)
    (hw.unread (left m c (t.val - 1)).tail) inb_S288x1024_S256x1024_0_0 inb (sblk m c t) i k
  refine key.trans ?_
  clear key
  by_cases hi : o + i.val < 256
  · rw [dif_pos hi]
    exact (stored_block _ k _).trans (gblk_at m c t _ k)
  · rw [dif_neg hi]
    refine (congrFun (hw.read_unread _) _).trans ?_
    have e := tail_at m c ⟨t.val - 1, by omega⟩ ⟨o + i.val - 256, by omega⟩ k
    refine Eq.trans (congrArg _ (congrArg (fun r => ix2 r k) (Fin.ext (show o + i.val = 256 + (o + i.val - 256) by omega)))) (e.trans ?_)
    exact congrArg _ (show (7 - (t.val - 1)) * 256 + (o + i.val - 256) = (7 - t.val) * 256 + (o + i.val) by omega)

/-- The gradient of what the taps are applied to. -/
theorem taps_at (c : Dev nD) (t : Fin cfg0.N) (i : Fin 256) (k : Fin 1024) (R0 R1 R2 R3 R4 R5 R6 : Vec Ideal S280x1024 .f32) (R7 : Vec Ideal S272x1024 .f32)
    (h0 : ∀ j, R0 (ix2 j k) = go m c k ((7 - t.val) * 256 + (0 + j.val))) (h1 : ∀ j, R1 (ix2 j k) = go m c k ((7 - t.val) * 256 + (1 + j.val)))
    (h2 : ∀ j, R2 (ix2 j k) = go m c k ((7 - t.val) * 256 + (2 + j.val))) (h3 : ∀ j, R3 (ix2 j k) = go m c k ((7 - t.val) * 256 + (3 + j.val)))
    (h4 : ∀ j, R4 (ix2 j k) = go m c k ((7 - t.val) * 256 + (4 + j.val))) (h5 : ∀ j, R5 (ix2 j k) = go m c k ((7 - t.val) * 256 + (5 + j.val)))
    (h6 : ∀ j, R6 (ix2 j k) = go m c k ((7 - t.val) * 256 + (6 + j.val))) (h7 : ∀ j, R7 (ix2 j k) = go m c k ((7 - t.val) * 256 + (7 + j.val))) :
    tapsK (iblk m c 5 t) R0 R1 R2 R3 R4 R5 R6 R7 (ix2 i k)
      = dgated (inW m c) (inC m c) (inD m c) (inLw m c) (inLb m c) k (grow t i).val := by
  refine (taps_block i k (iblk m c 5 t) R0 R1 R2 R3 R4 R5 R6 R7 (fun n => go m c k ((7 - t.val) * 256 + n)) h0 h1 h2 h3 h4 h5 h6 h7).trans ?_
  unfold dgated
  refine Finset.sum_congr rfl fun x _ => ?_
  rw [w_read]
  exact congrArg (fun n => inW m c (ix2 x k) * go m c k n) (show (7 - t.val) * 256 + (30 - x.val + i.val) = 30 - x.val + ((7 - t.val) * 256 + i.val) by omega)

end Cert.Cv
end
-- ==== Proof.Cv.Point.lean ====
module

public import proofs.«01_k».proof.Proof.Cv.Kernel

@[expose] public section

set_option maxRecDepth 16384
set_option maxHeartbeats 2000000

/-!
# What a point of the convolution module's backward kernel leaves
-/

noncomputable section

open Idealize Idealize.ShloMosaic Idealize.ShloMosaic.Pipeline Idealize.ShloMosaic.TcCoe Idealize.SL
open Cert.KernelCvIdeal Cert.KernelCvIdeal.Gen

namespace Cert.Cv

variable (m : (ℓ : Loc nD τ sig) → Buf (Elt Ideal) ℓ)

theorem da_at (c : Dev nD) (t : Fin cfg0.N) (i : Fin 256) (k : Fin 1024) :
    (left m c t.val).da (ix2 i k) = dfirst (inA m c) (inW m c) (inC m c) (inD m c) (inLw m c) (inLb m c) (grow t i) k := by
  unfold dfirst
  rw [← b_read]
  by_cases h : t.val % 8 = 0
  · rw [left_first m c t h]; unfold leftA runA kernelRun0_A; dsimp only; frame_out
    refine (first_block i k _ _).trans (congrArg₂ (· * ·) ?_ (logistic_block _ k i))
    refine taps_at m c t i k _ _ _ _ _ _ _ _ ?_ ?_ ?_ ?_ ?_ ?_ ?_ ?_ <;> exact grad_readA m c t h _ _ k
  · rw [left_next m c t h]; unfold leftB runB kernelRun0_B; dsimp only; frame_out
    refine (first_block i k _ _).trans (congrArg₂ (· * ·) ?_ (logistic_block _ k i))
    refine taps_at m c t i k _ _ _ _ _ _ _ _ ?_ ?_ ?_ ?_ ?_ ?_ ?_ ?_ <;> exact grad_readB m c t h _ _ k

theorem db_at (c : Dev nD) (t : Fin cfg0.N) (i : Fin 256) (k : Fin 1024) :
    (left m c t.val).db (ix2 i k) = dsecond (inA m c) (inW m c) (inC m c) (inD m c) (inLw m c) (inLb m c) (grow t i) k := by
  unfold dsecond
  rw [← b_read, ← a_read, ← logistic_block (iblk m c 1 t) k i]
  by_cases h : t.val % 8 = 0
  · rw [left_first m c t h]; unfold leftA runA kernelRun0_A; dsimp only; frame_out
    refine (second_block i k _ _ _).trans (congrArg (fun z => z * _ * _ * _) ?_)
    refine taps_at m c t i k _ _ _ _ _ _ _ _ ?_ ?_ ?_ ?_ ?_ ?_ ?_ ?_ <;> exact grad_readA m c t h _ _ k
  · rw [left_next m c t h]; unfold leftB runB kernelRun0_B; dsimp only; frame_out
    refine (second_block i k _ _ _).trans (congrArg (fun z => z * _ * _ * _) ?_)
    refine taps_at m c t i k _ _ _ _ _ _ _ _ ?_ ?_ ?_ ?_ ?_ ?_ ?_ ?_ <;> exact grad_readB m c t h _ _ k

/-- What a point adds to the gradient of the bias, -/
def biasS (c : Dev nD) (t : Fin cfg0.N) (k : Fin 1024) : EReal :=
  ∑ i : Fin 256, grad (mrow (inC m c) (grow t i)) (inLw m c) (inLb m c) (mrow (inD m c) (grow t i)) k
/-- of the norm's weight -/
def scaleS (c : Dev nD) (t : Fin cfg0.N) (k : Fin 1024) : EReal :=
  ∑ i : Fin 256, nrm (mrow (inC m c) (grow t i)) k * cot (mrow (inC m c) (grow t i)) (inLw m c) (inLb m c) (mrow (inD m c) (grow t i)) k
/-- and of its bias. -/
def shiftS (c : Dev nD) (t : Fin cfg0.N) (k : Fin 1024) : EReal :=
  ∑ i : Fin 256, cot (mrow (inC m c) (grow t i)) (inLw m c) (inLb m c) (mrow (inD m c) (grow t i)) k

theorem bias_of (c : Dev nD) (t : Fin cfg0.N) (k : Fin 1024) (o : Vec Ideal S1x1024 .f32) :
    k0_pay31 (gblk m c t) o (ix2 0 k) = o (ix2 0 k) + biasS m c t k := by
  refine (dbw_block _ _ _ _ k o).trans ?_
  simp only [row_c, row_d, row_lw, row_lb]
  rfl

theorem scale_of (c : Dev nD) (t : Fin cfg0.N) (k : Fin 1024) (o : Vec Ideal S1x1024 .f32) :
    k0_pay29 (k0_pay26 (k0_pay18 (iblk m c 4 t)) (k0_pay19 (iblk m c 4 t) (iblk m c 6 t) (iblk m c 7 t)) (k0_pay20 (iblk m c 4 t) (iblk m c 6 t) (iblk m c 7 t))
      (k0_pay22 (iblk m c 4 t) (iblk m c 6 t) (iblk m c 7 t)) (k0_pay23 (iblk m c 4 t) (iblk m c 6 t) (iblk m c 7 t)) (iblk m c 8 t)) (k0_pay28 o) (ix2 0 k)
      = o (ix2 0 k) + scaleS m c t k := by
  refine (lnw_block _ _ _ _ k o).trans ?_
  simp only [row_c, row_d, row_lw, row_lb]
  rfl

theorem shift_of (c : Dev nD) (t : Fin cfg0.N) (k : Fin 1024) (o : Vec Ideal S1x1024 .f32) :
    k0_pay30 (k0_pay25 (k0_pay19 (iblk m c 4 t) (iblk m c 6 t) (iblk m c 7 t)) (k0_pay20 (iblk m c 4 t) (iblk m c 6 t) (iblk m c 7 t))
      (k0_pay22 (iblk m c 4 t) (iblk m c 6 t) (iblk m c 7 t)) (k0_pay23 (iblk m c 4 t) (iblk m c 6 t) (iblk m c 7 t)) (iblk m c 8 t)) o (ix2 0 k)
      = o (ix2 0 k) + shiftS m c t k := by
  refine (lnb_block _ _ _ _ k o).trans ?_
  simp only [row_c, row_d, row_lw, row_lb]
  rfl

theorem bias_first (c : Dev nD) (t : Fin cfg0.N) (h : t.val % 8 = 0) (k : Fin 1024) : (left m c t.val).dbdw (ix2 0 k) = 0 + biasS m c t k := by
  rw [left_first m c t h]; unfold leftA runA kernelRun0_A; dsimp only; frame_out
  exact (bias_of m c t k _).trans (congrArg (· + _) (zero_bdw k))

theorem bias_next (c : Dev nD) (t : Fin cfg0.N) (h : ¬ t.val % 8 = 0) (k : Fin 1024) :
    (left m c t.val).dbdw (ix2 0 k) = (left m c (t.val - 1)).dbdw (ix2 0 k) + biasS m c t k := by
  rw [left_next m c t h]; unfold leftB runB kernelRun0_B; dsimp only; frame_out
  exact bias_of m c t k _

theorem scale_first (c : Dev nD) (t : Fin cfg0.N) (h : t.val % 8 = 0) (k : Fin 1024) : (left m c t.val).dlnw (ix2 0 k) = 0 + scaleS m c t k := by
  rw [left_first m c t h]; unfold leftA runA kernelRun0_A; dsimp only; frame_out
  exact (scale_of m c t k _).trans (congrArg (· + _) (zero_lnw k))

theorem scale_next (c : Dev nD) (t : Fin cfg0.N) (h : ¬ t.val % 8 = 0) (k : Fin 1024) :
    (left m c t.val).dlnw (ix2 0 k) = (left m c (t.val - 1)).dlnw (ix2 0 k) + scaleS m c t k := by
  rw [left_next m c t h]; unfold leftB runB kernelRun0_B; dsimp only; frame_out
  exact scale_of m c t k _

theorem shift_first (c : Dev nD) (t : Fin cfg0.N) (h : t.val % 8 = 0) (k : Fin 1024) : (left m c t.val).dlnb (ix2 0 k) = 0 + shiftS m c t k := by
  rw [left_first m c t h]; unfold leftA runA kernelRun0_A; dsimp only; frame_out
  exact (shift_of m c t k _).trans (congrArg (· + _) (zero_lnb k))

theorem shift_next (c : Dev nD) (t : Fin cfg0.N) (h : ¬ t.val % 8 = 0) (k : Fin 1024) :
    (left m c t.val).dlnb (ix2 0 k) = (left m c (t.val - 1)).dlnb (ix2 0 k) + shiftS m c t k := by
  rw [left_next m c t h]; unfold leftB runB kernelRun0_B; dsimp only; frame_out
  exact shift_of m c t k _

end Cert.Cv
end
-- ==== Proof.Cv.Dw.lean ====
module

public import proofs.«01_k».proof.Proof.Cv.Point

@[expose] public section

set_option maxRecDepth 16384
set_option maxHeartbeats 2000000

/-!
# What a point of the convolution module's backward kernel leaves
-/

noncomputable section

open Idealize Idealize.ShloMosaic Idealize.ShloMosaic.Pipeline Idealize.ShloMosaic.TcCoe Idealize.SL
open Cert.KernelCvIdeal Cert.KernelCvIdeal.Gen

namespace Cert.Cv

variable (m : (ℓ : Loc nD τ sig) → Buf (Elt Ideal) ℓ)

/-- What a point adds to the gradient of a tap. -/
def tapS (c : Dev nD) (t : Fin cfg0.N) (r : ℕ) (k : Fin 1024) : EReal := added (gblk m c t) (xs m c t) r k

/-- One more row stored. -/
theorem push {f : ℕ → Fin 1024 → EReal} {o : Vec Ideal S31x1024 .f32} {r : ℕ} (hr : r < 31)
    (inb : ∀ a : Fin 2, ![r, 0] a + ![1, 1024] a ≤ S31x1024.size a) (p : Vec Ideal S1x1024 .f32)
    (L : List (View.Piece (Elt Ideal) S31x1024 .f32)) (a : Fin 31) (k : Fin 1024)
    (hp : p (ix2 0 k) = View.ld o (Rect.unit (s := S31x1024) ![r, 0] ![1, 1024] inb) (ix2 0 k) + f r k)
    (hL : a.val ≠ r → View.canon L (ix2 a k) = o (ix2 a k) + f a.val k) :
    View.canon (⟨Rect.unit (s := S31x1024) ![r, 0] ![1, 1024] inb, p⟩ :: L) (ix2 a k) = o (ix2 a k) + f a.val k := by
  by_cases e : a.val = r
  · subst e
    exact (Rows.canon_hit (Val := Elt Ideal) (e := .f32) inb _ _ (ix2 0 k) _ rfl rfl).trans (hp.trans (congrArg (· + _) (Rows.ld_row _ _ a rfl k)))
  · exact (Rows.canon_miss (Val := Elt Ideal) (e := .f32) inb _ _ _ (by show a.val < r ∨ r + 1 ≤ a.val; omega)).trans (hL e)

theorem tap_next (c : Dev nD) (t : Fin cfg0.N) (h : ¬ t.val % 8 = 0) (a : Fin 31) (k : Fin 1024) :
    (left m c t.val).dw (ix2 a k) = (left m c (t.val - 1)).dw (ix2 a k) + tapS m c t a.val k := by
  rw [left_next m c t h]; unfold leftB runB kernelRun0_B; dsimp only; frame_out
  generalize (left m c (t.val - 1)).dw = o
  unfold tapS
  have more := @push (added (gblk m c t) (xs m c t)) o
  refine more (by decide) _ _ _ a k (tap_29 _ _ _ k _ fun j => band_read m c t _ _ (by decide) j k) fun h29 => ?_
  refine more (by decide) _ _ _ a k (tap_21 _ _ _ k _ fun j => band_read m c t _ _ (by decide) j k) fun h21 => ?_
  refine more (by decide) _ _ _ a k (tap_13 _ _ _ k _ fun j => band_read m c t _ _ (by decide) j k) fun h13 => ?_
  refine more (by decide) _ _ _ a k (tap_5 _ _ _ k _ fun j => band_read m c t _ _ (by decide) j k) fun h5 => ?_
  refine more (by decide) _ _ _ a k (tap_28 _ _ _ k _ fun j => band_read m c t _ _ (by decide) j k) fun h28 => ?_
  refine more (by decide) _ _ _ a k (tap_20 _ _ _ k _ fun j => band_read m c t _ _ (by decide) j k) fun h20 => ?_
  refine more (by decide) _ _ _ a k (tap_12 _ _ _ k _ fun j => band_read m c t _ _ (by decide) j k) fun h12 => ?_
  refine more (by decide) _ _ _ a k (tap_4 _ _ _ k _ fun j => band_read m c t _ _ (by decide) j k) fun h4 => ?_
  refine more (by decide) _ _ _ a k (tap_27 _ _ _ k _ fun j => band_read m c t _ _ (by decide) j k) fun h27 => ?_
  refine more (by decide) _ _ _ a k (tap_19 _ _ _ k _ fun j => band_read m c t _ _ (by decide) j k) fun h19 => ?_
  refine more (by decide) _ _ _ a k (tap_11 _ _ _ k _ fun j => band_read m c t _ _ (by decide) j k) fun h11 => ?_
  refine more (by decide) _ _ _ a k (tap_3 _ _ _ k _ fun j => band_read m c t _ _ (by decide) j k) fun h3 => ?_
  refine more (by decide) _ _ _ a k (tap_26 _ _ _ k _ fun j => band_read m c t _ _ (by decide) j k) fun h26 => ?_
  refine more (by decide) _ _ _ a k (tap_18 _ _ _ k _ fun j => band_read m c t _ _ (by decide) j k) fun h18 => ?_
  refine more (by decide) _ _ _ a k (tap_10 _ _ _ k _ fun j => band_read m c t _ _ (by decide) j k) fun h10 => ?_
  refine more (by decide) _ _ _ a k (tap_2 _ _ _ k _ fun j => band_read m c t _ _ (by decide) j k) fun h2 => ?_
  refine more (by decide) _ _ _ a k (tap_25 _ _ _ k _ fun j => band_read m c t _ _ (by decide) j k) fun h25 => ?_
  refine more (by decide) _ _ _ a k (tap_17 _ _ _ k _ fun j => band_read m c t _ _ (by decide) j k) fun h17 => ?_
  refine more (by decide) _ _ _ a k (tap_9 _ _ _ k _ fun j => band_read m c t _ _ (by decide) j k) fun h9 => ?_
  refine more (by decide) _ _ _ a k (tap_1 _ _ _ k _ fun j => band_read m c t _ _ (by decide) j k) fun h1 => ?_
  refine more (by decide) _ _ _ a k (tap_24 _ _ _ k _ fun j => band_read m c t _ _ (by decide) j k) fun h24 => ?_
  refine more (by decide) _ _ _ a k (tap_16 _ _ _ k _ fun j => band_read m c t _ _ (by decide) j k) fun h16 => ?_
  refine more (by decide) _ _ _ a k (tap_8 _ _ _ k _ fun j => band_read m c t _ _ (by decide) j k) fun h8 => ?_
  refine more (by decide) _ _ _ a k (tap_0 _ _ _ k _ fun j => band_read m c t _ _ (by decide) j k) fun h0 => ?_
  refine more (by decide) _ _ _ a k (tap_23 _ _ _ k _ fun j => band_read m c t _ _ (by decide) j k) fun h23 => ?_
  refine more (by decide) _ _ _ a k (tap_15 _ _ _ k _ fun j => band_read m c t _ _ (by decide) j k) fun h15 => ?_
  refine more (by decide) _ _ _ a k (tap_7 _ _ _ k _ fun j => band_read m c t _ _ (by decide) j k) fun h7 => ?_
  refine more (by decide) _ _ _ a k (tap_30 _ _ _ k _ fun j => band_read m c t _ _ (by decide) j k) fun h30 => ?_
  refine more (by decide) _ _ _ a k (tap_22 _ _ _ k _ fun j => band_read m c t _ _ (by decide) j k) fun h22 => ?_
  refine more (by decide) _ _ _ a k (tap_14 _ _ _ k _ fun j => band_read m c t _ _ (by decide) j k) fun h14 => ?_
  refine more (by decide) _ _ _ a k (tap_6 _ _ _ k _ fun j => band_read m c t _ _ (by decide) j k) fun h6 => ?_
  omega

/-- One more row stored, over rows not stored before. -/
theorem fresh {f : ℕ → Fin 1024 → EReal} {S : List ℕ} {sg : RefSig} {κ : Kind} {sp : Space} (v : View sg κ sp S31x1024 .f32) {r : ℕ} (hr : r < 31)
    (inb : ∀ a : Fin 2, ![r, 0] a + ![1, 1024] a ≤ S31x1024.size a) (p : Vec Ideal S1x1024 .f32)
    (L : List (View.Piece (Elt Ideal) S31x1024 .f32)) (hS : r ∉ S)
    (hp : ∀ k, p (ix2 0 k) = v.readCov L (Rect.unit (s := S31x1024) ![r, 0] ![1, 1024] inb).toLoadRect (ix2 0 k) + f r k)
    (hL : ∀ (a : Fin 31) (k : Fin 1024), View.canon L (ix2 a k) = if a.val ∈ S then 0 + f a.val k else 0) (a : Fin 31) (k : Fin 1024) :
    View.canon (⟨Rect.unit (s := S31x1024) ![r, 0] ![1, 1024] inb, p⟩ :: L) (ix2 a k) = if a.val ∈ r :: S then 0 + f a.val k else 0 := by
  by_cases e : a.val = r
  · subst e
    rw [if_pos List.mem_cons_self]
    refine (Rows.canon_hit (Val := Elt Ideal) (e := .f32) inb _ _ (ix2 0 k) _ rfl rfl).trans ((hp k).trans (congrArg (· + _) ?_))
    refine (Rows.readCov_at (Val := Elt Ideal) (e := .f32) v L inb (ix2 0 k) (ix2 a k) rfl rfl).trans ?_
    rw [hL, if_neg hS]
  · refine (Rows.canon_miss (Val := Elt Ideal) (e := .f32) inb _ _ _ (by show a.val < r ∨ r + 1 ≤ a.val; omega)).trans ((hL a k).trans ?_)
    refine if_congr ?_ rfl rfl
    rw [List.mem_cons]
    exact (or_iff_right e).symm

/-- Every row stored. -/
theorem stored {f : ℕ → Fin 1024 → EReal} (S : List ℕ) (hS : ∀ a : Fin 31, a.val ∈ S) {L : List (View.Piece (Elt Ideal) S31x1024 .f32)}
    (hL : ∀ (a : Fin 31) (k : Fin 1024), View.canon L (ix2 a k) = if a.val ∈ S then 0 + f a.val k else 0) (a : Fin 31) (k : Fin 1024) :
    View.canon L (ix2 a k) = 0 + f a.val k := (hL a k).trans (if_pos (hS a))

theorem tap_first (c : Dev nD) (t : Fin cfg0.N) (h : t.val % 8 = 0) (a : Fin 31) (k : Fin 1024) :
    (left m c t.val).dw (ix2 a k) = 0 + tapS m c t a.val k := by
  rw [left_first m c t h]; unfold leftA runA kernelRun0_A; dsimp only; frame_out
  unfold tapS
  refine stored (f := added (gblk m c t) (xs m c t))
    [29, 21, 13, 5, 28, 20, 12, 4, 27, 19, 11, 3, 26, 18, 10, 2, 25, 17, 9, 1, 24, 16, 8, 0, 23, 15, 7, 30, 22, 14, 6] (by decide) ?_ a k
  clear a k
  have more := @fresh (added (gblk m c t) (xs m c t))
  refine more _ (by decide) _ _ _ (by decide) (fun k => tap_29 _ _ _ k _ fun j => band_read m c t _ _ (by decide) j k) ?_
  refine more _ (by decide) _ _ _ (by decide) (fun k => tap_21 _ _ _ k _ fun j => band_read m c t _ _ (by decide) j k) ?_
  refine more _ (by decide) _ _ _ (by decide) (fun k => tap_13 _ _ _ k _ fun j => band_read m c t _ _ (by decide) j k) ?_
  refine more _ (by decide) _ _ _ (by decide) (fun k => tap_5 _ _ _ k _ fun j => band_read m c t _ _ (by decide) j k) ?_
  refine more _ (by decide) _ _ _ (by decide) (fun k => tap_28 _ _ _ k _ fun j => band_read m c t _ _ (by decide) j k) ?_
  refine more _ (by decide) _ _ _ (by decide) (fun k => tap_20 _ _ _ k _ fun j => band_read m c t _ _ (by decide) j k) ?_
  refine more _ (by decide) _ _ _ (by decide) (fun k => tap_12 _ _ _ k _ fun j => band_read m c t _ _ (by decide) j k) ?_
  refine more _ (by decide) _ _ _ (by decide) (fun k => tap_4 _ _ _ k _ fun j => band_read m c t _ _ (by decide) j k) ?_
  refine more _ (by decide) _ _ _ (by decide) (fun k => tap_27 _ _ _ k _ fun j => band_read m c t _ _ (by decide) j k) ?_
  refine more _ (by decide) _ _ _ (by decide) (fun k => tap_19 _ _ _ k _ fun j => band_read m c t _ _ (by decide) j k) ?_
  refine more _ (by decide) _ _ _ (by decide) (fun k => tap_11 _ _ _ k _ fun j => band_read m c t _ _ (by decide) j k) ?_
  refine more _ (by decide) _ _ _ (by decide) (fun k => tap_3 _ _ _ k _ fun j => band_read m c t _ _ (by decide) j k) ?_
  refine more _ (by decide) _ _ _ (by decide) (fun k => tap_26 _ _ _ k _ fun j => band_read m c t _ _ (by decide) j k) ?_
  refine more _ (by decide) _ _ _ (by decide) (fun k => tap_18 _ _ _ k _ fun j => band_read m c t _ _ (by decide) j k) ?_
  refine more _ (by decide) _ _ _ (by decide) (fun k => tap_10 _ _ _ k _ fun j => band_read m c t _ _ (by decide) j k) ?_
  refine more _ (by decide) _ _ _ (by decide) (fun k => tap_2 _ _ _ k _ fun j => band_read m c t _ _ (by decide) j k) ?_
  refine more _ (by decide) _ _ _ (by decide) (fun k => tap_25 _ _ _ k _ fun j => band_read m c t _ _ (by decide) j k) ?_
  refine more _ (by decide) _ _ _ (by decide) (fun k => tap_17 _ _ _ k _ fun j => band_read m c t _ _ (by decide) j k) ?_
  refine more _ (by decide) _ _ _ (by decide) (fun k => tap_9 _ _ _ k _ fun j => band_read m c t _ _ (by decide) j k) ?_
  refine more _ (by decide) _ _ _ (by decide) (fun k => tap_1 _ _ _ k _ fun j => band_read m c t _ _ (by decide) j k) ?_
  refine more _ (by decide) _ _ _ (by decide) (fun k => tap_24 _ _ _ k _ fun j => band_read m c t _ _ (by decide) j k) ?_
  refine more _ (by decide) _ _ _ (by decide) (fun k => tap_16 _ _ _ k _ fun j => band_read m c t _ _ (by decide) j k) ?_
  refine more _ (by decide) _ _ _ (by decide) (fun k => tap_8 _ _ _ k _ fun j => band_read m c t _ _ (by decide) j k) ?_
  refine more _ (by decide) _ _ _ (by decide) (fun k => tap_0 _ _ _ k _ fun j => band_read m c t _ _ (by decide) j k) ?_
  refine more _ (by decide) _ _ _ (by decide) (fun k => tap_23 _ _ _ k _ fun j => band_read m c t _ _ (by decide) j k) ?_
  refine more _ (by decide) _ _ _ (by decide) (fun k => tap_15 _ _ _ k _ fun j => band_read m c t _ _ (by decide) j k) ?_
  refine more _ (by decide) _ _ _ (by decide) (fun k => tap_7 _ _ _ k _ fun j => band_read m c t _ _ (by decide) j k) ?_
  refine more _ (by decide) _ _ _ (by decide) (fun k => tap_30 _ _ _ k _ fun j => band_read m c t _ _ (by decide) j k) ?_
  refine more _ (by decide) _ _ _ (by decide) (fun k => tap_22 _ _ _ k _ fun j => band_read m c t _ _ (by decide) j k) ?_
  refine more _ (by decide) _ _ _ (by decide) (fun k => tap_14 _ _ _ k _ fun j => band_read m c t _ _ (by decide) j k) ?_
  refine more _ (by decide) _ _ _ (by decide) (fun k => tap_6 _ _ _ k _ fun j => band_read m c t _ _ (by decide) j k) ?_
  exact fun a k => (Rows.canon_hit (Val := Elt Ideal) (e := .f32) inb_S31x1024_S31x1024_0_0 _ _ (ix2 a k) _ (Nat.zero_add _).symm rfl).trans
    ((zero_dw k a).trans (if_neg List.not_mem_nil).symm)

end Cert.Cv
end
-- ==== Proof.Cv.Final.lean ====
module

public import proofs.«01_k».proof.Proof.Cv.Dw

@[expose] public section

set_option maxRecDepth 16384
set_option maxHeartbeats 2000000

/-!
# What the convolution module's backward kernel leaves in its six result arrays
-/

noncomputable section

open Idealize Idealize.ShloMosaic Idealize.ShloMosaic.Pipeline Idealize.ShloMosaic.TcCoe Idealize.SL
open Cert.KernelCvIdeal Cert.KernelCvIdeal.Gen

namespace Cert.Cv

variable (m : (ℓ : Loc nD τ sig) → Buf (Elt Ideal) ℓ)

theorem split {n k : ℕ} (y : (⟨2, ![n, k]⟩ : Shape).Idx) : ∃ (i : Fin n) (j : Fin k), y = ix2 i j :=
  ⟨y 0, y 1, by funext a; match a with | ⟨0, _⟩ => rfl | ⟨1, _⟩ => rfl⟩

theorem da_final (c : Dev nD) : (dats m 0 c).arrAt 9 (cfgs 0).N
    = fun y : S2048x1024.Idx => dfirst (inA m c) (inW m c) (inC m c) (inD m c) (inLw m c) (inLb m c) (y 0) (y 1) := by
  refine (dats m 0 c).arrAt_eq_of_covers 9 _ (by decide +kernel) fun t hf y => ?_
  blk_simp
  rw [after0_9]
  obtain ⟨i, k, rfl⟩ := split (n := 256) (k := 1024) y
  refine (da_at m c t i k).trans ?_
  have h0 : grow t i = ((View.whole main_v85_0).slice (win0_9.rect t)).emb (ix2 i k) 0 := by
    apply Fin.ext; unfold grow; blk_simp [idx t]
  have h1 : k = ((View.whole main_v85_0).slice (win0_9.rect t)).emb (ix2 i k) 1 := by
    apply Fin.ext; blk_simp [idx t]
  exact congrArg₂ (dfirst (inA m c) (inW m c) (inC m c) (inD m c) (inLw m c) (inLb m c)) h0 h1

theorem db_final (c : Dev nD) : (dats m 0 c).arrAt 10 (cfgs 0).N
    = fun y : S2048x1024.Idx => dsecond (inA m c) (inW m c) (inC m c) (inD m c) (inLw m c) (inLb m c) (y 0) (y 1) := by
  refine (dats m 0 c).arrAt_eq_of_covers 10 _ (by decide +kernel) fun t hf y => ?_
  blk_simp
  rw [after0_10]
  obtain ⟨i, k, rfl⟩ := split (n := 256) (k := 1024) y
  refine (db_at m c t i k).trans ?_
  have h0 : grow t i = ((View.whole main_v85_1).slice (win0_10.rect t)).emb (ix2 i k) 0 := by
    apply Fin.ext; unfold grow; blk_simp [idx t]
  have h1 : k = ((View.whole main_v85_1).slice (win0_10.rect t)).emb (ix2 i k) 1 := by
    apply Fin.ext; blk_simp [idx t]
  exact congrArg₂ (dsecond (inA m c) (inW m c) (inC m c) (inD m c) (inLw m c) (inLb m c)) h0 h1

/-- The eight points visit the blocks of rows from the last to the first. -/
theorem sum_rows (f : Fin 2048 → EReal) (t : Fin cfg0.N) (hr : t.val % 8 = 8 - 1) :
    ∑ s : Fin 8, ∑ i : Fin 256, f (grow ⟨8 * (t.val / 8) + s.val, Pipeline.run_point_lt_of_flush t hr s⟩ i) = ∑ n, f n := by
  rw [← Equiv.sum_comp Fin.revPerm]
  refine Fin.sum_mul_add_congr (S := 8) (n := 256) fun s i hl => congrArg f (Fin.ext ?_)
  have := lt_8 t
  show (7 - (8 * (t.val / 8) + (Fin.revPerm s).val)) * 256 + i.val = _
  rw [Fin.revPerm_apply, Fin.val_rev]
  have : 7 - (8 * (t.val / 8) + (8 - (s.val + 1))) = s.val := by omega
  rw [this]

/-- What starts at zero at the first point and grows at every point holds, at the last, a sum over all rows. -/
theorem grown {ι : Type} (g : ℕ → ι → EReal) (term : Fin 2048 → ι → EReal)
    (first : ∀ t : Fin cfg0.N, t.val % 8 = 0 → ∀ y, g t.val y = 0 + ∑ i, term (grow t i) y)
    (next : ∀ t : Fin cfg0.N, ¬ t.val % 8 = 0 → ∀ y, g t.val y = g (t.val - 1) y + ∑ i, term (grow t i) y)
    (t : Fin cfg0.N) (hr : t.val % 8 = 7) (y : ι) : g t.val y = ∑ n, term n y := by
  refine (Pipeline.eq_sum_fin_of_reset_step_apply_of_flush (fun n (_ : n < cfg0.N) y => g n y) 8 (fun _ => 0)
    (fun t y => ∑ i, term (grow t i) y) first next t hr y).trans ?_
  rw [zero_add]
  exact sum_rows (fun n => term n y) t hr

/-- What a point adds to the gradient of a tap, row by row. -/
theorem tapS_rows (c : Dev nD) (t : Fin cfg0.N) (r : ℕ) (k : Fin 1024) :
    tapS m c t r k = ∑ i : Fin 256, go m c k (grow t i).val * padded (inA m c) k ((grow t i).val + r) := by
  unfold tapS added
  refine Finset.sum_congr rfl fun i _ => ?_
  rw [gblk_at]
  refine congrArg (fun x => go m c k ((7 - t.val) * 256 + i.val) * padded (inA m c) k x) ?_
  show (7 - t.val) * 256 + (r + 2 + i.val) - 2 = (7 - t.val) * 256 + i.val + r
  omega

/-- The gradient of a tap. -/
def dtapK (c : Dev nD) (r : Fin 31) (k : Fin 1024) : EReal := dtap (inA m c) (inC m c) (inD m c) (inLw m c) (inLb m c) r.val k

theorem dw_final (c : Dev nD) : (dats m 0 c).arrAt 11 (cfgs 0).N
    = fun y : S31x1024.Idx => dtapK m c (y 0) (y 1) := by
  refine (dats m 0 c).arrAt_eq_of_covers 11 _ (by decide +kernel) fun t hf y => ?_
  blk_simp
  rw [after0_11]
  obtain ⟨a, k, rfl⟩ := split (n := 31) (k := 1024) y
  refine (grown (fun n (y : Fin 31 × Fin 1024) => (left m c n).dw (ix2 y.1 y.2))
    (fun n y => go m c y.2 n.val * padded (inA m c) y.2 (n.val + y.1.val))
    (fun t h y => (tap_first m c t h y.1 y.2).trans (congrArg (0 + ·) (tapS_rows m c t _ _)))
    (fun t h y => (tap_next m c t h y.1 y.2).trans (congrArg (_ + ·) (tapS_rows m c t _ _))) t ((flush0_11 t).mp hf) (a, k)).trans ?_
  have h0 : a = ((View.whole main_v85_2).slice (win0_11.rect t)).emb (ix2 a k) 0 := by
    apply Fin.ext; blk_simp [idx t]
  have h1 : k = ((View.whole main_v85_2).slice (win0_11.rect t)).emb (ix2 a k) 1 := by
    apply Fin.ext; blk_simp [idx t]
  exact congrArg₂ (dtapK m c) h0 h1

theorem bias_final (c : Dev nD) : (dats m 0 c).arrAt 12 (cfgs 0).N
    = fun y : S1x1024.Idx => dbias (inC m c) (inD m c) (inLw m c) (inLb m c) (y 1) := by
  refine (dats m 0 c).arrAt_eq_of_covers 12 _ (by decide +kernel) fun t hf y => ?_
  blk_simp
  rw [after0_12]
  obtain ⟨a, k, rfl⟩ := split (n := 1) (k := 1024) y
  obtain rfl := Subsingleton.elim a 0
  refine (grown (fun n k => (left m c n).dbdw (ix2 0 k))
    (fun n k => grad (mrow (inC m c) n) (inLw m c) (inLb m c) (mrow (inD m c) n) k) (bias_first m c) (bias_next m c) t ((flush0_12 t).mp hf) k).trans ?_
  exact congrArg (dbias (inC m c) (inD m c) (inLw m c) (inLb m c))
    (show k = ((View.whole main_v85_3).slice (win0_12.rect t)).emb (ix2 0 k) 1 by apply Fin.ext; blk_simp [idx t])

theorem scale_final (c : Dev nD) : (dats m 0 c).arrAt 13 (cfgs 0).N
    = fun y : S1x1024.Idx => dscale (inC m c) (inD m c) (inLw m c) (inLb m c) (y 1) := by
  refine (dats m 0 c).arrAt_eq_of_covers 13 _ (by decide +kernel) fun t hf y => ?_
  blk_simp
  rw [after0_13]
  obtain ⟨a, k, rfl⟩ := split (n := 1) (k := 1024) y
  obtain rfl := Subsingleton.elim a 0
  refine (grown (fun n k => (left m c n).dlnw (ix2 0 k))
    (fun n k => nrm (mrow (inC m c) n) k * cot (mrow (inC m c) n) (inLw m c) (inLb m c) (mrow (inD m c) n) k) (scale_first m c) (scale_next m c) t ((flush0_13 t).mp hf) k).trans ?_
  exact congrArg (dscale (inC m c) (inD m c) (inLw m c) (inLb m c))
    (show k = ((View.whole main_v85_4).slice (win0_13.rect t)).emb (ix2 0 k) 1 by apply Fin.ext; blk_simp [idx t])

theorem shift_final (c : Dev nD) : (dats m 0 c).arrAt 14 (cfgs 0).N
    = fun y : S1x1024.Idx => dshift (inC m c) (inD m c) (inLw m c) (inLb m c) (y 1) := by
  refine (dats m 0 c).arrAt_eq_of_covers 14 _ (by decide +kernel) fun t hf y => ?_
  blk_simp
  rw [after0_14]
  obtain ⟨a, k, rfl⟩ := split (n := 1) (k := 1024) y
  obtain rfl := Subsingleton.elim a 0
  refine (grown (fun n k => (left m c n).dlnb (ix2 0 k))
    (fun n k => cot (mrow (inC m c) n) (inLw m c) (inLb m c) (mrow (inD m c) n) k) (shift_first m c) (shift_next m c) t ((flush0_14 t).mp hf) k).trans ?_
  exact congrArg (dshift (inC m c) (inD m c) (inLw m c) (inLb m c))
    (show k = ((View.whole main_v85_5).slice (win0_14.rect t)).emb (ix2 0 k) 1 by apply Fin.ext; blk_simp [idx t])

end Cert.Cv
end
-- ==== Proof.Cv.Reference.lean ====
module

public import proofs.«01_k».proof.Proof.Cv.Sums
public import proofs.«01_k».proof.Proof.Gen.ReferenceCvIdeal.Run
public import proofs.«01_k».proof.Proof.Gen.ReferenceCvIdeal.Read
public import Idealize.ShloMosaic.Lib.Pipeline.ValueKit
public import Idealize.ShloMosaic.Lib.Pointwise

@[expose] public section

set_option maxRecDepth 16384

/-!
# What the reference of the convolution module's gradient computes, entry by entry
-/

noncomputable section

open Idealize Idealize.ShloMosaic Idealize.ShloMosaic.TcCoe Idealize.SL
open Cert.ReferenceCvIdeal Cert.ReferenceCvIdeal.Gen Cert.ReferenceCvIdeal.Read

namespace Cert.Cv

variable (A : Vec Ideal S2048x2048 .f32) (W : Vec Ideal S31x1024 .f32) (u : Vec Ideal S1024 .f32) (w b : Vec Ideal S1024 .f32)
  (D : Vec Ideal S2048x1024 .f32)

/-- The convolution's output with its bias. -/
abbrev conv : Mat 2048 1024 := val_main_v86 (F := Ideal) A W u
/-- A vector as a row. -/
abbrev vrow (x : Vec Ideal S1024 .f32) : Row := fun k => x (ix1 k)

theorem ref_cen (n : Fin 2048) (k : Fin 1024) : val_main_v92 (F := Ideal) A W u (ix2 n k) = cen (mrow (conv A W u) n) k := by
  pointwise [val_main_v92, val_main_v91, val_main_v90, val_main_v89, val_main_v88, val_main_v87, val_main_cst_5, val_main_cst_6, cen, mrow, len]

theorem ref_var (n : Fin 2048) (j : Fin 1) : val_main_v99 (F := Ideal) A W u (ix2 n j) = var (mrow (conv A W u) n) := by
  pointwise [val_main_v99, val_main_v98, val_main_v97, val_main_v96, val_main_v95, val_main_v94, val_main_v93, val_main_cst_7, val_main_cst_8,
    val_main_cst_9, ref_cen, var, len, small]

theorem ref_inv (n : Fin 2048) (j : Fin 1) : val_main_v100 (F := Ideal) A W u (ix2 n j) = inv (mrow (conv A W u) n) := by
  pointwise [val_main_v100, ref_var, inv]

theorem ref_half (n : Fin 2048) (j : Fin 1) : val_main_v103 (F := Ideal) A W u (ix2 n j)
    = mhalf * Ideal.div (inv (mrow (conv A W u) n)) (var (mrow (conv A W u) n)) := by
  pointwise [val_main_v103, val_main_v102, val_main_v101, val_main_cst_10, ref_inv, ref_var, mhalf]

theorem ref_nrm (n : Fin 2048) (k : Fin 1024) : val_main_v105 (F := Ideal) A W u (ix2 n k) = nrm (mrow (conv A W u) n) k := by
  pointwise [val_main_v105, val_main_v104, ref_cen, ref_inv, nrm]

theorem ref_pre (n : Fin 2048) (k : Fin 1024) : val_main_v111 (F := Ideal) A W u w b (ix2 n k) = pre (mrow (conv A W u) n) (vrow w) (vrow b) k := by
  pointwise [val_main_v111, val_main_v110, val_main_v109, val_main_v108, val_main_v107, val_main_v106, ref_nrm, pre, vrow]

theorem ref_cot (n : Fin 2048) (k : Fin 1024) : val_main_v113 (F := Ideal) A W u w b D (ix2 n k)
    = cot (mrow (conv A W u) n) (vrow w) (vrow b) (mrow D n) k := by
  pointwise [val_main_v113, val_main_call1_v2, val_main_call1_v1, val_main_call1_v0, val_main_v112_1, val_main_v112_2, val_main_call0_v7,
    val_main_call0_v6, val_main_call0_cst_1, val_main_call0_v4, val_main_call0_cst_0, val_main_call0_v3, val_main_call0_v2, val_main_call0_cst,
    val_main_call0_v1, val_main_call0_v0, ref_pre, cot, gate, lgs, mrow]

theorem ref_gz (n : Fin 2048) (k : Fin 1024) : val_main_v121 (F := Ideal) A W u w b D (ix2 n k)
    = cot (mrow (conv A W u) n) (vrow w) (vrow b) (mrow D n) k * vrow w k := by
  pointwise [val_main_v121, val_main_v120, val_main_v106, ref_cot, vrow]

theorem ref_thr (n : Fin 2048) : val_main_v131 (F := Ideal) A W u w b D (ix1 n)
    = thr (mrow (conv A W u) n) (fun k => cot (mrow (conv A W u) n) (vrow w) (vrow b) (mrow D n) k * vrow w k) := by
  pointwise [val_main_v131, val_main_v130, val_main_v129, val_main_v128, val_main_v125, val_main_v124, val_main_v123, val_main_cst_15, val_main_cst_16,
    val_main_cst_17, ref_cen, ref_gz, ref_half, thr, len, Fin.sum_univ_one]

theorem ref_toCen (n : Fin 2048) (k : Fin 1024) : val_main_v136 (F := Ideal) A W u w b D (ix2 n k)
    = toCen (mrow (conv A W u) n) (fun k => cot (mrow (conv A W u) n) (vrow w) (vrow b) (mrow D n) k * vrow w k) k := by
  pointwise [val_main_v136, val_main_v135, val_main_v134, val_main_v133, val_main_v132, val_main_v127, val_main_v126, ref_cen, ref_gz, ref_inv, ref_thr, toCen]

theorem ref_grad (n : Fin 2048) (k : Fin 1024) : val_main_v144 (F := Ideal) A W u w b D (ix2 n k)
    = grad (mrow (conv A W u) n) (vrow w) (vrow b) (mrow D n) k := by
  pointwise [val_main_v144, val_main_v143, val_main_v142, val_main_v141, val_main_v140, val_main_v139, val_main_v138, val_main_v137, val_main_cst_18,
    val_main_cst_19, val_main_cst_20, ref_toCen, grad, toRow, len, Fin.sum_univ_one]

theorem ref_bias (k : Fin 1024) : val_main_v286 (F := Ideal) A W u w b D (ix2 0 k) = dbias (conv A W u) D (vrow w) (vrow b) k := by
  pointwise [val_main_v286, val_main_v147, val_main_v146, val_main_v145, val_main_cst_21, val_main_cst_22, ref_grad, dbias, Fin.sum_univ_one]

theorem ref_scale (k : Fin 1024) : val_main_v287 (F := Ideal) A W u w b D (ix2 0 k) = dscale (conv A W u) D (vrow w) (vrow b) k := by
  pointwise [val_main_v287, val_main_v122, val_main_v119, val_main_v118, val_main_v117, val_main_cst_13, val_main_cst_14, ref_cot, ref_nrm, dscale, Fin.sum_univ_one]

theorem ref_shift (k : Fin 1024) : val_main_v288 (F := Ideal) A W u w b D (ix2 0 k) = dshift (conv A W u) D (vrow w) (vrow b) k := by
  pointwise [val_main_v288, val_main_v116, val_main_v115, val_main_v114, val_main_cst_11, val_main_cst_12, ref_cot, dshift, Fin.sum_univ_one]

theorem ref_lgs (n : Fin 2048) (k : Fin 1024) : val_main_v7 (F := Ideal) A (ix2 n k) = lgs (A (ix2 n (hi k))) := by
  pointwise [val_main_v7, val_main_v6, val_main_v5, val_main_v4, val_main_v3, val_main_v2, val_main_v1, val_main_cst, val_main_cst_0, lgs, hi]

theorem ref_gated (n : Fin 2048) (k : Fin 1024) : val_main_v11 (F := Ideal) A (ix2 n k) = gated A n k := by
  pointwise [val_main_v11, val_main_v0, ref_lgs, gated, lo]

theorem ref_padded (j : Fin 2078) (k : Fin 1024) : val_main_v13 (F := Ideal) A (ix2 j k) = padded A k j.val := by
  pointwise [val_main_v13, val_main_v12, val_main_cst_2, ref_gated, padded]
  by_cases h : j.val < 30
  · rw [dif_pos h, dif_neg (by omega)]
  · rw [dif_neg h, dif_pos (by omega)]

theorem ref_slice {r : ℕ} (hs) (n : Fin 2048) (k : Fin 1024) (hr : r + n.val < 2078) :
    extractStridedSlice S2048x1024 ![r, 0] (val_main_v13 (F := Ideal) A) hs (ix2 n k) = padded A k (n.val + r) := by
  rw [add_comm]
  refine Eq.trans ?_ (ref_padded A ⟨r + n.val, hr⟩ k)
  pointwise

theorem ref_copy {r : ℕ} (hs) (n : Fin 2048) (k : Fin 1024) (i : S1x2048x1024.Idx) (h1 : (i 1).val = n.val) (h2 : (i 2).val = k.val)
    (q : ℕ) (hq : q = r) (hr : r ≤ 30) :
    broadcastInDim S1x2048x1024 ![1, 2] bcast_S2048x1024_S1x2048x1024_1_2 (extractStridedSlice S2048x1024 ![r, 0] (val_main_v13 (F := Ideal) A) hs) i
      = padded A k (n.val + q) := by
  subst hq
  rw [← ref_slice A hs n k (by omega)]
  have e1 : i 1 = n := Fin.ext h1
  have e2 : i 2 = k := Fin.ext h2
  generalize extractStridedSlice S2048x1024 ![q, 0] (val_main_v13 (F := Ideal) A) hs = y
  rw [← e1, ← e2]
  pointwise

theorem ref_low (r : Fin 16) (n : Fin 2048) (k : Fin 1024) : val_main_v78 (F := Ideal) A (ix3 r n k) = padded A k (n.val + r.val) := by
  unfold val_main_v78
  concat_tiles i h
  all_goals exact ref_copy A _ n k i (by assumption) (by assumption) _ h (by decide)

theorem ref_high (r : Fin 15) (n : Fin 2048) (k : Fin 1024) : val_main_v79 (F := Ideal) A (ix3 r n k) = padded A k (n.val + (r.val + 16)) := by
  unfold val_main_v79
  concat_tiles i h
  all_goals exact ref_copy A _ n k i (by assumption) (by assumption) _ (congrArg (· + 16) h) (by decide)

theorem ref_stack (r : Fin 31) (n : Fin 2048) (k : Fin 1024) : val_main_v80 (F := Ideal) A (ix3 r n k) = padded A k (n.val + r.val) := by
  pointwise [val_main_v80]
  by_cases h : r.val < 16
  · rw [dif_pos h]
    exact ref_low A ⟨r.val, h⟩ n k
  · rw [dif_neg h]
    refine (ref_high A ⟨r.val - 16, by omega⟩ n k).trans (congrArg _ ?_)
    show n.val + (r.val - 16 + 16) = n.val + r.val
    omega

/-- A row of the gradient, rows numbered from 0. -/
theorem gout_of (C : Mat 2048 1024) (lw lb : Row) (n : Fin 2048) (k : Fin 1024) :
    gout C D lw lb k n.val = grad (mrow C n) lw lb (mrow D n) k := dif_pos n.isLt

theorem ref_tap (r : Fin 31) (k : Fin 1024) : val_main_v277 (F := Ideal) A W u w b D (ix2 r k) = dtap A (conv A W u) D (vrow w) (vrow b) r.val k := by
  pointwise [val_main_v277, val_main_v153, val_main_v152, val_main_v151, val_main_v148, val_main_cst_23, val_main_cst_55, ref_grad, ref_stack, dtap,
    gout_of, Fin.sum_univ_one]

/-- One tap's rows of the gradient, -/
theorem ref_part {x : ℕ} (hs) (hx : x < 31) (n : Fin 2048) (k : Fin 1024) :
    shapeCast S2048x1024 (extractStridedSlice S1x2048x1024 ![x, 0, 0] (val_main_v150 (F := Ideal) A W u w b D) hs) shapeCasts_S1x2048x1024_S2048x1024 (ix2 n k)
      = W (ix2 ⟨x, hx⟩ k) * gout (conv A W u) D (vrow w) (vrow b) k n.val := by
  rw [gout_of, ← ref_grad]
  pointwise [val_main_v150, val_main_v149, val_main_v148, val_main_v15]

/-- moved down by its distance. -/
theorem ref_moved {x y : ℕ} (hs) (hp) (z : Vec Ideal S_ .f32) (hz : z = constant (F := Ideal) S_ .f32 0#32) (hx : x < 31) (n : Fin 2048) (k : Fin 1024) :
    pad S2078x1024 ![x, 0] ![y, 0] ![0, 0] (shapeCast S2048x1024 (extractStridedSlice S1x2048x1024 ![x, 0, 0] (val_main_v150 (F := Ideal) A W u w b D) hs)
        shapeCasts_S1x2048x1024_S2048x1024) z hp h_S_ (ix2 ⟨30 + n.val, by omega⟩ k)
      = W (ix2 ⟨x, hx⟩ k) * gout (conv A W u) D (vrow w) (vrow b) k (30 - x + n.val) := by
  have key := fun i => ref_part A W u w b D hs hx i k
  generalize shapeCast S2048x1024 (extractStridedSlice S1x2048x1024 ![x, 0, 0] (val_main_v150 (F := Ideal) A W u w b D) hs)
        shapeCasts_S1x2048x1024_S2048x1024 = P at key
  subst hz
  pointwise
  by_cases h : 30 + n.val - x < 2048
  · rw [dif_pos ⟨by omega, h⟩]
    exact (key _).trans (congrArg (fun q => W (ix2 ⟨x, hx⟩ k) * gout (conv A W u) D (vrow w) (vrow b) k q) (show 30 + n.val - x = 30 - x + n.val by omega))
  · rw [dif_neg fun h' => h h'.2]
    unfold gout
    rw [dif_neg (by omega), mul_zero]

theorem ref_gz2 (n : Fin 2048) (k : Fin 1024) : val_main_v279 (F := Ideal) A W u w b D (ix2 n k)
    = dgated W (conv A W u) D (vrow w) (vrow b) k n.val := by
  unfold dgated
  rw [← by_falling]
  refine Eq.trans (b := val_main_v276 (F := Ideal) A W u w b D (ix2 ⟨30 + n.val, by omega⟩ k)) (by pointwise [val_main_v279]) ?_
  iterate 30 refine congrArg₂ (fun p q : EReal => p + q) ?_ (ref_moved A W u w b D _ _ _ rfl (by decide) n k)
  exact ref_moved A W u w b D _ _ _ rfl (by decide) n k

theorem ref_first (n : Fin 2048) (k : Fin 1024) : val_main_v285 (F := Ideal) A W u w b D (ix2 n (lo k))
    = dfirst A W (conv A W u) D (vrow w) (vrow b) n k := by
  unfold dfirst
  rw [← ref_gz2, ← ref_lgs]
  pointwise [val_main_v285, val_main_v284, val_main_v283, val_main_cst_56, val_main_cst_57, val_main_v281]
  rw [dif_neg fun h => h.1, zero_add]

theorem ref_second (n : Fin 2048) (k : Fin 1024) : val_main_v285 (F := Ideal) A W u w b D (ix2 n (hi k))
    = dsecond A W (conv A W u) D (vrow w) (vrow b) n k := by
  unfold dsecond
  rw [← ref_gz2, ← ref_lgs]
  pointwise [val_main_v285, val_main_v284, val_main_v283, val_main_cst_56, val_main_cst_57, val_main_v282, val_main_v280, val_main_v10, val_main_v9, val_main_v8, val_main_cst_1, val_main_v0]
  rw [mul_comm (A _), ← mul_assoc]

end Cert.Cv
end
-- ==== Proof.Cv.Value.lean ====
module

public import proofs.«01_k».proof.Proof.Cv.Final
public import proofs.«01_k».proof.Proof.Cv.Host
public import proofs.«01_k».proof.Proof.Cv.Reference

@[expose] public section

set_option maxRecDepth 16384
set_option maxHeartbeats 2000000

/-!
# The gradients of the convolution module: the reference's results are what the kernel leaves
-/

noncomputable section

open Idealize Idealize.ShloMosaic Idealize.ShloMosaic.Pipeline Idealize.ShloMosaic.TcCoe Idealize.SL
open Cert.KernelCvIdeal Cert.KernelCvIdeal.Gen

namespace Cert.Cv

open Cert.ReferenceCvIdeal.Read

variable (m : (ℓ : Loc nD τ sig) → Buf (Elt Ideal) ℓ)

/-- The taps' bias, -/
abbrev inU (c : Dev nD) : Vec Ideal S1024 .f32 := m ((c : Thread nD τ).loc main_arg2)
/-- the norm's weight and its bias. -/
abbrev vecW (c : Dev nD) : Vec Ideal S1024 .f32 := m ((c : Thread nD τ).loc main_arg3)
abbrev vecB (c : Dev nD) : Vec Ideal S1024 .f32 := m ((c : Thread nD τ).loc main_arg4)

theorem conv_host (c : Dev nD) : conv (inA m c) (inW m c) (inU m c) = inC m c := (V_conv m c).symm

theorem tap_value (c : Dev nD) : val_main_v277 (F := Ideal) (inA m c) (inW m c) (inU m c) (vecW m c) (vecB m c) (inD m c)
    = (dats m 0 c).arrAt 11 (cfgs 0).N := by
  rw [dw_final]
  funext y
  obtain ⟨r, k, rfl⟩ := split (n := 31) (k := 1024) y
  refine (ref_tap _ _ _ _ _ _ r k).trans ?_
  rw [conv_host]
  rfl

theorem bias_value (c : Dev nD) : val_main_v286 (F := Ideal) (inA m c) (inW m c) (inU m c) (vecW m c) (vecB m c) (inD m c)
    = (dats m 0 c).arrAt 12 (cfgs 0).N := by
  rw [bias_final]
  funext y
  obtain ⟨r, k, rfl⟩ := split (n := 1) (k := 1024) y
  obtain rfl := Subsingleton.elim r 0
  refine (ref_bias _ _ _ _ _ _ k).trans ?_
  rw [conv_host]
  rfl

theorem scale_value (c : Dev nD) : val_main_v287 (F := Ideal) (inA m c) (inW m c) (inU m c) (vecW m c) (vecB m c) (inD m c)
    = (dats m 0 c).arrAt 13 (cfgs 0).N := by
  rw [scale_final]
  funext y
  obtain ⟨r, k, rfl⟩ := split (n := 1) (k := 1024) y
  obtain rfl := Subsingleton.elim r 0
  refine (ref_scale _ _ _ _ _ _ k).trans ?_
  rw [conv_host]
  rfl

theorem shift_value (c : Dev nD) : val_main_v288 (F := Ideal) (inA m c) (inW m c) (inU m c) (vecW m c) (vecB m c) (inD m c)
    = (dats m 0 c).arrAt 14 (cfgs 0).N := by
  rw [shift_final]
  funext y
  obtain ⟨r, k, rfl⟩ := split (n := 1) (k := 1024) y
  obtain rfl := Subsingleton.elim r 0
  refine (ref_shift _ _ _ _ _ _ k).trans ?_
  rw [conv_host]
  rfl

/-- An array that several operands share is an input, left as it was. -/
theorem shared_in (c : Dev nD) (w w' : Fin cfg0.W) (hne : w ≠ w') (e : Pipeline.arrRef spec0 w = Pipeline.arrRef spec0 w') :
    (dats m 0 c).arrAt w (cfgs 0).N = V m c (Pipeline.arrRef spec0 w) := by
  have input : ∀ w w' : Fin cfg0.W, w ≠ w' → Pipeline.arrRef spec0 w = Pipeline.arrRef spec0 w' → (cfg0.win w).isOut = false := by decide
  exact ((dats m 0 c).arrAt_in w (input w w' hne e) _).trans (A_eq m c w)

/-- The two halves of the input's gradient, side by side. -/
def halves (c : Dev nD) : Vec Ideal S2048x2048 .f32 :=
  concatenate S2048x2048 1 [⟨S2048x1024, fun y : S2048x1024.Idx => dfirst (inA m c) (inW m c) (inC m c) (inD m c) (inLw m c) (inLb m c) (y 0) (y 1)⟩,
    ⟨S2048x1024, fun y : S2048x1024.Idx => dsecond (inA m c) (inW m c) (inC m c) (inD m c) (inLw m c) (inLb m c) (y 0) (y 1)⟩]
    concatenates_S2048x1024_S2048x1024_S2048x2048_d1

theorem halves_value (c : Dev nD) : val_main_v285 (F := Ideal) (inA m c) (inW m c) (inU m c) (vecW m c) (vecB m c) (inD m c) = halves m c := by
  funext y
  obtain ⟨n, k, rfl⟩ := split (n := 2048) (k := 2048) y
  by_cases h : k.val < 1024
  · refine (ref_first (inA m c) (inW m c) (inU m c) (vecW m c) (vecB m c) (inD m c) n ⟨k.val, h⟩).trans ?_
    rw [conv_host]
    unfold halves
    pointwise []
    rw [dif_pos h]
  · obtain ⟨j, rfl⟩ : ∃ j, k = hi j := ⟨⟨k.val - 1024, by omega⟩, Fin.ext (show k.val = 1024 + (k.val - 1024) by omega)⟩
    refine (ref_second (inA m c) (inW m c) (inU m c) (vecW m c) (vecB m c) (inD m c) n j).trans ?_
    rw [conv_host]
    unfold halves
    pointwise []

theorem halves_tail (c : Dev nD) : Pipeline.afterTail₀ cfgs (dats m) 0 (V0 m) [hostOps1] c main_v86 = halves m c := by
  have e0 := (Pipeline.withArrays_arr_shared spec0 c (V0 m c) (fun w => (dats m 0 c).arrAt w (cfgs 0).N) (shared_in m c) 9).trans (da_final m c)
  have e1 := (Pipeline.withArrays_arr_shared spec0 c (V0 m c) (fun w => (dats m 0 c).arrAt w (cfgs 0).N) (shared_in m c) 10).trans (db_final m c)
  unfold halves
  rw [← e0, ← e1]
  show StableHlo.after _ _ _ = _
  simp only [List.flatten_cons, List.flatten_nil, List.append_nil, hostOps1]
  after_results

end Cert.Cv
end
-- ==== Proof.Cv.Claim.lean ====
module

public import proofs.«01_k».proof.Defs
public import proofs.«01_k».proof.Proof.Gen.KernelCv
public import proofs.«01_k».proof.Proof.Gen.ReferenceCvIdeal
public import proofs.«01_k».proof.Proof.Gen.ReferenceCvIdeal.Read
public import proofs.«01_k».proof.Proof.Cv.Value

@[expose] public section

set_option maxRecDepth 16384
set_option maxHeartbeats 2000000

/-!
# The gradients of the convolution module: kernel and reference agree
-/

noncomputable section

open Idealize Idealize.ShloMosaic Idealize.ShloMosaic.Pipeline Idealize.ShloMosaic.TcCoe Idealize.SL Idealize.SL.Sem

namespace Cert.Cv

open Cert.ReferenceCvIdeal.Read

/-- The frame of the printed program: the same text as the one the run is proved for, at bit patterns. -/
theorem frame_bits : Cert.quiescent_KernelCv (hKernelCv := Cert.KernelCv.Gen.facts) := fun m ρ _ =>
  Eq.mp (by sl_kernel_rfl) (frame (F := Bits) m ρ)

/-- The frame of the reference: its counters are zero because it declares no semaphore. -/
theorem frame_reference : Cert.quiescent_ReferenceCvIdeal (hReferenceCvIdeal := Cert.ReferenceCvIdeal.Gen.facts) := fun m ρ _ =>
  (θ_run Cert.ReferenceCvIdeal.defs _ _).mono (fun r h => ⟨fun c => (h c).2.2.2.2.2, sem_eq_zero_of_no_sems (by decide) r.2⟩)
    (Cert.ReferenceCvIdeal.Value.run m ρ)

/-- The claim of equal results. -/
theorem algebraic : Cert.algebraic_KernelCvIdeal_ReferenceCvIdeal (hKernelCvIdeal := Cert.KernelCvIdeal.Gen.facts)
    (hReferenceCvIdeal := Cert.ReferenceCvIdeal.Gen.facts) := by
  intro m ρ m' ρ' _ hargs
  refine ⟨fun c => halves m c, fun c => (dats m 0 c).arrAt 11 (Cert.KernelCvIdeal.cfgs 0).N,
    fun c => (dats m 0 c).arrAt 12 (Cert.KernelCvIdeal.cfgs 0).N, fun c => (dats m 0 c).arrAt 13 (Cert.KernelCvIdeal.cfgs 0).N,
    fun c => (dats m 0 c).arrAt 14 (Cert.KernelCvIdeal.cfgs 0).N, ?_, ?_⟩
  · refine (θ_run _ _ _).mono (fun r h c => ?_) (θ_run_and ((θ_run _ _ _).mono (fun _ h => h.1) (run_main m ρ)) (frame m ρ))
    exact ⟨((h.1 c).2 Cert.KernelCvIdeal.main_v86 (Pipeline.mem_restRefs_of Cert.KernelCvIdeal.main_v86 (by decide) (by decide))).trans (halves_tail m c),
      (h.1 c).1 11, (h.1 c).1 12, (h.1 c).1 13, (h.1 c).1 14, h.2.1 c⟩
  · refine (θ_run _ _ _).mono (fun r h c => ?_) (Cert.ReferenceCvIdeal.Value.run m' ρ')
    obtain ⟨h0, h1, h2, h3, h4, h5⟩ := h c
    obtain ⟨a0, a1, a2, a3, a4, a5⟩ := hargs c
    have args : ∀ {γ : Type} (f : Vec Ideal Cert.KernelCvIdeal.S2048x2048 .f32 → Vec Ideal Cert.KernelCvIdeal.S31x1024 .f32 →
        Vec Ideal Cert.KernelCvIdeal.S1024 .f32 → Vec Ideal Cert.KernelCvIdeal.S1024 .f32 → Vec Ideal Cert.KernelCvIdeal.S1024 .f32 →
        Vec Ideal Cert.KernelCvIdeal.S2048x1024 .f32 → γ), f _ _ _ _ _ _ = f _ _ _ _ _ _ :=
      fun f => congr (congr (congr (congr (congrArg₂ f a0 a1) a2) a3) a4) a5
    refine ⟨h0.trans ?_, h1.trans ?_, h2.trans ?_, h3.trans ?_, h4.trans ?_, h5⟩
    · exact (val_main_v285_eq (StableHlo.launchContents m' c)).trans ((args (val_main_v285 (F := Ideal))).trans (halves_value m c))
    · exact (val_main_v277_eq (StableHlo.launchContents m' c)).trans ((args (val_main_v277 (F := Ideal))).trans (tap_value m c))
    · exact (val_main_v286_eq (StableHlo.launchContents m' c)).trans ((args (val_main_v286 (F := Ideal))).trans (bias_value m c))
    · exact (val_main_v287_eq (StableHlo.launchContents m' c)).trans ((args (val_main_v287 (F := Ideal))).trans (scale_value m c))
    · exact (val_main_v288_eq (StableHlo.launchContents m' c)).trans ((args (val_main_v288 (F := Ideal))).trans (shift_value m c))

end Cert.Cv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelDnc
public import proofs.«01_k».proof.Proof.Gen.KernelDnc.Skeleton
public import proofs.«01_k».proof.Proof.Gen.KernelDnc.Launch
public import proofs.«01_k».proof.Proof.Gen.KernelDnc.Points
public import proofs.«01_k».proof.Proof.Gen.KernelDnc.Frame
public import proofs.«01_k».proof.Proof.Gen.KernelDncIdeal
public import proofs.«01_k».proof.Proof.Gen.KernelDncIdeal.Skeleton
public import proofs.«01_k».proof.Proof.Gen.KernelDncIdeal.Launch
public import proofs.«01_k».proof.Proof.Gen.KernelDncIdeal.Points
public import proofs.«01_k».proof.Proof.Gen.KernelDncIdeal.Frame
public import proofs.«01_k».proof.Proof.Gen.ReferenceDncIdeal
public import proofs.«01_k».proof.Proof.Gen.Pre_dout_finite
public import proofs.«01_k».proof.Proof.Gen.KernelIdeal.Value
public import proofs.«01_k».proof.Proof.Gen.KernelDncIdeal.Value
public import proofs.«01_k».proof.Proof.Gen.ReferenceIdeal.Read
public import proofs.«01_k».proof.Proof.Gen.ReferenceDncIdeal.Read
public import proofs.«01_k».proof.Proof.Gen.KernelPw
public import proofs.«01_k».proof.Proof.Gen.KernelPwIdeal
public import proofs.«01_k».proof.Proof.Gen.KernelPwIdeal.Skeleton
public import proofs.«01_k».proof.Proof.Gen.KernelPwIdeal.Launch
public import proofs.«01_k».proof.Proof.Gen.KernelPwIdeal.Points
public import proofs.«01_k».proof.Proof.Gen.KernelPwIdeal.Frame
public import proofs.«01_k».proof.Proof.Gen.ReferencePwIdeal
public import proofs.«01_k».proof.Proof.Gen.ReferencePwIdeal.Read
public import proofs.«01_k».proof.Proof.Gen.KernelIn
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Read
public import proofs.«01_k».proof.Proof.Gen.KernelFfn
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Read
public import proofs.«01_k».proof.Proof.Gen.Pre_ffn_finite
public import proofs.«01_k».proof.Proof.Gen.KernelAttn
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.ReferenceAttnIdeal
public import proofs.«01_k».proof.Proof.Gen.ReferenceAttnIdeal.Read
public import proofs.«01_k».proof.Proof.Gen.Pre_attn_finite
public import proofs.«01_k».proof.Proof.Gen.KernelCv
public import proofs.«01_k».proof.Proof.Gen.KernelCvIdeal
public import proofs.«01_k».proof.Proof.Gen.KernelCvIdeal.Skeleton
public import proofs.«01_k».proof.Proof.Gen.KernelCvIdeal.Launch
public import proofs.«01_k».proof.Proof.Gen.KernelCvIdeal.Points
public import proofs.«01_k».proof.Proof.Gen.ReferenceCvIdeal
public import proofs.«01_k».proof.Proof.Gen.ReferenceCvIdeal.Read
public import proofs.«01_k».proof.Proof.Loss.Claim
public import proofs.«01_k».proof.Proof.Dnc.Claim
public import proofs.«01_k».proof.Proof.Pw.Claim
public import proofs.«01_k».proof.Proof.In.Claim
public import proofs.«01_k».proof.Proof.Ffn.Claim
public import proofs.«01_k».proof.Proof.Attn.Claim
public import proofs.«01_k».proof.Proof.Cv.Claim
public import Idealize.ShloMosaic.Adequacy
public import Idealize.ShloMosaic.Init

@[expose] public section

noncomputable section

namespace Cert.Proof

open Idealize.ShloMosaic Idealize.SL.Sem Cert.Kernel

/-- The frame of the loss's reference: its counters are zero because it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run m ρ)

/-- The same for the convolution's reference. -/
theorem frame_reference_dnc : Cert.quiescent_ReferenceDncIdeal (hReferenceDncIdeal := Cert.ReferenceDncIdeal.Gen.facts) := fun m ρ _ =>
  (θ_run Cert.ReferenceDncIdeal.defs _ _).mono (fun r h => ⟨fun c => (h c).2.2, sem_eq_zero_of_no_sems (by decide) r.2⟩)
    (Cert.ReferenceDncIdeal.Value.run m ρ)

theorem claim : Cert.Claim := ⟨Cert.Kernel.Gen.facts, Cert.KernelIdeal.Gen.facts, Cert.ReferenceIdeal.Gen.facts, Cert.KernelDnc.Gen.facts, Cert.KernelDncIdeal.Gen.facts, Cert.ReferenceDncIdeal.Gen.facts, Cert.KernelPw.Gen.facts, Cert.KernelPwIdeal.Gen.facts, Cert.ReferencePwIdeal.Gen.facts,
  Cert.KernelIn.Gen.facts, Cert.KernelInIdeal.Gen.facts, Cert.ReferenceInIdeal.Gen.facts, Cert.KernelFfn.Gen.facts, Cert.KernelFfnIdeal.Gen.facts, Cert.ReferenceFfnIdeal.Gen.facts,
  Cert.KernelAttn.Gen.facts, Cert.KernelAttnIdeal.Gen.facts, Cert.ReferenceAttnIdeal.Gen.facts,
  Cert.KernelCv.Gen.facts, Cert.KernelCvIdeal.Gen.facts, Cert.ReferenceCvIdeal.Gen.facts, Cert.Pre_dout_finite.Gen.facts, Cert.Pre_ffn_finite.Gen.facts, Cert.Pre_attn_finite.Gen.facts,
  fun m ρ _ => Cert.Kernel.Gen.frame m ρ, fun m ρ _ => Cert.KernelIdeal.Gen.frame m ρ, frame_reference,
  fun m ρ _ => Cert.KernelDnc.Gen.frame m ρ, fun m ρ _ => Cert.KernelDncIdeal.Gen.frame m ρ, fun m ρ _ => Cert.KernelDncIdeal.Gen.frame m ρ,
  frame_reference_dnc, fun m ρ _ => frame_reference_dnc m ρ trivial,
  Cert.Pw.frame_bits, fun m ρ _ => Cert.Pw.frame m ρ, Cert.Pw.frame_reference,
  Cert.In.frame_bits, fun m ρ _ => Cert.In.frame m ρ, Cert.In.frame_reference,
  Cert.Ffn.frame_bits, fun m ρ _ => Cert.Ffn.frame m ρ, fun m ρ _ => Cert.Ffn.frame m ρ, Cert.Ffn.frame_reference, fun m ρ _ => Cert.Ffn.frame_reference m ρ trivial,
  Cert.Attn.frame_bits, fun m ρ _ => Cert.Attn.frame m ρ, fun m ρ _ => Cert.Attn.frame m ρ, Cert.Attn.frame_reference, fun m ρ _ => Cert.Attn.frame_reference m ρ trivial,
  Cert.Cv.frame_bits, fun m ρ _ => Cert.Cv.frame m ρ, Cert.Cv.frame_reference,
  trivial, Cert.Loss.algebraic, trivial, Cert.Dnc.algebraic, trivial, Cert.Pw.algebraic,
  trivial, Cert.In.algebraic, trivial, Cert.Ffn.algebraic, Cert.Attn.preserves, Cert.Attn.algebraic, trivial, Cert.Cv.algebraic⟩

end Cert.Proof

end
